-- ==== Defs.lean ====
def Pre_Curv (m : (ℓ : Loc Cert.Curv.nD Cert.Curv.τ Cert.Curv.sig) → Buf (Elt Bits) ℓ) : Prop :=
  True

def Pre_CurvIdeal (m : (ℓ : Loc Cert.CurvIdeal.nD Cert.CurvIdeal.τ Cert.CurvIdeal.sig) → Buf (Elt Ideal) ℓ) : Prop :=
  True

def Pre_CurvIdeal_bounded [hPre_bounded : Cert.Pre_bounded.Facts] (m : (ℓ : Loc Cert.CurvIdeal.nD Cert.CurvIdeal.τ Cert.CurvIdeal.sig) → Buf (Elt Ideal) ℓ) : Prop :=
  ∀ c : Dev Cert.CurvIdeal.nD,
    (Cert.Pre_bounded.fn (F := Ideal) (m ((c.tc : Thread Cert.CurvIdeal.nD Cert.CurvIdeal.τ).loc Cert.CurvIdeal.main_arg0))) = (fun _ => 1#1)

def Pre_CurvRefIdeal (m : (ℓ : Loc Cert.CurvRefIdeal.nD Cert.CurvRefIdeal.τ Cert.CurvRefIdeal.sig) → Buf (Elt Ideal) ℓ) : Prop :=
  True

def Pre_CurvRefIdeal_bounded [hPre_bounded : Cert.Pre_bounded.Facts] (m : (ℓ : Loc Cert.CurvRefIdeal.nD Cert.CurvRefIdeal.τ Cert.CurvRefIdeal.sig) → Buf (Elt Ideal) ℓ) : Prop :=
  ∀ c : Dev Cert.CurvRefIdeal.nD,
    (Cert.Pre_bounded.fn (F := Ideal) (m ((c.tc : Thread Cert.CurvRefIdeal.nD Cert.CurvRefIdeal.τ).loc Cert.CurvRefIdeal.main_arg0))) = (fun _ => 1#1)

def Pre_Smooth (m : (ℓ : Loc Cert.Smooth.nD Cert.Smooth.τ Cert.Smooth.sig) → Buf (Elt Bits) ℓ) : Prop :=
  True

def Pre_SmoothIdeal (m : (ℓ : Loc Cert.SmoothIdeal.nD Cert.SmoothIdeal.τ Cert.SmoothIdeal.sig) → Buf (Elt Ideal) ℓ) : Prop :=
  True

def Pre_SmoothIdeal_bounded2 [hPre_bounded2 : Cert.Pre_bounded2.Facts] (m : (ℓ : Loc Cert.SmoothIdeal.nD Cert.SmoothIdeal.τ Cert.SmoothIdeal.sig) → Buf (Elt Ideal) ℓ) : Prop :=
  ∀ c : Dev Cert.SmoothIdeal.nD,
    (Cert.Pre_bounded2.fn (F := Ideal) (m ((c.tc : Thread Cert.SmoothIdeal.nD Cert.SmoothIdeal.τ).loc Cert.SmoothIdeal.main_arg0)) (m ((c.tc : Thread Cert.SmoothIdeal.nD Cert.SmoothIdeal.τ).loc Cert.SmoothIdeal.main_arg1))) = (fun _ => 1#1)

def Pre_SmoothRefIdeal (m : (ℓ : Loc Cert.SmoothRefIdeal.nD Cert.SmoothRefIdeal.τ Cert.SmoothRefIdeal.sig) → Buf (Elt Ideal) ℓ) : Prop :=
  True

def Pre_SmoothRefIdeal_bounded2 [hPre_bounded2 : Cert.Pre_bounded2.Facts] (m : (ℓ : Loc Cert.SmoothRefIdeal.nD Cert.SmoothRefIdeal.τ Cert.SmoothRefIdeal.sig) → Buf (Elt Ideal) ℓ) : Prop :=
  ∀ c : Dev Cert.SmoothRefIdeal.nD,
    (Cert.Pre_bounded2.fn (F := Ideal) (m ((c.tc : Thread Cert.SmoothRefIdeal.nD Cert.SmoothRefIdeal.τ).loc Cert.SmoothRefIdeal.main_arg0)) (m ((c.tc : Thread Cert.SmoothRefIdeal.nD Cert.SmoothRefIdeal.τ).loc Cert.SmoothRefIdeal.main_arg1))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_bounded3 [hPre_bounded3 : Cert.Pre_bounded3.Facts] (m : (ℓ : Loc Cert.CrossIdeal.nD Cert.CrossIdeal.τ Cert.CrossIdeal.sig) → Buf (Elt Ideal) ℓ) : Prop :=
  ∀ c : Dev Cert.CrossIdeal.nD,
    (Cert.Pre_bounded3.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_bounded3 [hPre_bounded3 : Cert.Pre_bounded3.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_bounded3.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4))) = (fun _ => 1#1)

def Pre_Curv2048 (m : (ℓ : Loc Cert.Curv2048.nD Cert.Curv2048.τ Cert.Curv2048.sig) → Buf (Elt Bits) ℓ) : Prop :=
  True

def Pre_Curv2048Ideal (m : (ℓ : Loc Cert.Curv2048Ideal.nD Cert.Curv2048Ideal.τ Cert.Curv2048Ideal.sig) → Buf (Elt Ideal) ℓ) : Prop :=
  True

def Pre_Curv2048Ideal_bounded_2048 [hPre_bounded_2048 : Cert.Pre_bounded_2048.Facts] (m : (ℓ : Loc Cert.Curv2048Ideal.nD Cert.Curv2048Ideal.τ Cert.Curv2048Ideal.sig) → Buf (Elt Ideal) ℓ) : Prop :=
  ∀ c : Dev Cert.Curv2048Ideal.nD,
    (Cert.Pre_bounded_2048.fn (F := Ideal) (m ((c.tc : Thread Cert.Curv2048Ideal.nD Cert.Curv2048Ideal.τ).loc Cert.Curv2048Ideal.main_arg0))) = (fun _ => 1#1)

def Pre_Curv2048RefIdeal (m : (ℓ : Loc Cert.Curv2048RefIdeal.nD Cert.Curv2048RefIdeal.τ Cert.Curv2048RefIdeal.sig) → Buf (Elt Ideal) ℓ) : Prop :=
  True

def Pre_Curv2048RefIdeal_bounded_2048 [hPre_bounded_2048 : Cert.Pre_bounded_2048.Facts] (m : (ℓ : Loc Cert.Curv2048RefIdeal.nD Cert.Curv2048RefIdeal.τ Cert.Curv2048RefIdeal.sig) → Buf (Elt Ideal) ℓ) : Prop :=
  ∀ c : Dev Cert.Curv2048RefIdeal.nD,
    (Cert.Pre_bounded_2048.fn (F := Ideal) (m ((c.tc : Thread Cert.Curv2048RefIdeal.nD Cert.Curv2048RefIdeal.τ).loc Cert.Curv2048RefIdeal.main_arg0))) = (fun _ => 1#1)

def Pre_Smooth2048 (m : (ℓ : Loc Cert.Smooth2048.nD Cert.Smooth2048.τ Cert.Smooth2048.sig) → Buf (Elt Bits) ℓ) : Prop :=
  True

def Pre_Smooth2048Ideal (m : (ℓ : Loc Cert.Smooth2048Ideal.nD Cert.Smooth2048Ideal.τ Cert.Smooth2048Ideal.sig) → Buf (Elt Ideal) ℓ) : Prop :=
  True

def Pre_Smooth2048Ideal_bounded2_2048 [hPre_bounded2_2048 : Cert.Pre_bounded2_2048.Facts] (m : (ℓ : Loc Cert.Smooth2048Ideal.nD Cert.Smooth2048Ideal.τ Cert.Smooth2048Ideal.sig) → Buf (Elt Ideal) ℓ) : Prop :=
  ∀ c : Dev Cert.Smooth2048Ideal.nD,
    (Cert.Pre_bounded2_2048.fn (F := Ideal) (m ((c.tc : Thread Cert.Smooth2048Ideal.nD Cert.Smooth2048Ideal.τ).loc Cert.Smooth2048Ideal.main_arg0)) (m ((c.tc : Thread Cert.Smooth2048Ideal.nD Cert.Smooth2048Ideal.τ).loc Cert.Smooth2048Ideal.main_arg1))) = (fun _ => 1#1)

def Pre_Smooth2048RefIdeal (m : (ℓ : Loc Cert.Smooth2048RefIdeal.nD Cert.Smooth2048RefIdeal.τ Cert.Smooth2048RefIdeal.sig) → Buf (Elt Ideal) ℓ) : Prop :=
  True

def Pre_Smooth2048RefIdeal_bounded2_2048 [hPre_bounded2_2048 : Cert.Pre_bounded2_2048.Facts] (m : (ℓ : Loc Cert.Smooth2048RefIdeal.nD Cert.Smooth2048RefIdeal.τ Cert.Smooth2048RefIdeal.sig) → Buf (Elt Ideal) ℓ) : Prop :=
  ∀ c : Dev Cert.Smooth2048RefIdeal.nD,
    (Cert.Pre_bounded2_2048.fn (F := Ideal) (m ((c.tc : Thread Cert.Smooth2048RefIdeal.nD Cert.Smooth2048RefIdeal.τ).loc Cert.Smooth2048RefIdeal.main_arg0)) (m ((c.tc : Thread Cert.Smooth2048RefIdeal.nD Cert.Smooth2048RefIdeal.τ).loc Cert.Smooth2048RefIdeal.main_arg1))) = (fun _ => 1#1)

def Pre_Cross2048 (m : (ℓ : Loc Cert.Cross2048.nD Cert.Cross2048.τ Cert.Cross2048.sig) → Buf (Elt Bits) ℓ) : Prop :=
  True

def Pre_Cross2048Ideal (m : (ℓ : Loc Cert.Cross2048Ideal.nD Cert.Cross2048Ideal.τ Cert.Cross2048Ideal.sig) → Buf (Elt Ideal) ℓ) : Prop :=
  True

def Pre_Cross2048Ideal_bounded3_2048 [hPre_bounded3_2048 : Cert.Pre_bounded3_2048.Facts] (m : (ℓ : Loc Cert.Cross2048Ideal.nD Cert.Cross2048Ideal.τ Cert.Cross2048Ideal.sig) → Buf (Elt Ideal) ℓ) : Prop :=
  ∀ c : Dev Cert.Cross2048Ideal.nD,
    (Cert.Pre_bounded3_2048.fn (F := Ideal) (m ((c.tc : Thread Cert.Cross2048Ideal.nD Cert.Cross2048Ideal.τ).loc Cert.Cross2048Ideal.main_arg0)) (m ((c.tc : Thread Cert.Cross2048Ideal.nD Cert.Cross2048Ideal.τ).loc Cert.Cross2048Ideal.main_arg1)) (m ((c.tc : Thread Cert.Cross2048Ideal.nD Cert.Cross2048Ideal.τ).loc Cert.Cross2048Ideal.main_arg2)) (m ((c.tc : Thread Cert.Cross2048Ideal.nD Cert.Cross2048Ideal.τ).loc Cert.Cross2048Ideal.main_arg3)) (m ((c.tc : Thread Cert.Cross2048Ideal.nD Cert.Cross2048Ideal.τ).loc Cert.Cross2048Ideal.main_arg4))) = (fun _ => 1#1)

def Pre_Cross2048RefIdeal (m : (ℓ : Loc Cert.Cross2048RefIdeal.nD Cert.Cross2048RefIdeal.τ Cert.Cross2048RefIdeal.sig) → Buf (Elt Ideal) ℓ) : Prop :=
  True

def Pre_Cross2048RefIdeal_bounded3_2048 [hPre_bounded3_2048 : Cert.Pre_bounded3_2048.Facts] (m : (ℓ : Loc Cert.Cross2048RefIdeal.nD Cert.Cross2048RefIdeal.τ Cert.Cross2048RefIdeal.sig) → Buf (Elt Ideal) ℓ) : Prop :=
  ∀ c : Dev Cert.Cross2048RefIdeal.nD,
    (Cert.Pre_bounded3_2048.fn (F := Ideal) (m ((c.tc : Thread Cert.Cross2048RefIdeal.nD Cert.Cross2048RefIdeal.τ).loc Cert.Cross2048RefIdeal.main_arg0)) (m ((c.tc : Thread Cert.Cross2048RefIdeal.nD Cert.Cross2048RefIdeal.τ).loc Cert.Cross2048RefIdeal.main_arg1)) (m ((c.tc : Thread Cert.Cross2048RefIdeal.nD Cert.Cross2048RefIdeal.τ).loc Cert.Cross2048RefIdeal.main_arg2)) (m ((c.tc : Thread Cert.Cross2048RefIdeal.nD Cert.Cross2048RefIdeal.τ).loc Cert.Cross2048RefIdeal.main_arg3)) (m ((c.tc : Thread Cert.Cross2048RefIdeal.nD Cert.Cross2048RefIdeal.τ).loc Cert.Cross2048RefIdeal.main_arg4))) = (fun _ => 1#1)

def Pre_Curv1024 (m : (ℓ : Loc Cert.Curv1024.nD Cert.Curv1024.τ Cert.Curv1024.sig) → Buf (Elt Bits) ℓ) : Prop :=
  True

def Pre_Curv1024Ideal (m : (ℓ : Loc Cert.Curv1024Ideal.nD Cert.Curv1024Ideal.τ Cert.Curv1024Ideal.sig) → Buf (Elt Ideal) ℓ) : Prop :=
  True

def Pre_Curv1024Ideal_bounded_1024 [hPre_bounded_1024 : Cert.Pre_bounded_1024.Facts] (m : (ℓ : Loc Cert.Curv1024Ideal.nD Cert.Curv1024Ideal.τ Cert.Curv1024Ideal.sig) → Buf (Elt Ideal) ℓ) : Prop :=
  ∀ c : Dev Cert.Curv1024Ideal.nD,
    (Cert.Pre_bounded_1024.fn (F := Ideal) (m ((c.tc : Thread Cert.Curv1024Ideal.nD Cert.Curv1024Ideal.τ).loc Cert.Curv1024Ideal.main_arg0))) = (fun _ => 1#1)

def Pre_Curv1024RefIdeal (m : (ℓ : Loc Cert.Curv1024RefIdeal.nD Cert.Curv1024RefIdeal.τ Cert.Curv1024RefIdeal.sig) → Buf (Elt Ideal) ℓ) : Prop :=
  True

def Pre_Curv1024RefIdeal_bounded_1024 [hPre_bounded_1024 : Cert.Pre_bounded_1024.Facts] (m : (ℓ : Loc Cert.Curv1024RefIdeal.nD Cert.Curv1024RefIdeal.τ Cert.Curv1024RefIdeal.sig) → Buf (Elt Ideal) ℓ) : Prop :=
  ∀ c : Dev Cert.Curv1024RefIdeal.nD,
    (Cert.Pre_bounded_1024.fn (F := Ideal) (m ((c.tc : Thread Cert.Curv1024RefIdeal.nD Cert.Curv1024RefIdeal.τ).loc Cert.Curv1024RefIdeal.main_arg0))) = (fun _ => 1#1)

def Pre_Smooth1024 (m : (ℓ : Loc Cert.Smooth1024.nD Cert.Smooth1024.τ Cert.Smooth1024.sig) → Buf (Elt Bits) ℓ) : Prop :=
  True

def Pre_Smooth1024Ideal (m : (ℓ : Loc Cert.Smooth1024Ideal.nD Cert.Smooth1024Ideal.τ Cert.Smooth1024Ideal.sig) → Buf (Elt Ideal) ℓ) : Prop :=
  True

def Pre_Smooth1024Ideal_bounded2_1024 [hPre_bounded2_1024 : Cert.Pre_bounded2_1024.Facts] (m : (ℓ : Loc Cert.Smooth1024Ideal.nD Cert.Smooth1024Ideal.τ Cert.Smooth1024Ideal.sig) → Buf (Elt Ideal) ℓ) : Prop :=
  ∀ c : Dev Cert.Smooth1024Ideal.nD,
    (Cert.Pre_bounded2_1024.fn (F := Ideal) (m ((c.tc : Thread Cert.Smooth1024Ideal.nD Cert.Smooth1024Ideal.τ).loc Cert.Smooth1024Ideal.main_arg0)) (m ((c.tc : Thread Cert.Smooth1024Ideal.nD Cert.Smooth1024Ideal.τ).loc Cert.Smooth1024Ideal.main_arg1))) = (fun _ => 1#1)

def Pre_Smooth1024RefIdeal (m : (ℓ : Loc Cert.Smooth1024RefIdeal.nD Cert.Smooth1024RefIdeal.τ Cert.Smooth1024RefIdeal.sig) → Buf (Elt Ideal) ℓ) : Prop :=
  True

def Pre_Smooth1024RefIdeal_bounded2_1024 [hPre_bounded2_1024 : Cert.Pre_bounded2_1024.Facts] (m : (ℓ : Loc Cert.Smooth1024RefIdeal.nD Cert.Smooth1024RefIdeal.τ Cert.Smooth1024RefIdeal.sig) → Buf (Elt Ideal) ℓ) : Prop :=
  ∀ c : Dev Cert.Smooth1024RefIdeal.nD,
    (Cert.Pre_bounded2_1024.fn (F := Ideal) (m ((c.tc : Thread Cert.Smooth1024RefIdeal.nD Cert.Smooth1024RefIdeal.τ).loc Cert.Smooth1024RefIdeal.main_arg0)) (m ((c.tc : Thread Cert.Smooth1024RefIdeal.nD Cert.Smooth1024RefIdeal.τ).loc Cert.Smooth1024RefIdeal.main_arg1))) = (fun _ => 1#1)

def Pre_Cross1024 (m : (ℓ : Loc Cert.Cross1024.nD Cert.Cross1024.τ Cert.Cross1024.sig) → Buf (Elt Bits) ℓ) : Prop :=
  True

def Pre_Cross1024Ideal (m : (ℓ : Loc Cert.Cross1024Ideal.nD Cert.Cross1024Ideal.τ Cert.Cross1024Ideal.sig) → Buf (Elt Ideal) ℓ) : Prop :=
  True

def Pre_Cross1024Ideal_bounded3_1024 [hPre_bounded3_1024 : Cert.Pre_bounded3_1024.Facts] (m : (ℓ : Loc Cert.Cross1024Ideal.nD Cert.Cross1024Ideal.τ Cert.Cross1024Ideal.sig) → Buf (Elt Ideal) ℓ) : Prop :=
  ∀ c : Dev Cert.Cross1024Ideal.nD,
    (Cert.Pre_bounded3_1024.fn (F := Ideal) (m ((c.tc : Thread Cert.Cross1024Ideal.nD Cert.Cross1024Ideal.τ).loc Cert.Cross1024Ideal.main_arg0)) (m ((c.tc : Thread Cert.Cross1024Ideal.nD Cert.Cross1024Ideal.τ).loc Cert.Cross1024Ideal.main_arg1)) (m ((c.tc : Thread Cert.Cross1024Ideal.nD Cert.Cross1024Ideal.τ).loc Cert.Cross1024Ideal.main_arg2)) (m ((c.tc : Thread Cert.Cross1024Ideal.nD Cert.Cross1024Ideal.τ).loc Cert.Cross1024Ideal.main_arg3)) (m ((c.tc : Thread Cert.Cross1024Ideal.nD Cert.Cross1024Ideal.τ).loc Cert.Cross1024Ideal.main_arg4))) = (fun _ => 1#1)

def Pre_Cross1024RefIdeal (m : (ℓ : Loc Cert.Cross1024RefIdeal.nD Cert.Cross1024RefIdeal.τ Cert.Cross1024RefIdeal.sig) → Buf (Elt Ideal) ℓ) : Prop :=
  True

def Pre_Cross1024RefIdeal_bounded3_1024 [hPre_bounded3_1024 : Cert.Pre_bounded3_1024.Facts] (m : (ℓ : Loc Cert.Cross1024RefIdeal.nD Cert.Cross1024RefIdeal.τ Cert.Cross1024RefIdeal.sig) → Buf (Elt Ideal) ℓ) : Prop :=
  ∀ c : Dev Cert.Cross1024RefIdeal.nD,
    (Cert.Pre_bounded3_1024.fn (F := Ideal) (m ((c.tc : Thread Cert.Cross1024RefIdeal.nD Cert.Cross1024RefIdeal.τ).loc Cert.Cross1024RefIdeal.main_arg0)) (m ((c.tc : Thread Cert.Cross1024RefIdeal.nD Cert.Cross1024RefIdeal.τ).loc Cert.Cross1024RefIdeal.main_arg1)) (m ((c.tc : Thread Cert.Cross1024RefIdeal.nD Cert.Cross1024RefIdeal.τ).loc Cert.Cross1024RefIdeal.main_arg2)) (m ((c.tc : Thread Cert.Cross1024RefIdeal.nD Cert.Cross1024RefIdeal.τ).loc Cert.Cross1024RefIdeal.main_arg3)) (m ((c.tc : Thread Cert.Cross1024RefIdeal.nD Cert.Cross1024RefIdeal.τ).loc Cert.Cross1024RefIdeal.main_arg4))) = (fun _ => 1#1)

def Pre_Curv512 (m : (ℓ : Loc Cert.Curv512.nD Cert.Curv512.τ Cert.Curv512.sig) → Buf (Elt Bits) ℓ) : Prop :=
  True

def Pre_Curv512Ideal (m : (ℓ : Loc Cert.Curv512Ideal.nD Cert.Curv512Ideal.τ Cert.Curv512Ideal.sig) → Buf (Elt Ideal) ℓ) : Prop :=
  True

def Pre_Curv512Ideal_bounded_512 [hPre_bounded_512 : Cert.Pre_bounded_512.Facts] (m : (ℓ : Loc Cert.Curv512Ideal.nD Cert.Curv512Ideal.τ Cert.Curv512Ideal.sig) → Buf (Elt Ideal) ℓ) : Prop :=
  ∀ c : Dev Cert.Curv512Ideal.nD,
    (Cert.Pre_bounded_512.fn (F := Ideal) (m ((c.tc : Thread Cert.Curv512Ideal.nD Cert.Curv512Ideal.τ).loc Cert.Curv512Ideal.main_arg0))) = (fun _ => 1#1)

def Pre_Curv512RefIdeal (m : (ℓ : Loc Cert.Curv512RefIdeal.nD Cert.Curv512RefIdeal.τ Cert.Curv512RefIdeal.sig) → Buf (Elt Ideal) ℓ) : Prop :=
  True

def Pre_Curv512RefIdeal_bounded_512 [hPre_bounded_512 : Cert.Pre_bounded_512.Facts] (m : (ℓ : Loc Cert.Curv512RefIdeal.nD Cert.Curv512RefIdeal.τ Cert.Curv512RefIdeal.sig) → Buf (Elt Ideal) ℓ) : Prop :=
  ∀ c : Dev Cert.Curv512RefIdeal.nD,
    (Cert.Pre_bounded_512.fn (F := Ideal) (m ((c.tc : Thread Cert.Curv512RefIdeal.nD Cert.Curv512RefIdeal.τ).loc Cert.Curv512RefIdeal.main_arg0))) = (fun _ => 1#1)

def Pre_Smooth512 (m : (ℓ : Loc Cert.Smooth512.nD Cert.Smooth512.τ Cert.Smooth512.sig) → Buf (Elt Bits) ℓ) : Prop :=
  True

def Pre_Smooth512Ideal (m : (ℓ : Loc Cert.Smooth512Ideal.nD Cert.Smooth512Ideal.τ Cert.Smooth512Ideal.sig) → Buf (Elt Ideal) ℓ) : Prop :=
  True

def Pre_Smooth512Ideal_bounded2_512 [hPre_bounded2_512 : Cert.Pre_bounded2_512.Facts] (m : (ℓ : Loc Cert.Smooth512Ideal.nD Cert.Smooth512Ideal.τ Cert.Smooth512Ideal.sig) → Buf (Elt Ideal) ℓ) : Prop :=
  ∀ c : Dev Cert.Smooth512Ideal.nD,
    (Cert.Pre_bounded2_512.fn (F := Ideal) (m ((c.tc : Thread Cert.Smooth512Ideal.nD Cert.Smooth512Ideal.τ).loc Cert.Smooth512Ideal.main_arg0)) (m ((c.tc : Thread Cert.Smooth512Ideal.nD Cert.Smooth512Ideal.τ).loc Cert.Smooth512Ideal.main_arg1))) = (fun _ => 1#1)

def Pre_Smooth512RefIdeal (m : (ℓ : Loc Cert.Smooth512RefIdeal.nD Cert.Smooth512RefIdeal.τ Cert.Smooth512RefIdeal.sig) → Buf (Elt Ideal) ℓ) : Prop :=
  True

def Pre_Smooth512RefIdeal_bounded2_512 [hPre_bounded2_512 : Cert.Pre_bounded2_512.Facts] (m : (ℓ : Loc Cert.Smooth512RefIdeal.nD Cert.Smooth512RefIdeal.τ Cert.Smooth512RefIdeal.sig) → Buf (Elt Ideal) ℓ) : Prop :=
  ∀ c : Dev Cert.Smooth512RefIdeal.nD,
    (Cert.Pre_bounded2_512.fn (F := Ideal) (m ((c.tc : Thread Cert.Smooth512RefIdeal.nD Cert.Smooth512RefIdeal.τ).loc Cert.Smooth512RefIdeal.main_arg0)) (m ((c.tc : Thread Cert.Smooth512RefIdeal.nD Cert.Smooth512RefIdeal.τ).loc Cert.Smooth512RefIdeal.main_arg1))) = (fun _ => 1#1)

def Pre_Cross512 (m : (ℓ : Loc Cert.Cross512.nD Cert.Cross512.τ Cert.Cross512.sig) → Buf (Elt Bits) ℓ) : Prop :=
  True

def Pre_Cross512Ideal (m : (ℓ : Loc Cert.Cross512Ideal.nD Cert.Cross512Ideal.τ Cert.Cross512Ideal.sig) → Buf (Elt Ideal) ℓ) : Prop :=
  True

def Pre_Cross512Ideal_bounded3_512 [hPre_bounded3_512 : Cert.Pre_bounded3_512.Facts] (m : (ℓ : Loc Cert.Cross512Ideal.nD Cert.Cross512Ideal.τ Cert.Cross512Ideal.sig) → Buf (Elt Ideal) ℓ) : Prop :=
  ∀ c : Dev Cert.Cross512Ideal.nD,
    (Cert.Pre_bounded3_512.fn (F := Ideal) (m ((c.tc : Thread Cert.Cross512Ideal.nD Cert.Cross512Ideal.τ).loc Cert.Cross512Ideal.main_arg0)) (m ((c.tc : Thread Cert.Cross512Ideal.nD Cert.Cross512Ideal.τ).loc Cert.Cross512Ideal.main_arg1)) (m ((c.tc : Thread Cert.Cross512Ideal.nD Cert.Cross512Ideal.τ).loc Cert.Cross512Ideal.main_arg2)) (m ((c.tc : Thread Cert.Cross512Ideal.nD Cert.Cross512Ideal.τ).loc Cert.Cross512Ideal.main_arg3)) (m ((c.tc : Thread Cert.Cross512Ideal.nD Cert.Cross512Ideal.τ).loc Cert.Cross512Ideal.main_arg4))) = (fun _ => 1#1)

def Pre_Cross512RefIdeal (m : (ℓ : Loc Cert.Cross512RefIdeal.nD Cert.Cross512RefIdeal.τ Cert.Cross512RefIdeal.sig) → Buf (Elt Ideal) ℓ) : Prop :=
  True

def Pre_Cross512RefIdeal_bounded3_512 [hPre_bounded3_512 : Cert.Pre_bounded3_512.Facts] (m : (ℓ : Loc Cert.Cross512RefIdeal.nD Cert.Cross512RefIdeal.τ Cert.Cross512RefIdeal.sig) → Buf (Elt Ideal) ℓ) : Prop :=
  ∀ c : Dev Cert.Cross512RefIdeal.nD,
    (Cert.Pre_bounded3_512.fn (F := Ideal) (m ((c.tc : Thread Cert.Cross512RefIdeal.nD Cert.Cross512RefIdeal.τ).loc Cert.Cross512RefIdeal.main_arg0)) (m ((c.tc : Thread Cert.Cross512RefIdeal.nD Cert.Cross512RefIdeal.τ).loc Cert.Cross512RefIdeal.main_arg1)) (m ((c.tc : Thread Cert.Cross512RefIdeal.nD Cert.Cross512RefIdeal.τ).loc Cert.Cross512RefIdeal.main_arg2)) (m ((c.tc : Thread Cert.Cross512RefIdeal.nD Cert.Cross512RefIdeal.τ).loc Cert.Cross512RefIdeal.main_arg3)) (m ((c.tc : Thread Cert.Cross512RefIdeal.nD Cert.Cross512RefIdeal.τ).loc Cert.Cross512RefIdeal.main_arg4))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_bounded_last [hPre_bounded_last : Cert.Pre_bounded_last.Facts] (m : (ℓ : Loc Cert.LastIdeal.nD Cert.LastIdeal.τ Cert.LastIdeal.sig) → Buf (Elt Ideal) ℓ) : Prop :=
  ∀ c : Dev Cert.LastIdeal.nD,
    (Cert.Pre_bounded_last.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10)) (m ((c.tc : Thread Cert.LastIdeal.nD Cert.LastIdeal.τ).loc Cert.LastIdeal.main_arg11)) (m ((c.tc : Thread Cert.LastIdeal.nD Cert.LastIdeal.τ).loc Cert.LastIdeal.main_arg12)) (m ((c.tc : Thread Cert.LastIdeal.nD Cert.LastIdeal.τ).loc Cert.LastIdeal.main_arg13)) (m ((c.tc : Thread Cert.LastIdeal.nD Cert.LastIdeal.τ).loc Cert.LastIdeal.main_arg14))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_bounded_last [hPre_bounded_last : Cert.Pre_bounded_last.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_bounded_last.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10)) (m ((c.tc : Thread Cert.LastRefIdeal.nD Cert.LastRefIdeal.τ).loc Cert.LastRefIdeal.main_arg11)) (m ((c.tc : Thread Cert.LastRefIdeal.nD Cert.LastRefIdeal.τ).loc Cert.LastRefIdeal.main_arg12)) (m ((c.tc : Thread Cert.LastRefIdeal.nD Cert.LastRefIdeal.τ).loc Cert.LastRefIdeal.main_arg13)) (m ((c.tc : Thread Cert.LastRefIdeal.nD Cert.LastRefIdeal.τ).loc Cert.LastRefIdeal.main_arg14))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_bounded_final [hPre_bounded_final : Cert.Pre_bounded_final.Facts] (m : (ℓ : Loc Cert.FinalIdeal.nD Cert.FinalIdeal.τ Cert.FinalIdeal.sig) → Buf (Elt Ideal) ℓ) : Prop :=
  ∀ c : Dev Cert.FinalIdeal.nD,
    (Cert.Pre_bounded_final.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5)) (m ((c.tc : Thread Cert.FinalIdeal.nD Cert.FinalIdeal.τ).loc Cert.FinalIdeal.main_arg6)) (m ((c.tc : Thread Cert.FinalIdeal.nD Cert.FinalIdeal.τ).loc Cert.FinalIdeal.main_arg7)) (m ((c.tc : Thread Cert.FinalIdeal.nD Cert.FinalIdeal.τ).loc Cert.FinalIdeal.main_arg8)) (m ((c.tc : Thread Cert.FinalIdeal.nD Cert.FinalIdeal.τ).loc Cert.FinalIdeal.main_arg9)) (m ((c.tc : Thread Cert.FinalIdeal.nD Cert.FinalIdeal.τ).loc Cert.FinalIdeal.main_arg10)) (m ((c.tc : Thread Cert.FinalIdeal.nD Cert.FinalIdeal.τ).loc Cert.FinalIdeal.main_arg11))) = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_bounded_final [hPre_bounded_final : Cert.Pre_bounded_final.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_bounded_final.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5)) (m ((c.tc : Thread Cert.FinalRefIdeal.nD Cert.FinalRefIdeal.τ).loc Cert.FinalRefIdeal.main_arg6)) (m ((c.tc : Thread Cert.FinalRefIdeal.nD Cert.FinalRefIdeal.τ).loc Cert.FinalRefIdeal.main_arg7)) (m ((c.tc : Thread Cert.FinalRefIdeal.nD Cert.FinalRefIdeal.τ).loc Cert.FinalRefIdeal.main_arg8)) (m ((c.tc : Thread Cert.FinalRefIdeal.nD Cert.FinalRefIdeal.τ).loc Cert.FinalRefIdeal.main_arg9)) (m ((c.tc : Thread Cert.FinalRefIdeal.nD Cert.FinalRefIdeal.τ).loc Cert.FinalRefIdeal.main_arg10)) (m ((c.tc : Thread Cert.FinalRefIdeal.nD Cert.FinalRefIdeal.τ).loc Cert.FinalRefIdeal.main_arg11))) = (fun _ => 1#1)

def quiescent_Curv [hCurv : Cert.Curv.Facts] : Prop :=
  ∀ (m : (ℓ : Loc Cert.Curv.nD Cert.Curv.τ Cert.Curv.sig) → Buf (Elt Bits) ℓ) (g : Dev Cert.Curv.nD → PrngReg), Pre_Curv m →
    θ_run (Cert.Curv.defs (F := Bits)) (onTc (τ := Cert.Curv.τ) (Cert.Curv.main (F := Bits))) ⟨m, fun _ => 0, g⟩ (fun r => (∀ c : Dev Cert.Curv.nD,
      r.2.mem ((c.tc : Thread Cert.Curv.nD Cert.Curv.τ).loc Cert.Curv.main_arg0) = m ((c.tc : Thread Cert.Curv.nD Cert.Curv.τ).loc Cert.Curv.main_arg0))
      ∧ r.2.sem = fun _ => 0)

def quiescent_CurvIdeal [hCurvIdeal : Cert.CurvIdeal.Facts] : Prop :=
  ∀ (m : (ℓ : Loc Cert.CurvIdeal.nD Cert.CurvIdeal.τ Cert.CurvIdeal.sig) → Buf (Elt Ideal) ℓ) (g : Dev Cert.CurvIdeal.nD → PrngReg), Pre_CurvIdeal m →
    θ_run (Cert.CurvIdeal.defs (F := Ideal)) (onTc (τ := Cert.CurvIdeal.τ) (Cert.CurvIdeal.main (F := Ideal))) ⟨m, fun _ => 0, g⟩ (fun r => (∀ c : Dev Cert.CurvIdeal.nD,
      r.2.mem ((c.tc : Thread Cert.CurvIdeal.nD Cert.CurvIdeal.τ).loc Cert.CurvIdeal.main_arg0) = m ((c.tc : Thread Cert.CurvIdeal.nD Cert.CurvIdeal.τ).loc Cert.CurvIdeal.main_arg0))
      ∧ r.2.sem = fun _ => 0)

def quiescent_CurvIdeal_pre_bounded [hCurvIdeal : Cert.CurvIdeal.Facts] [hPre_bounded : Cert.Pre_bounded.Facts] : Prop :=
  ∀ (m : (ℓ : Loc Cert.CurvIdeal.nD Cert.CurvIdeal.τ Cert.CurvIdeal.sig) → Buf (Elt Ideal) ℓ) (g : Dev Cert.CurvIdeal.nD → PrngReg), Pre_CurvIdeal_bounded m →
    θ_run (Cert.CurvIdeal.defs (F := Ideal)) (onTc (τ := Cert.CurvIdeal.τ) (Cert.CurvIdeal.main (F := Ideal))) ⟨m, fun _ => 0, g⟩ (fun r => (∀ c : Dev Cert.CurvIdeal.nD,
      r.2.mem ((c.tc : Thread Cert.CurvIdeal.nD Cert.CurvIdeal.τ).loc Cert.CurvIdeal.main_arg0) = m ((c.tc : Thread Cert.CurvIdeal.nD Cert.CurvIdeal.τ).loc Cert.CurvIdeal.main_arg0))
      ∧ r.2.sem = fun _ => 0)

def quiescent_CurvRefIdeal [hCurvRefIdeal : Cert.CurvRefIdeal.Facts] : Prop :=
  ∀ (m : (ℓ : Loc Cert.CurvRefIdeal.nD Cert.CurvRefIdeal.τ Cert.CurvRefIdeal.sig) → Buf (Elt Ideal) ℓ) (g : Dev Cert.CurvRefIdeal.nD → PrngReg), Pre_CurvRefIdeal m →
    θ_run (Cert.CurvRefIdeal.defs (F := Ideal)) (onTc (τ := Cert.CurvRefIdeal.τ) (Cert.CurvRefIdeal.main (F := Ideal))) ⟨m, fun _ => 0, g⟩ (fun r => (∀ c : Dev Cert.CurvRefIdeal.nD,
      r.2.mem ((c.tc : Thread Cert.CurvRefIdeal.nD Cert.CurvRefIdeal.τ).loc Cert.CurvRefIdeal.main_arg0) = m ((c.tc : Thread Cert.CurvRefIdeal.nD Cert.CurvRefIdeal.τ).loc Cert.CurvRefIdeal.main_arg0))
      ∧ r.2.sem = fun _ => 0)

def quiescent_CurvRefIdeal_pre_bounded [hCurvRefIdeal : Cert.CurvRefIdeal.Facts] [hPre_bounded : Cert.Pre_bounded.Facts] : Prop :=
  ∀ (m : (ℓ : Loc Cert.CurvRefIdeal.nD Cert.CurvRefIdeal.τ Cert.CurvRefIdeal.sig) → Buf (Elt Ideal) ℓ) (g : Dev Cert.CurvRefIdeal.nD → PrngReg), Pre_CurvRefIdeal_bounded m →
    θ_run (Cert.CurvRefIdeal.defs (F := Ideal)) (onTc (τ := Cert.CurvRefIdeal.τ) (Cert.CurvRefIdeal.main (F := Ideal))) ⟨m, fun _ => 0, g⟩ (fun r => (∀ c : Dev Cert.CurvRefIdeal.nD,
      r.2.mem ((c.tc : Thread Cert.CurvRefIdeal.nD Cert.CurvRefIdeal.τ).loc Cert.CurvRefIdeal.main_arg0) = m ((c.tc : Thread Cert.CurvRefIdeal.nD Cert.CurvRefIdeal.τ).loc Cert.CurvRefIdeal.main_arg0))
      ∧ r.2.sem = fun _ => 0)

def quiescent_Smooth [hSmooth : Cert.Smooth.Facts] : Prop :=
  ∀ (m : (ℓ : Loc Cert.Smooth.nD Cert.Smooth.τ Cert.Smooth.sig) → Buf (Elt Bits) ℓ) (g : Dev Cert.Smooth.nD → PrngReg), Pre_Smooth m →
    θ_run (Cert.Smooth.defs (F := Bits)) (onTc (τ := Cert.Smooth.τ) (Cert.Smooth.main (F := Bits))) ⟨m, fun _ => 0, g⟩ (fun r => (∀ c : Dev Cert.Smooth.nD,
      r.2.mem ((c.tc : Thread Cert.Smooth.nD Cert.Smooth.τ).loc Cert.Smooth.main_arg0) = m ((c.tc : Thread Cert.Smooth.nD Cert.Smooth.τ).loc Cert.Smooth.main_arg0)
      ∧ r.2.mem ((c.tc : Thread Cert.Smooth.nD Cert.Smooth.τ).loc Cert.Smooth.main_arg1) = m ((c.tc : Thread Cert.Smooth.nD Cert.Smooth.τ).loc Cert.Smooth.main_arg1))
      ∧ r.2.sem = fun _ => 0)

def quiescent_SmoothIdeal [hSmoothIdeal : Cert.SmoothIdeal.Facts] : Prop :=
  ∀ (m : (ℓ : Loc Cert.SmoothIdeal.nD Cert.SmoothIdeal.τ Cert.SmoothIdeal.sig) → Buf (Elt Ideal) ℓ) (g : Dev Cert.SmoothIdeal.nD → PrngReg), Pre_SmoothIdeal m →
    θ_run (Cert.SmoothIdeal.defs (F := Ideal)) (onTc (τ := Cert.SmoothIdeal.τ) (Cert.SmoothIdeal.main (F := Ideal))) ⟨m, fun _ => 0, g⟩ (fun r => (∀ c : Dev Cert.SmoothIdeal.nD,
      r.2.mem ((c.tc : Thread Cert.SmoothIdeal.nD Cert.SmoothIdeal.τ).loc Cert.SmoothIdeal.main_arg0) = m ((c.tc : Thread Cert.SmoothIdeal.nD Cert.SmoothIdeal.τ).loc Cert.SmoothIdeal.main_arg0)
      ∧ r.2.mem ((c.tc : Thread Cert.SmoothIdeal.nD Cert.SmoothIdeal.τ).loc Cert.SmoothIdeal.main_arg1) = m ((c.tc : Thread Cert.SmoothIdeal.nD Cert.SmoothIdeal.τ).loc Cert.SmoothIdeal.main_arg1))
      ∧ r.2.sem = fun _ => 0)

def quiescent_SmoothIdeal_pre_bounded2 [hSmoothIdeal : Cert.SmoothIdeal.Facts] [hPre_bounded2 : Cert.Pre_bounded2.Facts] : Prop :=
  ∀ (m : (ℓ : Loc Cert.SmoothIdeal.nD Cert.SmoothIdeal.τ Cert.SmoothIdeal.sig) → Buf (Elt Ideal) ℓ) (g : Dev Cert.SmoothIdeal.nD → PrngReg), Pre_SmoothIdeal_bounded2 m →
    θ_run (Cert.SmoothIdeal.defs (F := Ideal)) (onTc (τ := Cert.SmoothIdeal.τ) (Cert.SmoothIdeal.main (F := Ideal))) ⟨m, fun _ => 0, g⟩ (fun r => (∀ c : Dev Cert.SmoothIdeal.nD,
      r.2.mem ((c.tc : Thread Cert.SmoothIdeal.nD Cert.SmoothIdeal.τ).loc Cert.SmoothIdeal.main_arg0) = m ((c.tc : Thread Cert.SmoothIdeal.nD Cert.SmoothIdeal.τ).loc Cert.SmoothIdeal.main_arg0)
      ∧ r.2.mem ((c.tc : Thread Cert.SmoothIdeal.nD Cert.SmoothIdeal.τ).loc Cert.SmoothIdeal.main_arg1) = m ((c.tc : Thread Cert.SmoothIdeal.nD Cert.SmoothIdeal.τ).loc Cert.SmoothIdeal.main_arg1))
      ∧ r.2.sem = fun _ => 0)

def quiescent_SmoothRefIdeal [hSmoothRefIdeal : Cert.SmoothRefIdeal.Facts] : Prop :=
  ∀ (m : (ℓ : Loc Cert.SmoothRefIdeal.nD Cert.SmoothRefIdeal.τ Cert.SmoothRefIdeal.sig) → Buf (Elt Ideal) ℓ) (g : Dev Cert.SmoothRefIdeal.nD → PrngReg), Pre_SmoothRefIdeal m →
    θ_run (Cert.SmoothRefIdeal.defs (F := Ideal)) (onTc (τ := Cert.SmoothRefIdeal.τ) (Cert.SmoothRefIdeal.main (F := Ideal))) ⟨m, fun _ => 0, g⟩ (fun r => (∀ c : Dev Cert.SmoothRefIdeal.nD,
      r.2.mem ((c.tc : Thread Cert.SmoothRefIdeal.nD Cert.SmoothRefIdeal.τ).loc Cert.SmoothRefIdeal.main_arg0) = m ((c.tc : Thread Cert.SmoothRefIdeal.nD Cert.SmoothRefIdeal.τ).loc Cert.SmoothRefIdeal.main_arg0)
      ∧ r.2.mem ((c.tc : Thread Cert.SmoothRefIdeal.nD Cert.SmoothRefIdeal.τ).loc Cert.SmoothRefIdeal.main_arg1) = m ((c.tc : Thread Cert.SmoothRefIdeal.nD Cert.SmoothRefIdeal.τ).loc Cert.SmoothRefIdeal.main_arg1))
      ∧ r.2.sem = fun _ => 0)

def quiescent_SmoothRefIdeal_pre_bounded2 [hSmoothRefIdeal : Cert.SmoothRefIdeal.Facts] [hPre_bounded2 : Cert.Pre_bounded2.Facts] : Prop :=
  ∀ (m : (ℓ : Loc Cert.SmoothRefIdeal.nD Cert.SmoothRefIdeal.τ Cert.SmoothRefIdeal.sig) → Buf (Elt Ideal) ℓ) (g : Dev Cert.SmoothRefIdeal.nD → PrngReg), Pre_SmoothRefIdeal_bounded2 m →
    θ_run (Cert.SmoothRefIdeal.defs (F := Ideal)) (onTc (τ := Cert.SmoothRefIdeal.τ) (Cert.SmoothRefIdeal.main (F := Ideal))) ⟨m, fun _ => 0, g⟩ (fun r => (∀ c : Dev Cert.SmoothRefIdeal.nD,
      r.2.mem ((c.tc : Thread Cert.SmoothRefIdeal.nD Cert.SmoothRefIdeal.τ).loc Cert.SmoothRefIdeal.main_arg0) = m ((c.tc : Thread Cert.SmoothRefIdeal.nD Cert.SmoothRefIdeal.τ).loc Cert.SmoothRefIdeal.main_arg0)
      ∧ r.2.mem ((c.tc : Thread Cert.SmoothRefIdeal.nD Cert.SmoothRefIdeal.τ).loc Cert.SmoothRefIdeal.main_arg1) = m ((c.tc : Thread Cert.SmoothRefIdeal.nD Cert.SmoothRefIdeal.τ).loc Cert.SmoothRefIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_bounded3 [hCrossIdeal : Cert.CrossIdeal.Facts] [hPre_bounded3 : Cert.Pre_bounded3.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_bounded3 m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_CrossRefIdeal_pre_bounded3 [hCrossRefIdeal : Cert.CrossRefIdeal.Facts] [hPre_bounded3 : Cert.Pre_bounded3.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_bounded3 m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_Curv2048 [hCurv2048 : Cert.Curv2048.Facts] : Prop :=
  ∀ (m : (ℓ : Loc Cert.Curv2048.nD Cert.Curv2048.τ Cert.Curv2048.sig) → Buf (Elt Bits) ℓ) (g : Dev Cert.Curv2048.nD → PrngReg), Pre_Curv2048 m →
    θ_run (Cert.Curv2048.defs (F := Bits)) (onTc (τ := Cert.Curv2048.τ) (Cert.Curv2048.main (F := Bits))) ⟨m, fun _ => 0, g⟩ (fun r => (∀ c : Dev Cert.Curv2048.nD,
      r.2.mem ((c.tc : Thread Cert.Curv2048.nD Cert.Curv2048.τ).loc Cert.Curv2048.main_arg0) = m ((c.tc : Thread Cert.Curv2048.nD Cert.Curv2048.τ).loc Cert.Curv2048.main_arg0))
      ∧ r.2.sem = fun _ => 0)

def quiescent_Curv2048Ideal [hCurv2048Ideal : Cert.Curv2048Ideal.Facts] : Prop :=
  ∀ (m : (ℓ : Loc Cert.Curv2048Ideal.nD Cert.Curv2048Ideal.τ Cert.Curv2048Ideal.sig) → Buf (Elt Ideal) ℓ) (g : Dev Cert.Curv2048Ideal.nD → PrngReg), Pre_Curv2048Ideal m →
    θ_run (Cert.Curv2048Ideal.defs (F := Ideal)) (onTc (τ := Cert.Curv2048Ideal.τ) (Cert.Curv2048Ideal.main (F := Ideal))) ⟨m, fun _ => 0, g⟩ (fun r => (∀ c : Dev Cert.Curv2048Ideal.nD,
      r.2.mem ((c.tc : Thread Cert.Curv2048Ideal.nD Cert.Curv2048Ideal.τ).loc Cert.Curv2048Ideal.main_arg0) = m ((c.tc : Thread Cert.Curv2048Ideal.nD Cert.Curv2048Ideal.τ).loc Cert.Curv2048Ideal.main_arg0))
      ∧ r.2.sem = fun _ => 0)

def quiescent_Curv2048Ideal_pre_bounded_2048 [hCurv2048Ideal : Cert.Curv2048Ideal.Facts] [hPre_bounded_2048 : Cert.Pre_bounded_2048.Facts] : Prop :=
  ∀ (m : (ℓ : Loc Cert.Curv2048Ideal.nD Cert.Curv2048Ideal.τ Cert.Curv2048Ideal.sig) → Buf (Elt Ideal) ℓ) (g : Dev Cert.Curv2048Ideal.nD → PrngReg), Pre_Curv2048Ideal_bounded_2048 m →
    θ_run (Cert.Curv2048Ideal.defs (F := Ideal)) (onTc (τ := Cert.Curv2048Ideal.τ) (Cert.Curv2048Ideal.main (F := Ideal))) ⟨m, fun _ => 0, g⟩ (fun r => (∀ c : Dev Cert.Curv2048Ideal.nD,
      r.2.mem ((c.tc : Thread Cert.Curv2048Ideal.nD Cert.Curv2048Ideal.τ).loc Cert.Curv2048Ideal.main_arg0) = m ((c.tc : Thread Cert.Curv2048Ideal.nD Cert.Curv2048Ideal.τ).loc Cert.Curv2048Ideal.main_arg0))
      ∧ r.2.sem = fun _ => 0)

def quiescent_Curv2048RefIdeal [hCurv2048RefIdeal : Cert.Curv2048RefIdeal.Facts] : Prop :=
  ∀ (m : (ℓ : Loc Cert.Curv2048RefIdeal.nD Cert.Curv2048RefIdeal.τ Cert.Curv2048RefIdeal.sig) → Buf (Elt Ideal) ℓ) (g : Dev Cert.Curv2048RefIdeal.nD → PrngReg), Pre_Curv2048RefIdeal m →
    θ_run (Cert.Curv2048RefIdeal.defs (F := Ideal)) (onTc (τ := Cert.Curv2048RefIdeal.τ) (Cert.Curv2048RefIdeal.main (F := Ideal))) ⟨m, fun _ => 0, g⟩ (fun r => (∀ c : Dev Cert.Curv2048RefIdeal.nD,
      r.2.mem ((c.tc : Thread Cert.Curv2048RefIdeal.nD Cert.Curv2048RefIdeal.τ).loc Cert.Curv2048RefIdeal.main_arg0) = m ((c.tc : Thread Cert.Curv2048RefIdeal.nD Cert.Curv2048RefIdeal.τ).loc Cert.Curv2048RefIdeal.main_arg0))
      ∧ r.2.sem = fun _ => 0)

def quiescent_Curv2048RefIdeal_pre_bounded_2048 [hCurv2048RefIdeal : Cert.Curv2048RefIdeal.Facts] [hPre_bounded_2048 : Cert.Pre_bounded_2048.Facts] : Prop :=
  ∀ (m : (ℓ : Loc Cert.Curv2048RefIdeal.nD Cert.Curv2048RefIdeal.τ Cert.Curv2048RefIdeal.sig) → Buf (Elt Ideal) ℓ) (g : Dev Cert.Curv2048RefIdeal.nD → PrngReg), Pre_Curv2048RefIdeal_bounded_2048 m →
    θ_run (Cert.Curv2048RefIdeal.defs (F := Ideal)) (onTc (τ := Cert.Curv2048RefIdeal.τ) (Cert.Curv2048RefIdeal.main (F := Ideal))) ⟨m, fun _ => 0, g⟩ (fun r => (∀ c : Dev Cert.Curv2048RefIdeal.nD,
      r.2.mem ((c.tc : Thread Cert.Curv2048RefIdeal.nD Cert.Curv2048RefIdeal.τ).loc Cert.Curv2048RefIdeal.main_arg0) = m ((c.tc : Thread Cert.Curv2048RefIdeal.nD Cert.Curv2048RefIdeal.τ).loc Cert.Curv2048RefIdeal.main_arg0))
      ∧ r.2.sem = fun _ => 0)

def quiescent_Smooth2048 [hSmooth2048 : Cert.Smooth2048.Facts] : Prop :=
  ∀ (m : (ℓ : Loc Cert.Smooth2048.nD Cert.Smooth2048.τ Cert.Smooth2048.sig) → Buf (Elt Bits) ℓ) (g : Dev Cert.Smooth2048.nD → PrngReg), Pre_Smooth2048 m →
    θ_run (Cert.Smooth2048.defs (F := Bits)) (onTc (τ := Cert.Smooth2048.τ) (Cert.Smooth2048.main (F := Bits))) ⟨m, fun _ => 0, g⟩ (fun r => (∀ c : Dev Cert.Smooth2048.nD,
      r.2.mem ((c.tc : Thread Cert.Smooth2048.nD Cert.Smooth2048.τ).loc Cert.Smooth2048.main_arg0) = m ((c.tc : Thread Cert.Smooth2048.nD Cert.Smooth2048.τ).loc Cert.Smooth2048.main_arg0)
      ∧ r.2.mem ((c.tc : Thread Cert.Smooth2048.nD Cert.Smooth2048.τ).loc Cert.Smooth2048.main_arg1) = m ((c.tc : Thread Cert.Smooth2048.nD Cert.Smooth2048.τ).loc Cert.Smooth2048.main_arg1))
      ∧ r.2.sem = fun _ => 0)

def quiescent_Smooth2048Ideal [hSmooth2048Ideal : Cert.Smooth2048Ideal.Facts] : Prop :=
  ∀ (m : (ℓ : Loc Cert.Smooth2048Ideal.nD Cert.Smooth2048Ideal.τ Cert.Smooth2048Ideal.sig) → Buf (Elt Ideal) ℓ) (g : Dev Cert.Smooth2048Ideal.nD → PrngReg), Pre_Smooth2048Ideal m →
    θ_run (Cert.Smooth2048Ideal.defs (F := Ideal)) (onTc (τ := Cert.Smooth2048Ideal.τ) (Cert.Smooth2048Ideal.main (F := Ideal))) ⟨m, fun _ => 0, g⟩ (fun r => (∀ c : Dev Cert.Smooth2048Ideal.nD,
      r.2.mem ((c.tc : Thread Cert.Smooth2048Ideal.nD Cert.Smooth2048Ideal.τ).loc Cert.Smooth2048Ideal.main_arg0) = m ((c.tc : Thread Cert.Smooth2048Ideal.nD Cert.Smooth2048Ideal.τ).loc Cert.Smooth2048Ideal.main_arg0)
      ∧ r.2.mem ((c.tc : Thread Cert.Smooth2048Ideal.nD Cert.Smooth2048Ideal.τ).loc Cert.Smooth2048Ideal.main_arg1) = m ((c.tc : Thread Cert.Smooth2048Ideal.nD Cert.Smooth2048Ideal.τ).loc Cert.Smooth2048Ideal.main_arg1))
      ∧ r.2.sem = fun _ => 0)

def quiescent_Smooth2048Ideal_pre_bounded2_2048 [hSmooth2048Ideal : Cert.Smooth2048Ideal.Facts] [hPre_bounded2_2048 : Cert.Pre_bounded2_2048.Facts] : Prop :=
  ∀ (m : (ℓ : Loc Cert.Smooth2048Ideal.nD Cert.Smooth2048Ideal.τ Cert.Smooth2048Ideal.sig) → Buf (Elt Ideal) ℓ) (g : Dev Cert.Smooth2048Ideal.nD → PrngReg), Pre_Smooth2048Ideal_bounded2_2048 m →
    θ_run (Cert.Smooth2048Ideal.defs (F := Ideal)) (onTc (τ := Cert.Smooth2048Ideal.τ) (Cert.Smooth2048Ideal.main (F := Ideal))) ⟨m, fun _ => 0, g⟩ (fun r => (∀ c : Dev Cert.Smooth2048Ideal.nD,
      r.2.mem ((c.tc : Thread Cert.Smooth2048Ideal.nD Cert.Smooth2048Ideal.τ).loc Cert.Smooth2048Ideal.main_arg0) = m ((c.tc : Thread Cert.Smooth2048Ideal.nD Cert.Smooth2048Ideal.τ).loc Cert.Smooth2048Ideal.main_arg0)
      ∧ r.2.mem ((c.tc : Thread Cert.Smooth2048Ideal.nD Cert.Smooth2048Ideal.τ).loc Cert.Smooth2048Ideal.main_arg1) = m ((c.tc : Thread Cert.Smooth2048Ideal.nD Cert.Smooth2048Ideal.τ).loc Cert.Smooth2048Ideal.main_arg1))
      ∧ r.2.sem = fun _ => 0)

def quiescent_Smooth2048RefIdeal [hSmooth2048RefIdeal : Cert.Smooth2048RefIdeal.Facts] : Prop :=
  ∀ (m : (ℓ : Loc Cert.Smooth2048RefIdeal.nD Cert.Smooth2048RefIdeal.τ Cert.Smooth2048RefIdeal.sig) → Buf (Elt Ideal) ℓ) (g : Dev Cert.Smooth2048RefIdeal.nD → PrngReg), Pre_Smooth2048RefIdeal m →
    θ_run (Cert.Smooth2048RefIdeal.defs (F := Ideal)) (onTc (τ := Cert.Smooth2048RefIdeal.τ) (Cert.Smooth2048RefIdeal.main (F := Ideal))) ⟨m, fun _ => 0, g⟩ (fun r => (∀ c : Dev Cert.Smooth2048RefIdeal.nD,
      r.2.mem ((c.tc : Thread Cert.Smooth2048RefIdeal.nD Cert.Smooth2048RefIdeal.τ).loc Cert.Smooth2048RefIdeal.main_arg0) = m ((c.tc : Thread Cert.Smooth2048RefIdeal.nD Cert.Smooth2048RefIdeal.τ).loc Cert.Smooth2048RefIdeal.main_arg0)
      ∧ r.2.mem ((c.tc : Thread Cert.Smooth2048RefIdeal.nD Cert.Smooth2048RefIdeal.τ).loc Cert.Smooth2048RefIdeal.main_arg1) = m ((c.tc : Thread Cert.Smooth2048RefIdeal.nD Cert.Smooth2048RefIdeal.τ).loc Cert.Smooth2048RefIdeal.main_arg1))
      ∧ r.2.sem = fun _ => 0)

def quiescent_Smooth2048RefIdeal_pre_bounded2_2048 [hSmooth2048RefIdeal : Cert.Smooth2048RefIdeal.Facts] [hPre_bounded2_2048 : Cert.Pre_bounded2_2048.Facts] : Prop :=
  ∀ (m : (ℓ : Loc Cert.Smooth2048RefIdeal.nD Cert.Smooth2048RefIdeal.τ Cert.Smooth2048RefIdeal.sig) → Buf (Elt Ideal) ℓ) (g : Dev Cert.Smooth2048RefIdeal.nD → PrngReg), Pre_Smooth2048RefIdeal_bounded2_2048 m →
    θ_run (Cert.Smooth2048RefIdeal.defs (F := Ideal)) (onTc (τ := Cert.Smooth2048RefIdeal.τ) (Cert.Smooth2048RefIdeal.main (F := Ideal))) ⟨m, fun _ => 0, g⟩ (fun r => (∀ c : Dev Cert.Smooth2048RefIdeal.nD,
      r.2.mem ((c.tc : Thread Cert.Smooth2048RefIdeal.nD Cert.Smooth2048RefIdeal.τ).loc Cert.Smooth2048RefIdeal.main_arg0) = m ((c.tc : Thread Cert.Smooth2048RefIdeal.nD Cert.Smooth2048RefIdeal.τ).loc Cert.Smooth2048RefIdeal.main_arg0)
      ∧ r.2.mem ((c.tc : Thread Cert.Smooth2048RefIdeal.nD Cert.Smooth2048RefIdeal.τ).loc Cert.Smooth2048RefIdeal.main_arg1) = m ((c.tc : Thread Cert.Smooth2048RefIdeal.nD Cert.Smooth2048RefIdeal.τ).loc Cert.Smooth2048RefIdeal.main_arg1))
      ∧ r.2.sem = fun _ => 0)

def quiescent_Cross2048 [hCross2048 : Cert.Cross2048.Facts] : Prop :=
  ∀ (m : (ℓ : Loc Cert.Cross2048.nD Cert.Cross2048.τ Cert.Cross2048.sig) → Buf (Elt Bits) ℓ) (g : Dev Cert.Cross2048.nD → PrngReg), Pre_Cross2048 m →
    θ_run (Cert.Cross2048.defs (F := Bits)) (onTc (τ := Cert.Cross2048.τ) (Cert.Cross2048.main (F := Bits))) ⟨m, fun _ => 0, g⟩ (fun r => (∀ c : Dev Cert.Cross2048.nD,
      r.2.mem ((c.tc : Thread Cert.Cross2048.nD Cert.Cross2048.τ).loc Cert.Cross2048.main_arg0) = m ((c.tc : Thread Cert.Cross2048.nD Cert.Cross2048.τ).loc Cert.Cross2048.main_arg0)
      ∧ r.2.mem ((c.tc : Thread Cert.Cross2048.nD Cert.Cross2048.τ).loc Cert.Cross2048.main_arg1) = m ((c.tc : Thread Cert.Cross2048.nD Cert.Cross2048.τ).loc Cert.Cross2048.main_arg1)
      ∧ r.2.mem ((c.tc : Thread Cert.Cross2048.nD Cert.Cross2048.τ).loc Cert.Cross2048.main_arg2) = m ((c.tc : Thread Cert.Cross2048.nD Cert.Cross2048.τ).loc Cert.Cross2048.main_arg2)
      ∧ r.2.mem ((c.tc : Thread Cert.Cross2048.nD Cert.Cross2048.τ).loc Cert.Cross2048.main_arg3) = m ((c.tc : Thread Cert.Cross2048.nD Cert.Cross2048.τ).loc Cert.Cross2048.main_arg3)
      ∧ r.2.mem ((c.tc : Thread Cert.Cross2048.nD Cert.Cross2048.τ).loc Cert.Cross2048.main_arg4) = m ((c.tc : Thread Cert.Cross2048.nD Cert.Cross2048.τ).loc Cert.Cross2048.main_arg4))
      ∧ r.2.sem = fun _ => 0)

def quiescent_Cross2048Ideal [hCross2048Ideal : Cert.Cross2048Ideal.Facts] : Prop :=
  ∀ (m : (ℓ : Loc Cert.Cross2048Ideal.nD Cert.Cross2048Ideal.τ Cert.Cross2048Ideal.sig) → Buf (Elt Ideal) ℓ) (g : Dev Cert.Cross2048Ideal.nD → PrngReg), Pre_Cross2048Ideal m →
    θ_run (Cert.Cross2048Ideal.defs (F := Ideal)) (onTc (τ := Cert.Cross2048Ideal.τ) (Cert.Cross2048Ideal.main (F := Ideal))) ⟨m, fun _ => 0, g⟩ (fun r => (∀ c : Dev Cert.Cross2048Ideal.nD,
      r.2.mem ((c.tc : Thread Cert.Cross2048Ideal.nD Cert.Cross2048Ideal.τ).loc Cert.Cross2048Ideal.main_arg0) = m ((c.tc : Thread Cert.Cross2048Ideal.nD Cert.Cross2048Ideal.τ).loc Cert.Cross2048Ideal.main_arg0)
      ∧ r.2.mem ((c.tc : Thread Cert.Cross2048Ideal.nD Cert.Cross2048Ideal.τ).loc Cert.Cross2048Ideal.main_arg1) = m ((c.tc : Thread Cert.Cross2048Ideal.nD Cert.Cross2048Ideal.τ).loc Cert.Cross2048Ideal.main_arg1)
      ∧ r.2.mem ((c.tc : Thread Cert.Cross2048Ideal.nD Cert.Cross2048Ideal.τ).loc Cert.Cross2048Ideal.main_arg2) = m ((c.tc : Thread Cert.Cross2048Ideal.nD Cert.Cross2048Ideal.τ).loc Cert.Cross2048Ideal.main_arg2)
      ∧ r.2.mem ((c.tc : Thread Cert.Cross2048Ideal.nD Cert.Cross2048Ideal.τ).loc Cert.Cross2048Ideal.main_arg3) = m ((c.tc : Thread Cert.Cross2048Ideal.nD Cert.Cross2048Ideal.τ).loc Cert.Cross2048Ideal.main_arg3)
      ∧ r.2.mem ((c.tc : Thread Cert.Cross2048Ideal.nD Cert.Cross2048Ideal.τ).loc Cert.Cross2048Ideal.main_arg4) = m ((c.tc : Thread Cert.Cross2048Ideal.nD Cert.Cross2048Ideal.τ).loc Cert.Cross2048Ideal.main_arg4))
      ∧ r.2.sem = fun _ => 0)

def quiescent_Cross2048Ideal_pre_bounded3_2048 [hCross2048Ideal : Cert.Cross2048Ideal.Facts] [hPre_bounded3_2048 : Cert.Pre_bounded3_2048.Facts] : Prop :=
  ∀ (m : (ℓ : Loc Cert.Cross2048Ideal.nD Cert.Cross2048Ideal.τ Cert.Cross2048Ideal.sig) → Buf (Elt Ideal) ℓ) (g : Dev Cert.Cross2048Ideal.nD → PrngReg), Pre_Cross2048Ideal_bounded3_2048 m →
    θ_run (Cert.Cross2048Ideal.defs (F := Ideal)) (onTc (τ := Cert.Cross2048Ideal.τ) (Cert.Cross2048Ideal.main (F := Ideal))) ⟨m, fun _ => 0, g⟩ (fun r => (∀ c : Dev Cert.Cross2048Ideal.nD,
      r.2.mem ((c.tc : Thread Cert.Cross2048Ideal.nD Cert.Cross2048Ideal.τ).loc Cert.Cross2048Ideal.main_arg0) = m ((c.tc : Thread Cert.Cross2048Ideal.nD Cert.Cross2048Ideal.τ).loc Cert.Cross2048Ideal.main_arg0)
      ∧ r.2.mem ((c.tc : Thread Cert.Cross2048Ideal.nD Cert.Cross2048Ideal.τ).loc Cert.Cross2048Ideal.main_arg1) = m ((c.tc : Thread Cert.Cross2048Ideal.nD Cert.Cross2048Ideal.τ).loc Cert.Cross2048Ideal.main_arg1)
      ∧ r.2.mem ((c.tc : Thread Cert.Cross2048Ideal.nD Cert.Cross2048Ideal.τ).loc Cert.Cross2048Ideal.main_arg2) = m ((c.tc : Thread Cert.Cross2048Ideal.nD Cert.Cross2048Ideal.τ).loc Cert.Cross2048Ideal.main_arg2)
      ∧ r.2.mem ((c.tc : Thread Cert.Cross2048Ideal.nD Cert.Cross2048Ideal.τ).loc Cert.Cross2048Ideal.main_arg3) = m ((c.tc : Thread Cert.Cross2048Ideal.nD Cert.Cross2048Ideal.τ).loc Cert.Cross2048Ideal.main_arg3)
      ∧ r.2.mem ((c.tc : Thread Cert.Cross2048Ideal.nD Cert.Cross2048Ideal.τ).loc Cert.Cross2048Ideal.main_arg4) = m ((c.tc : Thread Cert.Cross2048Ideal.nD Cert.Cross2048Ideal.τ).loc Cert.Cross2048Ideal.main_arg4))
      ∧ r.2.sem = fun _ => 0)

def quiescent_Cross2048RefIdeal [hCross2048RefIdeal : Cert.Cross2048RefIdeal.Facts] : Prop :=
  ∀ (m : (ℓ : Loc Cert.Cross2048RefIdeal.nD Cert.Cross2048RefIdeal.τ Cert.Cross2048RefIdeal.sig) → Buf (Elt Ideal) ℓ) (g : Dev Cert.Cross2048RefIdeal.nD → PrngReg), Pre_Cross2048RefIdeal m →
    θ_run (Cert.Cross2048RefIdeal.defs (F := Ideal)) (onTc (τ := Cert.Cross2048RefIdeal.τ) (Cert.Cross2048RefIdeal.main (F := Ideal))) ⟨m, fun _ => 0, g⟩ (fun r => (∀ c : Dev Cert.Cross2048RefIdeal.nD,
      r.2.mem ((c.tc : Thread Cert.Cross2048RefIdeal.nD Cert.Cross2048RefIdeal.τ).loc Cert.Cross2048RefIdeal.main_arg0) = m ((c.tc : Thread Cert.Cross2048RefIdeal.nD Cert.Cross2048RefIdeal.τ).loc Cert.Cross2048RefIdeal.main_arg0)
      ∧ r.2.mem ((c.tc : Thread Cert.Cross2048RefIdeal.nD Cert.Cross2048RefIdeal.τ).loc Cert.Cross2048RefIdeal.main_arg1) = m ((c.tc : Thread Cert.Cross2048RefIdeal.nD Cert.Cross2048RefIdeal.τ).loc Cert.Cross2048RefIdeal.main_arg1)
      ∧ r.2.mem ((c.tc : Thread Cert.Cross2048RefIdeal.nD Cert.Cross2048RefIdeal.τ).loc Cert.Cross2048RefIdeal.main_arg2) = m ((c.tc : Thread Cert.Cross2048RefIdeal.nD Cert.Cross2048RefIdeal.τ).loc Cert.Cross2048RefIdeal.main_arg2)
      ∧ r.2.mem ((c.tc : Thread Cert.Cross2048RefIdeal.nD Cert.Cross2048RefIdeal.τ).loc Cert.Cross2048RefIdeal.main_arg3) = m ((c.tc : Thread Cert.Cross2048RefIdeal.nD Cert.Cross2048RefIdeal.τ).loc Cert.Cross2048RefIdeal.main_arg3)
      ∧ r.2.mem ((c.tc : Thread Cert.Cross2048RefIdeal.nD Cert.Cross2048RefIdeal.τ).loc Cert.Cross2048RefIdeal.main_arg4) = m ((c.tc : Thread Cert.Cross2048RefIdeal.nD Cert.Cross2048RefIdeal.τ).loc Cert.Cross2048RefIdeal.main_arg4))
      ∧ r.2.sem = fun _ => 0)

def quiescent_Cross2048RefIdeal_pre_bounded3_2048 [hCross2048RefIdeal : Cert.Cross2048RefIdeal.Facts] [hPre_bounded3_2048 : Cert.Pre_bounded3_2048.Facts] : Prop :=
  ∀ (m : (ℓ : Loc Cert.Cross2048RefIdeal.nD Cert.Cross2048RefIdeal.τ Cert.Cross2048RefIdeal.sig) → Buf (Elt Ideal) ℓ) (g : Dev Cert.Cross2048RefIdeal.nD → PrngReg), Pre_Cross2048RefIdeal_bounded3_2048 m →
    θ_run (Cert.Cross2048RefIdeal.defs (F := Ideal)) (onTc (τ := Cert.Cross2048RefIdeal.τ) (Cert.Cross2048RefIdeal.main (F := Ideal))) ⟨m, fun _ => 0, g⟩ (fun r => (∀ c : Dev Cert.Cross2048RefIdeal.nD,
      r.2.mem ((c.tc : Thread Cert.Cross2048RefIdeal.nD Cert.Cross2048RefIdeal.τ).loc Cert.Cross2048RefIdeal.main_arg0) = m ((c.tc : Thread Cert.Cross2048RefIdeal.nD Cert.Cross2048RefIdeal.τ).loc Cert.Cross2048RefIdeal.main_arg0)
      ∧ r.2.mem ((c.tc : Thread Cert.Cross2048RefIdeal.nD Cert.Cross2048RefIdeal.τ).loc Cert.Cross2048RefIdeal.main_arg1) = m ((c.tc : Thread Cert.Cross2048RefIdeal.nD Cert.Cross2048RefIdeal.τ).loc Cert.Cross2048RefIdeal.main_arg1)
      ∧ r.2.mem ((c.tc : Thread Cert.Cross2048RefIdeal.nD Cert.Cross2048RefIdeal.τ).loc Cert.Cross2048RefIdeal.main_arg2) = m ((c.tc : Thread Cert.Cross2048RefIdeal.nD Cert.Cross2048RefIdeal.τ).loc Cert.Cross2048RefIdeal.main_arg2)
      ∧ r.2.mem ((c.tc : Thread Cert.Cross2048RefIdeal.nD Cert.Cross2048RefIdeal.τ).loc Cert.Cross2048RefIdeal.main_arg3) = m ((c.tc : Thread Cert.Cross2048RefIdeal.nD Cert.Cross2048RefIdeal.τ).loc Cert.Cross2048RefIdeal.main_arg3)
      ∧ r.2.mem ((c.tc : Thread Cert.Cross2048RefIdeal.nD Cert.Cross2048RefIdeal.τ).loc Cert.Cross2048RefIdeal.main_arg4) = m ((c.tc : Thread Cert.Cross2048RefIdeal.nD Cert.Cross2048RefIdeal.τ).loc Cert.Cross2048RefIdeal.main_arg4))
      ∧ r.2.sem = fun _ => 0)

def quiescent_Curv1024 [hCurv1024 : Cert.Curv1024.Facts] : Prop :=
  ∀ (m : (ℓ : Loc Cert.Curv1024.nD Cert.Curv1024.τ Cert.Curv1024.sig) → Buf (Elt Bits) ℓ) (g : Dev Cert.Curv1024.nD → PrngReg), Pre_Curv1024 m →
    θ_run (Cert.Curv1024.defs (F := Bits)) (onTc (τ := Cert.Curv1024.τ) (Cert.Curv1024.main (F := Bits))) ⟨m, fun _ => 0, g⟩ (fun r => (∀ c : Dev Cert.Curv1024.nD,
      r.2.mem ((c.tc : Thread Cert.Curv1024.nD Cert.Curv1024.τ).loc Cert.Curv1024.main_arg0) = m ((c.tc : Thread Cert.Curv1024.nD Cert.Curv1024.τ).loc Cert.Curv1024.main_arg0))
      ∧ r.2.sem = fun _ => 0)

def quiescent_Curv1024Ideal [hCurv1024Ideal : Cert.Curv1024Ideal.Facts] : Prop :=
  ∀ (m : (ℓ : Loc Cert.Curv1024Ideal.nD Cert.Curv1024Ideal.τ Cert.Curv1024Ideal.sig) → Buf (Elt Ideal) ℓ) (g : Dev Cert.Curv1024Ideal.nD → PrngReg), Pre_Curv1024Ideal m →
    θ_run (Cert.Curv1024Ideal.defs (F := Ideal)) (onTc (τ := Cert.Curv1024Ideal.τ) (Cert.Curv1024Ideal.main (F := Ideal))) ⟨m, fun _ => 0, g⟩ (fun r => (∀ c : Dev Cert.Curv1024Ideal.nD,
      r.2.mem ((c.tc : Thread Cert.Curv1024Ideal.nD Cert.Curv1024Ideal.τ).loc Cert.Curv1024Ideal.main_arg0) = m ((c.tc : Thread Cert.Curv1024Ideal.nD Cert.Curv1024Ideal.τ).loc Cert.Curv1024Ideal.main_arg0))
      ∧ r.2.sem = fun _ => 0)

def quiescent_Curv1024Ideal_pre_bounded_1024 [hCurv1024Ideal : Cert.Curv1024Ideal.Facts] [hPre_bounded_1024 : Cert.Pre_bounded_1024.Facts] : Prop :=
  ∀ (m : (ℓ : Loc Cert.Curv1024Ideal.nD Cert.Curv1024Ideal.τ Cert.Curv1024Ideal.sig) → Buf (Elt Ideal) ℓ) (g : Dev Cert.Curv1024Ideal.nD → PrngReg), Pre_Curv1024Ideal_bounded_1024 m →
    θ_run (Cert.Curv1024Ideal.defs (F := Ideal)) (onTc (τ := Cert.Curv1024Ideal.τ) (Cert.Curv1024Ideal.main (F := Ideal))) ⟨m, fun _ => 0, g⟩ (fun r => (∀ c : Dev Cert.Curv1024Ideal.nD,
      r.2.mem ((c.tc : Thread Cert.Curv1024Ideal.nD Cert.Curv1024Ideal.τ).loc Cert.Curv1024Ideal.main_arg0) = m ((c.tc : Thread Cert.Curv1024Ideal.nD Cert.Curv1024Ideal.τ).loc Cert.Curv1024Ideal.main_arg0))
      ∧ r.2.sem = fun _ => 0)

def quiescent_Curv1024RefIdeal [hCurv1024RefIdeal : Cert.Curv1024RefIdeal.Facts] : Prop :=
  ∀ (m : (ℓ : Loc Cert.Curv1024RefIdeal.nD Cert.Curv1024RefIdeal.τ Cert.Curv1024RefIdeal.sig) → Buf (Elt Ideal) ℓ) (g : Dev Cert.Curv1024RefIdeal.nD → PrngReg), Pre_Curv1024RefIdeal m →
    θ_run (Cert.Curv1024RefIdeal.defs (F := Ideal)) (onTc (τ := Cert.Curv1024RefIdeal.τ) (Cert.Curv1024RefIdeal.main (F := Ideal))) ⟨m, fun _ => 0, g⟩ (fun r => (∀ c : Dev Cert.Curv1024RefIdeal.nD,
      r.2.mem ((c.tc : Thread Cert.Curv1024RefIdeal.nD Cert.Curv1024RefIdeal.τ).loc Cert.Curv1024RefIdeal.main_arg0) = m ((c.tc : Thread Cert.Curv1024RefIdeal.nD Cert.Curv1024RefIdeal.τ).loc Cert.Curv1024RefIdeal.main_arg0))
      ∧ r.2.sem = fun _ => 0)

def quiescent_Curv1024RefIdeal_pre_bounded_1024 [hCurv1024RefIdeal : Cert.Curv1024RefIdeal.Facts] [hPre_bounded_1024 : Cert.Pre_bounded_1024.Facts] : Prop :=
  ∀ (m : (ℓ : Loc Cert.Curv1024RefIdeal.nD Cert.Curv1024RefIdeal.τ Cert.Curv1024RefIdeal.sig) → Buf (Elt Ideal) ℓ) (g : Dev Cert.Curv1024RefIdeal.nD → PrngReg), Pre_Curv1024RefIdeal_bounded_1024 m →
    θ_run (Cert.Curv1024RefIdeal.defs (F := Ideal)) (onTc (τ := Cert.Curv1024RefIdeal.τ) (Cert.Curv1024RefIdeal.main (F := Ideal))) ⟨m, fun _ => 0, g⟩ (fun r => (∀ c : Dev Cert.Curv1024RefIdeal.nD,
      r.2.mem ((c.tc : Thread Cert.Curv1024RefIdeal.nD Cert.Curv1024RefIdeal.τ).loc Cert.Curv1024RefIdeal.main_arg0) = m ((c.tc : Thread Cert.Curv1024RefIdeal.nD Cert.Curv1024RefIdeal.τ).loc Cert.Curv1024RefIdeal.main_arg0))
      ∧ r.2.sem = fun _ => 0)

def quiescent_Smooth1024 [hSmooth1024 : Cert.Smooth1024.Facts] : Prop :=
  ∀ (m : (ℓ : Loc Cert.Smooth1024.nD Cert.Smooth1024.τ Cert.Smooth1024.sig) → Buf (Elt Bits) ℓ) (g : Dev Cert.Smooth1024.nD → PrngReg), Pre_Smooth1024 m →
    θ_run (Cert.Smooth1024.defs (F := Bits)) (onTc (τ := Cert.Smooth1024.τ) (Cert.Smooth1024.main (F := Bits))) ⟨m, fun _ => 0, g⟩ (fun r => (∀ c : Dev Cert.Smooth1024.nD,
      r.2.mem ((c.tc : Thread Cert.Smooth1024.nD Cert.Smooth1024.τ).loc Cert.Smooth1024.main_arg0) = m ((c.tc : Thread Cert.Smooth1024.nD Cert.Smooth1024.τ).loc Cert.Smooth1024.main_arg0)
      ∧ r.2.mem ((c.tc : Thread Cert.Smooth1024.nD Cert.Smooth1024.τ).loc Cert.Smooth1024.main_arg1) = m ((c.tc : Thread Cert.Smooth1024.nD Cert.Smooth1024.τ).loc Cert.Smooth1024.main_arg1))
      ∧ r.2.sem = fun _ => 0)

def quiescent_Smooth1024Ideal [hSmooth1024Ideal : Cert.Smooth1024Ideal.Facts] : Prop :=
  ∀ (m : (ℓ : Loc Cert.Smooth1024Ideal.nD Cert.Smooth1024Ideal.τ Cert.Smooth1024Ideal.sig) → Buf (Elt Ideal) ℓ) (g : Dev Cert.Smooth1024Ideal.nD → PrngReg), Pre_Smooth1024Ideal m →
    θ_run (Cert.Smooth1024Ideal.defs (F := Ideal)) (onTc (τ := Cert.Smooth1024Ideal.τ) (Cert.Smooth1024Ideal.main (F := Ideal))) ⟨m, fun _ => 0, g⟩ (fun r => (∀ c : Dev Cert.Smooth1024Ideal.nD,
      r.2.mem ((c.tc : Thread Cert.Smooth1024Ideal.nD Cert.Smooth1024Ideal.τ).loc Cert.Smooth1024Ideal.main_arg0) = m ((c.tc : Thread Cert.Smooth1024Ideal.nD Cert.Smooth1024Ideal.τ).loc Cert.Smooth1024Ideal.main_arg0)
      ∧ r.2.mem ((c.tc : Thread Cert.Smooth1024Ideal.nD Cert.Smooth1024Ideal.τ).loc Cert.Smooth1024Ideal.main_arg1) = m ((c.tc : Thread Cert.Smooth1024Ideal.nD Cert.Smooth1024Ideal.τ).loc Cert.Smooth1024Ideal.main_arg1))
      ∧ r.2.sem = fun _ => 0)

def quiescent_Smooth1024Ideal_pre_bounded2_1024 [hSmooth1024Ideal : Cert.Smooth1024Ideal.Facts] [hPre_bounded2_1024 : Cert.Pre_bounded2_1024.Facts] : Prop :=
  ∀ (m : (ℓ : Loc Cert.Smooth1024Ideal.nD Cert.Smooth1024Ideal.τ Cert.Smooth1024Ideal.sig) → Buf (Elt Ideal) ℓ) (g : Dev Cert.Smooth1024Ideal.nD → PrngReg), Pre_Smooth1024Ideal_bounded2_1024 m →
    θ_run (Cert.Smooth1024Ideal.defs (F := Ideal)) (onTc (τ := Cert.Smooth1024Ideal.τ) (Cert.Smooth1024Ideal.main (F := Ideal))) ⟨m, fun _ => 0, g⟩ (fun r => (∀ c : Dev Cert.Smooth1024Ideal.nD,
      r.2.mem ((c.tc : Thread Cert.Smooth1024Ideal.nD Cert.Smooth1024Ideal.τ).loc Cert.Smooth1024Ideal.main_arg0) = m ((c.tc : Thread Cert.Smooth1024Ideal.nD Cert.Smooth1024Ideal.τ).loc Cert.Smooth1024Ideal.main_arg0)
      ∧ r.2.mem ((c.tc : Thread Cert.Smooth1024Ideal.nD Cert.Smooth1024Ideal.τ).loc Cert.Smooth1024Ideal.main_arg1) = m ((c.tc : Thread Cert.Smooth1024Ideal.nD Cert.Smooth1024Ideal.τ).loc Cert.Smooth1024Ideal.main_arg1))
      ∧ r.2.sem = fun _ => 0)

def quiescent_Smooth1024RefIdeal [hSmooth1024RefIdeal : Cert.Smooth1024RefIdeal.Facts] : Prop :=
  ∀ (m : (ℓ : Loc Cert.Smooth1024RefIdeal.nD Cert.Smooth1024RefIdeal.τ Cert.Smooth1024RefIdeal.sig) → Buf (Elt Ideal) ℓ) (g : Dev Cert.Smooth1024RefIdeal.nD → PrngReg), Pre_Smooth1024RefIdeal m →
    θ_run (Cert.Smooth1024RefIdeal.defs (F := Ideal)) (onTc (τ := Cert.Smooth1024RefIdeal.τ) (Cert.Smooth1024RefIdeal.main (F := Ideal))) ⟨m, fun _ => 0, g⟩ (fun r => (∀ c : Dev Cert.Smooth1024RefIdeal.nD,
      r.2.mem ((c.tc : Thread Cert.Smooth1024RefIdeal.nD Cert.Smooth1024RefIdeal.τ).loc Cert.Smooth1024RefIdeal.main_arg0) = m ((c.tc : Thread Cert.Smooth1024RefIdeal.nD Cert.Smooth1024RefIdeal.τ).loc Cert.Smooth1024RefIdeal.main_arg0)
      ∧ r.2.mem ((c.tc : Thread Cert.Smooth1024RefIdeal.nD Cert.Smooth1024RefIdeal.τ).loc Cert.Smooth1024RefIdeal.main_arg1) = m ((c.tc : Thread Cert.Smooth1024RefIdeal.nD Cert.Smooth1024RefIdeal.τ).loc Cert.Smooth1024RefIdeal.main_arg1))
      ∧ r.2.sem = fun _ => 0)

def quiescent_Smooth1024RefIdeal_pre_bounded2_1024 [hSmooth1024RefIdeal : Cert.Smooth1024RefIdeal.Facts] [hPre_bounded2_1024 : Cert.Pre_bounded2_1024.Facts] : Prop :=
  ∀ (m : (ℓ : Loc Cert.Smooth1024RefIdeal.nD Cert.Smooth1024RefIdeal.τ Cert.Smooth1024RefIdeal.sig) → Buf (Elt Ideal) ℓ) (g : Dev Cert.Smooth1024RefIdeal.nD → PrngReg), Pre_Smooth1024RefIdeal_bounded2_1024 m →
    θ_run (Cert.Smooth1024RefIdeal.defs (F := Ideal)) (onTc (τ := Cert.Smooth1024RefIdeal.τ) (Cert.Smooth1024RefIdeal.main (F := Ideal))) ⟨m, fun _ => 0, g⟩ (fun r => (∀ c : Dev Cert.Smooth1024RefIdeal.nD,
      r.2.mem ((c.tc : Thread Cert.Smooth1024RefIdeal.nD Cert.Smooth1024RefIdeal.τ).loc Cert.Smooth1024RefIdeal.main_arg0) = m ((c.tc : Thread Cert.Smooth1024RefIdeal.nD Cert.Smooth1024RefIdeal.τ).loc Cert.Smooth1024RefIdeal.main_arg0)
      ∧ r.2.mem ((c.tc : Thread Cert.Smooth1024RefIdeal.nD Cert.Smooth1024RefIdeal.τ).loc Cert.Smooth1024RefIdeal.main_arg1) = m ((c.tc : Thread Cert.Smooth1024RefIdeal.nD Cert.Smooth1024RefIdeal.τ).loc Cert.Smooth1024RefIdeal.main_arg1))
      ∧ r.2.sem = fun _ => 0)

def quiescent_Cross1024 [hCross1024 : Cert.Cross1024.Facts] : Prop :=
  ∀ (m : (ℓ : Loc Cert.Cross1024.nD Cert.Cross1024.τ Cert.Cross1024.sig) → Buf (Elt Bits) ℓ) (g : Dev Cert.Cross1024.nD → PrngReg), Pre_Cross1024 m →
    θ_run (Cert.Cross1024.defs (F := Bits)) (onTc (τ := Cert.Cross1024.τ) (Cert.Cross1024.main (F := Bits))) ⟨m, fun _ => 0, g⟩ (fun r => (∀ c : Dev Cert.Cross1024.nD,
      r.2.mem ((c.tc : Thread Cert.Cross1024.nD Cert.Cross1024.τ).loc Cert.Cross1024.main_arg0) = m ((c.tc : Thread Cert.Cross1024.nD Cert.Cross1024.τ).loc Cert.Cross1024.main_arg0)
      ∧ r.2.mem ((c.tc : Thread Cert.Cross1024.nD Cert.Cross1024.τ).loc Cert.Cross1024.main_arg1) = m ((c.tc : Thread Cert.Cross1024.nD Cert.Cross1024.τ).loc Cert.Cross1024.main_arg1)
      ∧ r.2.mem ((c.tc : Thread Cert.Cross1024.nD Cert.Cross1024.τ).loc Cert.Cross1024.main_arg2) = m ((c.tc : Thread Cert.Cross1024.nD Cert.Cross1024.τ).loc Cert.Cross1024.main_arg2)
      ∧ r.2.mem ((c.tc : Thread Cert.Cross1024.nD Cert.Cross1024.τ).loc Cert.Cross1024.main_arg3) = m ((c.tc : Thread Cert.Cross1024.nD Cert.Cross1024.τ).loc Cert.Cross1024.main_arg3)
      ∧ r.2.mem ((c.tc : Thread Cert.Cross1024.nD Cert.Cross1024.τ).loc Cert.Cross1024.main_arg4) = m ((c.tc : Thread Cert.Cross1024.nD Cert.Cross1024.τ).loc Cert.Cross1024.main_arg4))
      ∧ r.2.sem = fun _ => 0)

def quiescent_Cross1024Ideal [hCross1024Ideal : Cert.Cross1024Ideal.Facts] : Prop :=
  ∀ (m : (ℓ : Loc Cert.Cross1024Ideal.nD Cert.Cross1024Ideal.τ Cert.Cross1024Ideal.sig) → Buf (Elt Ideal) ℓ) (g : Dev Cert.Cross1024Ideal.nD → PrngReg), Pre_Cross1024Ideal m →
    θ_run (Cert.Cross1024Ideal.defs (F := Ideal)) (onTc (τ := Cert.Cross1024Ideal.τ) (Cert.Cross1024Ideal.main (F := Ideal))) ⟨m, fun _ => 0, g⟩ (fun r => (∀ c : Dev Cert.Cross1024Ideal.nD,
      r.2.mem ((c.tc : Thread Cert.Cross1024Ideal.nD Cert.Cross1024Ideal.τ).loc Cert.Cross1024Ideal.main_arg0) = m ((c.tc : Thread Cert.Cross1024Ideal.nD Cert.Cross1024Ideal.τ).loc Cert.Cross1024Ideal.main_arg0)
      ∧ r.2.mem ((c.tc : Thread Cert.Cross1024Ideal.nD Cert.Cross1024Ideal.τ).loc Cert.Cross1024Ideal.main_arg1) = m ((c.tc : Thread Cert.Cross1024Ideal.nD Cert.Cross1024Ideal.τ).loc Cert.Cross1024Ideal.main_arg1)
      ∧ r.2.mem ((c.tc : Thread Cert.Cross1024Ideal.nD Cert.Cross1024Ideal.τ).loc Cert.Cross1024Ideal.main_arg2) = m ((c.tc : Thread Cert.Cross1024Ideal.nD Cert.Cross1024Ideal.τ).loc Cert.Cross1024Ideal.main_arg2)
      ∧ r.2.mem ((c.tc : Thread Cert.Cross1024Ideal.nD Cert.Cross1024Ideal.τ).loc Cert.Cross1024Ideal.main_arg3) = m ((c.tc : Thread Cert.Cross1024Ideal.nD Cert.Cross1024Ideal.τ).loc Cert.Cross1024Ideal.main_arg3)
      ∧ r.2.mem ((c.tc : Thread Cert.Cross1024Ideal.nD Cert.Cross1024Ideal.τ).loc Cert.Cross1024Ideal.main_arg4) = m ((c.tc : Thread Cert.Cross1024Ideal.nD Cert.Cross1024Ideal.τ).loc Cert.Cross1024Ideal.main_arg4))
      ∧ r.2.sem = fun _ => 0)

def quiescent_Cross1024Ideal_pre_bounded3_1024 [hCross1024Ideal : Cert.Cross1024Ideal.Facts] [hPre_bounded3_1024 : Cert.Pre_bounded3_1024.Facts] : Prop :=
  ∀ (m : (ℓ : Loc Cert.Cross1024Ideal.nD Cert.Cross1024Ideal.τ Cert.Cross1024Ideal.sig) → Buf (Elt Ideal) ℓ) (g : Dev Cert.Cross1024Ideal.nD → PrngReg), Pre_Cross1024Ideal_bounded3_1024 m →
    θ_run (Cert.Cross1024Ideal.defs (F := Ideal)) (onTc (τ := Cert.Cross1024Ideal.τ) (Cert.Cross1024Ideal.main (F := Ideal))) ⟨m, fun _ => 0, g⟩ (fun r => (∀ c : Dev Cert.Cross1024Ideal.nD,
      r.2.mem ((c.tc : Thread Cert.Cross1024Ideal.nD Cert.Cross1024Ideal.τ).loc Cert.Cross1024Ideal.main_arg0) = m ((c.tc : Thread Cert.Cross1024Ideal.nD Cert.Cross1024Ideal.τ).loc Cert.Cross1024Ideal.main_arg0)
      ∧ r.2.mem ((c.tc : Thread Cert.Cross1024Ideal.nD Cert.Cross1024Ideal.τ).loc Cert.Cross1024Ideal.main_arg1) = m ((c.tc : Thread Cert.Cross1024Ideal.nD Cert.Cross1024Ideal.τ).loc Cert.Cross1024Ideal.main_arg1)
      ∧ r.2.mem ((c.tc : Thread Cert.Cross1024Ideal.nD Cert.Cross1024Ideal.τ).loc Cert.Cross1024Ideal.main_arg2) = m ((c.tc : Thread Cert.Cross1024Ideal.nD Cert.Cross1024Ideal.τ).loc Cert.Cross1024Ideal.main_arg2)
      ∧ r.2.mem ((c.tc : Thread Cert.Cross1024Ideal.nD Cert.Cross1024Ideal.τ).loc Cert.Cross1024Ideal.main_arg3) = m ((c.tc : Thread Cert.Cross1024Ideal.nD Cert.Cross1024Ideal.τ).loc Cert.Cross1024Ideal.main_arg3)
      ∧ r.2.mem ((c.tc : Thread Cert.Cross1024Ideal.nD Cert.Cross1024Ideal.τ).loc Cert.Cross1024Ideal.main_arg4) = m ((c.tc : Thread Cert.Cross1024Ideal.nD Cert.Cross1024Ideal.τ).loc Cert.Cross1024Ideal.main_arg4))
      ∧ r.2.sem = fun _ => 0)

def quiescent_Cross1024RefIdeal [hCross1024RefIdeal : Cert.Cross1024RefIdeal.Facts] : Prop :=
  ∀ (m : (ℓ : Loc Cert.Cross1024RefIdeal.nD Cert.Cross1024RefIdeal.τ Cert.Cross1024RefIdeal.sig) → Buf (Elt Ideal) ℓ) (g : Dev Cert.Cross1024RefIdeal.nD → PrngReg), Pre_Cross1024RefIdeal m →
    θ_run (Cert.Cross1024RefIdeal.defs (F := Ideal)) (onTc (τ := Cert.Cross1024RefIdeal.τ) (Cert.Cross1024RefIdeal.main (F := Ideal))) ⟨m, fun _ => 0, g⟩ (fun r => (∀ c : Dev Cert.Cross1024RefIdeal.nD,
      r.2.mem ((c.tc : Thread Cert.Cross1024RefIdeal.nD Cert.Cross1024RefIdeal.τ).loc Cert.Cross1024RefIdeal.main_arg0) = m ((c.tc : Thread Cert.Cross1024RefIdeal.nD Cert.Cross1024RefIdeal.τ).loc Cert.Cross1024RefIdeal.main_arg0)
      ∧ r.2.mem ((c.tc : Thread Cert.Cross1024RefIdeal.nD Cert.Cross1024RefIdeal.τ).loc Cert.Cross1024RefIdeal.main_arg1) = m ((c.tc : Thread Cert.Cross1024RefIdeal.nD Cert.Cross1024RefIdeal.τ).loc Cert.Cross1024RefIdeal.main_arg1)
      ∧ r.2.mem ((c.tc : Thread Cert.Cross1024RefIdeal.nD Cert.Cross1024RefIdeal.τ).loc Cert.Cross1024RefIdeal.main_arg2) = m ((c.tc : Thread Cert.Cross1024RefIdeal.nD Cert.Cross1024RefIdeal.τ).loc Cert.Cross1024RefIdeal.main_arg2)
      ∧ r.2.mem ((c.tc : Thread Cert.Cross1024RefIdeal.nD Cert.Cross1024RefIdeal.τ).loc Cert.Cross1024RefIdeal.main_arg3) = m ((c.tc : Thread Cert.Cross1024RefIdeal.nD Cert.Cross1024RefIdeal.τ).loc Cert.Cross1024RefIdeal.main_arg3)
      ∧ r.2.mem ((c.tc : Thread Cert.Cross1024RefIdeal.nD Cert.Cross1024RefIdeal.τ).loc Cert.Cross1024RefIdeal.main_arg4) = m ((c.tc : Thread Cert.Cross1024RefIdeal.nD Cert.Cross1024RefIdeal.τ).loc Cert.Cross1024RefIdeal.main_arg4))
      ∧ r.2.sem = fun _ => 0)

def quiescent_Cross1024RefIdeal_pre_bounded3_1024 [hCross1024RefIdeal : Cert.Cross1024RefIdeal.Facts] [hPre_bounded3_1024 : Cert.Pre_bounded3_1024.Facts] : Prop :=
  ∀ (m : (ℓ : Loc Cert.Cross1024RefIdeal.nD Cert.Cross1024RefIdeal.τ Cert.Cross1024RefIdeal.sig) → Buf (Elt Ideal) ℓ) (g : Dev Cert.Cross1024RefIdeal.nD → PrngReg), Pre_Cross1024RefIdeal_bounded3_1024 m →
    θ_run (Cert.Cross1024RefIdeal.defs (F := Ideal)) (onTc (τ := Cert.Cross1024RefIdeal.τ) (Cert.Cross1024RefIdeal.main (F := Ideal))) ⟨m, fun _ => 0, g⟩ (fun r => (∀ c : Dev Cert.Cross1024RefIdeal.nD,
      r.2.mem ((c.tc : Thread Cert.Cross1024RefIdeal.nD Cert.Cross1024RefIdeal.τ).loc Cert.Cross1024RefIdeal.main_arg0) = m ((c.tc : Thread Cert.Cross1024RefIdeal.nD Cert.Cross1024RefIdeal.τ).loc Cert.Cross1024RefIdeal.main_arg0)
      ∧ r.2.mem ((c.tc : Thread Cert.Cross1024RefIdeal.nD Cert.Cross1024RefIdeal.τ).loc Cert.Cross1024RefIdeal.main_arg1) = m ((c.tc : Thread Cert.Cross1024RefIdeal.nD Cert.Cross1024RefIdeal.τ).loc Cert.Cross1024RefIdeal.main_arg1)
      ∧ r.2.mem ((c.tc : Thread Cert.Cross1024RefIdeal.nD Cert.Cross1024RefIdeal.τ).loc Cert.Cross1024RefIdeal.main_arg2) = m ((c.tc : Thread Cert.Cross1024RefIdeal.nD Cert.Cross1024RefIdeal.τ).loc Cert.Cross1024RefIdeal.main_arg2)
      ∧ r.2.mem ((c.tc : Thread Cert.Cross1024RefIdeal.nD Cert.Cross1024RefIdeal.τ).loc Cert.Cross1024RefIdeal.main_arg3) = m ((c.tc : Thread Cert.Cross1024RefIdeal.nD Cert.Cross1024RefIdeal.τ).loc Cert.Cross1024RefIdeal.main_arg3)
      ∧ r.2.mem ((c.tc : Thread Cert.Cross1024RefIdeal.nD Cert.Cross1024RefIdeal.τ).loc Cert.Cross1024RefIdeal.main_arg4) = m ((c.tc : Thread Cert.Cross1024RefIdeal.nD Cert.Cross1024RefIdeal.τ).loc Cert.Cross1024RefIdeal.main_arg4))
      ∧ r.2.sem = fun _ => 0)

def quiescent_Curv512 [hCurv512 : Cert.Curv512.Facts] : Prop :=
  ∀ (m : (ℓ : Loc Cert.Curv512.nD Cert.Curv512.τ Cert.Curv512.sig) → Buf (Elt Bits) ℓ) (g : Dev Cert.Curv512.nD → PrngReg), Pre_Curv512 m →
    θ_run (Cert.Curv512.defs (F := Bits)) (onTc (τ := Cert.Curv512.τ) (Cert.Curv512.main (F := Bits))) ⟨m, fun _ => 0, g⟩ (fun r => (∀ c : Dev Cert.Curv512.nD,
      r.2.mem ((c.tc : Thread Cert.Curv512.nD Cert.Curv512.τ).loc Cert.Curv512.main_arg0) = m ((c.tc : Thread Cert.Curv512.nD Cert.Curv512.τ).loc Cert.Curv512.main_arg0))
      ∧ r.2.sem = fun _ => 0)

def quiescent_Curv512Ideal [hCurv512Ideal : Cert.Curv512Ideal.Facts] : Prop :=
  ∀ (m : (ℓ : Loc Cert.Curv512Ideal.nD Cert.Curv512Ideal.τ Cert.Curv512Ideal.sig) → Buf (Elt Ideal) ℓ) (g : Dev Cert.Curv512Ideal.nD → PrngReg), Pre_Curv512Ideal m →
    θ_run (Cert.Curv512Ideal.defs (F := Ideal)) (onTc (τ := Cert.Curv512Ideal.τ) (Cert.Curv512Ideal.main (F := Ideal))) ⟨m, fun _ => 0, g⟩ (fun r => (∀ c : Dev Cert.Curv512Ideal.nD,
      r.2.mem ((c.tc : Thread Cert.Curv512Ideal.nD Cert.Curv512Ideal.τ).loc Cert.Curv512Ideal.main_arg0) = m ((c.tc : Thread Cert.Curv512Ideal.nD Cert.Curv512Ideal.τ).loc Cert.Curv512Ideal.main_arg0))
      ∧ r.2.sem = fun _ => 0)

def quiescent_Curv512Ideal_pre_bounded_512 [hCurv512Ideal : Cert.Curv512Ideal.Facts] [hPre_bounded_512 : Cert.Pre_bounded_512.Facts] : Prop :=
  ∀ (m : (ℓ : Loc Cert.Curv512Ideal.nD Cert.Curv512Ideal.τ Cert.Curv512Ideal.sig) → Buf (Elt Ideal) ℓ) (g : Dev Cert.Curv512Ideal.nD → PrngReg), Pre_Curv512Ideal_bounded_512 m →
    θ_run (Cert.Curv512Ideal.defs (F := Ideal)) (onTc (τ := Cert.Curv512Ideal.τ) (Cert.Curv512Ideal.main (F := Ideal))) ⟨m, fun _ => 0, g⟩ (fun r => (∀ c : Dev Cert.Curv512Ideal.nD,
      r.2.mem ((c.tc : Thread Cert.Curv512Ideal.nD Cert.Curv512Ideal.τ).loc Cert.Curv512Ideal.main_arg0) = m ((c.tc : Thread Cert.Curv512Ideal.nD Cert.Curv512Ideal.τ).loc Cert.Curv512Ideal.main_arg0))
      ∧ r.2.sem = fun _ => 0)

def quiescent_Curv512RefIdeal [hCurv512RefIdeal : Cert.Curv512RefIdeal.Facts] : Prop :=
  ∀ (m : (ℓ : Loc Cert.Curv512RefIdeal.nD Cert.Curv512RefIdeal.τ Cert.Curv512RefIdeal.sig) → Buf (Elt Ideal) ℓ) (g : Dev Cert.Curv512RefIdeal.nD → PrngReg), Pre_Curv512RefIdeal m →
    θ_run (Cert.Curv512RefIdeal.defs (F := Ideal)) (onTc (τ := Cert.Curv512RefIdeal.τ) (Cert.Curv512RefIdeal.main (F := Ideal))) ⟨m, fun _ => 0, g⟩ (fun r => (∀ c : Dev Cert.Curv512RefIdeal.nD,
      r.2.mem ((c.tc : Thread Cert.Curv512RefIdeal.nD Cert.Curv512RefIdeal.τ).loc Cert.Curv512RefIdeal.main_arg0) = m ((c.tc : Thread Cert.Curv512RefIdeal.nD Cert.Curv512RefIdeal.τ).loc Cert.Curv512RefIdeal.main_arg0))
      ∧ r.2.sem = fun _ => 0)

def quiescent_Curv512RefIdeal_pre_bounded_512 [hCurv512RefIdeal : Cert.Curv512RefIdeal.Facts] [hPre_bounded_512 : Cert.Pre_bounded_512.Facts] : Prop :=
  ∀ (m : (ℓ : Loc Cert.Curv512RefIdeal.nD Cert.Curv512RefIdeal.τ Cert.Curv512RefIdeal.sig) → Buf (Elt Ideal) ℓ) (g : Dev Cert.Curv512RefIdeal.nD → PrngReg), Pre_Curv512RefIdeal_bounded_512 m →
    θ_run (Cert.Curv512RefIdeal.defs (F := Ideal)) (onTc (τ := Cert.Curv512RefIdeal.τ) (Cert.Curv512RefIdeal.main (F := Ideal))) ⟨m, fun _ => 0, g⟩ (fun r => (∀ c : Dev Cert.Curv512RefIdeal.nD,
      r.2.mem ((c.tc : Thread Cert.Curv512RefIdeal.nD Cert.Curv512RefIdeal.τ).loc Cert.Curv512RefIdeal.main_arg0) = m ((c.tc : Thread Cert.Curv512RefIdeal.nD Cert.Curv512RefIdeal.τ).loc Cert.Curv512RefIdeal.main_arg0))
      ∧ r.2.sem = fun _ => 0)

def quiescent_Smooth512 [hSmooth512 : Cert.Smooth512.Facts] : Prop :=
  ∀ (m : (ℓ : Loc Cert.Smooth512.nD Cert.Smooth512.τ Cert.Smooth512.sig) → Buf (Elt Bits) ℓ) (g : Dev Cert.Smooth512.nD → PrngReg), Pre_Smooth512 m →
    θ_run (Cert.Smooth512.defs (F := Bits)) (onTc (τ := Cert.Smooth512.τ) (Cert.Smooth512.main (F := Bits))) ⟨m, fun _ => 0, g⟩ (fun r => (∀ c : Dev Cert.Smooth512.nD,
      r.2.mem ((c.tc : Thread Cert.Smooth512.nD Cert.Smooth512.τ).loc Cert.Smooth512.main_arg0) = m ((c.tc : Thread Cert.Smooth512.nD Cert.Smooth512.τ).loc Cert.Smooth512.main_arg0)
      ∧ r.2.mem ((c.tc : Thread Cert.Smooth512.nD Cert.Smooth512.τ).loc Cert.Smooth512.main_arg1) = m ((c.tc : Thread Cert.Smooth512.nD Cert.Smooth512.τ).loc Cert.Smooth512.main_arg1))
      ∧ r.2.sem = fun _ => 0)

def quiescent_Smooth512Ideal [hSmooth512Ideal : Cert.Smooth512Ideal.Facts] : Prop :=
  ∀ (m : (ℓ : Loc Cert.Smooth512Ideal.nD Cert.Smooth512Ideal.τ Cert.Smooth512Ideal.sig) → Buf (Elt Ideal) ℓ) (g : Dev Cert.Smooth512Ideal.nD → PrngReg), Pre_Smooth512Ideal m →
    θ_run (Cert.Smooth512Ideal.defs (F := Ideal)) (onTc (τ := Cert.Smooth512Ideal.τ) (Cert.Smooth512Ideal.main (F := Ideal))) ⟨m, fun _ => 0, g⟩ (fun r => (∀ c : Dev Cert.Smooth512Ideal.nD,
      r.2.mem ((c.tc : Thread Cert.Smooth512Ideal.nD Cert.Smooth512Ideal.τ).loc Cert.Smooth512Ideal.main_arg0) = m ((c.tc : Thread Cert.Smooth512Ideal.nD Cert.Smooth512Ideal.τ).loc Cert.Smooth512Ideal.main_arg0)
      ∧ r.2.mem ((c.tc : Thread Cert.Smooth512Ideal.nD Cert.Smooth512Ideal.τ).loc Cert.Smooth512Ideal.main_arg1) = m ((c.tc : Thread Cert.Smooth512Ideal.nD Cert.Smooth512Ideal.τ).loc Cert.Smooth512Ideal.main_arg1))
      ∧ r.2.sem = fun _ => 0)

def quiescent_Smooth512Ideal_pre_bounded2_512 [hSmooth512Ideal : Cert.Smooth512Ideal.Facts] [hPre_bounded2_512 : Cert.Pre_bounded2_512.Facts] : Prop :=
  ∀ (m : (ℓ : Loc Cert.Smooth512Ideal.nD Cert.Smooth512Ideal.τ Cert.Smooth512Ideal.sig) → Buf (Elt Ideal) ℓ) (g : Dev Cert.Smooth512Ideal.nD → PrngReg), Pre_Smooth512Ideal_bounded2_512 m →
    θ_run (Cert.Smooth512Ideal.defs (F := Ideal)) (onTc (τ := Cert.Smooth512Ideal.τ) (Cert.Smooth512Ideal.main (F := Ideal))) ⟨m, fun _ => 0, g⟩ (fun r => (∀ c : Dev Cert.Smooth512Ideal.nD,
      r.2.mem ((c.tc : Thread Cert.Smooth512Ideal.nD Cert.Smooth512Ideal.τ).loc Cert.Smooth512Ideal.main_arg0) = m ((c.tc : Thread Cert.Smooth512Ideal.nD Cert.Smooth512Ideal.τ).loc Cert.Smooth512Ideal.main_arg0)
      ∧ r.2.mem ((c.tc : Thread Cert.Smooth512Ideal.nD Cert.Smooth512Ideal.τ).loc Cert.Smooth512Ideal.main_arg1) = m ((c.tc : Thread Cert.Smooth512Ideal.nD Cert.Smooth512Ideal.τ).loc Cert.Smooth512Ideal.main_arg1))
      ∧ r.2.sem = fun _ => 0)

def quiescent_Smooth512RefIdeal [hSmooth512RefIdeal : Cert.Smooth512RefIdeal.Facts] : Prop :=
  ∀ (m : (ℓ : Loc Cert.Smooth512RefIdeal.nD Cert.Smooth512RefIdeal.τ Cert.Smooth512RefIdeal.sig) → Buf (Elt Ideal) ℓ) (g : Dev Cert.Smooth512RefIdeal.nD → PrngReg), Pre_Smooth512RefIdeal m →
    θ_run (Cert.Smooth512RefIdeal.defs (F := Ideal)) (onTc (τ := Cert.Smooth512RefIdeal.τ) (Cert.Smooth512RefIdeal.main (F := Ideal))) ⟨m, fun _ => 0, g⟩ (fun r => (∀ c : Dev Cert.Smooth512RefIdeal.nD,
      r.2.mem ((c.tc : Thread Cert.Smooth512RefIdeal.nD Cert.Smooth512RefIdeal.τ).loc Cert.Smooth512RefIdeal.main_arg0) = m ((c.tc : Thread Cert.Smooth512RefIdeal.nD Cert.Smooth512RefIdeal.τ).loc Cert.Smooth512RefIdeal.main_arg0)
      ∧ r.2.mem ((c.tc : Thread Cert.Smooth512RefIdeal.nD Cert.Smooth512RefIdeal.τ).loc Cert.Smooth512RefIdeal.main_arg1) = m ((c.tc : Thread Cert.Smooth512RefIdeal.nD Cert.Smooth512RefIdeal.τ).loc Cert.Smooth512RefIdeal.main_arg1))
      ∧ r.2.sem = fun _ => 0)

def quiescent_Smooth512RefIdeal_pre_bounded2_512 [hSmooth512RefIdeal : Cert.Smooth512RefIdeal.Facts] [hPre_bounded2_512 : Cert.Pre_bounded2_512.Facts] : Prop :=
  ∀ (m : (ℓ : Loc Cert.Smooth512RefIdeal.nD Cert.Smooth512RefIdeal.τ Cert.Smooth512RefIdeal.sig) → Buf (Elt Ideal) ℓ) (g : Dev Cert.Smooth512RefIdeal.nD → PrngReg), Pre_Smooth512RefIdeal_bounded2_512 m →
    θ_run (Cert.Smooth512RefIdeal.defs (F := Ideal)) (onTc (τ := Cert.Smooth512RefIdeal.τ) (Cert.Smooth512RefIdeal.main (F := Ideal))) ⟨m, fun _ => 0, g⟩ (fun r => (∀ c : Dev Cert.Smooth512RefIdeal.nD,
      r.2.mem ((c.tc : Thread Cert.Smooth512RefIdeal.nD Cert.Smooth512RefIdeal.τ).loc Cert.Smooth512RefIdeal.main_arg0) = m ((c.tc : Thread Cert.Smooth512RefIdeal.nD Cert.Smooth512RefIdeal.τ).loc Cert.Smooth512RefIdeal.main_arg0)
      ∧ r.2.mem ((c.tc : Thread Cert.Smooth512RefIdeal.nD Cert.Smooth512RefIdeal.τ).loc Cert.Smooth512RefIdeal.main_arg1) = m ((c.tc : Thread Cert.Smooth512RefIdeal.nD Cert.Smooth512RefIdeal.τ).loc Cert.Smooth512RefIdeal.main_arg1))
      ∧ r.2.sem = fun _ => 0)

def quiescent_Cross512 [hCross512 : Cert.Cross512.Facts] : Prop :=
  ∀ (m : (ℓ : Loc Cert.Cross512.nD Cert.Cross512.τ Cert.Cross512.sig) → Buf (Elt Bits) ℓ) (g : Dev Cert.Cross512.nD → PrngReg), Pre_Cross512 m →
    θ_run (Cert.Cross512.defs (F := Bits)) (onTc (τ := Cert.Cross512.τ) (Cert.Cross512.main (F := Bits))) ⟨m, fun _ => 0, g⟩ (fun r => (∀ c : Dev Cert.Cross512.nD,
      r.2.mem ((c.tc : Thread Cert.Cross512.nD Cert.Cross512.τ).loc Cert.Cross512.main_arg0) = m ((c.tc : Thread Cert.Cross512.nD Cert.Cross512.τ).loc Cert.Cross512.main_arg0)
      ∧ r.2.mem ((c.tc : Thread Cert.Cross512.nD Cert.Cross512.τ).loc Cert.Cross512.main_arg1) = m ((c.tc : Thread Cert.Cross512.nD Cert.Cross512.τ).loc Cert.Cross512.main_arg1)
      ∧ r.2.mem ((c.tc : Thread Cert.Cross512.nD Cert.Cross512.τ).loc Cert.Cross512.main_arg2) = m ((c.tc : Thread Cert.Cross512.nD Cert.Cross512.τ).loc Cert.Cross512.main_arg2)
      ∧ r.2.mem ((c.tc : Thread Cert.Cross512.nD Cert.Cross512.τ).loc Cert.Cross512.main_arg3) = m ((c.tc : Thread Cert.Cross512.nD Cert.Cross512.τ).loc Cert.Cross512.main_arg3)
      ∧ r.2.mem ((c.tc : Thread Cert.Cross512.nD Cert.Cross512.τ).loc Cert.Cross512.main_arg4) = m ((c.tc : Thread Cert.Cross512.nD Cert.Cross512.τ).loc Cert.Cross512.main_arg4))
      ∧ r.2.sem = fun _ => 0)

def quiescent_Cross512Ideal [hCross512Ideal : Cert.Cross512Ideal.Facts] : Prop :=
  ∀ (m : (ℓ : Loc Cert.Cross512Ideal.nD Cert.Cross512Ideal.τ Cert.Cross512Ideal.sig) → Buf (Elt Ideal) ℓ) (g : Dev Cert.Cross512Ideal.nD → PrngReg), Pre_Cross512Ideal m →
    θ_run (Cert.Cross512Ideal.defs (F := Ideal)) (onTc (τ := Cert.Cross512Ideal.τ) (Cert.Cross512Ideal.main (F := Ideal))) ⟨m, fun _ => 0, g⟩ (fun r => (∀ c : Dev Cert.Cross512Ideal.nD,
      r.2.mem ((c.tc : Thread Cert.Cross512Ideal.nD Cert.Cross512Ideal.τ).loc Cert.Cross512Ideal.main_arg0) = m ((c.tc : Thread Cert.Cross512Ideal.nD Cert.Cross512Ideal.τ).loc Cert.Cross512Ideal.main_arg0)
      ∧ r.2.mem ((c.tc : Thread Cert.Cross512Ideal.nD Cert.Cross512Ideal.τ).loc Cert.Cross512Ideal.main_arg1) = m ((c.tc : Thread Cert.Cross512Ideal.nD Cert.Cross512Ideal.τ).loc Cert.Cross512Ideal.main_arg1)
      ∧ r.2.mem ((c.tc : Thread Cert.Cross512Ideal.nD Cert.Cross512Ideal.τ).loc Cert.Cross512Ideal.main_arg2) = m ((c.tc : Thread Cert.Cross512Ideal.nD Cert.Cross512Ideal.τ).loc Cert.Cross512Ideal.main_arg2)
      ∧ r.2.mem ((c.tc : Thread Cert.Cross512Ideal.nD Cert.Cross512Ideal.τ).loc Cert.Cross512Ideal.main_arg3) = m ((c.tc : Thread Cert.Cross512Ideal.nD Cert.Cross512Ideal.τ).loc Cert.Cross512Ideal.main_arg3)
      ∧ r.2.mem ((c.tc : Thread Cert.Cross512Ideal.nD Cert.Cross512Ideal.τ).loc Cert.Cross512Ideal.main_arg4) = m ((c.tc : Thread Cert.Cross512Ideal.nD Cert.Cross512Ideal.τ).loc Cert.Cross512Ideal.main_arg4))
      ∧ r.2.sem = fun _ => 0)

def quiescent_Cross512Ideal_pre_bounded3_512 [hCross512Ideal : Cert.Cross512Ideal.Facts] [hPre_bounded3_512 : Cert.Pre_bounded3_512.Facts] : Prop :=
  ∀ (m : (ℓ : Loc Cert.Cross512Ideal.nD Cert.Cross512Ideal.τ Cert.Cross512Ideal.sig) → Buf (Elt Ideal) ℓ) (g : Dev Cert.Cross512Ideal.nD → PrngReg), Pre_Cross512Ideal_bounded3_512 m →
    θ_run (Cert.Cross512Ideal.defs (F := Ideal)) (onTc (τ := Cert.Cross512Ideal.τ) (Cert.Cross512Ideal.main (F := Ideal))) ⟨m, fun _ => 0, g⟩ (fun r => (∀ c : Dev Cert.Cross512Ideal.nD,
      r.2.mem ((c.tc : Thread Cert.Cross512Ideal.nD Cert.Cross512Ideal.τ).loc Cert.Cross512Ideal.main_arg0) = m ((c.tc : Thread Cert.Cross512Ideal.nD Cert.Cross512Ideal.τ).loc Cert.Cross512Ideal.main_arg0)
      ∧ r.2.mem ((c.tc : Thread Cert.Cross512Ideal.nD Cert.Cross512Ideal.τ).loc Cert.Cross512Ideal.main_arg1) = m ((c.tc : Thread Cert.Cross512Ideal.nD Cert.Cross512Ideal.τ).loc Cert.Cross512Ideal.main_arg1)
      ∧ r.2.mem ((c.tc : Thread Cert.Cross512Ideal.nD Cert.Cross512Ideal.τ).loc Cert.Cross512Ideal.main_arg2) = m ((c.tc : Thread Cert.Cross512Ideal.nD Cert.Cross512Ideal.τ).loc Cert.Cross512Ideal.main_arg2)
      ∧ r.2.mem ((c.tc : Thread Cert.Cross512Ideal.nD Cert.Cross512Ideal.τ).loc Cert.Cross512Ideal.main_arg3) = m ((c.tc : Thread Cert.Cross512Ideal.nD Cert.Cross512Ideal.τ).loc Cert.Cross512Ideal.main_arg3)
      ∧ r.2.mem ((c.tc : Thread Cert.Cross512Ideal.nD Cert.Cross512Ideal.τ).loc Cert.Cross512Ideal.main_arg4) = m ((c.tc : Thread Cert.Cross512Ideal.nD Cert.Cross512Ideal.τ).loc Cert.Cross512Ideal.main_arg4))
      ∧ r.2.sem = fun _ => 0)

def quiescent_Cross512RefIdeal [hCross512RefIdeal : Cert.Cross512RefIdeal.Facts] : Prop :=
  ∀ (m : (ℓ : Loc Cert.Cross512RefIdeal.nD Cert.Cross512RefIdeal.τ Cert.Cross512RefIdeal.sig) → Buf (Elt Ideal) ℓ) (g : Dev Cert.Cross512RefIdeal.nD → PrngReg), Pre_Cross512RefIdeal m →
    θ_run (Cert.Cross512RefIdeal.defs (F := Ideal)) (onTc (τ := Cert.Cross512RefIdeal.τ) (Cert.Cross512RefIdeal.main (F := Ideal))) ⟨m, fun _ => 0, g⟩ (fun r => (∀ c : Dev Cert.Cross512RefIdeal.nD,
      r.2.mem ((c.tc : Thread Cert.Cross512RefIdeal.nD Cert.Cross512RefIdeal.τ).loc Cert.Cross512RefIdeal.main_arg0) = m ((c.tc : Thread Cert.Cross512RefIdeal.nD Cert.Cross512RefIdeal.τ).loc Cert.Cross512RefIdeal.main_arg0)
      ∧ r.2.mem ((c.tc : Thread Cert.Cross512RefIdeal.nD Cert.Cross512RefIdeal.τ).loc Cert.Cross512RefIdeal.main_arg1) = m ((c.tc : Thread Cert.Cross512RefIdeal.nD Cert.Cross512RefIdeal.τ).loc Cert.Cross512RefIdeal.main_arg1)
      ∧ r.2.mem ((c.tc : Thread Cert.Cross512RefIdeal.nD Cert.Cross512RefIdeal.τ).loc Cert.Cross512RefIdeal.main_arg2) = m ((c.tc : Thread Cert.Cross512RefIdeal.nD Cert.Cross512RefIdeal.τ).loc Cert.Cross512RefIdeal.main_arg2)
      ∧ r.2.mem ((c.tc : Thread Cert.Cross512RefIdeal.nD Cert.Cross512RefIdeal.τ).loc Cert.Cross512RefIdeal.main_arg3) = m ((c.tc : Thread Cert.Cross512RefIdeal.nD Cert.Cross512RefIdeal.τ).loc Cert.Cross512RefIdeal.main_arg3)
      ∧ r.2.mem ((c.tc : Thread Cert.Cross512RefIdeal.nD Cert.Cross512RefIdeal.τ).loc Cert.Cross512RefIdeal.main_arg4) = m ((c.tc : Thread Cert.Cross512RefIdeal.nD Cert.Cross512RefIdeal.τ).loc Cert.Cross512RefIdeal.main_arg4))
      ∧ r.2.sem = fun _ => 0)

def quiescent_Cross512RefIdeal_pre_bounded3_512 [hCross512RefIdeal : Cert.Cross512RefIdeal.Facts] [hPre_bounded3_512 : Cert.Pre_bounded3_512.Facts] : Prop :=
  ∀ (m : (ℓ : Loc Cert.Cross512RefIdeal.nD Cert.Cross512RefIdeal.τ Cert.Cross512RefIdeal.sig) → Buf (Elt Ideal) ℓ) (g : Dev Cert.Cross512RefIdeal.nD → PrngReg), Pre_Cross512RefIdeal_bounded3_512 m →
    θ_run (Cert.Cross512RefIdeal.defs (F := Ideal)) (onTc (τ := Cert.Cross512RefIdeal.τ) (Cert.Cross512RefIdeal.main (F := Ideal))) ⟨m, fun _ => 0, g⟩ (fun r => (∀ c : Dev Cert.Cross512RefIdeal.nD,
      r.2.mem ((c.tc : Thread Cert.Cross512RefIdeal.nD Cert.Cross512RefIdeal.τ).loc Cert.Cross512RefIdeal.main_arg0) = m ((c.tc : Thread Cert.Cross512RefIdeal.nD Cert.Cross512RefIdeal.τ).loc Cert.Cross512RefIdeal.main_arg0)
      ∧ r.2.mem ((c.tc : Thread Cert.Cross512RefIdeal.nD Cert.Cross512RefIdeal.τ).loc Cert.Cross512RefIdeal.main_arg1) = m ((c.tc : Thread Cert.Cross512RefIdeal.nD Cert.Cross512RefIdeal.τ).loc Cert.Cross512RefIdeal.main_arg1)
      ∧ r.2.mem ((c.tc : Thread Cert.Cross512RefIdeal.nD Cert.Cross512RefIdeal.τ).loc Cert.Cross512RefIdeal.main_arg2) = m ((c.tc : Thread Cert.Cross512RefIdeal.nD Cert.Cross512RefIdeal.τ).loc Cert.Cross512RefIdeal.main_arg2)
      ∧ r.2.mem ((c.tc : Thread Cert.Cross512RefIdeal.nD Cert.Cross512RefIdeal.τ).loc Cert.Cross512RefIdeal.main_arg3) = m ((c.tc : Thread Cert.Cross512RefIdeal.nD Cert.Cross512RefIdeal.τ).loc Cert.Cross512RefIdeal.main_arg3)
      ∧ r.2.mem ((c.tc : Thread Cert.Cross512RefIdeal.nD Cert.Cross512RefIdeal.τ).loc Cert.Cross512RefIdeal.main_arg4) = m ((c.tc : Thread Cert.Cross512RefIdeal.nD Cert.Cross512RefIdeal.τ).loc Cert.Cross512RefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10)
      ∧ r.2.mem ((c.tc : Thread Cert.Last.nD Cert.Last.τ).loc Cert.Last.main_arg11) = m ((c.tc : Thread Cert.Last.nD Cert.Last.τ).loc Cert.Last.main_arg11)
      ∧ r.2.mem ((c.tc : Thread Cert.Last.nD Cert.Last.τ).loc Cert.Last.main_arg12) = m ((c.tc : Thread Cert.Last.nD Cert.Last.τ).loc Cert.Last.main_arg12)
      ∧ r.2.mem ((c.tc : Thread Cert.Last.nD Cert.Last.τ).loc Cert.Last.main_arg13) = m ((c.tc : Thread Cert.Last.nD Cert.Last.τ).loc Cert.Last.main_arg13)
      ∧ r.2.mem ((c.tc : Thread Cert.Last.nD Cert.Last.τ).loc Cert.Last.main_arg14) = m ((c.tc : Thread Cert.Last.nD Cert.Last.τ).loc Cert.Last.main_arg14))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
      ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
      ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
      ∧ r.2.mem ((c.tc : Thread Cert.LastIdeal.nD Cert.LastIdeal.τ).loc Cert.LastIdeal.main_arg14) = m ((c.tc : Thread Cert.LastIdeal.nD Cert.LastIdeal.τ).loc Cert.LastIdeal.main_arg14))
      ∧ r.2.sem = fun _ => 0)

def quiescent_LastIdeal_pre_bounded_last [hLastIdeal : Cert.LastIdeal.Facts] [hPre_bounded_last : Cert.Pre_bounded_last.Facts] : Prop :=
  ∀ (m : (ℓ : Loc Cert.LastIdeal.nD Cert.LastIdeal.τ Cert.LastIdeal.sig) → Buf (Elt Ideal) ℓ) (g : Dev Cert.LastIdeal.nD → PrngReg), Pre_LastIdeal_bounded_last m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
      ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
      ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
      ∧ r.2.mem ((c.tc : Thread Cert.LastIdeal.nD Cert.LastIdeal.τ).loc Cert.LastIdeal.main_arg14) = m ((c.tc : Thread Cert.LastIdeal.nD Cert.LastIdeal.τ).loc Cert.LastIdeal.main_arg14))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11)
      ∧ r.2.mem ((c.tc : Thread Cert.LastRefIdeal.nD Cert.LastRefIdeal.τ).loc Cert.LastRefIdeal.main_arg12) = m ((c.tc : Thread Cert.LastRefIdeal.nD Cert.LastRefIdeal.τ).loc Cert.LastRefIdeal.main_arg12)
      ∧ r.2.mem ((c.tc : Thread Cert.LastRefIdeal.nD Cert.LastRefIdeal.τ).loc Cert.LastRefIdeal.main_arg13) = m ((c.tc : Thread Cert.LastRefIdeal.nD Cert.LastRefIdeal.τ).loc Cert.LastRefIdeal.main_arg13)
      ∧ r.2.mem ((c.tc : Thread Cert.LastRefIdeal.nD Cert.LastRefIdeal.τ).loc Cert.LastRefIdeal.main_arg14) = m ((c.tc : Thread Cert.LastRefIdeal.nD Cert.LastRefIdeal.τ).loc Cert.LastRefIdeal.main_arg14))
      ∧ r.2.sem = fun _ => 0)

def quiescent_LastRefIdeal_pre_bounded_last [hLastRefIdeal : Cert.LastRefIdeal.Facts] [hPre_bounded_last : Cert.Pre_bounded_last.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_bounded_last m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11)
      ∧ r.2.mem ((c.tc : Thread Cert.LastRefIdeal.nD Cert.LastRefIdeal.τ).loc Cert.LastRefIdeal.main_arg12) = m ((c.tc : Thread Cert.LastRefIdeal.nD Cert.LastRefIdeal.τ).loc Cert.LastRefIdeal.main_arg12)
      ∧ r.2.mem ((c.tc : Thread Cert.LastRefIdeal.nD Cert.LastRefIdeal.τ).loc Cert.LastRefIdeal.main_arg13) = m ((c.tc : Thread Cert.LastRefIdeal.nD Cert.LastRefIdeal.τ).loc Cert.LastRefIdeal.main_arg13)
      ∧ r.2.mem ((c.tc : Thread Cert.LastRefIdeal.nD Cert.LastRefIdeal.τ).loc Cert.LastRefIdeal.main_arg14) = m ((c.tc : Thread Cert.LastRefIdeal.nD Cert.LastRefIdeal.τ).loc Cert.LastRefIdeal.main_arg14))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7)
      ∧ r.2.mem ((c.tc : Thread Cert.Final.nD Cert.Final.τ).loc Cert.Final.main_arg8) = m ((c.tc : Thread Cert.Final.nD Cert.Final.τ).loc Cert.Final.main_arg8)
      ∧ r.2.mem ((c.tc : Thread Cert.Final.nD Cert.Final.τ).loc Cert.Final.main_arg9) = m ((c.tc : Thread Cert.Final.nD Cert.Final.τ).loc Cert.Final.main_arg9)
      ∧ r.2.mem ((c.tc : Thread Cert.Final.nD Cert.Final.τ).loc Cert.Final.main_arg10) = m ((c.tc : Thread Cert.Final.nD Cert.Final.τ).loc Cert.Final.main_arg10)
      ∧ r.2.mem ((c.tc : Thread Cert.Final.nD Cert.Final.τ).loc Cert.Final.main_arg11) = m ((c.tc : Thread Cert.Final.nD Cert.Final.τ).loc Cert.Final.main_arg11))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
      ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11))
      ∧ r.2.sem = fun _ => 0)

def quiescent_FinalIdeal_pre_bounded_final [hFinalIdeal : Cert.FinalIdeal.Facts] [hPre_bounded_final : Cert.Pre_bounded_final.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_bounded_final m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
      ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
      ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
      ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
      ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7)
      ∧ r.2.mem ((c.tc : Thread Cert.FinalRefIdeal.nD Cert.FinalRefIdeal.τ).loc Cert.FinalRefIdeal.main_arg8) = m ((c.tc : Thread Cert.FinalRefIdeal.nD Cert.FinalRefIdeal.τ).loc Cert.FinalRefIdeal.main_arg8)
      ∧ r.2.mem ((c.tc : Thread Cert.FinalRefIdeal.nD Cert.FinalRefIdeal.τ).loc Cert.FinalRefIdeal.main_arg9) = m ((c.tc : Thread Cert.FinalRefIdeal.nD Cert.FinalRefIdeal.τ).loc Cert.FinalRefIdeal.main_arg9)
      ∧ r.2.mem ((c.tc : Thread Cert.FinalRefIdeal.nD Cert.FinalRefIdeal.τ).loc Cert.FinalRefIdeal.main_arg10) = m ((c.tc : Thread Cert.FinalRefIdeal.nD Cert.FinalRefIdeal.τ).loc Cert.FinalRefIdeal.main_arg10)
      ∧ r.2.mem ((c.tc : Thread Cert.FinalRefIdeal.nD Cert.FinalRefIdeal.τ).loc Cert.FinalRefIdeal.main_arg11) = m ((c.tc : Thread Cert.FinalRefIdeal.nD Cert.FinalRefIdeal.τ).loc Cert.FinalRefIdeal.main_arg11))
      ∧ r.2.sem = fun _ => 0)

def quiescent_FinalRefIdeal_pre_bounded_final [hFinalRefIdeal : Cert.FinalRefIdeal.Facts] [hPre_bounded_final : Cert.Pre_bounded_final.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_bounded_final m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7)
      ∧ r.2.mem ((c.tc : Thread Cert.FinalRefIdeal.nD Cert.FinalRefIdeal.τ).loc Cert.FinalRefIdeal.main_arg8) = m ((c.tc : Thread Cert.FinalRefIdeal.nD Cert.FinalRefIdeal.τ).loc Cert.FinalRefIdeal.main_arg8)
      ∧ r.2.mem ((c.tc : Thread Cert.FinalRefIdeal.nD Cert.FinalRefIdeal.τ).loc Cert.FinalRefIdeal.main_arg9) = m ((c.tc : Thread Cert.FinalRefIdeal.nD Cert.FinalRefIdeal.τ).loc Cert.FinalRefIdeal.main_arg9)
      ∧ r.2.mem ((c.tc : Thread Cert.FinalRefIdeal.nD Cert.FinalRefIdeal.τ).loc Cert.FinalRefIdeal.main_arg10) = m ((c.tc : Thread Cert.FinalRefIdeal.nD Cert.FinalRefIdeal.τ).loc Cert.FinalRefIdeal.main_arg10)
      ∧ r.2.mem ((c.tc : Thread Cert.FinalRefIdeal.nD Cert.FinalRefIdeal.τ).loc Cert.FinalRefIdeal.main_arg11) = m ((c.tc : Thread Cert.FinalRefIdeal.nD Cert.FinalRefIdeal.τ).loc Cert.FinalRefIdeal.main_arg11))
      ∧ r.2.sem = fun _ => 0)

def preserves_Curv_CurvIdeal : Prop :=
  True

def algebraic_CurvIdeal_CurvRefIdeal_pre_bounded [hCurvIdeal : Cert.CurvIdeal.Facts] [hCurvRefIdeal : Cert.CurvRefIdeal.Facts] [hPre_bounded : Cert.Pre_bounded.Facts] : Prop :=
  ∀ (m : (ℓ : Loc Cert.CurvIdeal.nD Cert.CurvIdeal.τ Cert.CurvIdeal.sig) → Buf (Elt Ideal) ℓ) (g : Dev Cert.CurvIdeal.nD → PrngReg)
    (m' : (ℓ : Loc Cert.CurvRefIdeal.nD Cert.CurvRefIdeal.τ Cert.CurvRefIdeal.sig) → Buf (Elt Ideal) ℓ) (g' : Dev Cert.CurvRefIdeal.nD → PrngReg), Pre_CurvIdeal_bounded m →
    (∀ c : Dev Cert.CurvIdeal.nD,
      m' ((c.tc : Thread Cert.CurvRefIdeal.nD Cert.CurvRefIdeal.τ).loc Cert.CurvRefIdeal.main_arg0) = m ((c.tc : Thread Cert.CurvIdeal.nD Cert.CurvIdeal.τ).loc Cert.CurvIdeal.main_arg0)) →
    ∃ (v0 : (c : Dev Cert.CurvIdeal.nD) → Buf (Elt Ideal) ((c.tc : Thread Cert.CurvIdeal.nD Cert.CurvIdeal.τ).loc Cert.CurvIdeal.main_v1)),
      θ_run (Cert.CurvIdeal.defs (F := Ideal)) (onTc (τ := Cert.CurvIdeal.τ) (Cert.CurvIdeal.main (F := Ideal))) ⟨m, fun _ => 0, g⟩ (fun r => ∀ c : Dev Cert.CurvIdeal.nD,
          r.2.mem ((c.tc : Thread Cert.CurvIdeal.nD Cert.CurvIdeal.τ).loc Cert.CurvIdeal.main_v1) = v0 c
          ∧ r.2.mem ((c.tc : Thread Cert.CurvIdeal.nD Cert.CurvIdeal.τ).loc Cert.CurvIdeal.main_arg0) = m ((c.tc : Thread Cert.CurvIdeal.nD Cert.CurvIdeal.τ).loc Cert.CurvIdeal.main_arg0))
      ∧ θ_run (Cert.CurvRefIdeal.defs (F := Ideal)) (onTc (τ := Cert.CurvRefIdeal.τ) (Cert.CurvRefIdeal.main (F := Ideal))) ⟨m', fun _ => 0, g'⟩ (fun r => ∀ c : Dev Cert.CurvRefIdeal.nD,
          r.2.mem ((c.tc : Thread Cert.CurvRefIdeal.nD Cert.CurvRefIdeal.τ).loc Cert.CurvRefIdeal.main_v22) = v0 c
          ∧ r.2.mem ((c.tc : Thread Cert.CurvRefIdeal.nD Cert.CurvRefIdeal.τ).loc Cert.CurvRefIdeal.main_arg0) = m' ((c.tc : Thread Cert.CurvRefIdeal.nD Cert.CurvRefIdeal.τ).loc Cert.CurvRefIdeal.main_arg0))

def preserves_Smooth_SmoothIdeal : Prop :=
  True

def algebraic_SmoothIdeal_SmoothRefIdeal_pre_bounded2 [hSmoothIdeal : Cert.SmoothIdeal.Facts] [hSmoothRefIdeal : Cert.SmoothRefIdeal.Facts] [hPre_bounded2 : Cert.Pre_bounded2.Facts] : Prop :=
  ∀ (m : (ℓ : Loc Cert.SmoothIdeal.nD Cert.SmoothIdeal.τ Cert.SmoothIdeal.sig) → Buf (Elt Ideal) ℓ) (g : Dev Cert.SmoothIdeal.nD → PrngReg)
    (m' : (ℓ : Loc Cert.SmoothRefIdeal.nD Cert.SmoothRefIdeal.τ Cert.SmoothRefIdeal.sig) → Buf (Elt Ideal) ℓ) (g' : Dev Cert.SmoothRefIdeal.nD → PrngReg), Pre_SmoothIdeal_bounded2 m →
    (∀ c : Dev Cert.SmoothIdeal.nD,
      m' ((c.tc : Thread Cert.SmoothRefIdeal.nD Cert.SmoothRefIdeal.τ).loc Cert.SmoothRefIdeal.main_arg0) = m ((c.tc : Thread Cert.SmoothIdeal.nD Cert.SmoothIdeal.τ).loc Cert.SmoothIdeal.main_arg0)
      ∧ m' ((c.tc : Thread Cert.SmoothRefIdeal.nD Cert.SmoothRefIdeal.τ).loc Cert.SmoothRefIdeal.main_arg1) = m ((c.tc : Thread Cert.SmoothIdeal.nD Cert.SmoothIdeal.τ).loc Cert.SmoothIdeal.main_arg1)) →
    ∃ (v0 : (c : Dev Cert.SmoothIdeal.nD) → Buf (Elt Ideal) ((c.tc : Thread Cert.SmoothIdeal.nD Cert.SmoothIdeal.τ).loc Cert.SmoothIdeal.main_v3_0)) (v1 : (c : Dev Cert.SmoothIdeal.nD) → Buf (Elt Ideal) ((c.tc : Thread Cert.SmoothIdeal.nD Cert.SmoothIdeal.τ).loc Cert.SmoothIdeal.main_v3_1)),
      θ_run (Cert.SmoothIdeal.defs (F := Ideal)) (onTc (τ := Cert.SmoothIdeal.τ) (Cert.SmoothIdeal.main (F := Ideal))) ⟨m, fun _ => 0, g⟩ (fun r => ∀ c : Dev Cert.SmoothIdeal.nD,
          r.2.mem ((c.tc : Thread Cert.SmoothIdeal.nD Cert.SmoothIdeal.τ).loc Cert.SmoothIdeal.main_v3_0) = v0 c
          ∧ r.2.mem ((c.tc : Thread Cert.SmoothIdeal.nD Cert.SmoothIdeal.τ).loc Cert.SmoothIdeal.main_v3_1) = v1 c
          ∧ r.2.mem ((c.tc : Thread Cert.SmoothIdeal.nD Cert.SmoothIdeal.τ).loc Cert.SmoothIdeal.main_arg0) = m ((c.tc : Thread Cert.SmoothIdeal.nD Cert.SmoothIdeal.τ).loc Cert.SmoothIdeal.main_arg0)
          ∧ r.2.mem ((c.tc : Thread Cert.SmoothIdeal.nD Cert.SmoothIdeal.τ).loc Cert.SmoothIdeal.main_arg1) = m ((c.tc : Thread Cert.SmoothIdeal.nD Cert.SmoothIdeal.τ).loc Cert.SmoothIdeal.main_arg1))
      ∧ θ_run (Cert.SmoothRefIdeal.defs (F := Ideal)) (onTc (τ := Cert.SmoothRefIdeal.τ) (Cert.SmoothRefIdeal.main (F := Ideal))) ⟨m', fun _ => 0, g'⟩ (fun r => ∀ c : Dev Cert.SmoothRefIdeal.nD,
          r.2.mem ((c.tc : Thread Cert.SmoothRefIdeal.nD Cert.SmoothRefIdeal.τ).loc Cert.SmoothRefIdeal.main_v27) = v0 c
          ∧ r.2.mem ((c.tc : Thread Cert.SmoothRefIdeal.nD Cert.SmoothRefIdeal.τ).loc Cert.SmoothRefIdeal.main_v52) = v1 c
          ∧ r.2.mem ((c.tc : Thread Cert.SmoothRefIdeal.nD Cert.SmoothRefIdeal.τ).loc Cert.SmoothRefIdeal.main_arg0) = m' ((c.tc : Thread Cert.SmoothRefIdeal.nD Cert.SmoothRefIdeal.τ).loc Cert.SmoothRefIdeal.main_arg0)
          ∧ r.2.mem ((c.tc : Thread Cert.SmoothRefIdeal.nD Cert.SmoothRefIdeal.τ).loc Cert.SmoothRefIdeal.main_arg1) = m' ((c.tc : Thread Cert.SmoothRefIdeal.nD Cert.SmoothRefIdeal.τ).loc Cert.SmoothRefIdeal.main_arg1))

def preserves_Cross_CrossIdeal : Prop :=
  True

def algebraic_CrossIdeal_CrossRefIdeal_pre_bounded3 [hCrossIdeal : Cert.CrossIdeal.Facts] [hCrossRefIdeal : Cert.CrossRefIdeal.Facts] [hPre_bounded3 : Cert.Pre_bounded3.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_bounded3 m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v3_0)) (v1 : (c : Dev Cert.CrossIdeal.nD) → Buf (Elt Ideal) ((c.tc : Thread Cert.CrossIdeal.nD Cert.CrossIdeal.τ).loc Cert.CrossIdeal.main_v3_1)) (v2 : (c : Dev Cert.CrossIdeal.nD) → Buf (Elt Ideal) ((c.tc : Thread Cert.CrossIdeal.nD Cert.CrossIdeal.τ).loc Cert.CrossIdeal.main_v3_2)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3_0) = v0 c
          ∧ r.2.mem ((c.tc : Thread Cert.CrossIdeal.nD Cert.CrossIdeal.τ).loc Cert.CrossIdeal.main_v3_1) = v1 c
          ∧ r.2.mem ((c.tc : Thread Cert.CrossIdeal.nD Cert.CrossIdeal.τ).loc Cert.CrossIdeal.main_v3_2) = v2 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v62) = v0 c
          ∧ r.2.mem ((c.tc : Thread Cert.CrossRefIdeal.nD Cert.CrossRefIdeal.τ).loc Cert.CrossRefIdeal.main_v63) = v1 c
          ∧ r.2.mem ((c.tc : Thread Cert.CrossRefIdeal.nD Cert.CrossRefIdeal.τ).loc Cert.CrossRefIdeal.main_v64) = v2 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_Curv2048_Curv2048Ideal : Prop :=
  True

def algebraic_Curv2048Ideal_Curv2048RefIdeal_pre_bounded_2048 [hCurv2048Ideal : Cert.Curv2048Ideal.Facts] [hCurv2048RefIdeal : Cert.Curv2048RefIdeal.Facts] [hPre_bounded_2048 : Cert.Pre_bounded_2048.Facts] : Prop :=
  ∀ (m : (ℓ : Loc Cert.Curv2048Ideal.nD Cert.Curv2048Ideal.τ Cert.Curv2048Ideal.sig) → Buf (Elt Ideal) ℓ) (g : Dev Cert.Curv2048Ideal.nD → PrngReg)
    (m' : (ℓ : Loc Cert.Curv2048RefIdeal.nD Cert.Curv2048RefIdeal.τ Cert.Curv2048RefIdeal.sig) → Buf (Elt Ideal) ℓ) (g' : Dev Cert.Curv2048RefIdeal.nD → PrngReg), Pre_Curv2048Ideal_bounded_2048 m →
    (∀ c : Dev Cert.Curv2048Ideal.nD,
      m' ((c.tc : Thread Cert.Curv2048RefIdeal.nD Cert.Curv2048RefIdeal.τ).loc Cert.Curv2048RefIdeal.main_arg0) = m ((c.tc : Thread Cert.Curv2048Ideal.nD Cert.Curv2048Ideal.τ).loc Cert.Curv2048Ideal.main_arg0)) →
    ∃ (v0 : (c : Dev Cert.Curv2048Ideal.nD) → Buf (Elt Ideal) ((c.tc : Thread Cert.Curv2048Ideal.nD Cert.Curv2048Ideal.τ).loc Cert.Curv2048Ideal.main_v1)),
      θ_run (Cert.Curv2048Ideal.defs (F := Ideal)) (onTc (τ := Cert.Curv2048Ideal.τ) (Cert.Curv2048Ideal.main (F := Ideal))) ⟨m, fun _ => 0, g⟩ (fun r => ∀ c : Dev Cert.Curv2048Ideal.nD,
          r.2.mem ((c.tc : Thread Cert.Curv2048Ideal.nD Cert.Curv2048Ideal.τ).loc Cert.Curv2048Ideal.main_v1) = v0 c
          ∧ r.2.mem ((c.tc : Thread Cert.Curv2048Ideal.nD Cert.Curv2048Ideal.τ).loc Cert.Curv2048Ideal.main_arg0) = m ((c.tc : Thread Cert.Curv2048Ideal.nD Cert.Curv2048Ideal.τ).loc Cert.Curv2048Ideal.main_arg0))
      ∧ θ_run (Cert.Curv2048RefIdeal.defs (F := Ideal)) (onTc (τ := Cert.Curv2048RefIdeal.τ) (Cert.Curv2048RefIdeal.main (F := Ideal))) ⟨m', fun _ => 0, g'⟩ (fun r => ∀ c : Dev Cert.Curv2048RefIdeal.nD,
          r.2.mem ((c.tc : Thread Cert.Curv2048RefIdeal.nD Cert.Curv2048RefIdeal.τ).loc Cert.Curv2048RefIdeal.main_v22) = v0 c
          ∧ r.2.mem ((c.tc : Thread Cert.Curv2048RefIdeal.nD Cert.Curv2048RefIdeal.τ).loc Cert.Curv2048RefIdeal.main_arg0) = m' ((c.tc : Thread Cert.Curv2048RefIdeal.nD Cert.Curv2048RefIdeal.τ).loc Cert.Curv2048RefIdeal.main_arg0))

def preserves_Smooth2048_Smooth2048Ideal : Prop :=
  True

def algebraic_Smooth2048Ideal_Smooth2048RefIdeal_pre_bounded2_2048 [hSmooth2048Ideal : Cert.Smooth2048Ideal.Facts] [hSmooth2048RefIdeal : Cert.Smooth2048RefIdeal.Facts] [hPre_bounded2_2048 : Cert.Pre_bounded2_2048.Facts] : Prop :=
  ∀ (m : (ℓ : Loc Cert.Smooth2048Ideal.nD Cert.Smooth2048Ideal.τ Cert.Smooth2048Ideal.sig) → Buf (Elt Ideal) ℓ) (g : Dev Cert.Smooth2048Ideal.nD → PrngReg)
    (m' : (ℓ : Loc Cert.Smooth2048RefIdeal.nD Cert.Smooth2048RefIdeal.τ Cert.Smooth2048RefIdeal.sig) → Buf (Elt Ideal) ℓ) (g' : Dev Cert.Smooth2048RefIdeal.nD → PrngReg), Pre_Smooth2048Ideal_bounded2_2048 m →
    (∀ c : Dev Cert.Smooth2048Ideal.nD,
      m' ((c.tc : Thread Cert.Smooth2048RefIdeal.nD Cert.Smooth2048RefIdeal.τ).loc Cert.Smooth2048RefIdeal.main_arg0) = m ((c.tc : Thread Cert.Smooth2048Ideal.nD Cert.Smooth2048Ideal.τ).loc Cert.Smooth2048Ideal.main_arg0)
      ∧ m' ((c.tc : Thread Cert.Smooth2048RefIdeal.nD Cert.Smooth2048RefIdeal.τ).loc Cert.Smooth2048RefIdeal.main_arg1) = m ((c.tc : Thread Cert.Smooth2048Ideal.nD Cert.Smooth2048Ideal.τ).loc Cert.Smooth2048Ideal.main_arg1)) →
    ∃ (v0 : (c : Dev Cert.Smooth2048Ideal.nD) → Buf (Elt Ideal) ((c.tc : Thread Cert.Smooth2048Ideal.nD Cert.Smooth2048Ideal.τ).loc Cert.Smooth2048Ideal.main_v3_0)) (v1 : (c : Dev Cert.Smooth2048Ideal.nD) → Buf (Elt Ideal) ((c.tc : Thread Cert.Smooth2048Ideal.nD Cert.Smooth2048Ideal.τ).loc Cert.Smooth2048Ideal.main_v3_1)),
      θ_run (Cert.Smooth2048Ideal.defs (F := Ideal)) (onTc (τ := Cert.Smooth2048Ideal.τ) (Cert.Smooth2048Ideal.main (F := Ideal))) ⟨m, fun _ => 0, g⟩ (fun r => ∀ c : Dev Cert.Smooth2048Ideal.nD,
          r.2.mem ((c.tc : Thread Cert.Smooth2048Ideal.nD Cert.Smooth2048Ideal.τ).loc Cert.Smooth2048Ideal.main_v3_0) = v0 c
          ∧ r.2.mem ((c.tc : Thread Cert.Smooth2048Ideal.nD Cert.Smooth2048Ideal.τ).loc Cert.Smooth2048Ideal.main_v3_1) = v1 c
          ∧ r.2.mem ((c.tc : Thread Cert.Smooth2048Ideal.nD Cert.Smooth2048Ideal.τ).loc Cert.Smooth2048Ideal.main_arg0) = m ((c.tc : Thread Cert.Smooth2048Ideal.nD Cert.Smooth2048Ideal.τ).loc Cert.Smooth2048Ideal.main_arg0)
          ∧ r.2.mem ((c.tc : Thread Cert.Smooth2048Ideal.nD Cert.Smooth2048Ideal.τ).loc Cert.Smooth2048Ideal.main_arg1) = m ((c.tc : Thread Cert.Smooth2048Ideal.nD Cert.Smooth2048Ideal.τ).loc Cert.Smooth2048Ideal.main_arg1))
      ∧ θ_run (Cert.Smooth2048RefIdeal.defs (F := Ideal)) (onTc (τ := Cert.Smooth2048RefIdeal.τ) (Cert.Smooth2048RefIdeal.main (F := Ideal))) ⟨m', fun _ => 0, g'⟩ (fun r => ∀ c : Dev Cert.Smooth2048RefIdeal.nD,
          r.2.mem ((c.tc : Thread Cert.Smooth2048RefIdeal.nD Cert.Smooth2048RefIdeal.τ).loc Cert.Smooth2048RefIdeal.main_v27) = v0 c
          ∧ r.2.mem ((c.tc : Thread Cert.Smooth2048RefIdeal.nD Cert.Smooth2048RefIdeal.τ).loc Cert.Smooth2048RefIdeal.main_v52) = v1 c
          ∧ r.2.mem ((c.tc : Thread Cert.Smooth2048RefIdeal.nD Cert.Smooth2048RefIdeal.τ).loc Cert.Smooth2048RefIdeal.main_arg0) = m' ((c.tc : Thread Cert.Smooth2048RefIdeal.nD Cert.Smooth2048RefIdeal.τ).loc Cert.Smooth2048RefIdeal.main_arg0)
          ∧ r.2.mem ((c.tc : Thread Cert.Smooth2048RefIdeal.nD Cert.Smooth2048RefIdeal.τ).loc Cert.Smooth2048RefIdeal.main_arg1) = m' ((c.tc : Thread Cert.Smooth2048RefIdeal.nD Cert.Smooth2048RefIdeal.τ).loc Cert.Smooth2048RefIdeal.main_arg1))

def preserves_Cross2048_Cross2048Ideal : Prop :=
  True

def algebraic_Cross2048Ideal_Cross2048RefIdeal_pre_bounded3_2048 [hCross2048Ideal : Cert.Cross2048Ideal.Facts] [hCross2048RefIdeal : Cert.Cross2048RefIdeal.Facts] [hPre_bounded3_2048 : Cert.Pre_bounded3_2048.Facts] : Prop :=
  ∀ (m : (ℓ : Loc Cert.Cross2048Ideal.nD Cert.Cross2048Ideal.τ Cert.Cross2048Ideal.sig) → Buf (Elt Ideal) ℓ) (g : Dev Cert.Cross2048Ideal.nD → PrngReg)
    (m' : (ℓ : Loc Cert.Cross2048RefIdeal.nD Cert.Cross2048RefIdeal.τ Cert.Cross2048RefIdeal.sig) → Buf (Elt Ideal) ℓ) (g' : Dev Cert.Cross2048RefIdeal.nD → PrngReg), Pre_Cross2048Ideal_bounded3_2048 m →
    (∀ c : Dev Cert.Cross2048Ideal.nD,
      m' ((c.tc : Thread Cert.Cross2048RefIdeal.nD Cert.Cross2048RefIdeal.τ).loc Cert.Cross2048RefIdeal.main_arg0) = m ((c.tc : Thread Cert.Cross2048Ideal.nD Cert.Cross2048Ideal.τ).loc Cert.Cross2048Ideal.main_arg0)
      ∧ m' ((c.tc : Thread Cert.Cross2048RefIdeal.nD Cert.Cross2048RefIdeal.τ).loc Cert.Cross2048RefIdeal.main_arg1) = m ((c.tc : Thread Cert.Cross2048Ideal.nD Cert.Cross2048Ideal.τ).loc Cert.Cross2048Ideal.main_arg1)
      ∧ m' ((c.tc : Thread Cert.Cross2048RefIdeal.nD Cert.Cross2048RefIdeal.τ).loc Cert.Cross2048RefIdeal.main_arg2) = m ((c.tc : Thread Cert.Cross2048Ideal.nD Cert.Cross2048Ideal.τ).loc Cert.Cross2048Ideal.main_arg2)
      ∧ m' ((c.tc : Thread Cert.Cross2048RefIdeal.nD Cert.Cross2048RefIdeal.τ).loc Cert.Cross2048RefIdeal.main_arg3) = m ((c.tc : Thread Cert.Cross2048Ideal.nD Cert.Cross2048Ideal.τ).loc Cert.Cross2048Ideal.main_arg3)
      ∧ m' ((c.tc : Thread Cert.Cross2048RefIdeal.nD Cert.Cross2048RefIdeal.τ).loc Cert.Cross2048RefIdeal.main_arg4) = m ((c.tc : Thread Cert.Cross2048Ideal.nD Cert.Cross2048Ideal.τ).loc Cert.Cross2048Ideal.main_arg4)) →
    ∃ (v0 : (c : Dev Cert.Cross2048Ideal.nD) → Buf (Elt Ideal) ((c.tc : Thread Cert.Cross2048Ideal.nD Cert.Cross2048Ideal.τ).loc Cert.Cross2048Ideal.main_v3_0)) (v1 : (c : Dev Cert.Cross2048Ideal.nD) → Buf (Elt Ideal) ((c.tc : Thread Cert.Cross2048Ideal.nD Cert.Cross2048Ideal.τ).loc Cert.Cross2048Ideal.main_v3_1)) (v2 : (c : Dev Cert.Cross2048Ideal.nD) → Buf (Elt Ideal) ((c.tc : Thread Cert.Cross2048Ideal.nD Cert.Cross2048Ideal.τ).loc Cert.Cross2048Ideal.main_v3_2)),
      θ_run (Cert.Cross2048Ideal.defs (F := Ideal)) (onTc (τ := Cert.Cross2048Ideal.τ) (Cert.Cross2048Ideal.main (F := Ideal))) ⟨m, fun _ => 0, g⟩ (fun r => ∀ c : Dev Cert.Cross2048Ideal.nD,
          r.2.mem ((c.tc : Thread Cert.Cross2048Ideal.nD Cert.Cross2048Ideal.τ).loc Cert.Cross2048Ideal.main_v3_0) = v0 c
          ∧ r.2.mem ((c.tc : Thread Cert.Cross2048Ideal.nD Cert.Cross2048Ideal.τ).loc Cert.Cross2048Ideal.main_v3_1) = v1 c
          ∧ r.2.mem ((c.tc : Thread Cert.Cross2048Ideal.nD Cert.Cross2048Ideal.τ).loc Cert.Cross2048Ideal.main_v3_2) = v2 c
          ∧ r.2.mem ((c.tc : Thread Cert.Cross2048Ideal.nD Cert.Cross2048Ideal.τ).loc Cert.Cross2048Ideal.main_arg0) = m ((c.tc : Thread Cert.Cross2048Ideal.nD Cert.Cross2048Ideal.τ).loc Cert.Cross2048Ideal.main_arg0)
          ∧ r.2.mem ((c.tc : Thread Cert.Cross2048Ideal.nD Cert.Cross2048Ideal.τ).loc Cert.Cross2048Ideal.main_arg1) = m ((c.tc : Thread Cert.Cross2048Ideal.nD Cert.Cross2048Ideal.τ).loc Cert.Cross2048Ideal.main_arg1)
          ∧ r.2.mem ((c.tc : Thread Cert.Cross2048Ideal.nD Cert.Cross2048Ideal.τ).loc Cert.Cross2048Ideal.main_arg2) = m ((c.tc : Thread Cert.Cross2048Ideal.nD Cert.Cross2048Ideal.τ).loc Cert.Cross2048Ideal.main_arg2)
          ∧ r.2.mem ((c.tc : Thread Cert.Cross2048Ideal.nD Cert.Cross2048Ideal.τ).loc Cert.Cross2048Ideal.main_arg3) = m ((c.tc : Thread Cert.Cross2048Ideal.nD Cert.Cross2048Ideal.τ).loc Cert.Cross2048Ideal.main_arg3)
          ∧ r.2.mem ((c.tc : Thread Cert.Cross2048Ideal.nD Cert.Cross2048Ideal.τ).loc Cert.Cross2048Ideal.main_arg4) = m ((c.tc : Thread Cert.Cross2048Ideal.nD Cert.Cross2048Ideal.τ).loc Cert.Cross2048Ideal.main_arg4))
      ∧ θ_run (Cert.Cross2048RefIdeal.defs (F := Ideal)) (onTc (τ := Cert.Cross2048RefIdeal.τ) (Cert.Cross2048RefIdeal.main (F := Ideal))) ⟨m', fun _ => 0, g'⟩ (fun r => ∀ c : Dev Cert.Cross2048RefIdeal.nD,
          r.2.mem ((c.tc : Thread Cert.Cross2048RefIdeal.nD Cert.Cross2048RefIdeal.τ).loc Cert.Cross2048RefIdeal.main_v62) = v0 c
          ∧ r.2.mem ((c.tc : Thread Cert.Cross2048RefIdeal.nD Cert.Cross2048RefIdeal.τ).loc Cert.Cross2048RefIdeal.main_v63) = v1 c
          ∧ r.2.mem ((c.tc : Thread Cert.Cross2048RefIdeal.nD Cert.Cross2048RefIdeal.τ).loc Cert.Cross2048RefIdeal.main_v64) = v2 c
          ∧ r.2.mem ((c.tc : Thread Cert.Cross2048RefIdeal.nD Cert.Cross2048RefIdeal.τ).loc Cert.Cross2048RefIdeal.main_arg0) = m' ((c.tc : Thread Cert.Cross2048RefIdeal.nD Cert.Cross2048RefIdeal.τ).loc Cert.Cross2048RefIdeal.main_arg0)
          ∧ r.2.mem ((c.tc : Thread Cert.Cross2048RefIdeal.nD Cert.Cross2048RefIdeal.τ).loc Cert.Cross2048RefIdeal.main_arg1) = m' ((c.tc : Thread Cert.Cross2048RefIdeal.nD Cert.Cross2048RefIdeal.τ).loc Cert.Cross2048RefIdeal.main_arg1)
          ∧ r.2.mem ((c.tc : Thread Cert.Cross2048RefIdeal.nD Cert.Cross2048RefIdeal.τ).loc Cert.Cross2048RefIdeal.main_arg2) = m' ((c.tc : Thread Cert.Cross2048RefIdeal.nD Cert.Cross2048RefIdeal.τ).loc Cert.Cross2048RefIdeal.main_arg2)
          ∧ r.2.mem ((c.tc : Thread Cert.Cross2048RefIdeal.nD Cert.Cross2048RefIdeal.τ).loc Cert.Cross2048RefIdeal.main_arg3) = m' ((c.tc : Thread Cert.Cross2048RefIdeal.nD Cert.Cross2048RefIdeal.τ).loc Cert.Cross2048RefIdeal.main_arg3)
          ∧ r.2.mem ((c.tc : Thread Cert.Cross2048RefIdeal.nD Cert.Cross2048RefIdeal.τ).loc Cert.Cross2048RefIdeal.main_arg4) = m' ((c.tc : Thread Cert.Cross2048RefIdeal.nD Cert.Cross2048RefIdeal.τ).loc Cert.Cross2048RefIdeal.main_arg4))

def preserves_Curv1024_Curv1024Ideal : Prop :=
  True

def algebraic_Curv1024Ideal_Curv1024RefIdeal_pre_bounded_1024 [hCurv1024Ideal : Cert.Curv1024Ideal.Facts] [hCurv1024RefIdeal : Cert.Curv1024RefIdeal.Facts] [hPre_bounded_1024 : Cert.Pre_bounded_1024.Facts] : Prop :=
  ∀ (m : (ℓ : Loc Cert.Curv1024Ideal.nD Cert.Curv1024Ideal.τ Cert.Curv1024Ideal.sig) → Buf (Elt Ideal) ℓ) (g : Dev Cert.Curv1024Ideal.nD → PrngReg)
    (m' : (ℓ : Loc Cert.Curv1024RefIdeal.nD Cert.Curv1024RefIdeal.τ Cert.Curv1024RefIdeal.sig) → Buf (Elt Ideal) ℓ) (g' : Dev Cert.Curv1024RefIdeal.nD → PrngReg), Pre_Curv1024Ideal_bounded_1024 m →
    (∀ c : Dev Cert.Curv1024Ideal.nD,
      m' ((c.tc : Thread Cert.Curv1024RefIdeal.nD Cert.Curv1024RefIdeal.τ).loc Cert.Curv1024RefIdeal.main_arg0) = m ((c.tc : Thread Cert.Curv1024Ideal.nD Cert.Curv1024Ideal.τ).loc Cert.Curv1024Ideal.main_arg0)) →
    ∃ (v0 : (c : Dev Cert.Curv1024Ideal.nD) → Buf (Elt Ideal) ((c.tc : Thread Cert.Curv1024Ideal.nD Cert.Curv1024Ideal.τ).loc Cert.Curv1024Ideal.main_v1)),
      θ_run (Cert.Curv1024Ideal.defs (F := Ideal)) (onTc (τ := Cert.Curv1024Ideal.τ) (Cert.Curv1024Ideal.main (F := Ideal))) ⟨m, fun _ => 0, g⟩ (fun r => ∀ c : Dev Cert.Curv1024Ideal.nD,
          r.2.mem ((c.tc : Thread Cert.Curv1024Ideal.nD Cert.Curv1024Ideal.τ).loc Cert.Curv1024Ideal.main_v1) = v0 c
          ∧ r.2.mem ((c.tc : Thread Cert.Curv1024Ideal.nD Cert.Curv1024Ideal.τ).loc Cert.Curv1024Ideal.main_arg0) = m ((c.tc : Thread Cert.Curv1024Ideal.nD Cert.Curv1024Ideal.τ).loc Cert.Curv1024Ideal.main_arg0))
      ∧ θ_run (Cert.Curv1024RefIdeal.defs (F := Ideal)) (onTc (τ := Cert.Curv1024RefIdeal.τ) (Cert.Curv1024RefIdeal.main (F := Ideal))) ⟨m', fun _ => 0, g'⟩ (fun r => ∀ c : Dev Cert.Curv1024RefIdeal.nD,
          r.2.mem ((c.tc : Thread Cert.Curv1024RefIdeal.nD Cert.Curv1024RefIdeal.τ).loc Cert.Curv1024RefIdeal.main_v22) = v0 c
          ∧ r.2.mem ((c.tc : Thread Cert.Curv1024RefIdeal.nD Cert.Curv1024RefIdeal.τ).loc Cert.Curv1024RefIdeal.main_arg0) = m' ((c.tc : Thread Cert.Curv1024RefIdeal.nD Cert.Curv1024RefIdeal.τ).loc Cert.Curv1024RefIdeal.main_arg0))

def preserves_Smooth1024_Smooth1024Ideal : Prop :=
  True

def algebraic_Smooth1024Ideal_Smooth1024RefIdeal_pre_bounded2_1024 [hSmooth1024Ideal : Cert.Smooth1024Ideal.Facts] [hSmooth1024RefIdeal : Cert.Smooth1024RefIdeal.Facts] [hPre_bounded2_1024 : Cert.Pre_bounded2_1024.Facts] : Prop :=
  ∀ (m : (ℓ : Loc Cert.Smooth1024Ideal.nD Cert.Smooth1024Ideal.τ Cert.Smooth1024Ideal.sig) → Buf (Elt Ideal) ℓ) (g : Dev Cert.Smooth1024Ideal.nD → PrngReg)
    (m' : (ℓ : Loc Cert.Smooth1024RefIdeal.nD Cert.Smooth1024RefIdeal.τ Cert.Smooth1024RefIdeal.sig) → Buf (Elt Ideal) ℓ) (g' : Dev Cert.Smooth1024RefIdeal.nD → PrngReg), Pre_Smooth1024Ideal_bounded2_1024 m →
    (∀ c : Dev Cert.Smooth1024Ideal.nD,
      m' ((c.tc : Thread Cert.Smooth1024RefIdeal.nD Cert.Smooth1024RefIdeal.τ).loc Cert.Smooth1024RefIdeal.main_arg0) = m ((c.tc : Thread Cert.Smooth1024Ideal.nD Cert.Smooth1024Ideal.τ).loc Cert.Smooth1024Ideal.main_arg0)
      ∧ m' ((c.tc : Thread Cert.Smooth1024RefIdeal.nD Cert.Smooth1024RefIdeal.τ).loc Cert.Smooth1024RefIdeal.main_arg1) = m ((c.tc : Thread Cert.Smooth1024Ideal.nD Cert.Smooth1024Ideal.τ).loc Cert.Smooth1024Ideal.main_arg1)) →
    ∃ (v0 : (c : Dev Cert.Smooth1024Ideal.nD) → Buf (Elt Ideal) ((c.tc : Thread Cert.Smooth1024Ideal.nD Cert.Smooth1024Ideal.τ).loc Cert.Smooth1024Ideal.main_v3_0)) (v1 : (c : Dev Cert.Smooth1024Ideal.nD) → Buf (Elt Ideal) ((c.tc : Thread Cert.Smooth1024Ideal.nD Cert.Smooth1024Ideal.τ).loc Cert.Smooth1024Ideal.main_v3_1)),
      θ_run (Cert.Smooth1024Ideal.defs (F := Ideal)) (onTc (τ := Cert.Smooth1024Ideal.τ) (Cert.Smooth1024Ideal.main (F := Ideal))) ⟨m, fun _ => 0, g⟩ (fun r => ∀ c : Dev Cert.Smooth1024Ideal.nD,
          r.2.mem ((c.tc : Thread Cert.Smooth1024Ideal.nD Cert.Smooth1024Ideal.τ).loc Cert.Smooth1024Ideal.main_v3_0) = v0 c
          ∧ r.2.mem ((c.tc : Thread Cert.Smooth1024Ideal.nD Cert.Smooth1024Ideal.τ).loc Cert.Smooth1024Ideal.main_v3_1) = v1 c
          ∧ r.2.mem ((c.tc : Thread Cert.Smooth1024Ideal.nD Cert.Smooth1024Ideal.τ).loc Cert.Smooth1024Ideal.main_arg0) = m ((c.tc : Thread Cert.Smooth1024Ideal.nD Cert.Smooth1024Ideal.τ).loc Cert.Smooth1024Ideal.main_arg0)
          ∧ r.2.mem ((c.tc : Thread Cert.Smooth1024Ideal.nD Cert.Smooth1024Ideal.τ).loc Cert.Smooth1024Ideal.main_arg1) = m ((c.tc : Thread Cert.Smooth1024Ideal.nD Cert.Smooth1024Ideal.τ).loc Cert.Smooth1024Ideal.main_arg1))
      ∧ θ_run (Cert.Smooth1024RefIdeal.defs (F := Ideal)) (onTc (τ := Cert.Smooth1024RefIdeal.τ) (Cert.Smooth1024RefIdeal.main (F := Ideal))) ⟨m', fun _ => 0, g'⟩ (fun r => ∀ c : Dev Cert.Smooth1024RefIdeal.nD,
          r.2.mem ((c.tc : Thread Cert.Smooth1024RefIdeal.nD Cert.Smooth1024RefIdeal.τ).loc Cert.Smooth1024RefIdeal.main_v27) = v0 c
          ∧ r.2.mem ((c.tc : Thread Cert.Smooth1024RefIdeal.nD Cert.Smooth1024RefIdeal.τ).loc Cert.Smooth1024RefIdeal.main_v52) = v1 c
          ∧ r.2.mem ((c.tc : Thread Cert.Smooth1024RefIdeal.nD Cert.Smooth1024RefIdeal.τ).loc Cert.Smooth1024RefIdeal.main_arg0) = m' ((c.tc : Thread Cert.Smooth1024RefIdeal.nD Cert.Smooth1024RefIdeal.τ).loc Cert.Smooth1024RefIdeal.main_arg0)
          ∧ r.2.mem ((c.tc : Thread Cert.Smooth1024RefIdeal.nD Cert.Smooth1024RefIdeal.τ).loc Cert.Smooth1024RefIdeal.main_arg1) = m' ((c.tc : Thread Cert.Smooth1024RefIdeal.nD Cert.Smooth1024RefIdeal.τ).loc Cert.Smooth1024RefIdeal.main_arg1))

def preserves_Cross1024_Cross1024Ideal : Prop :=
  True

def algebraic_Cross1024Ideal_Cross1024RefIdeal_pre_bounded3_1024 [hCross1024Ideal : Cert.Cross1024Ideal.Facts] [hCross1024RefIdeal : Cert.Cross1024RefIdeal.Facts] [hPre_bounded3_1024 : Cert.Pre_bounded3_1024.Facts] : Prop :=
  ∀ (m : (ℓ : Loc Cert.Cross1024Ideal.nD Cert.Cross1024Ideal.τ Cert.Cross1024Ideal.sig) → Buf (Elt Ideal) ℓ) (g : Dev Cert.Cross1024Ideal.nD → PrngReg)
    (m' : (ℓ : Loc Cert.Cross1024RefIdeal.nD Cert.Cross1024RefIdeal.τ Cert.Cross1024RefIdeal.sig) → Buf (Elt Ideal) ℓ) (g' : Dev Cert.Cross1024RefIdeal.nD → PrngReg), Pre_Cross1024Ideal_bounded3_1024 m →
    (∀ c : Dev Cert.Cross1024Ideal.nD,
      m' ((c.tc : Thread Cert.Cross1024RefIdeal.nD Cert.Cross1024RefIdeal.τ).loc Cert.Cross1024RefIdeal.main_arg0) = m ((c.tc : Thread Cert.Cross1024Ideal.nD Cert.Cross1024Ideal.τ).loc Cert.Cross1024Ideal.main_arg0)
      ∧ m' ((c.tc : Thread Cert.Cross1024RefIdeal.nD Cert.Cross1024RefIdeal.τ).loc Cert.Cross1024RefIdeal.main_arg1) = m ((c.tc : Thread Cert.Cross1024Ideal.nD Cert.Cross1024Ideal.τ).loc Cert.Cross1024Ideal.main_arg1)
      ∧ m' ((c.tc : Thread Cert.Cross1024RefIdeal.nD Cert.Cross1024RefIdeal.τ).loc Cert.Cross1024RefIdeal.main_arg2) = m ((c.tc : Thread Cert.Cross1024Ideal.nD Cert.Cross1024Ideal.τ).loc Cert.Cross1024Ideal.main_arg2)
      ∧ m' ((c.tc : Thread Cert.Cross1024RefIdeal.nD Cert.Cross1024RefIdeal.τ).loc Cert.Cross1024RefIdeal.main_arg3) = m ((c.tc : Thread Cert.Cross1024Ideal.nD Cert.Cross1024Ideal.τ).loc Cert.Cross1024Ideal.main_arg3)
      ∧ m' ((c.tc : Thread Cert.Cross1024RefIdeal.nD Cert.Cross1024RefIdeal.τ).loc Cert.Cross1024RefIdeal.main_arg4) = m ((c.tc : Thread Cert.Cross1024Ideal.nD Cert.Cross1024Ideal.τ).loc Cert.Cross1024Ideal.main_arg4)) →
    ∃ (v0 : (c : Dev Cert.Cross1024Ideal.nD) → Buf (Elt Ideal) ((c.tc : Thread Cert.Cross1024Ideal.nD Cert.Cross1024Ideal.τ).loc Cert.Cross1024Ideal.main_v3_0)) (v1 : (c : Dev Cert.Cross1024Ideal.nD) → Buf (Elt Ideal) ((c.tc : Thread Cert.Cross1024Ideal.nD Cert.Cross1024Ideal.τ).loc Cert.Cross1024Ideal.main_v3_1)) (v2 : (c : Dev Cert.Cross1024Ideal.nD) → Buf (Elt Ideal) ((c.tc : Thread Cert.Cross1024Ideal.nD Cert.Cross1024Ideal.τ).loc Cert.Cross1024Ideal.main_v3_2)),
      θ_run (Cert.Cross1024Ideal.defs (F := Ideal)) (onTc (τ := Cert.Cross1024Ideal.τ) (Cert.Cross1024Ideal.main (F := Ideal))) ⟨m, fun _ => 0, g⟩ (fun r => ∀ c : Dev Cert.Cross1024Ideal.nD,
          r.2.mem ((c.tc : Thread Cert.Cross1024Ideal.nD Cert.Cross1024Ideal.τ).loc Cert.Cross1024Ideal.main_v3_0) = v0 c
          ∧ r.2.mem ((c.tc : Thread Cert.Cross1024Ideal.nD Cert.Cross1024Ideal.τ).loc Cert.Cross1024Ideal.main_v3_1) = v1 c
          ∧ r.2.mem ((c.tc : Thread Cert.Cross1024Ideal.nD Cert.Cross1024Ideal.τ).loc Cert.Cross1024Ideal.main_v3_2) = v2 c
          ∧ r.2.mem ((c.tc : Thread Cert.Cross1024Ideal.nD Cert.Cross1024Ideal.τ).loc Cert.Cross1024Ideal.main_arg0) = m ((c.tc : Thread Cert.Cross1024Ideal.nD Cert.Cross1024Ideal.τ).loc Cert.Cross1024Ideal.main_arg0)
          ∧ r.2.mem ((c.tc : Thread Cert.Cross1024Ideal.nD Cert.Cross1024Ideal.τ).loc Cert.Cross1024Ideal.main_arg1) = m ((c.tc : Thread Cert.Cross1024Ideal.nD Cert.Cross1024Ideal.τ).loc Cert.Cross1024Ideal.main_arg1)
          ∧ r.2.mem ((c.tc : Thread Cert.Cross1024Ideal.nD Cert.Cross1024Ideal.τ).loc Cert.Cross1024Ideal.main_arg2) = m ((c.tc : Thread Cert.Cross1024Ideal.nD Cert.Cross1024Ideal.τ).loc Cert.Cross1024Ideal.main_arg2)
          ∧ r.2.mem ((c.tc : Thread Cert.Cross1024Ideal.nD Cert.Cross1024Ideal.τ).loc Cert.Cross1024Ideal.main_arg3) = m ((c.tc : Thread Cert.Cross1024Ideal.nD Cert.Cross1024Ideal.τ).loc Cert.Cross1024Ideal.main_arg3)
          ∧ r.2.mem ((c.tc : Thread Cert.Cross1024Ideal.nD Cert.Cross1024Ideal.τ).loc Cert.Cross1024Ideal.main_arg4) = m ((c.tc : Thread Cert.Cross1024Ideal.nD Cert.Cross1024Ideal.τ).loc Cert.Cross1024Ideal.main_arg4))
      ∧ θ_run (Cert.Cross1024RefIdeal.defs (F := Ideal)) (onTc (τ := Cert.Cross1024RefIdeal.τ) (Cert.Cross1024RefIdeal.main (F := Ideal))) ⟨m', fun _ => 0, g'⟩ (fun r => ∀ c : Dev Cert.Cross1024RefIdeal.nD,
          r.2.mem ((c.tc : Thread Cert.Cross1024RefIdeal.nD Cert.Cross1024RefIdeal.τ).loc Cert.Cross1024RefIdeal.main_v62) = v0 c
          ∧ r.2.mem ((c.tc : Thread Cert.Cross1024RefIdeal.nD Cert.Cross1024RefIdeal.τ).loc Cert.Cross1024RefIdeal.main_v63) = v1 c
          ∧ r.2.mem ((c.tc : Thread Cert.Cross1024RefIdeal.nD Cert.Cross1024RefIdeal.τ).loc Cert.Cross1024RefIdeal.main_v64) = v2 c
          ∧ r.2.mem ((c.tc : Thread Cert.Cross1024RefIdeal.nD Cert.Cross1024RefIdeal.τ).loc Cert.Cross1024RefIdeal.main_arg0) = m' ((c.tc : Thread Cert.Cross1024RefIdeal.nD Cert.Cross1024RefIdeal.τ).loc Cert.Cross1024RefIdeal.main_arg0)
          ∧ r.2.mem ((c.tc : Thread Cert.Cross1024RefIdeal.nD Cert.Cross1024RefIdeal.τ).loc Cert.Cross1024RefIdeal.main_arg1) = m' ((c.tc : Thread Cert.Cross1024RefIdeal.nD Cert.Cross1024RefIdeal.τ).loc Cert.Cross1024RefIdeal.main_arg1)
          ∧ r.2.mem ((c.tc : Thread Cert.Cross1024RefIdeal.nD Cert.Cross1024RefIdeal.τ).loc Cert.Cross1024RefIdeal.main_arg2) = m' ((c.tc : Thread Cert.Cross1024RefIdeal.nD Cert.Cross1024RefIdeal.τ).loc Cert.Cross1024RefIdeal.main_arg2)
          ∧ r.2.mem ((c.tc : Thread Cert.Cross1024RefIdeal.nD Cert.Cross1024RefIdeal.τ).loc Cert.Cross1024RefIdeal.main_arg3) = m' ((c.tc : Thread Cert.Cross1024RefIdeal.nD Cert.Cross1024RefIdeal.τ).loc Cert.Cross1024RefIdeal.main_arg3)
          ∧ r.2.mem ((c.tc : Thread Cert.Cross1024RefIdeal.nD Cert.Cross1024RefIdeal.τ).loc Cert.Cross1024RefIdeal.main_arg4) = m' ((c.tc : Thread Cert.Cross1024RefIdeal.nD Cert.Cross1024RefIdeal.τ).loc Cert.Cross1024RefIdeal.main_arg4))

def preserves_Curv512_Curv512Ideal : Prop :=
  True

def algebraic_Curv512Ideal_Curv512RefIdeal_pre_bounded_512 [hCurv512Ideal : Cert.Curv512Ideal.Facts] [hCurv512RefIdeal : Cert.Curv512RefIdeal.Facts] [hPre_bounded_512 : Cert.Pre_bounded_512.Facts] : Prop :=
  ∀ (m : (ℓ : Loc Cert.Curv512Ideal.nD Cert.Curv512Ideal.τ Cert.Curv512Ideal.sig) → Buf (Elt Ideal) ℓ) (g : Dev Cert.Curv512Ideal.nD → PrngReg)
    (m' : (ℓ : Loc Cert.Curv512RefIdeal.nD Cert.Curv512RefIdeal.τ Cert.Curv512RefIdeal.sig) → Buf (Elt Ideal) ℓ) (g' : Dev Cert.Curv512RefIdeal.nD → PrngReg), Pre_Curv512Ideal_bounded_512 m →
    (∀ c : Dev Cert.Curv512Ideal.nD,
      m' ((c.tc : Thread Cert.Curv512RefIdeal.nD Cert.Curv512RefIdeal.τ).loc Cert.Curv512RefIdeal.main_arg0) = m ((c.tc : Thread Cert.Curv512Ideal.nD Cert.Curv512Ideal.τ).loc Cert.Curv512Ideal.main_arg0)) →
    ∃ (v0 : (c : Dev Cert.Curv512Ideal.nD) → Buf (Elt Ideal) ((c.tc : Thread Cert.Curv512Ideal.nD Cert.Curv512Ideal.τ).loc Cert.Curv512Ideal.main_v1)),
      θ_run (Cert.Curv512Ideal.defs (F := Ideal)) (onTc (τ := Cert.Curv512Ideal.τ) (Cert.Curv512Ideal.main (F := Ideal))) ⟨m, fun _ => 0, g⟩ (fun r => ∀ c : Dev Cert.Curv512Ideal.nD,
          r.2.mem ((c.tc : Thread Cert.Curv512Ideal.nD Cert.Curv512Ideal.τ).loc Cert.Curv512Ideal.main_v1) = v0 c
          ∧ r.2.mem ((c.tc : Thread Cert.Curv512Ideal.nD Cert.Curv512Ideal.τ).loc Cert.Curv512Ideal.main_arg0) = m ((c.tc : Thread Cert.Curv512Ideal.nD Cert.Curv512Ideal.τ).loc Cert.Curv512Ideal.main_arg0))
      ∧ θ_run (Cert.Curv512RefIdeal.defs (F := Ideal)) (onTc (τ := Cert.Curv512RefIdeal.τ) (Cert.Curv512RefIdeal.main (F := Ideal))) ⟨m', fun _ => 0, g'⟩ (fun r => ∀ c : Dev Cert.Curv512RefIdeal.nD,
          r.2.mem ((c.tc : Thread Cert.Curv512RefIdeal.nD Cert.Curv512RefIdeal.τ).loc Cert.Curv512RefIdeal.main_v22) = v0 c
          ∧ r.2.mem ((c.tc : Thread Cert.Curv512RefIdeal.nD Cert.Curv512RefIdeal.τ).loc Cert.Curv512RefIdeal.main_arg0) = m' ((c.tc : Thread Cert.Curv512RefIdeal.nD Cert.Curv512RefIdeal.τ).loc Cert.Curv512RefIdeal.main_arg0))

def preserves_Smooth512_Smooth512Ideal : Prop :=
  True

def algebraic_Smooth512Ideal_Smooth512RefIdeal_pre_bounded2_512 [hSmooth512Ideal : Cert.Smooth512Ideal.Facts] [hSmooth512RefIdeal : Cert.Smooth512RefIdeal.Facts] [hPre_bounded2_512 : Cert.Pre_bounded2_512.Facts] : Prop :=
  ∀ (m : (ℓ : Loc Cert.Smooth512Ideal.nD Cert.Smooth512Ideal.τ Cert.Smooth512Ideal.sig) → Buf (Elt Ideal) ℓ) (g : Dev Cert.Smooth512Ideal.nD → PrngReg)
    (m' : (ℓ : Loc Cert.Smooth512RefIdeal.nD Cert.Smooth512RefIdeal.τ Cert.Smooth512RefIdeal.sig) → Buf (Elt Ideal) ℓ) (g' : Dev Cert.Smooth512RefIdeal.nD → PrngReg), Pre_Smooth512Ideal_bounded2_512 m →
    (∀ c : Dev Cert.Smooth512Ideal.nD,
      m' ((c.tc : Thread Cert.Smooth512RefIdeal.nD Cert.Smooth512RefIdeal.τ).loc Cert.Smooth512RefIdeal.main_arg0) = m ((c.tc : Thread Cert.Smooth512Ideal.nD Cert.Smooth512Ideal.τ).loc Cert.Smooth512Ideal.main_arg0)
      ∧ m' ((c.tc : Thread Cert.Smooth512RefIdeal.nD Cert.Smooth512RefIdeal.τ).loc Cert.Smooth512RefIdeal.main_arg1) = m ((c.tc : Thread Cert.Smooth512Ideal.nD Cert.Smooth512Ideal.τ).loc Cert.Smooth512Ideal.main_arg1)) →
    ∃ (v0 : (c : Dev Cert.Smooth512Ideal.nD) → Buf (Elt Ideal) ((c.tc : Thread Cert.Smooth512Ideal.nD Cert.Smooth512Ideal.τ).loc Cert.Smooth512Ideal.main_v3_0)) (v1 : (c : Dev Cert.Smooth512Ideal.nD) → Buf (Elt Ideal) ((c.tc : Thread Cert.Smooth512Ideal.nD Cert.Smooth512Ideal.τ).loc Cert.Smooth512Ideal.main_v3_1)),
      θ_run (Cert.Smooth512Ideal.defs (F := Ideal)) (onTc (τ := Cert.Smooth512Ideal.τ) (Cert.Smooth512Ideal.main (F := Ideal))) ⟨m, fun _ => 0, g⟩ (fun r => ∀ c : Dev Cert.Smooth512Ideal.nD,
          r.2.mem ((c.tc : Thread Cert.Smooth512Ideal.nD Cert.Smooth512Ideal.τ).loc Cert.Smooth512Ideal.main_v3_0) = v0 c
          ∧ r.2.mem ((c.tc : Thread Cert.Smooth512Ideal.nD Cert.Smooth512Ideal.τ).loc Cert.Smooth512Ideal.main_v3_1) = v1 c
          ∧ r.2.mem ((c.tc : Thread Cert.Smooth512Ideal.nD Cert.Smooth512Ideal.τ).loc Cert.Smooth512Ideal.main_arg0) = m ((c.tc : Thread Cert.Smooth512Ideal.nD Cert.Smooth512Ideal.τ).loc Cert.Smooth512Ideal.main_arg0)
          ∧ r.2.mem ((c.tc : Thread Cert.Smooth512Ideal.nD Cert.Smooth512Ideal.τ).loc Cert.Smooth512Ideal.main_arg1) = m ((c.tc : Thread Cert.Smooth512Ideal.nD Cert.Smooth512Ideal.τ).loc Cert.Smooth512Ideal.main_arg1))
      ∧ θ_run (Cert.Smooth512RefIdeal.defs (F := Ideal)) (onTc (τ := Cert.Smooth512RefIdeal.τ) (Cert.Smooth512RefIdeal.main (F := Ideal))) ⟨m', fun _ => 0, g'⟩ (fun r => ∀ c : Dev Cert.Smooth512RefIdeal.nD,
          r.2.mem ((c.tc : Thread Cert.Smooth512RefIdeal.nD Cert.Smooth512RefIdeal.τ).loc Cert.Smooth512RefIdeal.main_v27) = v0 c
          ∧ r.2.mem ((c.tc : Thread Cert.Smooth512RefIdeal.nD Cert.Smooth512RefIdeal.τ).loc Cert.Smooth512RefIdeal.main_v52) = v1 c
          ∧ r.2.mem ((c.tc : Thread Cert.Smooth512RefIdeal.nD Cert.Smooth512RefIdeal.τ).loc Cert.Smooth512RefIdeal.main_arg0) = m' ((c.tc : Thread Cert.Smooth512RefIdeal.nD Cert.Smooth512RefIdeal.τ).loc Cert.Smooth512RefIdeal.main_arg0)
          ∧ r.2.mem ((c.tc : Thread Cert.Smooth512RefIdeal.nD Cert.Smooth512RefIdeal.τ).loc Cert.Smooth512RefIdeal.main_arg1) = m' ((c.tc : Thread Cert.Smooth512RefIdeal.nD Cert.Smooth512RefIdeal.τ).loc Cert.Smooth512RefIdeal.main_arg1))

def preserves_Cross512_Cross512Ideal : Prop :=
  True

def algebraic_Cross512Ideal_Cross512RefIdeal_pre_bounded3_512 [hCross512Ideal : Cert.Cross512Ideal.Facts] [hCross512RefIdeal : Cert.Cross512RefIdeal.Facts] [hPre_bounded3_512 : Cert.Pre_bounded3_512.Facts] : Prop :=
  ∀ (m : (ℓ : Loc Cert.Cross512Ideal.nD Cert.Cross512Ideal.τ Cert.Cross512Ideal.sig) → Buf (Elt Ideal) ℓ) (g : Dev Cert.Cross512Ideal.nD → PrngReg)
    (m' : (ℓ : Loc Cert.Cross512RefIdeal.nD Cert.Cross512RefIdeal.τ Cert.Cross512RefIdeal.sig) → Buf (Elt Ideal) ℓ) (g' : Dev Cert.Cross512RefIdeal.nD → PrngReg), Pre_Cross512Ideal_bounded3_512 m →
    (∀ c : Dev Cert.Cross512Ideal.nD,
      m' ((c.tc : Thread Cert.Cross512RefIdeal.nD Cert.Cross512RefIdeal.τ).loc Cert.Cross512RefIdeal.main_arg0) = m ((c.tc : Thread Cert.Cross512Ideal.nD Cert.Cross512Ideal.τ).loc Cert.Cross512Ideal.main_arg0)
      ∧ m' ((c.tc : Thread Cert.Cross512RefIdeal.nD Cert.Cross512RefIdeal.τ).loc Cert.Cross512RefIdeal.main_arg1) = m ((c.tc : Thread Cert.Cross512Ideal.nD Cert.Cross512Ideal.τ).loc Cert.Cross512Ideal.main_arg1)
      ∧ m' ((c.tc : Thread Cert.Cross512RefIdeal.nD Cert.Cross512RefIdeal.τ).loc Cert.Cross512RefIdeal.main_arg2) = m ((c.tc : Thread Cert.Cross512Ideal.nD Cert.Cross512Ideal.τ).loc Cert.Cross512Ideal.main_arg2)
      ∧ m' ((c.tc : Thread Cert.Cross512RefIdeal.nD Cert.Cross512RefIdeal.τ).loc Cert.Cross512RefIdeal.main_arg3) = m ((c.tc : Thread Cert.Cross512Ideal.nD Cert.Cross512Ideal.τ).loc Cert.Cross512Ideal.main_arg3)
      ∧ m' ((c.tc : Thread Cert.Cross512RefIdeal.nD Cert.Cross512RefIdeal.τ).loc Cert.Cross512RefIdeal.main_arg4) = m ((c.tc : Thread Cert.Cross512Ideal.nD Cert.Cross512Ideal.τ).loc Cert.Cross512Ideal.main_arg4)) →
    ∃ (v0 : (c : Dev Cert.Cross512Ideal.nD) → Buf (Elt Ideal) ((c.tc : Thread Cert.Cross512Ideal.nD Cert.Cross512Ideal.τ).loc Cert.Cross512Ideal.main_v3_0)) (v1 : (c : Dev Cert.Cross512Ideal.nD) → Buf (Elt Ideal) ((c.tc : Thread Cert.Cross512Ideal.nD Cert.Cross512Ideal.τ).loc Cert.Cross512Ideal.main_v3_1)) (v2 : (c : Dev Cert.Cross512Ideal.nD) → Buf (Elt Ideal) ((c.tc : Thread Cert.Cross512Ideal.nD Cert.Cross512Ideal.τ).loc Cert.Cross512Ideal.main_v3_2)),
      θ_run (Cert.Cross512Ideal.defs (F := Ideal)) (onTc (τ := Cert.Cross512Ideal.τ) (Cert.Cross512Ideal.main (F := Ideal))) ⟨m, fun _ => 0, g⟩ (fun r => ∀ c : Dev Cert.Cross512Ideal.nD,
          r.2.mem ((c.tc : Thread Cert.Cross512Ideal.nD Cert.Cross512Ideal.τ).loc Cert.Cross512Ideal.main_v3_0) = v0 c
          ∧ r.2.mem ((c.tc : Thread Cert.Cross512Ideal.nD Cert.Cross512Ideal.τ).loc Cert.Cross512Ideal.main_v3_1) = v1 c
          ∧ r.2.mem ((c.tc : Thread Cert.Cross512Ideal.nD Cert.Cross512Ideal.τ).loc Cert.Cross512Ideal.main_v3_2) = v2 c
          ∧ r.2.mem ((c.tc : Thread Cert.Cross512Ideal.nD Cert.Cross512Ideal.τ).loc Cert.Cross512Ideal.main_arg0) = m ((c.tc : Thread Cert.Cross512Ideal.nD Cert.Cross512Ideal.τ).loc Cert.Cross512Ideal.main_arg0)
          ∧ r.2.mem ((c.tc : Thread Cert.Cross512Ideal.nD Cert.Cross512Ideal.τ).loc Cert.Cross512Ideal.main_arg1) = m ((c.tc : Thread Cert.Cross512Ideal.nD Cert.Cross512Ideal.τ).loc Cert.Cross512Ideal.main_arg1)
          ∧ r.2.mem ((c.tc : Thread Cert.Cross512Ideal.nD Cert.Cross512Ideal.τ).loc Cert.Cross512Ideal.main_arg2) = m ((c.tc : Thread Cert.Cross512Ideal.nD Cert.Cross512Ideal.τ).loc Cert.Cross512Ideal.main_arg2)
          ∧ r.2.mem ((c.tc : Thread Cert.Cross512Ideal.nD Cert.Cross512Ideal.τ).loc Cert.Cross512Ideal.main_arg3) = m ((c.tc : Thread Cert.Cross512Ideal.nD Cert.Cross512Ideal.τ).loc Cert.Cross512Ideal.main_arg3)
          ∧ r.2.mem ((c.tc : Thread Cert.Cross512Ideal.nD Cert.Cross512Ideal.τ).loc Cert.Cross512Ideal.main_arg4) = m ((c.tc : Thread Cert.Cross512Ideal.nD Cert.Cross512Ideal.τ).loc Cert.Cross512Ideal.main_arg4))
      ∧ θ_run (Cert.Cross512RefIdeal.defs (F := Ideal)) (onTc (τ := Cert.Cross512RefIdeal.τ) (Cert.Cross512RefIdeal.main (F := Ideal))) ⟨m', fun _ => 0, g'⟩ (fun r => ∀ c : Dev Cert.Cross512RefIdeal.nD,
          r.2.mem ((c.tc : Thread Cert.Cross512RefIdeal.nD Cert.Cross512RefIdeal.τ).loc Cert.Cross512RefIdeal.main_v62) = v0 c
          ∧ r.2.mem ((c.tc : Thread Cert.Cross512RefIdeal.nD Cert.Cross512RefIdeal.τ).loc Cert.Cross512RefIdeal.main_v63) = v1 c
          ∧ r.2.mem ((c.tc : Thread Cert.Cross512RefIdeal.nD Cert.Cross512RefIdeal.τ).loc Cert.Cross512RefIdeal.main_v64) = v2 c
          ∧ r.2.mem ((c.tc : Thread Cert.Cross512RefIdeal.nD Cert.Cross512RefIdeal.τ).loc Cert.Cross512RefIdeal.main_arg0) = m' ((c.tc : Thread Cert.Cross512RefIdeal.nD Cert.Cross512RefIdeal.τ).loc Cert.Cross512RefIdeal.main_arg0)
          ∧ r.2.mem ((c.tc : Thread Cert.Cross512RefIdeal.nD Cert.Cross512RefIdeal.τ).loc Cert.Cross512RefIdeal.main_arg1) = m' ((c.tc : Thread Cert.Cross512RefIdeal.nD Cert.Cross512RefIdeal.τ).loc Cert.Cross512RefIdeal.main_arg1)
          ∧ r.2.mem ((c.tc : Thread Cert.Cross512RefIdeal.nD Cert.Cross512RefIdeal.τ).loc Cert.Cross512RefIdeal.main_arg2) = m' ((c.tc : Thread Cert.Cross512RefIdeal.nD Cert.Cross512RefIdeal.τ).loc Cert.Cross512RefIdeal.main_arg2)
          ∧ r.2.mem ((c.tc : Thread Cert.Cross512RefIdeal.nD Cert.Cross512RefIdeal.τ).loc Cert.Cross512RefIdeal.main_arg3) = m' ((c.tc : Thread Cert.Cross512RefIdeal.nD Cert.Cross512RefIdeal.τ).loc Cert.Cross512RefIdeal.main_arg3)
          ∧ r.2.mem ((c.tc : Thread Cert.Cross512RefIdeal.nD Cert.Cross512RefIdeal.τ).loc Cert.Cross512RefIdeal.main_arg4) = m' ((c.tc : Thread Cert.Cross512RefIdeal.nD Cert.Cross512RefIdeal.τ).loc Cert.Cross512RefIdeal.main_arg4))

def preserves_Last_LastIdeal : Prop :=
  True

def algebraic_LastIdeal_LastRefIdeal_pre_bounded_last [hLastIdeal : Cert.LastIdeal.Facts] [hLastRefIdeal : Cert.LastRefIdeal.Facts] [hPre_bounded_last : Cert.Pre_bounded_last.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_bounded_last m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)
      ∧ m' ((c.tc : Thread Cert.LastRefIdeal.nD Cert.LastRefIdeal.τ).loc Cert.LastRefIdeal.main_arg11) = m ((c.tc : Thread Cert.LastIdeal.nD Cert.LastIdeal.τ).loc Cert.LastIdeal.main_arg11)
      ∧ m' ((c.tc : Thread Cert.LastRefIdeal.nD Cert.LastRefIdeal.τ).loc Cert.LastRefIdeal.main_arg12) = m ((c.tc : Thread Cert.LastIdeal.nD Cert.LastIdeal.τ).loc Cert.LastIdeal.main_arg12)
      ∧ m' ((c.tc : Thread Cert.LastRefIdeal.nD Cert.LastRefIdeal.τ).loc Cert.LastRefIdeal.main_arg13) = m ((c.tc : Thread Cert.LastIdeal.nD Cert.LastIdeal.τ).loc Cert.LastIdeal.main_arg13)
      ∧ m' ((c.tc : Thread Cert.LastRefIdeal.nD Cert.LastRefIdeal.τ).loc Cert.LastRefIdeal.main_arg14) = m ((c.tc : Thread Cert.LastIdeal.nD Cert.LastIdeal.τ).loc Cert.LastIdeal.main_arg14)) →
    ∃ (v0 : (c : Dev Cert.LastIdeal.nD) → Buf (Elt Ideal) ((c.tc : Thread Cert.LastIdeal.nD Cert.LastIdeal.τ).loc Cert.LastIdeal.main_v44)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v44) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
          ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
          ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
          ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
          ∧ r.2.mem ((c.tc : Thread Cert.LastIdeal.nD Cert.LastIdeal.τ).loc Cert.LastIdeal.main_arg14) = m ((c.tc : Thread Cert.LastIdeal.nD Cert.LastIdeal.τ).loc Cert.LastIdeal.main_arg14))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v141) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10)
          ∧ r.2.mem ((c.tc : Thread Cert.LastRefIdeal.nD Cert.LastRefIdeal.τ).loc Cert.LastRefIdeal.main_arg11) = m' ((c.tc : Thread Cert.LastRefIdeal.nD Cert.LastRefIdeal.τ).loc Cert.LastRefIdeal.main_arg11)
          ∧ r.2.mem ((c.tc : Thread Cert.LastRefIdeal.nD Cert.LastRefIdeal.τ).loc Cert.LastRefIdeal.main_arg12) = m' ((c.tc : Thread Cert.LastRefIdeal.nD Cert.LastRefIdeal.τ).loc Cert.LastRefIdeal.main_arg12)
          ∧ r.2.mem ((c.tc : Thread Cert.LastRefIdeal.nD Cert.LastRefIdeal.τ).loc Cert.LastRefIdeal.main_arg13) = m' ((c.tc : Thread Cert.LastRefIdeal.nD Cert.LastRefIdeal.τ).loc Cert.LastRefIdeal.main_arg13)
          ∧ r.2.mem ((c.tc : Thread Cert.LastRefIdeal.nD Cert.LastRefIdeal.τ).loc Cert.LastRefIdeal.main_arg14) = m' ((c.tc : Thread Cert.LastRefIdeal.nD Cert.LastRefIdeal.τ).loc Cert.LastRefIdeal.main_arg14))

def preserves_Final_FinalIdeal : Prop :=
  True

def algebraic_FinalIdeal_FinalRefIdeal_pre_bounded_final [hFinalIdeal : Cert.FinalIdeal.Facts] [hFinalRefIdeal : Cert.FinalRefIdeal.Facts] [hPre_bounded_final : Cert.Pre_bounded_final.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_bounded_final m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)
      ∧ m' ((c.tc : Thread Cert.FinalRefIdeal.nD Cert.FinalRefIdeal.τ).loc Cert.FinalRefIdeal.main_arg7) = m ((c.tc : Thread Cert.FinalIdeal.nD Cert.FinalIdeal.τ).loc Cert.FinalIdeal.main_arg7)
      ∧ m' ((c.tc : Thread Cert.FinalRefIdeal.nD Cert.FinalRefIdeal.τ).loc Cert.FinalRefIdeal.main_arg8) = m ((c.tc : Thread Cert.FinalIdeal.nD Cert.FinalIdeal.τ).loc Cert.FinalIdeal.main_arg8)
      ∧ m' ((c.tc : Thread Cert.FinalRefIdeal.nD Cert.FinalRefIdeal.τ).loc Cert.FinalRefIdeal.main_arg9) = m ((c.tc : Thread Cert.FinalIdeal.nD Cert.FinalIdeal.τ).loc Cert.FinalIdeal.main_arg9)
      ∧ m' ((c.tc : Thread Cert.FinalRefIdeal.nD Cert.FinalRefIdeal.τ).loc Cert.FinalRefIdeal.main_arg10) = m ((c.tc : Thread Cert.FinalIdeal.nD Cert.FinalIdeal.τ).loc Cert.FinalIdeal.main_arg10)
      ∧ m' ((c.tc : Thread Cert.FinalRefIdeal.nD Cert.FinalRefIdeal.τ).loc Cert.FinalRefIdeal.main_arg11) = m ((c.tc : Thread Cert.FinalIdeal.nD Cert.FinalIdeal.τ).loc Cert.FinalIdeal.main_arg11)) →
    ∃ (v0 : (c : Dev Cert.FinalIdeal.nD) → Buf (Elt Ideal) ((c.tc : Thread Cert.FinalIdeal.nD Cert.FinalIdeal.τ).loc Cert.FinalIdeal.main_v38)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v38) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7)
          ∧ r.2.mem ((c.tc : Thread Cert.FinalIdeal.nD Cert.FinalIdeal.τ).loc Cert.FinalIdeal.main_arg8) = m ((c.tc : Thread Cert.FinalIdeal.nD Cert.FinalIdeal.τ).loc Cert.FinalIdeal.main_arg8)
          ∧ r.2.mem ((c.tc : Thread Cert.FinalIdeal.nD Cert.FinalIdeal.τ).loc Cert.FinalIdeal.main_arg9) = m ((c.tc : Thread Cert.FinalIdeal.nD Cert.FinalIdeal.τ).loc Cert.FinalIdeal.main_arg9)
          ∧ r.2.mem ((c.tc : Thread Cert.FinalIdeal.nD Cert.FinalIdeal.τ).loc Cert.FinalIdeal.main_arg10) = m ((c.tc : Thread Cert.FinalIdeal.nD Cert.FinalIdeal.τ).loc Cert.FinalIdeal.main_arg10)
          ∧ r.2.mem ((c.tc : Thread Cert.FinalIdeal.nD Cert.FinalIdeal.τ).loc Cert.FinalIdeal.main_arg11) = m ((c.tc : Thread Cert.FinalIdeal.nD Cert.FinalIdeal.τ).loc Cert.FinalIdeal.main_arg11))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v195) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7)
          ∧ r.2.mem ((c.tc : Thread Cert.FinalRefIdeal.nD Cert.FinalRefIdeal.τ).loc Cert.FinalRefIdeal.main_arg8) = m' ((c.tc : Thread Cert.FinalRefIdeal.nD Cert.FinalRefIdeal.τ).loc Cert.FinalRefIdeal.main_arg8)
          ∧ r.2.mem ((c.tc : Thread Cert.FinalRefIdeal.nD Cert.FinalRefIdeal.τ).loc Cert.FinalRefIdeal.main_arg9) = m' ((c.tc : Thread Cert.FinalRefIdeal.nD Cert.FinalRefIdeal.τ).loc Cert.FinalRefIdeal.main_arg9)
          ∧ r.2.mem ((c.tc : Thread Cert.FinalRefIdeal.nD Cert.FinalRefIdeal.τ).loc Cert.FinalRefIdeal.main_arg10) = m' ((c.tc : Thread Cert.FinalRefIdeal.nD Cert.FinalRefIdeal.τ).loc Cert.FinalRefIdeal.main_arg10)
          ∧ r.2.mem ((c.tc : Thread Cert.FinalRefIdeal.nD Cert.FinalRefIdeal.τ).loc Cert.FinalRefIdeal.main_arg11) = m' ((c.tc : Thread Cert.FinalRefIdeal.nD Cert.FinalRefIdeal.τ).loc Cert.FinalRefIdeal.main_arg11))

def Claim : Prop :=
  ∃ (hCurv : Cert.Curv.Facts) (hCurvIdeal : Cert.CurvIdeal.Facts) (hCurvRefIdeal : Cert.CurvRefIdeal.Facts) (hSmooth : Cert.Smooth.Facts) (hSmoothIdeal : Cert.SmoothIdeal.Facts) (hSmoothRefIdeal : Cert.SmoothRefIdeal.Facts) (hCross : Cert.Cross.Facts) (hCrossIdeal : Cert.CrossIdeal.Facts) (hCrossRefIdeal : Cert.CrossRefIdeal.Facts) (hCurv2048 : Cert.Curv2048.Facts) (hCurv2048Ideal : Cert.Curv2048Ideal.Facts) (hCurv2048RefIdeal : Cert.Curv2048RefIdeal.Facts) (hSmooth2048 : Cert.Smooth2048.Facts) (hSmooth2048Ideal : Cert.Smooth2048Ideal.Facts) (hSmooth2048RefIdeal : Cert.Smooth2048RefIdeal.Facts) (hCross2048 : Cert.Cross2048.Facts) (hCross2048Ideal : Cert.Cross2048Ideal.Facts) (hCross2048RefIdeal : Cert.Cross2048RefIdeal.Facts) (hCurv1024 : Cert.Curv1024.Facts) (hCurv1024Ideal : Cert.Curv1024Ideal.Facts) (hCurv1024RefIdeal : Cert.Curv1024RefIdeal.Facts) (hSmooth1024 : Cert.Smooth1024.Facts) (hSmooth1024Ideal : Cert.Smooth1024Ideal.Facts) (hSmooth1024RefIdeal : Cert.Smooth1024RefIdeal.Facts) (hCross1024 : Cert.Cross1024.Facts) (hCross1024Ideal : Cert.Cross1024Ideal.Facts) (hCross1024RefIdeal : Cert.Cross1024RefIdeal.Facts) (hCurv512 : Cert.Curv512.Facts) (hCurv512Ideal : Cert.Curv512Ideal.Facts) (hCurv512RefIdeal : Cert.Curv512RefIdeal.Facts) (hSmooth512 : Cert.Smooth512.Facts) (hSmooth512Ideal : Cert.Smooth512Ideal.Facts) (hSmooth512RefIdeal : Cert.Smooth512RefIdeal.Facts) (hCross512 : Cert.Cross512.Facts) (hCross512Ideal : Cert.Cross512Ideal.Facts) (hCross512RefIdeal : Cert.Cross512RefIdeal.Facts) (hLast : Cert.Last.Facts) (hLastIdeal : Cert.LastIdeal.Facts) (hLastRefIdeal : Cert.LastRefIdeal.Facts) (hFinal : Cert.Final.Facts) (hFinalIdeal : Cert.FinalIdeal.Facts) (hFinalRefIdeal : Cert.FinalRefIdeal.Facts) (hPre_bounded : Cert.Pre_bounded.Facts) (hPre_bounded2 : Cert.Pre_bounded2.Facts) (hPre_bounded3 : Cert.Pre_bounded3.Facts) (hPre_bounded_2048 : Cert.Pre_bounded_2048.Facts) (hPre_bounded2_2048 : Cert.Pre_bounded2_2048.Facts) (hPre_bounded3_2048 : Cert.Pre_bounded3_2048.Facts) (hPre_bounded_1024 : Cert.Pre_bounded_1024.Facts) (hPre_bounded2_1024 : Cert.Pre_bounded2_1024.Facts) (hPre_bounded3_1024 : Cert.Pre_bounded3_1024.Facts) (hPre_bounded_512 : Cert.Pre_bounded_512.Facts) (hPre_bounded2_512 : Cert.Pre_bounded2_512.Facts) (hPre_bounded3_512 : Cert.Pre_bounded3_512.Facts) (hPre_bounded_last : Cert.Pre_bounded_last.Facts) (hPre_bounded_final : Cert.Pre_bounded_final.Facts),
    quiescent_Curv (hCurv := hCurv)
    ∧ quiescent_CurvIdeal (hCurvIdeal := hCurvIdeal)
    ∧ quiescent_CurvIdeal_pre_bounded (hCurvIdeal := hCurvIdeal) (hPre_bounded := hPre_bounded)
    ∧ quiescent_CurvRefIdeal (hCurvRefIdeal := hCurvRefIdeal)
    ∧ quiescent_CurvRefIdeal_pre_bounded (hCurvRefIdeal := hCurvRefIdeal) (hPre_bounded := hPre_bounded)
    ∧ quiescent_Smooth (hSmooth := hSmooth)
    ∧ quiescent_SmoothIdeal (hSmoothIdeal := hSmoothIdeal)
    ∧ quiescent_SmoothIdeal_pre_bounded2 (hSmoothIdeal := hSmoothIdeal) (hPre_bounded2 := hPre_bounded2)
    ∧ quiescent_SmoothRefIdeal (hSmoothRefIdeal := hSmoothRefIdeal)
    ∧ quiescent_SmoothRefIdeal_pre_bounded2 (hSmoothRefIdeal := hSmoothRefIdeal) (hPre_bounded2 := hPre_bounded2)
    ∧ quiescent_Cross (hCross := hCross)
    ∧ quiescent_CrossIdeal (hCrossIdeal := hCrossIdeal)
    ∧ quiescent_CrossIdeal_pre_bounded3 (hCrossIdeal := hCrossIdeal) (hPre_bounded3 := hPre_bounded3)
    ∧ quiescent_CrossRefIdeal (hCrossRefIdeal := hCrossRefIdeal)
    ∧ quiescent_CrossRefIdeal_pre_bounded3 (hCrossRefIdeal := hCrossRefIdeal) (hPre_bounded3 := hPre_bounded3)
    ∧ quiescent_Curv2048 (hCurv2048 := hCurv2048)
    ∧ quiescent_Curv2048Ideal (hCurv2048Ideal := hCurv2048Ideal)
    ∧ quiescent_Curv2048Ideal_pre_bounded_2048 (hCurv2048Ideal := hCurv2048Ideal) (hPre_bounded_2048 := hPre_bounded_2048)
    ∧ quiescent_Curv2048RefIdeal (hCurv2048RefIdeal := hCurv2048RefIdeal)
    ∧ quiescent_Curv2048RefIdeal_pre_bounded_2048 (hCurv2048RefIdeal := hCurv2048RefIdeal) (hPre_bounded_2048 := hPre_bounded_2048)
    ∧ quiescent_Smooth2048 (hSmooth2048 := hSmooth2048)
    ∧ quiescent_Smooth2048Ideal (hSmooth2048Ideal := hSmooth2048Ideal)
    ∧ quiescent_Smooth2048Ideal_pre_bounded2_2048 (hSmooth2048Ideal := hSmooth2048Ideal) (hPre_bounded2_2048 := hPre_bounded2_2048)
    ∧ quiescent_Smooth2048RefIdeal (hSmooth2048RefIdeal := hSmooth2048RefIdeal)
    ∧ quiescent_Smooth2048RefIdeal_pre_bounded2_2048 (hSmooth2048RefIdeal := hSmooth2048RefIdeal) (hPre_bounded2_2048 := hPre_bounded2_2048)
    ∧ quiescent_Cross2048 (hCross2048 := hCross2048)
    ∧ quiescent_Cross2048Ideal (hCross2048Ideal := hCross2048Ideal)
    ∧ quiescent_Cross2048Ideal_pre_bounded3_2048 (hCross2048Ideal := hCross2048Ideal) (hPre_bounded3_2048 := hPre_bounded3_2048)
    ∧ quiescent_Cross2048RefIdeal (hCross2048RefIdeal := hCross2048RefIdeal)
    ∧ quiescent_Cross2048RefIdeal_pre_bounded3_2048 (hCross2048RefIdeal := hCross2048RefIdeal) (hPre_bounded3_2048 := hPre_bounded3_2048)
    ∧ quiescent_Curv1024 (hCurv1024 := hCurv1024)
    ∧ quiescent_Curv1024Ideal (hCurv1024Ideal := hCurv1024Ideal)
    ∧ quiescent_Curv1024Ideal_pre_bounded_1024 (hCurv1024Ideal := hCurv1024Ideal) (hPre_bounded_1024 := hPre_bounded_1024)
    ∧ quiescent_Curv1024RefIdeal (hCurv1024RefIdeal := hCurv1024RefIdeal)
    ∧ quiescent_Curv1024RefIdeal_pre_bounded_1024 (hCurv1024RefIdeal := hCurv1024RefIdeal) (hPre_bounded_1024 := hPre_bounded_1024)
    ∧ quiescent_Smooth1024 (hSmooth1024 := hSmooth1024)
    ∧ quiescent_Smooth1024Ideal (hSmooth1024Ideal := hSmooth1024Ideal)
    ∧ quiescent_Smooth1024Ideal_pre_bounded2_1024 (hSmooth1024Ideal := hSmooth1024Ideal) (hPre_bounded2_1024 := hPre_bounded2_1024)
    ∧ quiescent_Smooth1024RefIdeal (hSmooth1024RefIdeal := hSmooth1024RefIdeal)
    ∧ quiescent_Smooth1024RefIdeal_pre_bounded2_1024 (hSmooth1024RefIdeal := hSmooth1024RefIdeal) (hPre_bounded2_1024 := hPre_bounded2_1024)
    ∧ quiescent_Cross1024 (hCross1024 := hCross1024)
    ∧ quiescent_Cross1024Ideal (hCross1024Ideal := hCross1024Ideal)
    ∧ quiescent_Cross1024Ideal_pre_bounded3_1024 (hCross1024Ideal := hCross1024Ideal) (hPre_bounded3_1024 := hPre_bounded3_1024)
    ∧ quiescent_Cross1024RefIdeal (hCross1024RefIdeal := hCross1024RefIdeal)
    ∧ quiescent_Cross1024RefIdeal_pre_bounded3_1024 (hCross1024RefIdeal := hCross1024RefIdeal) (hPre_bounded3_1024 := hPre_bounded3_1024)
    ∧ quiescent_Curv512 (hCurv512 := hCurv512)
    ∧ quiescent_Curv512Ideal (hCurv512Ideal := hCurv512Ideal)
    ∧ quiescent_Curv512Ideal_pre_bounded_512 (hCurv512Ideal := hCurv512Ideal) (hPre_bounded_512 := hPre_bounded_512)
    ∧ quiescent_Curv512RefIdeal (hCurv512RefIdeal := hCurv512RefIdeal)
    ∧ quiescent_Curv512RefIdeal_pre_bounded_512 (hCurv512RefIdeal := hCurv512RefIdeal) (hPre_bounded_512 := hPre_bounded_512)
    ∧ quiescent_Smooth512 (hSmooth512 := hSmooth512)
    ∧ quiescent_Smooth512Ideal (hSmooth512Ideal := hSmooth512Ideal)
    ∧ quiescent_Smooth512Ideal_pre_bounded2_512 (hSmooth512Ideal := hSmooth512Ideal) (hPre_bounded2_512 := hPre_bounded2_512)
    ∧ quiescent_Smooth512RefIdeal (hSmooth512RefIdeal := hSmooth512RefIdeal)
    ∧ quiescent_Smooth512RefIdeal_pre_bounded2_512 (hSmooth512RefIdeal := hSmooth512RefIdeal) (hPre_bounded2_512 := hPre_bounded2_512)
    ∧ quiescent_Cross512 (hCross512 := hCross512)
    ∧ quiescent_Cross512Ideal (hCross512Ideal := hCross512Ideal)
    ∧ quiescent_Cross512Ideal_pre_bounded3_512 (hCross512Ideal := hCross512Ideal) (hPre_bounded3_512 := hPre_bounded3_512)
    ∧ quiescent_Cross512RefIdeal (hCross512RefIdeal := hCross512RefIdeal)
    ∧ quiescent_Cross512RefIdeal_pre_bounded3_512 (hCross512RefIdeal := hCross512RefIdeal) (hPre_bounded3_512 := hPre_bounded3_512)
    ∧ quiescent_Last (hLast := hLast)
    ∧ quiescent_LastIdeal (hLastIdeal := hLastIdeal)
    ∧ quiescent_LastIdeal_pre_bounded_last (hLastIdeal := hLastIdeal) (hPre_bounded_last := hPre_bounded_last)
    ∧ quiescent_LastRefIdeal (hLastRefIdeal := hLastRefIdeal)
    ∧ quiescent_LastRefIdeal_pre_bounded_last (hLastRefIdeal := hLastRefIdeal) (hPre_bounded_last := hPre_bounded_last)
    ∧ quiescent_Final (hFinal := hFinal)
    ∧ quiescent_FinalIdeal (hFinalIdeal := hFinalIdeal)
    ∧ quiescent_FinalIdeal_pre_bounded_final (hFinalIdeal := hFinalIdeal) (hPre_bounded_final := hPre_bounded_final)
    ∧ quiescent_FinalRefIdeal (hFinalRefIdeal := hFinalRefIdeal)
    ∧ quiescent_FinalRefIdeal_pre_bounded_final (hFinalRefIdeal := hFinalRefIdeal) (hPre_bounded_final := hPre_bounded_final)
    ∧ preserves_Curv_CurvIdeal
    ∧ algebraic_CurvIdeal_CurvRefIdeal_pre_bounded (hCurvIdeal := hCurvIdeal) (hCurvRefIdeal := hCurvRefIdeal) (hPre_bounded := hPre_bounded)
    ∧ preserves_Smooth_SmoothIdeal
    ∧ algebraic_SmoothIdeal_SmoothRefIdeal_pre_bounded2 (hSmoothIdeal := hSmoothIdeal) (hSmoothRefIdeal := hSmoothRefIdeal) (hPre_bounded2 := hPre_bounded2)
    ∧ preserves_Cross_CrossIdeal
    ∧ algebraic_CrossIdeal_CrossRefIdeal_pre_bounded3 (hCrossIdeal := hCrossIdeal) (hCrossRefIdeal := hCrossRefIdeal) (hPre_bounded3 := hPre_bounded3)
    ∧ preserves_Curv2048_Curv2048Ideal
    ∧ algebraic_Curv2048Ideal_Curv2048RefIdeal_pre_bounded_2048 (hCurv2048Ideal := hCurv2048Ideal) (hCurv2048RefIdeal := hCurv2048RefIdeal) (hPre_bounded_2048 := hPre_bounded_2048)
    ∧ preserves_Smooth2048_Smooth2048Ideal
    ∧ algebraic_Smooth2048Ideal_Smooth2048RefIdeal_pre_bounded2_2048 (hSmooth2048Ideal := hSmooth2048Ideal) (hSmooth2048RefIdeal := hSmooth2048RefIdeal) (hPre_bounded2_2048 := hPre_bounded2_2048)
    ∧ preserves_Cross2048_Cross2048Ideal
    ∧ algebraic_Cross2048Ideal_Cross2048RefIdeal_pre_bounded3_2048 (hCross2048Ideal := hCross2048Ideal) (hCross2048RefIdeal := hCross2048RefIdeal) (hPre_bounded3_2048 := hPre_bounded3_2048)
    ∧ preserves_Curv1024_Curv1024Ideal
    ∧ algebraic_Curv1024Ideal_Curv1024RefIdeal_pre_bounded_1024 (hCurv1024Ideal := hCurv1024Ideal) (hCurv1024RefIdeal := hCurv1024RefIdeal) (hPre_bounded_1024 := hPre_bounded_1024)
    ∧ preserves_Smooth1024_Smooth1024Ideal
    ∧ algebraic_Smooth1024Ideal_Smooth1024RefIdeal_pre_bounded2_1024 (hSmooth1024Ideal := hSmooth1024Ideal) (hSmooth1024RefIdeal := hSmooth1024RefIdeal) (hPre_bounded2_1024 := hPre_bounded2_1024)
    ∧ preserves_Cross1024_Cross1024Ideal
    ∧ algebraic_Cross1024Ideal_Cross1024RefIdeal_pre_bounded3_1024 (hCross1024Ideal := hCross1024Ideal) (hCross1024RefIdeal := hCross1024RefIdeal) (hPre_bounded3_1024 := hPre_bounded3_1024)
    ∧ preserves_Curv512_Curv512Ideal
    ∧ algebraic_Curv512Ideal_Curv512RefIdeal_pre_bounded_512 (hCurv512Ideal := hCurv512Ideal) (hCurv512RefIdeal := hCurv512RefIdeal) (hPre_bounded_512 := hPre_bounded_512)
    ∧ preserves_Smooth512_Smooth512Ideal
    ∧ algebraic_Smooth512Ideal_Smooth512RefIdeal_pre_bounded2_512 (hSmooth512Ideal := hSmooth512Ideal) (hSmooth512RefIdeal := hSmooth512RefIdeal) (hPre_bounded2_512 := hPre_bounded2_512)
    ∧ preserves_Cross512_Cross512Ideal
    ∧ algebraic_Cross512Ideal_Cross512RefIdeal_pre_bounded3_512 (hCross512Ideal := hCross512Ideal) (hCross512RefIdeal := hCross512RefIdeal) (hPre_bounded3_512 := hPre_bounded3_512)
    ∧ preserves_Last_LastIdeal
    ∧ algebraic_LastIdeal_LastRefIdeal_pre_bounded_last (hLastIdeal := hLastIdeal) (hLastRefIdeal := hLastRefIdeal) (hPre_bounded_last := hPre_bounded_last)
    ∧ preserves_Final_FinalIdeal
    ∧ algebraic_FinalIdeal_FinalRefIdeal_pre_bounded_final (hFinalIdeal := hFinalIdeal) (hFinalRefIdeal := hFinalRefIdeal) (hPre_bounded_final := hPre_bounded_final)
-- ==== Pre_bounded.lean ====
abbrev S2x3x4096 : Shape := ⟨3, ![2, 3, 4096]⟩
abbrev S_ : Shape := ⟨0, ![]⟩

class Facts : Prop where
  bcast_S_S2x3x4096 : S_.BroadcastsInDim S2x3x4096 (![] : Fin 0 → Fin S2x3x4096.rank)

variable [Facts]

def fn {F : FTy → Type} [FloatOps F] (main_arg0 : FVec F S2x3x4096 .f32) : IVec S2x3x4096 1 :=
  let main_v0 : FVec F S2x3x4096 .f32 := Host.absf main_arg0
  let main_cst : FVec F S_ .f32 := constant S_ .f32 0x5D800000#32
  let main_v1 : FVec F S2x3x4096 .f32 := broadcastInDim S2x3x4096 ![] bcast_S_S2x3x4096 main_cst
  let main_v2 : IVec S2x3x4096 1 := cmpf .ole main_v0 main_v1
  main_v2
-- ==== Pre_bounded2.lean ====
abbrev S2x3x4096 : Shape := ⟨3, ![2, 3, 4096]⟩
abbrev S_ : Shape := ⟨0, ![]⟩

class Facts : Prop where
  bcast_S_S2x3x4096 : S_.BroadcastsInDim S2x3x4096 (![] : Fin 0 → Fin S2x3x4096.rank)

variable [Facts]

def fn {F : FTy → Type} [FloatOps F] (main_arg0 : FVec F S2x3x4096 .f32) (main_arg1 : FVec F S2x3x4096 .f32) : IVec S2x3x4096 1 :=
  let main_v0 : FVec F S2x3x4096 .f32 := Host.absf main_arg0
  let main_cst : FVec F S_ .f32 := constant S_ .f32 0x5D800000#32
  let main_v1 : FVec F S2x3x4096 .f32 := broadcastInDim S2x3x4096 ![] bcast_S_S2x3x4096 main_cst
  let main_v2 : IVec S2x3x4096 1 := cmpf .ole main_v0 main_v1
  let main_v3 : FVec F S2x3x4096 .f32 := Host.absf main_arg1
  let main_cst_0 : FVec F S_ .f32 := constant S_ .f32 0x5D800000#32
  let main_v4 : FVec F S2x3x4096 .f32 := broadcastInDim S2x3x4096 ![] bcast_S_S2x3x4096 main_cst_0
  let main_v5 : IVec S2x3x4096 1 := cmpf .ole main_v3 main_v4
  let main_v6 : IVec S2x3x4096 1 := andi main_v2 main_v5
  main_v6
-- ==== Pre_bounded2_1024.lean ====
abbrev S2x3x1024 : Shape := ⟨3, ![2, 3, 1024]⟩
abbrev S_ : Shape := ⟨0, ![]⟩

class Facts : Prop where
  bcast_S_S2x3x1024 : S_.BroadcastsInDim S2x3x1024 (![] : Fin 0 → Fin S2x3x1024.rank)

variable [Facts]

def fn {F : FTy → Type} [FloatOps F] (main_arg0 : FVec F S2x3x1024 .f32) (main_arg1 : FVec F S2x3x1024 .f32) : IVec S2x3x1024 1 :=
  let main_v0 : FVec F S2x3x1024 .f32 := Host.absf main_arg0
  let main_cst : FVec F S_ .f32 := constant S_ .f32 0x5D800000#32
  let main_v1 : FVec F S2x3x1024 .f32 := broadcastInDim S2x3x1024 ![] bcast_S_S2x3x1024 main_cst
  let main_v2 : IVec S2x3x1024 1 := cmpf .ole main_v0 main_v1
  let main_v3 : FVec F S2x3x1024 .f32 := Host.absf main_arg1
  let main_cst_0 : FVec F S_ .f32 := constant S_ .f32 0x5D800000#32
  let main_v4 : FVec F S2x3x1024 .f32 := broadcastInDim S2x3x1024 ![] bcast_S_S2x3x1024 main_cst_0
  let main_v5 : IVec S2x3x1024 1 := cmpf .ole main_v3 main_v4
  let main_v6 : IVec S2x3x1024 1 := andi main_v2 main_v5
  main_v6
-- ==== Pre_bounded2_2048.lean ====
abbrev S2x3x2048 : Shape := ⟨3, ![2, 3, 2048]⟩
abbrev S_ : Shape := ⟨0, ![]⟩

class Facts : Prop where
  bcast_S_S2x3x2048 : S_.BroadcastsInDim S2x3x2048 (![] : Fin 0 → Fin S2x3x2048.rank)

variable [Facts]

def fn {F : FTy → Type} [FloatOps F] (main_arg0 : FVec F S2x3x2048 .f32) (main_arg1 : FVec F S2x3x2048 .f32) : IVec S2x3x2048 1 :=
  let main_v0 : FVec F S2x3x2048 .f32 := Host.absf main_arg0
  let main_cst : FVec F S_ .f32 := constant S_ .f32 0x5D800000#32
  let main_v1 : FVec F S2x3x2048 .f32 := broadcastInDim S2x3x2048 ![] bcast_S_S2x3x2048 main_cst
  let main_v2 : IVec S2x3x2048 1 := cmpf .ole main_v0 main_v1
  let main_v3 : FVec F S2x3x2048 .f32 := Host.absf main_arg1
  let main_cst_0 : FVec F S_ .f32 := constant S_ .f32 0x5D800000#32
  let main_v4 : FVec F S2x3x2048 .f32 := broadcastInDim S2x3x2048 ![] bcast_S_S2x3x2048 main_cst_0
  let main_v5 : IVec S2x3x2048 1 := cmpf .ole main_v3 main_v4
  let main_v6 : IVec S2x3x2048 1 := andi main_v2 main_v5
  main_v6
-- ==== Pre_bounded2_512.lean ====
abbrev S2x3x512 : Shape := ⟨3, ![2, 3, 512]⟩
abbrev S_ : Shape := ⟨0, ![]⟩

class Facts : Prop where
  bcast_S_S2x3x512 : S_.BroadcastsInDim S2x3x512 (![] : Fin 0 → Fin S2x3x512.rank)

variable [Facts]

def fn {F : FTy → Type} [FloatOps F] (main_arg0 : FVec F S2x3x512 .f32) (main_arg1 : FVec F S2x3x512 .f32) : IVec S2x3x512 1 :=
  let main_v0 : FVec F S2x3x512 .f32 := Host.absf main_arg0
  let main_cst : FVec F S_ .f32 := constant S_ .f32 0x5D800000#32
  let main_v1 : FVec F S2x3x512 .f32 := broadcastInDim S2x3x512 ![] bcast_S_S2x3x512 main_cst
  let main_v2 : IVec S2x3x512 1 := cmpf .ole main_v0 main_v1
  let main_v3 : FVec F S2x3x512 .f32 := Host.absf main_arg1
  let main_cst_0 : FVec F S_ .f32 := constant S_ .f32 0x5D800000#32
  let main_v4 : FVec F S2x3x512 .f32 := broadcastInDim S2x3x512 ![] bcast_S_S2x3x512 main_cst_0
  let main_v5 : IVec S2x3x512 1 := cmpf .ole main_v3 main_v4
  let main_v6 : IVec S2x3x512 1 := andi main_v2 main_v5
  main_v6
-- ==== Pre_bounded3.lean ====
abbrev S2x3x4096 : Shape := ⟨3, ![2, 3, 4096]⟩
abbrev S2x4096x3 : Shape := ⟨3, ![2, 4096, 3]⟩
abbrev S_ : Shape := ⟨0, ![]⟩

class Facts : Prop where
  bcast_S_S2x3x4096 : S_.BroadcastsInDim S2x3x4096 (![] : Fin 0 → Fin S2x3x4096.rank)

variable [Facts]

def fn {F : FTy → Type} [FloatOps F] (main_arg0 : FVec F S2x3x4096 .f32) (main_arg1 : FVec F S2x3x4096 .f32) (main_arg2 : FVec F S2x3x4096 .f32) (main_arg3 : FVec F S2x4096x3 .f32) (main_arg4 : FVec F S2x4096x3 .f32) : IVec S2x3x4096 1 :=
  let main_v0 : FVec F S2x3x4096 .f32 := Host.absf main_arg0
  let main_cst : FVec F S_ .f32 := constant S_ .f32 0x5D800000#32
  let main_v1 : FVec F S2x3x4096 .f32 := broadcastInDim S2x3x4096 ![] bcast_S_S2x3x4096 main_cst
  let main_v2 : IVec S2x3x4096 1 := cmpf .ole main_v0 main_v1
  let main_v3 : FVec F S2x3x4096 .f32 := Host.absf main_arg1
  let main_cst_0 : FVec F S_ .f32 := constant S_ .f32 0x5D800000#32
  let main_v4 : FVec F S2x3x4096 .f32 := broadcastInDim S2x3x4096 ![] bcast_S_S2x3x4096 main_cst_0
  let main_v5 : IVec S2x3x4096 1 := cmpf .ole main_v3 main_v4
  let main_v6 : IVec S2x3x4096 1 := andi main_v2 main_v5
  let main_v7 : FVec F S2x3x4096 .f32 := Host.absf main_arg2
  let main_cst_1 : FVec F S_ .f32 := constant S_ .f32 0x5D800000#32
  let main_v8 : FVec F S2x3x4096 .f32 := broadcastInDim S2x3x4096 ![] bcast_S_S2x3x4096 main_cst_1
  let main_v9 : IVec S2x3x4096 1 := cmpf .ole main_v7 main_v8
  let main_v10 : IVec S2x3x4096 1 := andi main_v6 main_v9
  main_v10
-- ==== Pre_bounded3_1024.lean ====
abbrev S2x3x1024 : Shape := ⟨3, ![2, 3, 1024]⟩
abbrev S2x1024x3 : Shape := ⟨3, ![2, 1024, 3]⟩
abbrev S_ : Shape := ⟨0, ![]⟩

class Facts : Prop where
  bcast_S_S2x3x1024 : S_.BroadcastsInDim S2x3x1024 (![] : Fin 0 → Fin S2x3x1024.rank)

variable [Facts]

def fn {F : FTy → Type} [FloatOps F] (main_arg0 : FVec F S2x3x1024 .f32) (main_arg1 : FVec F S2x3x1024 .f32) (main_arg2 : FVec F S2x3x1024 .f32) (main_arg3 : FVec F S2x1024x3 .f32) (main_arg4 : FVec F S2x1024x3 .f32) : IVec S2x3x1024 1 :=
  let main_v0 : FVec F S2x3x1024 .f32 := Host.absf main_arg0
  let main_cst : FVec F S_ .f32 := constant S_ .f32 0x5D800000#32
  let main_v1 : FVec F S2x3x1024 .f32 := broadcastInDim S2x3x1024 ![] bcast_S_S2x3x1024 main_cst
  let main_v2 : IVec S2x3x1024 1 := cmpf .ole main_v0 main_v1
  let main_v3 : FVec F S2x3x1024 .f32 := Host.absf main_arg1
  let main_cst_0 : FVec F S_ .f32 := constant S_ .f32 0x5D800000#32
  let main_v4 : FVec F S2x3x1024 .f32 := broadcastInDim S2x3x1024 ![] bcast_S_S2x3x1024 main_cst_0
  let main_v5 : IVec S2x3x1024 1 := cmpf .ole main_v3 main_v4
  let main_v6 : IVec S2x3x1024 1 := andi main_v2 main_v5
  let main_v7 : FVec F S2x3x1024 .f32 := Host.absf main_arg2
  let main_cst_1 : FVec F S_ .f32 := constant S_ .f32 0x5D800000#32
  let main_v8 : FVec F S2x3x1024 .f32 := broadcastInDim S2x3x1024 ![] bcast_S_S2x3x1024 main_cst_1
  let main_v9 : IVec S2x3x1024 1 := cmpf .ole main_v7 main_v8
  let main_v10 : IVec S2x3x1024 1 := andi main_v6 main_v9
  main_v10
-- ==== Pre_bounded3_2048.lean ====
abbrev S2x3x2048 : Shape := ⟨3, ![2, 3, 2048]⟩
abbrev S2x2048x3 : Shape := ⟨3, ![2, 2048, 3]⟩
abbrev S_ : Shape := ⟨0, ![]⟩

class Facts : Prop where
  bcast_S_S2x3x2048 : S_.BroadcastsInDim S2x3x2048 (![] : Fin 0 → Fin S2x3x2048.rank)

variable [Facts]

def fn {F : FTy → Type} [FloatOps F] (main_arg0 : FVec F S2x3x2048 .f32) (main_arg1 : FVec F S2x3x2048 .f32) (main_arg2 : FVec F S2x3x2048 .f32) (main_arg3 : FVec F S2x2048x3 .f32) (main_arg4 : FVec F S2x2048x3 .f32) : IVec S2x3x2048 1 :=
  let main_v0 : FVec F S2x3x2048 .f32 := Host.absf main_arg0
  let main_cst : FVec F S_ .f32 := constant S_ .f32 0x5D800000#32
  let main_v1 : FVec F S2x3x2048 .f32 := broadcastInDim S2x3x2048 ![] bcast_S_S2x3x2048 main_cst
  let main_v2 : IVec S2x3x2048 1 := cmpf .ole main_v0 main_v1
  let main_v3 : FVec F S2x3x2048 .f32 := Host.absf main_arg1
  let main_cst_0 : FVec F S_ .f32 := constant S_ .f32 0x5D800000#32
  let main_v4 : FVec F S2x3x2048 .f32 := broadcastInDim S2x3x2048 ![] bcast_S_S2x3x2048 main_cst_0
  let main_v5 : IVec S2x3x2048 1 := cmpf .ole main_v3 main_v4
  let main_v6 : IVec S2x3x2048 1 := andi main_v2 main_v5
  let main_v7 : FVec F S2x3x2048 .f32 := Host.absf main_arg2
  let main_cst_1 : FVec F S_ .f32 := constant S_ .f32 0x5D800000#32
  let main_v8 : FVec F S2x3x2048 .f32 := broadcastInDim S2x3x2048 ![] bcast_S_S2x3x2048 main_cst_1
  let main_v9 : IVec S2x3x2048 1 := cmpf .ole main_v7 main_v8
  let main_v10 : IVec S2x3x2048 1 := andi main_v6 main_v9
  main_v10
-- ==== Pre_bounded3_512.lean ====
abbrev S2x3x512 : Shape := ⟨3, ![2, 3, 512]⟩
abbrev S2x512x3 : Shape := ⟨3, ![2, 512, 3]⟩
abbrev S_ : Shape := ⟨0, ![]⟩

class Facts : Prop where
  bcast_S_S2x3x512 : S_.BroadcastsInDim S2x3x512 (![] : Fin 0 → Fin S2x3x512.rank)

variable [Facts]

def fn {F : FTy → Type} [FloatOps F] (main_arg0 : FVec F S2x3x512 .f32) (main_arg1 : FVec F S2x3x512 .f32) (main_arg2 : FVec F S2x3x512 .f32) (main_arg3 : FVec F S2x512x3 .f32) (main_arg4 : FVec F S2x512x3 .f32) : IVec S2x3x512 1 :=
  let main_v0 : FVec F S2x3x512 .f32 := Host.absf main_arg0
  let main_cst : FVec F S_ .f32 := constant S_ .f32 0x5D800000#32
  let main_v1 : FVec F S2x3x512 .f32 := broadcastInDim S2x3x512 ![] bcast_S_S2x3x512 main_cst
  let main_v2 : IVec S2x3x512 1 := cmpf .ole main_v0 main_v1
  let main_v3 : FVec F S2x3x512 .f32 := Host.absf main_arg1
  let main_cst_0 : FVec F S_ .f32 := constant S_ .f32 0x5D800000#32
  let main_v4 : FVec F S2x3x512 .f32 := broadcastInDim S2x3x512 ![] bcast_S_S2x3x512 main_cst_0
  let main_v5 : IVec S2x3x512 1 := cmpf .ole main_v3 main_v4
  let main_v6 : IVec S2x3x512 1 := andi main_v2 main_v5
  let main_v7 : FVec F S2x3x512 .f32 := Host.absf main_arg2
  let main_cst_1 : FVec F S_ .f32 := constant S_ .f32 0x5D800000#32
  let main_v8 : FVec F S2x3x512 .f32 := broadcastInDim S2x3x512 ![] bcast_S_S2x3x512 main_cst_1
  let main_v9 : IVec S2x3x512 1 := cmpf .ole main_v7 main_v8
  let main_v10 : IVec S2x3x512 1 := andi main_v6 main_v9
  main_v10
-- ==== Pre_bounded_1024.lean ====
abbrev S2x3x1024 : Shape := ⟨3, ![2, 3, 1024]⟩
abbrev S_ : Shape := ⟨0, ![]⟩

class Facts : Prop where
  bcast_S_S2x3x1024 : S_.BroadcastsInDim S2x3x1024 (![] : Fin 0 → Fin S2x3x1024.rank)

variable [Facts]

def fn {F : FTy → Type} [FloatOps F] (main_arg0 : FVec F S2x3x1024 .f32) : IVec S2x3x1024 1 :=
  let main_v0 : FVec F S2x3x1024 .f32 := Host.absf main_arg0
  let main_cst : FVec F S_ .f32 := constant S_ .f32 0x5D800000#32
  let main_v1 : FVec F S2x3x1024 .f32 := broadcastInDim S2x3x1024 ![] bcast_S_S2x3x1024 main_cst
  let main_v2 : IVec S2x3x1024 1 := cmpf .ole main_v0 main_v1
  main_v2
-- ==== Pre_bounded_2048.lean ====
abbrev S2x3x2048 : Shape := ⟨3, ![2, 3, 2048]⟩
abbrev S_ : Shape := ⟨0, ![]⟩

class Facts : Prop where
  bcast_S_S2x3x2048 : S_.BroadcastsInDim S2x3x2048 (![] : Fin 0 → Fin S2x3x2048.rank)

variable [Facts]

def fn {F : FTy → Type} [FloatOps F] (main_arg0 : FVec F S2x3x2048 .f32) : IVec S2x3x2048 1 :=
  let main_v0 : FVec F S2x3x2048 .f32 := Host.absf main_arg0
  let main_cst : FVec F S_ .f32 := constant S_ .f32 0x5D800000#32
  let main_v1 : FVec F S2x3x2048 .f32 := broadcastInDim S2x3x2048 ![] bcast_S_S2x3x2048 main_cst
  let main_v2 : IVec S2x3x2048 1 := cmpf .ole main_v0 main_v1
  main_v2
-- ==== Pre_bounded_512.lean ====
abbrev S2x3x512 : Shape := ⟨3, ![2, 3, 512]⟩
abbrev S_ : Shape := ⟨0, ![]⟩

class Facts : Prop where
  bcast_S_S2x3x512 : S_.BroadcastsInDim S2x3x512 (![] : Fin 0 → Fin S2x3x512.rank)

variable [Facts]

def fn {F : FTy → Type} [FloatOps F] (main_arg0 : FVec F S2x3x512 .f32) : IVec S2x3x512 1 :=
  let main_v0 : FVec F S2x3x512 .f32 := Host.absf main_arg0
  let main_cst : FVec F S_ .f32 := constant S_ .f32 0x5D800000#32
  let main_v1 : FVec F S2x3x512 .f32 := broadcastInDim S2x3x512 ![] bcast_S_S2x3x512 main_cst
  let main_v2 : IVec S2x3x512 1 := cmpf .ole main_v0 main_v1
  main_v2
-- ==== Pre_bounded_final.lean ====
abbrev S2x3x512 : Shape := ⟨3, ![2, 3, 512]⟩
abbrev S_ : Shape := ⟨0, ![]⟩

class Facts : Prop where
  bcast_S_S2x3x512 : S_.BroadcastsInDim S2x3x512 (![] : Fin 0 → Fin S2x3x512.rank)

variable [Facts]

def fn {F : FTy → Type} [FloatOps F] (main_arg0 : FVec F S2x3x512 .f32) (main_arg1 : FVec F S2x3x512 .f32) (main_arg2 : FVec F S2x3x512 .f32) (main_arg3 : FVec F S_ .f32) (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) : IVec S2x3x512 1 :=
  let main_v0 : FVec F S2x3x512 .f32 := Host.absf main_arg0
  let main_cst : FVec F S_ .f32 := constant S_ .f32 0x5D800000#32
  let main_v1 : FVec F S2x3x512 .f32 := broadcastInDim S2x3x512 ![] bcast_S_S2x3x512 main_cst
  let main_v2 : IVec S2x3x512 1 := cmpf .ole main_v0 main_v1
  let main_v3 : FVec F S2x3x512 .f32 := Host.absf main_arg2
  let main_cst_0 : FVec F S_ .f32 := constant S_ .f32 0x5D800000#32
  let main_v4 : FVec F S2x3x512 .f32 := broadcastInDim S2x3x512 ![] bcast_S_S2x3x512 main_cst_0
  let main_v5 : IVec S2x3x512 1 := cmpf .ole main_v3 main_v4
  let main_v6 : IVec S2x3x512 1 := andi main_v2 main_v5
  let main_v7 : FVec F S2x3x512 .f32 := Host.absf main_arg1
  let main_cst_1 : FVec F S_ .f32 := constant S_ .f32 0x5D800000#32
  let main_v8 : FVec F S2x3x512 .f32 := broadcastInDim S2x3x512 ![] bcast_S_S2x3x512 main_cst_1
  let main_v9 : IVec S2x3x512 1 := cmpf .ole main_v7 main_v8
  let main_v10 : IVec S2x3x512 1 := andi main_v6 main_v9
  main_v10
-- ==== Pre_bounded_last.lean ====
abbrev S2x3x512 : Shape := ⟨3, ![2, 3, 512]⟩
abbrev S2x512x3 : Shape := ⟨3, ![2, 512, 3]⟩
abbrev S1x1 : Shape := ⟨2, ![1, 1]⟩
abbrev S_ : Shape := ⟨0, ![]⟩

class Facts : Prop where
  bcast_S_S2x3x512 : S_.BroadcastsInDim S2x3x512 (![] : Fin 0 → Fin S2x3x512.rank)

variable [Facts]

def fn {F : FTy → Type} [FloatOps F] (main_arg0 : FVec F S2x3x512 .f32) (main_arg1 : FVec F S2x3x512 .f32) (main_arg2 : FVec F S2x3x512 .f32) (main_arg3 : FVec F S2x512x3 .f32) (main_arg4 : FVec F S2x512x3 .f32) (main_arg5 : FVec F S1x1 .f32) (main_arg6 : FVec F S1x1 .f32) (main_arg7 : FVec F S1x1 .f32) (main_arg8 : FVec F S1x1 .f32) (main_arg9 : FVec F S1x1 .f32) (main_arg10 : FVec F S1x1 .f32) (main_arg11 : FVec F S1x1 .f32) (main_arg12 : FVec F S1x1 .f32) (main_arg13 : FVec F S1x1 .f32) (main_arg14 : FVec F S1x1 .f32) : IVec S2x3x512 1 :=
  let main_v0 : FVec F S2x3x512 .f32 := Host.absf main_arg0
  let main_cst : FVec F S_ .f32 := constant S_ .f32 0x5D800000#32
  let main_v1 : FVec F S2x3x512 .f32 := broadcastInDim S2x3x512 ![] bcast_S_S2x3x512 main_cst
  let main_v2 : IVec S2x3x512 1 := cmpf .ole main_v0 main_v1
  let main_v3 : FVec F S2x3x512 .f32 := Host.absf main_arg1
  let main_cst_0 : FVec F S_ .f32 := constant S_ .f32 0x5D800000#32
  let main_v4 : FVec F S2x3x512 .f32 := broadcastInDim S2x3x512 ![] bcast_S_S2x3x512 main_cst_0
  let main_v5 : IVec S2x3x512 1 := cmpf .ole main_v3 main_v4
  let main_v6 : IVec S2x3x512 1 := andi main_v2 main_v5
  let main_v7 : FVec F S2x3x512 .f32 := Host.absf main_arg2
  let main_cst_1 : FVec F S_ .f32 := constant S_ .f32 0x5D800000#32
  let main_v8 : FVec F S2x3x512 .f32 := broadcastInDim S2x3x512 ![] bcast_S_S2x3x512 main_cst_1
  let main_v9 : IVec S2x3x512 1 := cmpf .ole main_v7 main_v8
  let main_v10 : IVec S2x3x512 1 := andi main_v6 main_v9
  main_v10
-- ==== Curv.lean ====
abbrev S2x3x4096 : Shape := ⟨3, ![2, 3, 4096]⟩
abbrev S2x4096x3 : Shape := ⟨3, ![2, 4096, 3]⟩
abbrev S1x256x3 : Shape := ⟨3, ![1, 256, 3]⟩
abbrev S1x3x4096 : Shape := ⟨3, ![1, 3, 4096]⟩
abbrev S1x4096x3 : Shape := ⟨3, ![1, 4096, 3]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩
abbrev S4096x3 : Shape := ⟨2, ![4096, 3]⟩

abbrev nBuf : Space → Nat
  | .hbm => 3
  | .vmem => 8
  | .smem => 0
  | _ => 0

abbrev bufTy : (tb : Table) → Fin (tcTables nBuf tb) → BufTy
  | .hbm, ⟨0, _⟩ => ⟨S2x3x4096, .f32⟩
  | .hbm, ⟨1, _⟩ => ⟨S2x4096x3, .f32⟩
  | .hbm, ⟨2, _⟩ => ⟨S2x4096x3, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x3, .f32⟩
  | .local _ .vmem, ⟨5, _⟩ => ⟨S1x4096x3, .f32⟩
  | .local _ .vmem, ⟨6, _⟩ => ⟨S1x256x3, .f32⟩
  | .local _ .vmem, ⟨7, _⟩ => ⟨S1x256x3, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CurvIdeal.lean ====
abbrev S2x3x4096 : Shape := ⟨3, ![2, 3, 4096]⟩
abbrev S2x4096x3 : Shape := ⟨3, ![2, 4096, 3]⟩
abbrev S1x256x3 : Shape := ⟨3, ![1, 256, 3]⟩
abbrev S1x3x4096 : Shape := ⟨3, ![1, 3, 4096]⟩
abbrev S1x4096x3 : Shape := ⟨3, ![1, 4096, 3]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩
abbrev S4096x3 : Shape := ⟨2, ![4096, 3]⟩

abbrev nBuf : Space → Nat
  | .hbm => 3
  | .vmem => 8
  | .smem => 0
  | _ => 0

abbrev bufTy : (tb : Table) → Fin (tcTables nBuf tb) → BufTy
  | .hbm, ⟨0, _⟩ => ⟨S2x3x4096, .f32⟩
  | .hbm, ⟨1, _⟩ => ⟨S2x4096x3, .f32⟩
  | .hbm, ⟨2, _⟩ => ⟨S2x4096x3, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x3, .f32⟩
  | .local _ .vmem, ⟨5, _⟩ => ⟨S1x4096x3, .f32⟩
  | .local _ .vmem, ⟨6, _⟩ => ⟨S1x256x3, .f32⟩
  | .local _ .vmem, ⟨7, _⟩ => ⟨S1x256x3, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CurvRefIdeal.lean ====
abbrev S2x3x4096 : Shape := ⟨3, ![2, 3, 4096]⟩
abbrev S2x4096x3 : Shape := ⟨3, ![2, 4096, 3]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x10 : Shape := ⟨3, ![2, 4096, 10]⟩
abbrev S2x4096x10x1 : Shape := ⟨4, ![2, 4096, 10, 1]⟩
abbrev S1 : Shape := ⟨1, ![1]⟩
abbrev S1x1x1x1 : Shape := ⟨4, ![1, 1, 1, 1]⟩
abbrev S2x4096x10x3 : Shape := ⟨4, ![2, 4096, 10, 3]⟩
abbrev S2x4096x1x3 : Shape := ⟨4, ![2, 4096, 1, 3]⟩

abbrev nBuf : Space → Nat
  | .hbm => 53
  | .vmem => 0
  | .smem => 0
  | _ => 0

abbrev bufTy : (tb : Table) → Fin (tcTables nBuf tb) → BufTy
  | .hbm, ⟨0, _⟩ => ⟨S2x3x4096, .f32⟩
  | .hbm, ⟨1, _⟩ => ⟨S2x4096x3, .f32⟩
  | .hbm, ⟨2, _⟩ => ⟨S2x4096x4096, .f32⟩
  | .hbm, ⟨3, _⟩ => ⟨S_, .f32⟩
  | .hbm, ⟨4, _⟩ => ⟨S2x4096x4096, .f32⟩
  | .hbm, ⟨5, _⟩ => ⟨S2x4096x4096, .f32⟩
  | .hbm, ⟨6, _⟩ => ⟨S2x4096x3, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S2x4096x4096, .f32⟩
  | .hbm, ⟨11, _⟩ => ⟨S2x4096x4096, .f32⟩
  | .hbm, ⟨12, _⟩ => ⟨S2x4096x3, .f32⟩
  | .hbm, ⟨13, _⟩ => ⟨S_, .f32⟩
  | .hbm, ⟨14, _⟩ => ⟨S2x4096, .f32⟩
  | .hbm, ⟨15, _⟩ => ⟨S2x1x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S2x4096x10, .f32⟩
  | .hbm, ⟨20, _⟩ => ⟨S2x4096x10, .i32⟩
  | .hbm, ⟨21, _⟩ => ⟨S2x4096x10, .f32⟩
  | .hbm, ⟨22, _⟩ => ⟨S_, .i32⟩
  | .hbm, ⟨23, _⟩ => ⟨S2x4096x10, .i32⟩
  | .hbm, ⟨24, _⟩ => ⟨S2x4096x10, .i1⟩
  | .hbm, ⟨25, _⟩ => ⟨S_, .i32⟩
  | .hbm, ⟨26, _⟩ => ⟨S2x4096x10, .i32⟩
  | .hbm, ⟨27, _⟩ => ⟨S2x4096x10, .i32⟩
  | .hbm, ⟨28, _⟩ => ⟨S2x4096x10, .i32⟩
  | .hbm, ⟨29, _⟩ => ⟨S2x4096x10x1, .i32⟩
  | .hbm, ⟨30, _⟩ => ⟨S1, .i32⟩
  | .hbm, ⟨31, _⟩ => ⟨S_, .i32⟩
  | .hbm, ⟨32, _⟩ => ⟨S2x4096x10x1, .i32⟩
  | .hbm, ⟨33, _⟩ => ⟨S2x4096x10x1, .i1⟩
  | .hbm, ⟨34, _⟩ => ⟨S1x1x1x1, .i32⟩
  | .hbm, ⟨35, _⟩ => ⟨S2x4096x10x1, .i32⟩
  | .hbm, ⟨36, _⟩ => ⟨S2x4096x10x1, .i1⟩
  | .hbm, ⟨37, _⟩ => ⟨S2x4096x10x1, .i1⟩
  | .hbm, ⟨38, _⟩ => ⟨S_, .i1⟩
  | .hbm, ⟨39, _⟩ => ⟨S2x4096x10, .i1⟩
  | .hbm, ⟨40, _⟩ => ⟨S2x4096x10x3, .f32⟩
  | .hbm, ⟨41, _⟩ => ⟨S2x4096x10x3, .i1⟩
  | .hbm, ⟨42, _⟩ => ⟨S_, .f32⟩
  | .hbm, ⟨43, _⟩ => ⟨S2x4096x10x3, .f32⟩
  | .hbm, ⟨44, _⟩ => ⟨S2x4096x10x3, .f32⟩
  | .hbm, ⟨45, _⟩ => ⟨S2x4096x1x3, .f32⟩
  | .hbm, ⟨46, _⟩ => ⟨S2x4096x10x3, .f32⟩
  | .hbm, ⟨47, _⟩ => ⟨S2x4096x10x3, .f32⟩
  | .hbm, ⟨48, _⟩ => ⟨S_, .f32⟩
  | .hbm, ⟨49, _⟩ => ⟨S2x4096x3, .f32⟩
  | .hbm, ⟨50, _⟩ => ⟨S_, .f32⟩
  | .hbm, ⟨51, _⟩ => ⟨S2x4096x3, .f32⟩
  | .hbm, ⟨52, _⟩ => ⟨S2x4096x3, .f32⟩
  | _, _ => ⟨S2x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]
-- ==== Smooth.lean ====
abbrev S2x3x4096 : Shape := ⟨3, ![2, 3, 4096]⟩
abbrev S2x4096x3 : Shape := ⟨3, ![2, 4096, 3]⟩
abbrev S1x1 : Shape := ⟨2, ![1, 1]⟩
abbrev S1x256x3 : Shape := ⟨3, ![1, 256, 3]⟩
abbrev S1x3x4096 : Shape := ⟨3, ![1, 3, 4096]⟩
abbrev S1x4096x3 : Shape := ⟨3, ![1, 4096, 3]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S1x4096 : Shape := ⟨2, ![1, 4096]⟩
abbrev S4096x3 : Shape := ⟨2, ![4096, 3]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x4096x3, .f32⟩
  | .hbm, ⟨3, _⟩ => ⟨S2x4096x3, .f32⟩
  | .hbm, ⟨4, _⟩ => ⟨S2x4096x3, .f32⟩
  | .hbm, ⟨5, _⟩ => ⟨S1x1, .f32⟩
  | .hbm, ⟨6, _⟩ => ⟨S2x4096x3, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x3x4096, .f32⟩
  | .local _ .vmem, ⟨5, _⟩ => ⟨S1x3x4096, .f32⟩
  | .local _ .vmem, ⟨6, _⟩ => ⟨S1x256x3, .f32⟩
  | .local _ .vmem, ⟨7, _⟩ => ⟨S1x256x3, .f32⟩
  | .local _ .vmem, ⟨8, _⟩ => ⟨S1x4096x3, .f32⟩
  | .local _ .vmem, ⟨9, _⟩ => ⟨S1x4096x3, .f32⟩
  | .local _ .vmem, ⟨10, _⟩ => ⟨S1x256x3, .f32⟩
  | .local _ .vmem, ⟨11, _⟩ => ⟨S1x256x3, .f32⟩
  | .local _ .vmem, ⟨12, _⟩ => ⟨S1x1, .f32⟩
  | .local _ .vmem, ⟨13, _⟩ => ⟨S1x256x3, .f32⟩
  | .local _ .vmem, ⟨14, _⟩ => ⟨S1x256x3, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SmoothIdeal.lean ====
abbrev S2x3x4096 : Shape := ⟨3, ![2, 3, 4096]⟩
abbrev S2x4096x3 : Shape := ⟨3, ![2, 4096, 3]⟩
abbrev S1x1 : Shape := ⟨2, ![1, 1]⟩
abbrev S1x256x3 : Shape := ⟨3, ![1, 256, 3]⟩
abbrev S1x3x4096 : Shape := ⟨3, ![1, 3, 4096]⟩
abbrev S1x4096x3 : Shape := ⟨3, ![1, 4096, 3]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S1x4096 : Shape := ⟨2, ![1, 4096]⟩
abbrev S4096x3 : Shape := ⟨2, ![4096, 3]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x4096x3, .f32⟩
  | .hbm, ⟨3, _⟩ => ⟨S2x4096x3, .f32⟩
  | .hbm, ⟨4, _⟩ => ⟨S2x4096x3, .f32⟩
  | .hbm, ⟨5, _⟩ => ⟨S1x1, .f32⟩
  | .hbm, ⟨6, _⟩ => ⟨S2x4096x3, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x3x4096, .f32⟩
  | .local _ .vmem, ⟨5, _⟩ => ⟨S1x3x4096, .f32⟩
  | .local _ .vmem, ⟨6, _⟩ => ⟨S1x256x3, .f32⟩
  | .local _ .vmem, ⟨7, _⟩ => ⟨S1x256x3, .f32⟩
  | .local _ .vmem, ⟨8, _⟩ => ⟨S1x4096x3, .f32⟩
  | .local _ .vmem, ⟨9, _⟩ => ⟨S1x4096x3, .f32⟩
  | .local _ .vmem, ⟨10, _⟩ => ⟨S1x256x3, .f32⟩
  | .local _ .vmem, ⟨11, _⟩ => ⟨S1x256x3, .f32⟩
  | .local _ .vmem, ⟨12, _⟩ => ⟨S1x1, .f32⟩
  | .local _ .vmem, ⟨13, _⟩ => ⟨S1x256x3, .f32⟩
  | .local _ .vmem, ⟨14, _⟩ => ⟨S1x256x3, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SmoothRefIdeal.lean ====
abbrev S2x3x4096 : Shape := ⟨3, ![2, 3, 4096]⟩
abbrev S2x4096x3 : Shape := ⟨3, ![2, 4096, 3]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x9 : Shape := ⟨3, ![2, 4096, 9]⟩
abbrev S2x4096x9x1 : Shape := ⟨4, ![2, 4096, 9, 1]⟩
abbrev S1 : Shape := ⟨1, ![1]⟩
abbrev S1x1x1x1 : Shape := ⟨4, ![1, 1, 1, 1]⟩
abbrev S2x4096x9x3 : Shape := ⟨4, ![2, 4096, 9, 3]⟩
abbrev S2x4096x1x3 : Shape := ⟨4, ![2, 4096, 1, 3]⟩
abbrev S2 : Shape := ⟨1, ![2]⟩
abbrev S1x1 : Shape := ⟨2, ![1, 1]⟩
abbrev S2x4096x10 : Shape := ⟨3, ![2, 4096, 10]⟩
abbrev S2x4096x10x1 : Shape := ⟨4, ![2, 4096, 10, 1]⟩
abbrev S2x4096x10x3 : Shape := ⟨4, ![2, 4096, 10, 3]⟩

abbrev nBuf : Space → Nat
  | .hbm => 118
  | .vmem => 0
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x4096x3, .f32⟩
  | .hbm, ⟨3, _⟩ => ⟨S2x4096x3, .f32⟩
  | .hbm, ⟨4, _⟩ => ⟨S2x4096x4096, .f32⟩
  | .hbm, ⟨5, _⟩ => ⟨S_, .f32⟩
  | .hbm, ⟨6, _⟩ => ⟨S2x4096x4096, .f32⟩
  | .hbm, ⟨7, _⟩ => ⟨S2x4096x4096, .f32⟩
  | .hbm, ⟨8, _⟩ => ⟨S2x4096x3, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S2x4096x4096, .f32⟩
  | .hbm, ⟨13, _⟩ => ⟨S2x4096x4096, .f32⟩
  | .hbm, ⟨14, _⟩ => ⟨S2x4096x3, .f32⟩
  | .hbm, ⟨15, _⟩ => ⟨S_, .f32⟩
  | .hbm, ⟨16, _⟩ => ⟨S2x4096, .f32⟩
  | .hbm, ⟨17, _⟩ => ⟨S2x1x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x9, .f32⟩
  | .hbm, ⟨22, _⟩ => ⟨S2x4096x9, .i32⟩
  | .hbm, ⟨23, _⟩ => ⟨S2x4096x9, .f32⟩
  | .hbm, ⟨24, _⟩ => ⟨S_, .i32⟩
  | .hbm, ⟨25, _⟩ => ⟨S2x4096x9, .i32⟩
  | .hbm, ⟨26, _⟩ => ⟨S2x4096x9, .i1⟩
  | .hbm, ⟨27, _⟩ => ⟨S_, .i32⟩
  | .hbm, ⟨28, _⟩ => ⟨S2x4096x9, .i32⟩
  | .hbm, ⟨29, _⟩ => ⟨S2x4096x9, .i32⟩
  | .hbm, ⟨30, _⟩ => ⟨S2x4096x9, .i32⟩
  | .hbm, ⟨31, _⟩ => ⟨S2x4096x9x1, .i32⟩
  | .hbm, ⟨32, _⟩ => ⟨S1, .i32⟩
  | .hbm, ⟨33, _⟩ => ⟨S_, .i32⟩
  | .hbm, ⟨34, _⟩ => ⟨S2x4096x9x1, .i32⟩
  | .hbm, ⟨35, _⟩ => ⟨S2x4096x9x1, .i1⟩
  | .hbm, ⟨36, _⟩ => ⟨S1x1x1x1, .i32⟩
  | .hbm, ⟨37, _⟩ => ⟨S2x4096x9x1, .i32⟩
  | .hbm, ⟨38, _⟩ => ⟨S2x4096x9x1, .i1⟩
  | .hbm, ⟨39, _⟩ => ⟨S2x4096x9x1, .i1⟩
  | .hbm, ⟨40, _⟩ => ⟨S_, .i1⟩
  | .hbm, ⟨41, _⟩ => ⟨S2x4096x9, .i1⟩
  | .hbm, ⟨42, _⟩ => ⟨S2x4096x9x3, .f32⟩
  | .hbm, ⟨43, _⟩ => ⟨S2x4096x9x3, .i1⟩
  | .hbm, ⟨44, _⟩ => ⟨S_, .f32⟩
  | .hbm, ⟨45, _⟩ => ⟨S2x4096x9x3, .f32⟩
  | .hbm, ⟨46, _⟩ => ⟨S2x4096x9x3, .f32⟩
  | .hbm, ⟨47, _⟩ => ⟨S2x4096x1x3, .f32⟩
  | .hbm, ⟨48, _⟩ => ⟨S2x4096x9x3, .f32⟩
  | .hbm, ⟨49, _⟩ => ⟨S2x4096x9x3, .f32⟩
  | .hbm, ⟨50, _⟩ => ⟨S2x4096x9x3, .f32⟩
  | .hbm, ⟨51, _⟩ => ⟨S_, .f32⟩
  | .hbm, ⟨52, _⟩ => ⟨S2x4096x9, .f32⟩
  | .hbm, ⟨53, _⟩ => ⟨S2x4096x9, .f32⟩
  | .hbm, ⟨54, _⟩ => ⟨S_, .f32⟩
  | .hbm, ⟨55, _⟩ => ⟨S2x4096, .f32⟩
  | .hbm, ⟨56, _⟩ => ⟨S_, .f32⟩
  | .hbm, ⟨57, _⟩ => ⟨S2x4096, .f32⟩
  | .hbm, ⟨58, _⟩ => ⟨S2x4096, .f32⟩
  | .hbm, ⟨59, _⟩ => ⟨S_, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S2x3x4096, .f32⟩
  | .hbm, ⟨65, _⟩ => ⟨S2x4096x3, .f32⟩
  | .hbm, ⟨66, _⟩ => ⟨S2x4096x3, .f32⟩
  | .hbm, ⟨67, _⟩ => ⟨S2x4096x4096, .f32⟩
  | .hbm, ⟨68, _⟩ => ⟨S_, .f32⟩
  | .hbm, ⟨69, _⟩ => ⟨S2x4096x4096, .f32⟩
  | .hbm, ⟨70, _⟩ => ⟨S2x4096x4096, .f32⟩
  | .hbm, ⟨71, _⟩ => ⟨S2x4096x3, .f32⟩
  | .hbm, ⟨72, _⟩ => ⟨S_, .f32⟩
  | .hbm, ⟨73, _⟩ => ⟨S2x4096, .f32⟩
  | .hbm, ⟨74, _⟩ => ⟨S2x4096x1, .f32⟩
  | .hbm, ⟨75, _⟩ => ⟨S2x4096x4096, .f32⟩
  | .hbm, ⟨76, _⟩ => ⟨S2x4096x4096, .f32⟩
  | .hbm, ⟨77, _⟩ => ⟨S2x4096x3, .f32⟩
  | .hbm, ⟨78, _⟩ => ⟨S_, .f32⟩
  | .hbm, ⟨79, _⟩ => ⟨S2x4096, .f32⟩
  | .hbm, ⟨80, _⟩ => ⟨S2x1x4096, .f32⟩
  | .hbm, ⟨81, _⟩ => ⟨S2x4096x4096, .f32⟩
  | .hbm, ⟨82, _⟩ => ⟨S2x4096x4096, .f32⟩
  | .hbm, ⟨83, _⟩ => ⟨S2x4096x4096, .f32⟩
  | .hbm, ⟨84, _⟩ => ⟨S2x4096x10, .f32⟩
  | .hbm, ⟨85, _⟩ => ⟨S2x4096x10, .i32⟩
  | .hbm, ⟨86, _⟩ => ⟨S2x4096x10, .f32⟩
  | .hbm, ⟨87, _⟩ => ⟨S_, .i32⟩
  | .hbm, ⟨88, _⟩ => ⟨S2x4096x10, .i32⟩
  | .hbm, ⟨89, _⟩ => ⟨S2x4096x10, .i1⟩
  | .hbm, ⟨90, _⟩ => ⟨S_, .i32⟩
  | .hbm, ⟨91, _⟩ => ⟨S2x4096x10, .i32⟩
  | .hbm, ⟨92, _⟩ => ⟨S2x4096x10, .i32⟩
  | .hbm, ⟨93, _⟩ => ⟨S2x4096x10, .i32⟩
  | .hbm, ⟨94, _⟩ => ⟨S2x4096x10x1, .i32⟩
  | .hbm, ⟨95, _⟩ => ⟨S1, .i32⟩
  | .hbm, ⟨96, _⟩ => ⟨S_, .i32⟩
  | .hbm, ⟨97, _⟩ => ⟨S2x4096x10x1, .i32⟩
  | .hbm, ⟨98, _⟩ => ⟨S2x4096x10x1, .i1⟩
  | .hbm, ⟨99, _⟩ => ⟨S1x1x1x1, .i32⟩
  | .hbm, ⟨100, _⟩ => ⟨S2x4096x10x1, .i32⟩
  | .hbm, ⟨101, _⟩ => ⟨S2x4096x10x1, .i1⟩
  | .hbm, ⟨102, _⟩ => ⟨S2x4096x10x1, .i1⟩
  | .hbm, ⟨103, _⟩ => ⟨S_, .i1⟩
  | .hbm, ⟨104, _⟩ => ⟨S2x4096x10, .i1⟩
  | .hbm, ⟨105, _⟩ => ⟨S2x4096x10x3, .f32⟩
  | .hbm, ⟨106, _⟩ => ⟨S2x4096x10x3, .i1⟩
  | .hbm, ⟨107, _⟩ => ⟨S_, .f32⟩
  | .hbm, ⟨108, _⟩ => ⟨S2x4096x10x3, .f32⟩
  | .hbm, ⟨109, _⟩ => ⟨S2x4096x10x3, .f32⟩
  | .hbm, ⟨110, _⟩ => ⟨S2x4096x1x3, .f32⟩
  | .hbm, ⟨111, _⟩ => ⟨S2x4096x10x3, .f32⟩
  | .hbm, ⟨112, _⟩ => ⟨S2x4096x10x3, .f32⟩
  | .hbm, ⟨113, _⟩ => ⟨S_, .f32⟩
  | .hbm, ⟨114, _⟩ => ⟨S2x4096x3, .f32⟩
  | .hbm, ⟨115, _⟩ => ⟨S_, .f32⟩
  | .hbm, ⟨116, _⟩ => ⟨S2x4096x3, .f32⟩
  | .hbm, ⟨117, _⟩ => ⟨S2x4096x3, .f32⟩
  | _, _ => ⟨S2x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_values_9 : Ref sig .tc := ⟨.hbm, 84, rfl⟩
abbrev main_indices_10 : Ref sig .tc := ⟨.hbm, 85, rfl⟩
abbrev main_v45 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_11 : Ref sig .tc := ⟨.hbm, 113, rfl⟩
abbrev main_v50 : Ref sig .tc := ⟨.hbm, 114, rfl⟩
abbrev main_cst_12 : Ref sig .tc := ⟨.hbm, 115, rfl⟩
abbrev main_v51 : Ref sig .tc := ⟨.hbm, 116, rfl⟩
abbrev main_v52 : Ref sig .tc := ⟨.hbm, 117, rfl⟩

abbrev nD : Nat := 1
abbrev τ : Topo := Topo.v7x

variable {F : FTy → Type} [FloatOps F]
-- ==== Cross.lean ====
abbrev S2x3x4096 : Shape := ⟨3, ![2, 3, 4096]⟩
abbrev S2x4096x3 : Shape := ⟨3, ![2, 4096, 3]⟩
abbrev S2x1x4096 : Shape := ⟨3, ![2, 1, 4096]⟩
abbrev S1x1 : Shape := ⟨2, ![1, 1]⟩
abbrev S1x256x3 : Shape := ⟨3, ![1, 256, 3]⟩
abbrev S1x3x4096 : Shape := ⟨3, ![1, 3, 4096]⟩
abbrev S1x4096x3 : Shape := ⟨3, ![1, 4096, 3]⟩
abbrev S1x1x4096 : Shape := ⟨3, ![1, 1, 4096]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S1x4096 : Shape := ⟨2, ![1, 4096]⟩
abbrev S4096 : Shape := ⟨1, ![4096]⟩
abbrev S4096x3 : Shape := ⟨2, ![4096, 3]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x3x4096, .f32⟩
  | .hbm, ⟨3, _⟩ => ⟨S2x4096x3, .f32⟩
  | .hbm, ⟨4, _⟩ => ⟨S2x4096x3, .f32⟩
  | .hbm, ⟨5, _⟩ => ⟨S2x4096x3, .f32⟩
  | .hbm, ⟨6, _⟩ => ⟨S2x4096x3, .f32⟩
  | .hbm, ⟨7, _⟩ => ⟨S2x4096x3, .f32⟩
  | .hbm, ⟨8, _⟩ => ⟨S2x1x4096, .f32⟩
  | .hbm, ⟨9, _⟩ => ⟨S1x1, .f32⟩
  | .hbm, ⟨10, _⟩ => ⟨S1x1, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x3, .f32⟩
  | .local _ .vmem, ⟨5, _⟩ => ⟨S1x4096x3, .f32⟩
  | .local _ .vmem, ⟨6, _⟩ => ⟨S1x256x3, .f32⟩
  | .local _ .vmem, ⟨7, _⟩ => ⟨S1x256x3, .f32⟩
  | .local _ .vmem, ⟨8, _⟩ => ⟨S1x1x4096, .f32⟩
  | .local _ .vmem, ⟨9, _⟩ => ⟨S1x1x4096, .f32⟩
  | .local _ .vmem, ⟨10, _⟩ => ⟨S1x1, .f32⟩
  | .local _ .vmem, ⟨11, _⟩ => ⟨S1x1, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== CrossIdeal.lean ====
abbrev S2x3x4096 : Shape := ⟨3, ![2, 3, 4096]⟩
abbrev S2x4096x3 : Shape := ⟨3, ![2, 4096, 3]⟩
abbrev S2x1x4096 : Shape := ⟨3, ![2, 1, 4096]⟩
abbrev S1x1 : Shape := ⟨2, ![1, 1]⟩
abbrev S1x256x3 : Shape := ⟨3, ![1, 256, 3]⟩
abbrev S1x3x4096 : Shape := ⟨3, ![1, 3, 4096]⟩
abbrev S1x4096x3 : Shape := ⟨3, ![1, 4096, 3]⟩
abbrev S1x1x4096 : Shape := ⟨3, ![1, 1, 4096]⟩
abbrev S256x3 : Shape := ⟨2, ![256, 3]⟩
abbrev S3x4096 : Shape := ⟨2, ![3, 4096]⟩
abbrev S256x4096 : Shape := ⟨2, ![256, 4096]⟩
abbrev S256x1 : Shape := ⟨2, ![256, 1]⟩
abbrev S1x4096 : Shape := ⟨2, ![1, 4096]⟩
abbrev S4096 : Shape := ⟨1, ![4096]⟩
abbrev S4096x3 : Shape := ⟨2, ![4096, 3]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x3x4096, .f32⟩
  | .hbm, ⟨3, _⟩ => ⟨S2x4096x3, .f32⟩
  | .hbm, ⟨4, _⟩ => ⟨S2x4096x3, .f32⟩
  | .hbm, ⟨5, _⟩ => ⟨S2x4096x3, .f32⟩
  | .hbm, ⟨6, _⟩ => ⟨S2x4096x3, .f32⟩
  | .hbm, ⟨7, _⟩ => ⟨S2x4096x3, .f32⟩
  | .hbm, ⟨8, _⟩ => ⟨S2x1x4096, .f32⟩
  | .hbm, ⟨9, _⟩ => ⟨S1x1, .f32⟩
  | .hbm, ⟨10, _⟩ => ⟨S1x1, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x3, .f32⟩
  | .local _ .vmem, ⟨5, _⟩ => ⟨S1x4096x3, .f32⟩
  | .local _ .vmem, ⟨6, _⟩ => ⟨S1x256x3, .f32⟩
  | .local _ .vmem, ⟨7, _⟩ => ⟨S1x256x3, .f32⟩
  | .local _ .vmem, ⟨8, _⟩ => ⟨S1x1x4096, .f32⟩
  | .local _ .vmem, ⟨9, _⟩ => ⟨S1x1x4096, .f32⟩
  | .local _ .vmem, ⟨10, _⟩ => ⟨S1x1, .f32⟩
  | .local _ .vmem, ⟨11, _⟩ => ⟨S1x1, .f32⟩
  | _, _ => ⟨S2x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== CrossRefIdeal.lean ====
abbrev S2x3x4096 : Shape := ⟨3, ![2, 3, 4096]⟩
abbrev S2x4096x3 : Shape := ⟨3, ![2, 4096, 3]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2 : Shape := ⟨1, ![2]⟩
abbrev S2x4096x5 : Shape := ⟨3, ![2, 4096, 5]⟩
abbrev S2x4096x5x1 : Shape := ⟨4, ![2, 4096, 5, 1]⟩
abbrev S1 : Shape := ⟨1, ![1]⟩
abbrev S1x1x1x1 : Shape := ⟨4, ![1, 1, 1, 1]⟩
abbrev S2x4096x5x3 : Shape := ⟨4, ![2, 4096, 5, 3]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S2x3x4096, .f32⟩
  | .hbm, ⟨1, _⟩ => ⟨S2x3x4096, .f32⟩
  | .hbm, ⟨2, _⟩ => ⟨S2x3x4096, .f32⟩
  | .hbm, ⟨3, _⟩ => ⟨S2x4096x3, .f32⟩
  | .hbm, ⟨4, _⟩ => ⟨S2x4096x3, .f32⟩
  | .hbm, ⟨5, _⟩ => ⟨S2x3x4096, .f32⟩
  | .hbm, ⟨6, _⟩ => ⟨S2x4096x3, .f32⟩
  | .hbm, ⟨7, _⟩ => ⟨S2x4096x3, .f32⟩
  | .hbm, ⟨8, _⟩ => ⟨S2x4096x4096, .f32⟩
  | .hbm, ⟨9, _⟩ => ⟨S_, .f32⟩
  | .hbm, ⟨10, _⟩ => ⟨S2x4096x4096, .f32⟩
  | .hbm, ⟨11, _⟩ => ⟨S2x4096x4096, .f32⟩
  | .hbm, ⟨12, _⟩ => ⟨S2x4096x3, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S2x4096x3, .f32⟩
  | .hbm, ⟨19, _⟩ => ⟨S_, .f32⟩
  | .hbm, ⟨20, _⟩ => ⟨S2x4096, .f32⟩
  | .hbm, ⟨21, _⟩ => ⟨S2x1x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096, .f32⟩
  | .hbm, ⟨26, _⟩ => ⟨S_, .f32⟩
  | .hbm, ⟨27, _⟩ => ⟨S2x4096, .f32⟩
  | .hbm, ⟨28, _⟩ => ⟨S_, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x4096x3, .f32⟩
  | .hbm, ⟨38, _⟩ => ⟨S2x4096x3, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S2x4096x3, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S2x4096x4096, .f32⟩
  | .hbm, ⟨48, _⟩ => ⟨S2x4096x4096, .f32⟩
  | .hbm, ⟨49, _⟩ => ⟨S2x4096x3, .f32⟩
  | .hbm, ⟨50, _⟩ => ⟨S_, .f32⟩
  | .hbm, ⟨51, _⟩ => ⟨S2x4096, .f32⟩
  | .hbm, ⟨52, _⟩ => ⟨S2x1x4096, .f32⟩
  | .hbm, ⟨53, _⟩ => ⟨S2x4096x4096, .f32⟩
  | .hbm, ⟨54, _⟩ => ⟨S2x4096x4096, .f32⟩
  | .hbm, ⟨55, _⟩ => ⟨S2x4096x4096, .f32⟩
  | .hbm, ⟨56, _⟩ => ⟨S2x4096x5, .f32⟩
  | .hbm, ⟨57, _⟩ => ⟨S2x4096x5, .i32⟩
  | .hbm, ⟨58, _⟩ => ⟨S2x4096x5, .f32⟩
  | .hbm, ⟨59, _⟩ => ⟨S_, .i32⟩
  | .hbm, ⟨60, _⟩ => ⟨S2x4096x5, .i32⟩
  | .hbm, ⟨61, _⟩ => ⟨S2x4096x5, .i1⟩
  | .hbm, ⟨62, _⟩ => ⟨S_, .i32⟩
  | .hbm, ⟨63, _⟩ => ⟨S2x4096x5, .i32⟩
  | .hbm, ⟨64, _⟩ => ⟨S2x4096x5, .i32⟩
  | .hbm, ⟨65, _⟩ => ⟨S2x4096x5, .i32⟩
  | .hbm, ⟨66, _⟩ => ⟨S2x4096x5x1, .i32⟩
  | .hbm, ⟨67, _⟩ => ⟨S1, .i32⟩
  | .hbm, ⟨68, _⟩ => ⟨S_, .i32⟩
  | .hbm, ⟨69, _⟩ => ⟨S2x4096x5x1, .i32⟩
  | .hbm, ⟨70, _⟩ => ⟨S2x4096x5x1, .i1⟩
  | .hbm, ⟨71, _⟩ => ⟨S1x1x1x1, .i32⟩
  | .hbm, ⟨72, _⟩ => ⟨S2x4096x5x1, .i32⟩
  | .hbm, ⟨73, _⟩ => ⟨S2x4096x5x1, .i1⟩
  | .hbm, ⟨74, _⟩ => ⟨S2x4096x5x1, .i1⟩
  | .hbm, ⟨75, _⟩ => ⟨S_, .i1⟩
  | .hbm, ⟨76, _⟩ => ⟨S2x4096x5, .i1⟩
  | .hbm, ⟨77, _⟩ => ⟨S2x4096x5x3, .f32⟩
  | .hbm, ⟨78, _⟩ => ⟨S2x4096x5x3, .i1⟩
  | .hbm, ⟨79, _⟩ => ⟨S_, .f32⟩
  | .hbm, ⟨80, _⟩ => ⟨S2x4096x5x3, .f32⟩
  | .hbm, ⟨81, _⟩ => ⟨S2x4096x5x3, .f32⟩
  | .hbm, ⟨82, _⟩ => ⟨S_, .f32⟩
  | .hbm, ⟨83, _⟩ => ⟨S2x4096x5, .f32⟩
  | .hbm, ⟨84, _⟩ => ⟨S2x4096x5, .f32⟩
  | .hbm, ⟨85, _⟩ => ⟨S_, .f32⟩
  | .hbm, ⟨86, _⟩ => ⟨S2x4096x5, .f32⟩
  | .hbm, ⟨87, _⟩ => ⟨S2x4096x5, .f32⟩
  | .hbm, ⟨88, _⟩ => ⟨S_, .f32⟩
  | .hbm, ⟨89, _⟩ => ⟨S2x4096, .f32⟩
  | .hbm, ⟨90, _⟩ => ⟨S2x4096x1, .f32⟩
  | .hbm, ⟨91, _⟩ => ⟨S_, .f32⟩
  | .hbm, ⟨92, _⟩ => ⟨S2x4096x5, .f32⟩
  | .hbm, ⟨93, _⟩ => ⟨S2x4096x5, .f32⟩
  | .hbm, ⟨94, _⟩ => ⟨S_, .f32⟩
  | .hbm, ⟨95, _⟩ => ⟨S2x4096x5, .f32⟩
  | .hbm, ⟨96, _⟩ => ⟨S2x4096x5, .f32⟩
  | .hbm, ⟨97, _⟩ => ⟨S2x4096x5, .f32⟩
  | .hbm, ⟨98, _⟩ => ⟨S2x4096x5, .f32⟩
  | .hbm, ⟨99, _⟩ => ⟨S2x4096x5x1, .f32⟩
  | .hbm, ⟨100, _⟩ => ⟨S2x4096x5x3, .f32⟩
  | .hbm, ⟨101, _⟩ => ⟨S2x4096x5x3, .f32⟩
  | .hbm, ⟨102, _⟩ => ⟨S_, .f32⟩
  | .hbm, ⟨103, _⟩ => ⟨S2x4096x3, .f32⟩
  | .hbm, ⟨104, _⟩ => ⟨S2x4096x3, .f32⟩
  | .hbm, ⟨105, _⟩ => ⟨S2x4096x3, .f32⟩
  | .hbm, ⟨106, _⟩ => ⟨S_, .f32⟩
  | .hbm, ⟨107, _⟩ => ⟨S2x4096, .f32⟩
  | .hbm, ⟨108, _⟩ => ⟨S_, .f32⟩
  | .hbm, ⟨109, _⟩ => ⟨S2, .f32⟩
  | .hbm, ⟨110, _⟩ => ⟨S_, .f32⟩
  | .hbm, ⟨111, _⟩ => ⟨S_, .f32⟩
  | .hbm, ⟨112, _⟩ => ⟨S2x1x4096, .f32⟩
  | .hbm, ⟨113, _⟩ => ⟨S1x1, .f32⟩
  | .hbm, ⟨114, _⟩ => ⟨S1x1, .f32⟩
  | _, _ => ⟨S2x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_values : Ref sig .tc := ⟨.hbm, 56, rfl⟩
abbrev main_indices : Ref sig .tc := ⟨.hbm, 57, rfl⟩
abbrev main_v39 : Ref sig .tc := ⟨.hbm, 58, rfl⟩
abbrev main_call0_c : Ref sig .tc := ⟨.hbm, 59, rfl⟩
abbrev main_call0_v0 : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_c_1 : Ref sig .tc := ⟨.hbm, 67, rfl⟩
abbrev main_call0_c_2 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_3 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_call0_cst : Ref sig .tc := ⟨.hbm, 79, rfl⟩
abbrev main_call0_v15 : Ref sig .tc := ⟨.hbm, 80, rfl⟩
abbrev main_v40 : Ref sig .tc := ⟨.hbm, 81, rfl⟩
abbrev main_cst_11 : Ref sig .tc := ⟨.hbm, 82, rfl⟩
abbrev main_v41 : Ref sig .tc := ⟨.hbm, 83, rfl⟩
abbrev main_v42 : Ref sig .tc := ⟨.hbm, 84, rfl⟩
abbrev main_cst_12 : Ref sig .tc := ⟨.hbm, 85, rfl⟩
abbrev main_v43 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_cst_14 : Ref sig .tc := ⟨.hbm, 91, rfl⟩
abbrev main_v47 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_16 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_v59 : Ref sig .tc := ⟨.hbm, 107, rfl⟩
abbrev main_cst_18 : Ref sig .tc := ⟨.hbm, 108, rfl⟩
abbrev main_v60 : Ref sig .tc := ⟨.hbm, 109, rfl⟩
abbrev main_cst_19 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]
-- ==== Curv2048.lean ====
abbrev S2x3x2048 : Shape := ⟨3, ![2, 3, 2048]⟩
abbrev S2x2048x3 : Shape := ⟨3, ![2, 2048, 3]⟩
abbrev S1x512x3 : Shape := ⟨3, ![1, 512, 3]⟩
abbrev S1x3x2048 : Shape := ⟨3, ![1, 3, 2048]⟩
abbrev S1x2048x3 : Shape := ⟨3, ![1, 2048, 3]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩
abbrev S2048x3 : Shape := ⟨2, ![2048, 3]⟩

abbrev nBuf : Space → Nat
  | .hbm => 3
  | .vmem => 8
  | .smem => 0
  | _ => 0

abbrev bufTy : (tb : Table) → Fin (tcTables nBuf tb) → BufTy
  | .hbm, ⟨0, _⟩ => ⟨S2x3x2048, .f32⟩
  | .hbm, ⟨1, _⟩ => ⟨S2x2048x3, .f32⟩
  | .hbm, ⟨2, _⟩ => ⟨S2x2048x3, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x512x3, .f32⟩
  | .local _ .vmem, ⟨7, _⟩ => ⟨S1x512x3, .f32⟩
  | _, _ => ⟨S2x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Curv2048Ideal.lean ====
abbrev S2x3x2048 : Shape := ⟨3, ![2, 3, 2048]⟩
abbrev S2x2048x3 : Shape := ⟨3, ![2, 2048, 3]⟩
abbrev S1x512x3 : Shape := ⟨3, ![1, 512, 3]⟩
abbrev S1x3x2048 : Shape := ⟨3, ![1, 3, 2048]⟩
abbrev S1x2048x3 : Shape := ⟨3, ![1, 2048, 3]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩
abbrev S2048x3 : Shape := ⟨2, ![2048, 3]⟩

abbrev nBuf : Space → Nat
  | .hbm => 3
  | .vmem => 8
  | .smem => 0
  | _ => 0

abbrev bufTy : (tb : Table) → Fin (tcTables nBuf tb) → BufTy
  | .hbm, ⟨0, _⟩ => ⟨S2x3x2048, .f32⟩
  | .hbm, ⟨1, _⟩ => ⟨S2x2048x3, .f32⟩
  | .hbm, ⟨2, _⟩ => ⟨S2x2048x3, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x512x3, .f32⟩
  | .local _ .vmem, ⟨7, _⟩ => ⟨S1x512x3, .f32⟩
  | _, _ => ⟨S2x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Curv2048RefIdeal.lean ====
abbrev S2x3x2048 : Shape := ⟨3, ![2, 3, 2048]⟩
abbrev S2x2048x3 : Shape := ⟨3, ![2, 2048, 3]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S2x1x2048 : Shape := ⟨3, ![2, 1, 2048]⟩
abbrev S2x2048x10 : Shape := ⟨3, ![2, 2048, 10]⟩
abbrev S2x2048x10x1 : Shape := ⟨4, ![2, 2048, 10, 1]⟩
abbrev S1 : Shape := ⟨1, ![1]⟩
abbrev S1x1x1x1 : Shape := ⟨4, ![1, 1, 1, 1]⟩
abbrev S2x2048x10x3 : Shape := ⟨4, ![2, 2048, 10, 3]⟩
abbrev S2x2048x1x3 : Shape := ⟨4, ![2, 2048, 1, 3]⟩

abbrev nBuf : Space → Nat
  | .hbm => 53
  | .vmem => 0
  | .smem => 0
  | _ => 0

abbrev bufTy : (tb : Table) → Fin (tcTables nBuf tb) → BufTy
  | .hbm, ⟨0, _⟩ => ⟨S2x3x2048, .f32⟩
  | .hbm, ⟨1, _⟩ => ⟨S2x2048x3, .f32⟩
  | .hbm, ⟨2, _⟩ => ⟨S2x2048x2048, .f32⟩
  | .hbm, ⟨3, _⟩ => ⟨S_, .f32⟩
  | .hbm, ⟨4, _⟩ => ⟨S2x2048x2048, .f32⟩
  | .hbm, ⟨5, _⟩ => ⟨S2x2048x2048, .f32⟩
  | .hbm, ⟨6, _⟩ => ⟨S2x2048x3, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S2x2048x2048, .f32⟩
  | .hbm, ⟨11, _⟩ => ⟨S2x2048x2048, .f32⟩
  | .hbm, ⟨12, _⟩ => ⟨S2x2048x3, .f32⟩
  | .hbm, ⟨13, _⟩ => ⟨S_, .f32⟩
  | .hbm, ⟨14, _⟩ => ⟨S2x2048, .f32⟩
  | .hbm, ⟨15, _⟩ => ⟨S2x1x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S2x2048x10, .f32⟩
  | .hbm, ⟨20, _⟩ => ⟨S2x2048x10, .i32⟩
  | .hbm, ⟨21, _⟩ => ⟨S2x2048x10, .f32⟩
  | .hbm, ⟨22, _⟩ => ⟨S_, .i32⟩
  | .hbm, ⟨23, _⟩ => ⟨S2x2048x10, .i32⟩
  | .hbm, ⟨24, _⟩ => ⟨S2x2048x10, .i1⟩
  | .hbm, ⟨25, _⟩ => ⟨S_, .i32⟩
  | .hbm, ⟨26, _⟩ => ⟨S2x2048x10, .i32⟩
  | .hbm, ⟨27, _⟩ => ⟨S2x2048x10, .i32⟩
  | .hbm, ⟨28, _⟩ => ⟨S2x2048x10, .i32⟩
  | .hbm, ⟨29, _⟩ => ⟨S2x2048x10x1, .i32⟩
  | .hbm, ⟨30, _⟩ => ⟨S1, .i32⟩
  | .hbm, ⟨31, _⟩ => ⟨S_, .i32⟩
  | .hbm, ⟨32, _⟩ => ⟨S2x2048x10x1, .i32⟩
  | .hbm, ⟨33, _⟩ => ⟨S2x2048x10x1, .i1⟩
  | .hbm, ⟨34, _⟩ => ⟨S1x1x1x1, .i32⟩
  | .hbm, ⟨35, _⟩ => ⟨S2x2048x10x1, .i32⟩
  | .hbm, ⟨36, _⟩ => ⟨S2x2048x10x1, .i1⟩
  | .hbm, ⟨37, _⟩ => ⟨S2x2048x10x1, .i1⟩
  | .hbm, ⟨38, _⟩ => ⟨S_, .i1⟩
  | .hbm, ⟨39, _⟩ => ⟨S2x2048x10, .i1⟩
  | .hbm, ⟨40, _⟩ => ⟨S2x2048x10x3, .f32⟩
  | .hbm, ⟨41, _⟩ => ⟨S2x2048x10x3, .i1⟩
  | .hbm, ⟨42, _⟩ => ⟨S_, .f32⟩
  | .hbm, ⟨43, _⟩ => ⟨S2x2048x10x3, .f32⟩
  | .hbm, ⟨44, _⟩ => ⟨S2x2048x10x3, .f32⟩
  | .hbm, ⟨45, _⟩ => ⟨S2x2048x1x3, .f32⟩
  | .hbm, ⟨46, _⟩ => ⟨S2x2048x10x3, .f32⟩
  | .hbm, ⟨47, _⟩ => ⟨S2x2048x10x3, .f32⟩
  | .hbm, ⟨48, _⟩ => ⟨S_, .f32⟩
  | .hbm, ⟨49, _⟩ => ⟨S2x2048x3, .f32⟩
  | .hbm, ⟨50, _⟩ => ⟨S_, .f32⟩
  | .hbm, ⟨51, _⟩ => ⟨S2x2048x3, .f32⟩
  | .hbm, ⟨52, _⟩ => ⟨S2x2048x3, .f32⟩
  | _, _ => ⟨S2x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]
-- ==== Smooth2048.lean ====
abbrev S2x3x2048 : Shape := ⟨3, ![2, 3, 2048]⟩
abbrev S2x2048x3 : Shape := ⟨3, ![2, 2048, 3]⟩
abbrev S1x1 : Shape := ⟨2, ![1, 1]⟩
abbrev S1x512x3 : Shape := ⟨3, ![1, 512, 3]⟩
abbrev S1x3x2048 : Shape := ⟨3, ![1, 3, 2048]⟩
abbrev S1x2048x3 : Shape := ⟨3, ![1, 2048, 3]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S2048x3 : Shape := ⟨2, ![2048, 3]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x2048, .f32⟩
  | .hbm, ⟨1, _⟩ => ⟨S2x3x2048, .f32⟩
  | .hbm, ⟨2, _⟩ => ⟨S2x2048x3, .f32⟩
  | .hbm, ⟨3, _⟩ => ⟨S2x2048x3, .f32⟩
  | .hbm, ⟨4, _⟩ => ⟨S2x2048x3, .f32⟩
  | .hbm, ⟨5, _⟩ => ⟨S1x1, .f32⟩
  | .hbm, ⟨6, _⟩ => ⟨S2x2048x3, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x3x2048, .f32⟩
  | .local _ .vmem, ⟨5, _⟩ => ⟨S1x3x2048, .f32⟩
  | .local _ .vmem, ⟨6, _⟩ => ⟨S1x512x3, .f32⟩
  | .local _ .vmem, ⟨7, _⟩ => ⟨S1x512x3, .f32⟩
  | .local _ .vmem, ⟨8, _⟩ => ⟨S1x2048x3, .f32⟩
  | .local _ .vmem, ⟨9, _⟩ => ⟨S1x2048x3, .f32⟩
  | .local _ .vmem, ⟨10, _⟩ => ⟨S1x512x3, .f32⟩
  | .local _ .vmem, ⟨11, _⟩ => ⟨S1x512x3, .f32⟩
  | .local _ .vmem, ⟨12, _⟩ => ⟨S1x1, .f32⟩
  | .local _ .vmem, ⟨13, _⟩ => ⟨S1x512x3, .f32⟩
  | .local _ .vmem, ⟨14, _⟩ => ⟨S1x512x3, .f32⟩
  | _, _ => ⟨S2x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Smooth2048Ideal.lean ====
abbrev S2x3x2048 : Shape := ⟨3, ![2, 3, 2048]⟩
abbrev S2x2048x3 : Shape := ⟨3, ![2, 2048, 3]⟩
abbrev S1x1 : Shape := ⟨2, ![1, 1]⟩
abbrev S1x512x3 : Shape := ⟨3, ![1, 512, 3]⟩
abbrev S1x3x2048 : Shape := ⟨3, ![1, 3, 2048]⟩
abbrev S1x2048x3 : Shape := ⟨3, ![1, 2048, 3]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S2048x3 : Shape := ⟨2, ![2048, 3]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x2048, .f32⟩
  | .hbm, ⟨1, _⟩ => ⟨S2x3x2048, .f32⟩
  | .hbm, ⟨2, _⟩ => ⟨S2x2048x3, .f32⟩
  | .hbm, ⟨3, _⟩ => ⟨S2x2048x3, .f32⟩
  | .hbm, ⟨4, _⟩ => ⟨S2x2048x3, .f32⟩
  | .hbm, ⟨5, _⟩ => ⟨S1x1, .f32⟩
  | .hbm, ⟨6, _⟩ => ⟨S2x2048x3, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x3x2048, .f32⟩
  | .local _ .vmem, ⟨5, _⟩ => ⟨S1x3x2048, .f32⟩
  | .local _ .vmem, ⟨6, _⟩ => ⟨S1x512x3, .f32⟩
  | .local _ .vmem, ⟨7, _⟩ => ⟨S1x512x3, .f32⟩
  | .local _ .vmem, ⟨8, _⟩ => ⟨S1x2048x3, .f32⟩
  | .local _ .vmem, ⟨9, _⟩ => ⟨S1x2048x3, .f32⟩
  | .local _ .vmem, ⟨10, _⟩ => ⟨S1x512x3, .f32⟩
  | .local _ .vmem, ⟨11, _⟩ => ⟨S1x512x3, .f32⟩
  | .local _ .vmem, ⟨12, _⟩ => ⟨S1x1, .f32⟩
  | .local _ .vmem, ⟨13, _⟩ => ⟨S1x512x3, .f32⟩
  | .local _ .vmem, ⟨14, _⟩ => ⟨S1x512x3, .f32⟩
  | _, _ => ⟨S2x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Smooth2048RefIdeal.lean ====
abbrev S2x3x2048 : Shape := ⟨3, ![2, 3, 2048]⟩
abbrev S2x2048x3 : Shape := ⟨3, ![2, 2048, 3]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S2x1x2048 : Shape := ⟨3, ![2, 1, 2048]⟩
abbrev S2x2048x9 : Shape := ⟨3, ![2, 2048, 9]⟩
abbrev S2x2048x9x1 : Shape := ⟨4, ![2, 2048, 9, 1]⟩
abbrev S1 : Shape := ⟨1, ![1]⟩
abbrev S1x1x1x1 : Shape := ⟨4, ![1, 1, 1, 1]⟩
abbrev S2x2048x9x3 : Shape := ⟨4, ![2, 2048, 9, 3]⟩
abbrev S2x2048x1x3 : Shape := ⟨4, ![2, 2048, 1, 3]⟩
abbrev S2 : Shape := ⟨1, ![2]⟩
abbrev S1x1 : Shape := ⟨2, ![1, 1]⟩
abbrev S2x2048x10 : Shape := ⟨3, ![2, 2048, 10]⟩
abbrev S2x2048x10x1 : Shape := ⟨4, ![2, 2048, 10, 1]⟩
abbrev S2x2048x10x3 : Shape := ⟨4, ![2, 2048, 10, 3]⟩

abbrev nBuf : Space → Nat
  | .hbm => 118
  | .vmem => 0
  | .smem => 0
  | _ => 0

abbrev bufTy : (tb : Table) → Fin (tcTables nBuf tb) → BufTy
  | .hbm, ⟨0, _⟩ => ⟨S2x3x2048, .f32⟩
  | .hbm, ⟨1, _⟩ => ⟨S2x3x2048, .f32⟩
  | .hbm, ⟨2, _⟩ => ⟨S2x2048x3, .f32⟩
  | .hbm, ⟨3, _⟩ => ⟨S2x2048x3, .f32⟩
  | .hbm, ⟨4, _⟩ => ⟨S2x2048x2048, .f32⟩
  | .hbm, ⟨5, _⟩ => ⟨S_, .f32⟩
  | .hbm, ⟨6, _⟩ => ⟨S2x2048x2048, .f32⟩
  | .hbm, ⟨7, _⟩ => ⟨S2x2048x2048, .f32⟩
  | .hbm, ⟨8, _⟩ => ⟨S2x2048x3, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S2x2048x2048, .f32⟩
  | .hbm, ⟨13, _⟩ => ⟨S2x2048x2048, .f32⟩
  | .hbm, ⟨14, _⟩ => ⟨S2x2048x3, .f32⟩
  | .hbm, ⟨15, _⟩ => ⟨S_, .f32⟩
  | .hbm, ⟨16, _⟩ => ⟨S2x2048, .f32⟩
  | .hbm, ⟨17, _⟩ => ⟨S2x1x2048, .f32⟩
  | .hbm, ⟨18, _⟩ => ⟨S2x2048x2048, .f32⟩
  | .hbm, ⟨19, _⟩ => ⟨S2x2048x2048, .f32⟩
  | .hbm, ⟨20, _⟩ => ⟨S2x2048x2048, .f32⟩
  | .hbm, ⟨21, _⟩ => ⟨S2x2048x9, .f32⟩
  | .hbm, ⟨22, _⟩ => ⟨S2x2048x9, .i32⟩
  | .hbm, ⟨23, _⟩ => ⟨S2x2048x9, .f32⟩
  | .hbm, ⟨24, _⟩ => ⟨S_, .i32⟩
  | .hbm, ⟨25, _⟩ => ⟨S2x2048x9, .i32⟩
  | .hbm, ⟨26, _⟩ => ⟨S2x2048x9, .i1⟩
  | .hbm, ⟨27, _⟩ => ⟨S_, .i32⟩
  | .hbm, ⟨28, _⟩ => ⟨S2x2048x9, .i32⟩
  | .hbm, ⟨29, _⟩ => ⟨S2x2048x9, .i32⟩
  | .hbm, ⟨30, _⟩ => ⟨S2x2048x9, .i32⟩
  | .hbm, ⟨31, _⟩ => ⟨S2x2048x9x1, .i32⟩
  | .hbm, ⟨32, _⟩ => ⟨S1, .i32⟩
  | .hbm, ⟨33, _⟩ => ⟨S_, .i32⟩
  | .hbm, ⟨34, _⟩ => ⟨S2x2048x9x1, .i32⟩
  | .hbm, ⟨35, _⟩ => ⟨S2x2048x9x1, .i1⟩
  | .hbm, ⟨36, _⟩ => ⟨S1x1x1x1, .i32⟩
  | .hbm, ⟨37, _⟩ => ⟨S2x2048x9x1, .i32⟩
  | .hbm, ⟨38, _⟩ => ⟨S2x2048x9x1, .i1⟩
  | .hbm, ⟨39, _⟩ => ⟨S2x2048x9x1, .i1⟩
  | .hbm, ⟨40, _⟩ => ⟨S_, .i1⟩
  | .hbm, ⟨41, _⟩ => ⟨S2x2048x9, .i1⟩
  | .hbm, ⟨42, _⟩ => ⟨S2x2048x9x3, .f32⟩
  | .hbm, ⟨43, _⟩ => ⟨S2x2048x9x3, .i1⟩
  | .hbm, ⟨44, _⟩ => ⟨S_, .f32⟩
  | .hbm, ⟨45, _⟩ => ⟨S2x2048x9x3, .f32⟩
  | .hbm, ⟨46, _⟩ => ⟨S2x2048x9x3, .f32⟩
  | .hbm, ⟨47, _⟩ => ⟨S2x2048x1x3, .f32⟩
  | .hbm, ⟨48, _⟩ => ⟨S2x2048x9x3, .f32⟩
  | .hbm, ⟨49, _⟩ => ⟨S2x2048x9x3, .f32⟩
  | .hbm, ⟨50, _⟩ => ⟨S2x2048x9x3, .f32⟩
  | .hbm, ⟨51, _⟩ => ⟨S_, .f32⟩
  | .hbm, ⟨52, _⟩ => ⟨S2x2048x9, .f32⟩
  | .hbm, ⟨53, _⟩ => ⟨S2x2048x9, .f32⟩
  | .hbm, ⟨54, _⟩ => ⟨S_, .f32⟩
  | .hbm, ⟨55, _⟩ => ⟨S2x2048, .f32⟩
  | .hbm, ⟨56, _⟩ => ⟨S_, .f32⟩
  | .hbm, ⟨57, _⟩ => ⟨S2x2048, .f32⟩
  | .hbm, ⟨58, _⟩ => ⟨S2x2048, .f32⟩
  | .hbm, ⟨59, _⟩ => ⟨S_, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S2x3x2048, .f32⟩
  | .hbm, ⟨65, _⟩ => ⟨S2x2048x3, .f32⟩
  | .hbm, ⟨66, _⟩ => ⟨S2x2048x3, .f32⟩
  | .hbm, ⟨67, _⟩ => ⟨S2x2048x2048, .f32⟩
  | .hbm, ⟨68, _⟩ => ⟨S_, .f32⟩
  | .hbm, ⟨69, _⟩ => ⟨S2x2048x2048, .f32⟩
  | .hbm, ⟨70, _⟩ => ⟨S2x2048x2048, .f32⟩
  | .hbm, ⟨71, _⟩ => ⟨S2x2048x3, .f32⟩
  | .hbm, ⟨72, _⟩ => ⟨S_, .f32⟩
  | .hbm, ⟨73, _⟩ => ⟨S2x2048, .f32⟩
  | .hbm, ⟨74, _⟩ => ⟨S2x2048x1, .f32⟩
  | .hbm, ⟨75, _⟩ => ⟨S2x2048x2048, .f32⟩
  | .hbm, ⟨76, _⟩ => ⟨S2x2048x2048, .f32⟩
  | .hbm, ⟨77, _⟩ => ⟨S2x2048x3, .f32⟩
  | .hbm, ⟨78, _⟩ => ⟨S_, .f32⟩
  | .hbm, ⟨79, _⟩ => ⟨S2x2048, .f32⟩
  | .hbm, ⟨80, _⟩ => ⟨S2x1x2048, .f32⟩
  | .hbm, ⟨81, _⟩ => ⟨S2x2048x2048, .f32⟩
  | .hbm, ⟨82, _⟩ => ⟨S2x2048x2048, .f32⟩
  | .hbm, ⟨83, _⟩ => ⟨S2x2048x2048, .f32⟩
  | .hbm, ⟨84, _⟩ => ⟨S2x2048x10, .f32⟩
  | .hbm, ⟨85, _⟩ => ⟨S2x2048x10, .i32⟩
  | .hbm, ⟨86, _⟩ => ⟨S2x2048x10, .f32⟩
  | .hbm, ⟨87, _⟩ => ⟨S_, .i32⟩
  | .hbm, ⟨88, _⟩ => ⟨S2x2048x10, .i32⟩
  | .hbm, ⟨89, _⟩ => ⟨S2x2048x10, .i1⟩
  | .hbm, ⟨90, _⟩ => ⟨S_, .i32⟩
  | .hbm, ⟨91, _⟩ => ⟨S2x2048x10, .i32⟩
  | .hbm, ⟨92, _⟩ => ⟨S2x2048x10, .i32⟩
  | .hbm, ⟨93, _⟩ => ⟨S2x2048x10, .i32⟩
  | .hbm, ⟨94, _⟩ => ⟨S2x2048x10x1, .i32⟩
  | .hbm, ⟨95, _⟩ => ⟨S1, .i32⟩
  | .hbm, ⟨96, _⟩ => ⟨S_, .i32⟩
  | .hbm, ⟨97, _⟩ => ⟨S2x2048x10x1, .i32⟩
  | .hbm, ⟨98, _⟩ => ⟨S2x2048x10x1, .i1⟩
  | .hbm, ⟨99, _⟩ => ⟨S1x1x1x1, .i32⟩
  | .hbm, ⟨100, _⟩ => ⟨S2x2048x10x1, .i32⟩
  | .hbm, ⟨101, _⟩ => ⟨S2x2048x10x1, .i1⟩
  | .hbm, ⟨102, _⟩ => ⟨S2x2048x10x1, .i1⟩
  | .hbm, ⟨103, _⟩ => ⟨S_, .i1⟩
  | .hbm, ⟨104, _⟩ => ⟨S2x2048x10, .i1⟩
  | .hbm, ⟨105, _⟩ => ⟨S2x2048x10x3, .f32⟩
  | .hbm, ⟨106, _⟩ => ⟨S2x2048x10x3, .i1⟩
  | .hbm, ⟨107, _⟩ => ⟨S_, .f32⟩
  | .hbm, ⟨108, _⟩ => ⟨S2x2048x10x3, .f32⟩
  | .hbm, ⟨109, _⟩ => ⟨S2x2048x10x3, .f32⟩
  | .hbm, ⟨110, _⟩ => ⟨S2x2048x1x3, .f32⟩
  | .hbm, ⟨111, _⟩ => ⟨S2x2048x10x3, .f32⟩
  | .hbm, ⟨112, _⟩ => ⟨S2x2048x10x3, .f32⟩
  | .hbm, ⟨113, _⟩ => ⟨S_, .f32⟩
  | .hbm, ⟨114, _⟩ => ⟨S2x2048x3, .f32⟩
  | .hbm, ⟨115, _⟩ => ⟨S_, .f32⟩
  | .hbm, ⟨116, _⟩ => ⟨S2x2048x3, .f32⟩
  | .hbm, ⟨117, _⟩ => ⟨S2x2048x3, .f32⟩
  | _, _ => ⟨S2x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_values_9 : Ref sig .tc := ⟨.hbm, 84, rfl⟩
abbrev main_indices_10 : Ref sig .tc := ⟨.hbm, 85, rfl⟩
abbrev main_v45 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_11 : Ref sig .tc := ⟨.hbm, 113, rfl⟩
abbrev main_v50 : Ref sig .tc := ⟨.hbm, 114, rfl⟩
abbrev main_cst_12 : Ref sig .tc := ⟨.hbm, 115, rfl⟩
abbrev main_v51 : Ref sig .tc := ⟨.hbm, 116, rfl⟩
abbrev main_v52 : Ref sig .tc := ⟨.hbm, 117, rfl⟩

abbrev nD : Nat := 1
abbrev τ : Topo := Topo.v7x

variable {F : FTy → Type} [FloatOps F]
-- ==== Cross2048.lean ====
abbrev S2x3x2048 : Shape := ⟨3, ![2, 3, 2048]⟩
abbrev S2x2048x3 : Shape := ⟨3, ![2, 2048, 3]⟩
abbrev S2x1x2048 : Shape := ⟨3, ![2, 1, 2048]⟩
abbrev S1x1 : Shape := ⟨2, ![1, 1]⟩
abbrev S1x512x3 : Shape := ⟨3, ![1, 512, 3]⟩
abbrev S1x3x2048 : Shape := ⟨3, ![1, 3, 2048]⟩
abbrev S1x2048x3 : Shape := ⟨3, ![1, 2048, 3]⟩
abbrev S1x1x2048 : Shape := ⟨3, ![1, 1, 2048]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S2048 : Shape := ⟨1, ![2048]⟩
abbrev S2048x3 : Shape := ⟨2, ![2048, 3]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x2048, .f32⟩
  | .hbm, ⟨1, _⟩ => ⟨S2x3x2048, .f32⟩
  | .hbm, ⟨2, _⟩ => ⟨S2x3x2048, .f32⟩
  | .hbm, ⟨3, _⟩ => ⟨S2x2048x3, .f32⟩
  | .hbm, ⟨4, _⟩ => ⟨S2x2048x3, .f32⟩
  | .hbm, ⟨5, _⟩ => ⟨S2x2048x3, .f32⟩
  | .hbm, ⟨6, _⟩ => ⟨S2x2048x3, .f32⟩
  | .hbm, ⟨7, _⟩ => ⟨S2x2048x3, .f32⟩
  | .hbm, ⟨8, _⟩ => ⟨S2x1x2048, .f32⟩
  | .hbm, ⟨9, _⟩ => ⟨S1x1, .f32⟩
  | .hbm, ⟨10, _⟩ => ⟨S1x1, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x512x3, .f32⟩
  | .local _ .vmem, ⟨7, _⟩ => ⟨S1x512x3, .f32⟩
  | .local _ .vmem, ⟨8, _⟩ => ⟨S1x1x2048, .f32⟩
  | .local _ .vmem, ⟨9, _⟩ => ⟨S1x1x2048, .f32⟩
  | .local _ .vmem, ⟨10, _⟩ => ⟨S1x1, .f32⟩
  | .local _ .vmem, ⟨11, _⟩ => ⟨S1x1, .f32⟩
  | _, _ => ⟨S2x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Cross2048Ideal.lean ====
abbrev S2x3x2048 : Shape := ⟨3, ![2, 3, 2048]⟩
abbrev S2x2048x3 : Shape := ⟨3, ![2, 2048, 3]⟩
abbrev S2x1x2048 : Shape := ⟨3, ![2, 1, 2048]⟩
abbrev S1x1 : Shape := ⟨2, ![1, 1]⟩
abbrev S1x512x3 : Shape := ⟨3, ![1, 512, 3]⟩
abbrev S1x3x2048 : Shape := ⟨3, ![1, 3, 2048]⟩
abbrev S1x2048x3 : Shape := ⟨3, ![1, 2048, 3]⟩
abbrev S1x1x2048 : Shape := ⟨3, ![1, 1, 2048]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S1x2048 : Shape := ⟨2, ![1, 2048]⟩
abbrev S2048 : Shape := ⟨1, ![2048]⟩
abbrev S2048x3 : Shape := ⟨2, ![2048, 3]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x2048, .f32⟩
  | .hbm, ⟨1, _⟩ => ⟨S2x3x2048, .f32⟩
  | .hbm, ⟨2, _⟩ => ⟨S2x3x2048, .f32⟩
  | .hbm, ⟨3, _⟩ => ⟨S2x2048x3, .f32⟩
  | .hbm, ⟨4, _⟩ => ⟨S2x2048x3, .f32⟩
  | .hbm, ⟨5, _⟩ => ⟨S2x2048x3, .f32⟩
  | .hbm, ⟨6, _⟩ => ⟨S2x2048x3, .f32⟩
  | .hbm, ⟨7, _⟩ => ⟨S2x2048x3, .f32⟩
  | .hbm, ⟨8, _⟩ => ⟨S2x1x2048, .f32⟩
  | .hbm, ⟨9, _⟩ => ⟨S1x1, .f32⟩
  | .hbm, ⟨10, _⟩ => ⟨S1x1, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S1x512x3, .f32⟩
  | .local _ .vmem, ⟨7, _⟩ => ⟨S1x512x3, .f32⟩
  | .local _ .vmem, ⟨8, _⟩ => ⟨S1x1x2048, .f32⟩
  | .local _ .vmem, ⟨9, _⟩ => ⟨S1x1x2048, .f32⟩
  | .local _ .vmem, ⟨10, _⟩ => ⟨S1x1, .f32⟩
  | .local _ .vmem, ⟨11, _⟩ => ⟨S1x1, .f32⟩
  | _, _ => ⟨S2x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Cross2048RefIdeal.lean ====
abbrev S2x3x2048 : Shape := ⟨3, ![2, 3, 2048]⟩
abbrev S2x2048x3 : Shape := ⟨3, ![2, 2048, 3]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S2x1x2048 : Shape := ⟨3, ![2, 1, 2048]⟩
abbrev S2 : Shape := ⟨1, ![2]⟩
abbrev S2x2048x5 : Shape := ⟨3, ![2, 2048, 5]⟩
abbrev S2x2048x5x1 : Shape := ⟨4, ![2, 2048, 5, 1]⟩
abbrev S1 : Shape := ⟨1, ![1]⟩
abbrev S1x1x1x1 : Shape := ⟨4, ![1, 1, 1, 1]⟩
abbrev S2x2048x5x3 : Shape := ⟨4, ![2, 2048, 5, 3]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S2x3x2048, .f32⟩
  | .hbm, ⟨1, _⟩ => ⟨S2x3x2048, .f32⟩
  | .hbm, ⟨2, _⟩ => ⟨S2x3x2048, .f32⟩
  | .hbm, ⟨3, _⟩ => ⟨S2x2048x3, .f32⟩
  | .hbm, ⟨4, _⟩ => ⟨S2x2048x3, .f32⟩
  | .hbm, ⟨5, _⟩ => ⟨S2x3x2048, .f32⟩
  | .hbm, ⟨6, _⟩ => ⟨S2x2048x3, .f32⟩
  | .hbm, ⟨7, _⟩ => ⟨S2x2048x3, .f32⟩
  | .hbm, ⟨8, _⟩ => ⟨S2x2048x2048, .f32⟩
  | .hbm, ⟨9, _⟩ => ⟨S_, .f32⟩
  | .hbm, ⟨10, _⟩ => ⟨S2x2048x2048, .f32⟩
  | .hbm, ⟨11, _⟩ => ⟨S2x2048x2048, .f32⟩
  | .hbm, ⟨12, _⟩ => ⟨S2x2048x3, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S2x2048x2048, .f32⟩
  | .hbm, ⟨17, _⟩ => ⟨S2x2048x2048, .f32⟩
  | .hbm, ⟨18, _⟩ => ⟨S2x2048x3, .f32⟩
  | .hbm, ⟨19, _⟩ => ⟨S_, .f32⟩
  | .hbm, ⟨20, _⟩ => ⟨S2x2048, .f32⟩
  | .hbm, ⟨21, _⟩ => ⟨S2x1x2048, .f32⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S_, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x2048x3, .f32⟩
  | .hbm, ⟨38, _⟩ => ⟨S2x2048x3, .f32⟩
  | .hbm, ⟨39, _⟩ => ⟨S2x2048x2048, .f32⟩
  | .hbm, ⟨40, _⟩ => ⟨S_, .f32⟩
  | .hbm, ⟨41, _⟩ => ⟨S2x2048x2048, .f32⟩
  | .hbm, ⟨42, _⟩ => ⟨S2x2048x2048, .f32⟩
  | .hbm, ⟨43, _⟩ => ⟨S2x2048x3, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S2x2048x2048, .f32⟩
  | .hbm, ⟨48, _⟩ => ⟨S2x2048x2048, .f32⟩
  | .hbm, ⟨49, _⟩ => ⟨S2x2048x3, .f32⟩
  | .hbm, ⟨50, _⟩ => ⟨S_, .f32⟩
  | .hbm, ⟨51, _⟩ => ⟨S2x2048, .f32⟩
  | .hbm, ⟨52, _⟩ => ⟨S2x1x2048, .f32⟩
  | .hbm, ⟨53, _⟩ => ⟨S2x2048x2048, .f32⟩
  | .hbm, ⟨54, _⟩ => ⟨S2x2048x2048, .f32⟩
  | .hbm, ⟨55, _⟩ => ⟨S2x2048x2048, .f32⟩
  | .hbm, ⟨56, _⟩ => ⟨S2x2048x5, .f32⟩
  | .hbm, ⟨57, _⟩ => ⟨S2x2048x5, .i32⟩
  | .hbm, ⟨58, _⟩ => ⟨S2x2048x5, .f32⟩
  | .hbm, ⟨59, _⟩ => ⟨S_, .i32⟩
  | .hbm, ⟨60, _⟩ => ⟨S2x2048x5, .i32⟩
  | .hbm, ⟨61, _⟩ => ⟨S2x2048x5, .i1⟩
  | .hbm, ⟨62, _⟩ => ⟨S_, .i32⟩
  | .hbm, ⟨63, _⟩ => ⟨S2x2048x5, .i32⟩
  | .hbm, ⟨64, _⟩ => ⟨S2x2048x5, .i32⟩
  | .hbm, ⟨65, _⟩ => ⟨S2x2048x5, .i32⟩
  | .hbm, ⟨66, _⟩ => ⟨S2x2048x5x1, .i32⟩
  | .hbm, ⟨67, _⟩ => ⟨S1, .i32⟩
  | .hbm, ⟨68, _⟩ => ⟨S_, .i32⟩
  | .hbm, ⟨69, _⟩ => ⟨S2x2048x5x1, .i32⟩
  | .hbm, ⟨70, _⟩ => ⟨S2x2048x5x1, .i1⟩
  | .hbm, ⟨71, _⟩ => ⟨S1x1x1x1, .i32⟩
  | .hbm, ⟨72, _⟩ => ⟨S2x2048x5x1, .i32⟩
  | .hbm, ⟨73, _⟩ => ⟨S2x2048x5x1, .i1⟩
  | .hbm, ⟨74, _⟩ => ⟨S2x2048x5x1, .i1⟩
  | .hbm, ⟨75, _⟩ => ⟨S_, .i1⟩
  | .hbm, ⟨76, _⟩ => ⟨S2x2048x5, .i1⟩
  | .hbm, ⟨77, _⟩ => ⟨S2x2048x5x3, .f32⟩
  | .hbm, ⟨78, _⟩ => ⟨S2x2048x5x3, .i1⟩
  | .hbm, ⟨79, _⟩ => ⟨S_, .f32⟩
  | .hbm, ⟨80, _⟩ => ⟨S2x2048x5x3, .f32⟩
  | .hbm, ⟨81, _⟩ => ⟨S2x2048x5x3, .f32⟩
  | .hbm, ⟨82, _⟩ => ⟨S_, .f32⟩
  | .hbm, ⟨83, _⟩ => ⟨S2x2048x5, .f32⟩
  | .hbm, ⟨84, _⟩ => ⟨S2x2048x5, .f32⟩
  | .hbm, ⟨85, _⟩ => ⟨S_, .f32⟩
  | .hbm, ⟨86, _⟩ => ⟨S2x2048x5, .f32⟩
  | .hbm, ⟨87, _⟩ => ⟨S2x2048x5, .f32⟩
  | .hbm, ⟨88, _⟩ => ⟨S_, .f32⟩
  | .hbm, ⟨89, _⟩ => ⟨S2x2048, .f32⟩
  | .hbm, ⟨90, _⟩ => ⟨S2x2048x1, .f32⟩
  | .hbm, ⟨91, _⟩ => ⟨S_, .f32⟩
  | .hbm, ⟨92, _⟩ => ⟨S2x2048x5, .f32⟩
  | .hbm, ⟨93, _⟩ => ⟨S2x2048x5, .f32⟩
  | .hbm, ⟨94, _⟩ => ⟨S_, .f32⟩
  | .hbm, ⟨95, _⟩ => ⟨S2x2048x5, .f32⟩
  | .hbm, ⟨96, _⟩ => ⟨S2x2048x5, .f32⟩
  | .hbm, ⟨97, _⟩ => ⟨S2x2048x5, .f32⟩
  | .hbm, ⟨98, _⟩ => ⟨S2x2048x5, .f32⟩
  | .hbm, ⟨99, _⟩ => ⟨S2x2048x5x1, .f32⟩
  | .hbm, ⟨100, _⟩ => ⟨S2x2048x5x3, .f32⟩
  | .hbm, ⟨101, _⟩ => ⟨S2x2048x5x3, .f32⟩
  | .hbm, ⟨102, _⟩ => ⟨S_, .f32⟩
  | .hbm, ⟨103, _⟩ => ⟨S2x2048x3, .f32⟩
  | .hbm, ⟨104, _⟩ => ⟨S2x2048x3, .f32⟩
  | .hbm, ⟨105, _⟩ => ⟨S2x2048x3, .f32⟩
  | .hbm, ⟨106, _⟩ => ⟨S_, .f32⟩
  | .hbm, ⟨107, _⟩ => ⟨S2x2048, .f32⟩
  | .hbm, ⟨108, _⟩ => ⟨S_, .f32⟩
  | .hbm, ⟨109, _⟩ => ⟨S2, .f32⟩
  | .hbm, ⟨110, _⟩ => ⟨S_, .f32⟩
  | .hbm, ⟨111, _⟩ => ⟨S_, .f32⟩
  | .hbm, ⟨112, _⟩ => ⟨S2x1x2048, .f32⟩
  | .hbm, ⟨113, _⟩ => ⟨S1x1, .f32⟩
  | .hbm, ⟨114, _⟩ => ⟨S1x1, .f32⟩
  | _, _ => ⟨S2x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_values : Ref sig .tc := ⟨.hbm, 56, rfl⟩
abbrev main_indices : Ref sig .tc := ⟨.hbm, 57, rfl⟩
abbrev main_v39 : Ref sig .tc := ⟨.hbm, 58, rfl⟩
abbrev main_call0_c : Ref sig .tc := ⟨.hbm, 59, rfl⟩
abbrev main_call0_v0 : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_c_1 : Ref sig .tc := ⟨.hbm, 67, rfl⟩
abbrev main_call0_c_2 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_3 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_call0_cst : Ref sig .tc := ⟨.hbm, 79, rfl⟩
abbrev main_call0_v15 : Ref sig .tc := ⟨.hbm, 80, rfl⟩
abbrev main_v40 : Ref sig .tc := ⟨.hbm, 81, rfl⟩
abbrev main_cst_11 : Ref sig .tc := ⟨.hbm, 82, rfl⟩
abbrev main_v41 : Ref sig .tc := ⟨.hbm, 83, rfl⟩
abbrev main_v42 : Ref sig .tc := ⟨.hbm, 84, rfl⟩
abbrev main_cst_12 : Ref sig .tc := ⟨.hbm, 85, rfl⟩
abbrev main_v43 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_cst_14 : Ref sig .tc := ⟨.hbm, 91, rfl⟩
abbrev main_v47 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_16 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_v59 : Ref sig .tc := ⟨.hbm, 107, rfl⟩
abbrev main_cst_18 : Ref sig .tc := ⟨.hbm, 108, rfl⟩
abbrev main_v60 : Ref sig .tc := ⟨.hbm, 109, rfl⟩
abbrev main_cst_19 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]
-- ==== Curv1024.lean ====
abbrev S2x3x1024 : Shape := ⟨3, ![2, 3, 1024]⟩
abbrev S2x1024x3 : Shape := ⟨3, ![2, 1024, 3]⟩
abbrev S1x1024x3 : Shape := ⟨3, ![1, 1024, 3]⟩
abbrev S1x3x1024 : Shape := ⟨3, ![1, 3, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 3
  | .vmem => 8
  | .smem => 0
  | _ => 0

abbrev bufTy : (tb : Table) → Fin (tcTables nBuf tb) → BufTy
  | .hbm, ⟨0, _⟩ => ⟨S2x3x1024, .f32⟩
  | .hbm, ⟨1, _⟩ => ⟨S2x1024x3, .f32⟩
  | .hbm, ⟨2, _⟩ => ⟨S2x1024x3, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x3, .f32⟩
  | .local _ .vmem, ⟨7, _⟩ => ⟨S1x1024x3, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Curv1024Ideal.lean ====
abbrev S2x3x1024 : Shape := ⟨3, ![2, 3, 1024]⟩
abbrev S2x1024x3 : Shape := ⟨3, ![2, 1024, 3]⟩
abbrev S1x1024x3 : Shape := ⟨3, ![1, 1024, 3]⟩
abbrev S1x3x1024 : Shape := ⟨3, ![1, 3, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 3
  | .vmem => 8
  | .smem => 0
  | _ => 0

abbrev bufTy : (tb : Table) → Fin (tcTables nBuf tb) → BufTy
  | .hbm, ⟨0, _⟩ => ⟨S2x3x1024, .f32⟩
  | .hbm, ⟨1, _⟩ => ⟨S2x1024x3, .f32⟩
  | .hbm, ⟨2, _⟩ => ⟨S2x1024x3, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x3, .f32⟩
  | .local _ .vmem, ⟨7, _⟩ => ⟨S1x1024x3, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Curv1024RefIdeal.lean ====
abbrev S2x3x1024 : Shape := ⟨3, ![2, 3, 1024]⟩
abbrev S2x1024x3 : Shape := ⟨3, ![2, 1024, 3]⟩
abbrev S2x1024x1024 : Shape := ⟨3, ![2, 1024, 1024]⟩
abbrev S_ : Shape := ⟨0, ![]⟩
abbrev S2x1024 : Shape := ⟨2, ![2, 1024]⟩
abbrev S2x1024x1 : Shape := ⟨3, ![2, 1024, 1]⟩
abbrev S2x1x1024 : Shape := ⟨3, ![2, 1, 1024]⟩
abbrev S2x1024x10 : Shape := ⟨3, ![2, 1024, 10]⟩
abbrev S2x1024x10x1 : Shape := ⟨4, ![2, 1024, 10, 1]⟩
abbrev S1 : Shape := ⟨1, ![1]⟩
abbrev S1x1x1x1 : Shape := ⟨4, ![1, 1, 1, 1]⟩
abbrev S2x1024x10x3 : Shape := ⟨4, ![2, 1024, 10, 3]⟩
abbrev S2x1024x1x3 : Shape := ⟨4, ![2, 1024, 1, 3]⟩

abbrev nBuf : Space → Nat
  | .hbm => 53
  | .vmem => 0
  | .smem => 0
  | _ => 0

abbrev bufTy : (tb : Table) → Fin (tcTables nBuf tb) → BufTy
  | .hbm, ⟨0, _⟩ => ⟨S2x3x1024, .f32⟩
  | .hbm, ⟨1, _⟩ => ⟨S2x1024x3, .f32⟩
  | .hbm, ⟨2, _⟩ => ⟨S2x1024x1024, .f32⟩
  | .hbm, ⟨3, _⟩ => ⟨S_, .f32⟩
  | .hbm, ⟨4, _⟩ => ⟨S2x1024x1024, .f32⟩
  | .hbm, ⟨5, _⟩ => ⟨S2x1024x1024, .f32⟩
  | .hbm, ⟨6, _⟩ => ⟨S2x1024x3, .f32⟩
  | .hbm, ⟨7, _⟩ => ⟨S_, .f32⟩
  | .hbm, ⟨8, _⟩ => ⟨S2x1024, .f32⟩
  | .hbm, ⟨9, _⟩ => ⟨S2x1024x1, .f32⟩
  | .hbm, ⟨10, _⟩ => ⟨S2x1024x1024, .f32⟩
  | .hbm, ⟨11, _⟩ => ⟨S2x1024x1024, .f32⟩
  | .hbm, ⟨12, _⟩ => ⟨S2x1024x3, .f32⟩
  | .hbm, ⟨13, _⟩ => ⟨S_, .f32⟩
  | .hbm, ⟨14, _⟩ => ⟨S2x1024, .f32⟩
  | .hbm, ⟨15, _⟩ => ⟨S2x1x1024, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S2x1024x10, .f32⟩
  | .hbm, ⟨20, _⟩ => ⟨S2x1024x10, .i32⟩
  | .hbm, ⟨21, _⟩ => ⟨S2x1024x10, .f32⟩
  | .hbm, ⟨22, _⟩ => ⟨S_, .i32⟩
  | .hbm, ⟨23, _⟩ => ⟨S2x1024x10, .i32⟩
  | .hbm, ⟨24, _⟩ => ⟨S2x1024x10, .i1⟩
  | .hbm, ⟨25, _⟩ => ⟨S_, .i32⟩
  | .hbm, ⟨26, _⟩ => ⟨S2x1024x10, .i32⟩
  | .hbm, ⟨27, _⟩ => ⟨S2x1024x10, .i32⟩
  | .hbm, ⟨28, _⟩ => ⟨S2x1024x10, .i32⟩
  | .hbm, ⟨29, _⟩ => ⟨S2x1024x10x1, .i32⟩
  | .hbm, ⟨30, _⟩ => ⟨S1, .i32⟩
  | .hbm, ⟨31, _⟩ => ⟨S_, .i32⟩
  | .hbm, ⟨32, _⟩ => ⟨S2x1024x10x1, .i32⟩
  | .hbm, ⟨33, _⟩ => ⟨S2x1024x10x1, .i1⟩
  | .hbm, ⟨34, _⟩ => ⟨S1x1x1x1, .i32⟩
  | .hbm, ⟨35, _⟩ => ⟨S2x1024x10x1, .i32⟩
  | .hbm, ⟨36, _⟩ => ⟨S2x1024x10x1, .i1⟩
  | .hbm, ⟨37, _⟩ => ⟨S2x1024x10x1, .i1⟩
  | .hbm, ⟨38, _⟩ => ⟨S_, .i1⟩
  | .hbm, ⟨39, _⟩ => ⟨S2x1024x10, .i1⟩
  | .hbm, ⟨40, _⟩ => ⟨S2x1024x10x3, .f32⟩
  | .hbm, ⟨41, _⟩ => ⟨S2x1024x10x3, .i1⟩
  | .hbm, ⟨42, _⟩ => ⟨S_, .f32⟩
  | .hbm, ⟨43, _⟩ => ⟨S2x1024x10x3, .f32⟩
  | .hbm, ⟨44, _⟩ => ⟨S2x1024x10x3, .f32⟩
  | .hbm, ⟨45, _⟩ => ⟨S2x1024x1x3, .f32⟩
  | .hbm, ⟨46, _⟩ => ⟨S2x1024x10x3, .f32⟩
  | .hbm, ⟨47, _⟩ => ⟨S2x1024x10x3, .f32⟩
  | .hbm, ⟨48, _⟩ => ⟨S_, .f32⟩
  | .hbm, ⟨49, _⟩ => ⟨S2x1024x3, .f32⟩
  | .hbm, ⟨50, _⟩ => ⟨S_, .f32⟩
  | .hbm, ⟨51, _⟩ => ⟨S2x1024x3, .f32⟩
  | .hbm, ⟨52, _⟩ => ⟨S2x1024x3, .f32⟩
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]
-- ==== Smooth1024.lean ====
abbrev S2x3x1024 : Shape := ⟨3, ![2, 3, 1024]⟩
abbrev S2x1024x3 : Shape := ⟨3, ![2, 1024, 3]⟩
abbrev S1x1 : Shape := ⟨2, ![1, 1]⟩
abbrev S1x1024x3 : Shape := ⟨3, ![1, 1024, 3]⟩
abbrev S1x3x1024 : Shape := ⟨3, ![1, 3, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x1024, .f32⟩
  | .hbm, ⟨1, _⟩ => ⟨S2x3x1024, .f32⟩
  | .hbm, ⟨2, _⟩ => ⟨S2x1024x3, .f32⟩
  | .hbm, ⟨3, _⟩ => ⟨S2x1024x3, .f32⟩
  | .hbm, ⟨4, _⟩ => ⟨S2x1024x3, .f32⟩
  | .hbm, ⟨5, _⟩ => ⟨S1x1, .f32⟩
  | .hbm, ⟨6, _⟩ => ⟨S2x1024x3, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024x3, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x3, .f32⟩
  | .local _ .vmem, ⟨11, _⟩ => ⟨S1x1024x3, .f32⟩
  | .local _ .vmem, ⟨12, _⟩ => ⟨S1x1, .f32⟩
  | .local _ .vmem, ⟨13, _⟩ => ⟨S1x1024x3, .f32⟩
  | .local _ .vmem, ⟨14, _⟩ => ⟨S1x1024x3, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Smooth1024Ideal.lean ====
abbrev S2x3x1024 : Shape := ⟨3, ![2, 3, 1024]⟩
abbrev S2x1024x3 : Shape := ⟨3, ![2, 1024, 3]⟩
abbrev S1x1 : Shape := ⟨2, ![1, 1]⟩
abbrev S1x1024x3 : Shape := ⟨3, ![1, 1024, 3]⟩
abbrev S1x3x1024 : Shape := ⟨3, ![1, 3, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x1024, .f32⟩
  | .hbm, ⟨1, _⟩ => ⟨S2x3x1024, .f32⟩
  | .hbm, ⟨2, _⟩ => ⟨S2x1024x3, .f32⟩
  | .hbm, ⟨3, _⟩ => ⟨S2x1024x3, .f32⟩
  | .hbm, ⟨4, _⟩ => ⟨S2x1024x3, .f32⟩
  | .hbm, ⟨5, _⟩ => ⟨S1x1, .f32⟩
  | .hbm, ⟨6, _⟩ => ⟨S2x1024x3, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024x3, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x3, .f32⟩
  | .local _ .vmem, ⟨11, _⟩ => ⟨S1x1024x3, .f32⟩
  | .local _ .vmem, ⟨12, _⟩ => ⟨S1x1, .f32⟩
  | .local _ .vmem, ⟨13, _⟩ => ⟨S1x1024x3, .f32⟩
  | .local _ .vmem, ⟨14, _⟩ => ⟨S1x1024x3, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Smooth1024RefIdeal.lean ====
abbrev S2x3x1024 : Shape := ⟨3, ![2, 3, 1024]⟩
abbrev S2x1024x3 : Shape := ⟨3, ![2, 1024, 3]⟩
abbrev S2x1024x1024 : Shape := ⟨3, ![2, 1024, 1024]⟩
abbrev S_ : Shape := ⟨0, ![]⟩
abbrev S2x1024 : Shape := ⟨2, ![2, 1024]⟩
abbrev S2x1024x1 : Shape := ⟨3, ![2, 1024, 1]⟩
abbrev S2x1x1024 : Shape := ⟨3, ![2, 1, 1024]⟩
abbrev S2x1024x9 : Shape := ⟨3, ![2, 1024, 9]⟩
abbrev S2x1024x9x1 : Shape := ⟨4, ![2, 1024, 9, 1]⟩
abbrev S1 : Shape := ⟨1, ![1]⟩
abbrev S1x1x1x1 : Shape := ⟨4, ![1, 1, 1, 1]⟩
abbrev S2x1024x9x3 : Shape := ⟨4, ![2, 1024, 9, 3]⟩
abbrev S2x1024x1x3 : Shape := ⟨4, ![2, 1024, 1, 3]⟩
abbrev S2 : Shape := ⟨1, ![2]⟩
abbrev S1x1 : Shape := ⟨2, ![1, 1]⟩
abbrev S2x1024x10 : Shape := ⟨3, ![2, 1024, 10]⟩
abbrev S2x1024x10x1 : Shape := ⟨4, ![2, 1024, 10, 1]⟩
abbrev S2x1024x10x3 : Shape := ⟨4, ![2, 1024, 10, 3]⟩

abbrev nBuf : Space → Nat
  | .hbm => 118
  | .vmem => 0
  | .smem => 0
  | _ => 0

abbrev bufTy : (tb : Table) → Fin (tcTables nBuf tb) → BufTy
  | .hbm, ⟨0, _⟩ => ⟨S2x3x1024, .f32⟩
  | .hbm, ⟨1, _⟩ => ⟨S2x3x1024, .f32⟩
  | .hbm, ⟨2, _⟩ => ⟨S2x1024x3, .f32⟩
  | .hbm, ⟨3, _⟩ => ⟨S2x1024x3, .f32⟩
  | .hbm, ⟨4, _⟩ => ⟨S2x1024x1024, .f32⟩
  | .hbm, ⟨5, _⟩ => ⟨S_, .f32⟩
  | .hbm, ⟨6, _⟩ => ⟨S2x1024x1024, .f32⟩
  | .hbm, ⟨7, _⟩ => ⟨S2x1024x1024, .f32⟩
  | .hbm, ⟨8, _⟩ => ⟨S2x1024x3, .f32⟩
  | .hbm, ⟨9, _⟩ => ⟨S_, .f32⟩
  | .hbm, ⟨10, _⟩ => ⟨S2x1024, .f32⟩
  | .hbm, ⟨11, _⟩ => ⟨S2x1024x1, .f32⟩
  | .hbm, ⟨12, _⟩ => ⟨S2x1024x1024, .f32⟩
  | .hbm, ⟨13, _⟩ => ⟨S2x1024x1024, .f32⟩
  | .hbm, ⟨14, _⟩ => ⟨S2x1024x3, .f32⟩
  | .hbm, ⟨15, _⟩ => ⟨S_, .f32⟩
  | .hbm, ⟨16, _⟩ => ⟨S2x1024, .f32⟩
  | .hbm, ⟨17, _⟩ => ⟨S2x1x1024, .f32⟩
  | .hbm, ⟨18, _⟩ => ⟨S2x1024x1024, .f32⟩
  | .hbm, ⟨19, _⟩ => ⟨S2x1024x1024, .f32⟩
  | .hbm, ⟨20, _⟩ => ⟨S2x1024x1024, .f32⟩
  | .hbm, ⟨21, _⟩ => ⟨S2x1024x9, .f32⟩
  | .hbm, ⟨22, _⟩ => ⟨S2x1024x9, .i32⟩
  | .hbm, ⟨23, _⟩ => ⟨S2x1024x9, .f32⟩
  | .hbm, ⟨24, _⟩ => ⟨S_, .i32⟩
  | .hbm, ⟨25, _⟩ => ⟨S2x1024x9, .i32⟩
  | .hbm, ⟨26, _⟩ => ⟨S2x1024x9, .i1⟩
  | .hbm, ⟨27, _⟩ => ⟨S_, .i32⟩
  | .hbm, ⟨28, _⟩ => ⟨S2x1024x9, .i32⟩
  | .hbm, ⟨29, _⟩ => ⟨S2x1024x9, .i32⟩
  | .hbm, ⟨30, _⟩ => ⟨S2x1024x9, .i32⟩
  | .hbm, ⟨31, _⟩ => ⟨S2x1024x9x1, .i32⟩
  | .hbm, ⟨32, _⟩ => ⟨S1, .i32⟩
  | .hbm, ⟨33, _⟩ => ⟨S_, .i32⟩
  | .hbm, ⟨34, _⟩ => ⟨S2x1024x9x1, .i32⟩
  | .hbm, ⟨35, _⟩ => ⟨S2x1024x9x1, .i1⟩
  | .hbm, ⟨36, _⟩ => ⟨S1x1x1x1, .i32⟩
  | .hbm, ⟨37, _⟩ => ⟨S2x1024x9x1, .i32⟩
  | .hbm, ⟨38, _⟩ => ⟨S2x1024x9x1, .i1⟩
  | .hbm, ⟨39, _⟩ => ⟨S2x1024x9x1, .i1⟩
  | .hbm, ⟨40, _⟩ => ⟨S_, .i1⟩
  | .hbm, ⟨41, _⟩ => ⟨S2x1024x9, .i1⟩
  | .hbm, ⟨42, _⟩ => ⟨S2x1024x9x3, .f32⟩
  | .hbm, ⟨43, _⟩ => ⟨S2x1024x9x3, .i1⟩
  | .hbm, ⟨44, _⟩ => ⟨S_, .f32⟩
  | .hbm, ⟨45, _⟩ => ⟨S2x1024x9x3, .f32⟩
  | .hbm, ⟨46, _⟩ => ⟨S2x1024x9x3, .f32⟩
  | .hbm, ⟨47, _⟩ => ⟨S2x1024x1x3, .f32⟩
  | .hbm, ⟨48, _⟩ => ⟨S2x1024x9x3, .f32⟩
  | .hbm, ⟨49, _⟩ => ⟨S2x1024x9x3, .f32⟩
  | .hbm, ⟨50, _⟩ => ⟨S2x1024x9x3, .f32⟩
  | .hbm, ⟨51, _⟩ => ⟨S_, .f32⟩
  | .hbm, ⟨52, _⟩ => ⟨S2x1024x9, .f32⟩
  | .hbm, ⟨53, _⟩ => ⟨S2x1024x9, .f32⟩
  | .hbm, ⟨54, _⟩ => ⟨S_, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S2x3x1024, .f32⟩
  | .hbm, ⟨65, _⟩ => ⟨S2x1024x3, .f32⟩
  | .hbm, ⟨66, _⟩ => ⟨S2x1024x3, .f32⟩
  | .hbm, ⟨67, _⟩ => ⟨S2x1024x1024, .f32⟩
  | .hbm, ⟨68, _⟩ => ⟨S_, .f32⟩
  | .hbm, ⟨69, _⟩ => ⟨S2x1024x1024, .f32⟩
  | .hbm, ⟨70, _⟩ => ⟨S2x1024x1024, .f32⟩
  | .hbm, ⟨71, _⟩ => ⟨S2x1024x3, .f32⟩
  | .hbm, ⟨72, _⟩ => ⟨S_, .f32⟩
  | .hbm, ⟨73, _⟩ => ⟨S2x1024, .f32⟩
  | .hbm, ⟨74, _⟩ => ⟨S2x1024x1, .f32⟩
  | .hbm, ⟨75, _⟩ => ⟨S2x1024x1024, .f32⟩
  | .hbm, ⟨76, _⟩ => ⟨S2x1024x1024, .f32⟩
  | .hbm, ⟨77, _⟩ => ⟨S2x1024x3, .f32⟩
  | .hbm, ⟨78, _⟩ => ⟨S_, .f32⟩
  | .hbm, ⟨79, _⟩ => ⟨S2x1024, .f32⟩
  | .hbm, ⟨80, _⟩ => ⟨S2x1x1024, .f32⟩
  | .hbm, ⟨81, _⟩ => ⟨S2x1024x1024, .f32⟩
  | .hbm, ⟨82, _⟩ => ⟨S2x1024x1024, .f32⟩
  | .hbm, ⟨83, _⟩ => ⟨S2x1024x1024, .f32⟩
  | .hbm, ⟨84, _⟩ => ⟨S2x1024x10, .f32⟩
  | .hbm, ⟨85, _⟩ => ⟨S2x1024x10, .i32⟩
  | .hbm, ⟨86, _⟩ => ⟨S2x1024x10, .f32⟩
  | .hbm, ⟨87, _⟩ => ⟨S_, .i32⟩
  | .hbm, ⟨88, _⟩ => ⟨S2x1024x10, .i32⟩
  | .hbm, ⟨89, _⟩ => ⟨S2x1024x10, .i1⟩
  | .hbm, ⟨90, _⟩ => ⟨S_, .i32⟩
  | .hbm, ⟨91, _⟩ => ⟨S2x1024x10, .i32⟩
  | .hbm, ⟨92, _⟩ => ⟨S2x1024x10, .i32⟩
  | .hbm, ⟨93, _⟩ => ⟨S2x1024x10, .i32⟩
  | .hbm, ⟨94, _⟩ => ⟨S2x1024x10x1, .i32⟩
  | .hbm, ⟨95, _⟩ => ⟨S1, .i32⟩
  | .hbm, ⟨96, _⟩ => ⟨S_, .i32⟩
  | .hbm, ⟨97, _⟩ => ⟨S2x1024x10x1, .i32⟩
  | .hbm, ⟨98, _⟩ => ⟨S2x1024x10x1, .i1⟩
  | .hbm, ⟨99, _⟩ => ⟨S1x1x1x1, .i32⟩
  | .hbm, ⟨100, _⟩ => ⟨S2x1024x10x1, .i32⟩
  | .hbm, ⟨101, _⟩ => ⟨S2x1024x10x1, .i1⟩
  | .hbm, ⟨102, _⟩ => ⟨S2x1024x10x1, .i1⟩
  | .hbm, ⟨103, _⟩ => ⟨S_, .i1⟩
  | .hbm, ⟨104, _⟩ => ⟨S2x1024x10, .i1⟩
  | .hbm, ⟨105, _⟩ => ⟨S2x1024x10x3, .f32⟩
  | .hbm, ⟨106, _⟩ => ⟨S2x1024x10x3, .i1⟩
  | .hbm, ⟨107, _⟩ => ⟨S_, .f32⟩
  | .hbm, ⟨108, _⟩ => ⟨S2x1024x10x3, .f32⟩
  | .hbm, ⟨109, _⟩ => ⟨S2x1024x10x3, .f32⟩
  | .hbm, ⟨110, _⟩ => ⟨S2x1024x1x3, .f32⟩
  | .hbm, ⟨111, _⟩ => ⟨S2x1024x10x3, .f32⟩
  | .hbm, ⟨112, _⟩ => ⟨S2x1024x10x3, .f32⟩
  | .hbm, ⟨113, _⟩ => ⟨S_, .f32⟩
  | .hbm, ⟨114, _⟩ => ⟨S2x1024x3, .f32⟩
  | .hbm, ⟨115, _⟩ => ⟨S_, .f32⟩
  | .hbm, ⟨116, _⟩ => ⟨S2x1024x3, .f32⟩
  | .hbm, ⟨117, _⟩ => ⟨S2x1024x3, .f32⟩
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_values_9 : Ref sig .tc := ⟨.hbm, 84, rfl⟩
abbrev main_indices_10 : Ref sig .tc := ⟨.hbm, 85, rfl⟩
abbrev main_v45 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_11 : Ref sig .tc := ⟨.hbm, 113, rfl⟩
abbrev main_v50 : Ref sig .tc := ⟨.hbm, 114, rfl⟩
abbrev main_cst_12 : Ref sig .tc := ⟨.hbm, 115, rfl⟩
abbrev main_v51 : Ref sig .tc := ⟨.hbm, 116, rfl⟩
abbrev main_v52 : Ref sig .tc := ⟨.hbm, 117, rfl⟩

abbrev nD : Nat := 1
abbrev τ : Topo := Topo.v7x

variable {F : FTy → Type} [FloatOps F]
-- ==== Cross1024.lean ====
abbrev S2x3x1024 : Shape := ⟨3, ![2, 3, 1024]⟩
abbrev S2x1024x3 : Shape := ⟨3, ![2, 1024, 3]⟩
abbrev S2x1x1024 : Shape := ⟨3, ![2, 1, 1024]⟩
abbrev S1x1 : Shape := ⟨2, ![1, 1]⟩
abbrev S1x1024x3 : Shape := ⟨3, ![1, 1024, 3]⟩
abbrev S1x3x1024 : Shape := ⟨3, ![1, 3, 1024]⟩
abbrev S1x1x1024 : Shape := ⟨3, ![1, 1, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x1024, .f32⟩
  | .hbm, ⟨1, _⟩ => ⟨S2x3x1024, .f32⟩
  | .hbm, ⟨2, _⟩ => ⟨S2x3x1024, .f32⟩
  | .hbm, ⟨3, _⟩ => ⟨S2x1024x3, .f32⟩
  | .hbm, ⟨4, _⟩ => ⟨S2x1024x3, .f32⟩
  | .hbm, ⟨5, _⟩ => ⟨S2x1024x3, .f32⟩
  | .hbm, ⟨6, _⟩ => ⟨S2x1024x3, .f32⟩
  | .hbm, ⟨7, _⟩ => ⟨S2x1024x3, .f32⟩
  | .hbm, ⟨8, _⟩ => ⟨S2x1x1024, .f32⟩
  | .hbm, ⟨9, _⟩ => ⟨S1x1, .f32⟩
  | .hbm, ⟨10, _⟩ => ⟨S1x1, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x3, .f32⟩
  | .local _ .vmem, ⟨7, _⟩ => ⟨S1x1024x3, .f32⟩
  | .local _ .vmem, ⟨8, _⟩ => ⟨S1x1x1024, .f32⟩
  | .local _ .vmem, ⟨9, _⟩ => ⟨S1x1x1024, .f32⟩
  | .local _ .vmem, ⟨10, _⟩ => ⟨S1x1, .f32⟩
  | .local _ .vmem, ⟨11, _⟩ => ⟨S1x1, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Cross1024Ideal.lean ====
abbrev S2x3x1024 : Shape := ⟨3, ![2, 3, 1024]⟩
abbrev S2x1024x3 : Shape := ⟨3, ![2, 1024, 3]⟩
abbrev S2x1x1024 : Shape := ⟨3, ![2, 1, 1024]⟩
abbrev S1x1 : Shape := ⟨2, ![1, 1]⟩
abbrev S1x1024x3 : Shape := ⟨3, ![1, 1024, 3]⟩
abbrev S1x3x1024 : Shape := ⟨3, ![1, 3, 1024]⟩
abbrev S1x1x1024 : Shape := ⟨3, ![1, 1, 1024]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x1024, .f32⟩
  | .hbm, ⟨1, _⟩ => ⟨S2x3x1024, .f32⟩
  | .hbm, ⟨2, _⟩ => ⟨S2x3x1024, .f32⟩
  | .hbm, ⟨3, _⟩ => ⟨S2x1024x3, .f32⟩
  | .hbm, ⟨4, _⟩ => ⟨S2x1024x3, .f32⟩
  | .hbm, ⟨5, _⟩ => ⟨S2x1024x3, .f32⟩
  | .hbm, ⟨6, _⟩ => ⟨S2x1024x3, .f32⟩
  | .hbm, ⟨7, _⟩ => ⟨S2x1024x3, .f32⟩
  | .hbm, ⟨8, _⟩ => ⟨S2x1x1024, .f32⟩
  | .hbm, ⟨9, _⟩ => ⟨S1x1, .f32⟩
  | .hbm, ⟨10, _⟩ => ⟨S1x1, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x3, .f32⟩
  | .local _ .vmem, ⟨7, _⟩ => ⟨S1x1024x3, .f32⟩
  | .local _ .vmem, ⟨8, _⟩ => ⟨S1x1x1024, .f32⟩
  | .local _ .vmem, ⟨9, _⟩ => ⟨S1x1x1024, .f32⟩
  | .local _ .vmem, ⟨10, _⟩ => ⟨S1x1, .f32⟩
  | .local _ .vmem, ⟨11, _⟩ => ⟨S1x1, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Cross1024RefIdeal.lean ====
abbrev S2x3x1024 : Shape := ⟨3, ![2, 3, 1024]⟩
abbrev S2x1024x3 : Shape := ⟨3, ![2, 1024, 3]⟩
abbrev S2x1024x1024 : Shape := ⟨3, ![2, 1024, 1024]⟩
abbrev S_ : Shape := ⟨0, ![]⟩
abbrev S2x1024 : Shape := ⟨2, ![2, 1024]⟩
abbrev S2x1024x1 : Shape := ⟨3, ![2, 1024, 1]⟩
abbrev S2x1x1024 : Shape := ⟨3, ![2, 1, 1024]⟩
abbrev S2 : Shape := ⟨1, ![2]⟩
abbrev S2x1024x5 : Shape := ⟨3, ![2, 1024, 5]⟩
abbrev S2x1024x5x1 : Shape := ⟨4, ![2, 1024, 5, 1]⟩
abbrev S1 : Shape := ⟨1, ![1]⟩
abbrev S1x1x1x1 : Shape := ⟨4, ![1, 1, 1, 1]⟩
abbrev S2x1024x5x3 : Shape := ⟨4, ![2, 1024, 5, 3]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S2x3x1024, .f32⟩
  | .hbm, ⟨1, _⟩ => ⟨S2x3x1024, .f32⟩
  | .hbm, ⟨2, _⟩ => ⟨S2x3x1024, .f32⟩
  | .hbm, ⟨3, _⟩ => ⟨S2x1024x3, .f32⟩
  | .hbm, ⟨4, _⟩ => ⟨S2x1024x3, .f32⟩
  | .hbm, ⟨5, _⟩ => ⟨S2x3x1024, .f32⟩
  | .hbm, ⟨6, _⟩ => ⟨S2x1024x3, .f32⟩
  | .hbm, ⟨7, _⟩ => ⟨S2x1024x3, .f32⟩
  | .hbm, ⟨8, _⟩ => ⟨S2x1024x1024, .f32⟩
  | .hbm, ⟨9, _⟩ => ⟨S_, .f32⟩
  | .hbm, ⟨10, _⟩ => ⟨S2x1024x1024, .f32⟩
  | .hbm, ⟨11, _⟩ => ⟨S2x1024x1024, .f32⟩
  | .hbm, ⟨12, _⟩ => ⟨S2x1024x3, .f32⟩
  | .hbm, ⟨13, _⟩ => ⟨S_, .f32⟩
  | .hbm, ⟨14, _⟩ => ⟨S2x1024, .f32⟩
  | .hbm, ⟨15, _⟩ => ⟨S2x1024x1, .f32⟩
  | .hbm, ⟨16, _⟩ => ⟨S2x1024x1024, .f32⟩
  | .hbm, ⟨17, _⟩ => ⟨S2x1024x1024, .f32⟩
  | .hbm, ⟨18, _⟩ => ⟨S2x1024x3, .f32⟩
  | .hbm, ⟨19, _⟩ => ⟨S_, .f32⟩
  | .hbm, ⟨20, _⟩ => ⟨S2x1024, .f32⟩
  | .hbm, ⟨21, _⟩ => ⟨S2x1x1024, .f32⟩
  | .hbm, ⟨22, _⟩ => ⟨S2x1024x1024, .f32⟩
  | .hbm, ⟨23, _⟩ => ⟨S2x1024x1024, .f32⟩
  | .hbm, ⟨24, _⟩ => ⟨S_, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S_, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x1024x3, .f32⟩
  | .hbm, ⟨38, _⟩ => ⟨S2x1024x3, .f32⟩
  | .hbm, ⟨39, _⟩ => ⟨S2x1024x1024, .f32⟩
  | .hbm, ⟨40, _⟩ => ⟨S_, .f32⟩
  | .hbm, ⟨41, _⟩ => ⟨S2x1024x1024, .f32⟩
  | .hbm, ⟨42, _⟩ => ⟨S2x1024x1024, .f32⟩
  | .hbm, ⟨43, _⟩ => ⟨S2x1024x3, .f32⟩
  | .hbm, ⟨44, _⟩ => ⟨S_, .f32⟩
  | .hbm, ⟨45, _⟩ => ⟨S2x1024, .f32⟩
  | .hbm, ⟨46, _⟩ => ⟨S2x1024x1, .f32⟩
  | .hbm, ⟨47, _⟩ => ⟨S2x1024x1024, .f32⟩
  | .hbm, ⟨48, _⟩ => ⟨S2x1024x1024, .f32⟩
  | .hbm, ⟨49, _⟩ => ⟨S2x1024x3, .f32⟩
  | .hbm, ⟨50, _⟩ => ⟨S_, .f32⟩
  | .hbm, ⟨51, _⟩ => ⟨S2x1024, .f32⟩
  | .hbm, ⟨52, _⟩ => ⟨S2x1x1024, .f32⟩
  | .hbm, ⟨53, _⟩ => ⟨S2x1024x1024, .f32⟩
  | .hbm, ⟨54, _⟩ => ⟨S2x1024x1024, .f32⟩
  | .hbm, ⟨55, _⟩ => ⟨S2x1024x1024, .f32⟩
  | .hbm, ⟨56, _⟩ => ⟨S2x1024x5, .f32⟩
  | .hbm, ⟨57, _⟩ => ⟨S2x1024x5, .i32⟩
  | .hbm, ⟨58, _⟩ => ⟨S2x1024x5, .f32⟩
  | .hbm, ⟨59, _⟩ => ⟨S_, .i32⟩
  | .hbm, ⟨60, _⟩ => ⟨S2x1024x5, .i32⟩
  | .hbm, ⟨61, _⟩ => ⟨S2x1024x5, .i1⟩
  | .hbm, ⟨62, _⟩ => ⟨S_, .i32⟩
  | .hbm, ⟨63, _⟩ => ⟨S2x1024x5, .i32⟩
  | .hbm, ⟨64, _⟩ => ⟨S2x1024x5, .i32⟩
  | .hbm, ⟨65, _⟩ => ⟨S2x1024x5, .i32⟩
  | .hbm, ⟨66, _⟩ => ⟨S2x1024x5x1, .i32⟩
  | .hbm, ⟨67, _⟩ => ⟨S1, .i32⟩
  | .hbm, ⟨68, _⟩ => ⟨S_, .i32⟩
  | .hbm, ⟨69, _⟩ => ⟨S2x1024x5x1, .i32⟩
  | .hbm, ⟨70, _⟩ => ⟨S2x1024x5x1, .i1⟩
  | .hbm, ⟨71, _⟩ => ⟨S1x1x1x1, .i32⟩
  | .hbm, ⟨72, _⟩ => ⟨S2x1024x5x1, .i32⟩
  | .hbm, ⟨73, _⟩ => ⟨S2x1024x5x1, .i1⟩
  | .hbm, ⟨74, _⟩ => ⟨S2x1024x5x1, .i1⟩
  | .hbm, ⟨75, _⟩ => ⟨S_, .i1⟩
  | .hbm, ⟨76, _⟩ => ⟨S2x1024x5, .i1⟩
  | .hbm, ⟨77, _⟩ => ⟨S2x1024x5x3, .f32⟩
  | .hbm, ⟨78, _⟩ => ⟨S2x1024x5x3, .i1⟩
  | .hbm, ⟨79, _⟩ => ⟨S_, .f32⟩
  | .hbm, ⟨80, _⟩ => ⟨S2x1024x5x3, .f32⟩
  | .hbm, ⟨81, _⟩ => ⟨S2x1024x5x3, .f32⟩
  | .hbm, ⟨82, _⟩ => ⟨S_, .f32⟩
  | .hbm, ⟨83, _⟩ => ⟨S2x1024x5, .f32⟩
  | .hbm, ⟨84, _⟩ => ⟨S2x1024x5, .f32⟩
  | .hbm, ⟨85, _⟩ => ⟨S_, .f32⟩
  | .hbm, ⟨86, _⟩ => ⟨S2x1024x5, .f32⟩
  | .hbm, ⟨87, _⟩ => ⟨S2x1024x5, .f32⟩
  | .hbm, ⟨88, _⟩ => ⟨S_, .f32⟩
  | .hbm, ⟨89, _⟩ => ⟨S2x1024, .f32⟩
  | .hbm, ⟨90, _⟩ => ⟨S2x1024x1, .f32⟩
  | .hbm, ⟨91, _⟩ => ⟨S_, .f32⟩
  | .hbm, ⟨92, _⟩ => ⟨S2x1024x5, .f32⟩
  | .hbm, ⟨93, _⟩ => ⟨S2x1024x5, .f32⟩
  | .hbm, ⟨94, _⟩ => ⟨S_, .f32⟩
  | .hbm, ⟨95, _⟩ => ⟨S2x1024x5, .f32⟩
  | .hbm, ⟨96, _⟩ => ⟨S2x1024x5, .f32⟩
  | .hbm, ⟨97, _⟩ => ⟨S2x1024x5, .f32⟩
  | .hbm, ⟨98, _⟩ => ⟨S2x1024x5, .f32⟩
  | .hbm, ⟨99, _⟩ => ⟨S2x1024x5x1, .f32⟩
  | .hbm, ⟨100, _⟩ => ⟨S2x1024x5x3, .f32⟩
  | .hbm, ⟨101, _⟩ => ⟨S2x1024x5x3, .f32⟩
  | .hbm, ⟨102, _⟩ => ⟨S_, .f32⟩
  | .hbm, ⟨103, _⟩ => ⟨S2x1024x3, .f32⟩
  | .hbm, ⟨104, _⟩ => ⟨S2x1024x3, .f32⟩
  | .hbm, ⟨105, _⟩ => ⟨S2x1024x3, .f32⟩
  | .hbm, ⟨106, _⟩ => ⟨S_, .f32⟩
  | .hbm, ⟨107, _⟩ => ⟨S2x1024, .f32⟩
  | .hbm, ⟨108, _⟩ => ⟨S_, .f32⟩
  | .hbm, ⟨109, _⟩ => ⟨S2, .f32⟩
  | .hbm, ⟨110, _⟩ => ⟨S_, .f32⟩
  | .hbm, ⟨111, _⟩ => ⟨S_, .f32⟩
  | .hbm, ⟨112, _⟩ => ⟨S2x1x1024, .f32⟩
  | .hbm, ⟨113, _⟩ => ⟨S1x1, .f32⟩
  | .hbm, ⟨114, _⟩ => ⟨S1x1, .f32⟩
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_values : Ref sig .tc := ⟨.hbm, 56, rfl⟩
abbrev main_indices : Ref sig .tc := ⟨.hbm, 57, rfl⟩
abbrev main_v39 : Ref sig .tc := ⟨.hbm, 58, rfl⟩
abbrev main_call0_c : Ref sig .tc := ⟨.hbm, 59, rfl⟩
abbrev main_call0_v0 : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_c_1 : Ref sig .tc := ⟨.hbm, 67, rfl⟩
abbrev main_call0_c_2 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_3 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_call0_cst : Ref sig .tc := ⟨.hbm, 79, rfl⟩
abbrev main_call0_v15 : Ref sig .tc := ⟨.hbm, 80, rfl⟩
abbrev main_v40 : Ref sig .tc := ⟨.hbm, 81, rfl⟩
abbrev main_cst_11 : Ref sig .tc := ⟨.hbm, 82, rfl⟩
abbrev main_v41 : Ref sig .tc := ⟨.hbm, 83, rfl⟩
abbrev main_v42 : Ref sig .tc := ⟨.hbm, 84, rfl⟩
abbrev main_cst_12 : Ref sig .tc := ⟨.hbm, 85, rfl⟩
abbrev main_v43 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_cst_14 : Ref sig .tc := ⟨.hbm, 91, rfl⟩
abbrev main_v47 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_16 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_v59 : Ref sig .tc := ⟨.hbm, 107, rfl⟩
abbrev main_cst_18 : Ref sig .tc := ⟨.hbm, 108, rfl⟩
abbrev main_v60 : Ref sig .tc := ⟨.hbm, 109, rfl⟩
abbrev main_cst_19 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]
-- ==== Curv512.lean ====
abbrev S2x3x512 : Shape := ⟨3, ![2, 3, 512]⟩
abbrev S2x512x3 : Shape := ⟨3, ![2, 512, 3]⟩
abbrev S1x512x3 : Shape := ⟨3, ![1, 512, 3]⟩
abbrev S1x3x512 : Shape := ⟨3, ![1, 3, 512]⟩
abbrev S512x3 : Shape := ⟨2, ![512, 3]⟩
abbrev S3x512 : Shape := ⟨2, ![3, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 3
  | .vmem => 8
  | .smem => 0
  | _ => 0

abbrev bufTy : (tb : Table) → Fin (tcTables nBuf tb) → BufTy
  | .hbm, ⟨0, _⟩ => ⟨S2x3x512, .f32⟩
  | .hbm, ⟨1, _⟩ => ⟨S2x512x3, .f32⟩
  | .hbm, ⟨2, _⟩ => ⟨S2x512x3, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Curv512RefIdeal.lean ====
abbrev S2x3x512 : Shape := ⟨3, ![2, 3, 512]⟩
abbrev S2x512x3 : Shape := ⟨3, ![2, 512, 3]⟩
abbrev S2x512x512 : Shape := ⟨3, ![2, 512, 512]⟩
abbrev S_ : Shape := ⟨0, ![]⟩
abbrev S2x512 : Shape := ⟨2, ![2, 512]⟩
abbrev S2x512x1 : Shape := ⟨3, ![2, 512, 1]⟩
abbrev S2x1x512 : Shape := ⟨3, ![2, 1, 512]⟩
abbrev S2x512x10 : Shape := ⟨3, ![2, 512, 10]⟩
abbrev S2x512x10x1 : Shape := ⟨4, ![2, 512, 10, 1]⟩
abbrev S1 : Shape := ⟨1, ![1]⟩
abbrev S1x1x1x1 : Shape := ⟨4, ![1, 1, 1, 1]⟩
abbrev S2x512x10x3 : Shape := ⟨4, ![2, 512, 10, 3]⟩
abbrev S2x512x1x3 : Shape := ⟨4, ![2, 512, 1, 3]⟩

abbrev nBuf : Space → Nat
  | .hbm => 53
  | .vmem => 0
  | .smem => 0
  | _ => 0

abbrev bufTy : (tb : Table) → Fin (tcTables nBuf tb) → BufTy
  | .hbm, ⟨0, _⟩ => ⟨S2x3x512, .f32⟩
  | .hbm, ⟨1, _⟩ => ⟨S2x512x3, .f32⟩
  | .hbm, ⟨2, _⟩ => ⟨S2x512x512, .f32⟩
  | .hbm, ⟨3, _⟩ => ⟨S_, .f32⟩
  | .hbm, ⟨4, _⟩ => ⟨S2x512x512, .f32⟩
  | .hbm, ⟨5, _⟩ => ⟨S2x512x512, .f32⟩
  | .hbm, ⟨6, _⟩ => ⟨S2x512x3, .f32⟩
  | .hbm, ⟨7, _⟩ => ⟨S_, .f32⟩
  | .hbm, ⟨8, _⟩ => ⟨S2x512, .f32⟩
  | .hbm, ⟨9, _⟩ => ⟨S2x512x1, .f32⟩
  | .hbm, ⟨10, _⟩ => ⟨S2x512x512, .f32⟩
  | .hbm, ⟨11, _⟩ => ⟨S2x512x512, .f32⟩
  | .hbm, ⟨12, _⟩ => ⟨S2x512x3, .f32⟩
  | .hbm, ⟨13, _⟩ => ⟨S_, .f32⟩
  | .hbm, ⟨14, _⟩ => ⟨S2x512, .f32⟩
  | .hbm, ⟨15, _⟩ => ⟨S2x1x512, .f32⟩
  | .hbm, ⟨16, _⟩ => ⟨S2x512x512, .f32⟩
  | .hbm, ⟨17, _⟩ => ⟨S2x512x512, .f32⟩
  | .hbm, ⟨18, _⟩ => ⟨S2x512x512, .f32⟩
  | .hbm, ⟨19, _⟩ => ⟨S2x512x10, .f32⟩
  | .hbm, ⟨20, _⟩ => ⟨S2x512x10, .i32⟩
  | .hbm, ⟨21, _⟩ => ⟨S2x512x10, .f32⟩
  | .hbm, ⟨22, _⟩ => ⟨S_, .i32⟩
  | .hbm, ⟨23, _⟩ => ⟨S2x512x10, .i32⟩
  | .hbm, ⟨24, _⟩ => ⟨S2x512x10, .i1⟩
  | .hbm, ⟨25, _⟩ => ⟨S_, .i32⟩
  | .hbm, ⟨26, _⟩ => ⟨S2x512x10, .i32⟩
  | .hbm, ⟨27, _⟩ => ⟨S2x512x10, .i32⟩
  | .hbm, ⟨28, _⟩ => ⟨S2x512x10, .i32⟩
  | .hbm, ⟨29, _⟩ => ⟨S2x512x10x1, .i32⟩
  | .hbm, ⟨30, _⟩ => ⟨S1, .i32⟩
  | .hbm, ⟨31, _⟩ => ⟨S_, .i32⟩
  | .hbm, ⟨32, _⟩ => ⟨S2x512x10x1, .i32⟩
  | .hbm, ⟨33, _⟩ => ⟨S2x512x10x1, .i1⟩
  | .hbm, ⟨34, _⟩ => ⟨S1x1x1x1, .i32⟩
  | .hbm, ⟨35, _⟩ => ⟨S2x512x10x1, .i32⟩
  | .hbm, ⟨36, _⟩ => ⟨S2x512x10x1, .i1⟩
  | .hbm, ⟨37, _⟩ => ⟨S2x512x10x1, .i1⟩
  | .hbm, ⟨38, _⟩ => ⟨S_, .i1⟩
  | .hbm, ⟨39, _⟩ => ⟨S2x512x10, .i1⟩
  | .hbm, ⟨40, _⟩ => ⟨S2x512x10x3, .f32⟩
  | .hbm, ⟨41, _⟩ => ⟨S2x512x10x3, .i1⟩
  | .hbm, ⟨42, _⟩ => ⟨S_, .f32⟩
  | .hbm, ⟨43, _⟩ => ⟨S2x512x10x3, .f32⟩
  | .hbm, ⟨44, _⟩ => ⟨S2x512x10x3, .f32⟩
  | .hbm, ⟨45, _⟩ => ⟨S2x512x1x3, .f32⟩
  | .hbm, ⟨46, _⟩ => ⟨S2x512x10x3, .f32⟩
  | .hbm, ⟨47, _⟩ => ⟨S2x512x10x3, .f32⟩
  | .hbm, ⟨48, _⟩ => ⟨S_, .f32⟩
  | .hbm, ⟨49, _⟩ => ⟨S2x512x3, .f32⟩
  | .hbm, ⟨50, _⟩ => ⟨S_, .f32⟩
  | .hbm, ⟨51, _⟩ => ⟨S2x512x3, .f32⟩
  | .hbm, ⟨52, _⟩ => ⟨S2x512x3, .f32⟩
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]
-- ==== Smooth512.lean ====
abbrev S2x3x512 : Shape := ⟨3, ![2, 3, 512]⟩
abbrev S2x512x3 : Shape := ⟨3, ![2, 512, 3]⟩
abbrev S1x1 : Shape := ⟨2, ![1, 1]⟩
abbrev S1x512x3 : Shape := ⟨3, ![1, 512, 3]⟩
abbrev S1x3x512 : Shape := ⟨3, ![1, 3, 512]⟩
abbrev S512x3 : Shape := ⟨2, ![512, 3]⟩
abbrev S3x512 : Shape := ⟨2, ![3, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 15
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x512x3, .f32⟩
  | .hbm, ⟨3, _⟩ => ⟨S2x512x3, .f32⟩
  | .hbm, ⟨4, _⟩ => ⟨S2x512x3, .f32⟩
  | .hbm, ⟨5, _⟩ => ⟨S1x1, .f32⟩
  | .hbm, ⟨6, _⟩ => ⟨S2x512x3, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x3x512, .f32⟩
  | .local _ .vmem, ⟨5, _⟩ => ⟨S1x3x512, .f32⟩
  | .local _ .vmem, ⟨6, _⟩ => ⟨S1x512x3, .f32⟩
  | .local _ .vmem, ⟨7, _⟩ => ⟨S1x512x3, .f32⟩
  | .local _ .vmem, ⟨8, _⟩ => ⟨S1x512x3, .f32⟩
  | .local _ .vmem, ⟨9, _⟩ => ⟨S1x512x3, .f32⟩
  | .local _ .vmem, ⟨10, _⟩ => ⟨S1x512x3, .f32⟩
  | .local _ .vmem, ⟨11, _⟩ => ⟨S1x512x3, .f32⟩
  | .local _ .vmem, ⟨12, _⟩ => ⟨S1x1, .f32⟩
  | .local _ .vmem, ⟨13, _⟩ => ⟨S1x512x3, .f32⟩
  | .local _ .vmem, ⟨14, _⟩ => ⟨S1x512x3, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Smooth512RefIdeal.lean ====
abbrev S2x3x512 : Shape := ⟨3, ![2, 3, 512]⟩
abbrev S2x512x3 : Shape := ⟨3, ![2, 512, 3]⟩
abbrev S2x512x512 : Shape := ⟨3, ![2, 512, 512]⟩
abbrev S_ : Shape := ⟨0, ![]⟩
abbrev S2x512 : Shape := ⟨2, ![2, 512]⟩
abbrev S2x512x1 : Shape := ⟨3, ![2, 512, 1]⟩
abbrev S2x1x512 : Shape := ⟨3, ![2, 1, 512]⟩
abbrev S2x512x9 : Shape := ⟨3, ![2, 512, 9]⟩
abbrev S2x512x9x1 : Shape := ⟨4, ![2, 512, 9, 1]⟩
abbrev S1 : Shape := ⟨1, ![1]⟩
abbrev S1x1x1x1 : Shape := ⟨4, ![1, 1, 1, 1]⟩
abbrev S2x512x9x3 : Shape := ⟨4, ![2, 512, 9, 3]⟩
abbrev S2x512x1x3 : Shape := ⟨4, ![2, 512, 1, 3]⟩
abbrev S2 : Shape := ⟨1, ![2]⟩
abbrev S1x1 : Shape := ⟨2, ![1, 1]⟩
abbrev S2x512x10 : Shape := ⟨3, ![2, 512, 10]⟩
abbrev S2x512x10x1 : Shape := ⟨4, ![2, 512, 10, 1]⟩
abbrev S2x512x10x3 : Shape := ⟨4, ![2, 512, 10, 3]⟩

abbrev nBuf : Space → Nat
  | .hbm => 118
  | .vmem => 0
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x512x3, .f32⟩
  | .hbm, ⟨3, _⟩ => ⟨S2x512x3, .f32⟩
  | .hbm, ⟨4, _⟩ => ⟨S2x512x512, .f32⟩
  | .hbm, ⟨5, _⟩ => ⟨S_, .f32⟩
  | .hbm, ⟨6, _⟩ => ⟨S2x512x512, .f32⟩
  | .hbm, ⟨7, _⟩ => ⟨S2x512x512, .f32⟩
  | .hbm, ⟨8, _⟩ => ⟨S2x512x3, .f32⟩
  | .hbm, ⟨9, _⟩ => ⟨S_, .f32⟩
  | .hbm, ⟨10, _⟩ => ⟨S2x512, .f32⟩
  | .hbm, ⟨11, _⟩ => ⟨S2x512x1, .f32⟩
  | .hbm, ⟨12, _⟩ => ⟨S2x512x512, .f32⟩
  | .hbm, ⟨13, _⟩ => ⟨S2x512x512, .f32⟩
  | .hbm, ⟨14, _⟩ => ⟨S2x512x3, .f32⟩
  | .hbm, ⟨15, _⟩ => ⟨S_, .f32⟩
  | .hbm, ⟨16, _⟩ => ⟨S2x512, .f32⟩
  | .hbm, ⟨17, _⟩ => ⟨S2x1x512, .f32⟩
  | .hbm, ⟨18, _⟩ => ⟨S2x512x512, .f32⟩
  | .hbm, ⟨19, _⟩ => ⟨S2x512x512, .f32⟩
  | .hbm, ⟨20, _⟩ => ⟨S2x512x512, .f32⟩
  | .hbm, ⟨21, _⟩ => ⟨S2x512x9, .f32⟩
  | .hbm, ⟨22, _⟩ => ⟨S2x512x9, .i32⟩
  | .hbm, ⟨23, _⟩ => ⟨S2x512x9, .f32⟩
  | .hbm, ⟨24, _⟩ => ⟨S_, .i32⟩
  | .hbm, ⟨25, _⟩ => ⟨S2x512x9, .i32⟩
  | .hbm, ⟨26, _⟩ => ⟨S2x512x9, .i1⟩
  | .hbm, ⟨27, _⟩ => ⟨S_, .i32⟩
  | .hbm, ⟨28, _⟩ => ⟨S2x512x9, .i32⟩
  | .hbm, ⟨29, _⟩ => ⟨S2x512x9, .i32⟩
  | .hbm, ⟨30, _⟩ => ⟨S2x512x9, .i32⟩
  | .hbm, ⟨31, _⟩ => ⟨S2x512x9x1, .i32⟩
  | .hbm, ⟨32, _⟩ => ⟨S1, .i32⟩
  | .hbm, ⟨33, _⟩ => ⟨S_, .i32⟩
  | .hbm, ⟨34, _⟩ => ⟨S2x512x9x1, .i32⟩
  | .hbm, ⟨35, _⟩ => ⟨S2x512x9x1, .i1⟩
  | .hbm, ⟨36, _⟩ => ⟨S1x1x1x1, .i32⟩
  | .hbm, ⟨37, _⟩ => ⟨S2x512x9x1, .i32⟩
  | .hbm, ⟨38, _⟩ => ⟨S2x512x9x1, .i1⟩
  | .hbm, ⟨39, _⟩ => ⟨S2x512x9x1, .i1⟩
  | .hbm, ⟨40, _⟩ => ⟨S_, .i1⟩
  | .hbm, ⟨41, _⟩ => ⟨S2x512x9, .i1⟩
  | .hbm, ⟨42, _⟩ => ⟨S2x512x9x3, .f32⟩
  | .hbm, ⟨43, _⟩ => ⟨S2x512x9x3, .i1⟩
  | .hbm, ⟨44, _⟩ => ⟨S_, .f32⟩
  | .hbm, ⟨45, _⟩ => ⟨S2x512x9x3, .f32⟩
  | .hbm, ⟨46, _⟩ => ⟨S2x512x9x3, .f32⟩
  | .hbm, ⟨47, _⟩ => ⟨S2x512x1x3, .f32⟩
  | .hbm, ⟨48, _⟩ => ⟨S2x512x9x3, .f32⟩
  | .hbm, ⟨49, _⟩ => ⟨S2x512x9x3, .f32⟩
  | .hbm, ⟨50, _⟩ => ⟨S2x512x9x3, .f32⟩
  | .hbm, ⟨51, _⟩ => ⟨S_, .f32⟩
  | .hbm, ⟨52, _⟩ => ⟨S2x512x9, .f32⟩
  | .hbm, ⟨53, _⟩ => ⟨S2x512x9, .f32⟩
  | .hbm, ⟨54, _⟩ => ⟨S_, .f32⟩
  | .hbm, ⟨55, _⟩ => ⟨S2x512, .f32⟩
  | .hbm, ⟨56, _⟩ => ⟨S_, .f32⟩
  | .hbm, ⟨57, _⟩ => ⟨S2x512, .f32⟩
  | .hbm, ⟨58, _⟩ => ⟨S2x512, .f32⟩
  | .hbm, ⟨59, _⟩ => ⟨S_, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S2x3x512, .f32⟩
  | .hbm, ⟨65, _⟩ => ⟨S2x512x3, .f32⟩
  | .hbm, ⟨66, _⟩ => ⟨S2x512x3, .f32⟩
  | .hbm, ⟨67, _⟩ => ⟨S2x512x512, .f32⟩
  | .hbm, ⟨68, _⟩ => ⟨S_, .f32⟩
  | .hbm, ⟨69, _⟩ => ⟨S2x512x512, .f32⟩
  | .hbm, ⟨70, _⟩ => ⟨S2x512x512, .f32⟩
  | .hbm, ⟨71, _⟩ => ⟨S2x512x3, .f32⟩
  | .hbm, ⟨72, _⟩ => ⟨S_, .f32⟩
  | .hbm, ⟨73, _⟩ => ⟨S2x512, .f32⟩
  | .hbm, ⟨74, _⟩ => ⟨S2x512x1, .f32⟩
  | .hbm, ⟨75, _⟩ => ⟨S2x512x512, .f32⟩
  | .hbm, ⟨76, _⟩ => ⟨S2x512x512, .f32⟩
  | .hbm, ⟨77, _⟩ => ⟨S2x512x3, .f32⟩
  | .hbm, ⟨78, _⟩ => ⟨S_, .f32⟩
  | .hbm, ⟨79, _⟩ => ⟨S2x512, .f32⟩
  | .hbm, ⟨80, _⟩ => ⟨S2x1x512, .f32⟩
  | .hbm, ⟨81, _⟩ => ⟨S2x512x512, .f32⟩
  | .hbm, ⟨82, _⟩ => ⟨S2x512x512, .f32⟩
  | .hbm, ⟨83, _⟩ => ⟨S2x512x512, .f32⟩
  | .hbm, ⟨84, _⟩ => ⟨S2x512x10, .f32⟩
  | .hbm, ⟨85, _⟩ => ⟨S2x512x10, .i32⟩
  | .hbm, ⟨86, _⟩ => ⟨S2x512x10, .f32⟩
  | .hbm, ⟨87, _⟩ => ⟨S_, .i32⟩
  | .hbm, ⟨88, _⟩ => ⟨S2x512x10, .i32⟩
  | .hbm, ⟨89, _⟩ => ⟨S2x512x10, .i1⟩
  | .hbm, ⟨90, _⟩ => ⟨S_, .i32⟩
  | .hbm, ⟨91, _⟩ => ⟨S2x512x10, .i32⟩
  | .hbm, ⟨92, _⟩ => ⟨S2x512x10, .i32⟩
  | .hbm, ⟨93, _⟩ => ⟨S2x512x10, .i32⟩
  | .hbm, ⟨94, _⟩ => ⟨S2x512x10x1, .i32⟩
  | .hbm, ⟨95, _⟩ => ⟨S1, .i32⟩
  | .hbm, ⟨96, _⟩ => ⟨S_, .i32⟩
  | .hbm, ⟨97, _⟩ => ⟨S2x512x10x1, .i32⟩
  | .hbm, ⟨98, _⟩ => ⟨S2x512x10x1, .i1⟩
  | .hbm, ⟨99, _⟩ => ⟨S1x1x1x1, .i32⟩
  | .hbm, ⟨100, _⟩ => ⟨S2x512x10x1, .i32⟩
  | .hbm, ⟨101, _⟩ => ⟨S2x512x10x1, .i1⟩
  | .hbm, ⟨102, _⟩ => ⟨S2x512x10x1, .i1⟩
  | .hbm, ⟨103, _⟩ => ⟨S_, .i1⟩
  | .hbm, ⟨104, _⟩ => ⟨S2x512x10, .i1⟩
  | .hbm, ⟨105, _⟩ => ⟨S2x512x10x3, .f32⟩
  | .hbm, ⟨106, _⟩ => ⟨S2x512x10x3, .i1⟩
  | .hbm, ⟨107, _⟩ => ⟨S_, .f32⟩
  | .hbm, ⟨108, _⟩ => ⟨S2x512x10x3, .f32⟩
  | .hbm, ⟨109, _⟩ => ⟨S2x512x10x3, .f32⟩
  | .hbm, ⟨110, _⟩ => ⟨S2x512x1x3, .f32⟩
  | .hbm, ⟨111, _⟩ => ⟨S2x512x10x3, .f32⟩
  | .hbm, ⟨112, _⟩ => ⟨S2x512x10x3, .f32⟩
  | .hbm, ⟨113, _⟩ => ⟨S_, .f32⟩
  | .hbm, ⟨114, _⟩ => ⟨S2x512x3, .f32⟩
  | .hbm, ⟨115, _⟩ => ⟨S_, .f32⟩
  | .hbm, ⟨116, _⟩ => ⟨S2x512x3, .f32⟩
  | .hbm, ⟨117, _⟩ => ⟨S2x512x3, .f32⟩
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_values_9 : Ref sig .tc := ⟨.hbm, 84, rfl⟩
abbrev main_indices_10 : Ref sig .tc := ⟨.hbm, 85, rfl⟩
abbrev main_v45 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_11 : Ref sig .tc := ⟨.hbm, 113, rfl⟩
abbrev main_v50 : Ref sig .tc := ⟨.hbm, 114, rfl⟩
abbrev main_cst_12 : Ref sig .tc := ⟨.hbm, 115, rfl⟩
abbrev main_v51 : Ref sig .tc := ⟨.hbm, 116, rfl⟩
abbrev main_v52 : Ref sig .tc := ⟨.hbm, 117, rfl⟩

abbrev nD : Nat := 1
abbrev τ : Topo := Topo.v7x

variable {F : FTy → Type} [FloatOps F]
-- ==== Cross512.lean ====
abbrev S2x3x512 : Shape := ⟨3, ![2, 3, 512]⟩
abbrev S2x512x3 : Shape := ⟨3, ![2, 512, 3]⟩
abbrev S2x1x512 : Shape := ⟨3, ![2, 1, 512]⟩
abbrev S1x1 : Shape := ⟨2, ![1, 1]⟩
abbrev S1x512x3 : Shape := ⟨3, ![1, 512, 3]⟩
abbrev S1x3x512 : Shape := ⟨3, ![1, 3, 512]⟩
abbrev S1x1x512 : Shape := ⟨3, ![1, 1, 512]⟩
abbrev S512x3 : Shape := ⟨2, ![512, 3]⟩
abbrev S3x512 : Shape := ⟨2, ![3, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x512x3, .f32⟩
  | .hbm, ⟨4, _⟩ => ⟨S2x512x3, .f32⟩
  | .hbm, ⟨5, _⟩ => ⟨S2x512x3, .f32⟩
  | .hbm, ⟨6, _⟩ => ⟨S2x512x3, .f32⟩
  | .hbm, ⟨7, _⟩ => ⟨S2x512x3, .f32⟩
  | .hbm, ⟨8, _⟩ => ⟨S2x1x512, .f32⟩
  | .hbm, ⟨9, _⟩ => ⟨S1x1, .f32⟩
  | .hbm, ⟨10, _⟩ => ⟨S1x1, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | .local _ .vmem, ⟨8, _⟩ => ⟨S1x1x512, .f32⟩
  | .local _ .vmem, ⟨9, _⟩ => ⟨S1x1x512, .f32⟩
  | .local _ .vmem, ⟨10, _⟩ => ⟨S1x1, .f32⟩
  | .local _ .vmem, ⟨11, _⟩ => ⟨S1x1, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Cross512RefIdeal.lean ====
abbrev S2x3x512 : Shape := ⟨3, ![2, 3, 512]⟩
abbrev S2x512x3 : Shape := ⟨3, ![2, 512, 3]⟩
abbrev S2x512x512 : Shape := ⟨3, ![2, 512, 512]⟩
abbrev S_ : Shape := ⟨0, ![]⟩
abbrev S2x512 : Shape := ⟨2, ![2, 512]⟩
abbrev S2x512x1 : Shape := ⟨3, ![2, 512, 1]⟩
abbrev S2x1x512 : Shape := ⟨3, ![2, 1, 512]⟩
abbrev S2 : Shape := ⟨1, ![2]⟩
abbrev S2x512x5 : Shape := ⟨3, ![2, 512, 5]⟩
abbrev S2x512x5x1 : Shape := ⟨4, ![2, 512, 5, 1]⟩
abbrev S1 : Shape := ⟨1, ![1]⟩
abbrev S1x1x1x1 : Shape := ⟨4, ![1, 1, 1, 1]⟩
abbrev S2x512x5x3 : Shape := ⟨4, ![2, 512, 5, 3]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x512x3, .f32⟩
  | .hbm, ⟨4, _⟩ => ⟨S2x512x3, .f32⟩
  | .hbm, ⟨5, _⟩ => ⟨S2x3x512, .f32⟩
  | .hbm, ⟨6, _⟩ => ⟨S2x512x3, .f32⟩
  | .hbm, ⟨7, _⟩ => ⟨S2x512x3, .f32⟩
  | .hbm, ⟨8, _⟩ => ⟨S2x512x512, .f32⟩
  | .hbm, ⟨9, _⟩ => ⟨S_, .f32⟩
  | .hbm, ⟨10, _⟩ => ⟨S2x512x512, .f32⟩
  | .hbm, ⟨11, _⟩ => ⟨S2x512x512, .f32⟩
  | .hbm, ⟨12, _⟩ => ⟨S2x512x3, .f32⟩
  | .hbm, ⟨13, _⟩ => ⟨S_, .f32⟩
  | .hbm, ⟨14, _⟩ => ⟨S2x512, .f32⟩
  | .hbm, ⟨15, _⟩ => ⟨S2x512x1, .f32⟩
  | .hbm, ⟨16, _⟩ => ⟨S2x512x512, .f32⟩
  | .hbm, ⟨17, _⟩ => ⟨S2x512x512, .f32⟩
  | .hbm, ⟨18, _⟩ => ⟨S2x512x3, .f32⟩
  | .hbm, ⟨19, _⟩ => ⟨S_, .f32⟩
  | .hbm, ⟨20, _⟩ => ⟨S2x512, .f32⟩
  | .hbm, ⟨21, _⟩ => ⟨S2x1x512, .f32⟩
  | .hbm, ⟨22, _⟩ => ⟨S2x512x512, .f32⟩
  | .hbm, ⟨23, _⟩ => ⟨S2x512x512, .f32⟩
  | .hbm, ⟨24, _⟩ => ⟨S_, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S_, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x512x3, .f32⟩
  | .hbm, ⟨38, _⟩ => ⟨S2x512x3, .f32⟩
  | .hbm, ⟨39, _⟩ => ⟨S2x512x512, .f32⟩
  | .hbm, ⟨40, _⟩ => ⟨S_, .f32⟩
  | .hbm, ⟨41, _⟩ => ⟨S2x512x512, .f32⟩
  | .hbm, ⟨42, _⟩ => ⟨S2x512x512, .f32⟩
  | .hbm, ⟨43, _⟩ => ⟨S2x512x3, .f32⟩
  | .hbm, ⟨44, _⟩ => ⟨S_, .f32⟩
  | .hbm, ⟨45, _⟩ => ⟨S2x512, .f32⟩
  | .hbm, ⟨46, _⟩ => ⟨S2x512x1, .f32⟩
  | .hbm, ⟨47, _⟩ => ⟨S2x512x512, .f32⟩
  | .hbm, ⟨48, _⟩ => ⟨S2x512x512, .f32⟩
  | .hbm, ⟨49, _⟩ => ⟨S2x512x3, .f32⟩
  | .hbm, ⟨50, _⟩ => ⟨S_, .f32⟩
  | .hbm, ⟨51, _⟩ => ⟨S2x512, .f32⟩
  | .hbm, ⟨52, _⟩ => ⟨S2x1x512, .f32⟩
  | .hbm, ⟨53, _⟩ => ⟨S2x512x512, .f32⟩
  | .hbm, ⟨54, _⟩ => ⟨S2x512x512, .f32⟩
  | .hbm, ⟨55, _⟩ => ⟨S2x512x512, .f32⟩
  | .hbm, ⟨56, _⟩ => ⟨S2x512x5, .f32⟩
  | .hbm, ⟨57, _⟩ => ⟨S2x512x5, .i32⟩
  | .hbm, ⟨58, _⟩ => ⟨S2x512x5, .f32⟩
  | .hbm, ⟨59, _⟩ => ⟨S_, .i32⟩
  | .hbm, ⟨60, _⟩ => ⟨S2x512x5, .i32⟩
  | .hbm, ⟨61, _⟩ => ⟨S2x512x5, .i1⟩
  | .hbm, ⟨62, _⟩ => ⟨S_, .i32⟩
  | .hbm, ⟨63, _⟩ => ⟨S2x512x5, .i32⟩
  | .hbm, ⟨64, _⟩ => ⟨S2x512x5, .i32⟩
  | .hbm, ⟨65, _⟩ => ⟨S2x512x5, .i32⟩
  | .hbm, ⟨66, _⟩ => ⟨S2x512x5x1, .i32⟩
  | .hbm, ⟨67, _⟩ => ⟨S1, .i32⟩
  | .hbm, ⟨68, _⟩ => ⟨S_, .i32⟩
  | .hbm, ⟨69, _⟩ => ⟨S2x512x5x1, .i32⟩
  | .hbm, ⟨70, _⟩ => ⟨S2x512x5x1, .i1⟩
  | .hbm, ⟨71, _⟩ => ⟨S1x1x1x1, .i32⟩
  | .hbm, ⟨72, _⟩ => ⟨S2x512x5x1, .i32⟩
  | .hbm, ⟨73, _⟩ => ⟨S2x512x5x1, .i1⟩
  | .hbm, ⟨74, _⟩ => ⟨S2x512x5x1, .i1⟩
  | .hbm, ⟨75, _⟩ => ⟨S_, .i1⟩
  | .hbm, ⟨76, _⟩ => ⟨S2x512x5, .i1⟩
  | .hbm, ⟨77, _⟩ => ⟨S2x512x5x3, .f32⟩
  | .hbm, ⟨78, _⟩ => ⟨S2x512x5x3, .i1⟩
  | .hbm, ⟨79, _⟩ => ⟨S_, .f32⟩
  | .hbm, ⟨80, _⟩ => ⟨S2x512x5x3, .f32⟩
  | .hbm, ⟨81, _⟩ => ⟨S2x512x5x3, .f32⟩
  | .hbm, ⟨82, _⟩ => ⟨S_, .f32⟩
  | .hbm, ⟨83, _⟩ => ⟨S2x512x5, .f32⟩
  | .hbm, ⟨84, _⟩ => ⟨S2x512x5, .f32⟩
  | .hbm, ⟨85, _⟩ => ⟨S_, .f32⟩
  | .hbm, ⟨86, _⟩ => ⟨S2x512x5, .f32⟩
  | .hbm, ⟨87, _⟩ => ⟨S2x512x5, .f32⟩
  | .hbm, ⟨88, _⟩ => ⟨S_, .f32⟩
  | .hbm, ⟨89, _⟩ => ⟨S2x512, .f32⟩
  | .hbm, ⟨90, _⟩ => ⟨S2x512x1, .f32⟩
  | .hbm, ⟨91, _⟩ => ⟨S_, .f32⟩
  | .hbm, ⟨92, _⟩ => ⟨S2x512x5, .f32⟩
  | .hbm, ⟨93, _⟩ => ⟨S2x512x5, .f32⟩
  | .hbm, ⟨94, _⟩ => ⟨S_, .f32⟩
  | .hbm, ⟨95, _⟩ => ⟨S2x512x5, .f32⟩
  | .hbm, ⟨96, _⟩ => ⟨S2x512x5, .f32⟩
  | .hbm, ⟨97, _⟩ => ⟨S2x512x5, .f32⟩
  | .hbm, ⟨98, _⟩ => ⟨S2x512x5, .f32⟩
  | .hbm, ⟨99, _⟩ => ⟨S2x512x5x1, .f32⟩
  | .hbm, ⟨100, _⟩ => ⟨S2x512x5x3, .f32⟩
  | .hbm, ⟨101, _⟩ => ⟨S2x512x5x3, .f32⟩
  | .hbm, ⟨102, _⟩ => ⟨S_, .f32⟩
  | .hbm, ⟨103, _⟩ => ⟨S2x512x3, .f32⟩
  | .hbm, ⟨104, _⟩ => ⟨S2x512x3, .f32⟩
  | .hbm, ⟨105, _⟩ => ⟨S2x512x3, .f32⟩
  | .hbm, ⟨106, _⟩ => ⟨S_, .f32⟩
  | .hbm, ⟨107, _⟩ => ⟨S2x512, .f32⟩
  | .hbm, ⟨108, _⟩ => ⟨S_, .f32⟩
  | .hbm, ⟨109, _⟩ => ⟨S2, .f32⟩
  | .hbm, ⟨110, _⟩ => ⟨S_, .f32⟩
  | .hbm, ⟨111, _⟩ => ⟨S_, .f32⟩
  | .hbm, ⟨112, _⟩ => ⟨S2x1x512, .f32⟩
  | .hbm, ⟨113, _⟩ => ⟨S1x1, .f32⟩
  | .hbm, ⟨114, _⟩ => ⟨S1x1, .f32⟩
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_values : Ref sig .tc := ⟨.hbm, 56, rfl⟩
abbrev main_indices : Ref sig .tc := ⟨.hbm, 57, rfl⟩
abbrev main_v39 : Ref sig .tc := ⟨.hbm, 58, rfl⟩
abbrev main_call0_c : Ref sig .tc := ⟨.hbm, 59, rfl⟩
abbrev main_call0_v0 : Ref sig .tc := ⟨.hbm, 60, rfl⟩
abbrev main_call0_v1 : Ref sig .tc := ⟨.hbm, 61, rfl⟩
abbrev main_call0_c_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_c_1 : Ref sig .tc := ⟨.hbm, 67, rfl⟩
abbrev main_call0_c_2 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_3 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_call0_cst : Ref sig .tc := ⟨.hbm, 79, rfl⟩
abbrev main_call0_v15 : Ref sig .tc := ⟨.hbm, 80, rfl⟩
abbrev main_v40 : Ref sig .tc := ⟨.hbm, 81, rfl⟩
abbrev main_cst_11 : Ref sig .tc := ⟨.hbm, 82, rfl⟩
abbrev main_v41 : Ref sig .tc := ⟨.hbm, 83, rfl⟩
abbrev main_v42 : Ref sig .tc := ⟨.hbm, 84, rfl⟩
abbrev main_cst_12 : Ref sig .tc := ⟨.hbm, 85, rfl⟩
abbrev main_v43 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_cst_14 : Ref sig .tc := ⟨.hbm, 91, rfl⟩
abbrev main_v47 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_16 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_v59 : Ref sig .tc := ⟨.hbm, 107, rfl⟩
abbrev main_cst_18 : Ref sig .tc := ⟨.hbm, 108, rfl⟩
abbrev main_v60 : Ref sig .tc := ⟨.hbm, 109, rfl⟩
abbrev main_cst_19 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]
-- ==== Last.lean ====
abbrev S2x3x512 : Shape := ⟨3, ![2, 3, 512]⟩
abbrev S2x512x3 : Shape := ⟨3, ![2, 512, 3]⟩
abbrev S1x1 : Shape := ⟨2, ![1, 1]⟩
abbrev S2x1x512 : Shape := ⟨3, ![2, 1, 512]⟩
abbrev S1x512x3 : Shape := ⟨3, ![1, 512, 3]⟩
abbrev S1x3x512 : Shape := ⟨3, ![1, 3, 512]⟩
abbrev S1x1x512 : Shape := ⟨3, ![1, 1, 512]⟩
abbrev S512x3 : Shape := ⟨2, ![512, 3]⟩
abbrev S3x512 : Shape := ⟨2, ![3, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 79
  | .vmem => 12
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x512x3, .f32⟩
  | .hbm, ⟨4, _⟩ => ⟨S2x512x3, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S2x512x3, .f32⟩
  | .hbm, ⟨16, _⟩ => ⟨S2x512x3, .f32⟩
  | .hbm, ⟨17, _⟩ => ⟨S2x512x3, .f32⟩
  | .hbm, ⟨18, _⟩ => ⟨S2x1x512, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | .local _ .vmem, ⟨8, _⟩ => ⟨S1x1x512, .f32⟩
  | .local _ .vmem, ⟨9, _⟩ => ⟨S1x1x512, .f32⟩
  | .local _ .vmem, ⟨10, _⟩ => ⟨S1x1, .f32⟩
  | .local _ .vmem, ⟨11, _⟩ => ⟨S1x1, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_10 : Ref sig .tc := ⟨.hbm, 58, rfl⟩
abbrev main_v30 : Ref sig .tc := ⟨.hbm, 59, rfl⟩
abbrev main_v31 : Ref sig .tc := ⟨.hbm, 60, rfl⟩
abbrev main_cst_11 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_v35 : Ref sig .tc := ⟨.hbm, 66, rfl⟩
abbrev main_v36 : Ref sig .tc := ⟨.hbm, 67, rfl⟩
abbrev main_cst_13 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_14 : Ref sig .tc := ⟨.hbm, 72, rfl⟩
abbrev main_v40 : Ref sig .tc := ⟨.hbm, 73, rfl⟩
abbrev main_v41 : Ref sig .tc := ⟨.hbm, 74, rfl⟩
abbrev main_cst_15 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k0_cond3 (i : grid0.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LastRefIdeal.lean ====
abbrev S2x3x512 : Shape := ⟨3, ![2, 3, 512]⟩
abbrev S2x512x3 : Shape := ⟨3, ![2, 512, 3]⟩
abbrev S1x1 : Shape := ⟨2, ![1, 1]⟩
abbrev S_ : Shape := ⟨0, ![]⟩
abbrev S1 : Shape := ⟨1, ![1]⟩
abbrev S2x512x512 : Shape := ⟨3, ![2, 512, 512]⟩
abbrev S2x512 : Shape := ⟨2, ![2, 512]⟩
abbrev S2x512x1 : Shape := ⟨3, ![2, 512, 1]⟩
abbrev S2x1x512 : Shape := ⟨3, ![2, 1, 512]⟩
abbrev S2x512x5 : Shape := ⟨3, ![2, 512, 5]⟩
abbrev S2x512x5x1 : Shape := ⟨4, ![2, 512, 5, 1]⟩
abbrev S1x1x1x1 : Shape := ⟨4, ![1, 1, 1, 1]⟩
abbrev S2x512x5x3 : Shape := ⟨4, ![2, 512, 5, 3]⟩
abbrev S2 : Shape := ⟨1, ![2]⟩

abbrev nBuf : Space → Nat
  | .hbm => 233
  | .vmem => 0
  | .smem => 0
  | _ => 0

abbrev hbmTy0_0 (i : Nat) : BufTy := match i % 128 with
  | 0 => ⟨S2x3x512, .f32⟩
  | 1 => ⟨S2x3x512, .f32⟩
  | 2 => ⟨S2x3x512, .f32⟩
  | 3 => ⟨S2x512x3, .f32⟩
  | 4 => ⟨S2x512x3, .f32⟩
  | 5 => ⟨S1x1, .f32⟩
  | 6 => ⟨S1x1, .f32⟩
  | 7 => ⟨S1x1, .f32⟩
  | 8 => ⟨S1x1, .f32⟩
  | 9 => ⟨S1x1, .f32⟩
  | 10 => ⟨S1x1, .f32⟩
  | 11 => ⟨S1x1, .f32⟩
  | 12 => ⟨S1x1, .f32⟩
  | 13 => ⟨S1x1, .f32⟩
  | 14 => ⟨S1x1, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S2x3x512, .f32⟩
  | 22 => ⟨S2x512x3, .f32⟩
  | 23 => ⟨S2x512x3, .f32⟩
  | 24 => ⟨S2x512x512, .f32⟩
  | 25 => ⟨S_, .f32⟩
  | 26 => ⟨S2x512x512, .f32⟩
  | 27 => ⟨S2x512x512, .f32⟩
  | 28 => ⟨S2x512x3, .f32⟩
  | 29 => ⟨S_, .f32⟩
  | 30 => ⟨S2x512, .f32⟩
  | 31 => ⟨S2x512x1, .f32⟩
  | 32 => ⟨S2x512x512, .f32⟩
  | 33 => ⟨S2x512x512, .f32⟩
  | 34 => ⟨S2x512x3, .f32⟩
  | 35 => ⟨S_, .f32⟩
  | 36 => ⟨S2x512, .f32⟩
  | 37 => ⟨S2x1x512, .f32⟩
  | 38 => ⟨S2x512x512, .f32⟩
  | 39 => ⟨S2x512x512, .f32⟩
  | 40 => ⟨S_, .f32⟩
  | 41 => ⟨S2x512, .f32⟩
  | 42 => ⟨S_, .f32⟩
  | 43 => ⟨S2x512, .f32⟩
  | 44 => ⟨S2x512x3, .f32⟩
  | 45 => ⟨S2x512x3, .f32⟩
  | 46 => ⟨S2x512x512, .f32⟩
  | 47 => ⟨S_, .f32⟩
  | 48 => ⟨S2x512x512, .f32⟩
  | 49 => ⟨S2x512x512, .f32⟩
  | 50 => ⟨S2x512x3, .f32⟩
  | 51 => ⟨S_, .f32⟩
  | 52 => ⟨S2x512, .f32⟩
  | 53 => ⟨S2x512x1, .f32⟩
  | 54 => ⟨S2x512x512, .f32⟩
  | 55 => ⟨S2x512x512, .f32⟩
  | 56 => ⟨S2x512x3, .f32⟩
  | 57 => ⟨S_, .f32⟩
  | 58 => ⟨S2x512, .f32⟩
  | 59 => ⟨S2x1x512, .f32⟩
  | 60 => ⟨S2x512x512, .f32⟩
  | 61 => ⟨S2x512x512, .f32⟩
  | 62 => ⟨S2x512x512, .f32⟩
  | 63 => ⟨S2x512x5, .f32⟩
  | 64 => ⟨S2x512x5, .i32⟩
  | 65 => ⟨S2x512x5, .f32⟩
  | 66 => ⟨S_, .i32⟩
  | 67 => ⟨S2x512x5, .i32⟩
  | 68 => ⟨S2x512x5, .i1⟩
  | 69 => ⟨S_, .i32⟩
  | 70 => ⟨S2x512x5, .i32⟩
  | 71 => ⟨S2x512x5, .i32⟩
  | 72 => ⟨S2x512x5, .i32⟩
  | 73 => ⟨S2x512x5x1, .i32⟩
  | 74 => ⟨S1, .i32⟩
  | 75 => ⟨S_, .i32⟩
  | 76 => ⟨S2x512x5x1, .i32⟩
  | 77 => ⟨S2x512x5x1, .i1⟩
  | 78 => ⟨S1x1x1x1, .i32⟩
  | 79 => ⟨S2x512x5x1, .i32⟩
  | 80 => ⟨S2x512x5x1, .i1⟩
  | 81 => ⟨S2x512x5x1, .i1⟩
  | 82 => ⟨S_, .i1⟩
  | 83 => ⟨S2x512x5, .i1⟩
  | 84 => ⟨S2x512x5x3, .f32⟩
  | 85 => ⟨S2x512x5x3, .i1⟩
  | 86 => ⟨S_, .f32⟩
  | 87 => ⟨S2x512x5x3, .f32⟩
  | 88 => ⟨S2x512x5x3, .f32⟩
  | 89 => ⟨S_, .f32⟩
  | 90 => ⟨S2x512x5, .f32⟩
  | 91 => ⟨S2x512x5, .f32⟩
  | 92 => ⟨S_, .f32⟩
  | 93 => ⟨S2x512x5, .f32⟩
  | 94 => ⟨S2x512x5, .f32⟩
  | 95 => ⟨S_, .f32⟩
  | 96 => ⟨S2x512, .f32⟩
  | 97 => ⟨S2x512x1, .f32⟩
  | 98 => ⟨S_, .f32⟩
  | 99 => ⟨S2x512x5, .f32⟩
  | 100 => ⟨S2x512x5, .f32⟩
  | 101 => ⟨S_, .f32⟩
  | 102 => ⟨S2x512x5, .f32⟩
  | 103 => ⟨S2x512x5, .f32⟩
  | 104 => ⟨S2x512x5, .f32⟩
  | 105 => ⟨S2x512x5, .f32⟩
  | 106 => ⟨S2x512x5x1, .f32⟩
  | 107 => ⟨S2x512x5x3, .f32⟩
  | 108 => ⟨S2x512x5x3, .f32⟩
  | 109 => ⟨S_, .f32⟩
  | 110 => ⟨S2x512x3, .f32⟩
  | 111 => ⟨S_, .f32⟩
  | 112 => ⟨S2, .f32⟩
  | 113 => ⟨S_, .f32⟩
  | 114 => ⟨S_, .f32⟩
  | 115 => ⟨S_, .f32⟩
  | 116 => ⟨S_, .f32⟩
  | 117 => ⟨S_, .f32⟩
  | 118 => ⟨S2, .f32⟩
  | 119 => ⟨S_, .f32⟩
  | 120 => ⟨S_, .f32⟩
  | 121 => ⟨S_, .f32⟩
  | 122 => ⟨S_, .f32⟩
  | 123 => ⟨S_, .f32⟩
  | 124 => ⟨S2x512x3, .f32⟩
  | 125 => ⟨S2x512x3, .f32⟩
  | 126 => ⟨S_, .f32⟩
  | 127 => ⟨S2x512, .f32⟩
  | _ => ⟨S2x3x512, .f32⟩

abbrev hbmTy0_1 (i : Nat) : BufTy := match i % 128 with
  | 0 => ⟨S_, .f32⟩
  | 1 => ⟨S2, .f32⟩
  | 2 => ⟨S_, .f32⟩
  | 3 => ⟨S_, .f32⟩
  | 4 => ⟨S_, .f32⟩
  | 5 => ⟨S_, .f32⟩
  | 6 => ⟨S1, .f32⟩
  | 7 => ⟨S_, .f32⟩
  | 8 => ⟨S1, .f32⟩
  | 9 => ⟨S1, .f32⟩
  | 10 => ⟨S1, .f32⟩
  | 11 => ⟨S_, .f32⟩
  | 12 => ⟨S1, .f32⟩
  | 13 => ⟨S1, .f32⟩
  | 14 => ⟨S1, .f32⟩
  | 15 => ⟨S_, .f32⟩
  | 16 => ⟨S1, .f32⟩
  | 17 => ⟨S1, .f32⟩
  | 18 => ⟨S1, .f32⟩
  | 19 => ⟨S_, .f32⟩
  | 20 => ⟨S1, .f32⟩
  | 21 => ⟨S1, .f32⟩
  | 22 => ⟨S1, .f32⟩
  | 23 => ⟨S_, .f32⟩
  | 24 => ⟨S1, .f32⟩
  | 25 => ⟨S1, .f32⟩
  | 26 => ⟨S1, .f32⟩
  | 27 => ⟨S_, .f32⟩
  | 28 => ⟨S1, .f32⟩
  | 29 => ⟨S1, .f32⟩
  | 30 => ⟨S1, .f32⟩
  | 31 => ⟨S_, .f32⟩
  | 32 => ⟨S1, .f32⟩
  | 33 => ⟨S1, .f32⟩
  | 34 => ⟨S1, .f32⟩
  | 35 => ⟨S_, .f32⟩
  | 36 => ⟨S1, .f32⟩
  | 37 => ⟨S1, .f32⟩
  | 38 => ⟨S1, .f32⟩
  | 39 => ⟨S_, .f32⟩
  | 40 => ⟨S1, .f32⟩
  | 41 => ⟨S1, .f32⟩
  | 42 => ⟨S1, .f32⟩
  | 43 => ⟨S_, .f32⟩
  | 44 => ⟨S1, .f32⟩
  | 45 => ⟨S1, .f32⟩
  | 46 => ⟨S_, .f32⟩
  | 47 => ⟨S1, .f32⟩
  | 48 => ⟨S1, .f32⟩
  | 49 => ⟨S1, .f32⟩
  | 50 => ⟨S_, .f32⟩
  | 51 => ⟨S1, .f32⟩
  | 52 => ⟨S1, .f32⟩
  | 53 => ⟨S1, .f32⟩
  | 54 => ⟨S_, .f32⟩
  | 55 => ⟨S1, .f32⟩
  | 56 => ⟨S1, .f32⟩
  | 57 => ⟨S1, .f32⟩
  | 58 => ⟨S_, .f32⟩
  | 59 => ⟨S1, .f32⟩
  | 60 => ⟨S1, .f32⟩
  | 61 => ⟨S1, .f32⟩
  | 62 => ⟨S_, .f32⟩
  | 63 => ⟨S1, .f32⟩
  | 64 => ⟨S1, .f32⟩
  | 65 => ⟨S1, .f32⟩
  | 66 => ⟨S_, .f32⟩
  | 67 => ⟨S1, .f32⟩
  | 68 => ⟨S1, .f32⟩
  | 69 => ⟨S1, .f32⟩
  | 70 => ⟨S_, .f32⟩
  | 71 => ⟨S1, .f32⟩
  | 72 => ⟨S1, .f32⟩
  | 73 => ⟨S1, .f32⟩
  | 74 => ⟨S_, .f32⟩
  | 75 => ⟨S1, .f32⟩
  | 76 => ⟨S1, .f32⟩
  | 77 => ⟨S1, .f32⟩
  | 78 => ⟨S_, .f32⟩
  | 79 => ⟨S1, .f32⟩
  | 80 => ⟨S1, .f32⟩
  | 81 => ⟨S1, .f32⟩
  | 82 => ⟨S_, .f32⟩
  | 83 => ⟨S_, .f32⟩
  | 84 => ⟨S1, .f32⟩
  | 85 => ⟨S1, .f32⟩
  | 86 => ⟨S_, .f32⟩
  | 87 => ⟨S1, .f32⟩
  | 88 => ⟨S1, .f32⟩
  | 89 => ⟨S1, .f32⟩
  | 90 => ⟨S_, .f32⟩
  | 91 => ⟨S_, .f32⟩
  | 92 => ⟨S1, .f32⟩
  | 93 => ⟨S1, .f32⟩
  | 94 => ⟨S_, .f32⟩
  | 95 => ⟨S1, .f32⟩
  | 96 => ⟨S1, .f32⟩
  | 97 => ⟨S_, .f32⟩
  | 98 => ⟨S1, .f32⟩
  | 99 => ⟨S1, .f32⟩
  | 100 => ⟨S1, .f32⟩
  | 101 => ⟨S_, .f32⟩
  | 102 => ⟨S1, .f32⟩
  | 103 => ⟨S1, .f32⟩
  | 104 => ⟨S1, .f32⟩
  | _ => ⟨S2x3x512, .f32⟩

abbrev hbmTy (i : Nat) : BufTy := match i / 128 with
  | 0 => hbmTy0_0 i
  | 1 => hbmTy0_1 i
  | _ => ⟨S2x3x512, .f32⟩

abbrev bufTy : (tb : Table) → Fin (tcTables nBuf tb) → BufTy
  | .hbm, ⟨i, _⟩ => hbmTy i
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_values : Ref sig .tc := ⟨.hbm, 63, rfl⟩
abbrev main_indices : Ref sig .tc := ⟨.hbm, 64, rfl⟩
abbrev main_v37 : Ref sig .tc := ⟨.hbm, 65, rfl⟩
abbrev main_call0_c : Ref sig .tc := ⟨.hbm, 66, rfl⟩
abbrev main_call0_v0 : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_c_1 : Ref sig .tc := ⟨.hbm, 74, rfl⟩
abbrev main_call0_c_2 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_3 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_call0_cst : Ref sig .tc := ⟨.hbm, 86, rfl⟩
abbrev main_call0_v15 : Ref sig .tc := ⟨.hbm, 87, rfl⟩
abbrev main_v38 : Ref sig .tc := ⟨.hbm, 88, rfl⟩
abbrev main_cst_10 : Ref sig .tc := ⟨.hbm, 89, rfl⟩
abbrev main_v39 : Ref sig .tc := ⟨.hbm, 90, rfl⟩
abbrev main_v40 : Ref sig .tc := ⟨.hbm, 91, rfl⟩
abbrev main_cst_11 : Ref sig .tc := ⟨.hbm, 92, rfl⟩
abbrev main_v41 : Ref sig .tc := ⟨.hbm, 93, rfl⟩
abbrev main_v42 : Ref sig .tc := ⟨.hbm, 94, rfl⟩
abbrev main_cst_12 : Ref sig .tc := ⟨.hbm, 95, rfl⟩
abbrev main_v43 : Ref sig .tc := ⟨.hbm, 96, rfl⟩
abbrev main_v44 : Ref sig .tc := ⟨.hbm, 97, rfl⟩
abbrev main_cst_13 : Ref sig .tc := ⟨.hbm, 98, rfl⟩
abbrev main_v45 : Ref sig .tc := ⟨.hbm, 99, rfl⟩
abbrev main_v46 : Ref sig .tc := ⟨.hbm, 100, rfl⟩
abbrev main_cst_14 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_15 : Ref sig .tc := ⟨.hbm, 109, rfl⟩
abbrev main_v54 : Ref sig .tc := ⟨.hbm, 110, rfl⟩
abbrev main_cst_16 : Ref sig .tc := ⟨.hbm, 111, rfl⟩
abbrev main_v55 : Ref sig .tc := ⟨.hbm, 112, rfl⟩
abbrev main_cst_17 : Ref sig .tc := ⟨.hbm, 113, rfl⟩
abbrev main_v56 : Ref sig .tc := ⟨.hbm, 114, rfl⟩
abbrev main_cst_18 : Ref sig .tc := ⟨.hbm, 115, rfl⟩
abbrev main_v57 : Ref sig .tc := ⟨.hbm, 116, rfl⟩
abbrev main_cst_19 : Ref sig .tc := ⟨.hbm, 117, rfl⟩
abbrev main_v58 : Ref sig .tc := ⟨.hbm, 118, rfl⟩
abbrev main_cst_20 : Ref sig .tc := ⟨.hbm, 119, rfl⟩
abbrev main_v59 : Ref sig .tc := ⟨.hbm, 120, rfl⟩
abbrev main_cst_21 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_cst_22 : Ref sig .tc := ⟨.hbm, 126, rfl⟩
abbrev main_v64 : Ref sig .tc := ⟨.hbm, 127, rfl⟩
abbrev main_cst_23 : Ref sig .tc := ⟨.hbm, 128, rfl⟩
abbrev main_v65 : Ref sig .tc := ⟨.hbm, 129, rfl⟩
abbrev main_cst_24 : Ref sig .tc := ⟨.hbm, 130, rfl⟩
abbrev main_v66 : Ref sig .tc := ⟨.hbm, 131, rfl⟩
abbrev main_cst_25 : Ref sig .tc := ⟨.hbm, 132, rfl⟩
abbrev main_v67 : Ref sig .tc := ⟨.hbm, 133, rfl⟩
abbrev main_v68 : Ref sig .tc := ⟨.hbm, 134, rfl⟩
abbrev main_cst_26 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_cst_27 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_28 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_cst_29 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_30 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_31 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_cst_32 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_33 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_34 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_35 : Ref sig .tc := ⟨.hbm, 171, rfl⟩
abbrev main_v96 : Ref sig .tc := ⟨.hbm, 172, rfl⟩
abbrev main_v97 : Ref sig .tc := ⟨.hbm, 173, rfl⟩
abbrev main_cst_36 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_cst_37 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_cst_38 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_cst_39 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_cst_40 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_cst_41 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_cst_42 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst_43 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_cst_44 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_cst_45 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_cst_46 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_cst_47 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_cst_48 : Ref sig .tc := ⟨.hbm, 222, rfl⟩
abbrev main_v134 : Ref sig .tc := ⟨.hbm, 223, rfl⟩
abbrev main_v135 : Ref sig .tc := ⟨.hbm, 224, rfl⟩
abbrev main_cst_49 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_cst_50 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩

abbrev nD : Nat := 1
abbrev τ : Topo := Topo.v7x

variable {F : FTy → Type} [FloatOps F]
-- ==== Final.lean ====
abbrev S2x3x512 : Shape := ⟨3, ![2, 3, 512]⟩
abbrev S_ : Shape := ⟨0, ![]⟩
abbrev S2x512x3 : Shape := ⟨3, ![2, 512, 3]⟩
abbrev S1x512x3 : Shape := ⟨3, ![1, 512, 3]⟩
abbrev S1x3x512 : Shape := ⟨3, ![1, 3, 512]⟩
abbrev S512x3 : Shape := ⟨2, ![512, 3]⟩
abbrev S3x512 : Shape := ⟨2, ![3, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x1 : Shape := ⟨2, ![1, 1]⟩
abbrev S1x512x1 : Shape := ⟨3, ![1, 512, 1]⟩
abbrev S1 : Shape := ⟨1, ![1]⟩
abbrev S1x1x1 : Shape := ⟨3, ![1, 1, 1]⟩
abbrev S2x1x512 : Shape := ⟨3, ![2, 1, 512]⟩
abbrev S1x1x512 : Shape := ⟨3, ![1, 1, 512]⟩

abbrev nBuf : Space → Nat
  | .hbm => 71
  | .vmem => 35
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x512x3, .f32⟩
  | .hbm, ⟨13, _⟩ => ⟨S2x512x3, .f32⟩
  | .hbm, ⟨14, _⟩ => ⟨S2x512x3, .f32⟩
  | .hbm, ⟨15, _⟩ => ⟨S2x512x3, .f32⟩
  | .hbm, ⟨16, _⟩ => ⟨S2x512x3, .f32⟩
  | .hbm, ⟨17, _⟩ => ⟨S1x1, .f32⟩
  | .hbm, ⟨18, _⟩ => ⟨S2x512x3, .f32⟩
  | .hbm, ⟨19, _⟩ => ⟨S2x1x512, .f32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | .local _ .vmem, ⟨8, _⟩ => ⟨S1x512x3, .f32⟩
  | .local _ .vmem, ⟨9, _⟩ => ⟨S1x512x3, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x3x512, .f32⟩
  | .local _ .vmem, ⟨14, _⟩ => ⟨S1x512x3, .f32⟩
  | .local _ .vmem, ⟨15, _⟩ => ⟨S1x512x3, .f32⟩
  | .local _ .vmem, ⟨16, _⟩ => ⟨S1x512x3, .f32⟩
  | .local _ .vmem, ⟨17, _⟩ => ⟨S1x512x3, .f32⟩
  | .local _ .vmem, ⟨18, _⟩ => ⟨S1x512x3, .f32⟩
  | .local _ .vmem, ⟨19, _⟩ => ⟨S1x512x3, .f32⟩
  | .local _ .vmem, ⟨20, _⟩ => ⟨S1x1, .f32⟩
  | .local _ .vmem, ⟨21, _⟩ => ⟨S1x512x3, .f32⟩
  | .local _ .vmem, ⟨22, _⟩ => ⟨S1x512x3, .f32⟩
  | .local _ .vmem, ⟨23, _⟩ => ⟨S1x512x3, .f32⟩
  | .local _ .vmem, ⟨24, _⟩ => ⟨S1x512x3, .f32⟩
  | .local _ .vmem, ⟨25, _⟩ => ⟨S1x3x512, .f32⟩
  | .local _ .vmem, ⟨26, _⟩ => ⟨S1x3x512, .f32⟩
  | .local _ .vmem, ⟨27, _⟩ => ⟨S1x512x3, .f32⟩
  | .local _ .vmem, ⟨28, _⟩ => ⟨S1x512x3, .f32⟩
  | .local _ .vmem, ⟨29, _⟩ => ⟨S1x512x3, .f32⟩
  | .local _ .vmem, ⟨30, _⟩ => ⟨S1x512x3, .f32⟩
  | .local _ .vmem, ⟨31, _⟩ => ⟨S1x1x512, .f32⟩
  | .local _ .vmem, ⟨32, _⟩ => ⟨S1x1x512, .f32⟩
  | .local _ .vmem, ⟨33, _⟩ => ⟨S1x1, .f32⟩
  | .local _ .vmem, ⟨34, _⟩ => ⟨S1x1, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_cst_8 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_v26 : Ref sig .tc := ⟨.hbm, 52, rfl⟩
abbrev main_cst_10 : Ref sig .tc := ⟨.hbm, 53, rfl⟩
abbrev main_v27 : Ref sig .tc := ⟨.hbm, 54, rfl⟩
abbrev main_v28 : Ref sig .tc := ⟨.hbm, 55, rfl⟩
abbrev main_cst_11 : Ref sig .tc := ⟨.hbm, 56, rfl⟩
abbrev main_v29 : Ref sig .tc := ⟨.hbm, 57, rfl⟩
abbrev main_v30 : Ref sig .tc := ⟨.hbm, 58, rfl⟩
abbrev main_cst_12 : Ref sig .tc := ⟨.hbm, 59, rfl⟩
abbrev main_v31 : Ref sig .tc := ⟨.hbm, 60, rfl⟩
abbrev main_cst_13 : Ref sig .tc := ⟨.hbm, 61, rfl⟩
abbrev main_v32 : Ref sig .tc := ⟨.hbm, 62, rfl⟩
abbrev main_v33 : Ref sig .tc := ⟨.hbm, 63, rfl⟩
abbrev main_cst_14 : Ref sig .tc := ⟨.hbm, 64, rfl⟩
abbrev main_v34 : Ref sig .tc := ⟨.hbm, 65, rfl⟩
abbrev main_v35 : Ref sig .tc := ⟨.hbm, 66, rfl⟩
abbrev main_cst_15 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg6_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem6_0 : DmaSem sig := 34

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 1], ![false, false]⟩

def k2_cond2 (i : grid2.Coords) : BitVec 1 :=
  let arg1 : BitVec 32 := BitVec.ofNat 32 (i 1).val
  let c0_i32_9 : BitVec 32 := 0#32
  let v36 : BitVec 1 := Scalar.cmpi .eq arg1 c0_i32_9
  let v37 : BitVec 32 := Scalar.extui v36
  let c0_i32_10 : BitVec 32 := 0#32
  let v38 : BitVec 1 := Scalar.cmpi .ne v37 c0_i32_10
  v38

def k2_cond3 (i : grid2.Coords) : BitVec 1 :=
  let arg1 : BitVec 32 := BitVec.ofNat 32 (i 1).val
  let c0_i32_11 : BitVec 32 := 0#32
  let v39 : BitVec 1 := Scalar.cmpi .ne arg1 c0_i32_11
  let v40 : BitVec 32 := Scalar.extui v39
  let c0_i32_12 : BitVec 32 := 0#32
  let v41 : BitVec 1 := Scalar.cmpi .ne v40 c0_i32_12
  v41

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x512x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]
-- ==== FinalRefIdeal.lean ====
abbrev S2x3x512 : Shape := ⟨3, ![2, 3, 512]⟩
abbrev S_ : Shape := ⟨0, ![]⟩
abbrev S1 : Shape := ⟨1, ![1]⟩
abbrev S2x512x3 : Shape := ⟨3, ![2, 512, 3]⟩
abbrev S2x512x512 : Shape := ⟨3, ![2, 512, 512]⟩
abbrev S2x512 : Shape := ⟨2, ![2, 512]⟩
abbrev S2x512x1 : Shape := ⟨3, ![2, 512, 1]⟩
abbrev S2x1x512 : Shape := ⟨3, ![2, 1, 512]⟩
abbrev S2x512x10 : Shape := ⟨3, ![2, 512, 10]⟩
abbrev S2x512x10x1 : Shape := ⟨4, ![2, 512, 10, 1]⟩
abbrev S1x1x1x1 : Shape := ⟨4, ![1, 1, 1, 1]⟩
abbrev S2x512x10x3 : Shape := ⟨4, ![2, 512, 10, 3]⟩
abbrev S2x512x1x3 : Shape := ⟨4, ![2, 512, 1, 3]⟩
abbrev S2x512x5 : Shape := ⟨3, ![2, 512, 5]⟩
abbrev S2x512x5x1 : Shape := ⟨4, ![2, 512, 5, 1]⟩
abbrev S2x512x5x3 : Shape := ⟨4, ![2, 512, 5, 3]⟩
abbrev S2 : Shape := ⟨1, ![2]⟩
abbrev S2x512x9 : Shape := ⟨3, ![2, 512, 9]⟩
abbrev S2x512x9x1 : Shape := ⟨4, ![2, 512, 9, 1]⟩
abbrev S2x512x9x3 : Shape := ⟨4, ![2, 512, 9, 3]⟩

abbrev nBuf : Space → Nat
  | .hbm => 376
  | .vmem => 0
  | .smem => 0
  | _ => 0

abbrev hbmTy0_0 (i : Nat) : BufTy := match i % 128 with
  | 0 => ⟨S2x3x512, .f32⟩
  | 1 => ⟨S2x3x512, .f32⟩
  | 2 => ⟨S2x3x512, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1, .f32⟩
  | 14 => ⟨S_, .f32⟩
  | 15 => ⟨S1, .f32⟩
  | 16 => ⟨S_, .f32⟩
  | 17 => ⟨S1, .f32⟩
  | 18 => ⟨S2x512x3, .f32⟩
  | 19 => ⟨S2x512x512, .f32⟩
  | 20 => ⟨S_, .f32⟩
  | 21 => ⟨S2x512x512, .f32⟩
  | 22 => ⟨S2x512x512, .f32⟩
  | 23 => ⟨S2x512x3, .f32⟩
  | 24 => ⟨S_, .f32⟩
  | 25 => ⟨S2x512, .f32⟩
  | 26 => ⟨S2x512x1, .f32⟩
  | 27 => ⟨S2x512x512, .f32⟩
  | 28 => ⟨S2x512x512, .f32⟩
  | 29 => ⟨S2x512x3, .f32⟩
  | 30 => ⟨S_, .f32⟩
  | 31 => ⟨S2x512, .f32⟩
  | 32 => ⟨S2x1x512, .f32⟩
  | 33 => ⟨S2x512x512, .f32⟩
  | 34 => ⟨S2x512x512, .f32⟩
  | 35 => ⟨S2x512x512, .f32⟩
  | 36 => ⟨S2x512x10, .f32⟩
  | 37 => ⟨S2x512x10, .i32⟩
  | 38 => ⟨S2x512x10, .f32⟩
  | 39 => ⟨S_, .i32⟩
  | 40 => ⟨S2x512x10, .i32⟩
  | 41 => ⟨S2x512x10, .i1⟩
  | 42 => ⟨S_, .i32⟩
  | 43 => ⟨S2x512x10, .i32⟩
  | 44 => ⟨S2x512x10, .i32⟩
  | 45 => ⟨S2x512x10, .i32⟩
  | 46 => ⟨S2x512x10x1, .i32⟩
  | 47 => ⟨S1, .i32⟩
  | 48 => ⟨S_, .i32⟩
  | 49 => ⟨S2x512x10x1, .i32⟩
  | 50 => ⟨S2x512x10x1, .i1⟩
  | 51 => ⟨S1x1x1x1, .i32⟩
  | 52 => ⟨S2x512x10x1, .i32⟩
  | 53 => ⟨S2x512x10x1, .i1⟩
  | 54 => ⟨S2x512x10x1, .i1⟩
  | 55 => ⟨S_, .i1⟩
  | 56 => ⟨S2x512x10, .i1⟩
  | 57 => ⟨S2x512x10x3, .f32⟩
  | 58 => ⟨S2x512x10x3, .i1⟩
  | 59 => ⟨S_, .f32⟩
  | 60 => ⟨S2x512x10x3, .f32⟩
  | 61 => ⟨S2x512x10x3, .f32⟩
  | 62 => ⟨S2x512x1x3, .f32⟩
  | 63 => ⟨S2x512x10x3, .f32⟩
  | 64 => ⟨S2x512x10x3, .f32⟩
  | 65 => ⟨S_, .f32⟩
  | 66 => ⟨S2x512x3, .f32⟩
  | 67 => ⟨S_, .f32⟩
  | 68 => ⟨S2x512x3, .f32⟩
  | 69 => ⟨S2x512x3, .f32⟩
  | 70 => ⟨S2x3x512, .f32⟩
  | 71 => ⟨S2x512x3, .f32⟩
  | 72 => ⟨S2x512x3, .f32⟩
  | 73 => ⟨S2x512x512, .f32⟩
  | 74 => ⟨S_, .f32⟩
  | 75 => ⟨S2x512x512, .f32⟩
  | 76 => ⟨S2x512x512, .f32⟩
  | 77 => ⟨S2x512x3, .f32⟩
  | 78 => ⟨S_, .f32⟩
  | 79 => ⟨S2x512, .f32⟩
  | 80 => ⟨S2x512x1, .f32⟩
  | 81 => ⟨S2x512x512, .f32⟩
  | 82 => ⟨S2x512x512, .f32⟩
  | 83 => ⟨S2x512x3, .f32⟩
  | 84 => ⟨S_, .f32⟩
  | 85 => ⟨S2x512, .f32⟩
  | 86 => ⟨S2x1x512, .f32⟩
  | 87 => ⟨S2x512x512, .f32⟩
  | 88 => ⟨S2x512x512, .f32⟩
  | 89 => ⟨S_, .f32⟩
  | 90 => ⟨S2x512, .f32⟩
  | 91 => ⟨S_, .f32⟩
  | 92 => ⟨S2x512, .f32⟩
  | 93 => ⟨S2x512x3, .f32⟩
  | 94 => ⟨S2x512x3, .f32⟩
  | 95 => ⟨S2x512x512, .f32⟩
  | 96 => ⟨S_, .f32⟩
  | 97 => ⟨S2x512x512, .f32⟩
  | 98 => ⟨S2x512x512, .f32⟩
  | 99 => ⟨S2x512x3, .f32⟩
  | 100 => ⟨S_, .f32⟩
  | 101 => ⟨S2x512, .f32⟩
  | 102 => ⟨S2x512x1, .f32⟩
  | 103 => ⟨S2x512x512, .f32⟩
  | 104 => ⟨S2x512x512, .f32⟩
  | 105 => ⟨S2x512x3, .f32⟩
  | 106 => ⟨S_, .f32⟩
  | 107 => ⟨S2x512, .f32⟩
  | 108 => ⟨S2x1x512, .f32⟩
  | 109 => ⟨S2x512x512, .f32⟩
  | 110 => ⟨S2x512x512, .f32⟩
  | 111 => ⟨S2x512x512, .f32⟩
  | 112 => ⟨S2x512x10, .f32⟩
  | 113 => ⟨S2x512x10, .i32⟩
  | 114 => ⟨S2x512x10, .f32⟩
  | 115 => ⟨S_, .i32⟩
  | 116 => ⟨S2x512x10, .i32⟩
  | 117 => ⟨S2x512x10, .i1⟩
  | 118 => ⟨S_, .i32⟩
  | 119 => ⟨S2x512x10, .i32⟩
  | 120 => ⟨S2x512x10, .i32⟩
  | 121 => ⟨S2x512x10, .i32⟩
  | 122 => ⟨S2x512x10x1, .i32⟩
  | 123 => ⟨S1, .i32⟩
  | 124 => ⟨S_, .i32⟩
  | 125 => ⟨S2x512x10x1, .i32⟩
  | 126 => ⟨S2x512x10x1, .i1⟩
  | 127 => ⟨S1x1x1x1, .i32⟩
  | _ => ⟨S2x3x512, .f32⟩

abbrev hbmTy0_1 (i : Nat) : BufTy := match i % 128 with
  | 0 => ⟨S2x512x10x1, .i32⟩
  | 1 => ⟨S2x512x10x1, .i1⟩
  | 2 => ⟨S2x512x10x1, .i1⟩
  | 3 => ⟨S_, .i1⟩
  | 4 => ⟨S2x512x10, .i1⟩
  | 5 => ⟨S2x512x10x3, .f32⟩
  | 6 => ⟨S2x512x10x3, .i1⟩
  | 7 => ⟨S_, .f32⟩
  | 8 => ⟨S2x512x10x3, .f32⟩
  | 9 => ⟨S2x512x10x3, .f32⟩
  | 10 => ⟨S2x512x1x3, .f32⟩
  | 11 => ⟨S2x512x10x3, .f32⟩
  | 12 => ⟨S2x512x10x3, .f32⟩
  | 13 => ⟨S_, .f32⟩
  | 14 => ⟨S2x512x3, .f32⟩
  | 15 => ⟨S_, .f32⟩
  | 16 => ⟨S2x512x3, .f32⟩
  | 17 => ⟨S2x512x3, .f32⟩
  | 18 => ⟨S2x512x3, .f32⟩
  | 19 => ⟨S2x512x3, .f32⟩
  | 20 => ⟨S2x512x512, .f32⟩
  | 21 => ⟨S_, .f32⟩
  | 22 => ⟨S2x512x512, .f32⟩
  | 23 => ⟨S2x512x512, .f32⟩
  | 24 => ⟨S2x512x3, .f32⟩
  | 25 => ⟨S_, .f32⟩
  | 26 => ⟨S2x512, .f32⟩
  | 27 => ⟨S2x512x1, .f32⟩
  | 28 => ⟨S2x512x512, .f32⟩
  | 29 => ⟨S2x512x512, .f32⟩
  | 30 => ⟨S2x512x3, .f32⟩
  | 31 => ⟨S_, .f32⟩
  | 32 => ⟨S2x512, .f32⟩
  | 33 => ⟨S2x1x512, .f32⟩
  | 34 => ⟨S2x512x512, .f32⟩
  | 35 => ⟨S2x512x512, .f32⟩
  | 36 => ⟨S2x512x512, .f32⟩
  | 37 => ⟨S2x512x5, .f32⟩
  | 38 => ⟨S2x512x5, .i32⟩
  | 39 => ⟨S2x512x5, .f32⟩
  | 40 => ⟨S_, .i32⟩
  | 41 => ⟨S2x512x5, .i32⟩
  | 42 => ⟨S2x512x5, .i1⟩
  | 43 => ⟨S_, .i32⟩
  | 44 => ⟨S2x512x5, .i32⟩
  | 45 => ⟨S2x512x5, .i32⟩
  | 46 => ⟨S2x512x5, .i32⟩
  | 47 => ⟨S2x512x5x1, .i32⟩
  | 48 => ⟨S1, .i32⟩
  | 49 => ⟨S_, .i32⟩
  | 50 => ⟨S2x512x5x1, .i32⟩
  | 51 => ⟨S2x512x5x1, .i1⟩
  | 52 => ⟨S1x1x1x1, .i32⟩
  | 53 => ⟨S2x512x5x1, .i32⟩
  | 54 => ⟨S2x512x5x1, .i1⟩
  | 55 => ⟨S2x512x5x1, .i1⟩
  | 56 => ⟨S_, .i1⟩
  | 57 => ⟨S2x512x5, .i1⟩
  | 58 => ⟨S2x512x5x3, .f32⟩
  | 59 => ⟨S2x512x5x3, .i1⟩
  | 60 => ⟨S_, .f32⟩
  | 61 => ⟨S2x512x5x3, .f32⟩
  | 62 => ⟨S2x512x5x3, .f32⟩
  | 63 => ⟨S_, .f32⟩
  | 64 => ⟨S2x512x5, .f32⟩
  | 65 => ⟨S2x512x5, .f32⟩
  | 66 => ⟨S_, .f32⟩
  | 67 => ⟨S2x512x5, .f32⟩
  | 68 => ⟨S2x512x5, .f32⟩
  | 69 => ⟨S_, .f32⟩
  | 70 => ⟨S2x512, .f32⟩
  | 71 => ⟨S2x512x1, .f32⟩
  | 72 => ⟨S_, .f32⟩
  | 73 => ⟨S2x512x5, .f32⟩
  | 74 => ⟨S2x512x5, .f32⟩
  | 75 => ⟨S_, .f32⟩
  | 76 => ⟨S2x512x5, .f32⟩
  | 77 => ⟨S2x512x5, .f32⟩
  | 78 => ⟨S2x512x5, .f32⟩
  | 79 => ⟨S2x512x5, .f32⟩
  | 80 => ⟨S2x512x5x1, .f32⟩
  | 81 => ⟨S2x512x5x3, .f32⟩
  | 82 => ⟨S2x512x5x3, .f32⟩
  | 83 => ⟨S_, .f32⟩
  | 84 => ⟨S2x512x3, .f32⟩
  | 85 => ⟨S_, .f32⟩
  | 86 => ⟨S2, .f32⟩
  | 87 => ⟨S_, .f32⟩
  | 88 => ⟨S_, .f32⟩
  | 89 => ⟨S_, .f32⟩
  | 90 => ⟨S_, .f32⟩
  | 91 => ⟨S_, .f32⟩
  | 92 => ⟨S2, .f32⟩
  | 93 => ⟨S_, .f32⟩
  | 94 => ⟨S_, .f32⟩
  | 95 => ⟨S_, .f32⟩
  | 96 => ⟨S_, .f32⟩
  | 97 => ⟨S_, .f32⟩
  | 98 => ⟨S2x512x3, .f32⟩
  | 99 => ⟨S2x512x3, .f32⟩
  | 100 => ⟨S2x512x512, .f32⟩
  | 101 => ⟨S_, .f32⟩
  | 102 => ⟨S2x512x512, .f32⟩
  | 103 => ⟨S2x512x512, .f32⟩
  | 104 => ⟨S2x512x3, .f32⟩
  | 105 => ⟨S_, .f32⟩
  | 106 => ⟨S2x512, .f32⟩
  | 107 => ⟨S2x512x1, .f32⟩
  | 108 => ⟨S2x512x512, .f32⟩
  | 109 => ⟨S2x512x512, .f32⟩
  | 110 => ⟨S2x512x3, .f32⟩
  | 111 => ⟨S_, .f32⟩
  | 112 => ⟨S2x512, .f32⟩
  | 113 => ⟨S2x1x512, .f32⟩
  | 114 => ⟨S2x512x512, .f32⟩
  | 115 => ⟨S2x512x512, .f32⟩
  | 116 => ⟨S2x512x512, .f32⟩
  | 117 => ⟨S2x512x9, .f32⟩
  | 118 => ⟨S2x512x9, .i32⟩
  | 119 => ⟨S2x512x9, .f32⟩
  | 120 => ⟨S_, .i32⟩
  | 121 => ⟨S2x512x9, .i32⟩
  | 122 => ⟨S2x512x9, .i1⟩
  | 123 => ⟨S_, .i32⟩
  | 124 => ⟨S2x512x9, .i32⟩
  | 125 => ⟨S2x512x9, .i32⟩
  | 126 => ⟨S2x512x9, .i32⟩
  | 127 => ⟨S2x512x9x1, .i32⟩
  | _ => ⟨S2x3x512, .f32⟩

abbrev hbmTy0_2 (i : Nat) : BufTy := match i % 128 with
  | 0 => ⟨S1, .i32⟩
  | 1 => ⟨S_, .i32⟩
  | 2 => ⟨S2x512x9x1, .i32⟩
  | 3 => ⟨S2x512x9x1, .i1⟩
  | 4 => ⟨S1x1x1x1, .i32⟩
  | 5 => ⟨S2x512x9x1, .i32⟩
  | 6 => ⟨S2x512x9x1, .i1⟩
  | 7 => ⟨S2x512x9x1, .i1⟩
  | 8 => ⟨S_, .i1⟩
  | 9 => ⟨S2x512x9, .i1⟩
  | 10 => ⟨S2x512x9x3, .f32⟩
  | 11 => ⟨S2x512x9x3, .i1⟩
  | 12 => ⟨S_, .f32⟩
  | 13 => ⟨S2x512x9x3, .f32⟩
  | 14 => ⟨S2x512x9x3, .f32⟩
  | 15 => ⟨S2x512x1x3, .f32⟩
  | 16 => ⟨S2x512x9x3, .f32⟩
  | 17 => ⟨S2x512x9x3, .f32⟩
  | 18 => ⟨S2x512x9x3, .f32⟩
  | 19 => ⟨S_, .f32⟩
  | 20 => ⟨S2x512x9, .f32⟩
  | 21 => ⟨S2x512x9, .f32⟩
  | 22 => ⟨S_, .f32⟩
  | 23 => ⟨S2x512, .f32⟩
  | 24 => ⟨S_, .f32⟩
  | 25 => ⟨S2x512, .f32⟩
  | 26 => ⟨S2x512, .f32⟩
  | 27 => ⟨S_, .f32⟩
  | 28 => ⟨S2, .f32⟩
  | 29 => ⟨S_, .f32⟩
  | 30 => ⟨S_, .f32⟩
  | 31 => ⟨S_, .f32⟩
  | 32 => ⟨S_, .f32⟩
  | 33 => ⟨S2x512x3, .f32⟩
  | 34 => ⟨S2x512x3, .f32⟩
  | 35 => ⟨S_, .f32⟩
  | 36 => ⟨S2x512, .f32⟩
  | 37 => ⟨S_, .f32⟩
  | 38 => ⟨S2, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1, .f32⟩
  | 64 => ⟨S1, .f32⟩
  | 65 => ⟨S_, .f32⟩
  | 66 => ⟨S_, .f32⟩
  | 67 => ⟨S1, .f32⟩
  | 68 => ⟨S1, .f32⟩
  | 69 => ⟨S_, .f32⟩
  | 70 => ⟨S_, .f32⟩
  | 71 => ⟨S1, .f32⟩
  | 72 => ⟨S1, .f32⟩
  | 73 => ⟨S_, .f32⟩
  | 74 => ⟨S_, .f32⟩
  | 75 => ⟨S1, .f32⟩
  | 76 => ⟨S1, .f32⟩
  | 77 => ⟨S_, .f32⟩
  | 78 => ⟨S_, .f32⟩
  | 79 => ⟨S1, .f32⟩
  | 80 => ⟨S1, .f32⟩
  | 81 => ⟨S_, .f32⟩
  | 82 => ⟨S_, .f32⟩
  | 83 => ⟨S1, .f32⟩
  | 84 => ⟨S1, .f32⟩
  | 85 => ⟨S_, .f32⟩
  | 86 => ⟨S_, .f32⟩
  | 87 => ⟨S1, .f32⟩
  | 88 => ⟨S1, .f32⟩
  | 89 => ⟨S_, .f32⟩
  | 90 => ⟨S_, .f32⟩
  | 91 => ⟨S1, .f32⟩
  | 92 => ⟨S1, .f32⟩
  | 93 => ⟨S_, .f32⟩
  | 94 => ⟨S_, .f32⟩
  | 95 => ⟨S1, .f32⟩
  | 96 => ⟨S1, .f32⟩
  | 97 => ⟨S_, .f32⟩
  | 98 => ⟨S_, .f32⟩
  | 99 => ⟨S1, .f32⟩
  | 100 => ⟨S1, .f32⟩
  | 101 => ⟨S_, .f32⟩
  | 102 => ⟨S_, .f32⟩
  | 103 => ⟨S1, .f32⟩
  | 104 => ⟨S1, .f32⟩
  | 105 => ⟨S_, .f32⟩
  | 106 => ⟨S_, .f32⟩
  | 107 => ⟨S1, .f32⟩
  | 108 => ⟨S1, .f32⟩
  | 109 => ⟨S_, .f32⟩
  | 110 => ⟨S1, .f32⟩
  | 111 => ⟨S1, .f32⟩
  | 112 => ⟨S_, .f32⟩
  | 113 => ⟨S1, .f32⟩
  | 114 => ⟨S1, .f32⟩
  | 115 => ⟨S1, .f32⟩
  | 116 => ⟨S_, .f32⟩
  | 117 => ⟨S1, .f32⟩
  | 118 => ⟨S1, .f32⟩
  | 119 => ⟨S1, .f32⟩
  | _ => ⟨S2x3x512, .f32⟩

abbrev hbmTy (i : Nat) : BufTy := match i / 128 with
  | 0 => hbmTy0_0 i
  | 1 => hbmTy0_1 i
  | 2 => hbmTy0_2 i
  | _ => ⟨S2x3x512, .f32⟩

abbrev bufTy : (tb : Table) → Fin (tcTables nBuf tb) → BufTy
  | .hbm, ⟨i, _⟩ => hbmTy i
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_values : Ref sig .tc := ⟨.hbm, 36, rfl⟩
abbrev main_indices : Ref sig .tc := ⟨.hbm, 37, rfl⟩
abbrev main_v18 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_5 : Ref sig .tc := ⟨.hbm, 65, rfl⟩
abbrev main_v23 : Ref sig .tc := ⟨.hbm, 66, rfl⟩
abbrev main_cst_6 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_7 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_8 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_cst_9 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_10 : Ref sig .tc := ⟨.hbm, 89, rfl⟩
abbrev main_v42 : Ref sig .tc := ⟨.hbm, 90, rfl⟩
abbrev main_cst_11 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_12 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_13 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_14 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_values_15 : Ref sig .tc := ⟨.hbm, 112, rfl⟩
abbrev main_indices_16 : Ref sig .tc := ⟨.hbm, 113, rfl⟩
abbrev main_v60 : Ref sig .tc := ⟨.hbm, 114, rfl⟩
abbrev main_call1_c : Ref sig .tc := ⟨.hbm, 115, rfl⟩
abbrev main_call1_v0 : Ref sig .tc := ⟨.hbm, 116, rfl⟩
abbrev main_call1_v1 : Ref sig .tc := ⟨.hbm, 117, rfl⟩
abbrev main_call1_c_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_c_1 : Ref sig .tc := ⟨.hbm, 123, rfl⟩
abbrev main_call1_c_2 : Ref sig .tc := ⟨.hbm, 124, rfl⟩
abbrev main_call1_v6 : Ref sig .tc := ⟨.hbm, 125, rfl⟩
abbrev main_call1_v7 : Ref sig .tc := ⟨.hbm, 126, rfl⟩
abbrev main_call1_v8 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_c_3 : Ref sig .tc := ⟨.hbm, 131, rfl⟩
abbrev main_call1_v12 : Ref sig .tc := ⟨.hbm, 132, rfl⟩
abbrev main_call1_v13 : Ref sig .tc := ⟨.hbm, 133, rfl⟩
abbrev main_call1_v14 : Ref sig .tc := ⟨.hbm, 134, rfl⟩
abbrev main_call1_cst : Ref sig .tc := ⟨.hbm, 135, rfl⟩
abbrev main_call1_v15 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_cst_17 : Ref sig .tc := ⟨.hbm, 141, rfl⟩
abbrev main_v65 : Ref sig .tc := ⟨.hbm, 142, rfl⟩
abbrev main_cst_18 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_cst_19 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_20 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_21 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_values_22 : Ref sig .tc := ⟨.hbm, 165, rfl⟩
abbrev main_indices_23 : Ref sig .tc := ⟨.hbm, 166, rfl⟩
abbrev main_v84 : Ref sig .tc := ⟨.hbm, 167, rfl⟩
abbrev main_call2_c : Ref sig .tc := ⟨.hbm, 168, rfl⟩
abbrev main_call2_v0 : Ref sig .tc := ⟨.hbm, 169, rfl⟩
abbrev main_call2_v1 : Ref sig .tc := ⟨.hbm, 170, rfl⟩
abbrev main_call2_c_0 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_c_1 : Ref sig .tc := ⟨.hbm, 176, rfl⟩
abbrev main_call2_c_2 : Ref sig .tc := ⟨.hbm, 177, rfl⟩
abbrev main_call2_v6 : Ref sig .tc := ⟨.hbm, 178, rfl⟩
abbrev main_call2_v7 : Ref sig .tc := ⟨.hbm, 179, rfl⟩
abbrev main_call2_v8 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_c_3 : Ref sig .tc := ⟨.hbm, 184, rfl⟩
abbrev main_call2_v12 : Ref sig .tc := ⟨.hbm, 185, rfl⟩
abbrev main_call2_v13 : Ref sig .tc := ⟨.hbm, 186, rfl⟩
abbrev main_call2_v14 : Ref sig .tc := ⟨.hbm, 187, rfl⟩
abbrev main_call2_cst : Ref sig .tc := ⟨.hbm, 188, rfl⟩
abbrev main_call2_v15 : Ref sig .tc := ⟨.hbm, 189, rfl⟩
abbrev main_v85 : Ref sig .tc := ⟨.hbm, 190, rfl⟩
abbrev main_cst_24 : Ref sig .tc := ⟨.hbm, 191, rfl⟩
abbrev main_v86 : Ref sig .tc := ⟨.hbm, 192, rfl⟩
abbrev main_v87 : Ref sig .tc := ⟨.hbm, 193, rfl⟩
abbrev main_cst_25 : Ref sig .tc := ⟨.hbm, 194, rfl⟩
abbrev main_v88 : Ref sig .tc := ⟨.hbm, 195, rfl⟩
abbrev main_v89 : Ref sig .tc := ⟨.hbm, 196, rfl⟩
abbrev main_cst_26 : Ref sig .tc := ⟨.hbm, 197, rfl⟩
abbrev main_v90 : Ref sig .tc := ⟨.hbm, 198, rfl⟩
abbrev main_v91 : Ref sig .tc := ⟨.hbm, 199, rfl⟩
abbrev main_cst_27 : Ref sig .tc := ⟨.hbm, 200, rfl⟩
abbrev main_v92 : Ref sig .tc := ⟨.hbm, 201, rfl⟩
abbrev main_v93 : Ref sig .tc := ⟨.hbm, 202, rfl⟩
abbrev main_cst_28 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_29 : Ref sig .tc := ⟨.hbm, 211, rfl⟩
abbrev main_v101 : Ref sig .tc := ⟨.hbm, 212, rfl⟩
abbrev main_cst_30 : Ref sig .tc := ⟨.hbm, 213, rfl⟩
abbrev main_v102 : Ref sig .tc := ⟨.hbm, 214, rfl⟩
abbrev main_cst_31 : Ref sig .tc := ⟨.hbm, 215, rfl⟩
abbrev main_v103 : Ref sig .tc := ⟨.hbm, 216, rfl⟩
abbrev main_cst_32 : Ref sig .tc := ⟨.hbm, 217, rfl⟩
abbrev main_v104 : Ref sig .tc := ⟨.hbm, 218, rfl⟩
abbrev main_cst_33 : Ref sig .tc := ⟨.hbm, 219, rfl⟩
abbrev main_v105 : Ref sig .tc := ⟨.hbm, 220, rfl⟩
abbrev main_cst_34 : Ref sig .tc := ⟨.hbm, 221, rfl⟩
abbrev main_v106 : Ref sig .tc := ⟨.hbm, 222, rfl⟩
abbrev main_cst_35 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_cst_36 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_cst_37 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_cst_38 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_values_39 : Ref sig .tc := ⟨.hbm, 245, rfl⟩
abbrev main_indices_40 : Ref sig .tc := ⟨.hbm, 246, rfl⟩
abbrev main_v125 : Ref sig .tc := ⟨.hbm, 247, rfl⟩
abbrev main_call3_c : Ref sig .tc := ⟨.hbm, 248, rfl⟩
abbrev main_call3_v0 : Ref sig .tc := ⟨.hbm, 249, rfl⟩
abbrev main_call3_v1 : Ref sig .tc := ⟨.hbm, 250, rfl⟩
abbrev main_call3_c_0 : Ref sig .tc := ⟨.hbm, 251, rfl⟩
abbrev main_call3_v2 : Ref sig .tc := ⟨.hbm, 252, rfl⟩
abbrev main_call3_v3 : Ref sig .tc := ⟨.hbm, 253, rfl⟩
abbrev main_call3_v4 : Ref sig .tc := ⟨.hbm, 254, rfl⟩
abbrev main_call3_v5 : Ref sig .tc := ⟨.hbm, 255, rfl⟩
abbrev main_call3_c_1 : Ref sig .tc := ⟨.hbm, 256, rfl⟩
abbrev main_call3_c_2 : Ref sig .tc := ⟨.hbm, 257, rfl⟩
abbrev main_call3_v6 : Ref sig .tc := ⟨.hbm, 258, rfl⟩
abbrev main_call3_v7 : Ref sig .tc := ⟨.hbm, 259, rfl⟩
abbrev main_call3_v8 : Ref sig .tc := ⟨.hbm, 260, rfl⟩
abbrev main_call3_v9 : Ref sig .tc := ⟨.hbm, 261, rfl⟩
abbrev main_call3_v10 : Ref sig .tc := ⟨.hbm, 262, rfl⟩
abbrev main_call3_v11 : Ref sig .tc := ⟨.hbm, 263, rfl⟩
abbrev main_call3_c_3 : Ref sig .tc := ⟨.hbm, 264, rfl⟩
abbrev main_call3_v12 : Ref sig .tc := ⟨.hbm, 265, rfl⟩
abbrev main_call3_v13 : Ref sig .tc := ⟨.hbm, 266, rfl⟩
abbrev main_call3_v14 : Ref sig .tc := ⟨.hbm, 267, rfl⟩
abbrev main_call3_cst : Ref sig .tc := ⟨.hbm, 268, rfl⟩
abbrev main_call3_v15 : Ref sig .tc := ⟨.hbm, 269, rfl⟩
abbrev main_v126 : Ref sig .tc := ⟨.hbm, 270, rfl⟩
abbrev main_v127 : Ref sig .tc := ⟨.hbm, 271, rfl⟩
abbrev main_v128 : Ref sig .tc := ⟨.hbm, 272, rfl⟩
abbrev main_v129 : Ref sig .tc := ⟨.hbm, 273, rfl⟩
abbrev main_call4_v0 : Ref sig .tc := ⟨.hbm, 274, rfl⟩
abbrev main_call4_cst : Ref sig .tc := ⟨.hbm, 275, rfl⟩
abbrev main_call4_v1 : Ref sig .tc := ⟨.hbm, 276, rfl⟩
abbrev main_v130 : Ref sig .tc := ⟨.hbm, 277, rfl⟩
abbrev main_cst_41 : Ref sig .tc := ⟨.hbm, 278, rfl⟩
abbrev main_v131 : Ref sig .tc := ⟨.hbm, 279, rfl⟩
abbrev main_cst_42 : Ref sig .tc := ⟨.hbm, 280, rfl⟩
abbrev main_v132 : Ref sig .tc := ⟨.hbm, 281, rfl⟩
abbrev main_v133 : Ref sig .tc := ⟨.hbm, 282, rfl⟩
abbrev main_cst_43 : Ref sig .tc := ⟨.hbm, 283, rfl⟩
abbrev main_v134 : Ref sig .tc := ⟨.hbm, 284, rfl⟩
abbrev main_cst_44 : Ref sig .tc := ⟨.hbm, 285, rfl⟩
abbrev main_v135 : Ref sig .tc := ⟨.hbm, 286, rfl⟩
abbrev main_cst_45 : Ref sig .tc := ⟨.hbm, 287, rfl⟩
abbrev main_v136 : Ref sig .tc := ⟨.hbm, 288, rfl⟩
abbrev main_v137 : Ref sig .tc := ⟨.hbm, 289, rfl⟩
abbrev main_v138 : Ref sig .tc := ⟨.hbm, 290, rfl⟩
abbrev main_cst_46 : Ref sig .tc := ⟨.hbm, 291, rfl⟩
abbrev main_v139 : Ref sig .tc := ⟨.hbm, 292, rfl⟩
abbrev main_cst_47 : Ref sig .tc := ⟨.hbm, 293, rfl⟩
abbrev main_v140 : Ref sig .tc := ⟨.hbm, 294, rfl⟩
abbrev main_cst_48 : Ref sig .tc := ⟨.hbm, 295, rfl⟩
abbrev main_v141 : Ref sig .tc := ⟨.hbm, 296, rfl⟩
abbrev main_cst_49 : Ref sig .tc := ⟨.hbm, 297, rfl⟩
abbrev main_v142 : Ref sig .tc := ⟨.hbm, 298, rfl⟩
abbrev main_cst_50 : Ref sig .tc := ⟨.hbm, 299, rfl⟩
abbrev main_v143 : Ref sig .tc := ⟨.hbm, 300, rfl⟩
abbrev main_cst_51 : Ref sig .tc := ⟨.hbm, 301, rfl⟩
abbrev main_v144 : Ref sig .tc := ⟨.hbm, 302, rfl⟩
abbrev main_cst_52 : Ref sig .tc := ⟨.hbm, 303, rfl⟩
abbrev main_v145 : Ref sig .tc := ⟨.hbm, 304, rfl⟩
abbrev main_cst_53 : Ref sig .tc := ⟨.hbm, 305, rfl⟩
abbrev main_v146 : Ref sig .tc := ⟨.hbm, 306, rfl⟩
abbrev main_cst_54 : Ref sig .tc := ⟨.hbm, 307, rfl⟩
abbrev main_v147 : Ref sig .tc := ⟨.hbm, 308, rfl⟩
abbrev main_cst_55 : Ref sig .tc := ⟨.hbm, 309, rfl⟩
abbrev main_v148 : Ref sig .tc := ⟨.hbm, 310, rfl⟩
abbrev main_cst_56 : Ref sig .tc := ⟨.hbm, 311, rfl⟩
abbrev main_v149 : Ref sig .tc := ⟨.hbm, 312, rfl⟩
abbrev main_cst_57 : Ref sig .tc := ⟨.hbm, 313, rfl⟩
abbrev main_v150 : Ref sig .tc := ⟨.hbm, 314, rfl⟩
abbrev main_cst_58 : Ref sig .tc := ⟨.hbm, 315, rfl⟩
abbrev main_v151 : Ref sig .tc := ⟨.hbm, 316, rfl⟩
abbrev main_cst_59 : Ref sig .tc := ⟨.hbm, 317, rfl⟩
abbrev main_v152 : Ref sig .tc := ⟨.hbm, 318, rfl⟩
abbrev main_v153 : Ref sig .tc := ⟨.hbm, 319, rfl⟩
abbrev main_v154 : Ref sig .tc := ⟨.hbm, 320, rfl⟩
abbrev main_cst_60 : Ref sig .tc := ⟨.hbm, 321, rfl⟩
abbrev main_v155 : Ref sig .tc := ⟨.hbm, 322, rfl⟩
abbrev main_v156 : Ref sig .tc := ⟨.hbm, 323, rfl⟩
abbrev main_v157 : Ref sig .tc := ⟨.hbm, 324, rfl⟩
abbrev main_cst_61 : Ref sig .tc := ⟨.hbm, 325, rfl⟩
abbrev main_v158 : Ref sig .tc := ⟨.hbm, 326, rfl⟩
abbrev main_v159 : Ref sig .tc := ⟨.hbm, 327, rfl⟩
abbrev main_v160 : Ref sig .tc := ⟨.hbm, 328, rfl⟩
abbrev main_cst_62 : Ref sig .tc := ⟨.hbm, 329, rfl⟩
abbrev main_v161 : Ref sig .tc := ⟨.hbm, 330, rfl⟩
abbrev main_v162 : Ref sig .tc := ⟨.hbm, 331, rfl⟩
abbrev main_v163 : Ref sig .tc := ⟨.hbm, 332, rfl⟩
abbrev main_cst_63 : Ref sig .tc := ⟨.hbm, 333, rfl⟩
abbrev main_v164 : Ref sig .tc := ⟨.hbm, 334, rfl⟩
abbrev main_v165 : Ref sig .tc := ⟨.hbm, 335, rfl⟩
abbrev main_v166 : Ref sig .tc := ⟨.hbm, 336, rfl⟩
abbrev main_cst_64 : Ref sig .tc := ⟨.hbm, 337, rfl⟩
abbrev main_v167 : Ref sig .tc := ⟨.hbm, 338, rfl⟩
abbrev main_v168 : Ref sig .tc := ⟨.hbm, 339, rfl⟩
abbrev main_v169 : Ref sig .tc := ⟨.hbm, 340, rfl⟩
abbrev main_cst_65 : Ref sig .tc := ⟨.hbm, 341, rfl⟩
abbrev main_v170 : Ref sig .tc := ⟨.hbm, 342, rfl⟩
abbrev main_v171 : Ref sig .tc := ⟨.hbm, 343, rfl⟩
abbrev main_v172 : Ref sig .tc := ⟨.hbm, 344, rfl⟩
abbrev main_cst_66 : Ref sig .tc := ⟨.hbm, 345, rfl⟩
abbrev main_v173 : Ref sig .tc := ⟨.hbm, 346, rfl⟩
abbrev main_v174 : Ref sig .tc := ⟨.hbm, 347, rfl⟩
abbrev main_v175 : Ref sig .tc := ⟨.hbm, 348, rfl⟩
abbrev main_cst_67 : Ref sig .tc := ⟨.hbm, 349, rfl⟩
abbrev main_v176 : Ref sig .tc := ⟨.hbm, 350, rfl⟩
abbrev main_v177 : Ref sig .tc := ⟨.hbm, 351, rfl⟩
abbrev main_v178 : Ref sig .tc := ⟨.hbm, 352, rfl⟩
abbrev main_cst_68 : Ref sig .tc := ⟨.hbm, 353, rfl⟩
abbrev main_v179 : Ref sig .tc := ⟨.hbm, 354, rfl⟩
abbrev main_v180 : Ref sig .tc := ⟨.hbm, 355, rfl⟩
abbrev main_v181 : Ref sig .tc := ⟨.hbm, 356, rfl⟩
abbrev main_cst_69 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_cst_70 : Ref sig .tc := ⟨.hbm, 361, rfl⟩
abbrev main_v185 : Ref sig .tc := ⟨.hbm, 362, rfl⟩
abbrev main_v186 : Ref sig .tc := ⟨.hbm, 363, rfl⟩
abbrev main_v187 : Ref sig .tc := ⟨.hbm, 364, rfl⟩
abbrev main_cst_71 : Ref sig .tc := ⟨.hbm, 365, rfl⟩
abbrev main_v188 : Ref sig .tc := ⟨.hbm, 366, rfl⟩
abbrev main_v189 : Ref sig .tc := ⟨.hbm, 367, rfl⟩
abbrev main_cst_72 : Ref sig .tc := ⟨.hbm, 368, rfl⟩
abbrev main_v190 : Ref sig .tc := ⟨.hbm, 369, rfl⟩
abbrev main_v191 : Ref sig .tc := ⟨.hbm, 370, rfl⟩
abbrev main_v192 : Ref sig .tc := ⟨.hbm, 371, rfl⟩
abbrev main_cst_73 : Ref sig .tc := ⟨.hbm, 372, rfl⟩
abbrev main_v193 : Ref sig .tc := ⟨.hbm, 373, rfl⟩
abbrev main_v194 : Ref sig .tc := ⟨.hbm, 374, rfl⟩
abbrev main_v195 : Ref sig .tc := ⟨.hbm, 375, rfl⟩

abbrev nD : Nat := 1
abbrev τ : Topo := Topo.v7x

variable {F : FTy → Type} [FloatOps F]
-- ==== Proof.Rank.lean ====
/- The order in which neighbours are taken: positions by distance, equal distances by position. -/
module

public import Idealize.ShloMosaic.Lib.SortFacts
public import Idealize.ShloMosaic.Lib.Routing.SortLink
public import Idealize.ShloMosaic.PureOps.Ideal

@[expose] public section

noncomputable section

namespace Cert.Rank

open Idealize.ShloMosaic

variable {N : ℕ}

/-- A position's key: its distance, then the position. -/
def key (d : Fin N → EReal) (i : Fin N) : EReal ×ₗ Fin N := toLex (d i, i)

theorem key_lt {d : Fin N → EReal} {i j : Fin N} : key d i < key d j ↔ d i < d j ∨ (d i = d j ∧ i < j) :=
  Prod.Lex.toLex_lt_toLex

theorem key_injective (d : Fin N → EReal) : Function.Injective (key d) := fun i j h => by
  have := congrArg (fun x => (ofLex x).2) h
  exact this

/-- How many positions come before `i`. -/
def rk (d : Fin N → EReal) (i : Fin N) : ℕ := (Finset.univ.filter fun j => key d j < key d i).card

theorem rk_lt_of_key {d : Fin N → EReal} {i j : Fin N} (h : key d i < key d j) : rk d i < rk d j := by
  refine Finset.card_lt_card ⟨fun x hx => ?_, fun hs => ?_⟩
  · simp only [Finset.mem_filter, Finset.mem_univ, true_and] at hx ⊢
    exact hx.trans h
  · have : i ∈ Finset.univ.filter fun x => key d x < key d i :=
      hs (by simp only [Finset.mem_filter, Finset.mem_univ, true_and]; exact h)
    simp only [Finset.mem_filter, lt_self_iff_false, and_false] at this

theorem rk_lt_iff {d : Fin N → EReal} {i j : Fin N} : rk d i < rk d j ↔ key d i < key d j := by
  refine ⟨fun h => ?_, rk_lt_of_key⟩
  rcases lt_trichotomy (key d i) (key d j) with h' | h' | h'
  · exact h'
  · rw [key_injective d h'] at h; exact absurd h (lt_irrefl _)
  · exact absurd (rk_lt_of_key h') (by omega)

theorem rk_injective (d : Fin N → EReal) : Function.Injective (rk d) := fun i j h => by
  rcases lt_trichotomy (key d i) (key d j) with h' | h' | h'
  · have := rk_lt_of_key h'; omega
  · exact key_injective d h'
  · have := rk_lt_of_key h'; omega

theorem rk_lt (d : Fin N → EReal) (i : Fin N) : rk d i < N := by
  have : (Finset.univ.filter fun j => key d j < key d i) ⊂ Finset.univ := by
    refine ⟨Finset.subset_univ _, fun hs => ?_⟩
    have := hs (Finset.mem_univ i)
    simp only [Finset.mem_filter, lt_self_iff_false, and_false] at this
  simpa [rk] using Finset.card_lt_card this

/-- The ranks are the positions rearranged. -/
def rkEquiv (d : Fin N → EReal) : Fin N ≃ Fin N :=
  Equiv.ofBijective (fun i => ⟨rk d i, rk_lt d i⟩)
    (Finite.injective_iff_bijective.mp fun i j h => rk_injective d (congrArg Fin.val h))

/-- The position with exactly `t` positions before it. -/
def nth (d : Fin N → EReal) (t : Fin N) : Fin N := (rkEquiv d).symm t

theorem rk_nth (d : Fin N → EReal) (t : Fin N) : rk d (nth d t) = t.val :=
  congrArg Fin.val ((rkEquiv d).apply_symm_apply t)

theorem nth_eq_iff (d : Fin N → EReal) (t i : Fin N) : nth d t = i ↔ rk d i = t.val := by
  constructor
  · rintro rfl; exact rk_nth d t
  · intro h; exact rk_injective d ((rk_nth d t).trans h.symm)

/-- What `t` rounds of taking the first smallest leave of the distances: the taken ones overwritten with `M`. -/
def masked (M : EReal) (d : Fin N → EReal) (t : ℕ) (i : Fin N) : EReal := if rk d i < t then M else d i

theorem masked_zero (M : EReal) (d : Fin N → EReal) : masked M d 0 = d := by
  funext i; simp [masked]

theorem masked_succ (M : EReal) (d : Fin N → EReal) (t : Fin N) :
    (fun i => if i = nth d t then M else masked M d t.val i) = masked M d (t.val + 1) := by
  funext i
  unfold masked
  by_cases h : i = nth d t
  · subst h; simp [rk_nth]
  · have : rk d i ≠ t.val := fun e => h ((nth_eq_iff d t i).mpr e).symm
    rw [if_neg h]
    by_cases h2 : rk d i < t.val
    · rw [if_pos h2, if_pos (by omega)]
    · rw [if_neg h2, if_neg (by omega)]

/-- The next one to take is first among the smallest of what is left. -/
theorem masked_first {M : EReal} {d : Fin N → EReal} (hM : ∀ i, d i < M) (t i : Fin N) :
    (d (nth d t) < masked M d t.val i) ∨ (masked M d t.val i = d (nth d t) ∧ nth d t ≤ i) := by
  unfold masked
  by_cases h : rk d i < t.val
  · rw [if_pos h]; exact .inl (hM _)
  · rw [if_neg h]
    by_cases h2 : i = nth d t
    · subst h2; exact .inr ⟨rfl, le_refl _⟩
    · have hk : key d (nth d t) < key d i := by
        rw [← rk_lt_iff, rk_nth]
        have : rk d i ≠ t.val := fun e => h2 ((nth_eq_iff d t i).mpr e).symm
        omega
      rcases key_lt.mp hk with h3 | ⟨h3, h4⟩
      · exact .inl h3
      · exact .inr ⟨h3.symm, h4.le⟩

theorem masked_nth (M : EReal) (d : Fin N → EReal) (t : Fin N) : masked M d t.val (nth d t) = d (nth d t) := by
  unfold masked; rw [rk_nth, if_neg (lt_irrefl _)]

/-- The smallest of what is left. -/
theorem fold_min_masked {M : EReal} {d : Fin N → EReal} (hM : ∀ i, d i < M) (t : Fin N) :
    Finset.univ.fold min ⊤ (masked M d t.val) = d (nth d t) := by
  refine le_antisymm ?_ ?_
  · rw [Finset.fold_min_le]
    exact .inr ⟨nth d t, Finset.mem_univ _, (masked_nth M d t).le⟩
  · rw [Finset.le_fold_min]
    refine ⟨le_top, fun i _ => ?_⟩
    rcases masked_first hM t i with h | h
    · exact h.le
    · exact h.1.ge

/-! ## A stable sort of the positions lists them in this order -/

theorem stableSort_congr' {ι : Type} (R R' : ι → ι → Bool) (l : List ι)
    (h : l.Pairwise fun a b => R b a = R' b a) : stableSort R l = stableSort R' l := by
  induction l with
  | nil => rfl
  | cons a l ih =>
    unfold stableSort
    rw [ih (List.pairwise_cons.mp h).2]
    exact insertBefore_congr R R' a _ fun b hb =>
      (List.pairwise_cons.mp h).1 b ((perm_stableSort R' l).mem_iff.mp hb)

theorem sortedFrom_eq_nth (d : Fin N → EReal) (before : Fin N → Fin N → Bool)
    (hb : ∀ a b, before a b = decide (d a < d b)) (t : Fin N) : sortedFrom before t = nth d t := by
  have h1 : sortPositions N before = sortPositions N fun a b => decide (rk d a < rk d b) := by
    refine stableSort_congr' _ _ _ ?_
    refine (List.pairwise_lt_finRange N).imp fun {a b} hab => ?_
    rw [hb]
    refine decide_eq_decide.mpr ?_
    rw [rk_lt_iff, key_lt]
    exact ⟨.inl, fun h => h.elim id fun h => absurd h.2 (lt_asymm hab)⟩
  have h2 : sortPositions N (fun a b => decide (rk d a < rk d b)) = List.ofFn (nth d) :=
    Routing.sortPositions_eq (rk d) (rk_injective d) _
      (by
        exact Equiv.Perm.ofFn_comp_perm (rkEquiv d).symm (fun i : Fin N => i))
      (by
        rw [List.pairwise_ofFn]
        intro i j hij
        rw [rk_nth, rk_nth]; exact hij)
  unfold sortedFrom
  rw [List.get_of_eq (h1.trans h2)]
  simp

/-- A sum over the first `k` places is a sum over the positions of rank below `k`. -/
theorem sum_nth {A : Type*} [AddCommMonoid A] (d : Fin N → EReal) {k : ℕ} (hk : k ≤ N) (f : Fin N → A) :
    ∑ t : Fin k, f (nth d (Fin.castLE hk t)) = ∑ i : Fin N, if rk d i < k then f i else 0 := by
  rw [← Finset.sum_filter]
  refine Finset.sum_bij (fun t _ => nth d (Fin.castLE hk t)) (fun t _ => ?_) (fun a _ b _ h => ?_) (fun i hi => ?_)
    (fun _ _ => rfl)
  · simp only [Finset.mem_filter, Finset.mem_univ, true_and, rk_nth]
    exact t.isLt
  · have := congrArg (rk d) h
    rw [rk_nth, rk_nth] at this
    exact Fin.ext this
  · simp only [Finset.mem_filter, Finset.mem_univ, true_and] at hi
    exact ⟨⟨rk d i, hi⟩, Finset.mem_univ _, (nth_eq_iff d _ i).mpr rfl⟩

end Cert.Rank

end
-- ==== Proof.Near.lean ====
/- Squared distances between points of three coordinates, and the constants the programs use. -/
module

public import proofs.«01_k».proof.Proof.Rank
public import Idealize.ShloMosaic.Lib.Pointwise

@[expose] public section

noncomputable section

namespace Cert.Near

open Idealize.ShloMosaic Cert.Rank

/-- The mask value of the rounds. -/
def big : EReal := Ideal.ofBits .f32 0x7F7FC99E#32

/-- The squared distance of two points, expanded. -/
def sqd (a b : Fin 3 → EReal) : EReal :=
  (-2 : ℝ) * (∑ c, a c * b c) + (∑ c, a c * a c) + ∑ c, b c * b c

theorem big_eq : big = ((16763294 * 2 ^ 104 : ℝ) : EReal) := by
  unfold big
  simp [Ideal.ofBits, Ideal.ieee]
theorem c10 : Ideal.ofBits .f32 0x41200000#32 = ((10 : ℝ) : EReal) := by
  simp [Ideal.ofBits, Ideal.ieee]
  rw [← EReal.coe_mul]; congr 1; norm_num
theorem c2 : Ideal.ofBits .f32 0x40000000#32 = ((2 : ℝ) : EReal) := by
  simp [Ideal.ofBits, Ideal.ieee]
  rw [← EReal.coe_mul]; congr 1; norm_num
theorem c8 : Ideal.ofBits .f32 0x41000000#32 = ((8 : ℝ) : EReal) := by
  simp [Ideal.ofBits, Ideal.ieee]
  rw [← EReal.coe_mul]; congr 1; norm_num
theorem c9 : Ideal.ofBits .f32 0x41100000#32 = ((9 : ℝ) : EReal) := by
  simp [Ideal.ofBits, Ideal.ieee]
  rw [← EReal.coe_mul]; congr 1; norm_num
theorem cm2 : Ideal.ofBits .f32 0xC0000000#32 = ((-2 : ℝ) : EReal) := by
  simp [Ideal.ofBits, Ideal.ieee]
  rw [← EReal.coe_mul]; congr 1; norm_num
theorem cbound : Ideal.ofBits .f32 0x5D800000#32 = ((2 ^ 60 : ℝ) : EReal) := by
  simp [Ideal.ofBits, Ideal.ieee]
  rw [← EReal.coe_pow, ← EReal.coe_mul, ← EReal.coe_pow]; congr 1; norm_num

theorem sqd_coe (a b : Fin 3 → ℝ) :
    sqd (fun c => (a c : EReal)) (fun c => (b c : EReal)) = ((∑ c, (a c - b c) ^ 2 : ℝ) : EReal) := by
  unfold sqd
  simp only [Fin.sum_univ_three, ← EReal.coe_mul, ← EReal.coe_add]
  congr 1
  ring

/-- A coordinate at most `B` in absolute value. -/
def Small (B : ℝ) (x : EReal) : Prop := ∃ u : ℝ, x = u ∧ |u| ≤ B

theorem Small.coe {B : ℝ} {x : EReal} (h : Small B x) : ((x.toReal : ℝ) : EReal) = x := by
  obtain ⟨u, rfl, _⟩ := h; simp

theorem Small.mono {A B : ℝ} {x : EReal} (h : Small A x) (hAB : A ≤ B) : Small B x := by
  obtain ⟨u, hu, hu'⟩ := h; exact ⟨u, hu, hu'.trans hAB⟩

theorem Small.add {A B : ℝ} {x y : EReal} (hx : Small A x) (hy : Small B y) : Small (A + B) (x + y) := by
  obtain ⟨u, rfl, hu⟩ := hx
  obtain ⟨v, rfl, hv⟩ := hy
  exact ⟨u + v, (EReal.coe_add u v).symm, (abs_add_le u v).trans (add_le_add hu hv)⟩

theorem sqd_lt (a b : Fin 3 → EReal) (ha : ∀ c, Small (2 ^ 61) (a c)) (hb : ∀ c, Small (2 ^ 61) (b c)) : sqd a b < big := by
  choose u hu hu' using ha
  choose v hv hv' using hb
  obtain rfl : a = fun c => (u c : EReal) := funext hu
  obtain rfl : b = fun c => (v c : EReal) := funext hv
  rw [sqd_coe, big_eq, EReal.coe_lt_coe_iff]
  have h : ∀ c, (u c - v c) ^ 2 ≤ (2 ^ 62) ^ 2 := fun c => by
    have h1 : |u c - v c| ≤ 2 ^ 62 := (abs_sub _ _).trans (by linarith [hu' c, hv' c])
    rw [← sq_abs]; gcongr
  rw [Fin.sum_univ_three]
  linarith [h 0, h 1, h 2, (by norm_num : (3 : ℝ) * (2 ^ 62) ^ 2 < 16763294 * 2 ^ 104)]

/-- The distance of two points, by their norms and product. -/
def len (a b : Fin 3 → EReal) : EReal :=
  Ideal.sqrt (max ((∑ c, a c * a c) + (∑ c, b c * b c) - (2 : ℝ) * ∑ c, a c * b c) 0)

theorem len_coe (a b : Fin 3 → ℝ) :
    len (fun c => (a c : EReal)) (fun c => (b c : EReal)) = ((Real.sqrt (∑ c, (b c - a c) * (b c - a c)) : ℝ) : EReal) := by
  unfold len
  simp only [Fin.sum_univ_three, ← EReal.coe_mul, ← EReal.coe_add, ← EReal.coe_sub]
  have e : a 0 * a 0 + a 1 * a 1 + a 2 * a 2 + (b 0 * b 0 + b 1 * b 1 + b 2 * b 2) - 2 * (a 0 * b 0 + a 1 * b 1 + a 2 * b 2)
      = (b 0 - a 0) * (b 0 - a 0) + (b 1 - a 1) * (b 1 - a 1) + (b 2 - a 2) * (b 2 - a 2) := by ring
  have hp : 0 ≤ (b 0 - a 0) * (b 0 - a 0) + (b 1 - a 1) * (b 1 - a 1) + (b 2 - a 2) * (b 2 - a 2) := by
    nlinarith [mul_self_nonneg (b 0 - a 0), mul_self_nonneg (b 1 - a 1), mul_self_nonneg (b 2 - a 2)]
  rw [e, max_eq_left (EReal.coe_nonneg.mpr hp)]
  exact if_neg (not_lt.mpr hp)

/-! ## Clouds: arrays [2, 3, N] of coordinates -/

abbrev Cloud (N : ℕ) : Type := (⟨3, ![2, 3, N]⟩ : Shape).Idx → EReal

variable {N K : ℕ}

/-- Point `n` of batch `b`. -/
def pt (p : Cloud N) (b : Fin 2) (n : Fin N) : Fin 3 → EReal := fun c => p (ix3 b c n)

/-- The squared distances of point `r` of `q` to the points of `p`. -/
def dist (q : Cloud K) (p : Cloud N) (b : Fin 2) (r : Fin K) (n : Fin N) : EReal := sqd (pt q b r) (pt p b n)

/-- The curvature as a masked sum: of the ten points nearest `r` in `p`, the points of `w` less ten times that of `r`, by nine. -/
def curvMasked (p w : Cloud N) (b : Fin 2) (r : Fin N) (c : Fin 3) : EReal :=
  Ideal.div ((∑ n, if rk (dist p p b r) n < 10 then w (ix3 b c n) else 0) - (10 : ℝ) * w (ix3 b c r)) (9 : ℝ)

/-- The curvature as a sum over the list of the ten nearest. -/
def curvListed (hN : 10 ≤ N) (p w : Cloud N) (b : Fin 2) (r : Fin N) (c : Fin 3) : EReal :=
  Ideal.div (∑ t : Fin 10, (w (ix3 b c (nth (dist p p b r) (Fin.castLE hN t))) - w (ix3 b c r))) (9 : ℝ)

/-- A finite sum of finite values. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem curvMasked_eq (hN : 10 ≤ N) (p w : Cloud N) (b : Fin 2) (r : Fin N) (c : Fin 3) (hw : ∀ n, ∃ u : ℝ, w (ix3 b c n) = u) :
    curvMasked p w b r c = curvListed hN p w b r c := by
  choose u hu using hw
  unfold curvMasked curvListed
  rw [← sum_nth (dist p p b r) hN (fun n => w (ix3 b c n))]
  simp only [hu]
  congr 1
  rw [← coe_sum, ← EReal.coe_mul, ← EReal.coe_sub]
  simp only [← EReal.coe_sub]
  rw [← coe_sum, Finset.sum_sub_distrib]
  simp

/-- The length of row `r`'s turn as a masked sum: over the nine points nearest `r` in `p`, the distances of their flows to its own. -/
def turnMasked (p f : Cloud N) (b : Fin 2) (r : Fin N) : EReal :=
  ∑ n, if rk (dist p p b r) n < 9 then len (pt f b r) (pt f b n) else 0

/-- The same over the list of the nine nearest, each distance the root of a sum of squares. -/
def turnListed (hN : 9 ≤ N) (p f : Cloud N) (b : Fin 2) (r : Fin N) : EReal :=
  ∑ t : Fin 9, Ideal.sqrt (∑ c : Fin 3, (f (ix3 b c (nth (dist p p b r) (Fin.castLE hN t))) - f (ix3 b c r))
    * (f (ix3 b c (nth (dist p p b r) (Fin.castLE hN t))) - f (ix3 b c r)))

theorem turnMasked_eq (hN : 9 ≤ N) (p f : Cloud N) (b : Fin 2) (r : Fin N) (hf : ∀ i, ∃ u : ℝ, f i = u) :
    turnMasked p f b r = turnListed hN p f b r ∧ ∃ u : ℝ, turnListed hN p f b r = u := by
  choose u hu using hf
  have hs : ∀ n, Ideal.sqrt (∑ c : Fin 3, (f (ix3 b c n) - f (ix3 b c r)) * (f (ix3 b c n) - f (ix3 b c r)))
      = ((Real.sqrt (∑ c, (u (ix3 b c n) - u (ix3 b c r)) * (u (ix3 b c n) - u (ix3 b c r))) : ℝ) : EReal) := fun n => by
    simp only [hu, ← EReal.coe_sub, ← EReal.coe_mul, ← coe_sum]
    exact if_neg (not_lt.mpr (Finset.sum_nonneg fun c _ => mul_self_nonneg _))
  have hl : ∀ n, len (pt f b r) (pt f b n) = Ideal.sqrt (∑ c : Fin 3, (f (ix3 b c n) - f (ix3 b c r)) * (f (ix3 b c n) - f (ix3 b c r))) :=
    fun n => by
      rw [hs]
      have e : ∀ n, pt f b n = fun c => (u (ix3 b c n) : EReal) := fun n => funext fun c => hu _
      rw [e, e]
      exact len_coe _ _
  refine ⟨?_, ?_⟩
  · unfold turnMasked turnListed
    simp only [hl]
    exact (sum_nth (dist p p b r) hN (fun n => Ideal.sqrt (∑ c : Fin 3, (f (ix3 b c n) - f (ix3 b c r)) * (f (ix3 b c n) - f (ix3 b c r))))).symm
  · unfold turnListed
    simp only [hs, ← coe_sum]
    exact ⟨_, rfl⟩

theorem c1 : Ideal.ofBits .f32 0x3F800000#32 = 1 := by
  simp [Ideal.ofBits, Ideal.ieee]; rw [← EReal.coe_mul, ← EReal.coe_one]; congr 1; norm_num

/-- The weight of a point at distance `z`: the reciprocal of the distance and a little. -/
def weight (z : EReal) : EReal :=
  Ideal.div 1 (z + Ideal.ofBits .f32 0x322BCC77#32)

/-- What `p` holds at the five smallest of `D`, in the mean by their weights. -/
def mix (hN : 4 < N) (D : Fin N → EReal) (p : Fin N → EReal) : EReal :=
  ∑ t : Fin 5, Ideal.div (weight (D (nth D ⟨t.val, by omega⟩))) (∑ s : Fin 5, weight (D (nth D ⟨s.val, by omega⟩)))
    * p (nth D ⟨t.val, by omega⟩)

/-- The smallest of finitely many values. -/
def least (f : Fin N → EReal) : EReal := Finset.univ.fold min ⊤ f

theorem le_least (f : Fin N → EReal) (x : EReal) : x ≤ least f ↔ ∀ n, x ≤ f n := by
  unfold least
  rw [Finset.le_fold_min]
  simp

/-! ## What the preconditions say -/

/-- What the precondition says of one element. -/
theorem small_of_le {x : EReal} (h : FloatOps.cmpf (F := Ideal) (φ := .f32) .ole (max x (-x)) (Ideal.ofBits .f32 0x5D800000#32) = 1#1) :
    Small (2 ^ 60) x := by
  have h' : max x (-x) ≤ ((2 ^ 60 : ℝ) : EReal) := by
    rw [cbound] at h
    by_contra hc
    have : FloatOps.cmpf (F := Ideal) (φ := .f32) .ole (max x (-x)) ((2 ^ 60 : ℝ) : EReal) = 0#1 := by
      show BitVec.ofBool (decide _) = _
      simp only [decide_eq_false hc]; rfl
    rw [this] at h
    exact absurd h (by decide)
  have h1 := (le_max_left _ _).trans h'
  have h2 := (le_max_right _ _).trans h'
  induction x using EReal.rec with
  | bot => rw [EReal.neg_bot] at h2; exact absurd h2 (not_le.mpr (EReal.coe_lt_top _))
  | top => exact absurd h1 (not_le.mpr (EReal.coe_lt_top _))
  | coe u =>
    refine ⟨u, rfl, abs_le.mpr ⟨?_, EReal.coe_le_coe_iff.mp h1⟩⟩
    rw [← EReal.coe_neg] at h2
    linarith [EReal.coe_le_coe_iff.mp h2]

/-- A conjunction of two bits that is set has both set. -/
theorem both {a b : BitVec 1} (h : IntOp.andi a b = 1#1) : a = 1#1 ∧ b = 1#1 := by revert a b; decide

/-- An index [2, n, 3] by its coordinates. -/
theorem exists_ix3 {n : ℕ} (i : (⟨3, ![2, n, 3]⟩ : Shape).Idx) : ∃ (b : Fin 2) (r : Fin n) (k : Fin 3), i = ix3 b r k := by
  refine ⟨i 0, i 1, i 2, funext fun a => ?_⟩
  match a with
  | ⟨0, _⟩ => rfl
  | ⟨1, _⟩ => rfl
  | ⟨2, _⟩ => rfl

end Cert.Near
-- ==== Proof.Rounds.lean ====
/- Rounds of taking, in every row of an [R, N] block, the first smallest entry: the vector operations of a round, and what
   `t` rounds have taken and left. -/
module

public import proofs.«01_k».proof.Proof.Rank
public import Idealize.ShloMosaic.Lib.Pointwise
public import Idealize.ShloMosaic.Lib.Pointwise.IndexVar

@[expose] public section

noncomputable section

namespace Cert.Rounds

open Idealize.ShloMosaic Cert.Rank

/-- The shapes of a round's operations. -/
abbrev Blk (R N : ℕ) : Shape := ⟨2, ![R, N]⟩
abbrev Vec1 (R : ℕ) : Shape := ⟨1, ![R]⟩

/-- The side conditions of a round's operations. -/
structure Sides (R N : ℕ) : Prop where
  red : (Blk R N).Reduces [1] (Vec1 R)
  cast : (Vec1 R).ShapeCasts (Blk R 1)
  bc : (Blk R 1).Broadcasts (Blk R N)
  small : N < 2 ^ 31

variable {R N : ℕ}

/-- One value per row, along the row. -/
def along {α : Type} (hs : Sides R N) (x : (Vec1 R).Idx → α) : (Blk R N).Idx → α :=
  broadcastTo (Blk R N) (shapeCast (Blk R 1) x hs.cast) hs.bc

/-- Each row's smallest entry. -/
def minOf (hs : Sides R N) (d : FVec Ideal (Blk R N) .f32) : FVec Ideal (Vec1 R) .f32 :=
  multiReduction .minimumf [1] (Vec1 R) d 0x7F800000#32 hs.red (.inl rfl) rfl

/-- The first position of each row's smallest entry. -/
def argOf (hs : Sides R N) (iv : IVec (Blk R N) 32) (d : FVec Ideal (Blk R N) .f32) : IVec (Vec1 R) 32 :=
  multiReductionI .minsi [1] (Vec1 R)
    (select (cmpf .ole d (along hs (minOf hs d))) iv (broadcast (Blk R N) (BitVec.ofNat 32 N))) 2147483647#32 hs.red rfl

/-- The mask of that position. -/
def sel (hs : Sides R N) (iv : IVec (Blk R N) 32) (d : FVec Ideal (Blk R N) .f32) : IVec (Blk R N) 1 :=
  cmpi .eq iv (along hs (argOf hs iv d))

/-- The block with that position overwritten. -/
def step (hs : Sides R N) (M : EReal) (iv : IVec (Blk R N) 32) (d : FVec Ideal (Blk R N) .f32) : FVec Ideal (Blk R N) .f32 :=
  select (sel hs iv d) (broadcast (Blk R N) (M : Ideal .f32)) d

/-- The block after `t` rounds. -/
def left (hs : Sides R N) (M : EReal) (iv : IVec (Blk R N) 32) (d : FVec Ideal (Blk R N) .f32) : ℕ → FVec Ideal (Blk R N) .f32
  | 0 => d
  | t + 1 => step hs M iv (left hs M iv d t)

/-- The mask of what rounds `0 … t` took. -/
def taken (hs : Sides R N) (M : EReal) (iv : IVec (Blk R N) 32) (d : FVec Ideal (Blk R N) .f32) : ℕ → IVec (Blk R N) 1
  | 0 => sel hs iv d
  | t + 1 => ori (taken hs M iv d t) (sel hs iv (left hs M iv d (t + 1)))

theorem along_apply {α : Type} (hs : Sides R N) (x : (Vec1 R).Idx → α) (r : Fin R) (n : Fin N) :
    along hs x (ix2 r n) = x (ix1 r) := by
  unfold along
  have h : shapeCast (Blk R 1) x hs.cast (ix2 r 0) = x (ix1 r) := by
    refine shapeCast_apply x hs.cast _ _ ?_
    rw [Shape.rowMajor_val_two, Shape.rowMajor_val_one]
    show r.val = r.val * 1 + 0
    omega
  rw [← h]
  refine broadcastTo_apply _ hs.bc _ _ fun a => ?_
  match a with
  | ⟨0, _⟩ => show r.val = if R = 1 then 0 else r.val; split <;> omega
  | ⟨1, _⟩ => show 0 = if 1 = 1 then 0 else n.val; simp

theorem minOf_apply (hs : Sides R N) (d : FVec Ideal (Blk R N) .f32) (r : Fin R) :
    minOf hs d (ix1 r) = Finset.univ.fold min ⊤ fun n => d (ix2 r n) := by
  unfold minOf
  refine (multiReduction_minimumf_eq_fold _ _ _ _ _ _).trans ?_
  rw [Shape.Reduces.fold_fiber_r2_a1]
  have : FloatOps.ofBits (F := Ideal) .f32 0x7F800000#32 = (⊤ : EReal) := by
    simp [Ideal.ofBits, Ideal.ieee]
  rw [this]
  rfl

/-- The signed minimum of words holding small naturals. -/
theorem fold_minsi (hN : N < 2 ^ 31) (P : Fin N → Prop) [DecidablePred P] (p : Fin N) (hp : P p) (hmin : ∀ k, P k → p ≤ k) :
    Finset.univ.fold IntOp.minsi 2147483647#32 (fun k : Fin N => if P k then BitVec.ofNat 32 k.val else BitVec.ofNat 32 N)
      = BitVec.ofNat 32 p.val := by
  let m : Fin (2 ^ 31) → BitVec 32 := fun a => BitVec.ofNat 32 a.val
  have hm : ∀ x y : Fin (2 ^ 31), m (min x y) = IntOp.minsi (m x) (m y) := by
    intro x y
    have em : ∀ z : Fin (2 ^ 31), (m z).toInt = z.val := fun z => by
      have hz := z.isLt
      show (BitVec.ofNat 32 z.val).toInt = _
      rw [BitVec.toInt_eq_toNat_of_lt, BitVec.toNat_ofNat]
      · omega
      · rw [BitVec.toNat_ofNat]; omega
    have hlt : (m x).slt (m y) = decide (x < y) := by
      rw [BitVec.slt, em, em]; exact decide_eq_decide.mpr (by rw [Fin.lt_def]; omega)
    unfold IntOp.minsi
    rw [hlt]
    by_cases h : x < y
    · rw [min_eq_left h.le]; simp [h]
    · rw [min_eq_right (le_of_not_gt h)]; simp [h]
  let f : Fin N → Fin (2 ^ 31) := fun k => if P k then ⟨k.val, by omega⟩ else ⟨N, hN⟩
  have hf : (fun k : Fin N => if P k then BitVec.ofNat 32 k.val else BitVec.ofNat 32 N) = fun k => m (f k) := by
    funext k; simp only [m, f]; split <;> rfl
  rw [hf]
  have hb : (2147483647#32 : BitVec 32) = m ⟨2147483647, by norm_num⟩ := rfl
  rw [hb, Finset.fold_hom hm]
  have : Finset.univ.fold min (⟨2147483647, by norm_num⟩ : Fin (2 ^ 31)) f = ⟨p.val, by omega⟩ := by
    refine le_antisymm ?_ ?_
    · rw [Finset.fold_min_le]
      exact .inr ⟨p, Finset.mem_univ _, by simp only [f, if_pos hp]; exact le_refl _⟩
    · rw [Finset.le_fold_min]
      refine ⟨by rw [Fin.le_def]; simp only; omega, fun k _ => ?_⟩
      simp only [f]
      split
      · rename_i h; exact hmin k h
      · rw [Fin.le_def]; simp only; omega
  rw [this]

theorem argOf_apply (hs : Sides R N) (iv : IVec (Blk R N) 32) (d : FVec Ideal (Blk R N) .f32) (r : Fin R)
    (hiv : ∀ n, iv (ix2 r n) = BitVec.ofNat 32 n.val) (p : Fin N) (v : EReal) (hv : minOf hs d (ix1 r) = v)
    (hp : d (ix2 r p) ≤ v) (hmin : ∀ k, d (ix2 r k) ≤ v → p ≤ k) :
    argOf hs iv d (ix1 r) = BitVec.ofNat 32 p.val := by
  unfold argOf
  refine (multiReductionI_eq_fold _ _ _ _ _ _).trans ?_
  show Finset.fold IntOp.minsi _ _ (Finset.univ.filter fun i => hs.red.drop i = ix1 r) = _
  rw [Shape.Reduces.fold_fiber_r2_a1, ← fold_minsi hs.small (fun k => d (ix2 r k) ≤ v) p hp hmin]
  congr 1
  funext k
  show Scalar.select (Ideal.cmp .ole (d (ix2 r k)) (along hs (minOf hs d) (ix2 r k))) (iv (ix2 r k)) (BitVec.ofNat 32 N) = _
  rw [along_apply, hv, hiv]
  by_cases h : d (ix2 r k) ≤ v <;> simp [Ideal.cmp, Scalar.select, h]

theorem ofNat_eq_iff (hN : N < 2 ^ 31) (a b : Fin N) : BitVec.ofNat 32 a.val = BitVec.ofNat 32 b.val ↔ a = b := by
  constructor
  · intro h
    have := congrArg BitVec.toNat h
    simp only [BitVec.toNat_ofNat] at this
    have := a.isLt; have := b.isLt
    exact Fin.ext (by omega)
  · rintro rfl; rfl

section row

variable (hs : Sides R N) (M : EReal) (iv : IVec (Blk R N) 32) (d : FVec Ideal (Blk R N) .f32) (r : Fin R)
  (D : Fin N → EReal) (hD : ∀ n, d (ix2 r n) = D n) (hM : ∀ n, D n < M) (hiv : ∀ n, iv (ix2 r n) = BitVec.ofNat 32 n.val)

include hM hiv

theorem minOf_masked (e : FVec Ideal (Blk R N) .f32) (t : Fin N) (he : ∀ n, e (ix2 r n) = masked M D t.val n) :
    minOf hs e (ix1 r) = D (nth D t) := by
  rw [minOf_apply, ← fold_min_masked hM t]
  congr 1
  funext n; exact he n

theorem sel_masked (e : FVec Ideal (Blk R N) .f32) (t : Fin N) (he : ∀ n, e (ix2 r n) = masked M D t.val n) (n : Fin N) :
    sel hs iv e (ix2 r n) = BitVec.ofBool (decide (n = nth D t)) := by
  unfold sel
  show IntOp.cmpi .eq (iv (ix2 r n)) (along hs (argOf hs iv e) (ix2 r n)) = _
  rw [along_apply, hiv, argOf_apply hs iv e r hiv (nth D t) _ (minOf_masked hs M iv r D hM hiv e t he)
    (by rw [he, masked_nth]) (fun k hk => ?_)]
  · simp only [IntOp.cmpi]
    congr 1
    rw [beq_eq_decide]
    exact decide_eq_decide.mpr (ofNat_eq_iff hs.small _ _)
  · rw [he] at hk
    rcases masked_first hM t k with h | h
    · exact absurd hk (not_le.mpr h)
    · exact h.2

include hD

/-- What `t` rounds left of row `r`. -/
theorem left_apply (t : ℕ) (ht : t ≤ N) (n : Fin N) : left hs M iv d t (ix2 r n) = masked M D t n := by
  induction t generalizing n with
  | zero => rw [masked_zero]; exact hD n
  | succ t ih =>
    have ih' := ih (by omega)
    show Scalar.select (sel hs iv (left hs M iv d t) (ix2 r n)) M (left hs M iv d t (ix2 r n)) = _
    rw [sel_masked hs M iv r D hM hiv _ ⟨t, by omega⟩ ih', ih', ← masked_succ M D ⟨t, by omega⟩]
    by_cases h : n = nth D ⟨t, by omega⟩ <;> simp [Scalar.select, h]

/-- The mask of round `t`. -/
theorem sel_left (t : Fin N) (n : Fin N) :
    sel hs iv (left hs M iv d t.val) (ix2 r n) = BitVec.ofBool (decide (n = nth D t)) :=
  sel_masked hs M iv r D hM hiv _ t (left_apply hs M iv d r D hD hM hiv t.val t.isLt.le) n

/-- The smallest entry round `t` finds. -/
theorem minOf_left (t : Fin N) : minOf hs (left hs M iv d t.val) (ix1 r) = D (nth D t) :=
  minOf_masked hs M iv r D hM hiv _ t (left_apply hs M iv d r D hD hM hiv t.val t.isLt.le)

/-- Rounds `0 … t` took the positions of rank at most `t`. -/
theorem taken_apply (t : ℕ) (ht : t < N) (n : Fin N) :
    taken hs M iv d t (ix2 r n) = BitVec.ofBool (decide (rk D n < t + 1)) := by
  induction t with
  | zero =>
    have := sel_left hs M iv d r D hD hM hiv ⟨0, ht⟩ n
    refine this.trans (congrArg BitVec.ofBool (decide_eq_decide.mpr ?_))
    rw [eq_comm, nth_eq_iff]; simp only; omega
  | succ t ih =>
    show IntOp.ori (taken hs M iv d t (ix2 r n)) (sel hs iv (left hs M iv d (t + 1)) (ix2 r n)) = _
    rw [ih (by omega), sel_left hs M iv d r D hD hM hiv ⟨t + 1, ht⟩ n]
    have e : (n = nth D ⟨t + 1, ht⟩) ↔ rk D n = t + 1 := by rw [eq_comm, nth_eq_iff]
    by_cases h1 : rk D n < t + 1
    · have : rk D n < t + 1 + 1 := by omega
      simp [IntOp.ori, h1, this, e]
      by_cases h2 : rk D n = t + 1 <;> simp [h2]
    · by_cases h2 : rk D n = t + 1
      · simp [IntOp.ori, e, h2]
      · have : ¬ rk D n < t + 1 + 1 := by omega
        simp [IntOp.ori, h1, e, h2, this]

end row

end Cert.Rounds

end
-- ==== Proof.Body.lean ====
/- The vector operations the three kernels share, for row blocks of [R, 3] against clouds of N points, read at an index. -/
module

public import proofs.«01_k».proof.Proof.Near
public import proofs.«01_k».proof.Proof.Rounds
public import Idealize.ShloMosaic.Lib.MatmulPlain

@[expose] public section

noncomputable section

namespace Cert.Body

open Idealize.ShloMosaic Cert.Rank Cert.Near Cert.Rounds

/-- The shapes of the windows' blocks. -/
abbrev Cube (A B C : ℕ) : Shape := ⟨3, ![A, B, C]⟩

/-- The side conditions of the bodies' operations. -/
structure Shapes (R N : ℕ) : Prop where
  sides : Sides R N
  rows : (Cube 1 R 3).ShapeCasts (Blk R 3)
  cols : (Cube 1 3 N).ShapeCasts (Blk 3 N)
  all : (Cube 1 N 3).ShapeCasts (Blk N 3)
  back : (Blk R 3).ShapeCasts (Cube 1 R 3)
  r0 : (Blk R 3).Slices ![0, 0] (Blk R 1)
  r1 : (Blk R 3).Slices ![0, 1] (Blk R 1)
  r2 : (Blk R 3).Slices ![0, 2] (Blk R 1)
  c0 : (Blk 3 N).Slices ![0, 0] (Blk 1 N)
  c1 : (Blk 3 N).Slices ![1, 0] (Blk 1 N)
  c2 : (Blk 3 N).Slices ![2, 0] (Blk 1 N)
  down : (Blk 1 N).Broadcasts (Blk R N)
  iota : (Blk R N).Iotas .tc 32 [1]

variable {R N : ℕ} (h : Shapes R N)
include h

/-! ## Rows, columns and all points of a block -/

omit h in
theorem cast_drop {A B : ℕ} {α : Type} (x : (Cube 1 A B).Idx → α) (hc : (Cube 1 A B).ShapeCasts (Blk A B)) (a : Fin A) (b : Fin B) :
    shapeCast (Blk A B) x hc (ix2 a b) = x (ix3 0 a b) := by
  refine shapeCast_apply x hc _ _ ?_
  rw [Shape.rowMajor_val_two, Shape.rowMajor_val_three]
  show (0 * A + a.val) * B + b.val = a.val * B + b.val
  simp

omit h in
theorem cast_lift {A B : ℕ} {α : Type} (x : (Blk A B).Idx → α) (hc : (Blk A B).ShapeCasts (Cube 1 A B)) (a : Fin A) (b : Fin B) :
    shapeCast (Cube 1 A B) x hc (ix3 0 a b) = x (ix2 a b) := by
  refine shapeCast_apply x hc _ _ ?_
  rw [Shape.rowMajor_val_two, Shape.rowMajor_val_three]
  show a.val * B + b.val = (0 * A + a.val) * B + b.val
  simp

def rowsOf (x : Vec Ideal (Cube 1 R 3) .f32) : FVec Ideal (Blk R 3) .f32 := shapeCast (Blk R 3) x h.rows
def colsOf (x : Vec Ideal (Cube 1 3 N) .f32) : FVec Ideal (Blk 3 N) .f32 := shapeCast (Blk 3 N) x h.cols
def allOf (x : Vec Ideal (Cube 1 N 3) .f32) : FVec Ideal (Blk N 3) .f32 := shapeCast (Blk N 3) x h.all

theorem rowsOf_apply (x : Vec Ideal (Cube 1 R 3) .f32) (r : Fin R) (c : Fin 3) : rowsOf h x (ix2 r c) = x (ix3 0 r c) :=
  cast_drop x h.rows r c
theorem colsOf_apply (x : Vec Ideal (Cube 1 3 N) .f32) (c : Fin 3) (n : Fin N) : colsOf h x (ix2 c n) = x (ix3 0 c n) :=
  cast_drop x h.cols c n
theorem allOf_apply (x : Vec Ideal (Cube 1 N 3) .f32) (n : Fin N) (c : Fin 3) : allOf h x (ix2 n c) = x (ix3 0 n c) :=
  cast_drop x h.all n c

/-- The positions along a row. -/
def cols : IVec (Blk R N) 32 := Idealize.ShloMosaic.iota .tc (Blk R N) 32 [1] h.iota

theorem cols_apply (r : Fin R) (n : Fin N) : cols h (ix2 r n) = BitVec.ofNat 32 n.val := by
  pointwise [cols]

/-! ## Distances -/

/-- The squared norms of the rows. -/
def rowSq (v : FVec Ideal (Blk R 3) .f32) : FVec Ideal (Blk R 1) .f32 :=
  addf (addf (mulf (extractStridedSlice (Blk R 1) ![0, 0] v h.r0) (extractStridedSlice (Blk R 1) ![0, 0] v h.r0))
    (mulf (extractStridedSlice (Blk R 1) ![0, 1] v h.r1) (extractStridedSlice (Blk R 1) ![0, 1] v h.r1)))
    (mulf (extractStridedSlice (Blk R 1) ![0, 2] v h.r2) (extractStridedSlice (Blk R 1) ![0, 2] v h.r2))

/-- The squared norms of the columns. -/
def colSq (w : FVec Ideal (Blk 3 N) .f32) : FVec Ideal (Blk 1 N) .f32 :=
  addf (addf (mulf (extractStridedSlice (Blk 1 N) ![0, 0] w h.c0) (extractStridedSlice (Blk 1 N) ![0, 0] w h.c0))
    (mulf (extractStridedSlice (Blk 1 N) ![1, 0] w h.c1) (extractStridedSlice (Blk 1 N) ![1, 0] w h.c1)))
    (mulf (extractStridedSlice (Blk 1 N) ![2, 0] w h.c2) (extractStridedSlice (Blk 1 N) ![2, 0] w h.c2))

/-- A value per row along the row, and a value per column down the column. -/
def across (x : FVec Ideal (Blk R 1) .f32) : FVec Ideal (Blk R N) .f32 := broadcastTo (Blk R N) x h.sides.bc
def down (x : FVec Ideal (Blk 1 N) .f32) : FVec Ideal (Blk R N) .f32 := broadcastTo (Blk R N) x h.down

theorem across_apply (x : FVec Ideal (Blk R 1) .f32) (r : Fin R) (n : Fin N) : across h x (ix2 r n) = x (ix2 r 0) := by
  unfold across
  refine broadcastTo_apply _ h.sides.bc _ _ fun a => ?_
  match a with
  | ⟨0, _⟩ => show r.val = if R = 1 then 0 else r.val; split <;> omega
  | ⟨1, _⟩ => show 0 = if 1 = 1 then 0 else n.val; simp

theorem down_apply (x : FVec Ideal (Blk 1 N) .f32) (r : Fin R) (n : Fin N) : down h x (ix2 r n) = x (ix2 0 n) := by
  unfold down
  refine broadcastTo_apply _ h.down _ _ fun a => ?_
  match a with
  | ⟨0, _⟩ => show 0 = if 1 = 1 then 0 else r.val; simp
  | ⟨1, _⟩ => show n.val = if N = 1 then 0 else n.val; split <;> omega

theorem rowSq_apply (v : FVec Ideal (Blk R 3) .f32) (r : Fin R) : rowSq h v (ix2 r 0) = ∑ c, v (ix2 r c) * v (ix2 r c) := by
  pointwise [rowSq]
  simp only [Fin.sum_univ_three]
theorem colSq_apply (w : FVec Ideal (Blk 3 N) .f32) (n : Fin N) : colSq h w (ix2 0 n) = ∑ c, w (ix2 c n) * w (ix2 c n) := by
  pointwise [colSq]
  simp only [Fin.sum_univ_three]

/-- The squared distances of the rows to the columns. -/
def distOf (v : FVec Ideal (Blk R 3) .f32) (w : FVec Ideal (Blk 3 N) .f32) : FVec Ideal (Blk R N) .f32 :=
  addf (addf (mulf (broadcast (Blk R N) (Scalar.ofBits .f32 0xC0000000#32))
    (matmul (DotDims.plain R 3 N) none (truncf .bf16 v (by decide) : FVec Ideal (Blk R 3) .bf16) (truncf .bf16 w (by decide) : FVec Ideal (Blk 3 N) .bf16)
      (constant (Blk R N) .f32 0x00000000#32))) (across h (rowSq h v))) (down h (colSq h w))

theorem distOf_apply (x : Vec Ideal (Cube 1 R 3) .f32) (y : Vec Ideal (Cube 1 3 N) .f32) (r : Fin R) (n : Fin N) :
    distOf h (rowsOf h x) (colsOf h y) (ix2 r n) = sqd (fun c => x (ix3 0 r c)) (fun c => y (ix3 0 c n)) := by
  pointwise [distOf]
  simp only [across_apply, down_apply, rowSq_apply, colSq_apply, rowsOf_apply, colsOf_apply]
  rw [cm2]
  rfl

/-- The distances of the rows to the columns, by their norms and product. -/
def normOf (v : FVec Ideal (Blk R 3) .f32) (w : FVec Ideal (Blk 3 N) .f32) : FVec Ideal (Blk R N) .f32 :=
  sqrt (maximumf (subf (addf (across h (rowSq h v)) (down h (colSq h w)))
    (mulf (broadcast (Blk R N) (Scalar.ofBits .f32 0x40000000#32))
      (matmul (DotDims.plain R 3 N) (some .fp32) v w (constant (Blk R N) .f32 0x00000000#32))))
    (broadcast (Blk R N) (Scalar.ofBits .f32 0x00000000#32)))

theorem normOf_apply (x : Vec Ideal (Cube 1 R 3) .f32) (y : Vec Ideal (Cube 1 3 N) .f32) (r : Fin R) (n : Fin N) :
    normOf h (rowsOf h x) (colsOf h y) (ix2 r n) = len (fun c => x (ix3 0 r c)) (fun c => y (ix3 0 c n)) := by
  pointwise [normOf]
  simp only [across_apply, down_apply, rowSq_apply, colSq_apply, rowsOf_apply, colsOf_apply]
  rw [c2]
  rfl

/-! ## The ten nearest -/

omit h in
/-- A mask bit as a float. -/
theorem mask_word (w : BitVec 1) : FloatOps.sitofp (F := Ideal) .f32 (BitVec.setWidth 32 w) = if w = 1#1 then (1 : EReal) else 0 := by
  show (((BitVec.setWidth 32 w).toInt : ℝ) : EReal) = _
  rcases BitVec.eq_zero_or_eq_one w with rfl | rfl <;> simp

/-- The sum of the points a mask picks. -/
def gathered (mask : IVec (Blk R N) 1) (p : FVec Ideal (Blk N 3) .f32) : FVec Ideal (Blk R 3) .f32 :=
  matmul (DotDims.plain R N 3) (some .fp32) (sitofp .f32 (extui 32 mask (by decide))) p (constant (Blk R 3) .f32 0x00000000#32)

omit h in
theorem gathered_apply (mask : IVec (Blk R N) 1) (p : FVec Ideal (Blk N 3) .f32) (r : Fin R) (c : Fin 3) :
    gathered mask p (ix2 r c) = ∑ n, if mask (ix2 r n) = 1#1 then p (ix2 n c) else 0 := by
  refine (Ideal.matmul_plain_apply (some .fp32) (sitofp .f32 (extui 32 mask (by decide))) p (constant (Blk R 3) .f32 0x00000000#32) r c).trans ?_
  pointwise
  simp only [mask_word, ite_mul, one_mul, zero_mul]
  rfl

/-- The masked sum less ten times the row's own point, by nine. -/
def mean (v : FVec Ideal (Blk R 3) .f32) (mask : IVec (Blk R N) 1) (p : FVec Ideal (Blk N 3) .f32) : FVec Ideal (Cube 1 R 3) .f32 :=
  shapeCast (Cube 1 R 3)
    (divf (subf (gathered mask p) (mulf (broadcast (Blk R 3) (Scalar.ofBits .f32 0x41200000#32)) v))
      (broadcast (Blk R 3) (Scalar.ofBits .f32 0x41100000#32))) h.back

theorem mean_apply (v : FVec Ideal (Blk R 3) .f32) (mask : IVec (Blk R N) 1) (p : FVec Ideal (Blk N 3) .f32) (r : Fin R) (c : Fin 3) :
    mean h v mask p (ix3 0 r c)
      = Ideal.div ((∑ n, if mask (ix2 r n) = 1#1 then p (ix2 n c) else 0) - (10 : ℝ) * v (ix2 r c)) (9 : ℝ) := by
  unfold mean
  rw [cast_lift]
  pointwise
  rw [c10, c9, gathered_apply]

/-! ## The sum of a block -/

/-- The side conditions of summing a whole block [A, B]. -/
structure Summed (A B : ℕ) : Prop where
  lift : (Blk A B).ShapeCasts (Cube 1 A B)
  red : (Cube 1 A B).Reduces [1, 2] (Vec1 1)
  one : (Vec1 1).ShapeCasts (Cube 1 1 1)
  at0 : ∀ a, (![0, 0, 0] : Fin 3 → Nat) a < (Cube 1 1 1).size a

omit h in
/-- The sum of all entries, as a block [1, 1]. -/
def total {A B : ℕ} (hs : Summed A B) (x : FVec Ideal (Blk A B) .f32) : FVec Ideal (Blk 1 1) .f32 :=
  broadcast (Blk 1 1) (extractAt ![0, 0, 0]
    (shapeCast (Cube 1 1 1) (multiReduction .add [1, 2] (Vec1 1) (shapeCast (Cube 1 A B) x hs.lift) 0x00000000#32 hs.red (.inl rfl) rfl) hs.one) hs.at0)

omit h in
theorem total_apply {A B : ℕ} (hs : Summed A B) (x : FVec Ideal (Blk A B) .f32) (i : (Blk 1 1).Idx) :
    total hs x i = ∑ a, ∑ b, x (ix2 a b) := by
  have e : ∀ y : FVec Ideal (Vec1 1) .f32, extractAt ![0, 0, 0] (shapeCast (Cube 1 1 1) y hs.one) hs.at0 = y (ix1 0) := fun y =>
    shapeCast_apply y hs.one _ _ (by rfl)
  refine (e _).trans ?_
  pointwise
  exact Finset.sum_congr rfl fun a _ => Finset.sum_congr rfl fun b _ => cast_lift x hs.lift a b

/-- The sum of every row of a block. -/
def rowSum (x : FVec Ideal (Blk R N) .f32) : FVec Ideal (Blk R 1) .f32 :=
  shapeCast (Blk R 1) (multiReduction .add [1] (Vec1 R) x 0x00000000#32 h.sides.red (.inl rfl) rfl) h.sides.cast

theorem rowSum_apply (x : FVec Ideal (Blk R N) .f32) (r : Fin R) : rowSum h x (ix2 r 0) = ∑ n, x (ix2 r n) := by
  have e : ∀ y : FVec Ideal (Vec1 R) .f32, shapeCast (Blk R 1) y h.sides.cast (ix2 r 0) = y (ix1 r) := fun y => by
    refine shapeCast_apply y h.sides.cast _ _ ?_
    rw [Shape.rowMajor_val_two, Shape.rowMajor_val_one]
    show r.val = r.val * 1 + 0
    omega
  refine (e _).trans ?_
  pointwise

/-! ## The bodies' results -/

/-- The mask of the points of `y` the first `t + 1` rounds take for the rows of `x`. -/
def near (x : Vec Ideal (Cube 1 R 3) .f32) (y : Vec Ideal (Cube 1 3 N) .f32) (t : ℕ) : IVec (Blk R N) 1 :=
  taken h.sides big (cols h) (distOf h (rowsOf h x) (colsOf h y)) t

/-- The distance of row `r` of a block to column `n` of another. -/
abbrev gap (x : Vec Ideal (Cube 1 R 3) .f32) (y : Vec Ideal (Cube 1 3 N) .f32) (r : Fin R) (n : Fin N) : EReal :=
  sqd (fun c => x (ix3 0 r c)) (fun c => y (ix3 0 c n))

theorem near_apply (x : Vec Ideal (Cube 1 R 3) .f32) (y : Vec Ideal (Cube 1 3 N) .f32) (r : Fin R) (hM : ∀ n, gap x y r n < big)
    (t : ℕ) (ht : t < N) (n : Fin N) : near h x y t (ix2 r n) = BitVec.ofBool (rk (gap x y r) n < t + 1) :=
  taken_apply h.sides big (cols h) (distOf h (rowsOf h x) (colsOf h y)) r (gap x y r) (distOf_apply h x y r) hM (cols_apply h r) t ht n

theorem mean_near (x : Vec Ideal (Cube 1 R 3) .f32) (y : Vec Ideal (Cube 1 3 N) .f32) (p : Vec Ideal (Cube 1 N 3) .f32)
    (w : Vec Ideal (Cube 1 R 3) .f32) (r : Fin R) (c : Fin 3) (hM : ∀ n, gap x y r n < big) (hN : 9 < N) :
    mean h (rowsOf h w) (near h x y 9) (allOf h p) (ix3 0 r c)
      = Ideal.div ((∑ n, if rk (gap x y r) n < 10 then p (ix3 0 n c) else 0) - (10 : ℝ) * w (ix3 0 r c)) (9 : ℝ) := by
  rw [mean_apply, rowsOf_apply]
  congr 3
  funext n
  rw [near_apply h x y r hM 9 hN n, allOf_apply]
  by_cases hn : rk (gap x y r) n < 10 <;> simp [hn]

theorem total_near (hs : Summed R 1) (x : Vec Ideal (Cube 1 R 3) .f32) (y : Vec Ideal (Cube 1 3 N) .f32)
    (f : Vec Ideal (Cube 1 R 3) .f32) (g : Vec Ideal (Cube 1 3 N) .f32) (hM : ∀ r n, gap x y r n < big) (hN : 8 < N) (i : (Blk 1 1).Idx) :
    total hs (rowSum h (select (near h x y 8) (normOf h (rowsOf h f) (colsOf h g)) (broadcast (Blk R N) (Scalar.ofBits .f32 0x00000000#32)))) i
      = ∑ r, ∑ n, if rk (gap x y r) n < 9 then len (fun c => f (ix3 0 r c)) (fun c => g (ix3 0 c n)) else 0 := by
  rw [total_apply]
  refine Finset.sum_congr rfl fun r _ => ?_
  refine (Fintype.sum_unique _).trans ((rowSum_apply h _ r).trans (Finset.sum_congr rfl fun n _ => ?_))
  show Scalar.select (near h x y 8 (ix2 r n)) (normOf h (rowsOf h f) (colsOf h g) (ix2 r n)) (Ideal.ofBits .f32 0x00000000#32) = _
  rw [near_apply h x y r (hM r) 8 hN n, normOf_apply, show Ideal.ofBits .f32 0x00000000#32 = 0 by simp [Ideal.ofBits, Ideal.ieee]]
  by_cases hn : rk (gap x y r) n < 9 <;> simp [hn, Scalar.select]

end Cert.Body
-- ==== Proof.Grid.lean ====
/- The grid [2, K] of row blocks: sums along it, and what an accumulator holds after it. -/
module

public import proofs.«01_k».proof.Proof.Near

@[expose] public section

noncomputable section

namespace Cert.Grid

open Idealize.ShloMosaic Cert.Near

variable {K R N : ℕ}

/-- The batch of a grid point. -/
def bat (K : ℕ) (t : Fin (2 * K)) : Fin 2 := ⟨t.val / K, Nat.div_lt_of_lt_mul (lt_of_lt_of_eq t.isLt (mul_comm 2 K))⟩

/-- The point of the cloud that row `r` of a grid point's block is. -/
def row (hN : K * R = N) (t : Fin (2 * K)) (r : Fin R) : Fin N :=
  ⟨t.val % K * R + r.val, by
    have hK : 0 < K := by rcases Nat.eq_zero_or_pos K with rfl | h; · exact absurd t.isLt (by simp)
                          · exact h
    have h1 : t.val % K + 1 ≤ K := Nat.mod_lt _ hK
    calc t.val % K * R + r.val < t.val % K * R + R := by have := r.isLt; omega
      _ = (t.val % K + 1) * R := by ring
      _ ≤ K * R := Nat.mul_le_mul_right _ h1
      _ = N := hN⟩

/-- Over all points and rows, every point of both clouds once. -/
theorem sum_grid (hN : K * R = N) (g : Fin 2 → Fin N → EReal) :
    ∑ t : Fin (2 * K), ∑ r : Fin R, g (bat K t) (row hN t r) = ∑ b, ∑ n, g b n := by
  subst hN
  rw [← finProdFinEquiv.sum_comp, Fintype.sum_prod_type]
  refine Finset.sum_congr rfl fun b _ => ?_
  rw [← finProdFinEquiv.sum_comp, Fintype.sum_prod_type]
  refine Finset.sum_congr rfl fun k _ => Finset.sum_congr rfl fun r _ => ?_
  have hK : 0 < K := Fin.pos k
  congr 1
  · apply Fin.ext
    show (k.val + K * b.val) / K = b.val
    rw [Nat.add_mul_div_left _ _ hK, Nat.div_eq_of_lt k.isLt, zero_add]
  · apply Fin.ext
    show (k.val + K * b.val) % K * R + r.val = r.val + R * k.val
    rw [Nat.add_mul_mod_self_left, Nat.mod_eq_of_lt k.isLt]; ring

/-- An accumulator that starts at the first part and adds one part per point ends at the sum. -/
theorem running {T : ℕ} (f : Fin T → EReal) (acc : (n : ℕ) → n < T → EReal) (h0 : ∀ h, acc 0 h = f ⟨0, h⟩)
    (hs : ∀ n h, acc (n + 1) h = acc n (Nat.lt_of_succ_lt h) + f ⟨n + 1, h⟩) (n : ℕ) (h : n < T) (hn : n + 1 = T) :
    acc n h = ∑ t, f t := by
  have key : ∀ n (h : n < T), acc n h = ∑ t : Fin (n + 1), f ⟨t.val, by omega⟩ := by
    intro n
    induction n with
    | zero => intro h; rw [h0, Fin.sum_univ_one]; rfl
    | succ n ih => intro h; rw [hs, ih, Fin.sum_univ_castSucc (n := n + 1)]; rfl
  subst hn
  exact key n h

/-- The same, the accumulator read at a grid point. -/
theorem summed {T : ℕ} (f acc : Fin T → EReal) (h0 : ∀ t, t.val = 0 → acc t = f t)
    (hs : ∀ t : Fin T, t.val ≠ 0 → acc t = acc ⟨t.val - 1, by omega⟩ + f t) (t : Fin T) (ht : t.val + 1 = T) : acc t = ∑ t, f t :=
  running f (fun n h => acc ⟨n, h⟩) (fun h => h0 ⟨0, h⟩ rfl) (fun n h => hs ⟨n + 1, h⟩ (Nat.succ_ne_zero n)) t.val t.isLt ht

/-- A quotient of a sum of finite values. -/
theorem div_sum {ι : Type*} (s : Finset ι) (f : ι → EReal) (y : ℝ) (hy : y ≠ 0) (hf : ∀ i, ∃ u : ℝ, f i = u) :
    Ideal.div (∑ i ∈ s, f i) y = ∑ i ∈ s, Ideal.div (f i) y := by
  choose u hu using hf
  simp only [hu, Ideal.div_coe hy, ← coe_sum, ← EReal.coe_mul, Finset.sum_mul]

/-- A minimum begun anew at each batch and taken over one block per point is, after the batch's last block, that over the cloud. -/
theorem least_grid (hN : K * R = N) (g : Fin 2 → Fin N → EReal) (acc : Fin (2 * K) → EReal)
    (h0 : ∀ t, t.val % K = 0 → acc t = least fun r => g (bat K t) (row hN t r))
    (hs : ∀ t : Fin (2 * K), t.val % K ≠ 0 → acc t = min (acc ⟨t.val - 1, by omega⟩) (least fun r => g (bat K t) (row hN t r)))
    (t : Fin (2 * K)) (ht : t.val % K = K - 1) : acc t = least (g (bat K t)) := by
  have hK : 0 < K := by rcases Nat.eq_zero_or_pos K with rfl | h; · exact absurd t.isLt (by simp)
                        · exact h
  have hR : ∀ n : Fin N, 0 < R := fun n => Nat.pos_of_ne_zero fun e => by
    have := n.isLt
    rw [e, Nat.mul_zero] at hN
    omega
  have here : ∀ (t : Fin (2 * K)) (x : EReal), (x ≤ least fun r => g (bat K t) (row hN t r)) ↔ ∀ n : Fin N, n.val / R = t.val % K → x ≤ g (bat K t) n := by
    intro t x
    rw [le_least]
    constructor
    · intro h n hn
      refine le_of_le_of_eq (h ⟨n.val % R, Nat.mod_lt _ (hR n)⟩) (congrArg _ (Fin.ext ?_))
      show t.val % K * R + n.val % R = n.val
      rw [← hn, mul_comm]; exact Nat.div_add_mod _ _
    · intro h r
      refine h _ ?_
      show (t.val % K * R + r.val) / R = t.val % K
      rw [mul_comm, Nat.mul_add_div (Fin.pos r), Nat.div_eq_of_lt r.isLt, add_zero]
  have key : ∀ (n : ℕ) (hn : n < 2 * K) (x : EReal), x ≤ acc ⟨n, hn⟩ ↔ ∀ i : Fin N, i.val / R ≤ n % K → x ≤ g (bat K ⟨n, hn⟩) i := by
    intro n
    induction n with
    | zero =>
      intro hn x
      rw [h0 ⟨0, hn⟩ (Nat.zero_mod _), here]
      simp only [Nat.zero_mod, Nat.le_zero]
    | succ n ih =>
      intro hn x
      by_cases hz : (n + 1) % K = 0
      · rw [h0 ⟨n + 1, hn⟩ hz, here]
        simp only [hz, Nat.le_zero]
      · have e1 : (n + 1) % K = n % K + 1 := by
          rw [Nat.add_mod] at hz ⊢
          rcases Nat.lt_or_ge 1 K with h1 | h1
          · rw [Nat.mod_eq_of_lt h1] at hz ⊢
            have : n % K < K := Nat.mod_lt _ hK
            rcases Nat.lt_or_ge (n % K + 1) K with h2 | h2
            · exact Nat.mod_eq_of_lt h2
            · exfalso; apply hz; rw [show n % K + 1 = K by omega, Nat.mod_self]
          · exfalso; apply hz; rw [show K = 1 by omega, Nat.mod_one]
        have e2 : (n + 1) / K = n / K := by
          have a := Nat.div_add_mod (n + 1) K
          have b := Nat.div_add_mod n K
          have c : K * ((n + 1) / K) = K * (n / K) := by omega
          exact Nat.eq_of_mul_eq_mul_left hK c
        have e3 : bat K ⟨n + 1, hn⟩ = bat K ⟨n, by omega⟩ := Fin.ext e2
        rw [hs ⟨n + 1, hn⟩ hz, le_min_iff, here, e3]
        show x ≤ acc ⟨n, _⟩ ∧ _ ↔ _
        rw [ih]
        simp only [e1]
        constructor
        · rintro ⟨a, b⟩ i hi
          rcases Nat.lt_or_ge (i.val / R) (n % K + 1) with h | h
          · exact a i (by omega)
          · exact b i (by omega)
        · exact fun h => ⟨fun i hi => h i (by omega), fun i hi => h i (by omega)⟩
  refine eq_of_forall_le_iff fun x => (key t.val t.isLt x).trans ?_
  rw [le_least]
  refine forall_congr' fun i => ⟨fun h => h ?_, fun h _ => h⟩
  have : i.val / R < K := Nat.div_lt_of_lt_mul (lt_of_lt_of_eq i.isLt (by rw [← hN, mul_comm]))
  omega

/-- Over all points, a value added at the last point of each batch. -/
theorem sum_last (hK : 0 < K) (f : Fin 2 → EReal) :
    ∑ t : Fin (2 * K), (if t.val % K = K - 1 then f (bat K t) else 0) = ∑ b, f b := by
  rw [← finProdFinEquiv.sum_comp, Fintype.sum_prod_type]
  refine Finset.sum_congr rfl fun b _ => ?_
  have e : ∀ k : Fin K, (if (finProdFinEquiv (b, k)).val % K = K - 1 then f (bat K (finProdFinEquiv (b, k))) else 0)
      = if k = ⟨K - 1, by omega⟩ then f b else 0 := by
    intro k
    have e1 : (finProdFinEquiv (b, k)).val = k.val + K * b.val := rfl
    have e2 : bat K (finProdFinEquiv (b, k)) = b := Fin.ext (by
      show (k.val + K * b.val) / K = b.val
      rw [Nat.add_mul_div_left _ _ hK, Nat.div_eq_of_lt k.isLt, zero_add])
    rw [e1, e2, Nat.add_mul_mod_self_left, Nat.mod_eq_of_lt k.isLt]
    simp only [Fin.ext_iff]
  simp only [e]
  simp

end Cert.Grid
-- ==== Proof.CurvKernel.lean ====
/- The curvature kernel: what its body computes from its blocks, and the array its grid fills. -/
module

public import proofs.«01_k».proof.Proof.Body
public import proofs.«01_k».proof.Proof.Grid
public import proofs.«01_k».proof.Proof.Gen.CurvIdeal.Value

@[expose] public section

noncomputable section

namespace Cert.CurvKernel

open Idealize.ShloMosaic Idealize.ShloMosaic.TcCoe Idealize.SL.Sem Cert.Rank Cert.Near
open Cert.CurvIdeal Cert.CurvIdeal.Gen

/-! ## The body -/

theorem shapes : Body.Shapes 256 4096 where
  sides := ⟨reduces_S256x4096_S256, shapeCasts_S256_S256x1, broadcasts_S256x1_S256x4096, by norm_num⟩
  rows := shapeCasts_S1x256x3_S256x3
  cols := shapeCasts_S1x3x4096_S3x4096
  all := shapeCasts_S1x4096x3_S4096x3
  back := shapeCasts_S256x3_S1x256x3
  r0 := slices_S256x3_o0_0_S256x1
  r1 := slices_S256x3_o0_1_S256x1
  r2 := slices_S256x3_o0_2_S256x1
  c0 := slices_S3x4096_o0_0_S1x4096
  c1 := slices_S3x4096_o1_0_S1x4096
  c2 := slices_S3x4096_o2_0_S1x4096
  down := broadcasts_S1x4096_S256x4096
  iota := iota_S256x4096_d1_w32

theorem hz : (![0, 0, 0] : Fin 3 → Nat) = fun _ => 0 := funext fun a => by fin_cases a <;> rfl

theorem out_eq (x0 : Vec Ideal S1x256x3 .f32) (x1 : Vec Ideal S1x3x4096 .f32) (x2 : Vec Ideal S1x4096x3 .f32) :
    out0_3 x0 x1 x2 = Body.mean shapes (Body.rowsOf shapes x0) (Body.near shapes x0 x1 9) (Body.allOf shapes x2) := by
  unfold_out out0_3
  rw [View.canon_unit_zero hz, View.ld_unit_zero hz, View.ld_unit_zero hz, View.ld_unit_zero hz]
  rfl

/-! ## The blocks -/

abbrev bat (t : Fin cfg0.N) : Fin 2 := Grid.bat 16 t
abbrev row (t : Fin cfg0.N) (r : Fin 256) : Fin 4096 := Grid.row (K := 16) (R := 256) rfl t r

theorem index0 : ∀ t : Fin cfg0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0) :=
  (by decide +kernel : ∀ t : Fin grid0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0))

variable (m : (ℓ : Loc nD τ sig) → Buf (Elt Ideal) ℓ) (c : Dev nD)

/-- The cloud a device is given. -/
abbrev cloud : Cloud 4096 := m ((c : Thread nD τ).loc main_arg0)

theorem V_rows (b : Fin 2) (n : Fin 4096) (k : Fin 3) : V m c main_v0 (ix3 b n k) = cloud m c (ix3 b k n) := by
  have h : V m c main_v0 = transpose S2x4096x3 [0, 2, 1] (cloud m c) transposes_S2x3x4096_S2x4096x3_0_2_1 := rfl
  rw [h]
  pointwise

theorem iblk_rows (t : Fin cfg0.N) (r : Fin 256) (k : Fin 3) : iblk m c 0 t (ix3 0 r k) = cloud m c (ix3 (bat t) k (row t r)) := by
  unfold iblk
  rw [View.read_apply]
  refine Eq.trans ?_ (V_rows m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 16; omega
  | ⟨1, _⟩ => show win0_0.index t 1 * 256 + 1 * r.val = t.val % 16 * 256 + r.val; omega
  | ⟨2, _⟩ => show win0_0.index t 2 * 3 + 1 * k.val = k.val; omega

theorem iblk_cols (t : Fin cfg0.N) (k : Fin 3) (n : Fin 4096) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 16; omega
  | ⟨1, _⟩ => show win0_1.index t 1 * 3 + 1 * k.val = k.val; omega
  | ⟨2, _⟩ => show win0_1.index t 2 * 4096 + 1 * n.val = n.val; omega

theorem iblk_all (t : Fin cfg0.N) (n : Fin 4096) (k : Fin 3) : iblk m c 2 t (ix3 0 n k) = cloud m c (ix3 (bat t) k n) := by
  unfold iblk
  rw [View.read_apply]
  refine Eq.trans ?_ (V_rows m c (bat t) n k)
  refine congrArg (V m c main_v0) (funext fun a => Fin.ext ?_)
  obtain ⟨-, -, ⟨e0, e1, e2⟩, -⟩ := index0 t
  match a with
  | ⟨0, _⟩ => show win0_2.index t 0 * 1 + 1 * 0 = t.val / 16; omega
  | ⟨1, _⟩ => show win0_2.index t 1 * 4096 + 1 * n.val = n.val; omega
  | ⟨2, _⟩ => show win0_2.index t 2 * 3 + 1 * k.val = k.val; omega

/-! ## The array -/

/-- What the kernel leaves in its result array. -/
def result (p : Cloud 4096) : (⟨3, ![2, 4096, 3]⟩ : Shape).Idx → EReal := fun i => curvMasked p p (i 0) (i 1) (i 2)

theorem gap_eq (t : Fin cfg0.N) (r : Fin 256) : Body.gap (iblk m c 0 t) (iblk m c 1 t) r = dist (cloud m c) (cloud m c) (bat t) (row t r) := by
  funext n
  unfold Body.gap
  simp only [iblk_rows, iblk_cols]
  rfl

theorem flushed_eq (hM : ∀ b r n, dist (cloud m c) (cloud m c) b r n < big) (t : Fin cfg0.N) :
    (dats m 0 c).flushed 3 t = ((cfg0.win 3).blk t).view.read (Elt Ideal) (result (cloud m c)) := by
  rw [Value.flushed3]
  funext j
  obtain ⟨r, k, rfl⟩ : ∃ (r : Fin 256) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_3 (iblk m c 0 t) (iblk m c 1 t) (iblk m c 2 t) (ix3 0 r k) = _
  rw [out_eq]
  refine (Body.mean_near shapes (iblk m c 0 t) (iblk m c 1 t) (iblk m c 2 t) (iblk m c 0 t) r k (fun n => ?_) (by norm_num)).trans ?_
  · rw [gap_eq]; exact hM _ _ _
  · simp only [gap_eq, iblk_rows, iblk_all]
    rw [View.read_apply]
    refine congrArg (result (cloud m c)) (a₁ := ix3 (bat t) (row t r) k) (funext fun a => Fin.ext ?_)
    obtain ⟨-, -, -, e0, e1, e2⟩ := index0 t
    match a with
    | ⟨0, _⟩ => show t.val / 16 = win0_3.index t 0 * 1 + 1 * 0; omega
    | ⟨1, _⟩ => show t.val % 16 * 256 + r.val = win0_3.index t 1 * 256 + 1 * r.val; omega
    | ⟨2, _⟩ => show k.val = win0_3.index t 2 * 3 + 1 * k.val; omega

theorem cover (i : S2x4096x3.Idx) : ∃ t : Fin cfg0.N, (cfg0.win 3).flush t = true ∧ i ∈ ((cfg0.win 3).blk t).view.set := by
  have h0 : (i 0 : Nat) < 2 := (i 0).isLt
  have h1 : (i 1 : Nat) < 4096 := (i 1).isLt
  have h2 : (i 2 : Nat) < 3 := (i 2).isLt
  have ht : (i 0 : Nat) * 16 + (i 1 : Nat) / 256 < cfg0.N := by show _ < 32; omega
  refine ⟨⟨_, ht⟩, flush0_3 _, ?_⟩
  show i ∈ ((View.whole main_v1).slice (win0_3.rect ⟨_, ht⟩)).set
  rw [View.set_slice_whole, Rect.mem_set_unit]
  obtain ⟨-, -, -, e0, e1, e2⟩ := index0 ⟨_, ht⟩
  intro a
  match a with
  | ⟨0, _⟩ => show win0_3.index ⟨_, ht⟩ 0 * 1 ≤ (i 0 : Nat) ∧ (i 0 : Nat) < win0_3.index ⟨_, ht⟩ 0 * 1 + 1
              rw [e0]; dsimp only; omega
  | ⟨1, _⟩ => show win0_3.index ⟨_, ht⟩ 1 * 256 ≤ (i 1 : Nat) ∧ (i 1 : Nat) < win0_3.index ⟨_, ht⟩ 1 * 256 + 256
              rw [e1]; dsimp only; omega
  | ⟨2, _⟩ => show win0_3.index ⟨_, ht⟩ 2 * 3 ≤ (i 2 : Nat) ∧ (i 2 : Nat) < win0_3.index ⟨_, ht⟩ 2 * 3 + 3
              rw [e2]; dsimp only; omega

theorem final (hM : ∀ b r n, dist (cloud m c) (cloud m c) b r n < big) :
    (dats m 0 c).arrAt 3 cfg0.N = result (cloud m c) :=
  (dats m 0 c).arrAt_eq_of_cover 3 (result (cloud m c)) (fun t _ => flushed_eq m c hM t) cover

end Cert.CurvKernel
-- ==== Proof.HostReads.lean ====
/- The reference's neighbour search read at an index: `lax.top_k` of the negated distances lists the positions nearest first,
   and `jnp.take` of rows at these positions. -/
module

public import proofs.«01_k».proof.Proof.Rank
public import Idealize.ShloMosaic.Lib.Pointwise
public import Idealize.ShloMosaic.Lib.Pointwise.IndexVar
public import Idealize.ShloMosaic.Lib.Routing.OpsPair

@[expose] public section

noncomputable section

namespace Cert.HostReads

open Idealize.ShloMosaic Cert.Rank

variable {B n m k C : ℕ}

/-! ## top_k -/

/-- The stable sort behind top_k of row `(b, r)`, nearest first. -/
theorem sorted_row (D : FVec Ideal ⟨3, ![B, n, m]⟩ .f32) (b : Fin B) (r : Fin n) (t : Fin m) :
    sortedFrom (n := m) (fun i j => FloatOps.cmpfTotal (F := Ideal) (φ := .f32) .gt
        (Host.negf D ((ix3 b r t : (⟨3, ![B, n, m]⟩ : Shape).Idx).along (2 : Fin 3) i))
        (Host.negf D ((ix3 b r t : (⟨3, ![B, n, m]⟩ : Shape).Idx).along (2 : Fin 3) j)) == 1#1) t
      = nth (fun j => D (ix3 b r j)) t := by
  have e : ∀ j : Fin m, (ix3 b r t : (⟨3, ![B, n, m]⟩ : Shape).Idx).along (2 : Fin 3) j = ix3 b r j := by
    intro j; funext a
    match a with
    | ⟨0, _⟩ => rfl
    | ⟨1, _⟩ => rfl
    | ⟨2, _⟩ => rfl
  refine sortedFrom_eq_nth (fun j => D (ix3 b r j)) _ (fun i j => ?_) t
  rw [e, e]
  show (Ideal.cmp .ogt (-(D (ix3 b r i))) (-(D (ix3 b r j))) == 1#1) = _
  simp only [Ideal.cmp, EReal.neg_lt_neg_iff]
  by_cases h : D (ix3 b r i) < D (ix3 b r j) <;> simp [h]

theorem slice_idx (hk : k ≤ m) (h : (⟨3, ![B, n, m]⟩ : Shape).Slices (fun _ => 0) ⟨3, ![B, n, k]⟩) (b : Fin B) (r : Fin n) (t : Fin k)
    {α : Type} (x : (⟨3, ![B, n, m]⟩ : Shape).Idx → α) :
    extractStridedSlice ⟨3, ![B, n, k]⟩ (fun _ => 0) x h (ix3 b r t) = x (ix3 b r (Fin.castLE hk t)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- Place `t` of the positions top_k gives for row `(b, r)` of the negated distances is the one of rank `t`. -/
theorem topK_indices (hk : k ≤ m) (D : FVec Ideal ⟨3, ![B, n, m]⟩ .f32)
    (h : (⟨3, ![B, n, m]⟩ : Shape).Slices (fun _ => 0) ⟨3, ![B, n, k]⟩) (b : Fin B) (r : Fin n) (t : Fin k) :
    (Host.topK ⟨3, ![B, n, k]⟩ 2 (FloatOps.cmpfTotal (F := Ideal) (φ := .f32) .gt) (Host.negf D) h).2 (ix3 b r t)
      = BitVec.ofNat 32 (nth (fun j => D (ix3 b r j)) (Fin.castLE hk t)).val := by
  rw [← sorted_row]
  exact slice_idx hk h b r t (Host.sort2 ⟨3, ![B, n, m]⟩ 2 (fun l r : EReal × BitVec 32 => FloatOps.cmpfTotal (F := Ideal) (φ := .f32) .gt l.1 r.1)
    (Host.negf D) (fun i => iotaInDim ⟨3, ![B, n, m]⟩ 32 2 i)).2

/-- … and the value there is the distance, negated. -/
theorem topK_values (hk : k ≤ m) (D : FVec Ideal ⟨3, ![B, n, m]⟩ .f32)
    (h : (⟨3, ![B, n, m]⟩ : Shape).Slices (fun _ => 0) ⟨3, ![B, n, k]⟩) (b : Fin B) (r : Fin n) (t : Fin k) :
    (Host.topK ⟨3, ![B, n, k]⟩ 2 (FloatOps.cmpfTotal (F := Ideal) (φ := .f32) .gt) (Host.negf D) h).1 (ix3 b r t)
      = -(D (ix3 b r (nth (fun j => D (ix3 b r j)) (Fin.castLE hk t)))) := by
  have e := sorted_row D b r (Fin.castLE hk t)
  refine (slice_idx hk h b r t (Host.sort2 ⟨3, ![B, n, m]⟩ 2 (fun l r : EReal × BitVec 32 => FloatOps.cmpfTotal (F := Ideal) (φ := .f32) .gt l.1 r.1)
    (Host.negf D) (fun i => iotaInDim ⟨3, ![B, n, m]⟩ 32 2 i)).1).trans ?_
  refine (congrArg (fun q => Host.negf D ((ix3 b r (Fin.castLE hk t) : (⟨3, ![B, n, m]⟩ : Shape).Idx).along (2 : Fin 3) q)) e).trans ?_
  show -(D _) = _
  congr 2
  funext a
  match a with
  | ⟨0, _⟩ => rfl
  | ⟨1, _⟩ => rfl
  | ⟨2, _⟩ => rfl

/-! ## take -/

/-- The dimension numbers of the rows' gather, one list of positions per batch. -/
abbrev pointsDims (B N n k C : ℕ)
    (wf : GatherDims.WF ⟨3, ![B, N, C]⟩ ⟨4, ![B, n, k, 1]⟩ ⟨4, ![B, n, k, C]⟩ [3] [1] [0] [1] [0] 3 ![1, 1, C]) :
    GatherDims ⟨3, ![B, N, C]⟩ ⟨4, ![B, n, k, 1]⟩ ⟨4, ![B, n, k, C]⟩ where
  offsetDims := [3]
  collapsedSliceDims := [1]
  operandBatchingDims := [0]
  startIndicesBatchingDims := [0]
  startIndexMap := [1]
  indexVectorDim := 3
  sliceSizes := ![1, 1, C]
  wf := wf

theorem gather_points_apply {α : Type} {B N n k C : ℕ}
    (wf : GatherDims.WF ⟨3, ![B, N, C]⟩ ⟨4, ![B, n, k, 1]⟩ ⟨4, ![B, n, k, C]⟩ [3] [1] [0] [1] [0] 3 ![1, 1, C])
    (x : (⟨3, ![B, N, C]⟩ : Shape).Idx → α) (idx : IVec ⟨4, ![B, n, k, 1]⟩ 32) (b : Fin B) (r : Fin n) (t : Fin k) (c : Fin C)
    (p : Fin N) (hN : N ≤ 2 ^ 31) (hp : idx (ix4 b r t 0) = BitVec.ofNat 32 p.val) :
    Host.gather (pointsDims B N n k C wf) x idx (ix4 b r t c) = x (ix3 b p c) := by
  unfold Host.gather
  congr 1
  funext a
  refine Fin.ext ?_
  show (pointsDims B N n k C wf).start (ix4 b r t c) idx a + (pointsDims B N n k C wf).batchCoord (ix4 b r t c) a
    + (pointsDims B N n k C wf).offCoord (ix4 b r t c) a = _
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => absurd (List.mem_singleton.mp h) (by simp)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (pointsDims B N n k C wf).startIndexMap from List.mem_singleton.mpr rfl)]
    have hsi : (pointsDims B N n k C wf).siIdx (ix4 b r t c) ⟨List.idxOf (1 : Fin 3) (pointsDims B N n k C wf).startIndexMap,
        List.idxOf_lt_length_iff.2 (List.mem_singleton.mpr rfl)⟩ = ix4 b r t 0 := by
      funext b; refine Fin.ext ?_
      match b with
      | ⟨0, _⟩ => rfl
      | ⟨1, _⟩ => rfl
      | ⟨2, _⟩ => rfl
      | ⟨3, _⟩ => rfl
    rw [hsi, hp, BitVec.toInt_eq_toNat_of_lt, BitVec.toNat_ofNat]
    · show min (p.val % 2 ^ 32) (N - 1) = p.val
      have := p.isLt
      omega
    · rw [BitVec.toNat_ofNat]
      have := p.isLt
      omega
  · unfold GatherDims.start
    rw [dif_neg (show ¬ (2 : Fin 3) ∈ (pointsDims B N n k C wf).startIndexMap from fun h => absurd (List.mem_singleton.mp h) (by simp)),
      GatherDims.batchCoord_eq_zero _ _ _ (fun h => absurd (List.mem_singleton.mp h) (by simp))]
    simp only [Nat.zero_add]
    unfold GatherDims.offCoord
    rw [dif_pos ((GatherDims.mem_sKept _ _).mpr ⟨fun h => absurd (List.mem_singleton.mp h) (by simp),
      fun h => absurd (List.mem_singleton.mp h) (by simp)⟩)]
    rfl

/-- The side conditions of `take`. -/
structure TakeSides (B N n k C : ℕ) : Prop where
  b0 : (⟨0, ![]⟩ : Shape).BroadcastsInDim ⟨3, ![B, n, k]⟩ (![] : Fin 0 → Fin (⟨3, ![B, n, k]⟩ : Shape).rank)
  b1 : (⟨3, ![B, n, k]⟩ : Shape).BroadcastsInDim ⟨4, ![B, n, k, 1]⟩ (![0, 1, 2] : Fin 3 → Fin (⟨4, ![B, n, k, 1]⟩ : Shape).rank)
  b2 : (⟨0, ![]⟩ : Shape).BroadcastsInDim ⟨4, ![B, n, k, 1]⟩ (![] : Fin 0 → Fin (⟨4, ![B, n, k, 1]⟩ : Shape).rank)
  b3 : (⟨1, ![1]⟩ : Shape).BroadcastsInDim ⟨4, ![1, 1, 1, 1]⟩ (![3] : Fin 1 → Fin (⟨4, ![1, 1, 1, 1]⟩ : Shape).rank)
  b4 : (⟨4, ![1, 1, 1, 1]⟩ : Shape).BroadcastsInDim ⟨4, ![B, n, k, 1]⟩ (![0, 1, 2, 3] : Fin 4 → Fin (⟨4, ![B, n, k, 1]⟩ : Shape).rank)
  red : (⟨4, ![B, n, k, 1]⟩ : Shape).ReducesTo [3] ⟨3, ![B, n, k]⟩
  pos : 0 < (⟨0, ![]⟩ : Shape).numel
  b5 : (⟨3, ![B, n, k]⟩ : Shape).BroadcastsInDim ⟨4, ![B, n, k, C]⟩ (![0, 1, 2] : Fin 3 → Fin (⟨4, ![B, n, k, C]⟩ : Shape).rank)
  b6 : (⟨0, ![]⟩ : Shape).BroadcastsInDim ⟨4, ![B, n, k, C]⟩ (![] : Fin 0 → Fin (⟨4, ![B, n, k, C]⟩ : Shape).rank)
  wf : GatherDims.WF ⟨3, ![B, N, C]⟩ ⟨4, ![B, n, k, 1]⟩ ⟨4, ![B, n, k, C]⟩ [3] [1] [0] [1] [0] 3 ![1, 1, C]
  small : N < 2 ^ 31

/-- The positions with the negative ones counted from the end, one more unit axis. -/
def wrapped {B N n k C : ℕ} (hs : TakeSides B N n k C) (idx : IVec ⟨3, ![B, n, k]⟩ 32) : IVec ⟨4, ![B, n, k, 1]⟩ 32 :=
  broadcastInDim ⟨4, ![B, n, k, 1]⟩ ![0, 1, 2] hs.b1
    (select (cmpi .slt idx (broadcastInDim ⟨3, ![B, n, k]⟩ ![] hs.b0 (constantI ⟨0, ![]⟩ 32 0#32)))
      (addi idx (broadcastInDim ⟨3, ![B, n, k]⟩ ![] hs.b0 (constantI ⟨0, ![]⟩ 32 (BitVec.ofNat 32 N)))) idx)

/-- Which positions are in range. -/
def inRange {B N n k C : ℕ} (hs : TakeSides B N n k C) (w : IVec ⟨4, ![B, n, k, 1]⟩ 32) : IVec ⟨3, ![B, n, k]⟩ 1 :=
  Host.reduce IntOp.andi
    (andi (cmpi .sge w (broadcastInDim ⟨4, ![B, n, k, 1]⟩ ![] hs.b2 (constantI ⟨0, ![]⟩ 32 0#32)))
      (cmpi .sle w (broadcastInDim ⟨4, ![B, n, k, 1]⟩ ![0, 1, 2, 3] hs.b4
        (broadcastInDim ⟨4, ![1, 1, 1, 1]⟩ ![3] hs.b3 (constantI ⟨1, ![1]⟩ 32 (BitVec.ofNat 32 (N - 1)))))))
    (constantI ⟨0, ![]⟩ 1 1#1) hs.red hs.pos

/-- `take` of rows: the gathered rows where the position is in range, a fill value elsewhere. -/
def take {B N n k C : ℕ} (hs : TakeSides B N n k C) (x : FVec Ideal ⟨3, ![B, N, C]⟩ .f32) (idx : IVec ⟨3, ![B, n, k]⟩ 32) :
    FVec Ideal ⟨4, ![B, n, k, C]⟩ .f32 :=
  select (broadcastInDim ⟨4, ![B, n, k, C]⟩ ![0, 1, 2] hs.b5 (inRange hs (wrapped hs idx)))
    (Host.gather (pointsDims B N n k C hs.wf) x (wrapped hs idx))
    (broadcastInDim ⟨4, ![B, n, k, C]⟩ ![] hs.b6 (constant ⟨0, ![]⟩ .f32 0x7FC00000#32))

theorem toInt_small {N : ℕ} (hN : N < 2 ^ 31) (a : ℕ) (ha : a ≤ N) : (BitVec.ofNat 32 a).toInt = a := by
  rw [BitVec.toInt_eq_toNat_of_lt, BitVec.toNat_ofNat]
  · omega
  · rw [BitVec.toNat_ofNat]; omega

theorem wrapped_apply {B N n k C : ℕ} (hs : TakeSides B N n k C) (idx : IVec ⟨3, ![B, n, k]⟩ 32) (b : Fin B) (r : Fin n) (t : Fin k)
    (p : Fin N) (hp : idx (ix3 b r t) = BitVec.ofNat 32 p.val) : wrapped hs idx (ix4 b r t 0) = BitVec.ofNat 32 p.val := by
  unfold wrapped
  refine (broadcastInDim_apply _ hs.b1 _ _ (ix3 b r t) fun a => ?_).trans ?_
  · match a with
    | ⟨0, _⟩ => show b.val = if B = 1 then 0 else b.val; split <;> omega
    | ⟨1, _⟩ => show r.val = if n = 1 then 0 else r.val; split <;> omega
    | ⟨2, _⟩ => show t.val = if k = 1 then 0 else t.val; split <;> omega
  · have h0 : IntOp.cmpi .slt (BitVec.ofNat 32 p.val) 0#32 = 0#1 := by
      have h : ¬ ((p.val : ℤ) < 0) := by omega
      simp [IntOp.cmpi, BitVec.slt, toInt_small hs.small p.val p.isLt.le, h]
    show Scalar.select (IntOp.cmpi .slt (idx (ix3 b r t)) 0#32) _ (idx (ix3 b r t)) = _
    rw [hp, h0]
    rfl

theorem inRange_apply {B N n k C : ℕ} (hs : TakeSides B N n k C) (w : IVec ⟨4, ![B, n, k, 1]⟩ 32) (b : Fin B) (r : Fin n) (t : Fin k)
    (p : Fin N) (hp : w (ix4 b r t 0) = BitVec.ofNat 32 p.val) : inRange hs w (ix3 b r t) = 1#1 := by
  have h0 : IntOp.cmpi .sge (BitVec.ofNat 32 p.val) 0#32 = 1#1 := by
    simp only [IntOp.cmpi, BitVec.sle, toInt_small hs.small p.val p.isLt.le]
    simp
  have h1 : IntOp.cmpi .sle (BitVec.ofNat 32 p.val) (BitVec.ofNat 32 (N - 1)) = 1#1 := by
    simp only [IntOp.cmpi, BitVec.sle, toInt_small hs.small p.val p.isLt.le, toInt_small hs.small (N - 1) (by omega)]
    have h : (p.val : ℤ) ≤ ((N - 1 : ℕ) : ℤ) := by have := p.isLt; omega
    simp [h]
  unfold inRange
  rw [Host.reduce_eq_fold, Shape.ReducesTo.fold_fiber_r4_a3]
  simp only [Finset.univ_unique, Finset.fold_singleton]
  show IntOp.andi (IntOp.andi (IntOp.cmpi .sge (w (ix4 b r t 0)) 0#32) (IntOp.cmpi .sle (w (ix4 b r t 0)) (BitVec.ofNat 32 (N - 1)))) 1#1 = 1#1
  rw [hp, h0, h1]
  rfl

/-- `take` at a position in range is that row. -/
theorem take_apply {B N n k C : ℕ} (hs : TakeSides B N n k C) (x : FVec Ideal ⟨3, ![B, N, C]⟩ .f32) (idx : IVec ⟨3, ![B, n, k]⟩ 32)
    (b : Fin B) (r : Fin n) (t : Fin k) (c : Fin C) (p : Fin N) (hp : idx (ix3 b r t) = BitVec.ofNat 32 p.val) :
    take hs x idx (ix4 b r t c) = x (ix3 b p c) := by
  have hw := wrapped_apply hs idx b r t p hp
  unfold take
  have hc : broadcastInDim ⟨4, ![B, n, k, C]⟩ ![0, 1, 2] hs.b5 (inRange hs (wrapped hs idx)) (ix4 b r t c) = 1#1 := by
    refine (broadcastInDim_apply _ hs.b5 _ _ (ix3 b r t) fun a => ?_).trans (inRange_apply hs _ b r t p hw)
    match a with
    | ⟨0, _⟩ => show b.val = if B = 1 then 0 else b.val; split <;> omega
    | ⟨1, _⟩ => show r.val = if n = 1 then 0 else r.val; split <;> omega
    | ⟨2, _⟩ => show t.val = if k = 1 then 0 else t.val; split <;> omega
  show Scalar.select (broadcastInDim ⟨4, ![B, n, k, C]⟩ ![0, 1, 2] hs.b5 (inRange hs (wrapped hs idx)) (ix4 b r t c))
    (Host.gather (pointsDims B N n k C hs.wf) x (wrapped hs idx) (ix4 b r t c)) _ = _
  rw [hc, gather_points_apply hs.wf x _ b r t c p hs.small.le hw]
  rfl

end Cert.HostReads

end
-- ==== Proof.CurvRef.lean ====
/- The reference's curvature read at an index. -/
module

public import proofs.«01_k».proof.Proof.Near
public import proofs.«01_k».proof.Proof.HostReads
public import proofs.«01_k».proof.Proof.Gen.CurvRefIdeal.Read

@[expose] public section

noncomputable section

namespace Cert.CurvRef

open Idealize.ShloMosaic Cert.Rank Cert.Near Cert.HostReads
open Cert.CurvRefIdeal Cert.CurvRefIdeal.Gen Cert.CurvRefIdeal.Read

theorem takeSides : TakeSides 2 4096 4096 10 3 where
  b0 := bcast_S_S2x4096x10
  b1 := bcast_S2x4096x10_S2x4096x10x1_0_1_2
  b2 := bcast_S_S2x4096x10x1
  b3 := bcast_S1_S1x1x1x1_3
  b4 := bcast_S1x1x1x1_S2x4096x10x1_0_1_2_3
  red := reducesTo_S2x4096x10x1_S2x4096x10_d3
  pos := by decide
  b5 := by decide
  b6 := by decide
  wf := gather_S2x4096x3_S2x4096x10x1_S2x4096x10x3_3_1_0_0_1_3_113.wf
  small := by norm_num

variable (x : Cloud 4096)

theorem take_eq : val_main_v16 (F := Ideal) x = take takeSides (val_main_v0 (F := Ideal) x) (val_main_indices (F := Ideal) x) := rfl

theorem rows_apply (b : Fin 2) (n : Fin 4096) (c : Fin 3) : val_main_v0 (F := Ideal) x (ix3 b n c) = x (ix3 b c n) := by
  pointwise [val_main_v0]

theorem dist_apply (b : Fin 2) (r n : Fin 4096) : val_main_v13 (F := Ideal) x (ix3 b r n) = dist x x b r n := by
  pointwise [val_main_v13, val_main_v12, val_main_v11, val_main_v10, val_main_v9, val_main_v8, val_main_v7, val_main_v6, val_main_v5, val_main_v4, val_main_v3, val_main_v2, val_main_v1, val_main_v0, val_main_cst, val_main_cst_0,
    val_main_cst_1]
  rw [cm2]
  rfl

theorem indices_apply (b : Fin 2) (r : Fin 4096) (t : Fin 10) :
    val_main_indices (F := Ideal) x (ix3 b r t) = BitVec.ofNat 32 (nth (dist x x b r) (Fin.castLE (by norm_num) t)).val := by
  refine (topK_indices (by norm_num) (val_main_v13 (F := Ideal) x) sliceFits_S2x4096x4096_S2x4096x10 b r t).trans ?_
  have e : (fun j => val_main_v13 (F := Ideal) x (ix3 b r j)) = dist x x b r := funext fun j => dist_apply x b r j
  rw [e]

theorem near_apply (b : Fin 2) (r : Fin 4096) (t : Fin 10) (c : Fin 3) :
    val_main_v16 (F := Ideal) x (ix4 b r t c) = x (ix3 b c (nth (dist x x b r) (Fin.castLE (by norm_num) t))) := by
  rw [take_eq, take_apply takeSides _ _ b r t c _ (indices_apply x b r t), rows_apply]

/-- The reference's result. -/
theorem curv_apply (b : Fin 2) (r : Fin 4096) (c : Fin 3) :
    val_main_v22 (F := Ideal) x (ix3 b r c) = curvListed (by norm_num) x x b r c := by
  pointwise [val_main_v22, val_main_v21, val_main_cst_3, val_main_v20, val_main_cst_2, val_main_v19, val_main_v18, val_main_v17]
  simp only [near_apply, rows_apply]
  rw [c9]
  rfl

end Cert.CurvRef
-- ==== Proof.CurvClaims.lean ====
/- The claims about the curvature kernel. -/
module

public import proofs.«01_k».proof.Defs
public import proofs.«01_k».proof.Proof.Gen.Curv.Frame
public import proofs.«01_k».proof.Proof.Gen.Pre_bounded
public import proofs.«01_k».proof.Proof.CurvKernel
public import proofs.«01_k».proof.Proof.CurvRef
public import Idealize.ShloMosaic.Lib.Claim

@[expose] public section

noncomputable section

namespace Cert.CurvClaims

open Idealize.ShloMosaic Idealize.SL.Sem Cert.Near

theorem frame_p : Cert.quiescent_Curv := fun m ρ _ => Cert.Curv.Gen.frame m ρ

theorem frame_pi : Cert.quiescent_CurvIdeal := fun m ρ _ => Cert.CurvIdeal.Gen.frame m ρ

theorem frame_pi_pre : Cert.quiescent_CurvIdeal_pre_bounded := fun m ρ _ => Cert.CurvIdeal.Gen.frame m ρ

theorem frame_ri : Cert.quiescent_CurvRefIdeal := fun m ρ _ =>
  (θ_run Cert.CurvRefIdeal.defs _ _).mono (fun r h => ⟨fun c => (h c).2, sem_eq_zero_of_no_sems (by decide) r.2⟩)
    (Cert.CurvRefIdeal.Value.run (F := Ideal) m ρ)

theorem frame_ri_pre : Cert.quiescent_CurvRefIdeal_pre_bounded := fun m ρ _ => frame_ri m ρ trivial

theorem preserves : Cert.preserves_Curv_CurvIdeal := trivial

theorem small (m : (ℓ : Loc Cert.CurvIdeal.nD Cert.CurvIdeal.τ Cert.CurvIdeal.sig) → Buf (Elt Ideal) ℓ) (h : Cert.Pre_CurvIdeal_bounded m)
    (c : Dev Cert.CurvIdeal.nD) (i) : Small (2 ^ 60) (CurvKernel.cloud m c i) :=
  small_of_le (congrFun (h c) i)

theorem algebraic : Cert.algebraic_CurvIdeal_CurvRefIdeal_pre_bounded := by
  intro m ρ m' ρ' hpre hagree
  have hs := small m hpre
  have hM : ∀ c b r n, dist (CurvKernel.cloud m c) (CurvKernel.cloud m c) b r n < big := fun c b r n =>
    sqd_lt _ _ (fun k => (hs c _).mono (by norm_num)) (fun k => (hs c _).mono (by norm_num))
  refine ⟨fun c => CurvKernel.result (CurvKernel.cloud m c), ?_, ?_⟩
  · exact (θ_run Cert.CurvIdeal.defs _ _).mono (fun _ h c => ⟨(h c).1.trans (CurvKernel.final m c (hM c)), (h c).2⟩)
      (Cert.CurvIdeal.Value.run_blocks (F := Ideal) m ρ)
  · refine (θ_run Cert.CurvRefIdeal.defs _ _).mono (fun _ h c => ⟨(h c).1.trans ?_, (h c).2⟩) (Cert.CurvRefIdeal.Value.run (F := Ideal) m' ρ')
    rw [Cert.CurvRefIdeal.Read.val_main_v22_eq, hagree c]
    funext i
    obtain ⟨b, r, k, rfl⟩ := exists_ix3 i
    refine (CurvRef.curv_apply (CurvKernel.cloud m c) b r k).trans (curvMasked_eq (by norm_num) _ _ b r k fun n => ?_).symm
    obtain ⟨u, hu, -⟩ := hs c (ix3 b k n)
    exact ⟨u, hu⟩

end Cert.CurvClaims
-- ==== Proof.SmoothKernel.lean ====
/- The smoothness kernel: what its body computes from its blocks, and the arrays its grid fills. -/
module

public import proofs.«01_k».proof.Proof.Body
public import proofs.«01_k».proof.Proof.Grid
public import proofs.«01_k».proof.Proof.Gen.SmoothIdeal.Value

@[expose] public section

noncomputable section

namespace Cert.SmoothKernel

open Idealize.ShloMosaic Idealize.ShloMosaic.TcCoe Idealize.SL.Sem Cert.Rank Cert.Near
open Cert.SmoothIdeal Cert.SmoothIdeal.Gen

/-! ## The body -/

theorem shapes : Body.Shapes 256 4096 where
  sides := ⟨reduces_S256x4096_S256, shapeCasts_S256_S256x1, broadcasts_S256x1_S256x4096, by norm_num⟩
  rows := shapeCasts_S1x256x3_S256x3
  cols := shapeCasts_S1x3x4096_S3x4096
  all := shapeCasts_S1x4096x3_S4096x3
  back := shapeCasts_S256x3_S1x256x3
  r0 := slices_S256x3_o0_0_S256x1
  r1 := slices_S256x3_o0_1_S256x1
  r2 := slices_S256x3_o0_2_S256x1
  c0 := slices_S3x4096_o0_0_S1x4096
  c1 := slices_S3x4096_o1_0_S1x4096
  c2 := slices_S3x4096_o2_0_S1x4096
  down := broadcasts_S1x4096_S256x4096
  iota := iota_S256x4096_d1_w32

theorem summed : Body.Summed 256 1 := ⟨shapeCasts_S256x1_S1x256x1, reduces_S1x256x1_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the running sum. -/
abbrev part (x0 : Vec Ideal S1x256x3 .f32) (x1 x2 : Vec Ideal S1x3x4096 .f32) (x3 : Vec Ideal S1x256x3 .f32) : FVec Ideal S1x1 .f32 :=
  divf (Body.total summed (Body.rowSum shapes (select (Body.near shapes x0 x1 8) (Body.normOf shapes (Body.rowsOf shapes x3) (Body.colsOf shapes x2))
    (broadcast S256x4096 (Scalar.ofBits .f32 0x00000000#32))))) (broadcast S1x1 (Scalar.ofBits .f32 0x41000000#32))

theorem pay33 (x : Vec Ideal S1x1 .f32) : k0_pay33 x = x := shapeCast_self ..

section
variable (c : Dev nD) (i : grid0.Coords) (a2 : Memref sig .tc .vmem S1x256x3 .f32) (h2 : a2.IsWhole) (a3 : Memref sig .tc .vmem S1x3x4096 .f32) (h3 : a3.IsWhole) (a4 : Memref sig .tc .vmem S1x3x4096 .f32) (h4 : a4.IsWhole) (a5 : Memref sig .tc .vmem S1x256x3 .f32) (h5 : a5.IsWhole) (a6 : Memref sig .tc .vmem S1x4096x3 .f32) (h6 : a6.IsWhole) (a7 : Memref sig .tc .vmem S1x256x3 .f32) (h7 : a7.IsWhole) (a8 : Memref sig .tc .vmem S1x1 .f32) (h8 : a8.IsWhole) (a9 : Memref sig .tc .vmem S1x256x3 .f32) (h9 : a9.IsWhole)
    (x0 : Vec Ideal S1x256x3 .f32) (x1 : Vec Ideal S1x3x4096 .f32) (x2 : Vec Ideal S1x3x4096 .f32) (x3 : Vec Ideal S1x256x3 .f32) (x4 : Vec Ideal S1x4096x3 .f32) (x5 : Vec Ideal S1x256x3 .f32)

theorem sum_A (hc : cond0_0 i) : out0_A_6 c i a2 h2 a3 h3 a4 h4 a5 h5 a6 h6 a7 h7 a8 h8 a9 h9 hc x0 x1 x2 x3 x4 x5 = addf (broadcast S1x1 (Scalar.ofBits .f32 0x00000000#32)) (part x0 x1 x2 x3) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x1) hz2, View.ld_unit_zero (S := S1x256x3) hz, View.ld_unit_zero (S := S1x3x4096) hz, View.ld_unit_zero (S := S1x4096x3) hz]
  rw [pay33]
  rfl

theorem sum_B (hc : ¬cond0_0 i) (xo : Vec Ideal S1x1 .f32) : out0_B_6 c i a2 h2 a3 h3 a4 h4 a5 h5 a6 h6 a7 h7 a8 h8 a9 h9 hc x0 x1 x2 x3 x4 x5 xo = addf xo (part x0 x1 x2 x3) := by
  unfold out0_B_6
  rw [View.read_writes_eq_canon _ _ _ (cover0_B_6 c i a2 h2 a3 h3 a4 h4 a5 h5 a6 h6 a7 h7 a8 h8 a9 h9 hc x0 x1 x2 x3 x4 x5 xo)]
  unfold kernelRun0_B
  dsimp only
  rw [View.canon_unit_zero hz2]
  sl_unfold_words
  simp only [View.readAt_eq_ld, h2.read_unread, h3.read_unread, h4.read_unread, h5.read_unread, h6.read_unread, h7.read_unread, h8.read_unread,
    View.ld_unit_zero (S := S1x1) hz2, View.ld_unit_zero (S := S1x256x3) hz, View.ld_unit_zero (S := S1x3x4096) hz, View.ld_unit_zero (S := S1x4096x3) hz]
  rw [pay33]
  rfl

/-- What the body stores as the moved curvature. -/
abbrev moved : FVec Ideal S1x256x3 .f32 := Body.mean shapes (Body.rowsOf shapes x5) (Body.near shapes x0 x1 9) (Body.allOf shapes x4)

theorem moved_A (hc : cond0_0 i) : out0_A_7 c i a2 h2 a3 h3 a4 h4 a5 h5 a6 h6 a7 h7 a8 h8 a9 h9 hc x0 x1 x2 x3 x4 x5 = moved x0 x1 x4 x5 := by
  unfold out0_A_7
  rw [View.read_writes_eq_canon _ _ _ (cover0_A_7 c i a2 h2 a3 h3 a4 h4 a5 h5 a6 h6 a7 h7 a8 h8 a9 h9 hc x0 x1 x2 x3 x4 x5)]
  unfold kernelRun0_A
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x256x3) hz, View.ld_unit_zero (S := S1x3x4096) hz, View.ld_unit_zero (S := S1x4096x3) hz]
  rfl

theorem moved_B (hc : ¬cond0_0 i) (xo : Vec Ideal S1x1 .f32) : out0_B_7 c i a2 h2 a3 h3 a4 h4 a5 h5 a6 h6 a7 h7 a8 h8 a9 h9 hc x0 x1 x2 x3 x4 x5 xo = moved x0 x1 x4 x5 := by
  unfold out0_B_7
  rw [View.read_writes_eq_canon _ _ _ (cover0_B_7 c i a2 h2 a3 h3 a4 h4 a5 h5 a6 h6 a7 h7 a8 h8 a9 h9 hc x0 x1 x2 x3 x4 x5 xo)]
  unfold kernelRun0_B
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x256x3) hz, View.ld_unit_zero (S := S1x3x4096) hz, View.ld_unit_zero (S := S1x4096x3) hz]
  rfl

end

/-! ## The blocks -/

abbrev bat (t : Fin cfg0.N) : Fin 2 := Grid.bat 16 t
abbrev row (t : Fin cfg0.N) (r : Fin 256) : Fin 4096 := Grid.row (K := 16) (R := 256) rfl t r

theorem index0 : ∀ t : Fin cfg0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0)
    ∧ (win0_4.index t 0 = t.val / 16 ∧ win0_4.index t 1 = 0 ∧ win0_4.index t 2 = 0)
    ∧ (win0_5.index t 0 = t.val / 16 ∧ win0_5.index t 1 = t.val % 16 ∧ win0_5.index t 2 = 0)
    ∧ (win0_6.index t 0 = 0 ∧ win0_6.index t 1 = 0)
    ∧ (win0_7.index t 0 = t.val / 16 ∧ win0_7.index t 1 = t.val % 16 ∧ win0_7.index t 2 = 0) :=
  (by decide +kernel : ∀ t : Fin grid0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0)
    ∧ (win0_4.index t 0 = t.val / 16 ∧ win0_4.index t 1 = 0 ∧ win0_4.index t 2 = 0)
    ∧ (win0_5.index t 0 = t.val / 16 ∧ win0_5.index t 1 = t.val % 16 ∧ win0_5.index t 2 = 0)
    ∧ (win0_6.index t 0 = 0 ∧ win0_6.index t 1 = 0)
    ∧ (win0_7.index t 0 = t.val / 16 ∧ win0_7.index t 1 = t.val % 16 ∧ win0_7.index t 2 = 0))

variable (m : (ℓ : Loc nD τ sig) → Buf (Elt Ideal) ℓ) (c : Dev nD)

/-- The clouds a device is given, and the moved cloud. -/
abbrev cloud : Cloud 4096 := m ((c : Thread nD τ).loc main_arg0)
abbrev flow : Cloud 4096 := m ((c : Thread nD τ).loc main_arg1)
abbrev warped : Cloud 4096 := fun i => cloud m c i + flow m c i

theorem V_cloud (b : Fin 2) (n : Fin 4096) (k : Fin 3) : V m c main_v0 (ix3 b n k) = cloud m c (ix3 b k n) := by
  have h : V m c main_v0 = transpose S2x4096x3 [0, 2, 1] (cloud m c) transposes_S2x3x4096_S2x4096x3_0_2_1 := rfl
  rw [h]
  pointwise
theorem V_flow (b : Fin 2) (n : Fin 4096) (k : Fin 3) : V m c main_v1 (ix3 b n k) = flow m c (ix3 b k n) := by
  have h : V m c main_v1 = transpose S2x4096x3 [0, 2, 1] (flow m c) transposes_S2x3x4096_S2x4096x3_0_2_1 := rfl
  rw [h]
  pointwise
theorem V_warped (b : Fin 2) (n : Fin 4096) (k : Fin 3) : V m c main_v2 (ix3 b n k) = warped m c (ix3 b k n) := by
  have h : V m c main_v2 = addf (transpose S2x4096x3 [0, 2, 1] (cloud m c) transposes_S2x3x4096_S2x4096x3_0_2_1 : FVec Ideal S2x4096x3 .f32)
    (transpose S2x4096x3 [0, 2, 1] (flow m c) transposes_S2x3x4096_S2x4096x3_0_2_1) := rfl
  rw [h]
  pointwise

theorem iblk0 (t : Fin cfg0.N) (r : Fin 256) (k : Fin 3) : iblk m c 0 t (ix3 0 r k) = cloud m c (ix3 (bat t) k (row t r)) := by
  unfold iblk
  rw [View.read_apply]
  refine Eq.trans ?_ (V_cloud m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 16; omega
  | ⟨1, _⟩ => show win0_0.index t 1 * 256 + 1 * r.val = t.val % 16 * 256 + r.val; omega
  | ⟨2, _⟩ => show win0_0.index t 2 * 3 + 1 * k.val = k.val; omega

theorem iblk1 (t : Fin cfg0.N) (k : Fin 3) (n : Fin 4096) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 16; omega
  | ⟨1, _⟩ => show win0_1.index t 1 * 3 + 1 * k.val = k.val; omega
  | ⟨2, _⟩ => show win0_1.index t 2 * 4096 + 1 * n.val = n.val; omega

theorem iblk2 (t : Fin cfg0.N) (k : Fin 3) (n : Fin 4096) : iblk m c 2 t (ix3 0 k n) = flow m c (ix3 (bat t) k n) := by
  unfold iblk
  rw [View.read_apply]
  refine Eq.trans ?_ (congrFun (V_main_arg1 m c) (ix3 (bat t) k n))
  refine congrArg (V m c main_arg1) (funext fun a => Fin.ext ?_)
  obtain ⟨-, -, ⟨e0, e1, e2⟩, -⟩ := index0 t
  match a with
  | ⟨0, _⟩ => show win0_2.index t 0 * 1 + 1 * 0 = t.val / 16; omega
  | ⟨1, _⟩ => show win0_2.index t 1 * 3 + 1 * k.val = k.val; omega
  | ⟨2, _⟩ => show win0_2.index t 2 * 4096 + 1 * n.val = n.val; omega

theorem iblk3 (t : Fin cfg0.N) (r : Fin 256) (k : Fin 3) : iblk m c 3 t (ix3 0 r k) = flow m c (ix3 (bat t) k (row t r)) := by
  unfold iblk
  rw [View.read_apply]
  refine Eq.trans ?_ (V_flow m c (bat t) (row t r) k)
  refine congrArg (V m c main_v1) (funext fun a => Fin.ext ?_)
  obtain ⟨-, -, -, ⟨e0, e1, e2⟩, -⟩ := index0 t
  match a with
  | ⟨0, _⟩ => show win0_3.index t 0 * 1 + 1 * 0 = t.val / 16; omega
  | ⟨1, _⟩ => show win0_3.index t 1 * 256 + 1 * r.val = t.val % 16 * 256 + r.val; omega
  | ⟨2, _⟩ => show win0_3.index t 2 * 3 + 1 * k.val = k.val; omega

theorem iblk4 (t : Fin cfg0.N) (n : Fin 4096) (k : Fin 3) : iblk m c 4 t (ix3 0 n k) = warped m c (ix3 (bat t) k n) := by
  unfold iblk
  rw [View.read_apply]
  refine Eq.trans ?_ (V_warped m c (bat t) n k)
  refine congrArg (V m c main_v2) (funext fun a => Fin.ext ?_)
  obtain ⟨-, -, -, -, ⟨e0, e1, e2⟩, -⟩ := index0 t
  match a with
  | ⟨0, _⟩ => show win0_4.index t 0 * 1 + 1 * 0 = t.val / 16; omega
  | ⟨1, _⟩ => show win0_4.index t 1 * 4096 + 1 * n.val = n.val; omega
  | ⟨2, _⟩ => show win0_4.index t 2 * 3 + 1 * k.val = k.val; omega

theorem iblk5 (t : Fin cfg0.N) (r : Fin 256) (k : Fin 3) : iblk m c 5 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨-, -, -, -, -, ⟨e0, e1, e2⟩, -⟩ := index0 t
  match a with
  | ⟨0, _⟩ => show win0_5.index t 0 * 1 + 1 * 0 = t.val / 16; omega
  | ⟨1, _⟩ => show win0_5.index t 1 * 256 + 1 * r.val = t.val % 16 * 256 + r.val; omega
  | ⟨2, _⟩ => show win0_5.index t 2 * 3 + 1 * k.val = k.val; omega

/-! ## The arrays the grid fills -/

variable (hM : ∀ b r n, dist (cloud m c) (cloud m c) b r n < big)

theorem gap_eq (t : Fin cfg0.N) (r : Fin 256) : Body.gap (iblk m c 0 t) (iblk m c 1 t) r = dist (cloud m c) (cloud m c) (bat t) (row t r) := by
  funext n
  unfold Body.gap
  simp only [iblk0, iblk1]
  rfl

/-- What grid point `t` adds to the smoothness sum. -/
def adds (t : Fin cfg0.N) : EReal := Ideal.div (∑ r, turnMasked (cloud m c) (flow m c) (bat t) (row t r)) (8 : ℝ)

include hM in
theorem part_apply (t : Fin cfg0.N) (i : S1x1.Idx) : part (iblk m c 0 t) (iblk m c 1 t) (iblk m c 2 t) (iblk m c 3 t) i = adds m c t := by
  show Ideal.div (Body.total summed _ i) (Ideal.ofBits .f32 0x41000000#32) = _
  rw [Body.total_near shapes summed _ _ _ _ (fun r n => by rw [gap_eq]; exact hM _ _ _) (by norm_num) i, c8]
  simp only [gap_eq, iblk2, iblk3]
  rfl

include hM in
/-- The running sum after the last grid point. -/
theorem acc_apply (i : S1x1.Idx) : ((outsAt0 m c 31 (by decide)).1 : Vec Ideal S1x1 .f32) i = ∑ t : Fin cfg0.N, adds m c t := by
  refine Grid.running (T := cfg0.N) (adds m c) (fun n h => ((outsAt0 m c n h).1 : Vec Ideal S1x1 .f32) i) (fun h => ?_) (fun n h => ?_) 31 (by decide) rfl
  · rw [outsAt0_A m c ⟨0, h⟩ rfl]
    dsimp only
    rw [sum_A]
    show Ideal.ofBits .f32 0x00000000#32 + part _ _ _ _ i = _
    rw [part_apply m c hM, show Ideal.ofBits .f32 0x00000000#32 = 0 by simp [Ideal.ofBits, Ideal.ieee], zero_add]
  · have hn : n + 1 < 32 := h
    rw [outsAt0_B m c ⟨n + 1, h⟩ (by dsimp only; omega)]
    dsimp only
    rw [sum_B]
    show _ + part _ _ _ _ i = _
    rw [part_apply m c hM]
    rfl

/-- The smoothness sum over both clouds. -/
abbrev resultSum : S1x1.Idx → EReal := fun _ => ∑ t : Fin cfg0.N, adds m c t

include hM in
theorem flushed6_eq (t : Fin cfg0.N) (hf : (cfg0.win 6).flush t = true) :
    (dats m 0 c).flushed 6 t = ((cfg0.win 6).blk t).view.read (Elt Ideal) (resultSum m c) := by
  obtain rfl : t = ⟨31, by decide⟩ := Fin.ext (by have := (flush0_6 t).mp hf; have : t.val < 32 := t.isLt; show t.val = 31; omega)
  rw [Value.flushed6]
  funext j
  exact acc_apply m c hM j

theorem cover6 (i : S1x1.Idx) : ∃ t : Fin cfg0.N, (cfg0.win 6).flush t = true ∧ i ∈ ((cfg0.win 6).blk t).view.set := by
  have hT : 31 < cfg0.N := by decide
  refine ⟨⟨31, hT⟩, (flush0_6 _).mpr rfl, ?_⟩
  show i ∈ ((View.whole main_v3_0).slice (win0_6.rect ⟨31, hT⟩)).set
  rw [View.set_slice_whole, Rect.mem_set_unit]
  obtain ⟨-, -, -, -, -, -, ⟨e0, e1⟩, -⟩ := index0 ⟨31, hT⟩
  have h0 : (i 0 : Nat) < 1 := (i 0).isLt
  have h1 : (i 1 : Nat) < 1 := (i 1).isLt
  intro a
  match a with
  | ⟨0, _⟩ => show win0_6.index ⟨31, hT⟩ 0 * 1 ≤ (i 0 : Nat) ∧ (i 0 : Nat) < win0_6.index ⟨31, hT⟩ 0 * 1 + 1
              rw [e0]; omega
  | ⟨1, _⟩ => show win0_6.index ⟨31, hT⟩ 1 * 1 ≤ (i 1 : Nat) ∧ (i 1 : Nat) < win0_6.index ⟨31, hT⟩ 1 * 1 + 1
              rw [e1]; omega

include hM in
theorem final6 : (dats m 0 c).arrAt 6 cfg0.N = resultSum m c :=
  (dats m 0 c).arrAt_eq_of_cover 6 (resultSum m c) (flushed6_eq m c hM) cover6

/-- The moved curvature of every point. -/
def resultMoved (p w : Cloud 4096) : S2x4096x3.Idx → EReal := fun i => curvMasked p w (i 0) (i 1) (i 2)

theorem outs_moved (t : Fin cfg0.N) : (outsAt0 m c t.val t.isLt).2 = moved (iblk m c 0 t) (iblk m c 1 t) (iblk m c 4 t) (iblk m c 5 t) := by
  by_cases h : t.val % 32 = 0
  · rw [outsAt0_A m c t h]; dsimp only; rw [moved_A]
  · rw [outsAt0_B m c t h]; dsimp only; rw [moved_B]

include hM in
theorem flushed7_eq (t : Fin cfg0.N) :
    (dats m 0 c).flushed 7 t = ((cfg0.win 7).blk t).view.read (Elt Ideal) (resultMoved (cloud m c) (warped m c)) := by
  rw [Value.flushed7, outs_moved]
  funext j
  obtain ⟨r, k, rfl⟩ : ∃ (r : Fin 256) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show moved (iblk m c 0 t) (iblk m c 1 t) (iblk m c 4 t) (iblk m c 5 t) (ix3 0 r k) = _
  refine (Body.mean_near shapes (iblk m c 0 t) (iblk m c 1 t) (iblk m c 4 t) (iblk m c 5 t) r k (fun n => ?_) (by norm_num)).trans ?_
  · rw [gap_eq]; exact hM _ _ _
  · simp only [gap_eq, iblk4, iblk5]
    rw [View.read_apply]
    refine congrArg (resultMoved (cloud m c) (warped m c)) (a₁ := ix3 (bat t) (row t r) k) (funext fun a => Fin.ext ?_)
    obtain ⟨-, -, -, -, -, -, -, e0, e1, e2⟩ := index0 t
    match a with
    | ⟨0, _⟩ => show t.val / 16 = win0_7.index t 0 * 1 + 1 * 0; omega
    | ⟨1, _⟩ => show t.val % 16 * 256 + r.val = win0_7.index t 1 * 256 + 1 * r.val; omega
    | ⟨2, _⟩ => show k.val = win0_7.index t 2 * 3 + 1 * k.val; omega

theorem cover7 (i : S2x4096x3.Idx) : ∃ t : Fin cfg0.N, (cfg0.win 7).flush t = true ∧ i ∈ ((cfg0.win 7).blk t).view.set := by
  have h0 : (i 0 : Nat) < 2 := (i 0).isLt
  have h1 : (i 1 : Nat) < 4096 := (i 1).isLt
  have h2 : (i 2 : Nat) < 3 := (i 2).isLt
  have ht : (i 0 : Nat) * 16 + (i 1 : Nat) / 256 < cfg0.N := by show _ < 32; omega
  refine ⟨⟨_, ht⟩, flush0_7 _, ?_⟩
  show i ∈ ((View.whole main_v3_1).slice (win0_7.rect ⟨_, ht⟩)).set
  rw [View.set_slice_whole, Rect.mem_set_unit]
  obtain ⟨-, -, -, -, -, -, -, e0, e1, e2⟩ := index0 ⟨_, ht⟩
  intro a
  match a with
  | ⟨0, _⟩ => show win0_7.index ⟨_, ht⟩ 0 * 1 ≤ (i 0 : Nat) ∧ (i 0 : Nat) < win0_7.index ⟨_, ht⟩ 0 * 1 + 1
              rw [e0]; dsimp only; omega
  | ⟨1, _⟩ => show win0_7.index ⟨_, ht⟩ 1 * 256 ≤ (i 1 : Nat) ∧ (i 1 : Nat) < win0_7.index ⟨_, ht⟩ 1 * 256 + 256
              rw [e1]; dsimp only; omega
  | ⟨2, _⟩ => show win0_7.index ⟨_, ht⟩ 2 * 3 ≤ (i 2 : Nat) ∧ (i 2 : Nat) < win0_7.index ⟨_, ht⟩ 2 * 3 + 3
              rw [e2]; dsimp only; omega

include hM in
theorem final7 : (dats m 0 c).arrAt 7 cfg0.N = resultMoved (cloud m c) (warped m c) :=
  (dats m 0 c).arrAt_eq_of_cover 7 (resultMoved (cloud m c) (warped m c)) (fun t _ => flushed7_eq m c hM t) cover7

/-- The smoothness sum, when the flow is finite: over both clouds and every point, an eighth of its turn. -/
theorem sum_adds (hf : ∀ i, ∃ u : ℝ, flow m c i = u) :
    ∑ t : Fin cfg0.N, adds m c t = ∑ b, ∑ n, Ideal.div (turnListed (by norm_num) (cloud m c) (flow m c) b n) (8 : ℝ) := by
  have h := fun b r => turnMasked_eq (by norm_num : 9 ≤ 4096) (cloud m c) (flow m c) b r hf
  refine (Finset.sum_congr rfl fun t _ => ?_).trans
    (Grid.sum_grid (K := 16) (R := 256) rfl fun b n => Ideal.div (turnListed (by norm_num) (cloud m c) (flow m c) b n) (8 : ℝ))
  unfold adds
  simp only [(h _ _).1]
  exact Grid.div_sum _ _ 8 (by norm_num) fun r => (h _ _).2

end Cert.SmoothKernel
-- ==== Proof.SmoothRef.lean ====
/- The smoothness reference read at an index. -/
module

public import proofs.«01_k».proof.Proof.Near
public import proofs.«01_k».proof.Proof.HostReads
public import proofs.«01_k».proof.Proof.Gen.SmoothRefIdeal.Read

@[expose] public section

noncomputable section

namespace Cert.SmoothRef

open Idealize.ShloMosaic Cert.Rank Cert.Near Cert.HostReads
open Cert.SmoothRefIdeal Cert.SmoothRefIdeal.Gen Cert.SmoothRefIdeal.Read

theorem takeSides9 : TakeSides 2 4096 4096 9 3 where
  b0 := bcast_S_S2x4096x9
  b1 := bcast_S2x4096x9_S2x4096x9x1_0_1_2
  b2 := bcast_S_S2x4096x9x1
  b3 := bcast_S1_S1x1x1x1_3
  b4 := bcast_S1x1x1x1_S2x4096x9x1_0_1_2_3
  red := reducesTo_S2x4096x9x1_S2x4096x9_d3
  pos := by decide
  b5 := by decide
  b6 := by decide
  wf := gather_S2x4096x3_S2x4096x9x1_S2x4096x9x3_3_1_0_0_1_3_113.wf
  small := by norm_num

theorem takeSides10 : TakeSides 2 4096 4096 10 3 where
  b0 := bcast_S_S2x4096x10
  b1 := bcast_S2x4096x10_S2x4096x10x1_0_1_2
  b2 := bcast_S_S2x4096x10x1
  b3 := bcast_S1_S1x1x1x1_3
  b4 := bcast_S1x1x1x1_S2x4096x10x1_0_1_2_3
  red := reducesTo_S2x4096x10x1_S2x4096x10_d3
  pos := by decide
  b5 := by decide
  b6 := by decide
  wf := gather_S2x4096x3_S2x4096x10x1_S2x4096x10x3_3_1_0_0_1_3_113.wf
  small := by norm_num

variable (x f : Cloud 4096)

theorem dist9 (b : Fin 2) (r n : Fin 4096) : val_main_v14 (F := Ideal) x (ix3 b r n) = dist x x b r n := by
  pointwise [val_main_v14, val_main_v13, val_main_v12, val_main_v11, val_main_v10, val_main_v9, val_main_v8, val_main_v7, val_main_v6, val_main_v5, val_main_v4, val_main_v3, val_main_v2, val_main_v0, val_main_cst, val_main_cst_0,
    val_main_cst_1]
  rw [cm2]
  rfl

theorem dist10 (b : Fin 2) (r n : Fin 4096) : val_main_v43 (F := Ideal) x (ix3 b r n) = dist x x b r n := by
  pointwise [val_main_v43, val_main_v42, val_main_v41, val_main_v40, val_main_v39, val_main_v38, val_main_v37, val_main_v36, val_main_v35, val_main_v34, val_main_v33, val_main_v32, val_main_v31, val_main_v30, val_main_cst_6, val_main_cst_7,
    val_main_cst_8]
  rw [cm2]
  rfl

theorem flow_apply (b : Fin 2) (n : Fin 4096) (c : Fin 3) : val_main_v1 (F := Ideal) f (ix3 b n c) = f (ix3 b c n) := by
  pointwise [val_main_v1]

theorem warped_apply (b : Fin 2) (n : Fin 4096) (c : Fin 3) : val_main_v29 (F := Ideal) x f (ix3 b n c) = x (ix3 b c n) + f (ix3 b c n) := by
  pointwise [val_main_v29, val_main_v28]

theorem near9 (b : Fin 2) (r : Fin 4096) (t : Fin 9) (c : Fin 3) :
    val_main_v17 (F := Ideal) x f (ix4 b r t c) = f (ix3 b c (nth (dist x x b r) (Fin.castLE (by norm_num) t))) := by
  have hi : val_main_indices (F := Ideal) x (ix3 b r t) = BitVec.ofNat 32 (nth (dist x x b r) (Fin.castLE (by norm_num) t)).val := by
    refine (topK_indices (by norm_num) (val_main_v14 (F := Ideal) x) sliceFits_S2x4096x4096_S2x4096x9 b r t).trans ?_
    rw [show (fun j => val_main_v14 (F := Ideal) x (ix3 b r j)) = dist x x b r from funext fun j => dist9 x b r j]
  rw [show val_main_v17 (F := Ideal) x f = take takeSides9 (val_main_v1 (F := Ideal) f) (val_main_indices (F := Ideal) x) from rfl,
    take_apply takeSides9 _ _ b r t c _ hi, flow_apply]

theorem near10 (b : Fin 2) (r : Fin 4096) (t : Fin 10) (c : Fin 3) :
    val_main_v46 (F := Ideal) x f (ix4 b r t c) = x (ix3 b c (nth (dist x x b r) (Fin.castLE (by norm_num) t)))
      + f (ix3 b c (nth (dist x x b r) (Fin.castLE (by norm_num) t))) := by
  have hi : val_main_indices_10 (F := Ideal) x (ix3 b r t) = BitVec.ofNat 32 (nth (dist x x b r) (Fin.castLE (by norm_num) t)).val := by
    refine (topK_indices (by norm_num) (val_main_v43 (F := Ideal) x) sliceFits_S2x4096x4096_S2x4096x10 b r t).trans ?_
    rw [show (fun j => val_main_v43 (F := Ideal) x (ix3 b r j)) = dist x x b r from funext fun j => dist10 x b r j]
  rw [show val_main_v46 (F := Ideal) x f = take takeSides10 (val_main_v29 (F := Ideal) x f) (val_main_indices_10 (F := Ideal) x) from rfl,
    take_apply takeSides10 _ _ b r t c _ hi, warped_apply]

/-- The moved curvature. -/
theorem moved_apply (b : Fin 2) (r : Fin 4096) (c : Fin 3) :
    val_main_v52 (F := Ideal) x f (ix3 b r c) = curvListed (by norm_num) x (fun i => x i + f i) b r c := by
  pointwise [val_main_v52, val_main_v51, val_main_cst_12, val_main_v50, val_main_cst_11, val_main_v49, val_main_v48, val_main_v47]
  simp only [near10, warped_apply]
  rw [c9]
  rfl

/-- The square of the distance of two flows. -/
theorem square_apply (b : Fin 2) (r : Fin 4096) (t : Fin 9) :
    val_main_call1_v1 (F := Ideal) x f (ix3 b r t) = ∑ c : Fin 3, (f (ix3 b c (nth (dist x x b r) (Fin.castLE (by norm_num) t))) - f (ix3 b c r))
      * (f (ix3 b c (nth (dist x x b r) (Fin.castLE (by norm_num) t))) - f (ix3 b c r)) := by
  pointwise [val_main_call1_v1, val_main_call1_cst, val_main_call1_v0, val_main_v20, val_main_v19, val_main_v18]
  simp only [near9, flow_apply]

/-- One point's share of the smoothness. -/
theorem turn_apply (b : Fin 2) (r : Fin 4096) :
    val_main_v24 (F := Ideal) x f (ix2 b r) = Ideal.div (turnListed (by norm_num) x f b r) (8 : ℝ) := by
  have e : ∀ t : Fin 9, val_main_v21 (F := Ideal) x f (ix3 b r t) = Ideal.sqrt (val_main_call1_v1 (F := Ideal) x f (ix3 b r t)) := fun _ => rfl
  pointwise [val_main_v24, val_main_v23, val_main_cst_3, val_main_v22, val_main_cst_2]
  simp only [e, square_apply]
  rw [c8]
  rfl

/-- The smoothness. -/
theorem sum_apply (i : S1x1.Idx) :
    val_main_v27 (F := Ideal) x f i = ∑ b, ∑ n, Ideal.div (turnListed (by norm_num) x f b n) (8 : ℝ) := by
  simp only [← turn_apply]
  pointwise [val_main_v27, val_main_v26, val_main_cst_5, val_main_v25, val_main_cst_4]

end Cert.SmoothRef
-- ==== Proof.SmoothClaims.lean ====
/- The claims about the smoothness kernel. -/
module

public import proofs.«01_k».proof.Defs
public import proofs.«01_k».proof.Proof.Gen.Smooth.Frame
public import proofs.«01_k».proof.Proof.Gen.Pre_bounded2
public import proofs.«01_k».proof.Proof.SmoothKernel
public import proofs.«01_k».proof.Proof.SmoothRef

@[expose] public section

noncomputable section

namespace Cert.SmoothClaims

open Idealize.ShloMosaic Idealize.SL.Sem Cert.Near

theorem frame_p : Cert.quiescent_Smooth := fun m ρ _ => Cert.Smooth.Gen.frame m ρ

theorem frame_pi : Cert.quiescent_SmoothIdeal := fun m ρ _ => Cert.SmoothIdeal.Gen.frame m ρ

theorem frame_pi_pre : Cert.quiescent_SmoothIdeal_pre_bounded2 := fun m ρ _ => Cert.SmoothIdeal.Gen.frame m ρ

theorem frame_ri : Cert.quiescent_SmoothRefIdeal := fun m ρ _ =>
  (θ_run Cert.SmoothRefIdeal.defs _ _).mono (fun r h => ⟨fun c => (h c).2.2, sem_eq_zero_of_no_sems (by decide) r.2⟩)
    (Cert.SmoothRefIdeal.Value.run (F := Ideal) m ρ)

theorem frame_ri_pre : Cert.quiescent_SmoothRefIdeal_pre_bounded2 := fun m ρ _ => frame_ri m ρ trivial

theorem preserves : Cert.preserves_Smooth_SmoothIdeal := trivial

theorem small (m : (ℓ : Loc Cert.SmoothIdeal.nD Cert.SmoothIdeal.τ Cert.SmoothIdeal.sig) → Buf (Elt Ideal) ℓ) (h : Cert.Pre_SmoothIdeal_bounded2 m)
    (c : Dev Cert.SmoothIdeal.nD) (i) : Small (2 ^ 60) (SmoothKernel.cloud m c i) ∧ Small (2 ^ 60) (SmoothKernel.flow m c i) :=
  (both (congrFun (h c) i)).imp small_of_le small_of_le

theorem algebraic : Cert.algebraic_SmoothIdeal_SmoothRefIdeal_pre_bounded2 := by
  intro m ρ m' ρ' hpre hagree
  have hs := small m hpre
  have hM : ∀ c b r n, dist (SmoothKernel.cloud m c) (SmoothKernel.cloud m c) b r n < big := fun c b r n =>
    sqd_lt _ _ (fun k => (hs c _).1.mono (by norm_num)) (fun k => (hs c _).1.mono (by norm_num))
  refine ⟨fun c => SmoothKernel.resultSum m c, fun c => SmoothKernel.resultMoved (SmoothKernel.cloud m c) (SmoothKernel.warped m c), ?_, ?_⟩
  · exact (θ_run Cert.SmoothIdeal.defs _ _).mono (fun _ h c =>
      ⟨(h c).1.trans (SmoothKernel.final6 m c (hM c)), (h c).2.1.trans (SmoothKernel.final7 m c (hM c)), (h c).2.2⟩)
      (Cert.SmoothIdeal.Value.run_blocks (F := Ideal) m ρ)
  · refine (θ_run Cert.SmoothRefIdeal.defs _ _).mono (fun _ h c => ⟨(h c).1.trans ?_, (h c).2.1.trans ?_, (h c).2.2⟩)
      (Cert.SmoothRefIdeal.Value.run (F := Ideal) m' ρ')
    · rw [Cert.SmoothRefIdeal.Read.val_main_v27_eq, (hagree c).1, (hagree c).2]
      funext i
      refine (SmoothRef.sum_apply (SmoothKernel.cloud m c) (SmoothKernel.flow m c) i).trans (SmoothKernel.sum_adds m c fun i => ?_).symm
      obtain ⟨u, hu, -⟩ := (hs c i).2
      exact ⟨u, hu⟩
    · rw [Cert.SmoothRefIdeal.Read.val_main_v52_eq, (hagree c).1, (hagree c).2]
      funext i
      obtain ⟨b, r, k, rfl⟩ := exists_ix3 i
      refine (SmoothRef.moved_apply (SmoothKernel.cloud m c) (SmoothKernel.flow m c) b r k).trans (curvMasked_eq (by norm_num) _ _ b r k fun n => ?_).symm
      obtain ⟨u, hu, -⟩ := (hs c (ix3 b k n)).1.add (hs c (ix3 b k n)).2
      exact ⟨u, hu⟩

end Cert.SmoothClaims
-- ==== Proof.BodyCross.lean ====
/- The vector operations of the kernel between the two clouds: the smallest distances of rows and columns, and the
   interpolation over the five nearest, read at an index. -/
module

public import proofs.«01_k».proof.Proof.Body

@[expose] public section

noncomputable section

namespace Cert.Body

open Idealize.ShloMosaic Cert.Rank Cert.Near Cert.Rounds

/-- The side conditions of those operations. -/
structure Crossed (R N : ℕ) : Prop where
  wide : (Blk R 1).Broadcasts (Blk R 3)
  red : (Blk R N).Reduces [0] (Vec1 N)
  line : (Vec1 N).ShapeCasts (Blk 1 N)
  up : (Blk 1 N).ShapeCasts (Cube 1 1 N)
  dn : (Cube 1 1 N).ShapeCasts (Blk 1 N)

variable {R N : ℕ} (h : Shapes R N) (k : Crossed R N)

/-! ## Smallest distances -/

/-- Each row's smallest entry, as a column. -/
def minRow (d : FVec Ideal (Blk R N) .f32) : FVec Ideal (Blk R 1) .f32 := shapeCast (Blk R 1) (minOf h.sides d) h.sides.cast

theorem minRow_cast (d : FVec Ideal (Blk R N) .f32) (r : Fin R) : minRow h d (ix2 r 0) = minOf h.sides d (ix1 r) := by
  refine shapeCast_apply _ h.sides.cast _ _ ?_
  rw [Shape.rowMajor_val_two, Shape.rowMajor_val_one]
  show r.val = r.val * 1 + 0
  omega

/-- Each column's smallest entry, as a row. -/
def minCol (d : FVec Ideal (Blk R N) .f32) : FVec Ideal (Blk 1 N) .f32 :=
  shapeCast (Blk 1 N) (multiReduction .minimumf [0] (Vec1 N) d 0x7F800000#32 k.red (.inl rfl) rfl) k.line

theorem minCol_apply (d : FVec Ideal (Blk R N) .f32) (n : Fin N) :
    minCol k d (ix2 0 n) = least fun r => d (ix2 r n) := by
  have e : ∀ y : FVec Ideal (Vec1 N) .f32, shapeCast (Blk 1 N) y k.line (ix2 0 n) = y (ix1 n) := fun y => by
    refine shapeCast_apply y k.line _ _ ?_
    rw [Shape.rowMajor_val_two, Shape.rowMajor_val_one]
    show n.val = 0 * N + n.val
    omega
  refine (e _).trans ?_
  refine (multiReduction_minimumf_eq_fold _ _ _ _ _ _).trans ?_
  rw [Shape.Reduces.fold_fiber_r2_a0]
  have : FloatOps.ofBits (F := Ideal) .f32 0x7F800000#32 = (⊤ : EReal) := by
    simp [Ideal.ofBits, Ideal.ieee]
  rw [this]
  rfl

/-- The columns' smallest entries as the body stores them, and stored over earlier ones. -/
def colFirst (d : FVec Ideal (Blk R N) .f32) : FVec Ideal (Cube 1 1 N) .f32 := shapeCast (Cube 1 1 N) (minCol k d) k.up
def colNext (x : Vec Ideal (Cube 1 1 N) .f32) (d : FVec Ideal (Blk R N) .f32) : FVec Ideal (Cube 1 1 N) .f32 :=
  shapeCast (Cube 1 1 N) (minimumf (shapeCast (Blk 1 N) x k.dn : FVec Ideal (Blk 1 N) .f32) (minCol k d)) k.up

variable (x : Vec Ideal (Cube 1 R 3) .f32) (y : Vec Ideal (Cube 1 3 N) .f32)

/-- The distances of the rows of `x` to the columns of `y`. -/
abbrev gaps : FVec Ideal (Blk R N) .f32 := distOf h (rowsOf h x) (colsOf h y)

theorem colFirst_apply (n : Fin N) : colFirst k (gaps h x y) (ix3 0 0 n) = least fun r => gap x y r n := by
  unfold colFirst
  rw [cast_lift, minCol_apply]
  simp only [distOf_apply]
theorem colNext_apply (z : Vec Ideal (Cube 1 1 N) .f32) (n : Fin N) :
    colNext k z (gaps h x y) (ix3 0 0 n) = min (z (ix3 0 0 n)) (least fun r => gap x y r n) := by
  unfold colNext
  rw [cast_lift]
  show min (shapeCast (Blk 1 N) z k.dn (ix2 0 n)) (minCol k (gaps h x y) (ix2 0 n)) = _
  rw [cast_drop, minCol_apply]
  simp only [distOf_apply]

theorem total_minRow (hs : Summed R 1) (i : (Blk 1 1).Idx) :
    total hs (minRow h (gaps h x y)) i = ∑ r, least fun n => gap x y r n := by
  rw [total_apply]
  refine Finset.sum_congr rfl fun r _ => (Fintype.sum_unique _).trans ?_
  refine (minRow_cast h _ r).trans ((minOf_apply h.sides _ r).trans ?_)
  simp only [distOf_apply]
  rfl

theorem total_line (hs : Summed 1 N) (z : Vec Ideal (Cube 1 1 N) .f32) (i : (Blk 1 1).Idx) :
    total hs (shapeCast (Blk 1 N) z k.dn : FVec Ideal (Blk 1 N) .f32) i = ∑ n, z (ix3 0 0 n) := by
  rw [total_apply]
  exact (Fintype.sum_unique _).trans (Finset.sum_congr rfl fun n _ => cast_drop z k.dn 0 n)

/-! ## Interpolation -/

/-- The distances left after `t` rounds. -/
abbrev rest (d : FVec Ideal (Blk R N) .f32) (t : ℕ) : FVec Ideal (Blk R N) .f32 := left h.sides big (cols h) d t

/-- The reciprocal of the distance round `t` takes. -/
def recip (d : FVec Ideal (Blk R N) .f32) (t : ℕ) : FVec Ideal (Blk R 1) .f32 :=
  divf (broadcast (Blk R 1) (Scalar.ofBits .f32 0x3F800000#32))
    (addf (minRow h (rest h d t)) (broadcast (Blk R 1) (Scalar.ofBits .f32 0x322BCC77#32)))

/-- What `p` holds at the point round `t` takes. -/
def found (d : FVec Ideal (Blk R N) .f32) (p : FVec Ideal (Blk N 3) .f32) (t : ℕ) : FVec Ideal (Blk R 3) .f32 :=
  gathered (sel h.sides (cols h) (rest h d t)) p

/-- The sum of five reciprocals. -/
def norm5 (d : FVec Ideal (Blk R N) .f32) : FVec Ideal (Blk R 1) .f32 :=
  addf (addf (addf (addf (recip h d 0) (recip h d 1)) (recip h d 2)) (recip h d 3)) (recip h d 4)

/-- Round `t`'s share of the interpolation. -/
def portion (d : FVec Ideal (Blk R N) .f32) (p : FVec Ideal (Blk N 3) .f32) (t : ℕ) : FVec Ideal (Blk R 3) .f32 :=
  mulf (broadcastTo (Blk R 3) (divf (recip h d t) (norm5 h d)) k.wide) (found h d p t)

/-- The interpolation over the five nearest. -/
def inter (d : FVec Ideal (Blk R N) .f32) (p : FVec Ideal (Blk N 3) .f32) : FVec Ideal (Blk R 3) .f32 :=
  addf (addf (addf (addf (portion h k d p 0) (portion h k d p 1)) (portion h k d p 2)) (portion h k d p 3)) (portion h k d p 4)

/-- The interpolation's difference from `w`. -/
def apart (d : FVec Ideal (Blk R N) .f32) (p : FVec Ideal (Blk N 3) .f32) (w : FVec Ideal (Blk R 3) .f32) : FVec Ideal (Blk R 3) .f32 :=
  subf (inter h k d p) w

section
variable (d : FVec Ideal (Blk R N) .f32) (r : Fin R) (D : Fin N → EReal) (hd : ∀ n, d (ix2 r n) = D n) (hM : ∀ n, D n < big)
include hd hM

theorem recip_apply (t : ℕ) (ht : t < N) : recip h d t (ix2 r 0) = weight (D (nth D ⟨t, ht⟩)) := by
  show Ideal.div (Ideal.ofBits .f32 0x3F800000#32) (minRow h (rest h d t) (ix2 r 0) + Ideal.ofBits .f32 0x322BCC77#32) = _
  rw [minRow_cast, minOf_left h.sides big (cols h) d r D hd hM (cols_apply h r) ⟨t, ht⟩, c1]
  rfl

theorem found_apply (p : FVec Ideal (Blk N 3) .f32) (c : Fin 3) (t : ℕ) (ht : t < N) :
    found h d p t (ix2 r c) = p (ix2 (nth D ⟨t, ht⟩) c) := by
  unfold found
  rw [gathered_apply]
  have e := sel_left h.sides big (cols h) d r D hd hM (cols_apply h r) ⟨t, ht⟩
  dsimp only at e
  simp only [rest, e]
  refine (Finset.sum_eq_single (nth D ⟨t, ht⟩) (fun n _ hn => ?_) fun hn => absurd (Finset.mem_univ _) hn).trans ?_
  · rw [decide_eq_false hn]; exact if_neg (by decide)
  · rw [decide_eq_true rfl]; exact if_pos (by decide)

theorem norm5_apply (hN : 4 < N) : norm5 h d (ix2 r 0) = ∑ s : Fin 5, weight (D (nth D ⟨s.val, by omega⟩)) := by
  rw [Fin.sum_univ_five]
  show recip h d 0 (ix2 r 0) + recip h d 1 (ix2 r 0) + recip h d 2 (ix2 r 0) + recip h d 3 (ix2 r 0) + recip h d 4 (ix2 r 0) = _
  rw [recip_apply h d r D hd hM 0 (by omega), recip_apply h d r D hd hM 1 (by omega), recip_apply h d r D hd hM 2 (by omega),
    recip_apply h d r D hd hM 3 (by omega), recip_apply h d r D hd hM 4 hN]
  rfl

theorem portion_apply (p : FVec Ideal (Blk N 3) .f32) (c : Fin 3) (hN : 4 < N) (t : Fin 5) :
    portion h k d p t.val (ix2 r c)
      = Ideal.div (weight (D (nth D ⟨t.val, by omega⟩))) (∑ s : Fin 5, weight (D (nth D ⟨s.val, by omega⟩))) * p (ix2 (nth D ⟨t.val, by omega⟩) c) := by
  have e : ∀ z : FVec Ideal (Blk R 1) .f32, broadcastTo (Blk R 3) z k.wide (ix2 r c) = z (ix2 r 0) := fun z => by
    refine broadcastTo_apply _ k.wide _ _ fun a => ?_
    match a with
    | ⟨0, _⟩ => show r.val = if R = 1 then 0 else r.val; split <;> omega
    | ⟨1, _⟩ => show 0 = if 1 = 1 then 0 else c.val; simp
  show broadcastTo (Blk R 3) (divf (recip h d t.val) (norm5 h d)) k.wide (ix2 r c) * found h d p t.val (ix2 r c) = _
  rw [e, found_apply h d r D hd hM p c t.val (by omega)]
  show Ideal.div (recip h d t.val (ix2 r 0)) (norm5 h d (ix2 r 0)) * _ = _
  rw [recip_apply h d r D hd hM t.val (by omega), norm5_apply h d r D hd hM hN]

theorem inter_apply (p : FVec Ideal (Blk N 3) .f32) (c : Fin 3) (hN : 4 < N) :
    inter h k d p (ix2 r c) = mix hN D fun n => p (ix2 n c) := by
  unfold mix
  rw [Fin.sum_univ_five]
  show portion h k d p (0 : Fin 5).val (ix2 r c) + portion h k d p (1 : Fin 5).val (ix2 r c) + portion h k d p (2 : Fin 5).val (ix2 r c)
    + portion h k d p (3 : Fin 5).val (ix2 r c) + portion h k d p (4 : Fin 5).val (ix2 r c) = _
  rw [portion_apply h k d r D hd hM p c hN 0, portion_apply h k d r D hd hM p c hN 1, portion_apply h k d r D hd hM p c hN 2,
    portion_apply h k d r D hd hM p c hN 3, portion_apply h k d r D hd hM p c hN 4]

end

theorem total_apart (hs : Summed R 3) (p : Vec Ideal (Cube 1 N 3) .f32) (w : Vec Ideal (Cube 1 R 3) .f32) (hM : ∀ r n, gap x y r n < big)
    (hN : 4 < N) (i : (Blk 1 1).Idx) :
    total hs (mulf (apart h k (gaps h x y) (allOf h p) (rowsOf h w)) (apart h k (gaps h x y) (allOf h p) (rowsOf h w))) i
      = ∑ r, ∑ c, (mix hN (gap x y r) (fun n => p (ix3 0 n c)) - w (ix3 0 r c)) * (mix hN (gap x y r) (fun n => p (ix3 0 n c)) - w (ix3 0 r c)) := by
  have e : ∀ r c, apart h k (gaps h x y) (allOf h p) (rowsOf h w) (ix2 r c) = mix hN (gap x y r) (fun n => p (ix3 0 n c)) - w (ix3 0 r c) := by
    intro r c
    show inter h k (gaps h x y) (allOf h p) (ix2 r c) - rowsOf h w (ix2 r c) = _
    rw [inter_apply h k _ r (gap x y r) (distOf_apply h x y r) (hM r) _ c hN, rowsOf_apply]
    simp only [allOf_apply]
  rw [total_apply]
  refine Finset.sum_congr rfl fun r _ => Finset.sum_congr rfl fun c _ => ?_
  show apart h k (gaps h x y) (allOf h p) (rowsOf h w) (ix2 r c) * apart h k (gaps h x y) (allOf h p) (rowsOf h w) (ix2 r c) = _
  rw [e]

end Cert.Body
-- ==== Proof.CrossKernel.lean ====
/- The kernel between the two clouds: what its body computes from its blocks, and the arrays its grid fills. -/
module

public import proofs.«01_k».proof.Proof.BodyCross
public import proofs.«01_k».proof.Proof.Grid
public import proofs.«01_k».proof.Proof.Gen.CrossIdeal.Value

@[expose] public section

noncomputable section

namespace Cert.CrossKernel

open Idealize.ShloMosaic Idealize.ShloMosaic.TcCoe Idealize.SL.Sem Cert.Rank Cert.Near
open Cert.CrossIdeal Cert.CrossIdeal.Gen

/-! ## The body -/

theorem shapes : Body.Shapes 256 4096 where
  sides := ⟨reduces_S256x4096_S256, shapeCasts_S256_S256x1, broadcasts_S256x1_S256x4096, by norm_num⟩
  rows := shapeCasts_S1x256x3_S256x3
  cols := shapeCasts_S1x3x4096_S3x4096
  all := shapeCasts_S1x4096x3_S4096x3
  back := shapeCasts_S256x3_S1x256x3
  r0 := slices_S256x3_o0_0_S256x1
  r1 := slices_S256x3_o0_1_S256x1
  r2 := slices_S256x3_o0_2_S256x1
  c0 := slices_S3x4096_o0_0_S1x4096
  c1 := slices_S3x4096_o1_0_S1x4096
  c2 := slices_S3x4096_o2_0_S1x4096
  down := broadcasts_S1x4096_S256x4096
  iota := iota_S256x4096_d1_w32

theorem crossed : Body.Crossed 256 4096 where
  wide := broadcasts_S256x1_S256x3
  red := reduces_S256x4096_S4096
  line := shapeCasts_S4096_S1x4096
  up := shapeCasts_S1x4096_S1x1x4096
  dn := shapeCasts_S1x1x4096_S1x4096

theorem summed1 : Body.Summed 256 1 := ⟨shapeCasts_S256x1_S1x256x1, reduces_S1x256x1_S1, shapeCasts_S1_S1x1x1, inpos_S1x1x1_p0_0_0⟩
theorem summed3 : Body.Summed 256 3 := ⟨shapeCasts_S256x3_S1x256x3, reduces_S1x256x3_S1, shapeCasts_S1_S1x1x1, inpos_S1x1x1_p0_0_0⟩
theorem summedN : Body.Summed 1 4096 := ⟨shapeCasts_S1x4096_S1x1x4096, reduces_S1x1x4096_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the two running sums: the rows' smallest distances, and the squares of the differences of curvature. -/
abbrev rowPart (x0 : Vec Ideal S1x256x3 .f32) (x1 : Vec Ideal S1x3x4096 .f32) : FVec Ideal S1x1 .f32 :=
  Body.total summed1 (Body.minRow shapes (Body.gaps shapes x0 x1))
abbrev curvPart (x0 : Vec Ideal S1x256x3 .f32) (x1 : Vec Ideal S1x3x4096 .f32) (x2 : Vec Ideal S1x4096x3 .f32) (x3 : Vec Ideal S1x256x3 .f32) : FVec Ideal S1x1 .f32 :=
  Body.total summed3 (mulf (Body.apart shapes crossed (Body.gaps shapes x0 x1) (Body.allOf shapes x2) (Body.rowsOf shapes x3))
    (Body.apart shapes crossed (Body.gaps shapes x0 x1) (Body.allOf shapes x2) (Body.rowsOf shapes x3)))
/-- At the last row block of a batch, the columns' smallest distances are added too. -/
abbrev colPart (z : Vec Ideal S1x1x4096 .f32) : FVec Ideal S1x1 .f32 :=
  Body.total summedN (shapeCast S1x4096 z crossed.dn : FVec Ideal S1x4096 .f32)
abbrev zero : FVec Ideal S1x1 .f32 := broadcast S1x1 (Scalar.ofBits .f32 0x00000000#32)

theorem pay1 (v : FVec Ideal S256x3 .f32) (x : Vec Ideal S1x1 .f32) : k0_pay1 v x = addf x (Body.total summed3 (mulf v v)) := by
  show addf (shapeCast S1x1 x shapeCasts_S1x1_S1x1 : FVec Ideal S1x1 .f32) _ = _
  rw [shapeCast_self]; rfl
theorem pay2 (x : Vec Ideal S1x1 .f32) (z : Vec Ideal S1x1x4096 .f32) : k0_pay2 x z = addf x (colPart z) := by
  show addf (shapeCast S1x1 x shapeCasts_S1x1_S1x1 : FVec Ideal S1x1 .f32) _ = _
  rw [shapeCast_self]; rfl
theorem pay35 (v : FVec Ideal S256x1 .f32) (x : Vec Ideal S1x1 .f32) : k0_pay35 v x = addf x (Body.total summed1 v) := by
  show addf (shapeCast S1x1 x shapeCasts_S1x1_S1x1 : FVec Ideal S1x1 .f32) _ = _
  rw [shapeCast_self]; rfl

section
variable (c : Dev nD) (i : grid0.Coords) (a2 : Memref sig .tc .vmem S1x256x3 .f32) (h2 : a2.IsWhole) (a3 : Memref sig .tc .vmem S1x3x4096 .f32) (h3 : a3.IsWhole) (a4 : Memref sig .tc .vmem S1x4096x3 .f32) (h4 : a4.IsWhole) (a5 : Memref sig .tc .vmem S1x256x3 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole)
    (x0 : Vec Ideal S1x256x3 .f32) (x1 : Vec Ideal S1x3x4096 .f32) (x2 : Vec Ideal S1x4096x3 .f32) (x3 : Vec Ideal S1x256x3 .f32)
    (xo4 : Vec Ideal S1x1x4096 .f32) (xo5 xo6 : Vec Ideal S1x1 .f32)

theorem col_A (hc0 : cond0_0 i) (hc1 : cond0_1 i) (hc2 : ¬cond0_2 i) (hc3 : ¬cond0_3 i) :
    out0_A_4 c i a2 h2 a3 h3 a4 h4 a5 h5 a6 h6 a7 h7 a8 h8 hc0 hc1 hc2 hc3 x0 x1 x2 x3 = Body.colFirst crossed (Body.gaps shapes x0 x1) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem col_D (hc0 : ¬cond0_0 i) (hc1 : cond0_1 i) (hc2 : ¬cond0_2 i) (hc3 : ¬cond0_3 i) :
    out0_D_4 c i a2 h2 a3 h3 a4 h4 a5 h5 a6 h6 a7 h7 a8 h8 hc0 hc1 hc2 hc3 x0 x1 x2 x3 xo5 xo6 = Body.colFirst crossed (Body.gaps shapes x0 x1) := by
  unfold out0_D_4
  rw [View.read_writes_eq_canon _ _ _ (cover0_D_4 c i a2 h2 a3 h3 a4 h4 a5 h5 a6 h6 a7 h7 a8 h8 hc0 hc1 hc2 hc3 x0 x1 x2 x3 xo5 xo6)]
  unfold kernelRun0_D
  dsimp only
  sl_unfold_words
  rw [View.canon_unit_zero hz]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem col_B (hc0 : ¬cond0_0 i) (hc1 : ¬cond0_1 i) (hc2 : cond0_2 i) (hc3 : ¬cond0_3 i) :
    out0_B_4 c i a2 h2 a3 h3 a4 h4 a5 h5 a6 h6 a7 h7 a8 h8 hc0 hc1 hc2 hc3 x0 x1 x2 x3 xo4 xo5 xo6 = Body.colNext crossed xo4 (Body.gaps shapes x0 x1) := by
  unfold out0_B_4
  rw [View.read_writes_eq_canon _ _ _ (cover0_B_4 c i a2 h2 a3 h3 a4 h4 a5 h5 a6 h6 a7 h7 a8 h8 hc0 hc1 hc2 hc3 x0 x1 x2 x3 xo4 xo5 xo6)]
  unfold kernelRun0_B
  dsimp only
  sl_unfold_words
  rw [View.canon_unit_zero hz]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem col_C (hc0 : ¬cond0_0 i) (hc1 : ¬cond0_1 i) (hc2 : cond0_2 i) (hc3 : cond0_3 i) :
    out0_C_4 c i a2 h2 a3 h3 a4 h4 a5 h5 a6 h6 a7 h7 a8 h8 hc0 hc1 hc2 hc3 x0 x1 x2 x3 xo4 xo5 xo6 = Body.colNext crossed xo4 (Body.gaps shapes x0 x1) := by
  unfold out0_C_4
  rw [View.read_writes_eq_canon _ _ _ (cover0_C_4 c i a2 h2 a3 h3 a4 h4 a5 h5 a6 h6 a7 h7 a8 h8 hc0 hc1 hc2 hc3 x0 x1 x2 x3 xo4 xo5 xo6)]
  unfold kernelRun0_C
  dsimp only
  sl_unfold_words
  rw [View.canon_unit_zero hz]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem cham_A (hc0 : cond0_0 i) (hc1 : cond0_1 i) (hc2 : ¬cond0_2 i) (hc3 : ¬cond0_3 i) :
    out0_A_5 c i a2 h2 a3 h3 a4 h4 a5 h5 a6 h6 a7 h7 a8 h8 hc0 hc1 hc2 hc3 x0 x1 x2 x3 = addf zero (rowPart x0 x1) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem cham_D (hc0 : ¬cond0_0 i) (hc1 : cond0_1 i) (hc2 : ¬cond0_2 i) (hc3 : ¬cond0_3 i) :
    out0_D_5 c i a2 h2 a3 h3 a4 h4 a5 h5 a6 h6 a7 h7 a8 h8 hc0 hc1 hc2 hc3 x0 x1 x2 x3 xo5 xo6 = addf xo5 (rowPart x0 x1) := by
  unfold out0_D_5
  rw [View.read_writes_eq_canon _ _ _ (cover0_D_5 c i a2 h2 a3 h3 a4 h4 a5 h5 a6 h6 a7 h7 a8 h8 hc0 hc1 hc2 hc3 x0 x1 x2 x3 xo5 xo6)]
  unfold kernelRun0_D
  dsimp only
  sl_unfold_words
  rw [View.canon_unit_zero hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem cham_B (hc0 : ¬cond0_0 i) (hc1 : ¬cond0_1 i) (hc2 : cond0_2 i) (hc3 : ¬cond0_3 i) :
    out0_B_5 c i a2 h2 a3 h3 a4 h4 a5 h5 a6 h6 a7 h7 a8 h8 hc0 hc1 hc2 hc3 x0 x1 x2 x3 xo4 xo5 xo6 = addf xo5 (rowPart x0 x1) := by
  unfold out0_B_5
  rw [View.read_writes_eq_canon _ _ _ (cover0_B_5 c i a2 h2 a3 h3 a4 h4 a5 h5 a6 h6 a7 h7 a8 h8 hc0 hc1 hc2 hc3 x0 x1 x2 x3 xo4 xo5 xo6)]
  unfold kernelRun0_B
  dsimp only
  sl_unfold_words
  rw [View.canon_unit_zero hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem cham_C (hc0 : ¬cond0_0 i) (hc1 : ¬cond0_1 i) (hc2 : cond0_2 i) (hc3 : cond0_3 i) :
    out0_C_5 c i a2 h2 a3 h3 a4 h4 a5 h5 a6 h6 a7 h7 a8 h8 hc0 hc1 hc2 hc3 x0 x1 x2 x3 xo4 xo5 xo6 = addf (addf xo5 (rowPart x0 x1)) (colPart (Body.colNext crossed xo4 (Body.gaps shapes x0 x1))) := by
  unfold out0_C_5
  rw [View.read_writes_eq_canon _ _ _ (cover0_C_5 c i a2 h2 a3 h3 a4 h4 a5 h5 a6 h6 a7 h7 a8 h8 hc0 hc1 hc2 hc3 x0 x1 x2 x3 xo4 xo5 xo6)]
  unfold kernelRun0_C
  dsimp only
  sl_unfold_words
  rw [View.canon_cons_unit_zero (S := S1x1) hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem curv_A (hc0 : cond0_0 i) (hc1 : cond0_1 i) (hc2 : ¬cond0_2 i) (hc3 : ¬cond0_3 i) :
    out0_A_6 c i a2 h2 a3 h3 a4 h4 a5 h5 a6 h6 a7 h7 a8 h8 hc0 hc1 hc2 hc3 x0 x1 x2 x3 = addf zero (curvPart x0 x1 x2 x3) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem curv_D (hc0 : ¬cond0_0 i) (hc1 : cond0_1 i) (hc2 : ¬cond0_2 i) (hc3 : ¬cond0_3 i) :
    out0_D_6 c i a2 h2 a3 h3 a4 h4 a5 h5 a6 h6 a7 h7 a8 h8 hc0 hc1 hc2 hc3 x0 x1 x2 x3 xo5 xo6 = addf xo6 (curvPart x0 x1 x2 x3) := by
  unfold out0_D_6
  rw [View.read_writes_eq_canon _ _ _ (cover0_D_6 c i a2 h2 a3 h3 a4 h4 a5 h5 a6 h6 a7 h7 a8 h8 hc0 hc1 hc2 hc3 x0 x1 x2 x3 xo5 xo6)]
  unfold kernelRun0_D
  dsimp only
  sl_unfold_words
  rw [View.canon_unit_zero hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem curv_B (hc0 : ¬cond0_0 i) (hc1 : ¬cond0_1 i) (hc2 : cond0_2 i) (hc3 : ¬cond0_3 i) :
    out0_B_6 c i a2 h2 a3 h3 a4 h4 a5 h5 a6 h6 a7 h7 a8 h8 hc0 hc1 hc2 hc3 x0 x1 x2 x3 xo4 xo5 xo6 = addf xo6 (curvPart x0 x1 x2 x3) := by
  unfold out0_B_6
  rw [View.read_writes_eq_canon _ _ _ (cover0_B_6 c i a2 h2 a3 h3 a4 h4 a5 h5 a6 h6 a7 h7 a8 h8 hc0 hc1 hc2 hc3 x0 x1 x2 x3 xo4 xo5 xo6)]
  unfold kernelRun0_B
  dsimp only
  sl_unfold_words
  rw [View.canon_unit_zero hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

theorem curv_C (hc0 : ¬cond0_0 i) (hc1 : ¬cond0_1 i) (hc2 : cond0_2 i) (hc3 : cond0_3 i) :
    out0_C_6 c i a2 h2 a3 h3 a4 h4 a5 h5 a6 h6 a7 h7 a8 h8 hc0 hc1 hc2 hc3 x0 x1 x2 x3 xo4 xo5 xo6 = addf xo6 (curvPart x0 x1 x2 x3) := by
  unfold out0_C_6
  rw [View.read_writes_eq_canon _ _ _ (cover0_C_6 c i a2 h2 a3 h3 a4 h4 a5 h5 a6 h6 a7 h7 a8 h8 hc0 hc1 hc2 hc3 x0 x1 x2 x3 xo4 xo5 xo6)]
  unfold kernelRun0_C
  dsimp only
  sl_unfold_words
  rw [View.canon_unit_zero hz2]
  simp only [View.readAt_eq_ld, View.readCov_unit_zero (S := S1x1) _ hz2, View.readCov_unit_zero (S := S1x1x4096) _ hz, h2.read_unread, h3.read_unread, h4.read_unread, h5.read_unread, h6.read_unread, h7.read_unread, h8.read_unread,
    View.ld_unit_zero (S := S1x1) hz2, View.ld_unit_zero (S := S1x1x4096) hz, View.ld_unit_zero (S := S1x256x3) hz, View.ld_unit_zero (S := S1x3x4096) hz, View.ld_unit_zero (S := S1x4096x3) hz, pay1, pay2, pay35]
  rfl

end

/-! ## The blocks -/

abbrev bat (t : Fin cfg0.N) : Fin 2 := Grid.bat 16 t
abbrev row (t : Fin cfg0.N) (r : Fin 256) : Fin 4096 := Grid.row (K := 16) (R := 256) rfl t r

theorem index0 : ∀ t : Fin cfg0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0)
    ∧ (win0_4.index t 0 = t.val / 16 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0)
    ∧ (win0_4.index t 0 = t.val / 16 ∧ win0_4.index t 1 = 0 ∧ win0_4.index t 2 = 0)
    ∧ (win0_5.index t 0 = 0 ∧ win0_5.index t 1 = 0)
    ∧ (win0_6.index t 0 = 0 ∧ win0_6.index t 1 = 0))

variable (m : (ℓ : Loc nD τ sig) → Buf (Elt Ideal) ℓ) (c : Dev nD)

/-- The clouds a device is given, the moved first cloud, and the curvatures. -/
abbrev cloud : Cloud 4096 := m ((c : Thread nD τ).loc main_arg0)
abbrev flow : Cloud 4096 := m ((c : Thread nD τ).loc main_arg1)
abbrev target : Cloud 4096 := m ((c : Thread nD τ).loc main_arg2)
abbrev curv : S2x4096x3.Idx → EReal := m ((c : Thread nD τ).loc main_arg3)
abbrev moved : S2x4096x3.Idx → EReal := m ((c : Thread nD τ).loc main_arg4)
abbrev warped : Cloud 4096 := fun i => cloud m c i + flow m c i

theorem V_warped (b : Fin 2) (n : Fin 4096) (k : Fin 3) : V m c main_v2 (ix3 b n k) = warped m c (ix3 b k n) := by
  have h : V m c main_v2 = addf (transpose S2x4096x3 [0, 2, 1] (cloud m c) transposes_S2x3x4096_S2x4096x3_0_2_1 : FVec Ideal S2x4096x3 .f32)
    (transpose S2x4096x3 [0, 2, 1] (flow m c) transposes_S2x3x4096_S2x4096x3_0_2_1) := rfl
  rw [h]
  pointwise

theorem iblk0 (t : Fin cfg0.N) (r : Fin 256) (k : Fin 3) : iblk m c 0 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨⟨e0, e1, e2⟩, -⟩ := index0 t
  match a with
  | ⟨0, _⟩ => show win0_0.index t 0 * 1 + 1 * 0 = t.val / 16; omega
  | ⟨1, _⟩ => show win0_0.index t 1 * 256 + 1 * r.val = t.val % 16 * 256 + r.val; omega
  | ⟨2, _⟩ => show win0_0.index t 2 * 3 + 1 * k.val = k.val; omega

theorem iblk1 (t : Fin cfg0.N) (k : Fin 3) (n : Fin 4096) : iblk m c 1 t (ix3 0 k n) = target m c (ix3 (bat t) k n) := by
  unfold iblk
  rw [View.read_apply]
  refine Eq.trans ?_ (congrFun (V_main_arg2 m c) (ix3 (bat t) k n))
  refine congrArg (V m c main_arg2) (funext fun a => Fin.ext ?_)
  obtain ⟨-, ⟨e0, e1, e2⟩, -⟩ := index0 t
  match a with
  | ⟨0, _⟩ => show win0_1.index t 0 * 1 + 1 * 0 = t.val / 16; omega
  | ⟨1, _⟩ => show win0_1.index t 1 * 3 + 1 * k.val = k.val; omega
  | ⟨2, _⟩ => show win0_1.index t 2 * 4096 + 1 * n.val = n.val; omega

theorem iblk2 (t : Fin cfg0.N) (n : Fin 4096) (k : Fin 3) : iblk m c 2 t (ix3 0 n k) = curv m c (ix3 (bat t) n k) := by
  unfold iblk
  rw [View.read_apply]
  refine Eq.trans ?_ (congrFun (V_main_arg3 m c) (ix3 (bat t) n k))
  refine congrArg (V m c main_arg3) (funext fun a => Fin.ext ?_)
  obtain ⟨-, -, ⟨e0, e1, e2⟩, -⟩ := index0 t
  match a with
  | ⟨0, _⟩ => show win0_2.index t 0 * 1 + 1 * 0 = t.val / 16; omega
  | ⟨1, _⟩ => show win0_2.index t 1 * 4096 + 1 * n.val = n.val; omega
  | ⟨2, _⟩ => show win0_2.index t 2 * 3 + 1 * k.val = k.val; omega

theorem iblk3 (t : Fin cfg0.N) (r : Fin 256) (k : Fin 3) : iblk m c 3 t (ix3 0 r k) = moved m c (ix3 (bat t) (row t r) k) := by
  unfold iblk
  rw [View.read_apply]
  refine Eq.trans ?_ (congrFun (V_main_arg4 m c) (ix3 (bat t) (row t r) k))
  refine congrArg (V m c main_arg4) (funext fun a => Fin.ext ?_)
  obtain ⟨-, -, -, ⟨e0, e1, e2⟩, -⟩ := index0 t
  match a with
  | ⟨0, _⟩ => show win0_3.index t 0 * 1 + 1 * 0 = t.val / 16; omega
  | ⟨1, _⟩ => show win0_3.index t 1 * 256 + 1 * r.val = t.val % 16 * 256 + r.val; omega
  | ⟨2, _⟩ => show win0_3.index t 2 * 3 + 1 * k.val = k.val; omega

theorem gap_eq (t : Fin cfg0.N) (r : Fin 256) : Body.gap (iblk m c 0 t) (iblk m c 1 t) r = dist (warped m c) (target m c) (bat t) (row t r) := by
  funext n
  unfold Body.gap
  simp only [iblk0, iblk1]
  rfl

/-! ## The smallest distance of every column -/

/-- The block's columns, over its own rows alone. -/
theorem part4 (t : Fin cfg0.N) (n : Fin 4096) :
    (least fun r => Body.gap (iblk m c 0 t) (iblk m c 1 t) r n) = least fun r => dist (warped m c) (target m c) (bat t) (row t r) n :=
  congrArg least (funext fun r => congrFun (gap_eq m c t r) n)

theorem outs_first (t : Fin cfg0.N) (h1 : t.val % 16 = 0) :
    (outsAt0 m c t.val t.isLt).1 = Body.colFirst crossed (Body.gaps shapes (iblk m c 0 t) (iblk m c 1 t)) := by
  by_cases h0 : t.val % 32 = 0
  · rw [outsAt0_A m c t h0 h1 (by omega) (by omega)]; dsimp only; rw [col_A]
  · rw [outsAt0_D m c t h0 h1 (by omega) (by omega)]; dsimp only; rw [col_D]

theorem outs_next (t : Fin cfg0.N) (h1 : ¬t.val % 16 = 0) :
    (outsAt0 m c t.val t.isLt).1 = Body.colNext crossed (outsAt0 m c (t.val - 1) (Nat.lt_of_le_of_lt (Nat.sub_le _ _) t.isLt)).1
      (Body.gaps shapes (iblk m c 0 t) (iblk m c 1 t)) := by
  by_cases h3 : t.val % 16 = 15
  · rw [outsAt0_C m c t (by omega) h1 (by omega) h3]; dsimp only; rw [col_C]
  · rw [outsAt0_B m c t (by omega) h1 (by omega) h3]; dsimp only; rw [col_B]

/-- The smallest distance of column `n`. -/
def colMin (b : Fin 2) (n : Fin 4096) : EReal := least fun r => dist (warped m c) (target m c) b r n

theorem outs_last (t : Fin cfg0.N) (h3 : t.val % 16 = 15) (n : Fin 4096) :
    ((outsAt0 m c t.val t.isLt).1 : Vec Ideal S1x1x4096 .f32) (ix3 0 0 n) = colMin m c (bat t) n := by
  refine Grid.least_grid (K := 16) (R := 256) rfl (fun b r => dist (warped m c) (target m c) b r n)
    (fun t : Fin cfg0.N => ((outsAt0 m c t.val t.isLt).1 : Vec Ideal S1x1x4096 .f32) (ix3 0 0 n)) (fun t h => ?_) (fun t h => ?_) t h3
  · exact (congrFun (outs_first m c t h) (ix3 0 0 n)).trans ((Body.colFirst_apply shapes crossed _ _ n).trans (part4 m c t n))
  · exact (congrFun (outs_next m c t h) (ix3 0 0 n)).trans ((Body.colNext_apply shapes crossed _ _ _ n).trans (congrArg _ (part4 m c t n)))

/-- The smallest distances of all columns. -/
def resultCol : S2x1x4096.Idx → EReal := fun i => colMin m c (i 0) (i 2)

theorem flushed4_eq (t : Fin cfg0.N) (hf : (cfg0.win 4).flush t = true) :
    (dats m 0 c).flushed 4 t = ((cfg0.win 4).blk t).view.read (Elt Ideal) (resultCol m c) := by
  rw [Value.flushed4]
  funext j
  obtain ⟨n, rfl⟩ : ∃ n : Fin 4096, j = ix3 0 0 n := by
    refine ⟨j 2, funext fun a => ?_⟩
    match a with
    | ⟨0, _⟩ => exact Subsingleton.elim (α := Fin 1) _ _
    | ⟨1, _⟩ => exact Subsingleton.elim (α := Fin 1) _ _
    | ⟨2, _⟩ => rfl
  refine (outs_last m c t ((flush0_4 t).mp hf) n).trans ?_
  rw [View.read_apply]
  refine congrArg (resultCol m c) (a₁ := ix3 (bat t) 0 n) (funext fun a => Fin.ext ?_)
  obtain ⟨-, -, -, -, ⟨e0, e1, e2⟩, -⟩ := index0 t
  match a with
  | ⟨0, _⟩ => show t.val / 16 = win0_4.index t 0 * 1 + 1 * 0; omega
  | ⟨1, _⟩ => show 0 = win0_4.index t 1 * 1 + 1 * 0; omega
  | ⟨2, _⟩ => show n.val = win0_4.index t 2 * 4096 + 1 * n.val; omega

theorem cover4 (i : S2x1x4096.Idx) : ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 4096 := (i 2).isLt
  have ht : (i 0 : Nat) * 16 + 15 < cfg0.N := by show _ < 32; omega
  refine ⟨⟨_, ht⟩, (flush0_4 _).mpr (by dsimp only; omega), ?_⟩
  show i ∈ ((View.whole main_v3_0).slice (win0_4.rect ⟨_, ht⟩)).set
  rw [View.set_slice_whole, Rect.mem_set_unit]
  obtain ⟨-, -, -, -, ⟨e0, e1, e2⟩, -⟩ := index0 ⟨_, ht⟩
  intro a
  match a with
  | ⟨0, _⟩ => show win0_4.index ⟨_, ht⟩ 0 * 1 ≤ (i 0 : Nat) ∧ (i 0 : Nat) < win0_4.index ⟨_, ht⟩ 0 * 1 + 1
              rw [e0]; dsimp only; omega
  | ⟨1, _⟩ => show win0_4.index ⟨_, ht⟩ 1 * 1 ≤ (i 1 : Nat) ∧ (i 1 : Nat) < win0_4.index ⟨_, ht⟩ 1 * 1 + 1
              rw [e1]; omega
  | ⟨2, _⟩ => show win0_4.index ⟨_, ht⟩ 2 * 4096 ≤ (i 2 : Nat) ∧ (i 2 : Nat) < win0_4.index ⟨_, ht⟩ 2 * 4096 + 4096
              rw [e2]; omega

theorem final4 : (dats m 0 c).arrAt 4 cfg0.N = resultCol m c :=
  (dats m 0 c).arrAt_eq_of_cover 4 (resultCol m c) (flushed4_eq m c) cover4

/-! ## The two sums -/

/-- The smallest distance of row `r`. -/
def rowMin (b : Fin 2) (r : Fin 4096) : EReal := least (dist (warped m c) (target m c) b r)

/-- What grid point `t` adds to the sum of smallest distances. -/
def adds (t : Fin cfg0.N) : EReal :=
  (∑ r, rowMin m c (bat t) (row t r)) + if t.val % 16 = 15 then ∑ n, colMin m c (bat t) n else 0

theorem rowPart_apply (t : Fin cfg0.N) (i : S1x1.Idx) : rowPart (iblk m c 0 t) (iblk m c 1 t) i = ∑ r, rowMin m c (bat t) (row t r) := by
  refine (Body.total_minRow shapes (iblk m c 0 t) (iblk m c 1 t) summed1 i).trans ?_
  simp only [gap_eq]
  rfl

theorem colPart_apply (z : Vec Ideal S1x1x4096 .f32) (i : S1x1.Idx) : colPart z i = ∑ n, z (ix3 0 0 n) :=
  Body.total_line crossed summedN z i

theorem sum_last (t : Fin cfg0.N) (h3 : t.val % 16 = 15) :
    ∑ n, ((outsAt0 m c t.val t.isLt).1 : Vec Ideal S1x1x4096 .f32) (ix3 0 0 n) = ∑ n, colMin m c (bat t) n :=
  Finset.sum_congr rfl fun n _ => outs_last m c t h3 n

theorem add_at (a b : FVec Ideal S1x1 .f32) (i : S1x1.Idx) : addf a b i = a i + b i := rfl

theorem zero_apply (i : S1x1.Idx) : zero i = 0 := by
  show Ideal.ofBits .f32 0x00000000#32 = 0
  simp [Ideal.ofBits, Ideal.ieee]

theorem cham_first (t : Fin cfg0.N) (h0 : t.val % 32 = 0) :
    (outsAt0 m c t.val t.isLt).2.1 = addf zero (rowPart (iblk m c 0 t) (iblk m c 1 t)) := by
  rw [outsAt0_A m c t h0 (by omega) (by omega) (by omega)]; dsimp only; rw [cham_A]

theorem cham_next (t : Fin cfg0.N) (h0 : ¬t.val % 32 = 0) (h3 : ¬t.val % 16 = 15) : (outsAt0 m c t.val t.isLt).2.1
    = addf (outsAt0 m c (t.val - 1) (Nat.lt_of_le_of_lt (Nat.sub_le _ _) t.isLt)).2.1 (rowPart (iblk m c 0 t) (iblk m c 1 t)) := by
  by_cases h1 : t.val % 16 = 0
  · rw [outsAt0_D m c t h0 h1 (by omega) h3]; dsimp only; rw [cham_D]
  · rw [outsAt0_B m c t h0 h1 (by omega) h3]; dsimp only; rw [cham_B]

theorem cham_last (t : Fin cfg0.N) (h3 : t.val % 16 = 15) : (outsAt0 m c t.val t.isLt).2.1
    = addf (addf (outsAt0 m c (t.val - 1) (Nat.lt_of_le_of_lt (Nat.sub_le _ _) t.isLt)).2.1 (rowPart (iblk m c 0 t) (iblk m c 1 t)))
        (colPart (outsAt0 m c t.val t.isLt).1) := by
  rw [outs_next m c t (by omega), outsAt0_C m c t (by omega) (by omega) (by omega) h3]; dsimp only; rw [cham_C]

/-- The running sum of smallest distances after the last grid point. -/
theorem cham_acc (t : Fin cfg0.N) (ht : t.val = 31) (i : S1x1.Idx) :
    ((outsAt0 m c t.val t.isLt).2.1 : Vec Ideal S1x1 .f32) i = ∑ t : Fin cfg0.N, adds m c t := by
  refine Grid.summed (T := cfg0.N) (adds m c) (fun t => ((outsAt0 m c t.val t.isLt).2.1 : Vec Ideal S1x1 .f32) i) (fun t h => ?_) (fun t h => ?_) t
    (by rw [ht]; rfl)
  · refine (congrFun (cham_first m c t (by omega)) i).trans ?_
    rw [add_at, zero_apply, rowPart_apply, zero_add]
    unfold adds
    rw [if_neg (by omega), add_zero]
  · have hl : t.val < 32 := t.isLt
    unfold adds
    by_cases h3 : t.val % 16 = 15
    · refine (congrFun (cham_last m c t h3) i).trans ?_
      rw [if_pos h3, add_at, add_at, rowPart_apply, add_assoc]
      rw [colPart_apply, sum_last m c t h3]
    · refine (congrFun (cham_next m c t (by omega) h3) i).trans ?_
      rw [if_neg h3, add_zero, add_at, rowPart_apply]

/-- Over both clouds, the smallest distances of rows and of columns. -/
theorem sum_adds : ∑ t : Fin cfg0.N, adds m c t = (∑ b, ∑ r, rowMin m c b r) + ∑ b, ∑ n, colMin m c b n := by
  unfold adds
  rw [Finset.sum_add_distrib]
  exact congrArg₂ _ (Grid.sum_grid (K := 16) (R := 256) rfl (rowMin m c)) (Grid.sum_last (K := 16) (by norm_num) fun b => ∑ n, colMin m c b n)

/-- The interpolated curvature at point `r` less the moved one, coordinate `k`. -/
def off (b : Fin 2) (r : Fin 4096) (k : Fin 3) : EReal :=
  mix (by norm_num) (dist (warped m c) (target m c) b r) (fun n => curv m c (ix3 b n k)) - moved m c (ix3 b r k)

section
variable (hM : ∀ b r n, dist (warped m c) (target m c) b r n < big)
include hM

theorem curvPart_apply (t : Fin cfg0.N) (i : S1x1.Idx) : curvPart (iblk m c 0 t) (iblk m c 1 t) (iblk m c 2 t) (iblk m c 3 t) i
    = ∑ r, ∑ k, off m c (bat t) (row t r) k * off m c (bat t) (row t r) k := by
  refine (Body.total_apart shapes crossed (iblk m c 0 t) (iblk m c 1 t) summed3 (iblk m c 2 t) (iblk m c 3 t)
    (fun r n => by rw [gap_eq]; exact hM _ _ _) (by norm_num) i).trans ?_
  simp only [gap_eq, iblk2, iblk3]
  rfl

omit hM in
theorem curv_first (t : Fin cfg0.N) (h0 : t.val % 32 = 0) :
    (outsAt0 m c t.val t.isLt).2.2 = addf zero (curvPart (iblk m c 0 t) (iblk m c 1 t) (iblk m c 2 t) (iblk m c 3 t)) := by
  rw [outsAt0_A m c t h0 (by omega) (by omega) (by omega)]; dsimp only; rw [curv_A]

omit hM in
theorem curv_next (t : Fin cfg0.N) (h0 : ¬t.val % 32 = 0) : (outsAt0 m c t.val t.isLt).2.2
    = addf (outsAt0 m c (t.val - 1) (Nat.lt_of_le_of_lt (Nat.sub_le _ _) t.isLt)).2.2 (curvPart (iblk m c 0 t) (iblk m c 1 t) (iblk m c 2 t) (iblk m c 3 t)) := by
  by_cases h1 : t.val % 16 = 0
  · rw [outsAt0_D m c t h0 h1 (by omega) (by omega)]; dsimp only; rw [curv_D]
  · by_cases h3 : t.val % 16 = 15
    · rw [outsAt0_C m c t h0 h1 (by omega) h3]; dsimp only; rw [curv_C]
    · rw [outsAt0_B m c t h0 h1 (by omega) h3]; dsimp only; rw [curv_B]

/-- The running sum of squares after the last grid point. -/
theorem curv_acc (t : Fin cfg0.N) (ht : t.val = 31) (i : S1x1.Idx) :
    ((outsAt0 m c t.val t.isLt).2.2 : Vec Ideal S1x1 .f32) i = ∑ b, ∑ r, ∑ k, off m c b r k * off m c b r k := by
  refine (Grid.summed (T := cfg0.N) (fun t => ∑ r, ∑ k, off m c (bat t) (row t r) k * off m c (bat t) (row t r) k)
    (fun t => ((outsAt0 m c t.val t.isLt).2.2 : Vec Ideal S1x1 .f32) i) (fun t h => ?_) (fun t h => ?_) t (by rw [ht]; rfl)).trans
      (Grid.sum_grid (K := 16) (R := 256) rfl fun b r => ∑ k, off m c b r k * off m c b r k)
  · refine (congrFun (curv_first m c t (by omega)) i).trans ?_
    rw [add_at, zero_apply, curvPart_apply m c hM, zero_add]
  · have hl : t.val < 32 := t.isLt
    refine (congrFun (curv_next m c t (by omega)) i).trans ?_
    rw [add_at, curvPart_apply m c hM]
end

/-- The two sums as arrays. -/
abbrev resultCham : S1x1.Idx → EReal := fun _ => (∑ b, ∑ r, rowMin m c b r) + ∑ b, ∑ n, colMin m c b n
abbrev resultCurv : S1x1.Idx → EReal := fun _ => ∑ b, ∑ r, ∑ k, off m c b r k * off m c b r k

theorem flushed5_eq (t : Fin cfg0.N) (hf : (cfg0.win 5).flush t = true) :
    (dats m 0 c).flushed 5 t = ((cfg0.win 5).blk t).view.read (Elt Ideal) (resultCham m c) := by
  have ht : t.val = 31 := by have := (flush0_5 t).mp hf; have : t.val < 32 := t.isLt; omega
  rw [Value.flushed5]
  funext j
  exact (cham_acc m c t ht j).trans (sum_adds m c)

theorem cover5 (i : S1x1.Idx) : ∃ t : Fin cfg0.N, (cfg0.win 5).flush t = true ∧ i ∈ ((cfg0.win 5).blk t).view.set := by
  have hT : 31 < cfg0.N := by decide
  refine ⟨⟨31, hT⟩, (flush0_5 _).mpr rfl, ?_⟩
  show i ∈ ((View.whole main_v3_1).slice (win0_5.rect ⟨31, hT⟩)).set
  rw [View.set_slice_whole, Rect.mem_set_unit]
  obtain ⟨-, -, -, -, -, ⟨e0, e1⟩, -⟩ := index0 ⟨31, hT⟩
  have h0 : (i 0 : Nat) < 1 := (i 0).isLt
  have h1 : (i 1 : Nat) < 1 := (i 1).isLt
  intro a
  match a with
  | ⟨0, _⟩ => show win0_5.index ⟨31, hT⟩ 0 * 1 ≤ (i 0 : Nat) ∧ (i 0 : Nat) < win0_5.index ⟨31, hT⟩ 0 * 1 + 1
              rw [e0]; omega
  | ⟨1, _⟩ => show win0_5.index ⟨31, hT⟩ 1 * 1 ≤ (i 1 : Nat) ∧ (i 1 : Nat) < win0_5.index ⟨31, hT⟩ 1 * 1 + 1
              rw [e1]; omega

theorem final5 : (dats m 0 c).arrAt 5 cfg0.N = resultCham m c :=
  (dats m 0 c).arrAt_eq_of_cover 5 (resultCham m c) (flushed5_eq m c) cover5

theorem flushed6_eq (hM : ∀ b r n, dist (warped m c) (target m c) b r n < big) (t : Fin cfg0.N) (hf : (cfg0.win 6).flush t = true) :
    (dats m 0 c).flushed 6 t = ((cfg0.win 6).blk t).view.read (Elt Ideal) (resultCurv m c) := by
  have ht : t.val = 31 := by have := (flush0_6 t).mp hf; have : t.val < 32 := t.isLt; omega
  rw [Value.flushed6]
  funext j
  exact curv_acc m c hM t ht j

theorem cover6 (i : S1x1.Idx) : ∃ t : Fin cfg0.N, (cfg0.win 6).flush t = true ∧ i ∈ ((cfg0.win 6).blk t).view.set := by
  have hT : 31 < cfg0.N := by decide
  refine ⟨⟨31, hT⟩, (flush0_6 _).mpr rfl, ?_⟩
  show i ∈ ((View.whole main_v3_2).slice (win0_6.rect ⟨31, hT⟩)).set
  rw [View.set_slice_whole, Rect.mem_set_unit]
  obtain ⟨-, -, -, -, -, -, e0, e1⟩ := index0 ⟨31, hT⟩
  have h0 : (i 0 : Nat) < 1 := (i 0).isLt
  have h1 : (i 1 : Nat) < 1 := (i 1).isLt
  intro a
  match a with
  | ⟨0, _⟩ => show win0_6.index ⟨31, hT⟩ 0 * 1 ≤ (i 0 : Nat) ∧ (i 0 : Nat) < win0_6.index ⟨31, hT⟩ 0 * 1 + 1
              rw [e0]; omega
  | ⟨1, _⟩ => show win0_6.index ⟨31, hT⟩ 1 * 1 ≤ (i 1 : Nat) ∧ (i 1 : Nat) < win0_6.index ⟨31, hT⟩ 1 * 1 + 1
              rw [e1]; omega

theorem final6 (hM : ∀ b r n, dist (warped m c) (target m c) b r n < big) : (dats m 0 c).arrAt 6 cfg0.N = resultCurv m c :=
  (dats m 0 c).arrAt_eq_of_cover 6 (resultCurv m c) (flushed6_eq m c hM) cover6

end Cert.CrossKernel
-- ==== Proof.CrossRef.lean ====
/- The reference between the two clouds read at an index. -/
module

public import proofs.«01_k».proof.Proof.Near
public import proofs.«01_k».proof.Proof.HostReads
public import proofs.«01_k».proof.Proof.Gen.CrossRefIdeal.Read

@[expose] public section

noncomputable section

namespace Cert.CrossRef

open Idealize.ShloMosaic Cert.Rank Cert.Near Cert.HostReads
open Cert.CrossRefIdeal Cert.CrossRefIdeal.Gen Cert.CrossRefIdeal.Read

theorem takeSides : TakeSides 2 4096 4096 5 3 where
  b0 := bcast_S_S2x4096x5
  b1 := bcast_S2x4096x5_S2x4096x5x1_0_1_2
  b2 := bcast_S_S2x4096x5x1
  b3 := bcast_S1_S1x1x1x1_3
  b4 := bcast_S1x1x1x1_S2x4096x5x1_0_1_2_3
  red := reducesTo_S2x4096x5x1_S2x4096x5_d3
  pos := by decide
  b5 := by decide
  b6 := by decide
  wf := gather_S2x4096x3_S2x4096x5x1_S2x4096x5x3_3_1_0_0_1_3_113.wf
  small := by norm_num

variable (x f y : Cloud 4096) (p w : S2x4096x3.Idx → EReal)

abbrev warped : Cloud 4096 := fun i => x i + f i

theorem dist_first (b : Fin 2) (r n : Fin 4096) : val_main_v15 (F := Ideal) x f y (ix3 b r n) = dist (warped x f) y b r n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rw [cm2]
  rfl

theorem dist_second (b : Fin 2) (r n : Fin 4096) : val_main_v37 (F := Ideal) x f y (ix3 b r n) = dist (warped x f) y b r n := by
  pointwise [val_main_v37, val_main_v36, val_main_v35, val_main_v34, val_main_v33, val_main_v32, val_main_v31, val_main_v30, val_main_v29, val_main_v28,
    val_main_v27, val_main_v26, val_main_v25, val_main_v24, val_main_v23, val_main_v0, val_main_cst_8, val_main_cst_9, val_main_cst_10]
  rw [cm2]
  rfl

theorem top : Ideal.ofBits .f32 0x7F800000#32 = (⊤ : EReal) := by simp [Ideal.ofBits, Ideal.ieee]

theorem rowMin_apply (b : Fin 2) (r : Fin 4096) : val_main_v16 (F := Ideal) x f y (ix2 b r) = least (dist (warped x f) y b r) := by
  have e : (fun n => val_main_v15 (F := Ideal) x f y (ix3 b r n)) = dist (warped x f) y b r := funext fun n => dist_first x f y b r n
  pointwise [val_main_v16, val_main_cst_2]
  unfold least
  rw [top, e]

theorem colMin_apply (b : Fin 2) (n : Fin 4096) : val_main_v17 (F := Ideal) x f y (ix2 b n) = least fun r => dist (warped x f) y b r n := by
  have e : (fun r => val_main_v15 (F := Ideal) x f y (ix3 b r n)) = fun r => dist (warped x f) y b r n := funext fun r => dist_first x f y b r n
  pointwise [val_main_v17, val_main_cst_3]
  unfold least
  rw [top, e]

theorem col_apply (b : Fin 2) (n : Fin 4096) : val_main_v62 (F := Ideal) x f y (ix3 b 0 n) = least fun r => dist (warped x f) y b r n := by
  refine Eq.trans ?_ (colMin_apply x f y b n)
  pointwise [val_main_v62]

theorem rows_apply (i : S_.Idx) : val_main_v19 (F := Ideal) x f y i = ∑ b, ∑ r, val_main_v16 (F := Ideal) x f y (ix2 b r) := by
  pointwise [val_main_v19, val_main_v18, val_main_cst_4, val_main_cst_5]

theorem cols_apply (i : S_.Idx) : val_main_v21 (F := Ideal) x f y i = ∑ b, ∑ n, val_main_v17 (F := Ideal) x f y (ix2 b n) := by
  pointwise [val_main_v21, val_main_v20, val_main_cst_6, val_main_cst_7]

/-- A single value as an array [1, 1]. -/
theorem scalar_apply (z : S_.Idx → EReal) (h : S_.ShapeCasts S1x1) (i : S1x1.Idx) : shapeCast S1x1 z h i = z ix0 :=
  shapeCast_apply z h i ix0 (by
    have h0 : (i 0 : Nat) < 1 := (i 0).isLt
    have h1 : (i 1 : Nat) < 1 := (i 1).isLt
    rw [Shape.rowMajor_val_two]
    show 0 = (i 0 : Nat) * 1 + (i 1 : Nat)
    omega)

theorem both_apply (i : S1x1.Idx) :
    val_main_v63 (F := Ideal) x f y i = val_main_v19 (F := Ideal) x f y ix0 + val_main_v21 (F := Ideal) x f y ix0 := by
  unfold val_main_v63
  rw [scalar_apply, val_main_v22_apply]
  generalize val_main_v19 (F := Ideal) x f y ix0 = u
  generalize val_main_v21 (F := Ideal) x f y ix0 = v
  rfl

theorem cham_apply (i : S1x1.Idx) : val_main_v63 (F := Ideal) x f y i
    = (∑ b, ∑ r, least (dist (warped x f) y b r)) + ∑ b, ∑ n, least fun r => dist (warped x f) y b r n := by
  refine (both_apply x f y i).trans (congrArg₂ (· + ·) ((rows_apply x f y ix0).trans ?_) ((cols_apply x f y ix0).trans ?_))
  · exact Finset.sum_congr rfl fun b _ => Finset.sum_congr rfl fun r _ => rowMin_apply x f y b r
  · exact Finset.sum_congr rfl fun b _ => Finset.sum_congr rfl fun n _ => colMin_apply x f y b n

theorem weight_apply (b : Fin 2) (r : Fin 4096) (t : Fin 5) :
    val_main_v44 (F := Ideal) x f y (ix3 b r t) = weight (dist (warped x f) y b r (nth (dist (warped x f) y b r) (Fin.castLE (by norm_num) t))) := by
  have hv := topK_values (by norm_num) (val_main_v37 (F := Ideal) x f y) sliceFits_S2x4096x4096_S2x4096x5 b r t
  rw [show (fun j => val_main_v37 (F := Ideal) x f y (ix3 b r j)) = dist (warped x f) y b r from funext fun j => dist_second x f y b r j, dist_second] at hv
  have e : val_main_v44 (F := Ideal) x f y (ix3 b r t) = weight (-(val_main_values (F := Ideal) x f y (ix3 b r t))) := by
    pointwise [val_main_v44, val_main_v43, val_main_v42, val_main_v41, val_main_v39, val_main_cst_11, val_main_cst_12]
    rfl
  rw [e]
  refine congrArg weight ((congrArg Neg.neg hv).trans (neg_neg _))

theorem norm_apply (b : Fin 2) (r : Fin 4096) :
    val_main_v45 (F := Ideal) x f y (ix2 b r) = ∑ s : Fin 5, weight (dist (warped x f) y b r (nth (dist (warped x f) y b r) (Fin.castLE (by norm_num) s))) := by
  pointwise [val_main_v45, val_main_cst_13]
  simp only [weight_apply]

theorem share_apply (b : Fin 2) (r : Fin 4096) (t : Fin 5) :
    val_main_v52 (F := Ideal) x f y (ix3 b r t)
      = Ideal.div (weight (dist (warped x f) y b r (nth (dist (warped x f) y b r) (Fin.castLE (by norm_num) t))))
        (∑ s : Fin 5, weight (dist (warped x f) y b r (nth (dist (warped x f) y b r) (Fin.castLE (by norm_num) s)))) := by
  rw [← norm_apply, ← weight_apply]
  have e : val_main_v50 (F := Ideal) x f y = val_main_v44 (F := Ideal) x f y := rfl
  pointwise [val_main_v52, val_main_v51, val_main_v46, e]

theorem near_apply (b : Fin 2) (r : Fin 4096) (t : Fin 5) (c : Fin 3) :
    val_main_v40 (F := Ideal) x f y p (ix4 b r t c) = p (ix3 b (nth (dist (warped x f) y b r) (Fin.castLE (by norm_num) t)) c) := by
  have hi : val_main_indices (F := Ideal) x f y (ix3 b r t) = BitVec.ofNat 32 (nth (dist (warped x f) y b r) (Fin.castLE (by norm_num) t)).val := by
    refine (topK_indices (by norm_num) (val_main_v37 (F := Ideal) x f y) sliceFits_S2x4096x4096_S2x4096x5 b r t).trans ?_
    rw [show (fun j => val_main_v37 (F := Ideal) x f y (ix3 b r j)) = dist (warped x f) y b r from funext fun j => dist_second x f y b r j]
  rw [show val_main_v40 (F := Ideal) x f y p = take takeSides p (val_main_indices (F := Ideal) x f y) from rfl,
    take_apply takeSides _ _ b r t c _ hi]

theorem portion_apply (b : Fin 2) (r : Fin 4096) (t : Fin 5) (c : Fin 3) :
    val_main_v54 (F := Ideal) x f y (ix4 b r t c) = val_main_v52 (F := Ideal) x f y (ix3 b r t) := by
  pointwise [val_main_v54, val_main_v53]

theorem off_apply (b : Fin 2) (r : Fin 4096) (c : Fin 3) :
    val_main_v57 (F := Ideal) x f y p w (ix3 b r c)
      = mix (by norm_num) (dist (warped x f) y b r) (fun n => p (ix3 b n c)) - w (ix3 b r c) := by
  pointwise [val_main_v57, val_main_v56, val_main_v55, val_main_cst_16]
  simp only [portion_apply, share_apply, near_apply]
  rfl

theorem squares_apply (i : S_.Idx) : val_main_v61 (F := Ideal) x f y p w i
    = ∑ b, ∑ r, ∑ c : Fin 3, val_main_v57 (F := Ideal) x f y p w (ix3 b r c) * val_main_v57 (F := Ideal) x f y p w (ix3 b r c) := by
  pointwise [val_main_v61, val_main_v60, val_main_v59, val_main_v58, val_main_cst_17, val_main_cst_18, val_main_cst_19]

theorem curv_apply (i : S1x1.Idx) : val_main_v64 (F := Ideal) x f y p w i
    = ∑ b, ∑ r, ∑ c : Fin 3, val_main_v57 (F := Ideal) x f y p w (ix3 b r c) * val_main_v57 (F := Ideal) x f y p w (ix3 b r c) :=
  (scalar_apply _ shapeCasts_S_S1x1 i).trans (squares_apply x f y p w ix0)

end Cert.CrossRef
-- ==== Proof.CrossClaims.lean ====
/- The claims about the kernel between the two clouds. -/
module

public import proofs.«01_k».proof.Defs
public import proofs.«01_k».proof.Proof.Gen.Cross.Frame
public import proofs.«01_k».proof.Proof.Gen.CrossRefIdeal.Run
public import proofs.«01_k».proof.Proof.Gen.Pre_bounded3
public import proofs.«01_k».proof.Proof.CrossKernel
public import proofs.«01_k».proof.Proof.CrossRef

@[expose] public section

noncomputable section

namespace Cert.CrossClaims

open Idealize.ShloMosaic Idealize.SL.Sem Cert.Near

theorem frame_p : Cert.quiescent_Cross := fun m ρ _ => Cert.Cross.Gen.frame m ρ

theorem frame_pi : Cert.quiescent_CrossIdeal := fun m ρ _ => Cert.CrossIdeal.Gen.frame m ρ

theorem frame_pi_pre : Cert.quiescent_CrossIdeal_pre_bounded3 := fun m ρ _ => Cert.CrossIdeal.Gen.frame m ρ

theorem frame_ri : Cert.quiescent_CrossRefIdeal := fun m ρ _ =>
  (θ_run Cert.CrossRefIdeal.defs _ _).mono (fun r h => ⟨fun c => (h c).2.2.2, sem_eq_zero_of_no_sems (by decide) r.2⟩)
    (Cert.CrossRefIdeal.Value.run (F := Ideal) m ρ)

theorem frame_ri_pre : Cert.quiescent_CrossRefIdeal_pre_bounded3 := fun m ρ _ => frame_ri m ρ trivial

theorem preserves : Cert.preserves_Cross_CrossIdeal := trivial

theorem small (m : (ℓ : Loc Cert.CrossIdeal.nD Cert.CrossIdeal.τ Cert.CrossIdeal.sig) → Buf (Elt Ideal) ℓ) (h : Cert.Pre_CrossIdeal_bounded3 m)
    (c : Dev Cert.CrossIdeal.nD) (i) :
    Small (2 ^ 60) (CrossKernel.cloud m c i) ∧ Small (2 ^ 60) (CrossKernel.flow m c i) ∧ Small (2 ^ 60) (CrossKernel.target m c i) :=
  have h2 := both (congrFun (h c) i)
  have h1 := both h2.1
  ⟨small_of_le h1.1, small_of_le h1.2, small_of_le h2.2⟩

theorem algebraic : Cert.algebraic_CrossIdeal_CrossRefIdeal_pre_bounded3 := by
  intro m ρ m' ρ' hpre hagree
  have hs := small m hpre
  have hM : ∀ c b r n, dist (CrossKernel.warped m c) (CrossKernel.target m c) b r n < big := fun c b r n =>
    sqd_lt _ _ (fun k => ((hs c _).1.add (hs c _).2.1).mono (by norm_num)) (fun k => (hs c _).2.2.mono (by norm_num))
  refine ⟨fun c => CrossKernel.resultCol m c, fun c => CrossKernel.resultCham m c, fun c => CrossKernel.resultCurv m c, ?_, ?_⟩
  · exact (θ_run Cert.CrossIdeal.defs _ _).mono (fun _ h c =>
      ⟨(h c).1.trans (CrossKernel.final4 m c), (h c).2.1.trans (CrossKernel.final5 m c), (h c).2.2.1.trans (CrossKernel.final6 m c (hM c)), (h c).2.2.2⟩)
      (Cert.CrossIdeal.Value.run_blocks (F := Ideal) m ρ)
  · refine (θ_run Cert.CrossRefIdeal.defs _ _).mono (fun _ h c => ⟨(h c).1.trans ?_, (h c).2.1.trans ?_, (h c).2.2.1.trans ?_, (h c).2.2.2⟩)
      (Cert.CrossRefIdeal.Value.run (F := Ideal) m' ρ')
    · rw [Cert.CrossRefIdeal.Read.val_main_v62_eq, (hagree c).1, (hagree c).2.1, (hagree c).2.2.1]
      funext i
      obtain ⟨b, n, rfl⟩ : ∃ (b : Fin 2) (n : Fin 4096), i = ix3 b 0 n := by
        refine ⟨i 0, i 2, funext fun a => ?_⟩
        match a with
        | ⟨0, _⟩ => rfl
        | ⟨1, _⟩ => exact Subsingleton.elim (α := Fin 1) _ _
        | ⟨2, _⟩ => rfl
      exact CrossRef.col_apply (CrossKernel.cloud m c) (CrossKernel.flow m c) (CrossKernel.target m c) b n
    · rw [Cert.CrossRefIdeal.Read.val_main_v63_eq, (hagree c).1, (hagree c).2.1, (hagree c).2.2.1]
      funext i
      exact CrossRef.cham_apply (CrossKernel.cloud m c) (CrossKernel.flow m c) (CrossKernel.target m c) i
    · rw [Cert.CrossRefIdeal.Read.val_main_v64_eq, (hagree c).1, (hagree c).2.1, (hagree c).2.2.1, (hagree c).2.2.2.1, (hagree c).2.2.2.2]
      funext i
      refine (CrossRef.curv_apply (CrossKernel.cloud m c) (CrossKernel.flow m c) (CrossKernel.target m c) (CrossKernel.curv m c) (CrossKernel.moved m c) i).trans ?_
      refine Finset.sum_congr rfl fun b _ => Finset.sum_congr rfl fun r _ => Finset.sum_congr rfl fun k _ => ?_
      rw [CrossRef.off_apply]
      rfl

end Cert.CrossClaims
-- ==== Proof.Curv2048Kernel.lean ====
/- The curvature kernel: what its body computes from its blocks, and the array its grid fills. -/
module

public import proofs.«01_k».proof.Proof.Body
public import proofs.«01_k».proof.Proof.Grid
public import proofs.«01_k».proof.Proof.Gen.Curv2048Ideal.Value

@[expose] public section

noncomputable section

namespace Cert.Curv2048Kernel

open Idealize.ShloMosaic Idealize.ShloMosaic.TcCoe Idealize.SL.Sem Cert.Rank Cert.Near
open Cert.Curv2048Ideal Cert.Curv2048Ideal.Gen

/-! ## The body -/

theorem shapes : Body.Shapes 512 2048 where
  sides := ⟨reduces_S512x2048_S512, shapeCasts_S512_S512x1, broadcasts_S512x1_S512x2048, by norm_num⟩
  rows := shapeCasts_S1x512x3_S512x3
  cols := shapeCasts_S1x3x2048_S3x2048
  all := shapeCasts_S1x2048x3_S2048x3
  back := shapeCasts_S512x3_S1x512x3
  r0 := slices_S512x3_o0_0_S512x1
  r1 := slices_S512x3_o0_1_S512x1
  r2 := slices_S512x3_o0_2_S512x1
  c0 := slices_S3x2048_o0_0_S1x2048
  c1 := slices_S3x2048_o1_0_S1x2048
  c2 := slices_S3x2048_o2_0_S1x2048
  down := broadcasts_S1x2048_S512x2048
  iota := iota_S512x2048_d1_w32

theorem hz : (![0, 0, 0] : Fin 3 → Nat) = fun _ => 0 := funext fun a => by fin_cases a <;> rfl

theorem out_eq (x0 : Vec Ideal S1x512x3 .f32) (x1 : Vec Ideal S1x3x2048 .f32) (x2 : Vec Ideal S1x2048x3 .f32) :
    out0_3 x0 x1 x2 = Body.mean shapes (Body.rowsOf shapes x0) (Body.near shapes x0 x1 9) (Body.allOf shapes x2) := by
  unfold_out out0_3
  rw [View.canon_unit_zero hz, View.ld_unit_zero hz, View.ld_unit_zero hz, View.ld_unit_zero hz]
  rfl

/-! ## The blocks -/

abbrev bat (t : Fin cfg0.N) : Fin 2 := Grid.bat 4 t
abbrev row (t : Fin cfg0.N) (r : Fin 512) : Fin 2048 := Grid.row (K := 4) (R := 512) rfl t r

theorem index0 : ∀ t : Fin cfg0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0) :=
  (by decide +kernel : ∀ t : Fin grid0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0))

variable (m : (ℓ : Loc nD τ sig) → Buf (Elt Ideal) ℓ) (c : Dev nD)

/-- The cloud a device is given. -/
abbrev cloud : Cloud 2048 := m ((c : Thread nD τ).loc main_arg0)

theorem V_rows (b : Fin 2) (n : Fin 2048) (k : Fin 3) : V m c main_v0 (ix3 b n k) = cloud m c (ix3 b k n) := by
  have h : V m c main_v0 = transpose S2x2048x3 [0, 2, 1] (cloud m c) transposes_S2x3x2048_S2x2048x3_0_2_1 := rfl
  rw [h]
  pointwise

theorem iblk_rows (t : Fin cfg0.N) (r : Fin 512) (k : Fin 3) : iblk m c 0 t (ix3 0 r k) = cloud m c (ix3 (bat t) k (row t r)) := by
  unfold iblk
  rw [View.read_apply]
  refine Eq.trans ?_ (V_rows m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 3 + 1 * k.val = k.val; omega

theorem iblk_cols (t : Fin cfg0.N) (k : Fin 3) (n : Fin 2048) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 4; omega
  | ⟨1, _⟩ => show win0_1.index t 1 * 3 + 1 * k.val = k.val; omega
  | ⟨2, _⟩ => show win0_1.index t 2 * 2048 + 1 * n.val = n.val; omega

theorem iblk_all (t : Fin cfg0.N) (n : Fin 2048) (k : Fin 3) : iblk m c 2 t (ix3 0 n k) = cloud m c (ix3 (bat t) k n) := by
  unfold iblk
  rw [View.read_apply]
  refine Eq.trans ?_ (V_rows m c (bat t) n k)
  refine congrArg (V m c main_v0) (funext fun a => Fin.ext ?_)
  obtain ⟨-, -, ⟨e0, e1, e2⟩, -⟩ := index0 t
  match a with
  | ⟨0, _⟩ => show win0_2.index t 0 * 1 + 1 * 0 = t.val / 4; omega
  | ⟨1, _⟩ => show win0_2.index t 1 * 2048 + 1 * n.val = n.val; omega
  | ⟨2, _⟩ => show win0_2.index t 2 * 3 + 1 * k.val = k.val; omega

/-! ## The array -/

/-- What the kernel leaves in its result array. -/
def result (p : Cloud 2048) : (⟨3, ![2, 2048, 3]⟩ : Shape).Idx → EReal := fun i => curvMasked p p (i 0) (i 1) (i 2)

theorem gap_eq (t : Fin cfg0.N) (r : Fin 512) : Body.gap (iblk m c 0 t) (iblk m c 1 t) r = dist (cloud m c) (cloud m c) (bat t) (row t r) := by
  funext n
  unfold Body.gap
  simp only [iblk_rows, iblk_cols]
  rfl

theorem flushed_eq (hM : ∀ b r n, dist (cloud m c) (cloud m c) b r n < big) (t : Fin cfg0.N) :
    (dats m 0 c).flushed 3 t = ((cfg0.win 3).blk t).view.read (Elt Ideal) (result (cloud m c)) := by
  rw [Value.flushed3]
  funext j
  obtain ⟨r, k, rfl⟩ : ∃ (r : Fin 512) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_3 (iblk m c 0 t) (iblk m c 1 t) (iblk m c 2 t) (ix3 0 r k) = _
  rw [out_eq]
  refine (Body.mean_near shapes (iblk m c 0 t) (iblk m c 1 t) (iblk m c 2 t) (iblk m c 0 t) r k (fun n => ?_) (by norm_num)).trans ?_
  · rw [gap_eq]; exact hM _ _ _
  · simp only [gap_eq, iblk_rows, iblk_all]
    rw [View.read_apply]
    refine congrArg (result (cloud m c)) (a₁ := ix3 (bat t) (row t r) k) (funext fun a => Fin.ext ?_)
    obtain ⟨-, -, -, e0, e1, e2⟩ := index0 t
    match a with
    | ⟨0, _⟩ => show t.val / 4 = win0_3.index t 0 * 1 + 1 * 0; omega
    | ⟨1, _⟩ => show t.val % 4 * 512 + r.val = win0_3.index t 1 * 512 + 1 * r.val; omega
    | ⟨2, _⟩ => show k.val = win0_3.index t 2 * 3 + 1 * k.val; omega

theorem cover (i : S2x2048x3.Idx) : ∃ t : Fin cfg0.N, (cfg0.win 3).flush t = true ∧ i ∈ ((cfg0.win 3).blk t).view.set := by
  have h0 : (i 0 : Nat) < 2 := (i 0).isLt
  have h1 : (i 1 : Nat) < 2048 := (i 1).isLt
  have h2 : (i 2 : Nat) < 3 := (i 2).isLt
  have ht : (i 0 : Nat) * 4 + (i 1 : Nat) / 512 < cfg0.N := by show _ < 8; omega
  refine ⟨⟨_, ht⟩, flush0_3 _, ?_⟩
  show i ∈ ((View.whole main_v1).slice (win0_3.rect ⟨_, ht⟩)).set
  rw [View.set_slice_whole, Rect.mem_set_unit]
  obtain ⟨-, -, -, e0, e1, e2⟩ := index0 ⟨_, ht⟩
  intro a
  match a with
  | ⟨0, _⟩ => show win0_3.index ⟨_, ht⟩ 0 * 1 ≤ (i 0 : Nat) ∧ (i 0 : Nat) < win0_3.index ⟨_, ht⟩ 0 * 1 + 1
              rw [e0]; dsimp only; omega
  | ⟨1, _⟩ => show win0_3.index ⟨_, ht⟩ 1 * 512 ≤ (i 1 : Nat) ∧ (i 1 : Nat) < win0_3.index ⟨_, ht⟩ 1 * 512 + 512
              rw [e1]; dsimp only; omega
  | ⟨2, _⟩ => show win0_3.index ⟨_, ht⟩ 2 * 3 ≤ (i 2 : Nat) ∧ (i 2 : Nat) < win0_3.index ⟨_, ht⟩ 2 * 3 + 3
              rw [e2]; dsimp only; omega

theorem final (hM : ∀ b r n, dist (cloud m c) (cloud m c) b r n < big) :
    (dats m 0 c).arrAt 3 cfg0.N = result (cloud m c) :=
  (dats m 0 c).arrAt_eq_of_cover 3 (result (cloud m c)) (fun t _ => flushed_eq m c hM t) cover

end Cert.Curv2048Kernel
-- ==== Proof.Curv2048Ref.lean ====
/- The reference's curvature read at an index. -/
module

public import proofs.«01_k».proof.Proof.Near
public import proofs.«01_k».proof.Proof.HostReads
public import proofs.«01_k».proof.Proof.Gen.Curv2048RefIdeal.Read

@[expose] public section

noncomputable section

namespace Cert.Curv2048Ref

open Idealize.ShloMosaic Cert.Rank Cert.Near Cert.HostReads
open Cert.Curv2048RefIdeal Cert.Curv2048RefIdeal.Gen Cert.Curv2048RefIdeal.Read

theorem takeSides : TakeSides 2 2048 2048 10 3 where
  b0 := bcast_S_S2x2048x10
  b1 := bcast_S2x2048x10_S2x2048x10x1_0_1_2
  b2 := bcast_S_S2x2048x10x1
  b3 := bcast_S1_S1x1x1x1_3
  b4 := bcast_S1x1x1x1_S2x2048x10x1_0_1_2_3
  red := reducesTo_S2x2048x10x1_S2x2048x10_d3
  pos := by decide
  b5 := by decide
  b6 := by decide
  wf := gather_S2x2048x3_S2x2048x10x1_S2x2048x10x3_3_1_0_0_1_3_113.wf
  small := by norm_num

variable (x : Cloud 2048)

theorem take_eq : val_main_v16 (F := Ideal) x = take takeSides (val_main_v0 (F := Ideal) x) (val_main_indices (F := Ideal) x) := rfl

theorem rows_apply (b : Fin 2) (n : Fin 2048) (c : Fin 3) : val_main_v0 (F := Ideal) x (ix3 b n c) = x (ix3 b c n) := by
  pointwise [val_main_v0]

theorem dist_apply (b : Fin 2) (r n : Fin 2048) : val_main_v13 (F := Ideal) x (ix3 b r n) = dist x x b r n := by
  pointwise [val_main_v13, val_main_v12, val_main_v11, val_main_v10, val_main_v9, val_main_v8, val_main_v7, val_main_v6, val_main_v5, val_main_v4, val_main_v3, val_main_v2, val_main_v1, val_main_v0, val_main_cst, val_main_cst_0,
    val_main_cst_1]
  rw [cm2]
  rfl

theorem indices_apply (b : Fin 2) (r : Fin 2048) (t : Fin 10) :
    val_main_indices (F := Ideal) x (ix3 b r t) = BitVec.ofNat 32 (nth (dist x x b r) (Fin.castLE (by norm_num) t)).val := by
  refine (topK_indices (by norm_num) (val_main_v13 (F := Ideal) x) sliceFits_S2x2048x2048_S2x2048x10 b r t).trans ?_
  have e : (fun j => val_main_v13 (F := Ideal) x (ix3 b r j)) = dist x x b r := funext fun j => dist_apply x b r j
  rw [e]

theorem near_apply (b : Fin 2) (r : Fin 2048) (t : Fin 10) (c : Fin 3) :
    val_main_v16 (F := Ideal) x (ix4 b r t c) = x (ix3 b c (nth (dist x x b r) (Fin.castLE (by norm_num) t))) := by
  rw [take_eq, take_apply takeSides _ _ b r t c _ (indices_apply x b r t), rows_apply]

/-- The reference's result. -/
theorem curv_apply (b : Fin 2) (r : Fin 2048) (c : Fin 3) :
    val_main_v22 (F := Ideal) x (ix3 b r c) = curvListed (by norm_num) x x b r c := by
  pointwise [val_main_v22, val_main_v21, val_main_cst_3, val_main_v20, val_main_cst_2, val_main_v19, val_main_v18, val_main_v17]
  simp only [near_apply, rows_apply]
  rw [c9]
  rfl

end Cert.Curv2048Ref
-- ==== Proof.Curv2048Claims.lean ====
/- The claims about the curvature kernel. -/
module

public import proofs.«01_k».proof.Defs
public import proofs.«01_k».proof.Proof.Gen.Curv2048.Frame
public import proofs.«01_k».proof.Proof.Gen.Pre_bounded_2048
public import proofs.«01_k».proof.Proof.Curv2048Kernel
public import proofs.«01_k».proof.Proof.Curv2048Ref
public import Idealize.ShloMosaic.Lib.Claim

@[expose] public section

noncomputable section

namespace Cert.Curv2048Claims

open Idealize.ShloMosaic Idealize.SL.Sem Cert.Near

theorem frame_p : Cert.quiescent_Curv2048 := fun m ρ _ => Cert.Curv2048.Gen.frame m ρ

theorem frame_pi : Cert.quiescent_Curv2048Ideal := fun m ρ _ => Cert.Curv2048Ideal.Gen.frame m ρ

theorem frame_pi_pre : Cert.quiescent_Curv2048Ideal_pre_bounded_2048 := fun m ρ _ => Cert.Curv2048Ideal.Gen.frame m ρ

theorem frame_ri : Cert.quiescent_Curv2048RefIdeal := fun m ρ _ =>
  (θ_run Cert.Curv2048RefIdeal.defs _ _).mono (fun r h => ⟨fun c => (h c).2, sem_eq_zero_of_no_sems (by decide) r.2⟩)
    (Cert.Curv2048RefIdeal.Value.run (F := Ideal) m ρ)

theorem frame_ri_pre : Cert.quiescent_Curv2048RefIdeal_pre_bounded_2048 := fun m ρ _ => frame_ri m ρ trivial

theorem preserves : Cert.preserves_Curv2048_Curv2048Ideal := trivial

theorem small (m : (ℓ : Loc Cert.Curv2048Ideal.nD Cert.Curv2048Ideal.τ Cert.Curv2048Ideal.sig) → Buf (Elt Ideal) ℓ) (h : Cert.Pre_Curv2048Ideal_bounded_2048 m)
    (c : Dev Cert.Curv2048Ideal.nD) (i) : Small (2 ^ 60) (Curv2048Kernel.cloud m c i) :=
  small_of_le (congrFun (h c) i)

theorem algebraic : Cert.algebraic_Curv2048Ideal_Curv2048RefIdeal_pre_bounded_2048 := by
  intro m ρ m' ρ' hpre hagree
  have hs := small m hpre
  have hM : ∀ c b r n, dist (Curv2048Kernel.cloud m c) (Curv2048Kernel.cloud m c) b r n < big := fun c b r n =>
    sqd_lt _ _ (fun k => (hs c _).mono (by norm_num)) (fun k => (hs c _).mono (by norm_num))
  refine ⟨fun c => Curv2048Kernel.result (Curv2048Kernel.cloud m c), ?_, ?_⟩
  · exact (θ_run Cert.Curv2048Ideal.defs _ _).mono (fun _ h c => ⟨(h c).1.trans (Curv2048Kernel.final m c (hM c)), (h c).2⟩)
      (Cert.Curv2048Ideal.Value.run_blocks (F := Ideal) m ρ)
  · refine (θ_run Cert.Curv2048RefIdeal.defs _ _).mono (fun _ h c => ⟨(h c).1.trans ?_, (h c).2⟩) (Cert.Curv2048RefIdeal.Value.run (F := Ideal) m' ρ')
    rw [Cert.Curv2048RefIdeal.Read.val_main_v22_eq, hagree c]
    funext i
    obtain ⟨b, r, k, rfl⟩ := exists_ix3 i
    refine (Curv2048Ref.curv_apply (Curv2048Kernel.cloud m c) b r k).trans (curvMasked_eq (by norm_num) _ _ b r k fun n => ?_).symm
    obtain ⟨u, hu, -⟩ := hs c (ix3 b k n)
    exact ⟨u, hu⟩

end Cert.Curv2048Claims
-- ==== Proof.Smooth2048Kernel.lean ====
/- The smoothness kernel: what its body computes from its blocks, and the arrays its grid fills. -/
module

public import proofs.«01_k».proof.Proof.Body
public import proofs.«01_k».proof.Proof.Grid
public import proofs.«01_k».proof.Proof.Gen.Smooth2048Ideal.Value

@[expose] public section

noncomputable section

namespace Cert.Smooth2048Kernel

open Idealize.ShloMosaic Idealize.ShloMosaic.TcCoe Idealize.SL.Sem Cert.Rank Cert.Near
open Cert.Smooth2048Ideal Cert.Smooth2048Ideal.Gen

/-! ## The body -/

theorem shapes : Body.Shapes 512 2048 where
  sides := ⟨reduces_S512x2048_S512, shapeCasts_S512_S512x1, broadcasts_S512x1_S512x2048, by norm_num⟩
  rows := shapeCasts_S1x512x3_S512x3
  cols := shapeCasts_S1x3x2048_S3x2048
  all := shapeCasts_S1x2048x3_S2048x3
  back := shapeCasts_S512x3_S1x512x3
  r0 := slices_S512x3_o0_0_S512x1
  r1 := slices_S512x3_o0_1_S512x1
  r2 := slices_S512x3_o0_2_S512x1
  c0 := slices_S3x2048_o0_0_S1x2048
  c1 := slices_S3x2048_o1_0_S1x2048
  c2 := slices_S3x2048_o2_0_S1x2048
  down := broadcasts_S1x2048_S512x2048
  iota := iota_S512x2048_d1_w32

theorem summed : Body.Summed 512 1 := ⟨shapeCasts_S512x1_S1x512x1, reduces_S1x512x1_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the running sum. -/
abbrev part (x0 : Vec Ideal S1x512x3 .f32) (x1 x2 : Vec Ideal S1x3x2048 .f32) (x3 : Vec Ideal S1x512x3 .f32) : FVec Ideal S1x1 .f32 :=
  divf (Body.total summed (Body.rowSum shapes (select (Body.near shapes x0 x1 8) (Body.normOf shapes (Body.rowsOf shapes x3) (Body.colsOf shapes x2))
    (broadcast S512x2048 (Scalar.ofBits .f32 0x00000000#32))))) (broadcast S1x1 (Scalar.ofBits .f32 0x41000000#32))

theorem pay33 (x : Vec Ideal S1x1 .f32) : k0_pay33 x = x := shapeCast_self ..

section
variable (c : Dev nD) (i : grid0.Coords) (a2 : Memref sig .tc .vmem S1x512x3 .f32) (h2 : a2.IsWhole) (a3 : Memref sig .tc .vmem S1x3x2048 .f32) (h3 : a3.IsWhole) (a4 : Memref sig .tc .vmem S1x3x2048 .f32) (h4 : a4.IsWhole) (a5 : Memref sig .tc .vmem S1x512x3 .f32) (h5 : a5.IsWhole) (a6 : Memref sig .tc .vmem S1x2048x3 .f32) (h6 : a6.IsWhole) (a7 : Memref sig .tc .vmem S1x512x3 .f32) (h7 : a7.IsWhole) (a8 : Memref sig .tc .vmem S1x1 .f32) (h8 : a8.IsWhole) (a9 : Memref sig .tc .vmem S1x512x3 .f32) (h9 : a9.IsWhole)
    (x0 : Vec Ideal S1x512x3 .f32) (x1 : Vec Ideal S1x3x2048 .f32) (x2 : Vec Ideal S1x3x2048 .f32) (x3 : Vec Ideal S1x512x3 .f32) (x4 : Vec Ideal S1x2048x3 .f32) (x5 : Vec Ideal S1x512x3 .f32)

theorem sum_A (hc : cond0_0 i) : out0_A_6 c i a2 h2 a3 h3 a4 h4 a5 h5 a6 h6 a7 h7 a8 h8 a9 h9 hc x0 x1 x2 x3 x4 x5 = addf (broadcast S1x1 (Scalar.ofBits .f32 0x00000000#32)) (part x0 x1 x2 x3) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x2048) hz, View.ld_unit_zero (S := S1x2048x3) hz]
  rw [pay33]
  rfl

theorem sum_B (hc : ¬cond0_0 i) (xo : Vec Ideal S1x1 .f32) : out0_B_6 c i a2 h2 a3 h3 a4 h4 a5 h5 a6 h6 a7 h7 a8 h8 a9 h9 hc x0 x1 x2 x3 x4 x5 xo = addf xo (part x0 x1 x2 x3) := by
  unfold out0_B_6
  rw [View.read_writes_eq_canon _ _ _ (cover0_B_6 c i a2 h2 a3 h3 a4 h4 a5 h5 a6 h6 a7 h7 a8 h8 a9 h9 hc x0 x1 x2 x3 x4 x5 xo)]
  unfold kernelRun0_B
  dsimp only
  rw [View.canon_unit_zero hz2]
  sl_unfold_words
  simp only [View.readAt_eq_ld, h2.read_unread, h3.read_unread, h4.read_unread, h5.read_unread, h6.read_unread, h7.read_unread, h8.read_unread,
    View.ld_unit_zero (S := S1x1) hz2, View.ld_unit_zero (S := S1x512x3) hz, View.ld_unit_zero (S := S1x3x2048) hz, View.ld_unit_zero (S := S1x2048x3) hz]
  rw [pay33]
  rfl

/-- What the body stores as the moved curvature. -/
abbrev moved : FVec Ideal S1x512x3 .f32 := Body.mean shapes (Body.rowsOf shapes x5) (Body.near shapes x0 x1 9) (Body.allOf shapes x4)

theorem moved_A (hc : cond0_0 i) : out0_A_7 c i a2 h2 a3 h3 a4 h4 a5 h5 a6 h6 a7 h7 a8 h8 a9 h9 hc x0 x1 x2 x3 x4 x5 = moved x0 x1 x4 x5 := by
  unfold out0_A_7
  rw [View.read_writes_eq_canon _ _ _ (cover0_A_7 c i a2 h2 a3 h3 a4 h4 a5 h5 a6 h6 a7 h7 a8 h8 a9 h9 hc x0 x1 x2 x3 x4 x5)]
  unfold kernelRun0_A
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x2048) hz, View.ld_unit_zero (S := S1x2048x3) hz]
  rfl

theorem moved_B (hc : ¬cond0_0 i) (xo : Vec Ideal S1x1 .f32) : out0_B_7 c i a2 h2 a3 h3 a4 h4 a5 h5 a6 h6 a7 h7 a8 h8 a9 h9 hc x0 x1 x2 x3 x4 x5 xo = moved x0 x1 x4 x5 := by
  unfold out0_B_7
  rw [View.read_writes_eq_canon _ _ _ (cover0_B_7 c i a2 h2 a3 h3 a4 h4 a5 h5 a6 h6 a7 h7 a8 h8 a9 h9 hc x0 x1 x2 x3 x4 x5 xo)]
  unfold kernelRun0_B
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x2048) hz, View.ld_unit_zero (S := S1x2048x3) hz]
  rfl

end

/-! ## The blocks -/

abbrev bat (t : Fin cfg0.N) : Fin 2 := Grid.bat 4 t
abbrev row (t : Fin cfg0.N) (r : Fin 512) : Fin 2048 := Grid.row (K := 4) (R := 512) rfl t r

theorem index0 : ∀ t : Fin cfg0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0)
    ∧ (win0_4.index t 0 = t.val / 4 ∧ win0_4.index t 1 = 0 ∧ win0_4.index t 2 = 0)
    ∧ (win0_5.index t 0 = t.val / 4 ∧ win0_5.index t 1 = t.val % 4 ∧ win0_5.index t 2 = 0)
    ∧ (win0_6.index t 0 = 0 ∧ win0_6.index t 1 = 0)
    ∧ (win0_7.index t 0 = t.val / 4 ∧ win0_7.index t 1 = t.val % 4 ∧ win0_7.index t 2 = 0) :=
  (by decide +kernel : ∀ t : Fin grid0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0)
    ∧ (win0_4.index t 0 = t.val / 4 ∧ win0_4.index t 1 = 0 ∧ win0_4.index t 2 = 0)
    ∧ (win0_5.index t 0 = t.val / 4 ∧ win0_5.index t 1 = t.val % 4 ∧ win0_5.index t 2 = 0)
    ∧ (win0_6.index t 0 = 0 ∧ win0_6.index t 1 = 0)
    ∧ (win0_7.index t 0 = t.val / 4 ∧ win0_7.index t 1 = t.val % 4 ∧ win0_7.index t 2 = 0))

variable (m : (ℓ : Loc nD τ sig) → Buf (Elt Ideal) ℓ) (c : Dev nD)

/-- The clouds a device is given, and the moved cloud. -/
abbrev cloud : Cloud 2048 := m ((c : Thread nD τ).loc main_arg0)
abbrev flow : Cloud 2048 := m ((c : Thread nD τ).loc main_arg1)
abbrev warped : Cloud 2048 := fun i => cloud m c i + flow m c i

theorem V_cloud (b : Fin 2) (n : Fin 2048) (k : Fin 3) : V m c main_v0 (ix3 b n k) = cloud m c (ix3 b k n) := by
  have h : V m c main_v0 = transpose S2x2048x3 [0, 2, 1] (cloud m c) transposes_S2x3x2048_S2x2048x3_0_2_1 := rfl
  rw [h]
  pointwise
theorem V_flow (b : Fin 2) (n : Fin 2048) (k : Fin 3) : V m c main_v1 (ix3 b n k) = flow m c (ix3 b k n) := by
  have h : V m c main_v1 = transpose S2x2048x3 [0, 2, 1] (flow m c) transposes_S2x3x2048_S2x2048x3_0_2_1 := rfl
  rw [h]
  pointwise
theorem V_warped (b : Fin 2) (n : Fin 2048) (k : Fin 3) : V m c main_v2 (ix3 b n k) = warped m c (ix3 b k n) := by
  have h : V m c main_v2 = addf (transpose S2x2048x3 [0, 2, 1] (cloud m c) transposes_S2x3x2048_S2x2048x3_0_2_1 : FVec Ideal S2x2048x3 .f32)
    (transpose S2x2048x3 [0, 2, 1] (flow m c) transposes_S2x3x2048_S2x2048x3_0_2_1) := rfl
  rw [h]
  pointwise

theorem iblk0 (t : Fin cfg0.N) (r : Fin 512) (k : Fin 3) : iblk m c 0 t (ix3 0 r k) = cloud m c (ix3 (bat t) k (row t r)) := by
  unfold iblk
  rw [View.read_apply]
  refine Eq.trans ?_ (V_cloud m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 3 + 1 * k.val = k.val; omega

theorem iblk1 (t : Fin cfg0.N) (k : Fin 3) (n : Fin 2048) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 4; omega
  | ⟨1, _⟩ => show win0_1.index t 1 * 3 + 1 * k.val = k.val; omega
  | ⟨2, _⟩ => show win0_1.index t 2 * 2048 + 1 * n.val = n.val; omega

theorem iblk2 (t : Fin cfg0.N) (k : Fin 3) (n : Fin 2048) : iblk m c 2 t (ix3 0 k n) = flow m c (ix3 (bat t) k n) := by
  unfold iblk
  rw [View.read_apply]
  refine Eq.trans ?_ (congrFun (V_main_arg1 m c) (ix3 (bat t) k n))
  refine congrArg (V m c main_arg1) (funext fun a => Fin.ext ?_)
  obtain ⟨-, -, ⟨e0, e1, e2⟩, -⟩ := index0 t
  match a with
  | ⟨0, _⟩ => show win0_2.index t 0 * 1 + 1 * 0 = t.val / 4; omega
  | ⟨1, _⟩ => show win0_2.index t 1 * 3 + 1 * k.val = k.val; omega
  | ⟨2, _⟩ => show win0_2.index t 2 * 2048 + 1 * n.val = n.val; omega

theorem iblk3 (t : Fin cfg0.N) (r : Fin 512) (k : Fin 3) : iblk m c 3 t (ix3 0 r k) = flow m c (ix3 (bat t) k (row t r)) := by
  unfold iblk
  rw [View.read_apply]
  refine Eq.trans ?_ (V_flow m c (bat t) (row t r) k)
  refine congrArg (V m c main_v1) (funext fun a => Fin.ext ?_)
  obtain ⟨-, -, -, ⟨e0, e1, e2⟩, -⟩ := index0 t
  match a with
  | ⟨0, _⟩ => show win0_3.index t 0 * 1 + 1 * 0 = t.val / 4; omega
  | ⟨1, _⟩ => show win0_3.index t 1 * 512 + 1 * r.val = t.val % 4 * 512 + r.val; omega
  | ⟨2, _⟩ => show win0_3.index t 2 * 3 + 1 * k.val = k.val; omega

theorem iblk4 (t : Fin cfg0.N) (n : Fin 2048) (k : Fin 3) : iblk m c 4 t (ix3 0 n k) = warped m c (ix3 (bat t) k n) := by
  unfold iblk
  rw [View.read_apply]
  refine Eq.trans ?_ (V_warped m c (bat t) n k)
  refine congrArg (V m c main_v2) (funext fun a => Fin.ext ?_)
  obtain ⟨-, -, -, -, ⟨e0, e1, e2⟩, -⟩ := index0 t
  match a with
  | ⟨0, _⟩ => show win0_4.index t 0 * 1 + 1 * 0 = t.val / 4; omega
  | ⟨1, _⟩ => show win0_4.index t 1 * 2048 + 1 * n.val = n.val; omega
  | ⟨2, _⟩ => show win0_4.index t 2 * 3 + 1 * k.val = k.val; omega

theorem iblk5 (t : Fin cfg0.N) (r : Fin 512) (k : Fin 3) : iblk m c 5 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨-, -, -, -, -, ⟨e0, e1, e2⟩, -⟩ := index0 t
  match a with
  | ⟨0, _⟩ => show win0_5.index t 0 * 1 + 1 * 0 = t.val / 4; omega
  | ⟨1, _⟩ => show win0_5.index t 1 * 512 + 1 * r.val = t.val % 4 * 512 + r.val; omega
  | ⟨2, _⟩ => show win0_5.index t 2 * 3 + 1 * k.val = k.val; omega

/-! ## The arrays the grid fills -/

variable (hM : ∀ b r n, dist (cloud m c) (cloud m c) b r n < big)

theorem gap_eq (t : Fin cfg0.N) (r : Fin 512) : Body.gap (iblk m c 0 t) (iblk m c 1 t) r = dist (cloud m c) (cloud m c) (bat t) (row t r) := by
  funext n
  unfold Body.gap
  simp only [iblk0, iblk1]
  rfl

/-- What grid point `t` adds to the smoothness sum. -/
def adds (t : Fin cfg0.N) : EReal := Ideal.div (∑ r, turnMasked (cloud m c) (flow m c) (bat t) (row t r)) (8 : ℝ)

include hM in
theorem part_apply (t : Fin cfg0.N) (i : S1x1.Idx) : part (iblk m c 0 t) (iblk m c 1 t) (iblk m c 2 t) (iblk m c 3 t) i = adds m c t := by
  show Ideal.div (Body.total summed _ i) (Ideal.ofBits .f32 0x41000000#32) = _
  rw [Body.total_near shapes summed _ _ _ _ (fun r n => by rw [gap_eq]; exact hM _ _ _) (by norm_num) i, c8]
  simp only [gap_eq, iblk2, iblk3]
  rfl

include hM in
/-- The running sum after the last grid point. -/
theorem acc_apply (i : S1x1.Idx) : ((outsAt0 m c 7 (by decide)).1 : Vec Ideal S1x1 .f32) i = ∑ t : Fin cfg0.N, adds m c t := by
  refine Grid.running (T := cfg0.N) (adds m c) (fun n h => ((outsAt0 m c n h).1 : Vec Ideal S1x1 .f32) i) (fun h => ?_) (fun n h => ?_) 7 (by decide) rfl
  · rw [outsAt0_A m c ⟨0, h⟩ rfl]
    dsimp only
    rw [sum_A]
    show Ideal.ofBits .f32 0x00000000#32 + part _ _ _ _ i = _
    rw [part_apply m c hM, show Ideal.ofBits .f32 0x00000000#32 = 0 by simp [Ideal.ofBits, Ideal.ieee], zero_add]
  · have hn : n + 1 < 8 := h
    rw [outsAt0_B m c ⟨n + 1, h⟩ (by dsimp only; omega)]
    dsimp only
    rw [sum_B]
    show _ + part _ _ _ _ i = _
    rw [part_apply m c hM]
    rfl

/-- The smoothness sum over both clouds. -/
abbrev resultSum : S1x1.Idx → EReal := fun _ => ∑ t : Fin cfg0.N, adds m c t

include hM in
theorem flushed6_eq (t : Fin cfg0.N) (hf : (cfg0.win 6).flush t = true) :
    (dats m 0 c).flushed 6 t = ((cfg0.win 6).blk t).view.read (Elt Ideal) (resultSum m c) := by
  obtain rfl : t = ⟨7, by decide⟩ := Fin.ext (by have := (flush0_6 t).mp hf; have : t.val < 8 := t.isLt; show t.val = 7; omega)
  rw [Value.flushed6]
  funext j
  exact acc_apply m c hM j

theorem cover6 (i : S1x1.Idx) : ∃ t : Fin cfg0.N, (cfg0.win 6).flush t = true ∧ i ∈ ((cfg0.win 6).blk t).view.set := by
  have hT : 7 < cfg0.N := by decide
  refine ⟨⟨7, hT⟩, (flush0_6 _).mpr rfl, ?_⟩
  show i ∈ ((View.whole main_v3_0).slice (win0_6.rect ⟨7, hT⟩)).set
  rw [View.set_slice_whole, Rect.mem_set_unit]
  obtain ⟨-, -, -, -, -, -, ⟨e0, e1⟩, -⟩ := index0 ⟨7, hT⟩
  have h0 : (i 0 : Nat) < 1 := (i 0).isLt
  have h1 : (i 1 : Nat) < 1 := (i 1).isLt
  intro a
  match a with
  | ⟨0, _⟩ => show win0_6.index ⟨7, hT⟩ 0 * 1 ≤ (i 0 : Nat) ∧ (i 0 : Nat) < win0_6.index ⟨7, hT⟩ 0 * 1 + 1
              rw [e0]; omega
  | ⟨1, _⟩ => show win0_6.index ⟨7, hT⟩ 1 * 1 ≤ (i 1 : Nat) ∧ (i 1 : Nat) < win0_6.index ⟨7, hT⟩ 1 * 1 + 1
              rw [e1]; omega

include hM in
theorem final6 : (dats m 0 c).arrAt 6 cfg0.N = resultSum m c :=
  (dats m 0 c).arrAt_eq_of_cover 6 (resultSum m c) (flushed6_eq m c hM) cover6

/-- The moved curvature of every point. -/
def resultMoved (p w : Cloud 2048) : S2x2048x3.Idx → EReal := fun i => curvMasked p w (i 0) (i 1) (i 2)

theorem outs_moved (t : Fin cfg0.N) : (outsAt0 m c t.val t.isLt).2 = moved (iblk m c 0 t) (iblk m c 1 t) (iblk m c 4 t) (iblk m c 5 t) := by
  by_cases h : t.val % 8 = 0
  · rw [outsAt0_A m c t h]; dsimp only; rw [moved_A]
  · rw [outsAt0_B m c t h]; dsimp only; rw [moved_B]

include hM in
theorem flushed7_eq (t : Fin cfg0.N) :
    (dats m 0 c).flushed 7 t = ((cfg0.win 7).blk t).view.read (Elt Ideal) (resultMoved (cloud m c) (warped m c)) := by
  rw [Value.flushed7, outs_moved]
  funext j
  obtain ⟨r, k, rfl⟩ : ∃ (r : Fin 512) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show moved (iblk m c 0 t) (iblk m c 1 t) (iblk m c 4 t) (iblk m c 5 t) (ix3 0 r k) = _
  refine (Body.mean_near shapes (iblk m c 0 t) (iblk m c 1 t) (iblk m c 4 t) (iblk m c 5 t) r k (fun n => ?_) (by norm_num)).trans ?_
  · rw [gap_eq]; exact hM _ _ _
  · simp only [gap_eq, iblk4, iblk5]
    rw [View.read_apply]
    refine congrArg (resultMoved (cloud m c) (warped m c)) (a₁ := ix3 (bat t) (row t r) k) (funext fun a => Fin.ext ?_)
    obtain ⟨-, -, -, -, -, -, -, e0, e1, e2⟩ := index0 t
    match a with
    | ⟨0, _⟩ => show t.val / 4 = win0_7.index t 0 * 1 + 1 * 0; omega
    | ⟨1, _⟩ => show t.val % 4 * 512 + r.val = win0_7.index t 1 * 512 + 1 * r.val; omega
    | ⟨2, _⟩ => show k.val = win0_7.index t 2 * 3 + 1 * k.val; omega

theorem cover7 (i : S2x2048x3.Idx) : ∃ t : Fin cfg0.N, (cfg0.win 7).flush t = true ∧ i ∈ ((cfg0.win 7).blk t).view.set := by
  have h0 : (i 0 : Nat) < 2 := (i 0).isLt
  have h1 : (i 1 : Nat) < 2048 := (i 1).isLt
  have h2 : (i 2 : Nat) < 3 := (i 2).isLt
  have ht : (i 0 : Nat) * 4 + (i 1 : Nat) / 512 < cfg0.N := by show _ < 8; omega
  refine ⟨⟨_, ht⟩, flush0_7 _, ?_⟩
  show i ∈ ((View.whole main_v3_1).slice (win0_7.rect ⟨_, ht⟩)).set
  rw [View.set_slice_whole, Rect.mem_set_unit]
  obtain ⟨-, -, -, -, -, -, -, e0, e1, e2⟩ := index0 ⟨_, ht⟩
  intro a
  match a with
  | ⟨0, _⟩ => show win0_7.index ⟨_, ht⟩ 0 * 1 ≤ (i 0 : Nat) ∧ (i 0 : Nat) < win0_7.index ⟨_, ht⟩ 0 * 1 + 1
              rw [e0]; dsimp only; omega
  | ⟨1, _⟩ => show win0_7.index ⟨_, ht⟩ 1 * 512 ≤ (i 1 : Nat) ∧ (i 1 : Nat) < win0_7.index ⟨_, ht⟩ 1 * 512 + 512
              rw [e1]; dsimp only; omega
  | ⟨2, _⟩ => show win0_7.index ⟨_, ht⟩ 2 * 3 ≤ (i 2 : Nat) ∧ (i 2 : Nat) < win0_7.index ⟨_, ht⟩ 2 * 3 + 3
              rw [e2]; dsimp only; omega

include hM in
theorem final7 : (dats m 0 c).arrAt 7 cfg0.N = resultMoved (cloud m c) (warped m c) :=
  (dats m 0 c).arrAt_eq_of_cover 7 (resultMoved (cloud m c) (warped m c)) (fun t _ => flushed7_eq m c hM t) cover7

/-- The smoothness sum, when the flow is finite: over both clouds and every point, an eighth of its turn. -/
theorem sum_adds (hf : ∀ i, ∃ u : ℝ, flow m c i = u) :
    ∑ t : Fin cfg0.N, adds m c t = ∑ b, ∑ n, Ideal.div (turnListed (by norm_num) (cloud m c) (flow m c) b n) (8 : ℝ) := by
  have h := fun b r => turnMasked_eq (by norm_num : 9 ≤ 2048) (cloud m c) (flow m c) b r hf
  refine (Finset.sum_congr rfl fun t _ => ?_).trans
    (Grid.sum_grid (K := 4) (R := 512) rfl fun b n => Ideal.div (turnListed (by norm_num) (cloud m c) (flow m c) b n) (8 : ℝ))
  unfold adds
  simp only [(h _ _).1]
  exact Grid.div_sum _ _ 8 (by norm_num) fun r => (h _ _).2

end Cert.Smooth2048Kernel
-- ==== Proof.Smooth2048Ref.lean ====
/- The smoothness reference read at an index. -/
module

public import proofs.«01_k».proof.Proof.Near
public import proofs.«01_k».proof.Proof.HostReads
public import proofs.«01_k».proof.Proof.Gen.Smooth2048RefIdeal.Read

@[expose] public section

noncomputable section

namespace Cert.Smooth2048Ref

open Idealize.ShloMosaic Cert.Rank Cert.Near Cert.HostReads
open Cert.Smooth2048RefIdeal Cert.Smooth2048RefIdeal.Gen Cert.Smooth2048RefIdeal.Read

theorem takeSides9 : TakeSides 2 2048 2048 9 3 where
  b0 := bcast_S_S2x2048x9
  b1 := bcast_S2x2048x9_S2x2048x9x1_0_1_2
  b2 := bcast_S_S2x2048x9x1
  b3 := bcast_S1_S1x1x1x1_3
  b4 := bcast_S1x1x1x1_S2x2048x9x1_0_1_2_3
  red := reducesTo_S2x2048x9x1_S2x2048x9_d3
  pos := by decide
  b5 := by decide
  b6 := by decide
  wf := gather_S2x2048x3_S2x2048x9x1_S2x2048x9x3_3_1_0_0_1_3_113.wf
  small := by norm_num

theorem takeSides10 : TakeSides 2 2048 2048 10 3 where
  b0 := bcast_S_S2x2048x10
  b1 := bcast_S2x2048x10_S2x2048x10x1_0_1_2
  b2 := bcast_S_S2x2048x10x1
  b3 := bcast_S1_S1x1x1x1_3
  b4 := bcast_S1x1x1x1_S2x2048x10x1_0_1_2_3
  red := reducesTo_S2x2048x10x1_S2x2048x10_d3
  pos := by decide
  b5 := by decide
  b6 := by decide
  wf := gather_S2x2048x3_S2x2048x10x1_S2x2048x10x3_3_1_0_0_1_3_113.wf
  small := by norm_num

variable (x f : Cloud 2048)

theorem dist9 (b : Fin 2) (r n : Fin 2048) : val_main_v14 (F := Ideal) x (ix3 b r n) = dist x x b r n := by
  pointwise [val_main_v14, val_main_v13, val_main_v12, val_main_v11, val_main_v10, val_main_v9, val_main_v8, val_main_v7, val_main_v6, val_main_v5, val_main_v4, val_main_v3, val_main_v2, val_main_v0, val_main_cst, val_main_cst_0,
    val_main_cst_1]
  rw [cm2]
  rfl

theorem dist10 (b : Fin 2) (r n : Fin 2048) : val_main_v43 (F := Ideal) x (ix3 b r n) = dist x x b r n := by
  pointwise [val_main_v43, val_main_v42, val_main_v41, val_main_v40, val_main_v39, val_main_v38, val_main_v37, val_main_v36, val_main_v35, val_main_v34, val_main_v33, val_main_v32, val_main_v31, val_main_v30, val_main_cst_6, val_main_cst_7,
    val_main_cst_8]
  rw [cm2]
  rfl

theorem flow_apply (b : Fin 2) (n : Fin 2048) (c : Fin 3) : val_main_v1 (F := Ideal) f (ix3 b n c) = f (ix3 b c n) := by
  pointwise [val_main_v1]

theorem warped_apply (b : Fin 2) (n : Fin 2048) (c : Fin 3) : val_main_v29 (F := Ideal) x f (ix3 b n c) = x (ix3 b c n) + f (ix3 b c n) := by
  pointwise [val_main_v29, val_main_v28]

theorem near9 (b : Fin 2) (r : Fin 2048) (t : Fin 9) (c : Fin 3) :
    val_main_v17 (F := Ideal) x f (ix4 b r t c) = f (ix3 b c (nth (dist x x b r) (Fin.castLE (by norm_num) t))) := by
  have hi : val_main_indices (F := Ideal) x (ix3 b r t) = BitVec.ofNat 32 (nth (dist x x b r) (Fin.castLE (by norm_num) t)).val := by
    refine (topK_indices (by norm_num) (val_main_v14 (F := Ideal) x) sliceFits_S2x2048x2048_S2x2048x9 b r t).trans ?_
    rw [show (fun j => val_main_v14 (F := Ideal) x (ix3 b r j)) = dist x x b r from funext fun j => dist9 x b r j]
  rw [show val_main_v17 (F := Ideal) x f = take takeSides9 (val_main_v1 (F := Ideal) f) (val_main_indices (F := Ideal) x) from rfl,
    take_apply takeSides9 _ _ b r t c _ hi, flow_apply]

theorem near10 (b : Fin 2) (r : Fin 2048) (t : Fin 10) (c : Fin 3) :
    val_main_v46 (F := Ideal) x f (ix4 b r t c) = x (ix3 b c (nth (dist x x b r) (Fin.castLE (by norm_num) t)))
      + f (ix3 b c (nth (dist x x b r) (Fin.castLE (by norm_num) t))) := by
  have hi : val_main_indices_10 (F := Ideal) x (ix3 b r t) = BitVec.ofNat 32 (nth (dist x x b r) (Fin.castLE (by norm_num) t)).val := by
    refine (topK_indices (by norm_num) (val_main_v43 (F := Ideal) x) sliceFits_S2x2048x2048_S2x2048x10 b r t).trans ?_
    rw [show (fun j => val_main_v43 (F := Ideal) x (ix3 b r j)) = dist x x b r from funext fun j => dist10 x b r j]
  rw [show val_main_v46 (F := Ideal) x f = take takeSides10 (val_main_v29 (F := Ideal) x f) (val_main_indices_10 (F := Ideal) x) from rfl,
    take_apply takeSides10 _ _ b r t c _ hi, warped_apply]

/-- The moved curvature. -/
theorem moved_apply (b : Fin 2) (r : Fin 2048) (c : Fin 3) :
    val_main_v52 (F := Ideal) x f (ix3 b r c) = curvListed (by norm_num) x (fun i => x i + f i) b r c := by
  pointwise [val_main_v52, val_main_v51, val_main_cst_12, val_main_v50, val_main_cst_11, val_main_v49, val_main_v48, val_main_v47]
  simp only [near10, warped_apply]
  rw [c9]
  rfl

/-- The square of the distance of two flows. -/
theorem square_apply (b : Fin 2) (r : Fin 2048) (t : Fin 9) :
    val_main_call1_v1 (F := Ideal) x f (ix3 b r t) = ∑ c : Fin 3, (f (ix3 b c (nth (dist x x b r) (Fin.castLE (by norm_num) t))) - f (ix3 b c r))
      * (f (ix3 b c (nth (dist x x b r) (Fin.castLE (by norm_num) t))) - f (ix3 b c r)) := by
  pointwise [val_main_call1_v1, val_main_call1_cst, val_main_call1_v0, val_main_v20, val_main_v19, val_main_v18]
  simp only [near9, flow_apply]

/-- One point's share of the smoothness. -/
theorem turn_apply (b : Fin 2) (r : Fin 2048) :
    val_main_v24 (F := Ideal) x f (ix2 b r) = Ideal.div (turnListed (by norm_num) x f b r) (8 : ℝ) := by
  have e : ∀ t : Fin 9, val_main_v21 (F := Ideal) x f (ix3 b r t) = Ideal.sqrt (val_main_call1_v1 (F := Ideal) x f (ix3 b r t)) := fun _ => rfl
  pointwise [val_main_v24, val_main_v23, val_main_cst_3, val_main_v22, val_main_cst_2]
  simp only [e, square_apply]
  rw [c8]
  rfl

/-- The smoothness. -/
theorem sum_apply (i : S1x1.Idx) :
    val_main_v27 (F := Ideal) x f i = ∑ b, ∑ n, Ideal.div (turnListed (by norm_num) x f b n) (8 : ℝ) := by
  simp only [← turn_apply]
  pointwise [val_main_v27, val_main_v26, val_main_cst_5, val_main_v25, val_main_cst_4]

end Cert.Smooth2048Ref
-- ==== Proof.Smooth2048Claims.lean ====
/- The claims about the smoothness kernel. -/
module

public import proofs.«01_k».proof.Defs
public import proofs.«01_k».proof.Proof.Gen.Smooth2048.Frame
public import proofs.«01_k».proof.Proof.Gen.Pre_bounded2_2048
public import proofs.«01_k».proof.Proof.Smooth2048Kernel
public import proofs.«01_k».proof.Proof.Smooth2048Ref

@[expose] public section

noncomputable section

namespace Cert.Smooth2048Claims

open Idealize.ShloMosaic Idealize.SL.Sem Cert.Near

theorem frame_p : Cert.quiescent_Smooth2048 := fun m ρ _ => Cert.Smooth2048.Gen.frame m ρ

theorem frame_pi : Cert.quiescent_Smooth2048Ideal := fun m ρ _ => Cert.Smooth2048Ideal.Gen.frame m ρ

theorem frame_pi_pre : Cert.quiescent_Smooth2048Ideal_pre_bounded2_2048 := fun m ρ _ => Cert.Smooth2048Ideal.Gen.frame m ρ

theorem frame_ri : Cert.quiescent_Smooth2048RefIdeal := fun m ρ _ =>
  (θ_run Cert.Smooth2048RefIdeal.defs _ _).mono (fun r h => ⟨fun c => (h c).2.2, sem_eq_zero_of_no_sems (by decide) r.2⟩)
    (Cert.Smooth2048RefIdeal.Value.run (F := Ideal) m ρ)

theorem frame_ri_pre : Cert.quiescent_Smooth2048RefIdeal_pre_bounded2_2048 := fun m ρ _ => frame_ri m ρ trivial

theorem preserves : Cert.preserves_Smooth2048_Smooth2048Ideal := trivial

theorem small (m : (ℓ : Loc Cert.Smooth2048Ideal.nD Cert.Smooth2048Ideal.τ Cert.Smooth2048Ideal.sig) → Buf (Elt Ideal) ℓ) (h : Cert.Pre_Smooth2048Ideal_bounded2_2048 m)
    (c : Dev Cert.Smooth2048Ideal.nD) (i) : Small (2 ^ 60) (Smooth2048Kernel.cloud m c i) ∧ Small (2 ^ 60) (Smooth2048Kernel.flow m c i) :=
  (both (congrFun (h c) i)).imp small_of_le small_of_le

theorem algebraic : Cert.algebraic_Smooth2048Ideal_Smooth2048RefIdeal_pre_bounded2_2048 := by
  intro m ρ m' ρ' hpre hagree
  have hs := small m hpre
  have hM : ∀ c b r n, dist (Smooth2048Kernel.cloud m c) (Smooth2048Kernel.cloud m c) b r n < big := fun c b r n =>
    sqd_lt _ _ (fun k => (hs c _).1.mono (by norm_num)) (fun k => (hs c _).1.mono (by norm_num))
  refine ⟨fun c => Smooth2048Kernel.resultSum m c, fun c => Smooth2048Kernel.resultMoved (Smooth2048Kernel.cloud m c) (Smooth2048Kernel.warped m c), ?_, ?_⟩
  · exact (θ_run Cert.Smooth2048Ideal.defs _ _).mono (fun _ h c =>
      ⟨(h c).1.trans (Smooth2048Kernel.final6 m c (hM c)), (h c).2.1.trans (Smooth2048Kernel.final7 m c (hM c)), (h c).2.2⟩)
      (Cert.Smooth2048Ideal.Value.run_blocks (F := Ideal) m ρ)
  · refine (θ_run Cert.Smooth2048RefIdeal.defs _ _).mono (fun _ h c => ⟨(h c).1.trans ?_, (h c).2.1.trans ?_, (h c).2.2⟩)
      (Cert.Smooth2048RefIdeal.Value.run (F := Ideal) m' ρ')
    · rw [Cert.Smooth2048RefIdeal.Read.val_main_v27_eq, (hagree c).1, (hagree c).2]
      funext i
      refine (Smooth2048Ref.sum_apply (Smooth2048Kernel.cloud m c) (Smooth2048Kernel.flow m c) i).trans (Smooth2048Kernel.sum_adds m c fun i => ?_).symm
      obtain ⟨u, hu, -⟩ := (hs c i).2
      exact ⟨u, hu⟩
    · rw [Cert.Smooth2048RefIdeal.Read.val_main_v52_eq, (hagree c).1, (hagree c).2]
      funext i
      obtain ⟨b, r, k, rfl⟩ := exists_ix3 i
      refine (Smooth2048Ref.moved_apply (Smooth2048Kernel.cloud m c) (Smooth2048Kernel.flow m c) b r k).trans (curvMasked_eq (by norm_num) _ _ b r k fun n => ?_).symm
      obtain ⟨u, hu, -⟩ := (hs c (ix3 b k n)).1.add (hs c (ix3 b k n)).2
      exact ⟨u, hu⟩

end Cert.Smooth2048Claims
-- ==== Proof.Cross2048Kernel.lean ====
/- The kernel between the two clouds: what its body computes from its blocks, and the arrays its grid fills. -/
module

public import proofs.«01_k».proof.Proof.BodyCross
public import proofs.«01_k».proof.Proof.Grid
public import proofs.«01_k».proof.Proof.Gen.Cross2048Ideal.Value

@[expose] public section

noncomputable section

namespace Cert.Cross2048Kernel

open Idealize.ShloMosaic Idealize.ShloMosaic.TcCoe Idealize.SL.Sem Cert.Rank Cert.Near
open Cert.Cross2048Ideal Cert.Cross2048Ideal.Gen

/-! ## The body -/

theorem shapes : Body.Shapes 512 2048 where
  sides := ⟨reduces_S512x2048_S512, shapeCasts_S512_S512x1, broadcasts_S512x1_S512x2048, by norm_num⟩
  rows := shapeCasts_S1x512x3_S512x3
  cols := shapeCasts_S1x3x2048_S3x2048
  all := shapeCasts_S1x2048x3_S2048x3
  back := shapeCasts_S512x3_S1x512x3
  r0 := slices_S512x3_o0_0_S512x1
  r1 := slices_S512x3_o0_1_S512x1
  r2 := slices_S512x3_o0_2_S512x1
  c0 := slices_S3x2048_o0_0_S1x2048
  c1 := slices_S3x2048_o1_0_S1x2048
  c2 := slices_S3x2048_o2_0_S1x2048
  down := broadcasts_S1x2048_S512x2048
  iota := iota_S512x2048_d1_w32

theorem crossed : Body.Crossed 512 2048 where
  wide := broadcasts_S512x1_S512x3
  red := reduces_S512x2048_S2048
  line := shapeCasts_S2048_S1x2048
  up := shapeCasts_S1x2048_S1x1x2048
  dn := shapeCasts_S1x1x2048_S1x2048

theorem summed1 : Body.Summed 512 1 := ⟨shapeCasts_S512x1_S1x512x1, reduces_S1x512x1_S1, shapeCasts_S1_S1x1x1, inpos_S1x1x1_p0_0_0⟩
theorem summed3 : Body.Summed 512 3 := ⟨shapeCasts_S512x3_S1x512x3, reduces_S1x512x3_S1, shapeCasts_S1_S1x1x1, inpos_S1x1x1_p0_0_0⟩
theorem summedN : Body.Summed 1 2048 := ⟨shapeCasts_S1x2048_S1x1x2048, reduces_S1x1x2048_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the two running sums: the rows' smallest distances, and the squares of the differences of curvature. -/
abbrev rowPart (x0 : Vec Ideal S1x512x3 .f32) (x1 : Vec Ideal S1x3x2048 .f32) : FVec Ideal S1x1 .f32 :=
  Body.total summed1 (Body.minRow shapes (Body.gaps shapes x0 x1))
abbrev curvPart (x0 : Vec Ideal S1x512x3 .f32) (x1 : Vec Ideal S1x3x2048 .f32) (x2 : Vec Ideal S1x2048x3 .f32) (x3 : Vec Ideal S1x512x3 .f32) : FVec Ideal S1x1 .f32 :=
  Body.total summed3 (mulf (Body.apart shapes crossed (Body.gaps shapes x0 x1) (Body.allOf shapes x2) (Body.rowsOf shapes x3))
    (Body.apart shapes crossed (Body.gaps shapes x0 x1) (Body.allOf shapes x2) (Body.rowsOf shapes x3)))
/-- At the last row block of a batch, the columns' smallest distances are added too. -/
abbrev colPart (z : Vec Ideal S1x1x2048 .f32) : FVec Ideal S1x1 .f32 :=
  Body.total summedN (shapeCast S1x2048 z crossed.dn : FVec Ideal S1x2048 .f32)
abbrev zero : FVec Ideal S1x1 .f32 := broadcast S1x1 (Scalar.ofBits .f32 0x00000000#32)

theorem pay1 (v : FVec Ideal S512x3 .f32) (x : Vec Ideal S1x1 .f32) : k0_pay1 v x = addf x (Body.total summed3 (mulf v v)) := by
  show addf (shapeCast S1x1 x shapeCasts_S1x1_S1x1 : FVec Ideal S1x1 .f32) _ = _
  rw [shapeCast_self]; rfl
theorem pay2 (x : Vec Ideal S1x1 .f32) (z : Vec Ideal S1x1x2048 .f32) : k0_pay2 x z = addf x (colPart z) := by
  show addf (shapeCast S1x1 x shapeCasts_S1x1_S1x1 : FVec Ideal S1x1 .f32) _ = _
  rw [shapeCast_self]; rfl
theorem pay35 (v : FVec Ideal S512x1 .f32) (x : Vec Ideal S1x1 .f32) : k0_pay35 v x = addf x (Body.total summed1 v) := by
  show addf (shapeCast S1x1 x shapeCasts_S1x1_S1x1 : FVec Ideal S1x1 .f32) _ = _
  rw [shapeCast_self]; rfl

section
variable (c : Dev nD) (i : grid0.Coords) (a2 : Memref sig .tc .vmem S1x512x3 .f32) (h2 : a2.IsWhole) (a3 : Memref sig .tc .vmem S1x3x2048 .f32) (h3 : a3.IsWhole) (a4 : Memref sig .tc .vmem S1x2048x3 .f32) (h4 : a4.IsWhole) (a5 : Memref sig .tc .vmem S1x512x3 .f32) (h5 : a5.IsWhole) (a6 : Memref sig .tc .vmem S1x1x2048 .f32) (h6 : a6.IsWhole) (a7 : Memref sig .tc .vmem S1x1 .f32) (h7 : a7.IsWhole) (a8 : Memref sig .tc .vmem S1x1 .f32) (h8 : a8.IsWhole)
    (x0 : Vec Ideal S1x512x3 .f32) (x1 : Vec Ideal S1x3x2048 .f32) (x2 : Vec Ideal S1x2048x3 .f32) (x3 : Vec Ideal S1x512x3 .f32)
    (xo4 : Vec Ideal S1x1x2048 .f32) (xo5 xo6 : Vec Ideal S1x1 .f32)

theorem col_A (hc0 : cond0_0 i) (hc1 : cond0_1 i) (hc2 : ¬cond0_2 i) (hc3 : ¬cond0_3 i) :
    out0_A_4 c i a2 h2 a3 h3 a4 h4 a5 h5 a6 h6 a7 h7 a8 h8 hc0 hc1 hc2 hc3 x0 x1 x2 x3 = Body.colFirst crossed (Body.gaps shapes x0 x1) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem col_D (hc0 : ¬cond0_0 i) (hc1 : cond0_1 i) (hc2 : ¬cond0_2 i) (hc3 : ¬cond0_3 i) :
    out0_D_4 c i a2 h2 a3 h3 a4 h4 a5 h5 a6 h6 a7 h7 a8 h8 hc0 hc1 hc2 hc3 x0 x1 x2 x3 xo5 xo6 = Body.colFirst crossed (Body.gaps shapes x0 x1) := by
  unfold out0_D_4
  rw [View.read_writes_eq_canon _ _ _ (cover0_D_4 c i a2 h2 a3 h3 a4 h4 a5 h5 a6 h6 a7 h7 a8 h8 hc0 hc1 hc2 hc3 x0 x1 x2 x3 xo5 xo6)]
  unfold kernelRun0_D
  dsimp only
  sl_unfold_words
  rw [View.canon_unit_zero hz]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem col_B (hc0 : ¬cond0_0 i) (hc1 : ¬cond0_1 i) (hc2 : cond0_2 i) (hc3 : ¬cond0_3 i) :
    out0_B_4 c i a2 h2 a3 h3 a4 h4 a5 h5 a6 h6 a7 h7 a8 h8 hc0 hc1 hc2 hc3 x0 x1 x2 x3 xo4 xo5 xo6 = Body.colNext crossed xo4 (Body.gaps shapes x0 x1) := by
  unfold out0_B_4
  rw [View.read_writes_eq_canon _ _ _ (cover0_B_4 c i a2 h2 a3 h3 a4 h4 a5 h5 a6 h6 a7 h7 a8 h8 hc0 hc1 hc2 hc3 x0 x1 x2 x3 xo4 xo5 xo6)]
  unfold kernelRun0_B
  dsimp only
  sl_unfold_words
  rw [View.canon_unit_zero hz]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem col_C (hc0 : ¬cond0_0 i) (hc1 : ¬cond0_1 i) (hc2 : cond0_2 i) (hc3 : cond0_3 i) :
    out0_C_4 c i a2 h2 a3 h3 a4 h4 a5 h5 a6 h6 a7 h7 a8 h8 hc0 hc1 hc2 hc3 x0 x1 x2 x3 xo4 xo5 xo6 = Body.colNext crossed xo4 (Body.gaps shapes x0 x1) := by
  unfold out0_C_4
  rw [View.read_writes_eq_canon _ _ _ (cover0_C_4 c i a2 h2 a3 h3 a4 h4 a5 h5 a6 h6 a7 h7 a8 h8 hc0 hc1 hc2 hc3 x0 x1 x2 x3 xo4 xo5 xo6)]
  unfold kernelRun0_C
  dsimp only
  sl_unfold_words
  rw [View.canon_unit_zero hz]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem cham_A (hc0 : cond0_0 i) (hc1 : cond0_1 i) (hc2 : ¬cond0_2 i) (hc3 : ¬cond0_3 i) :
    out0_A_5 c i a2 h2 a3 h3 a4 h4 a5 h5 a6 h6 a7 h7 a8 h8 hc0 hc1 hc2 hc3 x0 x1 x2 x3 = addf zero (rowPart x0 x1) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem cham_D (hc0 : ¬cond0_0 i) (hc1 : cond0_1 i) (hc2 : ¬cond0_2 i) (hc3 : ¬cond0_3 i) :
    out0_D_5 c i a2 h2 a3 h3 a4 h4 a5 h5 a6 h6 a7 h7 a8 h8 hc0 hc1 hc2 hc3 x0 x1 x2 x3 xo5 xo6 = addf xo5 (rowPart x0 x1) := by
  unfold out0_D_5
  rw [View.read_writes_eq_canon _ _ _ (cover0_D_5 c i a2 h2 a3 h3 a4 h4 a5 h5 a6 h6 a7 h7 a8 h8 hc0 hc1 hc2 hc3 x0 x1 x2 x3 xo5 xo6)]
  unfold kernelRun0_D
  dsimp only
  sl_unfold_words
  rw [View.canon_unit_zero hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem cham_B (hc0 : ¬cond0_0 i) (hc1 : ¬cond0_1 i) (hc2 : cond0_2 i) (hc3 : ¬cond0_3 i) :
    out0_B_5 c i a2 h2 a3 h3 a4 h4 a5 h5 a6 h6 a7 h7 a8 h8 hc0 hc1 hc2 hc3 x0 x1 x2 x3 xo4 xo5 xo6 = addf xo5 (rowPart x0 x1) := by
  unfold out0_B_5
  rw [View.read_writes_eq_canon _ _ _ (cover0_B_5 c i a2 h2 a3 h3 a4 h4 a5 h5 a6 h6 a7 h7 a8 h8 hc0 hc1 hc2 hc3 x0 x1 x2 x3 xo4 xo5 xo6)]
  unfold kernelRun0_B
  dsimp only
  sl_unfold_words
  rw [View.canon_unit_zero hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem cham_C (hc0 : ¬cond0_0 i) (hc1 : ¬cond0_1 i) (hc2 : cond0_2 i) (hc3 : cond0_3 i) :
    out0_C_5 c i a2 h2 a3 h3 a4 h4 a5 h5 a6 h6 a7 h7 a8 h8 hc0 hc1 hc2 hc3 x0 x1 x2 x3 xo4 xo5 xo6 = addf (addf xo5 (rowPart x0 x1)) (colPart (Body.colNext crossed xo4 (Body.gaps shapes x0 x1))) := by
  unfold out0_C_5
  rw [View.read_writes_eq_canon _ _ _ (cover0_C_5 c i a2 h2 a3 h3 a4 h4 a5 h5 a6 h6 a7 h7 a8 h8 hc0 hc1 hc2 hc3 x0 x1 x2 x3 xo4 xo5 xo6)]
  unfold kernelRun0_C
  dsimp only
  sl_unfold_words
  rw [View.canon_cons_unit_zero (S := S1x1) hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem curv_A (hc0 : cond0_0 i) (hc1 : cond0_1 i) (hc2 : ¬cond0_2 i) (hc3 : ¬cond0_3 i) :
    out0_A_6 c i a2 h2 a3 h3 a4 h4 a5 h5 a6 h6 a7 h7 a8 h8 hc0 hc1 hc2 hc3 x0 x1 x2 x3 = addf zero (curvPart x0 x1 x2 x3) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem curv_D (hc0 : ¬cond0_0 i) (hc1 : cond0_1 i) (hc2 : ¬cond0_2 i) (hc3 : ¬cond0_3 i) :
    out0_D_6 c i a2 h2 a3 h3 a4 h4 a5 h5 a6 h6 a7 h7 a8 h8 hc0 hc1 hc2 hc3 x0 x1 x2 x3 xo5 xo6 = addf xo6 (curvPart x0 x1 x2 x3) := by
  unfold out0_D_6
  rw [View.read_writes_eq_canon _ _ _ (cover0_D_6 c i a2 h2 a3 h3 a4 h4 a5 h5 a6 h6 a7 h7 a8 h8 hc0 hc1 hc2 hc3 x0 x1 x2 x3 xo5 xo6)]
  unfold kernelRun0_D
  dsimp only
  sl_unfold_words
  rw [View.canon_unit_zero hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem curv_B (hc0 : ¬cond0_0 i) (hc1 : ¬cond0_1 i) (hc2 : cond0_2 i) (hc3 : ¬cond0_3 i) :
    out0_B_6 c i a2 h2 a3 h3 a4 h4 a5 h5 a6 h6 a7 h7 a8 h8 hc0 hc1 hc2 hc3 x0 x1 x2 x3 xo4 xo5 xo6 = addf xo6 (curvPart x0 x1 x2 x3) := by
  unfold out0_B_6
  rw [View.read_writes_eq_canon _ _ _ (cover0_B_6 c i a2 h2 a3 h3 a4 h4 a5 h5 a6 h6 a7 h7 a8 h8 hc0 hc1 hc2 hc3 x0 x1 x2 x3 xo4 xo5 xo6)]
  unfold kernelRun0_B
  dsimp only
  sl_unfold_words
  rw [View.canon_unit_zero hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

theorem curv_C (hc0 : ¬cond0_0 i) (hc1 : ¬cond0_1 i) (hc2 : cond0_2 i) (hc3 : cond0_3 i) :
    out0_C_6 c i a2 h2 a3 h3 a4 h4 a5 h5 a6 h6 a7 h7 a8 h8 hc0 hc1 hc2 hc3 x0 x1 x2 x3 xo4 xo5 xo6 = addf xo6 (curvPart x0 x1 x2 x3) := by
  unfold out0_C_6
  rw [View.read_writes_eq_canon _ _ _ (cover0_C_6 c i a2 h2 a3 h3 a4 h4 a5 h5 a6 h6 a7 h7 a8 h8 hc0 hc1 hc2 hc3 x0 x1 x2 x3 xo4 xo5 xo6)]
  unfold kernelRun0_C
  dsimp only
  sl_unfold_words
  rw [View.canon_unit_zero hz2]
  simp only [View.readAt_eq_ld, View.readCov_unit_zero (S := S1x1) _ hz2, View.readCov_unit_zero (S := S1x1x2048) _ hz, h2.read_unread, h3.read_unread, h4.read_unread, h5.read_unread, h6.read_unread, h7.read_unread, h8.read_unread,
    View.ld_unit_zero (S := S1x1) hz2, View.ld_unit_zero (S := S1x1x2048) hz, View.ld_unit_zero (S := S1x512x3) hz, View.ld_unit_zero (S := S1x3x2048) hz, View.ld_unit_zero (S := S1x2048x3) hz, pay1, pay2, pay35]
  rfl

end

/-! ## The blocks -/

abbrev bat (t : Fin cfg0.N) : Fin 2 := Grid.bat 4 t
abbrev row (t : Fin cfg0.N) (r : Fin 512) : Fin 2048 := Grid.row (K := 4) (R := 512) rfl t r

theorem index0 : ∀ t : Fin cfg0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0)
    ∧ (win0_4.index t 0 = t.val / 4 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 0)
    ∧ (win0_3.index t 0 = t.val / 4 ∧ win0_3.index t 1 = t.val % 4 ∧ win0_3.index t 2 = 0)
    ∧ (win0_4.index t 0 = t.val / 4 ∧ win0_4.index t 1 = 0 ∧ win0_4.index t 2 = 0)
    ∧ (win0_5.index t 0 = 0 ∧ win0_5.index t 1 = 0)
    ∧ (win0_6.index t 0 = 0 ∧ win0_6.index t 1 = 0))

variable (m : (ℓ : Loc nD τ sig) → Buf (Elt Ideal) ℓ) (c : Dev nD)

/-- The clouds a device is given, the moved first cloud, and the curvatures. -/
abbrev cloud : Cloud 2048 := m ((c : Thread nD τ).loc main_arg0)
abbrev flow : Cloud 2048 := m ((c : Thread nD τ).loc main_arg1)
abbrev target : Cloud 2048 := m ((c : Thread nD τ).loc main_arg2)
abbrev curv : S2x2048x3.Idx → EReal := m ((c : Thread nD τ).loc main_arg3)
abbrev moved : S2x2048x3.Idx → EReal := m ((c : Thread nD τ).loc main_arg4)
abbrev warped : Cloud 2048 := fun i => cloud m c i + flow m c i

theorem V_warped (b : Fin 2) (n : Fin 2048) (k : Fin 3) : V m c main_v2 (ix3 b n k) = warped m c (ix3 b k n) := by
  have h : V m c main_v2 = addf (transpose S2x2048x3 [0, 2, 1] (cloud m c) transposes_S2x3x2048_S2x2048x3_0_2_1 : FVec Ideal S2x2048x3 .f32)
    (transpose S2x2048x3 [0, 2, 1] (flow m c) transposes_S2x3x2048_S2x2048x3_0_2_1) := rfl
  rw [h]
  pointwise

theorem iblk0 (t : Fin cfg0.N) (r : Fin 512) (k : Fin 3) : iblk m c 0 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨⟨e0, e1, e2⟩, -⟩ := index0 t
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 3 + 1 * k.val = k.val; omega

theorem iblk1 (t : Fin cfg0.N) (k : Fin 3) (n : Fin 2048) : iblk m c 1 t (ix3 0 k n) = target m c (ix3 (bat t) k n) := by
  unfold iblk
  rw [View.read_apply]
  refine Eq.trans ?_ (congrFun (V_main_arg2 m c) (ix3 (bat t) k n))
  refine congrArg (V m c main_arg2) (funext fun a => Fin.ext ?_)
  obtain ⟨-, ⟨e0, e1, e2⟩, -⟩ := index0 t
  match a with
  | ⟨0, _⟩ => show win0_1.index t 0 * 1 + 1 * 0 = t.val / 4; omega
  | ⟨1, _⟩ => show win0_1.index t 1 * 3 + 1 * k.val = k.val; omega
  | ⟨2, _⟩ => show win0_1.index t 2 * 2048 + 1 * n.val = n.val; omega

theorem iblk2 (t : Fin cfg0.N) (n : Fin 2048) (k : Fin 3) : iblk m c 2 t (ix3 0 n k) = curv m c (ix3 (bat t) n k) := by
  unfold iblk
  rw [View.read_apply]
  refine Eq.trans ?_ (congrFun (V_main_arg3 m c) (ix3 (bat t) n k))
  refine congrArg (V m c main_arg3) (funext fun a => Fin.ext ?_)
  obtain ⟨-, -, ⟨e0, e1, e2⟩, -⟩ := index0 t
  match a with
  | ⟨0, _⟩ => show win0_2.index t 0 * 1 + 1 * 0 = t.val / 4; omega
  | ⟨1, _⟩ => show win0_2.index t 1 * 2048 + 1 * n.val = n.val; omega
  | ⟨2, _⟩ => show win0_2.index t 2 * 3 + 1 * k.val = k.val; omega

theorem iblk3 (t : Fin cfg0.N) (r : Fin 512) (k : Fin 3) : iblk m c 3 t (ix3 0 r k) = moved m c (ix3 (bat t) (row t r) k) := by
  unfold iblk
  rw [View.read_apply]
  refine Eq.trans ?_ (congrFun (V_main_arg4 m c) (ix3 (bat t) (row t r) k))
  refine congrArg (V m c main_arg4) (funext fun a => Fin.ext ?_)
  obtain ⟨-, -, -, ⟨e0, e1, e2⟩, -⟩ := index0 t
  match a with
  | ⟨0, _⟩ => show win0_3.index t 0 * 1 + 1 * 0 = t.val / 4; omega
  | ⟨1, _⟩ => show win0_3.index t 1 * 512 + 1 * r.val = t.val % 4 * 512 + r.val; omega
  | ⟨2, _⟩ => show win0_3.index t 2 * 3 + 1 * k.val = k.val; omega

theorem gap_eq (t : Fin cfg0.N) (r : Fin 512) : Body.gap (iblk m c 0 t) (iblk m c 1 t) r = dist (warped m c) (target m c) (bat t) (row t r) := by
  funext n
  unfold Body.gap
  simp only [iblk0, iblk1]
  rfl

/-! ## The smallest distance of every column -/

/-- The block's columns, over its own rows alone. -/
theorem part4 (t : Fin cfg0.N) (n : Fin 2048) :
    (least fun r => Body.gap (iblk m c 0 t) (iblk m c 1 t) r n) = least fun r => dist (warped m c) (target m c) (bat t) (row t r) n :=
  congrArg least (funext fun r => congrFun (gap_eq m c t r) n)

theorem outs_first (t : Fin cfg0.N) (h1 : t.val % 4 = 0) :
    (outsAt0 m c t.val t.isLt).1 = Body.colFirst crossed (Body.gaps shapes (iblk m c 0 t) (iblk m c 1 t)) := by
  by_cases h0 : t.val % 8 = 0
  · rw [outsAt0_A m c t h0 h1 (by omega) (by omega)]; dsimp only; rw [col_A]
  · rw [outsAt0_D m c t h0 h1 (by omega) (by omega)]; dsimp only; rw [col_D]

theorem outs_next (t : Fin cfg0.N) (h1 : ¬t.val % 4 = 0) :
    (outsAt0 m c t.val t.isLt).1 = Body.colNext crossed (outsAt0 m c (t.val - 1) (Nat.lt_of_le_of_lt (Nat.sub_le _ _) t.isLt)).1
      (Body.gaps shapes (iblk m c 0 t) (iblk m c 1 t)) := by
  by_cases h3 : t.val % 4 = 3
  · rw [outsAt0_C m c t (by omega) h1 (by omega) h3]; dsimp only; rw [col_C]
  · rw [outsAt0_B m c t (by omega) h1 (by omega) h3]; dsimp only; rw [col_B]

/-- The smallest distance of column `n`. -/
def colMin (b : Fin 2) (n : Fin 2048) : EReal := least fun r => dist (warped m c) (target m c) b r n

theorem outs_last (t : Fin cfg0.N) (h3 : t.val % 4 = 3) (n : Fin 2048) :
    ((outsAt0 m c t.val t.isLt).1 : Vec Ideal S1x1x2048 .f32) (ix3 0 0 n) = colMin m c (bat t) n := by
  refine Grid.least_grid (K := 4) (R := 512) rfl (fun b r => dist (warped m c) (target m c) b r n)
    (fun t : Fin cfg0.N => ((outsAt0 m c t.val t.isLt).1 : Vec Ideal S1x1x2048 .f32) (ix3 0 0 n)) (fun t h => ?_) (fun t h => ?_) t h3
  · exact (congrFun (outs_first m c t h) (ix3 0 0 n)).trans ((Body.colFirst_apply shapes crossed _ _ n).trans (part4 m c t n))
  · exact (congrFun (outs_next m c t h) (ix3 0 0 n)).trans ((Body.colNext_apply shapes crossed _ _ _ n).trans (congrArg _ (part4 m c t n)))

/-- The smallest distances of all columns. -/
def resultCol : S2x1x2048.Idx → EReal := fun i => colMin m c (i 0) (i 2)

theorem flushed4_eq (t : Fin cfg0.N) (hf : (cfg0.win 4).flush t = true) :
    (dats m 0 c).flushed 4 t = ((cfg0.win 4).blk t).view.read (Elt Ideal) (resultCol m c) := by
  rw [Value.flushed4]
  funext j
  obtain ⟨n, rfl⟩ : ∃ n : Fin 2048, j = ix3 0 0 n := by
    refine ⟨j 2, funext fun a => ?_⟩
    match a with
    | ⟨0, _⟩ => exact Subsingleton.elim (α := Fin 1) _ _
    | ⟨1, _⟩ => exact Subsingleton.elim (α := Fin 1) _ _
    | ⟨2, _⟩ => rfl
  refine (outs_last m c t ((flush0_4 t).mp hf) n).trans ?_
  rw [View.read_apply]
  refine congrArg (resultCol m c) (a₁ := ix3 (bat t) 0 n) (funext fun a => Fin.ext ?_)
  obtain ⟨-, -, -, -, ⟨e0, e1, e2⟩, -⟩ := index0 t
  match a with
  | ⟨0, _⟩ => show t.val / 4 = win0_4.index t 0 * 1 + 1 * 0; omega
  | ⟨1, _⟩ => show 0 = win0_4.index t 1 * 1 + 1 * 0; omega
  | ⟨2, _⟩ => show n.val = win0_4.index t 2 * 2048 + 1 * n.val; omega

theorem cover4 (i : S2x1x2048.Idx) : ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 2048 := (i 2).isLt
  have ht : (i 0 : Nat) * 4 + 3 < cfg0.N := by show _ < 8; omega
  refine ⟨⟨_, ht⟩, (flush0_4 _).mpr (by dsimp only; omega), ?_⟩
  show i ∈ ((View.whole main_v3_0).slice (win0_4.rect ⟨_, ht⟩)).set
  rw [View.set_slice_whole, Rect.mem_set_unit]
  obtain ⟨-, -, -, -, ⟨e0, e1, e2⟩, -⟩ := index0 ⟨_, ht⟩
  intro a
  match a with
  | ⟨0, _⟩ => show win0_4.index ⟨_, ht⟩ 0 * 1 ≤ (i 0 : Nat) ∧ (i 0 : Nat) < win0_4.index ⟨_, ht⟩ 0 * 1 + 1
              rw [e0]; dsimp only; omega
  | ⟨1, _⟩ => show win0_4.index ⟨_, ht⟩ 1 * 1 ≤ (i 1 : Nat) ∧ (i 1 : Nat) < win0_4.index ⟨_, ht⟩ 1 * 1 + 1
              rw [e1]; omega
  | ⟨2, _⟩ => show win0_4.index ⟨_, ht⟩ 2 * 2048 ≤ (i 2 : Nat) ∧ (i 2 : Nat) < win0_4.index ⟨_, ht⟩ 2 * 2048 + 2048
              rw [e2]; omega

theorem final4 : (dats m 0 c).arrAt 4 cfg0.N = resultCol m c :=
  (dats m 0 c).arrAt_eq_of_cover 4 (resultCol m c) (flushed4_eq m c) cover4

/-! ## The two sums -/

/-- The smallest distance of row `r`. -/
def rowMin (b : Fin 2) (r : Fin 2048) : EReal := least (dist (warped m c) (target m c) b r)

/-- What grid point `t` adds to the sum of smallest distances. -/
def adds (t : Fin cfg0.N) : EReal :=
  (∑ r, rowMin m c (bat t) (row t r)) + if t.val % 4 = 3 then ∑ n, colMin m c (bat t) n else 0

theorem rowPart_apply (t : Fin cfg0.N) (i : S1x1.Idx) : rowPart (iblk m c 0 t) (iblk m c 1 t) i = ∑ r, rowMin m c (bat t) (row t r) := by
  refine (Body.total_minRow shapes (iblk m c 0 t) (iblk m c 1 t) summed1 i).trans ?_
  simp only [gap_eq]
  rfl

theorem colPart_apply (z : Vec Ideal S1x1x2048 .f32) (i : S1x1.Idx) : colPart z i = ∑ n, z (ix3 0 0 n) :=
  Body.total_line crossed summedN z i

theorem sum_last (t : Fin cfg0.N) (h3 : t.val % 4 = 3) :
    ∑ n, ((outsAt0 m c t.val t.isLt).1 : Vec Ideal S1x1x2048 .f32) (ix3 0 0 n) = ∑ n, colMin m c (bat t) n :=
  Finset.sum_congr rfl fun n _ => outs_last m c t h3 n

theorem add_at (a b : FVec Ideal S1x1 .f32) (i : S1x1.Idx) : addf a b i = a i + b i := rfl

theorem zero_apply (i : S1x1.Idx) : zero i = 0 := by
  show Ideal.ofBits .f32 0x00000000#32 = 0
  simp [Ideal.ofBits, Ideal.ieee]

theorem cham_first (t : Fin cfg0.N) (h0 : t.val % 8 = 0) :
    (outsAt0 m c t.val t.isLt).2.1 = addf zero (rowPart (iblk m c 0 t) (iblk m c 1 t)) := by
  rw [outsAt0_A m c t h0 (by omega) (by omega) (by omega)]; dsimp only; rw [cham_A]

theorem cham_next (t : Fin cfg0.N) (h0 : ¬t.val % 8 = 0) (h3 : ¬t.val % 4 = 3) : (outsAt0 m c t.val t.isLt).2.1
    = addf (outsAt0 m c (t.val - 1) (Nat.lt_of_le_of_lt (Nat.sub_le _ _) t.isLt)).2.1 (rowPart (iblk m c 0 t) (iblk m c 1 t)) := by
  by_cases h1 : t.val % 4 = 0
  · rw [outsAt0_D m c t h0 h1 (by omega) h3]; dsimp only; rw [cham_D]
  · rw [outsAt0_B m c t h0 h1 (by omega) h3]; dsimp only; rw [cham_B]

theorem cham_last (t : Fin cfg0.N) (h3 : t.val % 4 = 3) : (outsAt0 m c t.val t.isLt).2.1
    = addf (addf (outsAt0 m c (t.val - 1) (Nat.lt_of_le_of_lt (Nat.sub_le _ _) t.isLt)).2.1 (rowPart (iblk m c 0 t) (iblk m c 1 t)))
        (colPart (outsAt0 m c t.val t.isLt).1) := by
  rw [outs_next m c t (by omega), outsAt0_C m c t (by omega) (by omega) (by omega) h3]; dsimp only; rw [cham_C]

/-- The running sum of smallest distances after the last grid point. -/
theorem cham_acc (t : Fin cfg0.N) (ht : t.val = 7) (i : S1x1.Idx) :
    ((outsAt0 m c t.val t.isLt).2.1 : Vec Ideal S1x1 .f32) i = ∑ t : Fin cfg0.N, adds m c t := by
  refine Grid.summed (T := cfg0.N) (adds m c) (fun t => ((outsAt0 m c t.val t.isLt).2.1 : Vec Ideal S1x1 .f32) i) (fun t h => ?_) (fun t h => ?_) t
    (by rw [ht]; rfl)
  · refine (congrFun (cham_first m c t (by omega)) i).trans ?_
    rw [add_at, zero_apply, rowPart_apply, zero_add]
    unfold adds
    rw [if_neg (by omega), add_zero]
  · have hl : t.val < 8 := t.isLt
    unfold adds
    by_cases h3 : t.val % 4 = 3
    · refine (congrFun (cham_last m c t h3) i).trans ?_
      rw [if_pos h3, add_at, add_at, rowPart_apply, add_assoc]
      rw [colPart_apply, sum_last m c t h3]
    · refine (congrFun (cham_next m c t (by omega) h3) i).trans ?_
      rw [if_neg h3, add_zero, add_at, rowPart_apply]

/-- Over both clouds, the smallest distances of rows and of columns. -/
theorem sum_adds : ∑ t : Fin cfg0.N, adds m c t = (∑ b, ∑ r, rowMin m c b r) + ∑ b, ∑ n, colMin m c b n := by
  unfold adds
  rw [Finset.sum_add_distrib]
  exact congrArg₂ _ (Grid.sum_grid (K := 4) (R := 512) rfl (rowMin m c)) (Grid.sum_last (K := 4) (by norm_num) fun b => ∑ n, colMin m c b n)

/-- The interpolated curvature at point `r` less the moved one, coordinate `k`. -/
def off (b : Fin 2) (r : Fin 2048) (k : Fin 3) : EReal :=
  mix (by norm_num) (dist (warped m c) (target m c) b r) (fun n => curv m c (ix3 b n k)) - moved m c (ix3 b r k)

section
variable (hM : ∀ b r n, dist (warped m c) (target m c) b r n < big)
include hM

theorem curvPart_apply (t : Fin cfg0.N) (i : S1x1.Idx) : curvPart (iblk m c 0 t) (iblk m c 1 t) (iblk m c 2 t) (iblk m c 3 t) i
    = ∑ r, ∑ k, off m c (bat t) (row t r) k * off m c (bat t) (row t r) k := by
  refine (Body.total_apart shapes crossed (iblk m c 0 t) (iblk m c 1 t) summed3 (iblk m c 2 t) (iblk m c 3 t)
    (fun r n => by rw [gap_eq]; exact hM _ _ _) (by norm_num) i).trans ?_
  simp only [gap_eq, iblk2, iblk3]
  rfl

omit hM in
theorem curv_first (t : Fin cfg0.N) (h0 : t.val % 8 = 0) :
    (outsAt0 m c t.val t.isLt).2.2 = addf zero (curvPart (iblk m c 0 t) (iblk m c 1 t) (iblk m c 2 t) (iblk m c 3 t)) := by
  rw [outsAt0_A m c t h0 (by omega) (by omega) (by omega)]; dsimp only; rw [curv_A]

omit hM in
theorem curv_next (t : Fin cfg0.N) (h0 : ¬t.val % 8 = 0) : (outsAt0 m c t.val t.isLt).2.2
    = addf (outsAt0 m c (t.val - 1) (Nat.lt_of_le_of_lt (Nat.sub_le _ _) t.isLt)).2.2 (curvPart (iblk m c 0 t) (iblk m c 1 t) (iblk m c 2 t) (iblk m c 3 t)) := by
  by_cases h1 : t.val % 4 = 0
  · rw [outsAt0_D m c t h0 h1 (by omega) (by omega)]; dsimp only; rw [curv_D]
  · by_cases h3 : t.val % 4 = 3
    · rw [outsAt0_C m c t h0 h1 (by omega) h3]; dsimp only; rw [curv_C]
    · rw [outsAt0_B m c t h0 h1 (by omega) h3]; dsimp only; rw [curv_B]

/-- The running sum of squares after the last grid point. -/
theorem curv_acc (t : Fin cfg0.N) (ht : t.val = 7) (i : S1x1.Idx) :
    ((outsAt0 m c t.val t.isLt).2.2 : Vec Ideal S1x1 .f32) i = ∑ b, ∑ r, ∑ k, off m c b r k * off m c b r k := by
  refine (Grid.summed (T := cfg0.N) (fun t => ∑ r, ∑ k, off m c (bat t) (row t r) k * off m c (bat t) (row t r) k)
    (fun t => ((outsAt0 m c t.val t.isLt).2.2 : Vec Ideal S1x1 .f32) i) (fun t h => ?_) (fun t h => ?_) t (by rw [ht]; rfl)).trans
      (Grid.sum_grid (K := 4) (R := 512) rfl fun b r => ∑ k, off m c b r k * off m c b r k)
  · refine (congrFun (curv_first m c t (by omega)) i).trans ?_
    rw [add_at, zero_apply, curvPart_apply m c hM, zero_add]
  · have hl : t.val < 8 := t.isLt
    refine (congrFun (curv_next m c t (by omega)) i).trans ?_
    rw [add_at, curvPart_apply m c hM]
end

/-- The two sums as arrays. -/
abbrev resultCham : S1x1.Idx → EReal := fun _ => (∑ b, ∑ r, rowMin m c b r) + ∑ b, ∑ n, colMin m c b n
abbrev resultCurv : S1x1.Idx → EReal := fun _ => ∑ b, ∑ r, ∑ k, off m c b r k * off m c b r k

theorem flushed5_eq (t : Fin cfg0.N) (hf : (cfg0.win 5).flush t = true) :
    (dats m 0 c).flushed 5 t = ((cfg0.win 5).blk t).view.read (Elt Ideal) (resultCham m c) := by
  have ht : t.val = 7 := by have := (flush0_5 t).mp hf; have : t.val < 8 := t.isLt; omega
  rw [Value.flushed5]
  funext j
  exact (cham_acc m c t ht j).trans (sum_adds m c)

theorem cover5 (i : S1x1.Idx) : ∃ t : Fin cfg0.N, (cfg0.win 5).flush t = true ∧ i ∈ ((cfg0.win 5).blk t).view.set := by
  have hT : 7 < cfg0.N := by decide
  refine ⟨⟨7, hT⟩, (flush0_5 _).mpr rfl, ?_⟩
  show i ∈ ((View.whole main_v3_1).slice (win0_5.rect ⟨7, hT⟩)).set
  rw [View.set_slice_whole, Rect.mem_set_unit]
  obtain ⟨-, -, -, -, -, ⟨e0, e1⟩, -⟩ := index0 ⟨7, hT⟩
  have h0 : (i 0 : Nat) < 1 := (i 0).isLt
  have h1 : (i 1 : Nat) < 1 := (i 1).isLt
  intro a
  match a with
  | ⟨0, _⟩ => show win0_5.index ⟨7, hT⟩ 0 * 1 ≤ (i 0 : Nat) ∧ (i 0 : Nat) < win0_5.index ⟨7, hT⟩ 0 * 1 + 1
              rw [e0]; omega
  | ⟨1, _⟩ => show win0_5.index ⟨7, hT⟩ 1 * 1 ≤ (i 1 : Nat) ∧ (i 1 : Nat) < win0_5.index ⟨7, hT⟩ 1 * 1 + 1
              rw [e1]; omega

theorem final5 : (dats m 0 c).arrAt 5 cfg0.N = resultCham m c :=
  (dats m 0 c).arrAt_eq_of_cover 5 (resultCham m c) (flushed5_eq m c) cover5

theorem flushed6_eq (hM : ∀ b r n, dist (warped m c) (target m c) b r n < big) (t : Fin cfg0.N) (hf : (cfg0.win 6).flush t = true) :
    (dats m 0 c).flushed 6 t = ((cfg0.win 6).blk t).view.read (Elt Ideal) (resultCurv m c) := by
  have ht : t.val = 7 := by have := (flush0_6 t).mp hf; have : t.val < 8 := t.isLt; omega
  rw [Value.flushed6]
  funext j
  exact curv_acc m c hM t ht j

theorem cover6 (i : S1x1.Idx) : ∃ t : Fin cfg0.N, (cfg0.win 6).flush t = true ∧ i ∈ ((cfg0.win 6).blk t).view.set := by
  have hT : 7 < cfg0.N := by decide
  refine ⟨⟨7, hT⟩, (flush0_6 _).mpr rfl, ?_⟩
  show i ∈ ((View.whole main_v3_2).slice (win0_6.rect ⟨7, hT⟩)).set
  rw [View.set_slice_whole, Rect.mem_set_unit]
  obtain ⟨-, -, -, -, -, -, e0, e1⟩ := index0 ⟨7, hT⟩
  have h0 : (i 0 : Nat) < 1 := (i 0).isLt
  have h1 : (i 1 : Nat) < 1 := (i 1).isLt
  intro a
  match a with
  | ⟨0, _⟩ => show win0_6.index ⟨7, hT⟩ 0 * 1 ≤ (i 0 : Nat) ∧ (i 0 : Nat) < win0_6.index ⟨7, hT⟩ 0 * 1 + 1
              rw [e0]; omega
  | ⟨1, _⟩ => show win0_6.index ⟨7, hT⟩ 1 * 1 ≤ (i 1 : Nat) ∧ (i 1 : Nat) < win0_6.index ⟨7, hT⟩ 1 * 1 + 1
              rw [e1]; omega

theorem final6 (hM : ∀ b r n, dist (warped m c) (target m c) b r n < big) : (dats m 0 c).arrAt 6 cfg0.N = resultCurv m c :=
  (dats m 0 c).arrAt_eq_of_cover 6 (resultCurv m c) (flushed6_eq m c hM) cover6

end Cert.Cross2048Kernel
-- ==== Proof.Cross2048Ref.lean ====
/- The reference between the two clouds read at an index. -/
module

public import proofs.«01_k».proof.Proof.Near
public import proofs.«01_k».proof.Proof.HostReads
public import proofs.«01_k».proof.Proof.Gen.Cross2048RefIdeal.Read

@[expose] public section

noncomputable section

namespace Cert.Cross2048Ref

open Idealize.ShloMosaic Cert.Rank Cert.Near Cert.HostReads
open Cert.Cross2048RefIdeal Cert.Cross2048RefIdeal.Gen Cert.Cross2048RefIdeal.Read

theorem takeSides : TakeSides 2 2048 2048 5 3 where
  b0 := bcast_S_S2x2048x5
  b1 := bcast_S2x2048x5_S2x2048x5x1_0_1_2
  b2 := bcast_S_S2x2048x5x1
  b3 := bcast_S1_S1x1x1x1_3
  b4 := bcast_S1x1x1x1_S2x2048x5x1_0_1_2_3
  red := reducesTo_S2x2048x5x1_S2x2048x5_d3
  pos := by decide
  b5 := by decide
  b6 := by decide
  wf := gather_S2x2048x3_S2x2048x5x1_S2x2048x5x3_3_1_0_0_1_3_113.wf
  small := by norm_num

variable (x f y : Cloud 2048) (p w : S2x2048x3.Idx → EReal)

abbrev warped : Cloud 2048 := fun i => x i + f i

theorem dist_first (b : Fin 2) (r n : Fin 2048) : val_main_v15 (F := Ideal) x f y (ix3 b r n) = dist (warped x f) y b r n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rw [cm2]
  rfl

theorem dist_second (b : Fin 2) (r n : Fin 2048) : val_main_v37 (F := Ideal) x f y (ix3 b r n) = dist (warped x f) y b r n := by
  pointwise [val_main_v37, val_main_v36, val_main_v35, val_main_v34, val_main_v33, val_main_v32, val_main_v31, val_main_v30, val_main_v29, val_main_v28,
    val_main_v27, val_main_v26, val_main_v25, val_main_v24, val_main_v23, val_main_v0, val_main_cst_8, val_main_cst_9, val_main_cst_10]
  rw [cm2]
  rfl

theorem top : Ideal.ofBits .f32 0x7F800000#32 = (⊤ : EReal) := by simp [Ideal.ofBits, Ideal.ieee]

theorem rowMin_apply (b : Fin 2) (r : Fin 2048) : val_main_v16 (F := Ideal) x f y (ix2 b r) = least (dist (warped x f) y b r) := by
  have e : (fun n => val_main_v15 (F := Ideal) x f y (ix3 b r n)) = dist (warped x f) y b r := funext fun n => dist_first x f y b r n
  pointwise [val_main_v16, val_main_cst_2]
  unfold least
  rw [top, e]

theorem colMin_apply (b : Fin 2) (n : Fin 2048) : val_main_v17 (F := Ideal) x f y (ix2 b n) = least fun r => dist (warped x f) y b r n := by
  have e : (fun r => val_main_v15 (F := Ideal) x f y (ix3 b r n)) = fun r => dist (warped x f) y b r n := funext fun r => dist_first x f y b r n
  pointwise [val_main_v17, val_main_cst_3]
  unfold least
  rw [top, e]

theorem col_apply (b : Fin 2) (n : Fin 2048) : val_main_v62 (F := Ideal) x f y (ix3 b 0 n) = least fun r => dist (warped x f) y b r n := by
  refine Eq.trans ?_ (colMin_apply x f y b n)
  pointwise [val_main_v62]

theorem rows_apply (i : S_.Idx) : val_main_v19 (F := Ideal) x f y i = ∑ b, ∑ r, val_main_v16 (F := Ideal) x f y (ix2 b r) := by
  pointwise [val_main_v19, val_main_v18, val_main_cst_4, val_main_cst_5]

theorem cols_apply (i : S_.Idx) : val_main_v21 (F := Ideal) x f y i = ∑ b, ∑ n, val_main_v17 (F := Ideal) x f y (ix2 b n) := by
  pointwise [val_main_v21, val_main_v20, val_main_cst_6, val_main_cst_7]

/-- A single value as an array [1, 1]. -/
theorem scalar_apply (z : S_.Idx → EReal) (h : S_.ShapeCasts S1x1) (i : S1x1.Idx) : shapeCast S1x1 z h i = z ix0 :=
  shapeCast_apply z h i ix0 (by
    have h0 : (i 0 : Nat) < 1 := (i 0).isLt
    have h1 : (i 1 : Nat) < 1 := (i 1).isLt
    rw [Shape.rowMajor_val_two]
    show 0 = (i 0 : Nat) * 1 + (i 1 : Nat)
    omega)

theorem both_apply (i : S1x1.Idx) :
    val_main_v63 (F := Ideal) x f y i = val_main_v19 (F := Ideal) x f y ix0 + val_main_v21 (F := Ideal) x f y ix0 := by
  unfold val_main_v63
  rw [scalar_apply, val_main_v22_apply]
  generalize val_main_v19 (F := Ideal) x f y ix0 = u
  generalize val_main_v21 (F := Ideal) x f y ix0 = v
  rfl

theorem cham_apply (i : S1x1.Idx) : val_main_v63 (F := Ideal) x f y i
    = (∑ b, ∑ r, least (dist (warped x f) y b r)) + ∑ b, ∑ n, least fun r => dist (warped x f) y b r n := by
  refine (both_apply x f y i).trans (congrArg₂ (· + ·) ((rows_apply x f y ix0).trans ?_) ((cols_apply x f y ix0).trans ?_))
  · exact Finset.sum_congr rfl fun b _ => Finset.sum_congr rfl fun r _ => rowMin_apply x f y b r
  · exact Finset.sum_congr rfl fun b _ => Finset.sum_congr rfl fun n _ => colMin_apply x f y b n

theorem weight_apply (b : Fin 2) (r : Fin 2048) (t : Fin 5) :
    val_main_v44 (F := Ideal) x f y (ix3 b r t) = weight (dist (warped x f) y b r (nth (dist (warped x f) y b r) (Fin.castLE (by norm_num) t))) := by
  have hv := topK_values (by norm_num) (val_main_v37 (F := Ideal) x f y) sliceFits_S2x2048x2048_S2x2048x5 b r t
  rw [show (fun j => val_main_v37 (F := Ideal) x f y (ix3 b r j)) = dist (warped x f) y b r from funext fun j => dist_second x f y b r j, dist_second] at hv
  have e : val_main_v44 (F := Ideal) x f y (ix3 b r t) = weight (-(val_main_values (F := Ideal) x f y (ix3 b r t))) := by
    pointwise [val_main_v44, val_main_v43, val_main_v42, val_main_v41, val_main_v39, val_main_cst_11, val_main_cst_12]
    rfl
  rw [e]
  refine congrArg weight ((congrArg Neg.neg hv).trans (neg_neg _))

theorem norm_apply (b : Fin 2) (r : Fin 2048) :
    val_main_v45 (F := Ideal) x f y (ix2 b r) = ∑ s : Fin 5, weight (dist (warped x f) y b r (nth (dist (warped x f) y b r) (Fin.castLE (by norm_num) s))) := by
  pointwise [val_main_v45, val_main_cst_13]
  simp only [weight_apply]

theorem share_apply (b : Fin 2) (r : Fin 2048) (t : Fin 5) :
    val_main_v52 (F := Ideal) x f y (ix3 b r t)
      = Ideal.div (weight (dist (warped x f) y b r (nth (dist (warped x f) y b r) (Fin.castLE (by norm_num) t))))
        (∑ s : Fin 5, weight (dist (warped x f) y b r (nth (dist (warped x f) y b r) (Fin.castLE (by norm_num) s)))) := by
  rw [← norm_apply, ← weight_apply]
  have e : val_main_v50 (F := Ideal) x f y = val_main_v44 (F := Ideal) x f y := rfl
  pointwise [val_main_v52, val_main_v51, val_main_v46, e]

theorem near_apply (b : Fin 2) (r : Fin 2048) (t : Fin 5) (c : Fin 3) :
    val_main_v40 (F := Ideal) x f y p (ix4 b r t c) = p (ix3 b (nth (dist (warped x f) y b r) (Fin.castLE (by norm_num) t)) c) := by
  have hi : val_main_indices (F := Ideal) x f y (ix3 b r t) = BitVec.ofNat 32 (nth (dist (warped x f) y b r) (Fin.castLE (by norm_num) t)).val := by
    refine (topK_indices (by norm_num) (val_main_v37 (F := Ideal) x f y) sliceFits_S2x2048x2048_S2x2048x5 b r t).trans ?_
    rw [show (fun j => val_main_v37 (F := Ideal) x f y (ix3 b r j)) = dist (warped x f) y b r from funext fun j => dist_second x f y b r j]
  rw [show val_main_v40 (F := Ideal) x f y p = take takeSides p (val_main_indices (F := Ideal) x f y) from rfl,
    take_apply takeSides _ _ b r t c _ hi]

theorem portion_apply (b : Fin 2) (r : Fin 2048) (t : Fin 5) (c : Fin 3) :
    val_main_v54 (F := Ideal) x f y (ix4 b r t c) = val_main_v52 (F := Ideal) x f y (ix3 b r t) := by
  pointwise [val_main_v54, val_main_v53]

theorem off_apply (b : Fin 2) (r : Fin 2048) (c : Fin 3) :
    val_main_v57 (F := Ideal) x f y p w (ix3 b r c)
      = mix (by norm_num) (dist (warped x f) y b r) (fun n => p (ix3 b n c)) - w (ix3 b r c) := by
  pointwise [val_main_v57, val_main_v56, val_main_v55, val_main_cst_16]
  simp only [portion_apply, share_apply, near_apply]
  rfl

theorem squares_apply (i : S_.Idx) : val_main_v61 (F := Ideal) x f y p w i
    = ∑ b, ∑ r, ∑ c : Fin 3, val_main_v57 (F := Ideal) x f y p w (ix3 b r c) * val_main_v57 (F := Ideal) x f y p w (ix3 b r c) := by
  pointwise [val_main_v61, val_main_v60, val_main_v59, val_main_v58, val_main_cst_17, val_main_cst_18, val_main_cst_19]

theorem curv_apply (i : S1x1.Idx) : val_main_v64 (F := Ideal) x f y p w i
    = ∑ b, ∑ r, ∑ c : Fin 3, val_main_v57 (F := Ideal) x f y p w (ix3 b r c) * val_main_v57 (F := Ideal) x f y p w (ix3 b r c) :=
  (scalar_apply _ shapeCasts_S_S1x1 i).trans (squares_apply x f y p w ix0)

end Cert.Cross2048Ref
-- ==== Proof.Cross2048Claims.lean ====
/- The claims about the kernel between the two clouds. -/
module

public import proofs.«01_k».proof.Defs
public import proofs.«01_k».proof.Proof.Gen.Cross2048.Frame
public import proofs.«01_k».proof.Proof.Gen.Cross2048RefIdeal.Run
public import proofs.«01_k».proof.Proof.Gen.Pre_bounded3_2048
public import proofs.«01_k».proof.Proof.Cross2048Kernel
public import proofs.«01_k».proof.Proof.Cross2048Ref

@[expose] public section

noncomputable section

namespace Cert.Cross2048Claims

open Idealize.ShloMosaic Idealize.SL.Sem Cert.Near

theorem frame_p : Cert.quiescent_Cross2048 := fun m ρ _ => Cert.Cross2048.Gen.frame m ρ

theorem frame_pi : Cert.quiescent_Cross2048Ideal := fun m ρ _ => Cert.Cross2048Ideal.Gen.frame m ρ

theorem frame_pi_pre : Cert.quiescent_Cross2048Ideal_pre_bounded3_2048 := fun m ρ _ => Cert.Cross2048Ideal.Gen.frame m ρ

theorem frame_ri : Cert.quiescent_Cross2048RefIdeal := fun m ρ _ =>
  (θ_run Cert.Cross2048RefIdeal.defs _ _).mono (fun r h => ⟨fun c => (h c).2.2.2, sem_eq_zero_of_no_sems (by decide) r.2⟩)
    (Cert.Cross2048RefIdeal.Value.run (F := Ideal) m ρ)

theorem frame_ri_pre : Cert.quiescent_Cross2048RefIdeal_pre_bounded3_2048 := fun m ρ _ => frame_ri m ρ trivial

theorem preserves : Cert.preserves_Cross2048_Cross2048Ideal := trivial

theorem small (m : (ℓ : Loc Cert.Cross2048Ideal.nD Cert.Cross2048Ideal.τ Cert.Cross2048Ideal.sig) → Buf (Elt Ideal) ℓ) (h : Cert.Pre_Cross2048Ideal_bounded3_2048 m)
    (c : Dev Cert.Cross2048Ideal.nD) (i) :
    Small (2 ^ 60) (Cross2048Kernel.cloud m c i) ∧ Small (2 ^ 60) (Cross2048Kernel.flow m c i) ∧ Small (2 ^ 60) (Cross2048Kernel.target m c i) :=
  have h2 := both (congrFun (h c) i)
  have h1 := both h2.1
  ⟨small_of_le h1.1, small_of_le h1.2, small_of_le h2.2⟩

theorem algebraic : Cert.algebraic_Cross2048Ideal_Cross2048RefIdeal_pre_bounded3_2048 := by
  intro m ρ m' ρ' hpre hagree
  have hs := small m hpre
  have hM : ∀ c b r n, dist (Cross2048Kernel.warped m c) (Cross2048Kernel.target m c) b r n < big := fun c b r n =>
    sqd_lt _ _ (fun k => ((hs c _).1.add (hs c _).2.1).mono (by norm_num)) (fun k => (hs c _).2.2.mono (by norm_num))
  refine ⟨fun c => Cross2048Kernel.resultCol m c, fun c => Cross2048Kernel.resultCham m c, fun c => Cross2048Kernel.resultCurv m c, ?_, ?_⟩
  · exact (θ_run Cert.Cross2048Ideal.defs _ _).mono (fun _ h c =>
      ⟨(h c).1.trans (Cross2048Kernel.final4 m c), (h c).2.1.trans (Cross2048Kernel.final5 m c), (h c).2.2.1.trans (Cross2048Kernel.final6 m c (hM c)), (h c).2.2.2⟩)
      (Cert.Cross2048Ideal.Value.run_blocks (F := Ideal) m ρ)
  · refine (θ_run Cert.Cross2048RefIdeal.defs _ _).mono (fun _ h c => ⟨(h c).1.trans ?_, (h c).2.1.trans ?_, (h c).2.2.1.trans ?_, (h c).2.2.2⟩)
      (Cert.Cross2048RefIdeal.Value.run (F := Ideal) m' ρ')
    · rw [Cert.Cross2048RefIdeal.Read.val_main_v62_eq, (hagree c).1, (hagree c).2.1, (hagree c).2.2.1]
      funext i
      obtain ⟨b, n, rfl⟩ : ∃ (b : Fin 2) (n : Fin 2048), i = ix3 b 0 n := by
        refine ⟨i 0, i 2, funext fun a => ?_⟩
        match a with
        | ⟨0, _⟩ => rfl
        | ⟨1, _⟩ => exact Subsingleton.elim (α := Fin 1) _ _
        | ⟨2, _⟩ => rfl
      exact Cross2048Ref.col_apply (Cross2048Kernel.cloud m c) (Cross2048Kernel.flow m c) (Cross2048Kernel.target m c) b n
    · rw [Cert.Cross2048RefIdeal.Read.val_main_v63_eq, (hagree c).1, (hagree c).2.1, (hagree c).2.2.1]
      funext i
      exact Cross2048Ref.cham_apply (Cross2048Kernel.cloud m c) (Cross2048Kernel.flow m c) (Cross2048Kernel.target m c) i
    · rw [Cert.Cross2048RefIdeal.Read.val_main_v64_eq, (hagree c).1, (hagree c).2.1, (hagree c).2.2.1, (hagree c).2.2.2.1, (hagree c).2.2.2.2]
      funext i
      refine (Cross2048Ref.curv_apply (Cross2048Kernel.cloud m c) (Cross2048Kernel.flow m c) (Cross2048Kernel.target m c) (Cross2048Kernel.curv m c) (Cross2048Kernel.moved m c) i).trans ?_
      refine Finset.sum_congr rfl fun b _ => Finset.sum_congr rfl fun r _ => Finset.sum_congr rfl fun k _ => ?_
      rw [Cross2048Ref.off_apply]
      rfl

end Cert.Cross2048Claims
-- ==== Proof.Curv1024Kernel.lean ====
/- The curvature kernel: what its body computes from its blocks, and the array its grid fills. -/
module

public import proofs.«01_k».proof.Proof.Body
public import proofs.«01_k».proof.Proof.Grid
public import proofs.«01_k».proof.Proof.Gen.Curv1024Ideal.Value

@[expose] public section

noncomputable section

namespace Cert.Curv1024Kernel

open Idealize.ShloMosaic Idealize.ShloMosaic.TcCoe Idealize.SL.Sem Cert.Rank Cert.Near
open Cert.Curv1024Ideal Cert.Curv1024Ideal.Gen

/-! ## The body -/

theorem shapes : Body.Shapes 1024 1024 where
  sides := ⟨reduces_S1024x1024_S1024, shapeCasts_S1024_S1024x1, broadcasts_S1024x1_S1024x1024, by norm_num⟩
  rows := shapeCasts_S1x1024x3_S1024x3
  cols := shapeCasts_S1x3x1024_S3x1024
  all := shapeCasts_S1x1024x3_S1024x3
  back := shapeCasts_S1024x3_S1x1024x3
  r0 := slices_S1024x3_o0_0_S1024x1
  r1 := slices_S1024x3_o0_1_S1024x1
  r2 := slices_S1024x3_o0_2_S1024x1
  c0 := slices_S3x1024_o0_0_S1x1024
  c1 := slices_S3x1024_o1_0_S1x1024
  c2 := slices_S3x1024_o2_0_S1x1024
  down := broadcasts_S1x1024_S1024x1024
  iota := iota_S1024x1024_d1_w32

theorem hz : (![0, 0, 0] : Fin 3 → Nat) = fun _ => 0 := funext fun a => by fin_cases a <;> rfl

theorem out_eq (x0 : Vec Ideal S1x1024x3 .f32) (x1 : Vec Ideal S1x3x1024 .f32) (x2 : Vec Ideal S1x1024x3 .f32) :
    out0_3 x0 x1 x2 = Body.mean shapes (Body.rowsOf shapes x0) (Body.near shapes x0 x1 9) (Body.allOf shapes x2) := by
  unfold_out out0_3
  rw [View.canon_unit_zero hz, View.ld_unit_zero hz, View.ld_unit_zero hz, View.ld_unit_zero hz]
  rfl

/-! ## The blocks -/

abbrev bat (t : Fin cfg0.N) : Fin 2 := Grid.bat 1 t
abbrev row (t : Fin cfg0.N) (r : Fin 1024) : Fin 1024 := Grid.row (K := 1) (R := 1024) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0))

variable (m : (ℓ : Loc nD τ sig) → Buf (Elt Ideal) ℓ) (c : Dev nD)

/-- The cloud a device is given. -/
abbrev cloud : Cloud 1024 := m ((c : Thread nD τ).loc main_arg0)

theorem V_rows (b : Fin 2) (n : Fin 1024) (k : Fin 3) : V m c main_v0 (ix3 b n k) = cloud m c (ix3 b k n) := by
  have h : V m c main_v0 = transpose S2x1024x3 [0, 2, 1] (cloud m c) transposes_S2x3x1024_S2x1024x3_0_2_1 := rfl
  rw [h]
  pointwise

theorem iblk_rows (t : Fin cfg0.N) (r : Fin 1024) (k : Fin 3) : iblk m c 0 t (ix3 0 r k) = cloud m c (ix3 (bat t) k (row t r)) := by
  unfold iblk
  rw [View.read_apply]
  refine Eq.trans ?_ (V_rows m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 1024 + 1 * r.val = t.val % 1 * 1024 + r.val; omega
  | ⟨2, _⟩ => show win0_0.index t 2 * 3 + 1 * k.val = k.val; omega

theorem iblk_cols (t : Fin cfg0.N) (k : Fin 3) (n : Fin 1024) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 1024 + 1 * n.val = n.val; omega

theorem iblk_all (t : Fin cfg0.N) (n : Fin 1024) (k : Fin 3) : iblk m c 2 t (ix3 0 n k) = cloud m c (ix3 (bat t) k n) := by
  unfold iblk
  rw [View.read_apply]
  refine Eq.trans ?_ (V_rows m c (bat t) n k)
  refine congrArg (V m c main_v0) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 1024 + 1 * n.val = n.val; omega
  | ⟨2, _⟩ => show win0_2.index t 2 * 3 + 1 * k.val = k.val; omega

/-! ## The array -/

/-- What the kernel leaves in its result array. -/
def result (p : Cloud 1024) : (⟨3, ![2, 1024, 3]⟩ : Shape).Idx → EReal := fun i => curvMasked p p (i 0) (i 1) (i 2)

theorem gap_eq (t : Fin cfg0.N) (r : Fin 1024) : Body.gap (iblk m c 0 t) (iblk m c 1 t) r = dist (cloud m c) (cloud m c) (bat t) (row t r) := by
  funext n
  unfold Body.gap
  simp only [iblk_rows, iblk_cols]
  rfl

theorem flushed_eq (hM : ∀ b r n, dist (cloud m c) (cloud m c) b r n < big) (t : Fin cfg0.N) :
    (dats m 0 c).flushed 3 t = ((cfg0.win 3).blk t).view.read (Elt Ideal) (result (cloud m c)) := by
  rw [Value.flushed3]
  funext j
  obtain ⟨r, k, rfl⟩ : ∃ (r : Fin 1024) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_3 (iblk m c 0 t) (iblk m c 1 t) (iblk m c 2 t) (ix3 0 r k) = _
  rw [out_eq]
  refine (Body.mean_near shapes (iblk m c 0 t) (iblk m c 1 t) (iblk m c 2 t) (iblk m c 0 t) r k (fun n => ?_) (by norm_num)).trans ?_
  · rw [gap_eq]; exact hM _ _ _
  · simp only [gap_eq, iblk_rows, iblk_all]
    rw [View.read_apply]
    refine congrArg (result (cloud m c)) (a₁ := ix3 (bat t) (row t r) k) (funext fun a => Fin.ext ?_)
    obtain ⟨-, -, -, e0, e1, e2⟩ := index0 t
    match a with
    | ⟨0, _⟩ => show t.val / 1 = win0_3.index t 0 * 1 + 1 * 0; omega
    | ⟨1, _⟩ => show t.val % 1 * 1024 + r.val = win0_3.index t 1 * 1024 + 1 * r.val; omega
    | ⟨2, _⟩ => show k.val = win0_3.index t 2 * 3 + 1 * k.val; omega

theorem cover (i : S2x1024x3.Idx) : ∃ t : Fin cfg0.N, (cfg0.win 3).flush t = true ∧ i ∈ ((cfg0.win 3).blk t).view.set := by
  have h0 : (i 0 : Nat) < 2 := (i 0).isLt
  have h1 : (i 1 : Nat) < 1024 := (i 1).isLt
  have h2 : (i 2 : Nat) < 3 := (i 2).isLt
  have ht : (i 0 : Nat) * 1 + (i 1 : Nat) / 1024 < cfg0.N := by show _ < 2; omega
  refine ⟨⟨_, ht⟩, flush0_3 _, ?_⟩
  show i ∈ ((View.whole main_v1).slice (win0_3.rect ⟨_, ht⟩)).set
  rw [View.set_slice_whole, Rect.mem_set_unit]
  obtain ⟨-, -, -, e0, e1, e2⟩ := index0 ⟨_, ht⟩
  intro a
  match a with
  | ⟨0, _⟩ => show win0_3.index ⟨_, ht⟩ 0 * 1 ≤ (i 0 : Nat) ∧ (i 0 : Nat) < win0_3.index ⟨_, ht⟩ 0 * 1 + 1
              rw [e0]; dsimp only; omega
  | ⟨1, _⟩ => show win0_3.index ⟨_, ht⟩ 1 * 1024 ≤ (i 1 : Nat) ∧ (i 1 : Nat) < win0_3.index ⟨_, ht⟩ 1 * 1024 + 1024
              rw [e1]; dsimp only; omega
  | ⟨2, _⟩ => show win0_3.index ⟨_, ht⟩ 2 * 3 ≤ (i 2 : Nat) ∧ (i 2 : Nat) < win0_3.index ⟨_, ht⟩ 2 * 3 + 3
              rw [e2]; dsimp only; omega

theorem final (hM : ∀ b r n, dist (cloud m c) (cloud m c) b r n < big) :
    (dats m 0 c).arrAt 3 cfg0.N = result (cloud m c) :=
  (dats m 0 c).arrAt_eq_of_cover 3 (result (cloud m c)) (fun t _ => flushed_eq m c hM t) cover

end Cert.Curv1024Kernel
-- ==== Proof.Curv1024Ref.lean ====
/- The reference's curvature read at an index. -/
module

public import proofs.«01_k».proof.Proof.Near
public import proofs.«01_k».proof.Proof.HostReads
public import proofs.«01_k».proof.Proof.Gen.Curv1024RefIdeal.Read

@[expose] public section

noncomputable section

namespace Cert.Curv1024Ref

open Idealize.ShloMosaic Cert.Rank Cert.Near Cert.HostReads
open Cert.Curv1024RefIdeal Cert.Curv1024RefIdeal.Gen Cert.Curv1024RefIdeal.Read

theorem takeSides : TakeSides 2 1024 1024 10 3 where
  b0 := bcast_S_S2x1024x10
  b1 := bcast_S2x1024x10_S2x1024x10x1_0_1_2
  b2 := bcast_S_S2x1024x10x1
  b3 := bcast_S1_S1x1x1x1_3
  b4 := bcast_S1x1x1x1_S2x1024x10x1_0_1_2_3
  red := reducesTo_S2x1024x10x1_S2x1024x10_d3
  pos := by decide
  b5 := by decide
  b6 := by decide
  wf := gather_S2x1024x3_S2x1024x10x1_S2x1024x10x3_3_1_0_0_1_3_113.wf
  small := by norm_num

variable (x : Cloud 1024)

theorem take_eq : val_main_v16 (F := Ideal) x = take takeSides (val_main_v0 (F := Ideal) x) (val_main_indices (F := Ideal) x) := rfl

theorem rows_apply (b : Fin 2) (n : Fin 1024) (c : Fin 3) : val_main_v0 (F := Ideal) x (ix3 b n c) = x (ix3 b c n) := by
  pointwise [val_main_v0]

theorem dist_apply (b : Fin 2) (r n : Fin 1024) : val_main_v13 (F := Ideal) x (ix3 b r n) = dist x x b r n := by
  pointwise [val_main_v13, val_main_v12, val_main_v11, val_main_v10, val_main_v9, val_main_v8, val_main_v7, val_main_v6, val_main_v5, val_main_v4, val_main_v3, val_main_v2, val_main_v1, val_main_v0, val_main_cst, val_main_cst_0,
    val_main_cst_1]
  rw [cm2]
  rfl

theorem indices_apply (b : Fin 2) (r : Fin 1024) (t : Fin 10) :
    val_main_indices (F := Ideal) x (ix3 b r t) = BitVec.ofNat 32 (nth (dist x x b r) (Fin.castLE (by norm_num) t)).val := by
  refine (topK_indices (by norm_num) (val_main_v13 (F := Ideal) x) sliceFits_S2x1024x1024_S2x1024x10 b r t).trans ?_
  have e : (fun j => val_main_v13 (F := Ideal) x (ix3 b r j)) = dist x x b r := funext fun j => dist_apply x b r j
  rw [e]

theorem near_apply (b : Fin 2) (r : Fin 1024) (t : Fin 10) (c : Fin 3) :
    val_main_v16 (F := Ideal) x (ix4 b r t c) = x (ix3 b c (nth (dist x x b r) (Fin.castLE (by norm_num) t))) := by
  rw [take_eq, take_apply takeSides _ _ b r t c _ (indices_apply x b r t), rows_apply]

/-- The reference's result. -/
theorem curv_apply (b : Fin 2) (r : Fin 1024) (c : Fin 3) :
    val_main_v22 (F := Ideal) x (ix3 b r c) = curvListed (by norm_num) x x b r c := by
  pointwise [val_main_v22, val_main_v21, val_main_cst_3, val_main_v20, val_main_cst_2, val_main_v19, val_main_v18, val_main_v17]
  simp only [near_apply, rows_apply]
  rw [c9]
  rfl

end Cert.Curv1024Ref
-- ==== Proof.Curv1024Claims.lean ====
/- The claims about the curvature kernel. -/
module

public import proofs.«01_k».proof.Defs
public import proofs.«01_k».proof.Proof.Gen.Curv1024.Frame
public import proofs.«01_k».proof.Proof.Gen.Pre_bounded_1024
public import proofs.«01_k».proof.Proof.Curv1024Kernel
public import proofs.«01_k».proof.Proof.Curv1024Ref
public import Idealize.ShloMosaic.Lib.Claim

@[expose] public section

noncomputable section

namespace Cert.Curv1024Claims

open Idealize.ShloMosaic Idealize.SL.Sem Cert.Near

theorem frame_p : Cert.quiescent_Curv1024 := fun m ρ _ => Cert.Curv1024.Gen.frame m ρ

theorem frame_pi : Cert.quiescent_Curv1024Ideal := fun m ρ _ => Cert.Curv1024Ideal.Gen.frame m ρ

theorem frame_pi_pre : Cert.quiescent_Curv1024Ideal_pre_bounded_1024 := fun m ρ _ => Cert.Curv1024Ideal.Gen.frame m ρ

theorem frame_ri : Cert.quiescent_Curv1024RefIdeal := fun m ρ _ =>
  (θ_run Cert.Curv1024RefIdeal.defs _ _).mono (fun r h => ⟨fun c => (h c).2, sem_eq_zero_of_no_sems (by decide) r.2⟩)
    (Cert.Curv1024RefIdeal.Value.run (F := Ideal) m ρ)

theorem frame_ri_pre : Cert.quiescent_Curv1024RefIdeal_pre_bounded_1024 := fun m ρ _ => frame_ri m ρ trivial

theorem preserves : Cert.preserves_Curv1024_Curv1024Ideal := trivial

theorem small (m : (ℓ : Loc Cert.Curv1024Ideal.nD Cert.Curv1024Ideal.τ Cert.Curv1024Ideal.sig) → Buf (Elt Ideal) ℓ) (h : Cert.Pre_Curv1024Ideal_bounded_1024 m)
    (c : Dev Cert.Curv1024Ideal.nD) (i) : Small (2 ^ 60) (Curv1024Kernel.cloud m c i) :=
  small_of_le (congrFun (h c) i)

theorem algebraic : Cert.algebraic_Curv1024Ideal_Curv1024RefIdeal_pre_bounded_1024 := by
  intro m ρ m' ρ' hpre hagree
  have hs := small m hpre
  have hM : ∀ c b r n, dist (Curv1024Kernel.cloud m c) (Curv1024Kernel.cloud m c) b r n < big := fun c b r n =>
    sqd_lt _ _ (fun k => (hs c _).mono (by norm_num)) (fun k => (hs c _).mono (by norm_num))
  refine ⟨fun c => Curv1024Kernel.result (Curv1024Kernel.cloud m c), ?_, ?_⟩
  · exact (θ_run Cert.Curv1024Ideal.defs _ _).mono (fun _ h c => ⟨(h c).1.trans (Curv1024Kernel.final m c (hM c)), (h c).2⟩)
      (Cert.Curv1024Ideal.Value.run_blocks (F := Ideal) m ρ)
  · refine (θ_run Cert.Curv1024RefIdeal.defs _ _).mono (fun _ h c => ⟨(h c).1.trans ?_, (h c).2⟩) (Cert.Curv1024RefIdeal.Value.run (F := Ideal) m' ρ')
    rw [Cert.Curv1024RefIdeal.Read.val_main_v22_eq, hagree c]
    funext i
    obtain ⟨b, r, k, rfl⟩ := exists_ix3 i
    refine (Curv1024Ref.curv_apply (Curv1024Kernel.cloud m c) b r k).trans (curvMasked_eq (by norm_num) _ _ b r k fun n => ?_).symm
    obtain ⟨u, hu, -⟩ := hs c (ix3 b k n)
    exact ⟨u, hu⟩

end Cert.Curv1024Claims
-- ==== Proof.Smooth1024Kernel.lean ====
/- The smoothness kernel: what its body computes from its blocks, and the arrays its grid fills. -/
module

public import proofs.«01_k».proof.Proof.Body
public import proofs.«01_k».proof.Proof.Grid
public import proofs.«01_k».proof.Proof.Gen.Smooth1024Ideal.Value

@[expose] public section

noncomputable section

namespace Cert.Smooth1024Kernel

open Idealize.ShloMosaic Idealize.ShloMosaic.TcCoe Idealize.SL.Sem Cert.Rank Cert.Near
open Cert.Smooth1024Ideal Cert.Smooth1024Ideal.Gen

/-! ## The body -/

theorem shapes : Body.Shapes 1024 1024 where
  sides := ⟨reduces_S1024x1024_S1024, shapeCasts_S1024_S1024x1, broadcasts_S1024x1_S1024x1024, by norm_num⟩
  rows := shapeCasts_S1x1024x3_S1024x3
  cols := shapeCasts_S1x3x1024_S3x1024
  all := shapeCasts_S1x1024x3_S1024x3
  back := shapeCasts_S1024x3_S1x1024x3
  r0 := slices_S1024x3_o0_0_S1024x1
  r1 := slices_S1024x3_o0_1_S1024x1
  r2 := slices_S1024x3_o0_2_S1024x1
  c0 := slices_S3x1024_o0_0_S1x1024
  c1 := slices_S3x1024_o1_0_S1x1024
  c2 := slices_S3x1024_o2_0_S1x1024
  down := broadcasts_S1x1024_S1024x1024
  iota := iota_S1024x1024_d1_w32

theorem summed : Body.Summed 1024 1 := ⟨shapeCasts_S1024x1_S1x1024x1, reduces_S1x1024x1_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the running sum. -/
abbrev part (x0 : Vec Ideal S1x1024x3 .f32) (x1 x2 : Vec Ideal S1x3x1024 .f32) (x3 : Vec Ideal S1x1024x3 .f32) : FVec Ideal S1x1 .f32 :=
  divf (Body.total summed (Body.rowSum shapes (select (Body.near shapes x0 x1 8) (Body.normOf shapes (Body.rowsOf shapes x3) (Body.colsOf shapes x2))
    (broadcast S1024x1024 (Scalar.ofBits .f32 0x00000000#32))))) (broadcast S1x1 (Scalar.ofBits .f32 0x41000000#32))

theorem pay33 (x : Vec Ideal S1x1 .f32) : k0_pay33 x = x := shapeCast_self ..

section
variable (c : Dev nD) (i : grid0.Coords) (a2 : Memref sig .tc .vmem S1x1024x3 .f32) (h2 : a2.IsWhole) (a3 : Memref sig .tc .vmem S1x3x1024 .f32) (h3 : a3.IsWhole) (a4 : Memref sig .tc .vmem S1x3x1024 .f32) (h4 : a4.IsWhole) (a5 : Memref sig .tc .vmem S1x1024x3 .f32) (h5 : a5.IsWhole) (a6 : Memref sig .tc .vmem S1x1024x3 .f32) (h6 : a6.IsWhole) (a7 : Memref sig .tc .vmem S1x1024x3 .f32) (h7 : a7.IsWhole) (a8 : Memref sig .tc .vmem S1x1 .f32) (h8 : a8.IsWhole) (a9 : Memref sig .tc .vmem S1x1024x3 .f32) (h9 : a9.IsWhole)
    (x0 : Vec Ideal S1x1024x3 .f32) (x1 : Vec Ideal S1x3x1024 .f32) (x2 : Vec Ideal S1x3x1024 .f32) (x3 : Vec Ideal S1x1024x3 .f32) (x4 : Vec Ideal S1x1024x3 .f32) (x5 : Vec Ideal S1x1024x3 .f32)

theorem sum_A (hc : cond0_0 i) : out0_A_6 c i a2 h2 a3 h3 a4 h4 a5 h5 a6 h6 a7 h7 a8 h8 a9 h9 hc x0 x1 x2 x3 x4 x5 = addf (broadcast S1x1 (Scalar.ofBits .f32 0x00000000#32)) (part x0 x1 x2 x3) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x1) hz2, View.ld_unit_zero (S := S1x1024x3) hz, View.ld_unit_zero (S := S1x3x1024) hz, View.ld_unit_zero (S := S1x1024x3) hz]
  rw [pay33]
  rfl

theorem sum_B (hc : ¬cond0_0 i) (xo : Vec Ideal S1x1 .f32) : out0_B_6 c i a2 h2 a3 h3 a4 h4 a5 h5 a6 h6 a7 h7 a8 h8 a9 h9 hc x0 x1 x2 x3 x4 x5 xo = addf xo (part x0 x1 x2 x3) := by
  unfold out0_B_6
  rw [View.read_writes_eq_canon _ _ _ (cover0_B_6 c i a2 h2 a3 h3 a4 h4 a5 h5 a6 h6 a7 h7 a8 h8 a9 h9 hc x0 x1 x2 x3 x4 x5 xo)]
  unfold kernelRun0_B
  dsimp only
  rw [View.canon_unit_zero hz2]
  sl_unfold_words
  simp only [View.readAt_eq_ld, h2.read_unread, h3.read_unread, h4.read_unread, h5.read_unread, h6.read_unread, h7.read_unread, h8.read_unread,
    View.ld_unit_zero (S := S1x1) hz2, View.ld_unit_zero (S := S1x1024x3) hz, View.ld_unit_zero (S := S1x3x1024) hz, View.ld_unit_zero (S := S1x1024x3) hz]
  rw [pay33]
  rfl

/-- What the body stores as the moved curvature. -/
abbrev moved : FVec Ideal S1x1024x3 .f32 := Body.mean shapes (Body.rowsOf shapes x5) (Body.near shapes x0 x1 9) (Body.allOf shapes x4)

theorem moved_A (hc : cond0_0 i) : out0_A_7 c i a2 h2 a3 h3 a4 h4 a5 h5 a6 h6 a7 h7 a8 h8 a9 h9 hc x0 x1 x2 x3 x4 x5 = moved x0 x1 x4 x5 := by
  unfold out0_A_7
  rw [View.read_writes_eq_canon _ _ _ (cover0_A_7 c i a2 h2 a3 h3 a4 h4 a5 h5 a6 h6 a7 h7 a8 h8 a9 h9 hc x0 x1 x2 x3 x4 x5)]
  unfold kernelRun0_A
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x1024x3) hz, View.ld_unit_zero (S := S1x3x1024) hz, View.ld_unit_zero (S := S1x1024x3) hz]
  rfl

theorem moved_B (hc : ¬cond0_0 i) (xo : Vec Ideal S1x1 .f32) : out0_B_7 c i a2 h2 a3 h3 a4 h4 a5 h5 a6 h6 a7 h7 a8 h8 a9 h9 hc x0 x1 x2 x3 x4 x5 xo = moved x0 x1 x4 x5 := by
  unfold out0_B_7
  rw [View.read_writes_eq_canon _ _ _ (cover0_B_7 c i a2 h2 a3 h3 a4 h4 a5 h5 a6 h6 a7 h7 a8 h8 a9 h9 hc x0 x1 x2 x3 x4 x5 xo)]
  unfold kernelRun0_B
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x1024x3) hz, View.ld_unit_zero (S := S1x3x1024) hz, View.ld_unit_zero (S := S1x1024x3) hz]
  rfl

end

/-! ## The blocks -/

abbrev bat (t : Fin cfg0.N) : Fin 2 := Grid.bat 1 t
abbrev row (t : Fin cfg0.N) (r : Fin 1024) : Fin 1024 := Grid.row (K := 1) (R := 1024) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = t.val / 1 ∧ win0_5.index t 1 = t.val % 1 ∧ win0_5.index t 2 = 0)
    ∧ (win0_6.index t 0 = 0 ∧ win0_6.index t 1 = 0)
    ∧ (win0_7.index t 0 = t.val / 1 ∧ win0_7.index t 1 = t.val % 1 ∧ win0_7.index t 2 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = t.val / 1 ∧ win0_5.index t 1 = t.val % 1 ∧ win0_5.index t 2 = 0)
    ∧ (win0_6.index t 0 = 0 ∧ win0_6.index t 1 = 0)
    ∧ (win0_7.index t 0 = t.val / 1 ∧ win0_7.index t 1 = t.val % 1 ∧ win0_7.index t 2 = 0))

variable (m : (ℓ : Loc nD τ sig) → Buf (Elt Ideal) ℓ) (c : Dev nD)

/-- The clouds a device is given, and the moved cloud. -/
abbrev cloud : Cloud 1024 := m ((c : Thread nD τ).loc main_arg0)
abbrev flow : Cloud 1024 := m ((c : Thread nD τ).loc main_arg1)
abbrev warped : Cloud 1024 := fun i => cloud m c i + flow m c i

theorem V_cloud (b : Fin 2) (n : Fin 1024) (k : Fin 3) : V m c main_v0 (ix3 b n k) = cloud m c (ix3 b k n) := by
  have h : V m c main_v0 = transpose S2x1024x3 [0, 2, 1] (cloud m c) transposes_S2x3x1024_S2x1024x3_0_2_1 := rfl
  rw [h]
  pointwise
theorem V_flow (b : Fin 2) (n : Fin 1024) (k : Fin 3) : V m c main_v1 (ix3 b n k) = flow m c (ix3 b k n) := by
  have h : V m c main_v1 = transpose S2x1024x3 [0, 2, 1] (flow m c) transposes_S2x3x1024_S2x1024x3_0_2_1 := rfl
  rw [h]
  pointwise
theorem V_warped (b : Fin 2) (n : Fin 1024) (k : Fin 3) : V m c main_v2 (ix3 b n k) = warped m c (ix3 b k n) := by
  have h : V m c main_v2 = addf (transpose S2x1024x3 [0, 2, 1] (cloud m c) transposes_S2x3x1024_S2x1024x3_0_2_1 : FVec Ideal S2x1024x3 .f32)
    (transpose S2x1024x3 [0, 2, 1] (flow m c) transposes_S2x3x1024_S2x1024x3_0_2_1) := rfl
  rw [h]
  pointwise

theorem iblk0 (t : Fin cfg0.N) (r : Fin 1024) (k : Fin 3) : iblk m c 0 t (ix3 0 r k) = cloud m c (ix3 (bat t) k (row t r)) := by
  unfold iblk
  rw [View.read_apply]
  refine Eq.trans ?_ (V_cloud m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 1024 + 1 * r.val = t.val % 1 * 1024 + r.val; omega
  | ⟨2, _⟩ => show win0_0.index t 2 * 3 + 1 * k.val = k.val; omega

theorem iblk1 (t : Fin cfg0.N) (k : Fin 3) (n : Fin 1024) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 1024 + 1 * n.val = n.val; omega

theorem iblk2 (t : Fin cfg0.N) (k : Fin 3) (n : Fin 1024) : iblk m c 2 t (ix3 0 k n) = flow m c (ix3 (bat t) k n) := by
  unfold iblk
  rw [View.read_apply]
  refine Eq.trans ?_ (congrFun (V_main_arg1 m c) (ix3 (bat t) k n))
  refine congrArg (V m c main_arg1) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 3 + 1 * k.val = k.val; omega
  | ⟨2, _⟩ => show win0_2.index t 2 * 1024 + 1 * n.val = n.val; omega

theorem iblk3 (t : Fin cfg0.N) (r : Fin 1024) (k : Fin 3) : iblk m c 3 t (ix3 0 r k) = flow m c (ix3 (bat t) k (row t r)) := by
  unfold iblk
  rw [View.read_apply]
  refine Eq.trans ?_ (V_flow m c (bat t) (row t r) k)
  refine congrArg (V m c main_v1) (funext fun a => Fin.ext ?_)
  obtain ⟨-, -, -, ⟨e0, e1, e2⟩, -⟩ := index0 t
  match a with
  | ⟨0, _⟩ => show win0_3.index t 0 * 1 + 1 * 0 = t.val / 1; omega
  | ⟨1, _⟩ => show win0_3.index t 1 * 1024 + 1 * r.val = t.val % 1 * 1024 + r.val; omega
  | ⟨2, _⟩ => show win0_3.index t 2 * 3 + 1 * k.val = k.val; omega

theorem iblk4 (t : Fin cfg0.N) (n : Fin 1024) (k : Fin 3) : iblk m c 4 t (ix3 0 n k) = warped m c (ix3 (bat t) k n) := by
  unfold iblk
  rw [View.read_apply]
  refine Eq.trans ?_ (V_warped m c (bat t) n k)
  refine congrArg (V m c main_v2) (funext fun a => Fin.ext ?_)
  obtain ⟨-, -, -, -, ⟨e0, e1, e2⟩, -⟩ := index0 t
  match a with
  | ⟨0, _⟩ => show win0_4.index t 0 * 1 + 1 * 0 = t.val / 1; omega
  | ⟨1, _⟩ => show win0_4.index t 1 * 1024 + 1 * n.val = n.val; omega
  | ⟨2, _⟩ => show win0_4.index t 2 * 3 + 1 * k.val = k.val; omega

theorem iblk5 (t : Fin cfg0.N) (r : Fin 1024) (k : Fin 3) : iblk m c 5 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨-, -, -, -, -, ⟨e0, e1, e2⟩, -⟩ := index0 t
  match a with
  | ⟨0, _⟩ => show win0_5.index t 0 * 1 + 1 * 0 = t.val / 1; omega
  | ⟨1, _⟩ => show win0_5.index t 1 * 1024 + 1 * r.val = t.val % 1 * 1024 + r.val; omega
  | ⟨2, _⟩ => show win0_5.index t 2 * 3 + 1 * k.val = k.val; omega

/-! ## The arrays the grid fills -/

variable (hM : ∀ b r n, dist (cloud m c) (cloud m c) b r n < big)

theorem gap_eq (t : Fin cfg0.N) (r : Fin 1024) : Body.gap (iblk m c 0 t) (iblk m c 1 t) r = dist (cloud m c) (cloud m c) (bat t) (row t r) := by
  funext n
  unfold Body.gap
  simp only [iblk0, iblk1]
  rfl

/-- What grid point `t` adds to the smoothness sum. -/
def adds (t : Fin cfg0.N) : EReal := Ideal.div (∑ r, turnMasked (cloud m c) (flow m c) (bat t) (row t r)) (8 : ℝ)

include hM in
theorem part_apply (t : Fin cfg0.N) (i : S1x1.Idx) : part (iblk m c 0 t) (iblk m c 1 t) (iblk m c 2 t) (iblk m c 3 t) i = adds m c t := by
  show Ideal.div (Body.total summed _ i) (Ideal.ofBits .f32 0x41000000#32) = _
  rw [Body.total_near shapes summed _ _ _ _ (fun r n => by rw [gap_eq]; exact hM _ _ _) (by norm_num) i, c8]
  simp only [gap_eq, iblk2, iblk3]
  rfl

include hM in
/-- The running sum after the last grid point. -/
theorem acc_apply (i : S1x1.Idx) : ((outsAt0 m c 1 (by decide)).1 : Vec Ideal S1x1 .f32) i = ∑ t : Fin cfg0.N, adds m c t := by
  refine Grid.running (T := cfg0.N) (adds m c) (fun n h => ((outsAt0 m c n h).1 : Vec Ideal S1x1 .f32) i) (fun h => ?_) (fun n h => ?_) 1 (by decide) rfl
  · rw [outsAt0_A m c ⟨0, h⟩ rfl]
    dsimp only
    rw [sum_A]
    show Ideal.ofBits .f32 0x00000000#32 + part _ _ _ _ i = _
    rw [part_apply m c hM, show Ideal.ofBits .f32 0x00000000#32 = 0 by simp [Ideal.ofBits, Ideal.ieee], zero_add]
  · have hn : n + 1 < 2 := h
    rw [outsAt0_B m c ⟨n + 1, h⟩ (by dsimp only; omega)]
    dsimp only
    rw [sum_B]
    show _ + part _ _ _ _ i = _
    rw [part_apply m c hM]
    rfl

/-- The smoothness sum over both clouds. -/
abbrev resultSum : S1x1.Idx → EReal := fun _ => ∑ t : Fin cfg0.N, adds m c t

include hM in
theorem flushed6_eq (t : Fin cfg0.N) (hf : (cfg0.win 6).flush t = true) :
    (dats m 0 c).flushed 6 t = ((cfg0.win 6).blk t).view.read (Elt Ideal) (resultSum m c) := by
  obtain rfl : t = ⟨1, by decide⟩ := Fin.ext (by have := (flush0_6 t).mp hf; have : t.val < 2 := t.isLt; show t.val = 1; omega)
  rw [Value.flushed6]
  funext j
  exact acc_apply m c hM j

theorem cover6 (i : S1x1.Idx) : ∃ t : Fin cfg0.N, (cfg0.win 6).flush t = true ∧ i ∈ ((cfg0.win 6).blk t).view.set := by
  have hT : 1 < cfg0.N := by decide
  refine ⟨⟨1, hT⟩, (flush0_6 _).mpr rfl, ?_⟩
  show i ∈ ((View.whole main_v3_0).slice (win0_6.rect ⟨1, hT⟩)).set
  rw [View.set_slice_whole, Rect.mem_set_unit]
  obtain ⟨-, -, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win0_6.index ⟨1, hT⟩ 0 * 1 ≤ (i 0 : Nat) ∧ (i 0 : Nat) < win0_6.index ⟨1, hT⟩ 0 * 1 + 1
              rw [e0]; omega
  | ⟨1, _⟩ => show win0_6.index ⟨1, hT⟩ 1 * 1 ≤ (i 1 : Nat) ∧ (i 1 : Nat) < win0_6.index ⟨1, hT⟩ 1 * 1 + 1
              rw [e1]; omega

include hM in
theorem final6 : (dats m 0 c).arrAt 6 cfg0.N = resultSum m c :=
  (dats m 0 c).arrAt_eq_of_cover 6 (resultSum m c) (flushed6_eq m c hM) cover6

/-- The moved curvature of every point. -/
def resultMoved (p w : Cloud 1024) : S2x1024x3.Idx → EReal := fun i => curvMasked p w (i 0) (i 1) (i 2)

theorem outs_moved (t : Fin cfg0.N) : (outsAt0 m c t.val t.isLt).2 = moved (iblk m c 0 t) (iblk m c 1 t) (iblk m c 4 t) (iblk m c 5 t) := by
  by_cases h : t.val % 2 = 0
  · rw [outsAt0_A m c t h]; dsimp only; rw [moved_A]
  · rw [outsAt0_B m c t h]; dsimp only; rw [moved_B]

include hM in
theorem flushed7_eq (t : Fin cfg0.N) :
    (dats m 0 c).flushed 7 t = ((cfg0.win 7).blk t).view.read (Elt Ideal) (resultMoved (cloud m c) (warped m c)) := by
  rw [Value.flushed7, outs_moved]
  funext j
  obtain ⟨r, k, rfl⟩ : ∃ (r : Fin 1024) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show moved (iblk m c 0 t) (iblk m c 1 t) (iblk m c 4 t) (iblk m c 5 t) (ix3 0 r k) = _
  refine (Body.mean_near shapes (iblk m c 0 t) (iblk m c 1 t) (iblk m c 4 t) (iblk m c 5 t) r k (fun n => ?_) (by norm_num)).trans ?_
  · rw [gap_eq]; exact hM _ _ _
  · simp only [gap_eq, iblk4, iblk5]
    rw [View.read_apply]
    refine congrArg (resultMoved (cloud m c) (warped m c)) (a₁ := ix3 (bat t) (row t r) k) (funext fun a => Fin.ext ?_)
    obtain ⟨-, -, -, -, -, -, -, e0, e1, e2⟩ := index0 t
    match a with
    | ⟨0, _⟩ => show t.val / 1 = win0_7.index t 0 * 1 + 1 * 0; omega
    | ⟨1, _⟩ => show t.val % 1 * 1024 + r.val = win0_7.index t 1 * 1024 + 1 * r.val; omega
    | ⟨2, _⟩ => show k.val = win0_7.index t 2 * 3 + 1 * k.val; omega

theorem cover7 (i : S2x1024x3.Idx) : ∃ t : Fin cfg0.N, (cfg0.win 7).flush t = true ∧ i ∈ ((cfg0.win 7).blk t).view.set := by
  have h0 : (i 0 : Nat) < 2 := (i 0).isLt
  have h1 : (i 1 : Nat) < 1024 := (i 1).isLt
  have h2 : (i 2 : Nat) < 3 := (i 2).isLt
  have ht : (i 0 : Nat) * 1 + (i 1 : Nat) / 1024 < cfg0.N := by show _ < 2; omega
  refine ⟨⟨_, ht⟩, flush0_7 _, ?_⟩
  show i ∈ ((View.whole main_v3_1).slice (win0_7.rect ⟨_, ht⟩)).set
  rw [View.set_slice_whole, Rect.mem_set_unit]
  obtain ⟨-, -, -, -, -, -, -, e0, e1, e2⟩ := index0 ⟨_, ht⟩
  intro a
  match a with
  | ⟨0, _⟩ => show win0_7.index ⟨_, ht⟩ 0 * 1 ≤ (i 0 : Nat) ∧ (i 0 : Nat) < win0_7.index ⟨_, ht⟩ 0 * 1 + 1
              rw [e0]; dsimp only; omega
  | ⟨1, _⟩ => show win0_7.index ⟨_, ht⟩ 1 * 1024 ≤ (i 1 : Nat) ∧ (i 1 : Nat) < win0_7.index ⟨_, ht⟩ 1 * 1024 + 1024
              rw [e1]; dsimp only; omega
  | ⟨2, _⟩ => show win0_7.index ⟨_, ht⟩ 2 * 3 ≤ (i 2 : Nat) ∧ (i 2 : Nat) < win0_7.index ⟨_, ht⟩ 2 * 3 + 3
              rw [e2]; dsimp only; omega

include hM in
theorem final7 : (dats m 0 c).arrAt 7 cfg0.N = resultMoved (cloud m c) (warped m c) :=
  (dats m 0 c).arrAt_eq_of_cover 7 (resultMoved (cloud m c) (warped m c)) (fun t _ => flushed7_eq m c hM t) cover7

/-- The smoothness sum, when the flow is finite: over both clouds and every point, an eighth of its turn. -/
theorem sum_adds (hf : ∀ i, ∃ u : ℝ, flow m c i = u) :
    ∑ t : Fin cfg0.N, adds m c t = ∑ b, ∑ n, Ideal.div (turnListed (by norm_num) (cloud m c) (flow m c) b n) (8 : ℝ) := by
  have h := fun b r => turnMasked_eq (by norm_num : 9 ≤ 1024) (cloud m c) (flow m c) b r hf
  refine (Finset.sum_congr rfl fun t _ => ?_).trans
    (Grid.sum_grid (K := 1) (R := 1024) rfl fun b n => Ideal.div (turnListed (by norm_num) (cloud m c) (flow m c) b n) (8 : ℝ))
  unfold adds
  simp only [(h _ _).1]
  exact Grid.div_sum _ _ 8 (by norm_num) fun r => (h _ _).2

end Cert.Smooth1024Kernel
-- ==== Proof.Smooth1024Ref.lean ====
/- The smoothness reference read at an index. -/
module

public import proofs.«01_k».proof.Proof.Near
public import proofs.«01_k».proof.Proof.HostReads
public import proofs.«01_k».proof.Proof.Gen.Smooth1024RefIdeal.Read

@[expose] public section

noncomputable section

namespace Cert.Smooth1024Ref

open Idealize.ShloMosaic Cert.Rank Cert.Near Cert.HostReads
open Cert.Smooth1024RefIdeal Cert.Smooth1024RefIdeal.Gen Cert.Smooth1024RefIdeal.Read

theorem takeSides9 : TakeSides 2 1024 1024 9 3 where
  b0 := bcast_S_S2x1024x9
  b1 := bcast_S2x1024x9_S2x1024x9x1_0_1_2
  b2 := bcast_S_S2x1024x9x1
  b3 := bcast_S1_S1x1x1x1_3
  b4 := bcast_S1x1x1x1_S2x1024x9x1_0_1_2_3
  red := reducesTo_S2x1024x9x1_S2x1024x9_d3
  pos := by decide
  b5 := by decide
  b6 := by decide
  wf := gather_S2x1024x3_S2x1024x9x1_S2x1024x9x3_3_1_0_0_1_3_113.wf
  small := by norm_num

theorem takeSides10 : TakeSides 2 1024 1024 10 3 where
  b0 := bcast_S_S2x1024x10
  b1 := bcast_S2x1024x10_S2x1024x10x1_0_1_2
  b2 := bcast_S_S2x1024x10x1
  b3 := bcast_S1_S1x1x1x1_3
  b4 := bcast_S1x1x1x1_S2x1024x10x1_0_1_2_3
  red := reducesTo_S2x1024x10x1_S2x1024x10_d3
  pos := by decide
  b5 := by decide
  b6 := by decide
  wf := gather_S2x1024x3_S2x1024x10x1_S2x1024x10x3_3_1_0_0_1_3_113.wf
  small := by norm_num

variable (x f : Cloud 1024)

theorem dist9 (b : Fin 2) (r n : Fin 1024) : val_main_v14 (F := Ideal) x (ix3 b r n) = dist x x b r n := by
  pointwise [val_main_v14, val_main_v13, val_main_v12, val_main_v11, val_main_v10, val_main_v9, val_main_v8, val_main_v7, val_main_v6, val_main_v5, val_main_v4, val_main_v3, val_main_v2, val_main_v0, val_main_cst, val_main_cst_0,
    val_main_cst_1]
  rw [cm2]
  rfl

theorem dist10 (b : Fin 2) (r n : Fin 1024) : val_main_v43 (F := Ideal) x (ix3 b r n) = dist x x b r n := by
  pointwise [val_main_v43, val_main_v42, val_main_v41, val_main_v40, val_main_v39, val_main_v38, val_main_v37, val_main_v36, val_main_v35, val_main_v34, val_main_v33, val_main_v32, val_main_v31, val_main_v30, val_main_cst_6, val_main_cst_7,
    val_main_cst_8]
  rw [cm2]
  rfl

theorem flow_apply (b : Fin 2) (n : Fin 1024) (c : Fin 3) : val_main_v1 (F := Ideal) f (ix3 b n c) = f (ix3 b c n) := by
  pointwise [val_main_v1]

theorem warped_apply (b : Fin 2) (n : Fin 1024) (c : Fin 3) : val_main_v29 (F := Ideal) x f (ix3 b n c) = x (ix3 b c n) + f (ix3 b c n) := by
  pointwise [val_main_v29, val_main_v28]

theorem near9 (b : Fin 2) (r : Fin 1024) (t : Fin 9) (c : Fin 3) :
    val_main_v17 (F := Ideal) x f (ix4 b r t c) = f (ix3 b c (nth (dist x x b r) (Fin.castLE (by norm_num) t))) := by
  have hi : val_main_indices (F := Ideal) x (ix3 b r t) = BitVec.ofNat 32 (nth (dist x x b r) (Fin.castLE (by norm_num) t)).val := by
    refine (topK_indices (by norm_num) (val_main_v14 (F := Ideal) x) sliceFits_S2x1024x1024_S2x1024x9 b r t).trans ?_
    rw [show (fun j => val_main_v14 (F := Ideal) x (ix3 b r j)) = dist x x b r from funext fun j => dist9 x b r j]
  rw [show val_main_v17 (F := Ideal) x f = take takeSides9 (val_main_v1 (F := Ideal) f) (val_main_indices (F := Ideal) x) from rfl,
    take_apply takeSides9 _ _ b r t c _ hi, flow_apply]

theorem near10 (b : Fin 2) (r : Fin 1024) (t : Fin 10) (c : Fin 3) :
    val_main_v46 (F := Ideal) x f (ix4 b r t c) = x (ix3 b c (nth (dist x x b r) (Fin.castLE (by norm_num) t)))
      + f (ix3 b c (nth (dist x x b r) (Fin.castLE (by norm_num) t))) := by
  have hi : val_main_indices_10 (F := Ideal) x (ix3 b r t) = BitVec.ofNat 32 (nth (dist x x b r) (Fin.castLE (by norm_num) t)).val := by
    refine (topK_indices (by norm_num) (val_main_v43 (F := Ideal) x) sliceFits_S2x1024x1024_S2x1024x10 b r t).trans ?_
    rw [show (fun j => val_main_v43 (F := Ideal) x (ix3 b r j)) = dist x x b r from funext fun j => dist10 x b r j]
  rw [show val_main_v46 (F := Ideal) x f = take takeSides10 (val_main_v29 (F := Ideal) x f) (val_main_indices_10 (F := Ideal) x) from rfl,
    take_apply takeSides10 _ _ b r t c _ hi, warped_apply]

/-- The moved curvature. -/
theorem moved_apply (b : Fin 2) (r : Fin 1024) (c : Fin 3) :
    val_main_v52 (F := Ideal) x f (ix3 b r c) = curvListed (by norm_num) x (fun i => x i + f i) b r c := by
  pointwise [val_main_v52, val_main_v51, val_main_cst_12, val_main_v50, val_main_cst_11, val_main_v49, val_main_v48, val_main_v47]
  simp only [near10, warped_apply]
  rw [c9]
  rfl

/-- The square of the distance of two flows. -/
theorem square_apply (b : Fin 2) (r : Fin 1024) (t : Fin 9) :
    val_main_call1_v1 (F := Ideal) x f (ix3 b r t) = ∑ c : Fin 3, (f (ix3 b c (nth (dist x x b r) (Fin.castLE (by norm_num) t))) - f (ix3 b c r))
      * (f (ix3 b c (nth (dist x x b r) (Fin.castLE (by norm_num) t))) - f (ix3 b c r)) := by
  pointwise [val_main_call1_v1, val_main_call1_cst, val_main_call1_v0, val_main_v20, val_main_v19, val_main_v18]
  simp only [near9, flow_apply]

/-- One point's share of the smoothness. -/
theorem turn_apply (b : Fin 2) (r : Fin 1024) :
    val_main_v24 (F := Ideal) x f (ix2 b r) = Ideal.div (turnListed (by norm_num) x f b r) (8 : ℝ) := by
  have e : ∀ t : Fin 9, val_main_v21 (F := Ideal) x f (ix3 b r t) = Ideal.sqrt (val_main_call1_v1 (F := Ideal) x f (ix3 b r t)) := fun _ => rfl
  pointwise [val_main_v24, val_main_v23, val_main_cst_3, val_main_v22, val_main_cst_2]
  simp only [e, square_apply]
  rw [c8]
  rfl

/-- The smoothness. -/
theorem sum_apply (i : S1x1.Idx) :
    val_main_v27 (F := Ideal) x f i = ∑ b, ∑ n, Ideal.div (turnListed (by norm_num) x f b n) (8 : ℝ) := by
  simp only [← turn_apply]
  pointwise [val_main_v27, val_main_v26, val_main_cst_5, val_main_v25, val_main_cst_4]

end Cert.Smooth1024Ref
-- ==== Proof.Smooth1024Claims.lean ====
/- The claims about the smoothness kernel. -/
module

public import proofs.«01_k».proof.Defs
public import proofs.«01_k».proof.Proof.Gen.Smooth1024.Frame
public import proofs.«01_k».proof.Proof.Gen.Pre_bounded2_1024
public import proofs.«01_k».proof.Proof.Smooth1024Kernel
public import proofs.«01_k».proof.Proof.Smooth1024Ref

@[expose] public section

noncomputable section

namespace Cert.Smooth1024Claims

open Idealize.ShloMosaic Idealize.SL.Sem Cert.Near

theorem frame_p : Cert.quiescent_Smooth1024 := fun m ρ _ => Cert.Smooth1024.Gen.frame m ρ

theorem frame_pi : Cert.quiescent_Smooth1024Ideal := fun m ρ _ => Cert.Smooth1024Ideal.Gen.frame m ρ

theorem frame_pi_pre : Cert.quiescent_Smooth1024Ideal_pre_bounded2_1024 := fun m ρ _ => Cert.Smooth1024Ideal.Gen.frame m ρ

theorem frame_ri : Cert.quiescent_Smooth1024RefIdeal := fun m ρ _ =>
  (θ_run Cert.Smooth1024RefIdeal.defs _ _).mono (fun r h => ⟨fun c => (h c).2.2, sem_eq_zero_of_no_sems (by decide) r.2⟩)
    (Cert.Smooth1024RefIdeal.Value.run (F := Ideal) m ρ)

theorem frame_ri_pre : Cert.quiescent_Smooth1024RefIdeal_pre_bounded2_1024 := fun m ρ _ => frame_ri m ρ trivial

theorem preserves : Cert.preserves_Smooth1024_Smooth1024Ideal := trivial

theorem small (m : (ℓ : Loc Cert.Smooth1024Ideal.nD Cert.Smooth1024Ideal.τ Cert.Smooth1024Ideal.sig) → Buf (Elt Ideal) ℓ) (h : Cert.Pre_Smooth1024Ideal_bounded2_1024 m)
    (c : Dev Cert.Smooth1024Ideal.nD) (i) : Small (2 ^ 60) (Smooth1024Kernel.cloud m c i) ∧ Small (2 ^ 60) (Smooth1024Kernel.flow m c i) :=
  (both (congrFun (h c) i)).imp small_of_le small_of_le

theorem algebraic : Cert.algebraic_Smooth1024Ideal_Smooth1024RefIdeal_pre_bounded2_1024 := by
  intro m ρ m' ρ' hpre hagree
  have hs := small m hpre
  have hM : ∀ c b r n, dist (Smooth1024Kernel.cloud m c) (Smooth1024Kernel.cloud m c) b r n < big := fun c b r n =>
    sqd_lt _ _ (fun k => (hs c _).1.mono (by norm_num)) (fun k => (hs c _).1.mono (by norm_num))
  refine ⟨fun c => Smooth1024Kernel.resultSum m c, fun c => Smooth1024Kernel.resultMoved (Smooth1024Kernel.cloud m c) (Smooth1024Kernel.warped m c), ?_, ?_⟩
  · exact (θ_run Cert.Smooth1024Ideal.defs _ _).mono (fun _ h c =>
      ⟨(h c).1.trans (Smooth1024Kernel.final6 m c (hM c)), (h c).2.1.trans (Smooth1024Kernel.final7 m c (hM c)), (h c).2.2⟩)
      (Cert.Smooth1024Ideal.Value.run_blocks (F := Ideal) m ρ)
  · refine (θ_run Cert.Smooth1024RefIdeal.defs _ _).mono (fun _ h c => ⟨(h c).1.trans ?_, (h c).2.1.trans ?_, (h c).2.2⟩)
      (Cert.Smooth1024RefIdeal.Value.run (F := Ideal) m' ρ')
    · rw [Cert.Smooth1024RefIdeal.Read.val_main_v27_eq, (hagree c).1, (hagree c).2]
      funext i
      refine (Smooth1024Ref.sum_apply (Smooth1024Kernel.cloud m c) (Smooth1024Kernel.flow m c) i).trans (Smooth1024Kernel.sum_adds m c fun i => ?_).symm
      obtain ⟨u, hu, -⟩ := (hs c i).2
      exact ⟨u, hu⟩
    · rw [Cert.Smooth1024RefIdeal.Read.val_main_v52_eq, (hagree c).1, (hagree c).2]
      funext i
      obtain ⟨b, r, k, rfl⟩ := exists_ix3 i
      refine (Smooth1024Ref.moved_apply (Smooth1024Kernel.cloud m c) (Smooth1024Kernel.flow m c) b r k).trans (curvMasked_eq (by norm_num) _ _ b r k fun n => ?_).symm
      obtain ⟨u, hu, -⟩ := (hs c (ix3 b k n)).1.add (hs c (ix3 b k n)).2
      exact ⟨u, hu⟩

end Cert.Smooth1024Claims
-- ==== Proof.Cross1024Kernel.lean ====
/- The kernel between the two clouds: what its body computes from its blocks, and the arrays its grid fills. -/
module

public import proofs.«01_k».proof.Proof.BodyCross
public import proofs.«01_k».proof.Proof.Grid
public import proofs.«01_k».proof.Proof.Gen.Cross1024Ideal.Value
public import Idealize.ShloMosaic.Lib.Pipeline.ValueKit.Acc

@[expose] public section

noncomputable section

namespace Cert.Cross1024Kernel

open Idealize.ShloMosaic Idealize.ShloMosaic.TcCoe Idealize.SL.Sem Cert.Rank Cert.Near
open Cert.Cross1024Ideal Cert.Cross1024Ideal.Gen

/-! ## The body -/

theorem shapes : Body.Shapes 1024 1024 where
  sides := ⟨reduces_S1024x1024_S1024_2, shapeCasts_S1024_S1024x1, broadcasts_S1024x1_S1024x1024, by norm_num⟩
  rows := shapeCasts_S1x1024x3_S1024x3
  cols := shapeCasts_S1x3x1024_S3x1024
  all := shapeCasts_S1x1024x3_S1024x3
  back := shapeCasts_S1024x3_S1x1024x3
  r0 := slices_S1024x3_o0_0_S1024x1
  r1 := slices_S1024x3_o0_1_S1024x1
  r2 := slices_S1024x3_o0_2_S1024x1
  c0 := slices_S3x1024_o0_0_S1x1024
  c1 := slices_S3x1024_o1_0_S1x1024
  c2 := slices_S3x1024_o2_0_S1x1024
  down := broadcasts_S1x1024_S1024x1024
  iota := iota_S1024x1024_d1_w32

theorem crossed : Body.Crossed 1024 1024 where
  wide := broadcasts_S1024x1_S1024x3
  red := reduces_S1024x1024_S1024
  line := shapeCasts_S1024_S1x1024
  up := shapeCasts_S1x1024_S1x1x1024
  dn := shapeCasts_S1x1x1024_S1x1024

theorem summed1 : Body.Summed 1024 1 := ⟨shapeCasts_S1024x1_S1x1024x1, reduces_S1x1024x1_S1, shapeCasts_S1_S1x1x1, inpos_S1x1x1_p0_0_0⟩
theorem summed3 : Body.Summed 1024 3 := ⟨shapeCasts_S1024x3_S1x1024x3, reduces_S1x1024x3_S1, shapeCasts_S1_S1x1x1, inpos_S1x1x1_p0_0_0⟩
theorem summedN : Body.Summed 1 1024 := ⟨shapeCasts_S1x1024_S1x1x1024, reduces_S1x1x1024_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the two running sums: the rows' smallest distances, and the squares of the differences of curvature. -/
abbrev rowPart (x0 : Vec Ideal S1x1024x3 .f32) (x1 : Vec Ideal S1x3x1024 .f32) : FVec Ideal S1x1 .f32 :=
  Body.total summed1 (Body.minRow shapes (Body.gaps shapes x0 x1))
abbrev curvPart (x0 : Vec Ideal S1x1024x3 .f32) (x1 : Vec Ideal S1x3x1024 .f32) (x2 : Vec Ideal S1x1024x3 .f32) (x3 : Vec Ideal S1x1024x3 .f32) : FVec Ideal S1x1 .f32 :=
  Body.total summed3 (mulf (Body.apart shapes crossed (Body.gaps shapes x0 x1) (Body.allOf shapes x2) (Body.rowsOf shapes x3))
    (Body.apart shapes crossed (Body.gaps shapes x0 x1) (Body.allOf shapes x2) (Body.rowsOf shapes x3)))
/-- At the last row block of a batch, the columns' smallest distances are added too. -/
abbrev colPart (z : Vec Ideal S1x1x1024 .f32) : FVec Ideal S1x1 .f32 :=
  Body.total summedN (shapeCast S1x1024 z crossed.dn : FVec Ideal S1x1024 .f32)
abbrev zero : FVec Ideal S1x1 .f32 := broadcast S1x1 (Scalar.ofBits .f32 0x00000000#32)

theorem pay1 (v : FVec Ideal S1024x3 .f32) (x : Vec Ideal S1x1 .f32) : k0_pay1 v x = addf x (Body.total summed3 (mulf v v)) := by
  show addf (shapeCast S1x1 x shapeCasts_S1x1_S1x1 : FVec Ideal S1x1 .f32) _ = _
  rw [shapeCast_self]; rfl
theorem pay2 (x : Vec Ideal S1x1 .f32) (z : Vec Ideal S1x1x1024 .f32) : k0_pay2 x z = addf x (colPart z) := by
  show addf (shapeCast S1x1 x shapeCasts_S1x1_S1x1 : FVec Ideal S1x1 .f32) _ = _
  rw [shapeCast_self]; rfl
theorem pay35 (v : FVec Ideal S1024x1 .f32) (x : Vec Ideal S1x1 .f32) : k0_pay35 v x = addf x (Body.total summed1 v) := by
  show addf (shapeCast S1x1 x shapeCasts_S1x1_S1x1 : FVec Ideal S1x1 .f32) _ = _
  rw [shapeCast_self]; rfl

section
variable (c : Dev nD) (i : grid0.Coords) (a2 : Memref sig .tc .vmem S1x1024x3 .f32) (h2 : a2.IsWhole) (a3 : Memref sig .tc .vmem S1x3x1024 .f32) (h3 : a3.IsWhole) (a4 : Memref sig .tc .vmem S1x1024x3 .f32) (h4 : a4.IsWhole) (a5 : Memref sig .tc .vmem S1x1024x3 .f32) (h5 : a5.IsWhole) (a6 : Memref sig .tc .vmem S1x1x1024 .f32) (h6 : a6.IsWhole) (a7 : Memref sig .tc .vmem S1x1 .f32) (h7 : a7.IsWhole) (a8 : Memref sig .tc .vmem S1x1 .f32) (h8 : a8.IsWhole)
    (x0 : Vec Ideal S1x1024x3 .f32) (x1 : Vec Ideal S1x3x1024 .f32) (x2 : Vec Ideal S1x1024x3 .f32) (x3 : Vec Ideal S1x1024x3 .f32)
    (xo5 xo6 : Vec Ideal S1x1 .f32)

theorem col_A (hc0 : cond0_0 i) (hc1 : cond0_1 i) (hc2 : ¬cond0_2 i) (hc3 : cond0_3 i) :
    out0_A_4 c i a2 h2 a3 h3 a4 h4 a5 h5 a6 h6 a7 h7 a8 h8 hc0 hc1 hc2 hc3 x0 x1 x2 x3 = Body.colFirst crossed (Body.gaps shapes x0 x1) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, View.readCov_unit_zero (S := S1x1) _ hz2, View.readCov_unit_zero (S := S1x1x1024) _ hz, h2.read_unread, h3.read_unread, h4.read_unread, h5.read_unread, h6.read_unread, h7.read_unread, h8.read_unread,
    View.ld_unit_zero (S := S1x1) hz2, View.ld_unit_zero (S := S1x1x1024) hz, View.ld_unit_zero (S := S1x1024x3) hz, View.ld_unit_zero (S := S1x3x1024) hz, View.ld_unit_zero (S := S1x1024x3) hz, pay1, pay2, pay35]
  rfl

theorem col_B (hc0 : ¬cond0_0 i) (hc1 : cond0_1 i) (hc2 : ¬cond0_2 i) (hc3 : cond0_3 i) :
    out0_B_4 c i a2 h2 a3 h3 a4 h4 a5 h5 a6 h6 a7 h7 a8 h8 hc0 hc1 hc2 hc3 x0 x1 x2 x3 xo5 xo6 = Body.colFirst crossed (Body.gaps shapes x0 x1) := by
  unfold out0_B_4
  rw [View.read_writes_eq_canon _ _ _ (cover0_B_4 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz]
  simp only [View.readAt_eq_ld, View.readCov_unit_zero (S := S1x1) _ hz2, View.readCov_unit_zero (S := S1x1x1024) _ hz, h2.read_unread, h3.read_unread, h4.read_unread, h5.read_unread, h6.read_unread, h7.read_unread, h8.read_unread,
    View.ld_unit_zero (S := S1x1) hz2, View.ld_unit_zero (S := S1x1x1024) hz, View.ld_unit_zero (S := S1x1024x3) hz, View.ld_unit_zero (S := S1x3x1024) hz, View.ld_unit_zero (S := S1x1024x3) hz, pay1, pay2, pay35]
  rfl

theorem cham_A (hc0 : cond0_0 i) (hc1 : cond0_1 i) (hc2 : ¬cond0_2 i) (hc3 : cond0_3 i) :
    out0_A_5 c i a2 h2 a3 h3 a4 h4 a5 h5 a6 h6 a7 h7 a8 h8 hc0 hc1 hc2 hc3 x0 x1 x2 x3 = addf (addf zero (rowPart x0 x1)) (colPart (Body.colFirst crossed (Body.gaps shapes x0 x1))) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_cons_unit_lit' (S := S1x1) _ _ _ _ _ (congrFun hz2) (congrFun hz2), View.readCov_unit_zero (S := S1x1x1024) _ hz, h2.read_unread, h3.read_unread, h4.read_unread, h5.read_unread, h6.read_unread, h7.read_unread, h8.read_unread,
    View.ld_unit_zero (S := S1x1) hz2, View.ld_unit_zero (S := S1x1x1024) hz, View.ld_unit_zero (S := S1x1024x3) hz, View.ld_unit_zero (S := S1x3x1024) hz, View.ld_unit_zero (S := S1x1024x3) hz, pay1, pay2, pay35]
  rfl

theorem cham_B (hc0 : ¬cond0_0 i) (hc1 : cond0_1 i) (hc2 : ¬cond0_2 i) (hc3 : cond0_3 i) :
    out0_B_5 c i a2 h2 a3 h3 a4 h4 a5 h5 a6 h6 a7 h7 a8 h8 hc0 hc1 hc2 hc3 x0 x1 x2 x3 xo5 xo6 = addf (addf xo5 (rowPart x0 x1)) (colPart (Body.colFirst crossed (Body.gaps shapes x0 x1))) := by
  unfold out0_B_5
  rw [View.read_writes_eq_canon _ _ _ (cover0_B_5 c i a2 h2 a3 h3 a4 h4 a5 h5 a6 h6 a7 h7 a8 h8 hc0 hc1 hc2 hc3 x0 x1 x2 x3 xo5 xo6)]
  unfold kernelRun0_B
  dsimp only
  sl_unfold_words
  rw [View.canon_cons_unit_zero (S := S1x1) hz2]
  simp only [View.readAt_eq_ld, View.readCov_unit_zero (S := S1x1) _ hz2, View.readCov_unit_zero (S := S1x1x1024) _ hz, h2.read_unread, h3.read_unread, h4.read_unread, h5.read_unread, h6.read_unread, h7.read_unread, h8.read_unread,
    View.ld_unit_zero (S := S1x1) hz2, View.ld_unit_zero (S := S1x1x1024) hz, View.ld_unit_zero (S := S1x1024x3) hz, View.ld_unit_zero (S := S1x3x1024) hz, View.ld_unit_zero (S := S1x1024x3) hz, pay1, pay2, pay35]
  rfl

theorem curv_A (hc0 : cond0_0 i) (hc1 : cond0_1 i) (hc2 : ¬cond0_2 i) (hc3 : cond0_3 i) :
    out0_A_6 c i a2 h2 a3 h3 a4 h4 a5 h5 a6 h6 a7 h7 a8 h8 hc0 hc1 hc2 hc3 x0 x1 x2 x3 = addf zero (curvPart x0 x1 x2 x3) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x1024) _ hz, h2.read_unread, h3.read_unread, h4.read_unread, h5.read_unread, h6.read_unread, h7.read_unread, h8.read_unread,
    View.ld_unit_zero (S := S1x1) hz2, View.ld_unit_zero (S := S1x1x1024) hz, View.ld_unit_zero (S := S1x1024x3) hz, View.ld_unit_zero (S := S1x3x1024) hz, View.ld_unit_zero (S := S1x1024x3) hz, pay1, pay2, pay35]
  rfl

theorem curv_B (hc0 : ¬cond0_0 i) (hc1 : cond0_1 i) (hc2 : ¬cond0_2 i) (hc3 : cond0_3 i) :
    out0_B_6 c i a2 h2 a3 h3 a4 h4 a5 h5 a6 h6 a7 h7 a8 h8 hc0 hc1 hc2 hc3 x0 x1 x2 x3 xo5 xo6 = addf xo6 (curvPart x0 x1 x2 x3) := by
  unfold out0_B_6
  rw [View.read_writes_eq_canon _ _ _ (cover0_B_6 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz2]
  simp only [View.readAt_eq_ld, View.readCov_unit_zero (S := S1x1) _ hz2, View.readCov_unit_zero (S := S1x1x1024) _ hz, h2.read_unread, h3.read_unread, h4.read_unread, h5.read_unread, h6.read_unread, h7.read_unread, h8.read_unread,
    View.ld_unit_zero (S := S1x1) hz2, View.ld_unit_zero (S := S1x1x1024) hz, View.ld_unit_zero (S := S1x1024x3) hz, View.ld_unit_zero (S := S1x3x1024) hz, View.ld_unit_zero (S := S1x1024x3) hz, pay1, pay2, pay35]
  rfl

end

/-! ## The blocks -/

abbrev bat (t : Fin cfg0.N) : Fin 2 := Grid.bat 1 t
abbrev row (t : Fin cfg0.N) (r : Fin 1024) : Fin 1024 := Grid.row (K := 1) (R := 1024) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = 0 ∧ win0_5.index t 1 = 0)
    ∧ (win0_6.index t 0 = 0 ∧ win0_6.index t 1 = 0))

variable (m : (ℓ : Loc nD τ sig) → Buf (Elt Ideal) ℓ) (c : Dev nD)

/-- The clouds a device is given, the moved first cloud, and the curvatures. -/
abbrev cloud : Cloud 1024 := m ((c : Thread nD τ).loc main_arg0)
abbrev flow : Cloud 1024 := m ((c : Thread nD τ).loc main_arg1)
abbrev target : Cloud 1024 := m ((c : Thread nD τ).loc main_arg2)
abbrev curv : S2x1024x3.Idx → EReal := m ((c : Thread nD τ).loc main_arg3)
abbrev moved : S2x1024x3.Idx → EReal := m ((c : Thread nD τ).loc main_arg4)
abbrev warped : Cloud 1024 := fun i => cloud m c i + flow m c i

theorem V_warped (b : Fin 2) (n : Fin 1024) (k : Fin 3) : V m c main_v2 (ix3 b n k) = warped m c (ix3 b k n) := by
  have h : V m c main_v2 = addf (transpose S2x1024x3 [0, 2, 1] (cloud m c) transposes_S2x3x1024_S2x1024x3_0_2_1 : FVec Ideal S2x1024x3 .f32)
    (transpose S2x1024x3 [0, 2, 1] (flow m c) transposes_S2x3x1024_S2x1024x3_0_2_1) := rfl
  rw [h]
  pointwise

theorem iblk0 (t : Fin cfg0.N) (r : Fin 1024) (k : Fin 3) : iblk m c 0 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 1024 + 1 * r.val = t.val % 1 * 1024 + r.val; omega
  | ⟨2, _⟩ => show win0_0.index t 2 * 3 + 1 * k.val = k.val; omega

theorem iblk1 (t : Fin cfg0.N) (k : Fin 3) (n : Fin 1024) : iblk m c 1 t (ix3 0 k n) = target m c (ix3 (bat t) k n) := by
  unfold iblk
  rw [View.read_apply]
  refine Eq.trans ?_ (congrFun (V_main_arg2 m c) (ix3 (bat t) k n))
  refine congrArg (V m c main_arg2) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 1024 + 1 * n.val = n.val; omega

theorem iblk2 (t : Fin cfg0.N) (n : Fin 1024) (k : Fin 3) : iblk m c 2 t (ix3 0 n k) = curv m c (ix3 (bat t) n k) := by
  unfold iblk
  rw [View.read_apply]
  refine Eq.trans ?_ (congrFun (V_main_arg3 m c) (ix3 (bat t) n k))
  refine congrArg (V m c main_arg3) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 1024 + 1 * n.val = n.val; omega
  | ⟨2, _⟩ => show win0_2.index t 2 * 3 + 1 * k.val = k.val; omega

theorem iblk3 (t : Fin cfg0.N) (r : Fin 1024) (k : Fin 3) : iblk m c 3 t (ix3 0 r k) = moved m c (ix3 (bat t) (row t r) k) := by
  unfold iblk
  rw [View.read_apply]
  refine Eq.trans ?_ (congrFun (V_main_arg4 m c) (ix3 (bat t) (row t r) k))
  refine congrArg (V m c main_arg4) (funext fun a => Fin.ext ?_)
  obtain ⟨-, -, -, ⟨e0, e1, e2⟩, -⟩ := index0 t
  match a with
  | ⟨0, _⟩ => show win0_3.index t 0 * 1 + 1 * 0 = t.val / 1; omega
  | ⟨1, _⟩ => show win0_3.index t 1 * 1024 + 1 * r.val = t.val % 1 * 1024 + r.val; omega
  | ⟨2, _⟩ => show win0_3.index t 2 * 3 + 1 * k.val = k.val; omega

theorem gap_eq (t : Fin cfg0.N) (r : Fin 1024) : Body.gap (iblk m c 0 t) (iblk m c 1 t) r = dist (warped m c) (target m c) (bat t) (row t r) := by
  funext n
  unfold Body.gap
  simp only [iblk0, iblk1]
  rfl

/-! ## The smallest distance of every column -/

/-- The block's columns, over its own rows alone. -/
theorem part4 (t : Fin cfg0.N) (n : Fin 1024) :
    (least fun r => Body.gap (iblk m c 0 t) (iblk m c 1 t) r n) = least fun r => dist (warped m c) (target m c) (bat t) (row t r) n :=
  congrArg least (funext fun r => congrFun (gap_eq m c t r) n)

theorem outs_first (t : Fin cfg0.N) :
    (outsAt0 m c t.val t.isLt).1 = Body.colFirst crossed (Body.gaps shapes (iblk m c 0 t) (iblk m c 1 t)) := by
  by_cases h0 : t.val % 2 = 0
  · rw [outsAt0_A m c t h0]; dsimp only; rw [col_A]
  · rw [outsAt0_B m c t h0]; dsimp only; rw [col_B]

/-- The smallest distance of column `n`. -/
def colMin (b : Fin 2) (n : Fin 1024) : EReal := least fun r => dist (warped m c) (target m c) b r n

/-- The one block of a batch holds all its rows. -/
theorem outs_last (t : Fin cfg0.N) (n : Fin 1024) :
    ((outsAt0 m c t.val t.isLt).1 : Vec Ideal S1x1x1024 .f32) (ix3 0 0 n) = colMin m c (bat t) n := by
  refine Grid.least_grid (K := 1) (R := 1024) rfl (fun b r => dist (warped m c) (target m c) b r n)
    (fun t : Fin cfg0.N => ((outsAt0 m c t.val t.isLt).1 : Vec Ideal S1x1x1024 .f32) (ix3 0 0 n)) (fun t _ => ?_) (fun t h => ?_) t (Nat.mod_one _)
  · exact (congrFun (outs_first m c t) (ix3 0 0 n)).trans ((Body.colFirst_apply shapes crossed _ _ n).trans (part4 m c t n))
  · exact absurd (Nat.mod_one _) h

/-- The smallest distances of all columns. -/
def resultCol : S2x1x1024.Idx → EReal := fun i => colMin m c (i 0) (i 2)

theorem flushed4_eq (t : Fin cfg0.N) :
    (dats m 0 c).flushed 4 t = ((cfg0.win 4).blk t).view.read (Elt Ideal) (resultCol m c) := by
  rw [Value.flushed4]
  funext j
  obtain ⟨n, rfl⟩ : ∃ n : Fin 1024, j = ix3 0 0 n := by
    refine ⟨j 2, funext fun a => ?_⟩
    match a with
    | ⟨0, _⟩ => exact Subsingleton.elim (α := Fin 1) _ _
    | ⟨1, _⟩ => exact Subsingleton.elim (α := Fin 1) _ _
    | ⟨2, _⟩ => rfl
  refine (outs_last m c t n).trans ?_
  rw [View.read_apply]
  refine congrArg (resultCol m c) (a₁ := ix3 (bat t) 0 n) (funext fun a => Fin.ext ?_)
  obtain ⟨-, -, -, -, ⟨e0, e1, e2⟩, -⟩ := index0 t
  match a with
  | ⟨0, _⟩ => show t.val / 1 = win0_4.index t 0 * 1 + 1 * 0; omega
  | ⟨1, _⟩ => show 0 = win0_4.index t 1 * 1 + 1 * 0; omega
  | ⟨2, _⟩ => show n.val = win0_4.index t 2 * 1024 + 1 * n.val; omega

theorem cover4 (i : S2x1x1024.Idx) : ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 1024 := (i 2).isLt
  have ht : (i 0 : Nat) < cfg0.N := by show _ < 2; omega
  refine ⟨⟨_, ht⟩, flush0_4 _, ?_⟩
  show i ∈ ((View.whole main_v3_0).slice (win0_4.rect ⟨_, ht⟩)).set
  rw [View.set_slice_whole, Rect.mem_set_unit]
  obtain ⟨-, -, -, -, ⟨e0, e1, e2⟩, -⟩ := index0 ⟨_, ht⟩
  intro a
  match a with
  | ⟨0, _⟩ => show win0_4.index ⟨_, ht⟩ 0 * 1 ≤ (i 0 : Nat) ∧ (i 0 : Nat) < win0_4.index ⟨_, ht⟩ 0 * 1 + 1
              rw [e0]; dsimp only; omega
  | ⟨1, _⟩ => show win0_4.index ⟨_, ht⟩ 1 * 1 ≤ (i 1 : Nat) ∧ (i 1 : Nat) < win0_4.index ⟨_, ht⟩ 1 * 1 + 1
              rw [e1]; omega
  | ⟨2, _⟩ => show win0_4.index ⟨_, ht⟩ 2 * 1024 ≤ (i 2 : Nat) ∧ (i 2 : Nat) < win0_4.index ⟨_, ht⟩ 2 * 1024 + 1024
              rw [e2]; omega

theorem final4 : (dats m 0 c).arrAt 4 cfg0.N = resultCol m c :=
  (dats m 0 c).arrAt_eq_of_cover 4 (resultCol m c) (fun t _ => flushed4_eq m c t) cover4

/-! ## The two sums -/

/-- The smallest distance of row `r`. -/
def rowMin (b : Fin 2) (r : Fin 1024) : EReal := least (dist (warped m c) (target m c) b r)

/-- What grid point `t` adds to the sum of smallest distances. -/
def adds (t : Fin cfg0.N) : EReal :=
  (∑ r, rowMin m c (bat t) (row t r)) + ∑ n, colMin m c (bat t) n

theorem rowPart_apply (t : Fin cfg0.N) (i : S1x1.Idx) : rowPart (iblk m c 0 t) (iblk m c 1 t) i = ∑ r, rowMin m c (bat t) (row t r) := by
  refine (Body.total_minRow shapes (iblk m c 0 t) (iblk m c 1 t) summed1 i).trans ?_
  simp only [gap_eq]
  rfl

theorem colPart_apply (z : Vec Ideal S1x1x1024 .f32) (i : S1x1.Idx) : colPart z i = ∑ n, z (ix3 0 0 n) :=
  Body.total_line crossed summedN z i

theorem sum_last (t : Fin cfg0.N) :
    ∑ n, ((outsAt0 m c t.val t.isLt).1 : Vec Ideal S1x1x1024 .f32) (ix3 0 0 n) = ∑ n, colMin m c (bat t) n :=
  Finset.sum_congr rfl fun n _ => outs_last m c t n

theorem add_at (a b : FVec Ideal S1x1 .f32) (i : S1x1.Idx) : addf a b i = a i + b i := rfl

theorem zero_apply (i : S1x1.Idx) : zero i = 0 := by
  show Ideal.ofBits .f32 0x00000000#32 = 0
  simp [Ideal.ofBits, Ideal.ieee]

theorem cham_first (t : Fin cfg0.N) (h0 : t.val % 2 = 0) : (outsAt0 m c t.val t.isLt).2.1
    = addf (addf zero (rowPart (iblk m c 0 t) (iblk m c 1 t))) (colPart (outsAt0 m c t.val t.isLt).1) := by
  rw [outs_first, outsAt0_A m c t h0]; dsimp only; rw [cham_A]

theorem cham_next (t : Fin cfg0.N) (h0 : ¬t.val % 2 = 0) : (outsAt0 m c t.val t.isLt).2.1
    = addf (addf (outsAt0 m c (t.val - 1) (Nat.lt_of_le_of_lt (Nat.sub_le _ _) t.isLt)).2.1 (rowPart (iblk m c 0 t) (iblk m c 1 t)))
        (colPart (outsAt0 m c t.val t.isLt).1) := by
  rw [outs_first, outsAt0_B m c t h0]; dsimp only; rw [cham_B]

/-- The running sum of smallest distances after the last grid point. -/
theorem cham_acc (t : Fin cfg0.N) (ht : t.val = 1) (i : S1x1.Idx) :
    ((outsAt0 m c t.val t.isLt).2.1 : Vec Ideal S1x1 .f32) i = ∑ t : Fin cfg0.N, adds m c t := by
  refine Grid.summed (T := cfg0.N) (adds m c) (fun t => ((outsAt0 m c t.val t.isLt).2.1 : Vec Ideal S1x1 .f32) i) (fun t h => ?_) (fun t h => ?_) t
    (by rw [ht]; rfl)
  · refine (congrFun (cham_first m c t (by omega)) i).trans ?_
    rw [add_at, add_at, zero_apply, rowPart_apply, zero_add, colPart_apply, sum_last]
    rfl
  · have hl : t.val < 2 := t.isLt
    refine (congrFun (cham_next m c t (by omega)) i).trans ?_
    rw [add_at, add_at, rowPart_apply, add_assoc, colPart_apply, sum_last]
    rfl

/-- Over both clouds, the smallest distances of rows and of columns. -/
theorem sum_adds : ∑ t : Fin cfg0.N, adds m c t = (∑ b, ∑ r, rowMin m c b r) + ∑ b, ∑ n, colMin m c b n := by
  unfold adds
  rw [Finset.sum_add_distrib]
  refine congrArg₂ _ (Grid.sum_grid (K := 1) (R := 1024) rfl (rowMin m c))
    (Eq.trans ?_ (Grid.sum_last (K := 1) (by norm_num) fun b => ∑ n, colMin m c b n))
  exact Finset.sum_congr rfl fun t _ => (if_pos (Nat.mod_one _)).symm

/-- The interpolated curvature at point `r` less the moved one, coordinate `k`. -/
def off (b : Fin 2) (r : Fin 1024) (k : Fin 3) : EReal :=
  mix (by norm_num) (dist (warped m c) (target m c) b r) (fun n => curv m c (ix3 b n k)) - moved m c (ix3 b r k)

section
variable (hM : ∀ b r n, dist (warped m c) (target m c) b r n < big)
include hM

theorem curvPart_apply (t : Fin cfg0.N) (i : S1x1.Idx) : curvPart (iblk m c 0 t) (iblk m c 1 t) (iblk m c 2 t) (iblk m c 3 t) i
    = ∑ r, ∑ k, off m c (bat t) (row t r) k * off m c (bat t) (row t r) k := by
  refine (Body.total_apart shapes crossed (iblk m c 0 t) (iblk m c 1 t) summed3 (iblk m c 2 t) (iblk m c 3 t)
    (fun r n => by rw [gap_eq]; exact hM _ _ _) (by norm_num) i).trans ?_
  simp only [gap_eq, iblk2, iblk3]
  rfl

omit hM in
theorem curv_first (t : Fin cfg0.N) (h0 : t.val % 2 = 0) :
    (outsAt0 m c t.val t.isLt).2.2 = addf zero (curvPart (iblk m c 0 t) (iblk m c 1 t) (iblk m c 2 t) (iblk m c 3 t)) := by
  rw [outsAt0_A m c t h0]; dsimp only; rw [curv_A]

omit hM in
theorem curv_next (t : Fin cfg0.N) (h0 : ¬t.val % 2 = 0) : (outsAt0 m c t.val t.isLt).2.2
    = addf (outsAt0 m c (t.val - 1) (Nat.lt_of_le_of_lt (Nat.sub_le _ _) t.isLt)).2.2 (curvPart (iblk m c 0 t) (iblk m c 1 t) (iblk m c 2 t) (iblk m c 3 t)) := by
  rw [outsAt0_B m c t h0]; dsimp only; rw [curv_B]

/-- The running sum of squares after the last grid point. -/
theorem curv_acc (t : Fin cfg0.N) (ht : t.val = 1) (i : S1x1.Idx) :
    ((outsAt0 m c t.val t.isLt).2.2 : Vec Ideal S1x1 .f32) i = ∑ b, ∑ r, ∑ k, off m c b r k * off m c b r k := by
  refine (Grid.summed (T := cfg0.N) (fun t => ∑ r, ∑ k, off m c (bat t) (row t r) k * off m c (bat t) (row t r) k)
    (fun t => ((outsAt0 m c t.val t.isLt).2.2 : Vec Ideal S1x1 .f32) i) (fun t h => ?_) (fun t h => ?_) t (by rw [ht]; rfl)).trans
      (Grid.sum_grid (K := 1) (R := 1024) rfl fun b r => ∑ k, off m c b r k * off m c b r k)
  · refine (congrFun (curv_first m c t (by omega)) i).trans ?_
    rw [add_at, zero_apply, curvPart_apply m c hM, zero_add]
  · have hl : t.val < 2 := t.isLt
    refine (congrFun (curv_next m c t (by omega)) i).trans ?_
    rw [add_at, curvPart_apply m c hM]
end

/-- The two sums as arrays. -/
abbrev resultCham : S1x1.Idx → EReal := fun _ => (∑ b, ∑ r, rowMin m c b r) + ∑ b, ∑ n, colMin m c b n
abbrev resultCurv : S1x1.Idx → EReal := fun _ => ∑ b, ∑ r, ∑ k, off m c b r k * off m c b r k

theorem flushed5_eq (t : Fin cfg0.N) (hf : (cfg0.win 5).flush t = true) :
    (dats m 0 c).flushed 5 t = ((cfg0.win 5).blk t).view.read (Elt Ideal) (resultCham m c) := by
  have ht : t.val = 1 := by have := (flush0_5 t).mp hf; have : t.val < 2 := t.isLt; omega
  rw [Value.flushed5]
  funext j
  exact (cham_acc m c t ht j).trans (sum_adds m c)

theorem cover5 (i : S1x1.Idx) : ∃ t : Fin cfg0.N, (cfg0.win 5).flush t = true ∧ i ∈ ((cfg0.win 5).blk t).view.set := by
  have hT : 1 < cfg0.N := by decide
  refine ⟨⟨1, hT⟩, (flush0_5 _).mpr rfl, ?_⟩
  show i ∈ ((View.whole main_v3_1).slice (win0_5.rect ⟨1, hT⟩)).set
  rw [View.set_slice_whole, Rect.mem_set_unit]
  obtain ⟨-, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win0_5.index ⟨1, hT⟩ 0 * 1 ≤ (i 0 : Nat) ∧ (i 0 : Nat) < win0_5.index ⟨1, hT⟩ 0 * 1 + 1
              rw [e0]; omega
  | ⟨1, _⟩ => show win0_5.index ⟨1, hT⟩ 1 * 1 ≤ (i 1 : Nat) ∧ (i 1 : Nat) < win0_5.index ⟨1, hT⟩ 1 * 1 + 1
              rw [e1]; omega

theorem final5 : (dats m 0 c).arrAt 5 cfg0.N = resultCham m c :=
  (dats m 0 c).arrAt_eq_of_cover 5 (resultCham m c) (flushed5_eq m c) cover5

theorem flushed6_eq (hM : ∀ b r n, dist (warped m c) (target m c) b r n < big) (t : Fin cfg0.N) (hf : (cfg0.win 6).flush t = true) :
    (dats m 0 c).flushed 6 t = ((cfg0.win 6).blk t).view.read (Elt Ideal) (resultCurv m c) := by
  have ht : t.val = 1 := by have := (flush0_6 t).mp hf; have : t.val < 2 := t.isLt; omega
  rw [Value.flushed6]
  funext j
  exact curv_acc m c hM t ht j

theorem cover6 (i : S1x1.Idx) : ∃ t : Fin cfg0.N, (cfg0.win 6).flush t = true ∧ i ∈ ((cfg0.win 6).blk t).view.set := by
  have hT : 1 < cfg0.N := by decide
  refine ⟨⟨1, hT⟩, (flush0_6 _).mpr rfl, ?_⟩
  show i ∈ ((View.whole main_v3_2).slice (win0_6.rect ⟨1, hT⟩)).set
  rw [View.set_slice_whole, Rect.mem_set_unit]
  obtain ⟨-, -, -, -, -, -, e0, e1⟩ := index0 ⟨1, hT⟩
  have h0 : (i 0 : Nat) < 1 := (i 0).isLt
  have h1 : (i 1 : Nat) < 1 := (i 1).isLt
  intro a
  match a with
  | ⟨0, _⟩ => show win0_6.index ⟨1, hT⟩ 0 * 1 ≤ (i 0 : Nat) ∧ (i 0 : Nat) < win0_6.index ⟨1, hT⟩ 0 * 1 + 1
              rw [e0]; omega
  | ⟨1, _⟩ => show win0_6.index ⟨1, hT⟩ 1 * 1 ≤ (i 1 : Nat) ∧ (i 1 : Nat) < win0_6.index ⟨1, hT⟩ 1 * 1 + 1
              rw [e1]; omega

theorem final6 (hM : ∀ b r n, dist (warped m c) (target m c) b r n < big) : (dats m 0 c).arrAt 6 cfg0.N = resultCurv m c :=
  (dats m 0 c).arrAt_eq_of_cover 6 (resultCurv m c) (flushed6_eq m c hM) cover6

end Cert.Cross1024Kernel
-- ==== Proof.Cross1024Ref.lean ====
/- The reference between the two clouds read at an index. -/
module

public import proofs.«01_k».proof.Proof.Near
public import proofs.«01_k».proof.Proof.HostReads
public import proofs.«01_k».proof.Proof.Gen.Cross1024RefIdeal.Read

@[expose] public section

noncomputable section

namespace Cert.Cross1024Ref

open Idealize.ShloMosaic Cert.Rank Cert.Near Cert.HostReads
open Cert.Cross1024RefIdeal Cert.Cross1024RefIdeal.Gen Cert.Cross1024RefIdeal.Read

theorem takeSides : TakeSides 2 1024 1024 5 3 where
  b0 := bcast_S_S2x1024x5
  b1 := bcast_S2x1024x5_S2x1024x5x1_0_1_2
  b2 := bcast_S_S2x1024x5x1
  b3 := bcast_S1_S1x1x1x1_3
  b4 := bcast_S1x1x1x1_S2x1024x5x1_0_1_2_3
  red := reducesTo_S2x1024x5x1_S2x1024x5_d3
  pos := by decide
  b5 := by decide
  b6 := by decide
  wf := gather_S2x1024x3_S2x1024x5x1_S2x1024x5x3_3_1_0_0_1_3_113.wf
  small := by norm_num

variable (x f y : Cloud 1024) (p w : S2x1024x3.Idx → EReal)

abbrev warped : Cloud 1024 := fun i => x i + f i

theorem dist_first (b : Fin 2) (r n : Fin 1024) : val_main_v15 (F := Ideal) x f y (ix3 b r n) = dist (warped x f) y b r n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rw [cm2]
  rfl

theorem dist_second (b : Fin 2) (r n : Fin 1024) : val_main_v37 (F := Ideal) x f y (ix3 b r n) = dist (warped x f) y b r n := by
  pointwise [val_main_v37, val_main_v36, val_main_v35, val_main_v34, val_main_v33, val_main_v32, val_main_v31, val_main_v30, val_main_v29, val_main_v28,
    val_main_v27, val_main_v26, val_main_v25, val_main_v24, val_main_v23, val_main_v0, val_main_cst_8, val_main_cst_9, val_main_cst_10]
  rw [cm2]
  rfl

theorem top : Ideal.ofBits .f32 0x7F800000#32 = (⊤ : EReal) := by simp [Ideal.ofBits, Ideal.ieee]

theorem rowMin_apply (b : Fin 2) (r : Fin 1024) : val_main_v16 (F := Ideal) x f y (ix2 b r) = least (dist (warped x f) y b r) := by
  have e : (fun n => val_main_v15 (F := Ideal) x f y (ix3 b r n)) = dist (warped x f) y b r := funext fun n => dist_first x f y b r n
  pointwise [val_main_v16, val_main_cst_2]
  unfold least
  rw [top, e]

theorem colMin_apply (b : Fin 2) (n : Fin 1024) : val_main_v17 (F := Ideal) x f y (ix2 b n) = least fun r => dist (warped x f) y b r n := by
  have e : (fun r => val_main_v15 (F := Ideal) x f y (ix3 b r n)) = fun r => dist (warped x f) y b r n := funext fun r => dist_first x f y b r n
  pointwise [val_main_v17, val_main_cst_3]
  unfold least
  rw [top, e]

theorem col_apply (b : Fin 2) (n : Fin 1024) : val_main_v62 (F := Ideal) x f y (ix3 b 0 n) = least fun r => dist (warped x f) y b r n := by
  refine Eq.trans ?_ (colMin_apply x f y b n)
  pointwise [val_main_v62]

theorem rows_apply (i : S_.Idx) : val_main_v19 (F := Ideal) x f y i = ∑ b, ∑ r, val_main_v16 (F := Ideal) x f y (ix2 b r) := by
  pointwise [val_main_v19, val_main_v18, val_main_cst_4, val_main_cst_5]

theorem cols_apply (i : S_.Idx) : val_main_v21 (F := Ideal) x f y i = ∑ b, ∑ n, val_main_v17 (F := Ideal) x f y (ix2 b n) := by
  pointwise [val_main_v21, val_main_v20, val_main_cst_6, val_main_cst_7]

/-- A single value as an array [1, 1]. -/
theorem scalar_apply (z : S_.Idx → EReal) (h : S_.ShapeCasts S1x1) (i : S1x1.Idx) : shapeCast S1x1 z h i = z ix0 :=
  shapeCast_apply z h i ix0 (by
    have h0 : (i 0 : Nat) < 1 := (i 0).isLt
    have h1 : (i 1 : Nat) < 1 := (i 1).isLt
    rw [Shape.rowMajor_val_two]
    show 0 = (i 0 : Nat) * 1 + (i 1 : Nat)
    omega)

theorem both_apply (i : S1x1.Idx) :
    val_main_v63 (F := Ideal) x f y i = val_main_v19 (F := Ideal) x f y ix0 + val_main_v21 (F := Ideal) x f y ix0 := by
  unfold val_main_v63
  rw [scalar_apply, val_main_v22_apply]
  generalize val_main_v19 (F := Ideal) x f y ix0 = u
  generalize val_main_v21 (F := Ideal) x f y ix0 = v
  rfl

theorem cham_apply (i : S1x1.Idx) : val_main_v63 (F := Ideal) x f y i
    = (∑ b, ∑ r, least (dist (warped x f) y b r)) + ∑ b, ∑ n, least fun r => dist (warped x f) y b r n := by
  refine (both_apply x f y i).trans (congrArg₂ (· + ·) ((rows_apply x f y ix0).trans ?_) ((cols_apply x f y ix0).trans ?_))
  · exact Finset.sum_congr rfl fun b _ => Finset.sum_congr rfl fun r _ => rowMin_apply x f y b r
  · exact Finset.sum_congr rfl fun b _ => Finset.sum_congr rfl fun n _ => colMin_apply x f y b n

theorem weight_apply (b : Fin 2) (r : Fin 1024) (t : Fin 5) :
    val_main_v44 (F := Ideal) x f y (ix3 b r t) = weight (dist (warped x f) y b r (nth (dist (warped x f) y b r) (Fin.castLE (by norm_num) t))) := by
  have hv := topK_values (by norm_num) (val_main_v37 (F := Ideal) x f y) sliceFits_S2x1024x1024_S2x1024x5 b r t
  rw [show (fun j => val_main_v37 (F := Ideal) x f y (ix3 b r j)) = dist (warped x f) y b r from funext fun j => dist_second x f y b r j, dist_second] at hv
  have e : val_main_v44 (F := Ideal) x f y (ix3 b r t) = weight (-(val_main_values (F := Ideal) x f y (ix3 b r t))) := by
    pointwise [val_main_v44, val_main_v43, val_main_v42, val_main_v41, val_main_v39, val_main_cst_11, val_main_cst_12]
    rfl
  rw [e]
  refine congrArg weight ((congrArg Neg.neg hv).trans (neg_neg _))

theorem norm_apply (b : Fin 2) (r : Fin 1024) :
    val_main_v45 (F := Ideal) x f y (ix2 b r) = ∑ s : Fin 5, weight (dist (warped x f) y b r (nth (dist (warped x f) y b r) (Fin.castLE (by norm_num) s))) := by
  pointwise [val_main_v45, val_main_cst_13]
  simp only [weight_apply]

theorem share_apply (b : Fin 2) (r : Fin 1024) (t : Fin 5) :
    val_main_v52 (F := Ideal) x f y (ix3 b r t)
      = Ideal.div (weight (dist (warped x f) y b r (nth (dist (warped x f) y b r) (Fin.castLE (by norm_num) t))))
        (∑ s : Fin 5, weight (dist (warped x f) y b r (nth (dist (warped x f) y b r) (Fin.castLE (by norm_num) s)))) := by
  rw [← norm_apply, ← weight_apply]
  have e : val_main_v50 (F := Ideal) x f y = val_main_v44 (F := Ideal) x f y := rfl
  pointwise [val_main_v52, val_main_v51, val_main_v46, e]

theorem near_apply (b : Fin 2) (r : Fin 1024) (t : Fin 5) (c : Fin 3) :
    val_main_v40 (F := Ideal) x f y p (ix4 b r t c) = p (ix3 b (nth (dist (warped x f) y b r) (Fin.castLE (by norm_num) t)) c) := by
  have hi : val_main_indices (F := Ideal) x f y (ix3 b r t) = BitVec.ofNat 32 (nth (dist (warped x f) y b r) (Fin.castLE (by norm_num) t)).val := by
    refine (topK_indices (by norm_num) (val_main_v37 (F := Ideal) x f y) sliceFits_S2x1024x1024_S2x1024x5 b r t).trans ?_
    rw [show (fun j => val_main_v37 (F := Ideal) x f y (ix3 b r j)) = dist (warped x f) y b r from funext fun j => dist_second x f y b r j]
  rw [show val_main_v40 (F := Ideal) x f y p = take takeSides p (val_main_indices (F := Ideal) x f y) from rfl,
    take_apply takeSides _ _ b r t c _ hi]

theorem portion_apply (b : Fin 2) (r : Fin 1024) (t : Fin 5) (c : Fin 3) :
    val_main_v54 (F := Ideal) x f y (ix4 b r t c) = val_main_v52 (F := Ideal) x f y (ix3 b r t) := by
  pointwise [val_main_v54, val_main_v53]

theorem off_apply (b : Fin 2) (r : Fin 1024) (c : Fin 3) :
    val_main_v57 (F := Ideal) x f y p w (ix3 b r c)
      = mix (by norm_num) (dist (warped x f) y b r) (fun n => p (ix3 b n c)) - w (ix3 b r c) := by
  pointwise [val_main_v57, val_main_v56, val_main_v55, val_main_cst_16]
  simp only [portion_apply, share_apply, near_apply]
  rfl

theorem squares_apply (i : S_.Idx) : val_main_v61 (F := Ideal) x f y p w i
    = ∑ b, ∑ r, ∑ c : Fin 3, val_main_v57 (F := Ideal) x f y p w (ix3 b r c) * val_main_v57 (F := Ideal) x f y p w (ix3 b r c) := by
  pointwise [val_main_v61, val_main_v60, val_main_v59, val_main_v58, val_main_cst_17, val_main_cst_18, val_main_cst_19]

theorem curv_apply (i : S1x1.Idx) : val_main_v64 (F := Ideal) x f y p w i
    = ∑ b, ∑ r, ∑ c : Fin 3, val_main_v57 (F := Ideal) x f y p w (ix3 b r c) * val_main_v57 (F := Ideal) x f y p w (ix3 b r c) :=
  (scalar_apply _ shapeCasts_S_S1x1 i).trans (squares_apply x f y p w ix0)

end Cert.Cross1024Ref
-- ==== Proof.Cross1024Claims.lean ====
/- The claims about the kernel between the two clouds. -/
module

public import proofs.«01_k».proof.Defs
public import proofs.«01_k».proof.Proof.Gen.Cross1024.Frame
public import proofs.«01_k».proof.Proof.Gen.Cross1024RefIdeal.Run
public import proofs.«01_k».proof.Proof.Gen.Pre_bounded3_1024
public import proofs.«01_k».proof.Proof.Cross1024Kernel
public import proofs.«01_k».proof.Proof.Cross1024Ref

@[expose] public section

noncomputable section

namespace Cert.Cross1024Claims

open Idealize.ShloMosaic Idealize.SL.Sem Cert.Near

theorem frame_p : Cert.quiescent_Cross1024 := fun m ρ _ => Cert.Cross1024.Gen.frame m ρ

theorem frame_pi : Cert.quiescent_Cross1024Ideal := fun m ρ _ => Cert.Cross1024Ideal.Gen.frame m ρ

theorem frame_pi_pre : Cert.quiescent_Cross1024Ideal_pre_bounded3_1024 := fun m ρ _ => Cert.Cross1024Ideal.Gen.frame m ρ

theorem frame_ri : Cert.quiescent_Cross1024RefIdeal := fun m ρ _ =>
  (θ_run Cert.Cross1024RefIdeal.defs _ _).mono (fun r h => ⟨fun c => (h c).2.2.2, sem_eq_zero_of_no_sems (by decide) r.2⟩)
    (Cert.Cross1024RefIdeal.Value.run (F := Ideal) m ρ)

theorem frame_ri_pre : Cert.quiescent_Cross1024RefIdeal_pre_bounded3_1024 := fun m ρ _ => frame_ri m ρ trivial

theorem preserves : Cert.preserves_Cross1024_Cross1024Ideal := trivial

theorem small (m : (ℓ : Loc Cert.Cross1024Ideal.nD Cert.Cross1024Ideal.τ Cert.Cross1024Ideal.sig) → Buf (Elt Ideal) ℓ) (h : Cert.Pre_Cross1024Ideal_bounded3_1024 m)
    (c : Dev Cert.Cross1024Ideal.nD) (i) :
    Small (2 ^ 60) (Cross1024Kernel.cloud m c i) ∧ Small (2 ^ 60) (Cross1024Kernel.flow m c i) ∧ Small (2 ^ 60) (Cross1024Kernel.target m c i) :=
  have h2 := both (congrFun (h c) i)
  have h1 := both h2.1
  ⟨small_of_le h1.1, small_of_le h1.2, small_of_le h2.2⟩

theorem algebraic : Cert.algebraic_Cross1024Ideal_Cross1024RefIdeal_pre_bounded3_1024 := by
  intro m ρ m' ρ' hpre hagree
  have hs := small m hpre
  have hM : ∀ c b r n, dist (Cross1024Kernel.warped m c) (Cross1024Kernel.target m c) b r n < big := fun c b r n =>
    sqd_lt _ _ (fun k => ((hs c _).1.add (hs c _).2.1).mono (by norm_num)) (fun k => (hs c _).2.2.mono (by norm_num))
  refine ⟨fun c => Cross1024Kernel.resultCol m c, fun c => Cross1024Kernel.resultCham m c, fun c => Cross1024Kernel.resultCurv m c, ?_, ?_⟩
  · exact (θ_run Cert.Cross1024Ideal.defs _ _).mono (fun _ h c =>
      ⟨(h c).1.trans (Cross1024Kernel.final4 m c), (h c).2.1.trans (Cross1024Kernel.final5 m c), (h c).2.2.1.trans (Cross1024Kernel.final6 m c (hM c)), (h c).2.2.2⟩)
      (Cert.Cross1024Ideal.Value.run_blocks (F := Ideal) m ρ)
  · refine (θ_run Cert.Cross1024RefIdeal.defs _ _).mono (fun _ h c => ⟨(h c).1.trans ?_, (h c).2.1.trans ?_, (h c).2.2.1.trans ?_, (h c).2.2.2⟩)
      (Cert.Cross1024RefIdeal.Value.run (F := Ideal) m' ρ')
    · rw [Cert.Cross1024RefIdeal.Read.val_main_v62_eq, (hagree c).1, (hagree c).2.1, (hagree c).2.2.1]
      funext i
      obtain ⟨b, n, rfl⟩ : ∃ (b : Fin 2) (n : Fin 1024), i = ix3 b 0 n := by
        refine ⟨i 0, i 2, funext fun a => ?_⟩
        match a with
        | ⟨0, _⟩ => rfl
        | ⟨1, _⟩ => exact Subsingleton.elim (α := Fin 1) _ _
        | ⟨2, _⟩ => rfl
      exact Cross1024Ref.col_apply (Cross1024Kernel.cloud m c) (Cross1024Kernel.flow m c) (Cross1024Kernel.target m c) b n
    · rw [Cert.Cross1024RefIdeal.Read.val_main_v63_eq, (hagree c).1, (hagree c).2.1, (hagree c).2.2.1]
      funext i
      exact Cross1024Ref.cham_apply (Cross1024Kernel.cloud m c) (Cross1024Kernel.flow m c) (Cross1024Kernel.target m c) i
    · rw [Cert.Cross1024RefIdeal.Read.val_main_v64_eq, (hagree c).1, (hagree c).2.1, (hagree c).2.2.1, (hagree c).2.2.2.1, (hagree c).2.2.2.2]
      funext i
      refine (Cross1024Ref.curv_apply (Cross1024Kernel.cloud m c) (Cross1024Kernel.flow m c) (Cross1024Kernel.target m c) (Cross1024Kernel.curv m c) (Cross1024Kernel.moved m c) i).trans ?_
      refine Finset.sum_congr rfl fun b _ => Finset.sum_congr rfl fun r _ => Finset.sum_congr rfl fun k _ => ?_
      rw [Cross1024Ref.off_apply]
      rfl

end Cert.Cross1024Claims
-- ==== Proof.Curv512Kernel.lean ====
/- The curvature kernel: what its body computes from its blocks, and the array its grid fills. -/
module

public import proofs.«01_k».proof.Proof.Body
public import proofs.«01_k».proof.Proof.Grid
public import proofs.«01_k».proof.Proof.Gen.Curv512Ideal.Value

@[expose] public section

noncomputable section

namespace Cert.Curv512Kernel

open Idealize.ShloMosaic Idealize.ShloMosaic.TcCoe Idealize.SL.Sem Cert.Rank Cert.Near
open Cert.Curv512Ideal Cert.Curv512Ideal.Gen

/-! ## The body -/

theorem shapes : Body.Shapes 512 512 where
  sides := ⟨reduces_S512x512_S512, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem hz : (![0, 0, 0] : Fin 3 → Nat) = fun _ => 0 := funext fun a => by fin_cases a <;> rfl

theorem out_eq (x0 : Vec Ideal S1x512x3 .f32) (x1 : Vec Ideal S1x3x512 .f32) (x2 : Vec Ideal S1x512x3 .f32) :
    out0_3 x0 x1 x2 = Body.mean shapes (Body.rowsOf shapes x0) (Body.near shapes x0 x1 9) (Body.allOf shapes x2) := by
  unfold_out out0_3
  rw [View.canon_unit_zero hz, View.ld_unit_zero hz, View.ld_unit_zero hz, View.ld_unit_zero hz]
  rfl

/-! ## The blocks -/

abbrev bat (t : Fin cfg0.N) : Fin 2 := Grid.bat 1 t
abbrev row (t : Fin cfg0.N) (r : Fin 512) : Fin 512 := Grid.row (K := 1) (R := 512) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0))

variable (m : (ℓ : Loc nD τ sig) → Buf (Elt Ideal) ℓ) (c : Dev nD)

/-- The cloud a device is given. -/
abbrev cloud : Cloud 512 := m ((c : Thread nD τ).loc main_arg0)

theorem V_rows (b : Fin 2) (n : Fin 512) (k : Fin 3) : V m c main_v0 (ix3 b n k) = cloud m c (ix3 b k n) := by
  have h : V m c main_v0 = transpose S2x512x3 [0, 2, 1] (cloud m c) transposes_S2x3x512_S2x512x3_0_2_1 := rfl
  rw [h]
  pointwise

theorem iblk_rows (t : Fin cfg0.N) (r : Fin 512) (k : Fin 3) : iblk m c 0 t (ix3 0 r k) = cloud m c (ix3 (bat t) k (row t r)) := by
  unfold iblk
  rw [View.read_apply]
  refine Eq.trans ?_ (V_rows m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 512 + 1 * r.val = t.val % 1 * 512 + r.val; omega
  | ⟨2, _⟩ => show win0_0.index t 2 * 3 + 1 * k.val = k.val; omega

theorem iblk_cols (t : Fin cfg0.N) (k : Fin 3) (n : Fin 512) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 512 + 1 * n.val = n.val; omega

theorem iblk_all (t : Fin cfg0.N) (n : Fin 512) (k : Fin 3) : iblk m c 2 t (ix3 0 n k) = cloud m c (ix3 (bat t) k n) := by
  unfold iblk
  rw [View.read_apply]
  refine Eq.trans ?_ (V_rows m c (bat t) n k)
  refine congrArg (V m c main_v0) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 512 + 1 * n.val = n.val; omega
  | ⟨2, _⟩ => show win0_2.index t 2 * 3 + 1 * k.val = k.val; omega

/-! ## The array -/

/-- What the kernel leaves in its result array. -/
def result (p : Cloud 512) : (⟨3, ![2, 512, 3]⟩ : Shape).Idx → EReal := fun i => curvMasked p p (i 0) (i 1) (i 2)

theorem gap_eq (t : Fin cfg0.N) (r : Fin 512) : Body.gap (iblk m c 0 t) (iblk m c 1 t) r = dist (cloud m c) (cloud m c) (bat t) (row t r) := by
  funext n
  unfold Body.gap
  simp only [iblk_rows, iblk_cols]
  rfl

theorem flushed_eq (hM : ∀ b r n, dist (cloud m c) (cloud m c) b r n < big) (t : Fin cfg0.N) :
    (dats m 0 c).flushed 3 t = ((cfg0.win 3).blk t).view.read (Elt Ideal) (result (cloud m c)) := by
  rw [Value.flushed3]
  funext j
  obtain ⟨r, k, rfl⟩ : ∃ (r : Fin 512) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_3 (iblk m c 0 t) (iblk m c 1 t) (iblk m c 2 t) (ix3 0 r k) = _
  rw [out_eq]
  refine (Body.mean_near shapes (iblk m c 0 t) (iblk m c 1 t) (iblk m c 2 t) (iblk m c 0 t) r k (fun n => ?_) (by norm_num)).trans ?_
  · rw [gap_eq]; exact hM _ _ _
  · simp only [gap_eq, iblk_rows, iblk_all]
    rw [View.read_apply]
    refine congrArg (result (cloud m c)) (a₁ := ix3 (bat t) (row t r) k) (funext fun a => Fin.ext ?_)
    obtain ⟨-, -, -, e0, e1, e2⟩ := index0 t
    match a with
    | ⟨0, _⟩ => show t.val / 1 = win0_3.index t 0 * 1 + 1 * 0; omega
    | ⟨1, _⟩ => show t.val % 1 * 512 + r.val = win0_3.index t 1 * 512 + 1 * r.val; omega
    | ⟨2, _⟩ => show k.val = win0_3.index t 2 * 3 + 1 * k.val; omega

theorem cover (i : S2x512x3.Idx) : ∃ t : Fin cfg0.N, (cfg0.win 3).flush t = true ∧ i ∈ ((cfg0.win 3).blk t).view.set := by
  have h0 : (i 0 : Nat) < 2 := (i 0).isLt
  have h1 : (i 1 : Nat) < 512 := (i 1).isLt
  have h2 : (i 2 : Nat) < 3 := (i 2).isLt
  have ht : (i 0 : Nat) * 1 + (i 1 : Nat) / 512 < cfg0.N := by show _ < 2; omega
  refine ⟨⟨_, ht⟩, flush0_3 _, ?_⟩
  show i ∈ ((View.whole main_v1).slice (win0_3.rect ⟨_, ht⟩)).set
  rw [View.set_slice_whole, Rect.mem_set_unit]
  obtain ⟨-, -, -, e0, e1, e2⟩ := index0 ⟨_, ht⟩
  intro a
  match a with
  | ⟨0, _⟩ => show win0_3.index ⟨_, ht⟩ 0 * 1 ≤ (i 0 : Nat) ∧ (i 0 : Nat) < win0_3.index ⟨_, ht⟩ 0 * 1 + 1
              rw [e0]; dsimp only; omega
  | ⟨1, _⟩ => show win0_3.index ⟨_, ht⟩ 1 * 512 ≤ (i 1 : Nat) ∧ (i 1 : Nat) < win0_3.index ⟨_, ht⟩ 1 * 512 + 512
              rw [e1]; dsimp only; omega
  | ⟨2, _⟩ => show win0_3.index ⟨_, ht⟩ 2 * 3 ≤ (i 2 : Nat) ∧ (i 2 : Nat) < win0_3.index ⟨_, ht⟩ 2 * 3 + 3
              rw [e2]; dsimp only; omega

theorem final (hM : ∀ b r n, dist (cloud m c) (cloud m c) b r n < big) :
    (dats m 0 c).arrAt 3 cfg0.N = result (cloud m c) :=
  (dats m 0 c).arrAt_eq_of_cover 3 (result (cloud m c)) (fun t _ => flushed_eq m c hM t) cover

end Cert.Curv512Kernel
-- ==== Proof.Curv512Ref.lean ====
/- The reference's curvature read at an index. -/
module

public import proofs.«01_k».proof.Proof.Near
public import proofs.«01_k».proof.Proof.HostReads
public import proofs.«01_k».proof.Proof.Gen.Curv512RefIdeal.Read

@[expose] public section

noncomputable section

namespace Cert.Curv512Ref

open Idealize.ShloMosaic Cert.Rank Cert.Near Cert.HostReads
open Cert.Curv512RefIdeal Cert.Curv512RefIdeal.Gen Cert.Curv512RefIdeal.Read

theorem takeSides : TakeSides 2 512 512 10 3 where
  b0 := bcast_S_S2x512x10
  b1 := bcast_S2x512x10_S2x512x10x1_0_1_2
  b2 := bcast_S_S2x512x10x1
  b3 := bcast_S1_S1x1x1x1_3
  b4 := bcast_S1x1x1x1_S2x512x10x1_0_1_2_3
  red := reducesTo_S2x512x10x1_S2x512x10_d3
  pos := by decide
  b5 := by decide
  b6 := by decide
  wf := gather_S2x512x3_S2x512x10x1_S2x512x10x3_3_1_0_0_1_3_113.wf
  small := by norm_num

variable (x : Cloud 512)

theorem take_eq : val_main_v16 (F := Ideal) x = take takeSides (val_main_v0 (F := Ideal) x) (val_main_indices (F := Ideal) x) := rfl

theorem rows_apply (b : Fin 2) (n : Fin 512) (c : Fin 3) : val_main_v0 (F := Ideal) x (ix3 b n c) = x (ix3 b c n) := by
  pointwise [val_main_v0]

theorem dist_apply (b : Fin 2) (r n : Fin 512) : val_main_v13 (F := Ideal) x (ix3 b r n) = dist x x b r n := by
  pointwise [val_main_v13, val_main_v12, val_main_v11, val_main_v10, val_main_v9, val_main_v8, val_main_v7, val_main_v6, val_main_v5, val_main_v4, val_main_v3, val_main_v2, val_main_v1, val_main_v0, val_main_cst, val_main_cst_0,
    val_main_cst_1]
  rw [cm2]
  rfl

theorem indices_apply (b : Fin 2) (r : Fin 512) (t : Fin 10) :
    val_main_indices (F := Ideal) x (ix3 b r t) = BitVec.ofNat 32 (nth (dist x x b r) (Fin.castLE (by norm_num) t)).val := by
  refine (topK_indices (by norm_num) (val_main_v13 (F := Ideal) x) sliceFits_S2x512x512_S2x512x10 b r t).trans ?_
  have e : (fun j => val_main_v13 (F := Ideal) x (ix3 b r j)) = dist x x b r := funext fun j => dist_apply x b r j
  rw [e]

theorem near_apply (b : Fin 2) (r : Fin 512) (t : Fin 10) (c : Fin 3) :
    val_main_v16 (F := Ideal) x (ix4 b r t c) = x (ix3 b c (nth (dist x x b r) (Fin.castLE (by norm_num) t))) := by
  rw [take_eq, take_apply takeSides _ _ b r t c _ (indices_apply x b r t), rows_apply]

/-- The reference's result. -/
theorem curv_apply (b : Fin 2) (r : Fin 512) (c : Fin 3) :
    val_main_v22 (F := Ideal) x (ix3 b r c) = curvListed (by norm_num) x x b r c := by
  pointwise [val_main_v22, val_main_v21, val_main_cst_3, val_main_v20, val_main_cst_2, val_main_v19, val_main_v18, val_main_v17]
  simp only [near_apply, rows_apply]
  rw [c9]
  rfl

end Cert.Curv512Ref
-- ==== Proof.Curv512Claims.lean ====
/- The claims about the curvature kernel. -/
module

public import proofs.«01_k».proof.Defs
public import proofs.«01_k».proof.Proof.Gen.Curv512.Frame
public import proofs.«01_k».proof.Proof.Gen.Pre_bounded_512
public import proofs.«01_k».proof.Proof.Curv512Kernel
public import proofs.«01_k».proof.Proof.Curv512Ref
public import Idealize.ShloMosaic.Lib.Claim

@[expose] public section

noncomputable section

namespace Cert.Curv512Claims

open Idealize.ShloMosaic Idealize.SL.Sem Cert.Near

theorem frame_p : Cert.quiescent_Curv512 := fun m ρ _ => Cert.Curv512.Gen.frame m ρ

theorem frame_pi : Cert.quiescent_Curv512Ideal := fun m ρ _ => Cert.Curv512Ideal.Gen.frame m ρ

theorem frame_pi_pre : Cert.quiescent_Curv512Ideal_pre_bounded_512 := fun m ρ _ => Cert.Curv512Ideal.Gen.frame m ρ

theorem frame_ri : Cert.quiescent_Curv512RefIdeal := fun m ρ _ =>
  (θ_run Cert.Curv512RefIdeal.defs _ _).mono (fun r h => ⟨fun c => (h c).2, sem_eq_zero_of_no_sems (by decide) r.2⟩)
    (Cert.Curv512RefIdeal.Value.run (F := Ideal) m ρ)

theorem frame_ri_pre : Cert.quiescent_Curv512RefIdeal_pre_bounded_512 := fun m ρ _ => frame_ri m ρ trivial

theorem preserves : Cert.preserves_Curv512_Curv512Ideal := trivial

theorem small (m : (ℓ : Loc Cert.Curv512Ideal.nD Cert.Curv512Ideal.τ Cert.Curv512Ideal.sig) → Buf (Elt Ideal) ℓ) (h : Cert.Pre_Curv512Ideal_bounded_512 m)
    (c : Dev Cert.Curv512Ideal.nD) (i) : Small (2 ^ 60) (Curv512Kernel.cloud m c i) :=
  small_of_le (congrFun (h c) i)

theorem algebraic : Cert.algebraic_Curv512Ideal_Curv512RefIdeal_pre_bounded_512 := by
  intro m ρ m' ρ' hpre hagree
  have hs := small m hpre
  have hM : ∀ c b r n, dist (Curv512Kernel.cloud m c) (Curv512Kernel.cloud m c) b r n < big := fun c b r n =>
    sqd_lt _ _ (fun k => (hs c _).mono (by norm_num)) (fun k => (hs c _).mono (by norm_num))
  refine ⟨fun c => Curv512Kernel.result (Curv512Kernel.cloud m c), ?_, ?_⟩
  · exact (θ_run Cert.Curv512Ideal.defs _ _).mono (fun _ h c => ⟨(h c).1.trans (Curv512Kernel.final m c (hM c)), (h c).2⟩)
      (Cert.Curv512Ideal.Value.run_blocks (F := Ideal) m ρ)
  · refine (θ_run Cert.Curv512RefIdeal.defs _ _).mono (fun _ h c => ⟨(h c).1.trans ?_, (h c).2⟩) (Cert.Curv512RefIdeal.Value.run (F := Ideal) m' ρ')
    rw [Cert.Curv512RefIdeal.Read.val_main_v22_eq, hagree c]
    funext i
    obtain ⟨b, r, k, rfl⟩ := exists_ix3 i
    refine (Curv512Ref.curv_apply (Curv512Kernel.cloud m c) b r k).trans (curvMasked_eq (by norm_num) _ _ b r k fun n => ?_).symm
    obtain ⟨u, hu, -⟩ := hs c (ix3 b k n)
    exact ⟨u, hu⟩

end Cert.Curv512Claims
-- ==== Proof.Smooth512Kernel.lean ====
/- The smoothness kernel: what its body computes from its blocks, and the arrays its grid fills. -/
module

public import proofs.«01_k».proof.Proof.Body
public import proofs.«01_k».proof.Proof.Grid
public import proofs.«01_k».proof.Proof.Gen.Smooth512Ideal.Value

@[expose] public section

noncomputable section

namespace Cert.Smooth512Kernel

open Idealize.ShloMosaic Idealize.ShloMosaic.TcCoe Idealize.SL.Sem Cert.Rank Cert.Near
open Cert.Smooth512Ideal Cert.Smooth512Ideal.Gen

/-! ## The body -/

theorem shapes : Body.Shapes 512 512 where
  sides := ⟨reduces_S512x512_S512, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem summed : Body.Summed 512 1 := ⟨shapeCasts_S512x1_S1x512x1, reduces_S1x512x1_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the running sum. -/
abbrev part (x0 : Vec Ideal S1x512x3 .f32) (x1 x2 : Vec Ideal S1x3x512 .f32) (x3 : Vec Ideal S1x512x3 .f32) : FVec Ideal S1x1 .f32 :=
  divf (Body.total summed (Body.rowSum shapes (select (Body.near shapes x0 x1 8) (Body.normOf shapes (Body.rowsOf shapes x3) (Body.colsOf shapes x2))
    (broadcast S512x512 (Scalar.ofBits .f32 0x00000000#32))))) (broadcast S1x1 (Scalar.ofBits .f32 0x41000000#32))

theorem pay33 (x : Vec Ideal S1x1 .f32) : k0_pay33 x = x := shapeCast_self ..

section
variable (c : Dev nD) (i : grid0.Coords) (a2 : Memref sig .tc .vmem S1x512x3 .f32) (h2 : a2.IsWhole) (a3 : Memref sig .tc .vmem S1x3x512 .f32) (h3 : a3.IsWhole) (a4 : Memref sig .tc .vmem S1x3x512 .f32) (h4 : a4.IsWhole) (a5 : Memref sig .tc .vmem S1x512x3 .f32) (h5 : a5.IsWhole) (a6 : Memref sig .tc .vmem S1x512x3 .f32) (h6 : a6.IsWhole) (a7 : Memref sig .tc .vmem S1x512x3 .f32) (h7 : a7.IsWhole) (a8 : Memref sig .tc .vmem S1x1 .f32) (h8 : a8.IsWhole) (a9 : Memref sig .tc .vmem S1x512x3 .f32) (h9 : a9.IsWhole)
    (x0 : Vec Ideal S1x512x3 .f32) (x1 : Vec Ideal S1x3x512 .f32) (x2 : Vec Ideal S1x3x512 .f32) (x3 : Vec Ideal S1x512x3 .f32) (x4 : Vec Ideal S1x512x3 .f32) (x5 : Vec Ideal S1x512x3 .f32)

theorem sum_A (hc : cond0_0 i) : out0_A_6 c i a2 h2 a3 h3 a4 h4 a5 h5 a6 h6 a7 h7 a8 h8 a9 h9 hc x0 x1 x2 x3 x4 x5 = addf (broadcast S1x1 (Scalar.ofBits .f32 0x00000000#32)) (part x0 x1 x2 x3) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x512) hz, View.ld_unit_zero (S := S1x512x3) hz]
  rw [pay33]
  rfl

theorem sum_B (hc : ¬cond0_0 i) (xo : Vec Ideal S1x1 .f32) : out0_B_6 c i a2 h2 a3 h3 a4 h4 a5 h5 a6 h6 a7 h7 a8 h8 a9 h9 hc x0 x1 x2 x3 x4 x5 xo = addf xo (part x0 x1 x2 x3) := by
  unfold out0_B_6
  rw [View.read_writes_eq_canon _ _ _ (cover0_B_6 c i a2 h2 a3 h3 a4 h4 a5 h5 a6 h6 a7 h7 a8 h8 a9 h9 hc x0 x1 x2 x3 x4 x5 xo)]
  unfold kernelRun0_B
  dsimp only
  rw [View.canon_unit_zero hz2]
  sl_unfold_words
  simp only [View.readAt_eq_ld, h2.read_unread, h3.read_unread, h4.read_unread, h5.read_unread, h6.read_unread, h7.read_unread, h8.read_unread,
    View.ld_unit_zero (S := S1x1) hz2, View.ld_unit_zero (S := S1x512x3) hz, View.ld_unit_zero (S := S1x3x512) hz, View.ld_unit_zero (S := S1x512x3) hz]
  rw [pay33]
  rfl

/-- What the body stores as the moved curvature. -/
abbrev moved : FVec Ideal S1x512x3 .f32 := Body.mean shapes (Body.rowsOf shapes x5) (Body.near shapes x0 x1 9) (Body.allOf shapes x4)

theorem moved_A (hc : cond0_0 i) : out0_A_7 c i a2 h2 a3 h3 a4 h4 a5 h5 a6 h6 a7 h7 a8 h8 a9 h9 hc x0 x1 x2 x3 x4 x5 = moved x0 x1 x4 x5 := by
  unfold out0_A_7
  rw [View.read_writes_eq_canon _ _ _ (cover0_A_7 c i a2 h2 a3 h3 a4 h4 a5 h5 a6 h6 a7 h7 a8 h8 a9 h9 hc x0 x1 x2 x3 x4 x5)]
  unfold kernelRun0_A
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x512) hz, View.ld_unit_zero (S := S1x512x3) hz]
  rfl

theorem moved_B (hc : ¬cond0_0 i) (xo : Vec Ideal S1x1 .f32) : out0_B_7 c i a2 h2 a3 h3 a4 h4 a5 h5 a6 h6 a7 h7 a8 h8 a9 h9 hc x0 x1 x2 x3 x4 x5 xo = moved x0 x1 x4 x5 := by
  unfold out0_B_7
  rw [View.read_writes_eq_canon _ _ _ (cover0_B_7 c i a2 h2 a3 h3 a4 h4 a5 h5 a6 h6 a7 h7 a8 h8 a9 h9 hc x0 x1 x2 x3 x4 x5 xo)]
  unfold kernelRun0_B
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x512) hz, View.ld_unit_zero (S := S1x512x3) hz]
  rfl

end

/-! ## The blocks -/

abbrev bat (t : Fin cfg0.N) : Fin 2 := Grid.bat 1 t
abbrev row (t : Fin cfg0.N) (r : Fin 512) : Fin 512 := Grid.row (K := 1) (R := 512) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = t.val / 1 ∧ win0_5.index t 1 = t.val % 1 ∧ win0_5.index t 2 = 0)
    ∧ (win0_6.index t 0 = 0 ∧ win0_6.index t 1 = 0)
    ∧ (win0_7.index t 0 = t.val / 1 ∧ win0_7.index t 1 = t.val % 1 ∧ win0_7.index t 2 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = t.val / 1 ∧ win0_5.index t 1 = t.val % 1 ∧ win0_5.index t 2 = 0)
    ∧ (win0_6.index t 0 = 0 ∧ win0_6.index t 1 = 0)
    ∧ (win0_7.index t 0 = t.val / 1 ∧ win0_7.index t 1 = t.val % 1 ∧ win0_7.index t 2 = 0))

variable (m : (ℓ : Loc nD τ sig) → Buf (Elt Ideal) ℓ) (c : Dev nD)

/-- The clouds a device is given, and the moved cloud. -/
abbrev cloud : Cloud 512 := m ((c : Thread nD τ).loc main_arg0)
abbrev flow : Cloud 512 := m ((c : Thread nD τ).loc main_arg1)
abbrev warped : Cloud 512 := fun i => cloud m c i + flow m c i

theorem V_cloud (b : Fin 2) (n : Fin 512) (k : Fin 3) : V m c main_v0 (ix3 b n k) = cloud m c (ix3 b k n) := by
  have h : V m c main_v0 = transpose S2x512x3 [0, 2, 1] (cloud m c) transposes_S2x3x512_S2x512x3_0_2_1 := rfl
  rw [h]
  pointwise
theorem V_flow (b : Fin 2) (n : Fin 512) (k : Fin 3) : V m c main_v1 (ix3 b n k) = flow m c (ix3 b k n) := by
  have h : V m c main_v1 = transpose S2x512x3 [0, 2, 1] (flow m c) transposes_S2x3x512_S2x512x3_0_2_1 := rfl
  rw [h]
  pointwise
theorem V_warped (b : Fin 2) (n : Fin 512) (k : Fin 3) : V m c main_v2 (ix3 b n k) = warped m c (ix3 b k n) := by
  have h : V m c main_v2 = addf (transpose S2x512x3 [0, 2, 1] (cloud m c) transposes_S2x3x512_S2x512x3_0_2_1 : FVec Ideal S2x512x3 .f32)
    (transpose S2x512x3 [0, 2, 1] (flow m c) transposes_S2x3x512_S2x512x3_0_2_1) := rfl
  rw [h]
  pointwise

theorem iblk0 (t : Fin cfg0.N) (r : Fin 512) (k : Fin 3) : iblk m c 0 t (ix3 0 r k) = cloud m c (ix3 (bat t) k (row t r)) := by
  unfold iblk
  rw [View.read_apply]
  refine Eq.trans ?_ (V_cloud m c (bat t) (row t r) k)
  refine congrArg (V m c main_v0) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 512 + 1 * r.val = t.val % 1 * 512 + r.val; omega
  | ⟨2, _⟩ => show win0_0.index t 2 * 3 + 1 * k.val = k.val; omega

theorem iblk1 (t : Fin cfg0.N) (k : Fin 3) (n : Fin 512) : iblk m c 1 t (ix3 0 k n) = cloud m c (ix3 (bat t) k n) := by
  unfold iblk
  rw [View.read_apply]
  refine Eq.trans ?_ (congrFun (V_main_arg0 m c) (ix3 (bat t) k n))
  refine congrArg (V m c main_arg0) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 512 + 1 * n.val = n.val; omega

theorem iblk2 (t : Fin cfg0.N) (k : Fin 3) (n : Fin 512) : iblk m c 2 t (ix3 0 k n) = flow m c (ix3 (bat t) k n) := by
  unfold iblk
  rw [View.read_apply]
  refine Eq.trans ?_ (congrFun (V_main_arg1 m c) (ix3 (bat t) k n))
  refine congrArg (V m c main_arg1) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 3 + 1 * k.val = k.val; omega
  | ⟨2, _⟩ => show win0_2.index t 2 * 512 + 1 * n.val = n.val; omega

theorem iblk3 (t : Fin cfg0.N) (r : Fin 512) (k : Fin 3) : iblk m c 3 t (ix3 0 r k) = flow m c (ix3 (bat t) k (row t r)) := by
  unfold iblk
  rw [View.read_apply]
  refine Eq.trans ?_ (V_flow m c (bat t) (row t r) k)
  refine congrArg (V m c main_v1) (funext fun a => Fin.ext ?_)
  obtain ⟨-, -, -, ⟨e0, e1, e2⟩, -⟩ := index0 t
  match a with
  | ⟨0, _⟩ => show win0_3.index t 0 * 1 + 1 * 0 = t.val / 1; omega
  | ⟨1, _⟩ => show win0_3.index t 1 * 512 + 1 * r.val = t.val % 1 * 512 + r.val; omega
  | ⟨2, _⟩ => show win0_3.index t 2 * 3 + 1 * k.val = k.val; omega

theorem iblk4 (t : Fin cfg0.N) (n : Fin 512) (k : Fin 3) : iblk m c 4 t (ix3 0 n k) = warped m c (ix3 (bat t) k n) := by
  unfold iblk
  rw [View.read_apply]
  refine Eq.trans ?_ (V_warped m c (bat t) n k)
  refine congrArg (V m c main_v2) (funext fun a => Fin.ext ?_)
  obtain ⟨-, -, -, -, ⟨e0, e1, e2⟩, -⟩ := index0 t
  match a with
  | ⟨0, _⟩ => show win0_4.index t 0 * 1 + 1 * 0 = t.val / 1; omega
  | ⟨1, _⟩ => show win0_4.index t 1 * 512 + 1 * n.val = n.val; omega
  | ⟨2, _⟩ => show win0_4.index t 2 * 3 + 1 * k.val = k.val; omega

theorem iblk5 (t : Fin cfg0.N) (r : Fin 512) (k : Fin 3) : iblk m c 5 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨-, -, -, -, -, ⟨e0, e1, e2⟩, -⟩ := index0 t
  match a with
  | ⟨0, _⟩ => show win0_5.index t 0 * 1 + 1 * 0 = t.val / 1; omega
  | ⟨1, _⟩ => show win0_5.index t 1 * 512 + 1 * r.val = t.val % 1 * 512 + r.val; omega
  | ⟨2, _⟩ => show win0_5.index t 2 * 3 + 1 * k.val = k.val; omega

/-! ## The arrays the grid fills -/

variable (hM : ∀ b r n, dist (cloud m c) (cloud m c) b r n < big)

theorem gap_eq (t : Fin cfg0.N) (r : Fin 512) : Body.gap (iblk m c 0 t) (iblk m c 1 t) r = dist (cloud m c) (cloud m c) (bat t) (row t r) := by
  funext n
  unfold Body.gap
  simp only [iblk0, iblk1]
  rfl

/-- What grid point `t` adds to the smoothness sum. -/
def adds (t : Fin cfg0.N) : EReal := Ideal.div (∑ r, turnMasked (cloud m c) (flow m c) (bat t) (row t r)) (8 : ℝ)

include hM in
theorem part_apply (t : Fin cfg0.N) (i : S1x1.Idx) : part (iblk m c 0 t) (iblk m c 1 t) (iblk m c 2 t) (iblk m c 3 t) i = adds m c t := by
  show Ideal.div (Body.total summed _ i) (Ideal.ofBits .f32 0x41000000#32) = _
  rw [Body.total_near shapes summed _ _ _ _ (fun r n => by rw [gap_eq]; exact hM _ _ _) (by norm_num) i, c8]
  simp only [gap_eq, iblk2, iblk3]
  rfl

include hM in
/-- The running sum after the last grid point. -/
theorem acc_apply (i : S1x1.Idx) : ((outsAt0 m c 1 (by decide)).1 : Vec Ideal S1x1 .f32) i = ∑ t : Fin cfg0.N, adds m c t := by
  refine Grid.running (T := cfg0.N) (adds m c) (fun n h => ((outsAt0 m c n h).1 : Vec Ideal S1x1 .f32) i) (fun h => ?_) (fun n h => ?_) 1 (by decide) rfl
  · rw [outsAt0_A m c ⟨0, h⟩ rfl]
    dsimp only
    rw [sum_A]
    show Ideal.ofBits .f32 0x00000000#32 + part _ _ _ _ i = _
    rw [part_apply m c hM, show Ideal.ofBits .f32 0x00000000#32 = 0 by simp [Ideal.ofBits, Ideal.ieee], zero_add]
  · have hn : n + 1 < 2 := h
    rw [outsAt0_B m c ⟨n + 1, h⟩ (by dsimp only; omega)]
    dsimp only
    rw [sum_B]
    show _ + part _ _ _ _ i = _
    rw [part_apply m c hM]
    rfl

/-- The smoothness sum over both clouds. -/
abbrev resultSum : S1x1.Idx → EReal := fun _ => ∑ t : Fin cfg0.N, adds m c t

include hM in
theorem flushed6_eq (t : Fin cfg0.N) (hf : (cfg0.win 6).flush t = true) :
    (dats m 0 c).flushed 6 t = ((cfg0.win 6).blk t).view.read (Elt Ideal) (resultSum m c) := by
  obtain rfl : t = ⟨1, by decide⟩ := Fin.ext (by have := (flush0_6 t).mp hf; have : t.val < 2 := t.isLt; show t.val = 1; omega)
  rw [Value.flushed6]
  funext j
  exact acc_apply m c hM j

theorem cover6 (i : S1x1.Idx) : ∃ t : Fin cfg0.N, (cfg0.win 6).flush t = true ∧ i ∈ ((cfg0.win 6).blk t).view.set := by
  have hT : 1 < cfg0.N := by decide
  refine ⟨⟨1, hT⟩, (flush0_6 _).mpr rfl, ?_⟩
  show i ∈ ((View.whole main_v3_0).slice (win0_6.rect ⟨1, hT⟩)).set
  rw [View.set_slice_whole, Rect.mem_set_unit]
  obtain ⟨-, -, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win0_6.index ⟨1, hT⟩ 0 * 1 ≤ (i 0 : Nat) ∧ (i 0 : Nat) < win0_6.index ⟨1, hT⟩ 0 * 1 + 1
              rw [e0]; omega
  | ⟨1, _⟩ => show win0_6.index ⟨1, hT⟩ 1 * 1 ≤ (i 1 : Nat) ∧ (i 1 : Nat) < win0_6.index ⟨1, hT⟩ 1 * 1 + 1
              rw [e1]; omega

include hM in
theorem final6 : (dats m 0 c).arrAt 6 cfg0.N = resultSum m c :=
  (dats m 0 c).arrAt_eq_of_cover 6 (resultSum m c) (flushed6_eq m c hM) cover6

/-- The moved curvature of every point. -/
def resultMoved (p w : Cloud 512) : S2x512x3.Idx → EReal := fun i => curvMasked p w (i 0) (i 1) (i 2)

theorem outs_moved (t : Fin cfg0.N) : (outsAt0 m c t.val t.isLt).2 = moved (iblk m c 0 t) (iblk m c 1 t) (iblk m c 4 t) (iblk m c 5 t) := by
  by_cases h : t.val % 2 = 0
  · rw [outsAt0_A m c t h]; dsimp only; rw [moved_A]
  · rw [outsAt0_B m c t h]; dsimp only; rw [moved_B]

include hM in
theorem flushed7_eq (t : Fin cfg0.N) :
    (dats m 0 c).flushed 7 t = ((cfg0.win 7).blk t).view.read (Elt Ideal) (resultMoved (cloud m c) (warped m c)) := by
  rw [Value.flushed7, outs_moved]
  funext j
  obtain ⟨r, k, rfl⟩ : ∃ (r : Fin 512) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show moved (iblk m c 0 t) (iblk m c 1 t) (iblk m c 4 t) (iblk m c 5 t) (ix3 0 r k) = _
  refine (Body.mean_near shapes (iblk m c 0 t) (iblk m c 1 t) (iblk m c 4 t) (iblk m c 5 t) r k (fun n => ?_) (by norm_num)).trans ?_
  · rw [gap_eq]; exact hM _ _ _
  · simp only [gap_eq, iblk4, iblk5]
    rw [View.read_apply]
    refine congrArg (resultMoved (cloud m c) (warped m c)) (a₁ := ix3 (bat t) (row t r) k) (funext fun a => Fin.ext ?_)
    obtain ⟨-, -, -, -, -, -, -, e0, e1, e2⟩ := index0 t
    match a with
    | ⟨0, _⟩ => show t.val / 1 = win0_7.index t 0 * 1 + 1 * 0; omega
    | ⟨1, _⟩ => show t.val % 1 * 512 + r.val = win0_7.index t 1 * 512 + 1 * r.val; omega
    | ⟨2, _⟩ => show k.val = win0_7.index t 2 * 3 + 1 * k.val; omega

theorem cover7 (i : S2x512x3.Idx) : ∃ t : Fin cfg0.N, (cfg0.win 7).flush t = true ∧ i ∈ ((cfg0.win 7).blk t).view.set := by
  have h0 : (i 0 : Nat) < 2 := (i 0).isLt
  have h1 : (i 1 : Nat) < 512 := (i 1).isLt
  have h2 : (i 2 : Nat) < 3 := (i 2).isLt
  have ht : (i 0 : Nat) * 1 + (i 1 : Nat) / 512 < cfg0.N := by show _ < 2; omega
  refine ⟨⟨_, ht⟩, flush0_7 _, ?_⟩
  show i ∈ ((View.whole main_v3_1).slice (win0_7.rect ⟨_, ht⟩)).set
  rw [View.set_slice_whole, Rect.mem_set_unit]
  obtain ⟨-, -, -, -, -, -, -, e0, e1, e2⟩ := index0 ⟨_, ht⟩
  intro a
  match a with
  | ⟨0, _⟩ => show win0_7.index ⟨_, ht⟩ 0 * 1 ≤ (i 0 : Nat) ∧ (i 0 : Nat) < win0_7.index ⟨_, ht⟩ 0 * 1 + 1
              rw [e0]; dsimp only; omega
  | ⟨1, _⟩ => show win0_7.index ⟨_, ht⟩ 1 * 512 ≤ (i 1 : Nat) ∧ (i 1 : Nat) < win0_7.index ⟨_, ht⟩ 1 * 512 + 512
              rw [e1]; dsimp only; omega
  | ⟨2, _⟩ => show win0_7.index ⟨_, ht⟩ 2 * 3 ≤ (i 2 : Nat) ∧ (i 2 : Nat) < win0_7.index ⟨_, ht⟩ 2 * 3 + 3
              rw [e2]; dsimp only; omega

include hM in
theorem final7 : (dats m 0 c).arrAt 7 cfg0.N = resultMoved (cloud m c) (warped m c) :=
  (dats m 0 c).arrAt_eq_of_cover 7 (resultMoved (cloud m c) (warped m c)) (fun t _ => flushed7_eq m c hM t) cover7

/-- The smoothness sum, when the flow is finite: over both clouds and every point, an eighth of its turn. -/
theorem sum_adds (hf : ∀ i, ∃ u : ℝ, flow m c i = u) :
    ∑ t : Fin cfg0.N, adds m c t = ∑ b, ∑ n, Ideal.div (turnListed (by norm_num) (cloud m c) (flow m c) b n) (8 : ℝ) := by
  have h := fun b r => turnMasked_eq (by norm_num : 9 ≤ 512) (cloud m c) (flow m c) b r hf
  refine (Finset.sum_congr rfl fun t _ => ?_).trans
    (Grid.sum_grid (K := 1) (R := 512) rfl fun b n => Ideal.div (turnListed (by norm_num) (cloud m c) (flow m c) b n) (8 : ℝ))
  unfold adds
  simp only [(h _ _).1]
  exact Grid.div_sum _ _ 8 (by norm_num) fun r => (h _ _).2

end Cert.Smooth512Kernel
-- ==== Proof.Smooth512Ref.lean ====
/- The smoothness reference read at an index. -/
module

public import proofs.«01_k».proof.Proof.Near
public import proofs.«01_k».proof.Proof.HostReads
public import proofs.«01_k».proof.Proof.Gen.Smooth512RefIdeal.Read

@[expose] public section

noncomputable section

namespace Cert.Smooth512Ref

open Idealize.ShloMosaic Cert.Rank Cert.Near Cert.HostReads
open Cert.Smooth512RefIdeal Cert.Smooth512RefIdeal.Gen Cert.Smooth512RefIdeal.Read

theorem takeSides9 : TakeSides 2 512 512 9 3 where
  b0 := bcast_S_S2x512x9
  b1 := bcast_S2x512x9_S2x512x9x1_0_1_2
  b2 := bcast_S_S2x512x9x1
  b3 := bcast_S1_S1x1x1x1_3
  b4 := bcast_S1x1x1x1_S2x512x9x1_0_1_2_3
  red := reducesTo_S2x512x9x1_S2x512x9_d3
  pos := by decide
  b5 := by decide
  b6 := by decide
  wf := gather_S2x512x3_S2x512x9x1_S2x512x9x3_3_1_0_0_1_3_113.wf
  small := by norm_num

theorem takeSides10 : TakeSides 2 512 512 10 3 where
  b0 := bcast_S_S2x512x10
  b1 := bcast_S2x512x10_S2x512x10x1_0_1_2
  b2 := bcast_S_S2x512x10x1
  b3 := bcast_S1_S1x1x1x1_3
  b4 := bcast_S1x1x1x1_S2x512x10x1_0_1_2_3
  red := reducesTo_S2x512x10x1_S2x512x10_d3
  pos := by decide
  b5 := by decide
  b6 := by decide
  wf := gather_S2x512x3_S2x512x10x1_S2x512x10x3_3_1_0_0_1_3_113.wf
  small := by norm_num

variable (x f : Cloud 512)

theorem dist9 (b : Fin 2) (r n : Fin 512) : val_main_v14 (F := Ideal) x (ix3 b r n) = dist x x b r n := by
  pointwise [val_main_v14, val_main_v13, val_main_v12, val_main_v11, val_main_v10, val_main_v9, val_main_v8, val_main_v7, val_main_v6, val_main_v5, val_main_v4, val_main_v3, val_main_v2, val_main_v0, val_main_cst, val_main_cst_0,
    val_main_cst_1]
  rw [cm2]
  rfl

theorem dist10 (b : Fin 2) (r n : Fin 512) : val_main_v43 (F := Ideal) x (ix3 b r n) = dist x x b r n := by
  pointwise [val_main_v43, val_main_v42, val_main_v41, val_main_v40, val_main_v39, val_main_v38, val_main_v37, val_main_v36, val_main_v35, val_main_v34, val_main_v33, val_main_v32, val_main_v31, val_main_v30, val_main_cst_6, val_main_cst_7,
    val_main_cst_8]
  rw [cm2]
  rfl

theorem flow_apply (b : Fin 2) (n : Fin 512) (c : Fin 3) : val_main_v1 (F := Ideal) f (ix3 b n c) = f (ix3 b c n) := by
  pointwise [val_main_v1]

theorem warped_apply (b : Fin 2) (n : Fin 512) (c : Fin 3) : val_main_v29 (F := Ideal) x f (ix3 b n c) = x (ix3 b c n) + f (ix3 b c n) := by
  pointwise [val_main_v29, val_main_v28]

theorem near9 (b : Fin 2) (r : Fin 512) (t : Fin 9) (c : Fin 3) :
    val_main_v17 (F := Ideal) x f (ix4 b r t c) = f (ix3 b c (nth (dist x x b r) (Fin.castLE (by norm_num) t))) := by
  have hi : val_main_indices (F := Ideal) x (ix3 b r t) = BitVec.ofNat 32 (nth (dist x x b r) (Fin.castLE (by norm_num) t)).val := by
    refine (topK_indices (by norm_num) (val_main_v14 (F := Ideal) x) sliceFits_S2x512x512_S2x512x9 b r t).trans ?_
    rw [show (fun j => val_main_v14 (F := Ideal) x (ix3 b r j)) = dist x x b r from funext fun j => dist9 x b r j]
  rw [show val_main_v17 (F := Ideal) x f = take takeSides9 (val_main_v1 (F := Ideal) f) (val_main_indices (F := Ideal) x) from rfl,
    take_apply takeSides9 _ _ b r t c _ hi, flow_apply]

theorem near10 (b : Fin 2) (r : Fin 512) (t : Fin 10) (c : Fin 3) :
    val_main_v46 (F := Ideal) x f (ix4 b r t c) = x (ix3 b c (nth (dist x x b r) (Fin.castLE (by norm_num) t)))
      + f (ix3 b c (nth (dist x x b r) (Fin.castLE (by norm_num) t))) := by
  have hi : val_main_indices_10 (F := Ideal) x (ix3 b r t) = BitVec.ofNat 32 (nth (dist x x b r) (Fin.castLE (by norm_num) t)).val := by
    refine (topK_indices (by norm_num) (val_main_v43 (F := Ideal) x) sliceFits_S2x512x512_S2x512x10 b r t).trans ?_
    rw [show (fun j => val_main_v43 (F := Ideal) x (ix3 b r j)) = dist x x b r from funext fun j => dist10 x b r j]
  rw [show val_main_v46 (F := Ideal) x f = take takeSides10 (val_main_v29 (F := Ideal) x f) (val_main_indices_10 (F := Ideal) x) from rfl,
    take_apply takeSides10 _ _ b r t c _ hi, warped_apply]

/-- The moved curvature. -/
theorem moved_apply (b : Fin 2) (r : Fin 512) (c : Fin 3) :
    val_main_v52 (F := Ideal) x f (ix3 b r c) = curvListed (by norm_num) x (fun i => x i + f i) b r c := by
  pointwise [val_main_v52, val_main_v51, val_main_cst_12, val_main_v50, val_main_cst_11, val_main_v49, val_main_v48, val_main_v47]
  simp only [near10, warped_apply]
  rw [c9]
  rfl

/-- The square of the distance of two flows. -/
theorem square_apply (b : Fin 2) (r : Fin 512) (t : Fin 9) :
    val_main_call1_v1 (F := Ideal) x f (ix3 b r t) = ∑ c : Fin 3, (f (ix3 b c (nth (dist x x b r) (Fin.castLE (by norm_num) t))) - f (ix3 b c r))
      * (f (ix3 b c (nth (dist x x b r) (Fin.castLE (by norm_num) t))) - f (ix3 b c r)) := by
  pointwise [val_main_call1_v1, val_main_call1_cst, val_main_call1_v0, val_main_v20, val_main_v19, val_main_v18]
  simp only [near9, flow_apply]

/-- One point's share of the smoothness. -/
theorem turn_apply (b : Fin 2) (r : Fin 512) :
    val_main_v24 (F := Ideal) x f (ix2 b r) = Ideal.div (turnListed (by norm_num) x f b r) (8 : ℝ) := by
  have e : ∀ t : Fin 9, val_main_v21 (F := Ideal) x f (ix3 b r t) = Ideal.sqrt (val_main_call1_v1 (F := Ideal) x f (ix3 b r t)) := fun _ => rfl
  pointwise [val_main_v24, val_main_v23, val_main_cst_3, val_main_v22, val_main_cst_2]
  simp only [e, square_apply]
  rw [c8]
  rfl

/-- The smoothness. -/
theorem sum_apply (i : S1x1.Idx) :
    val_main_v27 (F := Ideal) x f i = ∑ b, ∑ n, Ideal.div (turnListed (by norm_num) x f b n) (8 : ℝ) := by
  simp only [← turn_apply]
  pointwise [val_main_v27, val_main_v26, val_main_cst_5, val_main_v25, val_main_cst_4]

end Cert.Smooth512Ref
-- ==== Proof.Smooth512Claims.lean ====
/- The claims about the smoothness kernel. -/
module

public import proofs.«01_k».proof.Defs
public import proofs.«01_k».proof.Proof.Gen.Smooth512.Frame
public import proofs.«01_k».proof.Proof.Gen.Pre_bounded2_512
public import proofs.«01_k».proof.Proof.Smooth512Kernel
public import proofs.«01_k».proof.Proof.Smooth512Ref

@[expose] public section

noncomputable section

namespace Cert.Smooth512Claims

open Idealize.ShloMosaic Idealize.SL.Sem Cert.Near

theorem frame_p : Cert.quiescent_Smooth512 := fun m ρ _ => Cert.Smooth512.Gen.frame m ρ

theorem frame_pi : Cert.quiescent_Smooth512Ideal := fun m ρ _ => Cert.Smooth512Ideal.Gen.frame m ρ

theorem frame_pi_pre : Cert.quiescent_Smooth512Ideal_pre_bounded2_512 := fun m ρ _ => Cert.Smooth512Ideal.Gen.frame m ρ

theorem frame_ri : Cert.quiescent_Smooth512RefIdeal := fun m ρ _ =>
  (θ_run Cert.Smooth512RefIdeal.defs _ _).mono (fun r h => ⟨fun c => (h c).2.2, sem_eq_zero_of_no_sems (by decide) r.2⟩)
    (Cert.Smooth512RefIdeal.Value.run (F := Ideal) m ρ)

theorem frame_ri_pre : Cert.quiescent_Smooth512RefIdeal_pre_bounded2_512 := fun m ρ _ => frame_ri m ρ trivial

theorem preserves : Cert.preserves_Smooth512_Smooth512Ideal := trivial

theorem small (m : (ℓ : Loc Cert.Smooth512Ideal.nD Cert.Smooth512Ideal.τ Cert.Smooth512Ideal.sig) → Buf (Elt Ideal) ℓ) (h : Cert.Pre_Smooth512Ideal_bounded2_512 m)
    (c : Dev Cert.Smooth512Ideal.nD) (i) : Small (2 ^ 60) (Smooth512Kernel.cloud m c i) ∧ Small (2 ^ 60) (Smooth512Kernel.flow m c i) :=
  (both (congrFun (h c) i)).imp small_of_le small_of_le

theorem algebraic : Cert.algebraic_Smooth512Ideal_Smooth512RefIdeal_pre_bounded2_512 := by
  intro m ρ m' ρ' hpre hagree
  have hs := small m hpre
  have hM : ∀ c b r n, dist (Smooth512Kernel.cloud m c) (Smooth512Kernel.cloud m c) b r n < big := fun c b r n =>
    sqd_lt _ _ (fun k => (hs c _).1.mono (by norm_num)) (fun k => (hs c _).1.mono (by norm_num))
  refine ⟨fun c => Smooth512Kernel.resultSum m c, fun c => Smooth512Kernel.resultMoved (Smooth512Kernel.cloud m c) (Smooth512Kernel.warped m c), ?_, ?_⟩
  · exact (θ_run Cert.Smooth512Ideal.defs _ _).mono (fun _ h c =>
      ⟨(h c).1.trans (Smooth512Kernel.final6 m c (hM c)), (h c).2.1.trans (Smooth512Kernel.final7 m c (hM c)), (h c).2.2⟩)
      (Cert.Smooth512Ideal.Value.run_blocks (F := Ideal) m ρ)
  · refine (θ_run Cert.Smooth512RefIdeal.defs _ _).mono (fun _ h c => ⟨(h c).1.trans ?_, (h c).2.1.trans ?_, (h c).2.2⟩)
      (Cert.Smooth512RefIdeal.Value.run (F := Ideal) m' ρ')
    · rw [Cert.Smooth512RefIdeal.Read.val_main_v27_eq, (hagree c).1, (hagree c).2]
      funext i
      refine (Smooth512Ref.sum_apply (Smooth512Kernel.cloud m c) (Smooth512Kernel.flow m c) i).trans (Smooth512Kernel.sum_adds m c fun i => ?_).symm
      obtain ⟨u, hu, -⟩ := (hs c i).2
      exact ⟨u, hu⟩
    · rw [Cert.Smooth512RefIdeal.Read.val_main_v52_eq, (hagree c).1, (hagree c).2]
      funext i
      obtain ⟨b, r, k, rfl⟩ := exists_ix3 i
      refine (Smooth512Ref.moved_apply (Smooth512Kernel.cloud m c) (Smooth512Kernel.flow m c) b r k).trans (curvMasked_eq (by norm_num) _ _ b r k fun n => ?_).symm
      obtain ⟨u, hu, -⟩ := (hs c (ix3 b k n)).1.add (hs c (ix3 b k n)).2
      exact ⟨u, hu⟩

end Cert.Smooth512Claims
-- ==== Proof.Cross512Kernel.lean ====
/- The kernel between the two clouds: what its body computes from its blocks, and the arrays its grid fills. -/
module

public import proofs.«01_k».proof.Proof.BodyCross
public import proofs.«01_k».proof.Proof.Grid
public import proofs.«01_k».proof.Proof.Gen.Cross512Ideal.Value
public import Idealize.ShloMosaic.Lib.Pipeline.ValueKit.Acc

@[expose] public section

noncomputable section

namespace Cert.Cross512Kernel

open Idealize.ShloMosaic Idealize.ShloMosaic.TcCoe Idealize.SL.Sem Cert.Rank Cert.Near
open Cert.Cross512Ideal Cert.Cross512Ideal.Gen

/-! ## The body -/

theorem shapes : Body.Shapes 512 512 where
  sides := ⟨reduces_S512x512_S512_2, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem crossed : Body.Crossed 512 512 where
  wide := broadcasts_S512x1_S512x3
  red := reduces_S512x512_S512
  line := shapeCasts_S512_S1x512
  up := shapeCasts_S1x512_S1x1x512
  dn := shapeCasts_S1x1x512_S1x512

theorem summed1 : Body.Summed 512 1 := ⟨shapeCasts_S512x1_S1x512x1, reduces_S1x512x1_S1, shapeCasts_S1_S1x1x1, inpos_S1x1x1_p0_0_0⟩
theorem summed3 : Body.Summed 512 3 := ⟨shapeCasts_S512x3_S1x512x3, reduces_S1x512x3_S1, shapeCasts_S1_S1x1x1, inpos_S1x1x1_p0_0_0⟩
theorem summedN : Body.Summed 1 512 := ⟨shapeCasts_S1x512_S1x1x512, reduces_S1x1x512_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the two running sums: the rows' smallest distances, and the squares of the differences of curvature. -/
abbrev rowPart (x0 : Vec Ideal S1x512x3 .f32) (x1 : Vec Ideal S1x3x512 .f32) : FVec Ideal S1x1 .f32 :=
  Body.total summed1 (Body.minRow shapes (Body.gaps shapes x0 x1))
abbrev curvPart (x0 : Vec Ideal S1x512x3 .f32) (x1 : Vec Ideal S1x3x512 .f32) (x2 : Vec Ideal S1x512x3 .f32) (x3 : Vec Ideal S1x512x3 .f32) : FVec Ideal S1x1 .f32 :=
  Body.total summed3 (mulf (Body.apart shapes crossed (Body.gaps shapes x0 x1) (Body.allOf shapes x2) (Body.rowsOf shapes x3))
    (Body.apart shapes crossed (Body.gaps shapes x0 x1) (Body.allOf shapes x2) (Body.rowsOf shapes x3)))
/-- At the last row block of a batch, the columns' smallest distances are added too. -/
abbrev colPart (z : Vec Ideal S1x1x512 .f32) : FVec Ideal S1x1 .f32 :=
  Body.total summedN (shapeCast S1x512 z crossed.dn : FVec Ideal S1x512 .f32)
abbrev zero : FVec Ideal S1x1 .f32 := broadcast S1x1 (Scalar.ofBits .f32 0x00000000#32)

theorem pay1 (v : FVec Ideal S512x3 .f32) (x : Vec Ideal S1x1 .f32) : k0_pay1 v x = addf x (Body.total summed3 (mulf v v)) := by
  show addf (shapeCast S1x1 x shapeCasts_S1x1_S1x1 : FVec Ideal S1x1 .f32) _ = _
  rw [shapeCast_self]; rfl
theorem pay2 (x : Vec Ideal S1x1 .f32) (z : Vec Ideal S1x1x512 .f32) : k0_pay2 x z = addf x (colPart z) := by
  show addf (shapeCast S1x1 x shapeCasts_S1x1_S1x1 : FVec Ideal S1x1 .f32) _ = _
  rw [shapeCast_self]; rfl
theorem pay35 (v : FVec Ideal S512x1 .f32) (x : Vec Ideal S1x1 .f32) : k0_pay35 v x = addf x (Body.total summed1 v) := by
  show addf (shapeCast S1x1 x shapeCasts_S1x1_S1x1 : FVec Ideal S1x1 .f32) _ = _
  rw [shapeCast_self]; rfl

section
variable (c : Dev nD) (i : grid0.Coords) (a2 : Memref sig .tc .vmem S1x512x3 .f32) (h2 : a2.IsWhole) (a3 : Memref sig .tc .vmem S1x3x512 .f32) (h3 : a3.IsWhole) (a4 : Memref sig .tc .vmem S1x512x3 .f32) (h4 : a4.IsWhole) (a5 : Memref sig .tc .vmem S1x512x3 .f32) (h5 : a5.IsWhole) (a6 : Memref sig .tc .vmem S1x1x512 .f32) (h6 : a6.IsWhole) (a7 : Memref sig .tc .vmem S1x1 .f32) (h7 : a7.IsWhole) (a8 : Memref sig .tc .vmem S1x1 .f32) (h8 : a8.IsWhole)
    (x0 : Vec Ideal S1x512x3 .f32) (x1 : Vec Ideal S1x3x512 .f32) (x2 : Vec Ideal S1x512x3 .f32) (x3 : Vec Ideal S1x512x3 .f32)
    (xo5 xo6 : Vec Ideal S1x1 .f32)

theorem col_A (hc0 : cond0_0 i) (hc1 : cond0_1 i) (hc2 : ¬cond0_2 i) (hc3 : cond0_3 i) :
    out0_A_4 c i a2 h2 a3 h3 a4 h4 a5 h5 a6 h6 a7 h7 a8 h8 hc0 hc1 hc2 hc3 x0 x1 x2 x3 = Body.colFirst crossed (Body.gaps shapes x0 x1) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem col_B (hc0 : ¬cond0_0 i) (hc1 : cond0_1 i) (hc2 : ¬cond0_2 i) (hc3 : cond0_3 i) :
    out0_B_4 c i a2 h2 a3 h3 a4 h4 a5 h5 a6 h6 a7 h7 a8 h8 hc0 hc1 hc2 hc3 x0 x1 x2 x3 xo5 xo6 = Body.colFirst crossed (Body.gaps shapes x0 x1) := by
  unfold out0_B_4
  rw [View.read_writes_eq_canon _ _ _ (cover0_B_4 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem cham_A (hc0 : cond0_0 i) (hc1 : cond0_1 i) (hc2 : ¬cond0_2 i) (hc3 : cond0_3 i) :
    out0_A_5 c i a2 h2 a3 h3 a4 h4 a5 h5 a6 h6 a7 h7 a8 h8 hc0 hc1 hc2 hc3 x0 x1 x2 x3 = addf (addf zero (rowPart x0 x1)) (colPart (Body.colFirst crossed (Body.gaps shapes x0 x1))) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_cons_unit_lit' (S := S1x1) _ _ _ _ _ (congrFun hz2) (congrFun hz2), View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem cham_B (hc0 : ¬cond0_0 i) (hc1 : cond0_1 i) (hc2 : ¬cond0_2 i) (hc3 : cond0_3 i) :
    out0_B_5 c i a2 h2 a3 h3 a4 h4 a5 h5 a6 h6 a7 h7 a8 h8 hc0 hc1 hc2 hc3 x0 x1 x2 x3 xo5 xo6 = addf (addf xo5 (rowPart x0 x1)) (colPart (Body.colFirst crossed (Body.gaps shapes x0 x1))) := by
  unfold out0_B_5
  rw [View.read_writes_eq_canon _ _ _ (cover0_B_5 c i a2 h2 a3 h3 a4 h4 a5 h5 a6 h6 a7 h7 a8 h8 hc0 hc1 hc2 hc3 x0 x1 x2 x3 xo5 xo6)]
  unfold kernelRun0_B
  dsimp only
  sl_unfold_words
  rw [View.canon_cons_unit_zero (S := S1x1) hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem curv_A (hc0 : cond0_0 i) (hc1 : cond0_1 i) (hc2 : ¬cond0_2 i) (hc3 : cond0_3 i) :
    out0_A_6 c i a2 h2 a3 h3 a4 h4 a5 h5 a6 h6 a7 h7 a8 h8 hc0 hc1 hc2 hc3 x0 x1 x2 x3 = addf zero (curvPart x0 x1 x2 x3) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem curv_B (hc0 : ¬cond0_0 i) (hc1 : cond0_1 i) (hc2 : ¬cond0_2 i) (hc3 : cond0_3 i) :
    out0_B_6 c i a2 h2 a3 h3 a4 h4 a5 h5 a6 h6 a7 h7 a8 h8 hc0 hc1 hc2 hc3 x0 x1 x2 x3 xo5 xo6 = addf xo6 (curvPart x0 x1 x2 x3) := by
  unfold out0_B_6
  rw [View.read_writes_eq_canon _ _ _ (cover0_B_6 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

end

/-! ## The blocks -/

abbrev bat (t : Fin cfg0.N) : Fin 2 := Grid.bat 1 t
abbrev row (t : Fin cfg0.N) (r : Fin 512) : Fin 512 := Grid.row (K := 1) (R := 512) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = 0 ∧ win0_5.index t 1 = 0)
    ∧ (win0_6.index t 0 = 0 ∧ win0_6.index t 1 = 0))

variable (m : (ℓ : Loc nD τ sig) → Buf (Elt Ideal) ℓ) (c : Dev nD)

/-- The clouds a device is given, the moved first cloud, and the curvatures. -/
abbrev cloud : Cloud 512 := m ((c : Thread nD τ).loc main_arg0)
abbrev flow : Cloud 512 := m ((c : Thread nD τ).loc main_arg1)
abbrev target : Cloud 512 := m ((c : Thread nD τ).loc main_arg2)
abbrev curv : S2x512x3.Idx → EReal := m ((c : Thread nD τ).loc main_arg3)
abbrev moved : S2x512x3.Idx → EReal := m ((c : Thread nD τ).loc main_arg4)
abbrev warped : Cloud 512 := fun i => cloud m c i + flow m c i

theorem V_warped (b : Fin 2) (n : Fin 512) (k : Fin 3) : V m c main_v2 (ix3 b n k) = warped m c (ix3 b k n) := by
  have h : V m c main_v2 = addf (transpose S2x512x3 [0, 2, 1] (cloud m c) transposes_S2x3x512_S2x512x3_0_2_1 : FVec Ideal S2x512x3 .f32)
    (transpose S2x512x3 [0, 2, 1] (flow m c) transposes_S2x3x512_S2x512x3_0_2_1) := rfl
  rw [h]
  pointwise

theorem iblk0 (t : Fin cfg0.N) (r : Fin 512) (k : Fin 3) : iblk m c 0 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 512 + 1 * r.val = t.val % 1 * 512 + r.val; omega
  | ⟨2, _⟩ => show win0_0.index t 2 * 3 + 1 * k.val = k.val; omega

theorem iblk1 (t : Fin cfg0.N) (k : Fin 3) (n : Fin 512) : iblk m c 1 t (ix3 0 k n) = target m c (ix3 (bat t) k n) := by
  unfold iblk
  rw [View.read_apply]
  refine Eq.trans ?_ (congrFun (V_main_arg2 m c) (ix3 (bat t) k n))
  refine congrArg (V m c main_arg2) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 512 + 1 * n.val = n.val; omega

theorem iblk2 (t : Fin cfg0.N) (n : Fin 512) (k : Fin 3) : iblk m c 2 t (ix3 0 n k) = curv m c (ix3 (bat t) n k) := by
  unfold iblk
  rw [View.read_apply]
  refine Eq.trans ?_ (congrFun (V_main_arg3 m c) (ix3 (bat t) n k))
  refine congrArg (V m c main_arg3) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 512 + 1 * n.val = n.val; omega
  | ⟨2, _⟩ => show win0_2.index t 2 * 3 + 1 * k.val = k.val; omega

theorem iblk3 (t : Fin cfg0.N) (r : Fin 512) (k : Fin 3) : iblk m c 3 t (ix3 0 r k) = moved m c (ix3 (bat t) (row t r) k) := by
  unfold iblk
  rw [View.read_apply]
  refine Eq.trans ?_ (congrFun (V_main_arg4 m c) (ix3 (bat t) (row t r) k))
  refine congrArg (V m c main_arg4) (funext fun a => Fin.ext ?_)
  obtain ⟨-, -, -, ⟨e0, e1, e2⟩, -⟩ := index0 t
  match a with
  | ⟨0, _⟩ => show win0_3.index t 0 * 1 + 1 * 0 = t.val / 1; omega
  | ⟨1, _⟩ => show win0_3.index t 1 * 512 + 1 * r.val = t.val % 1 * 512 + r.val; omega
  | ⟨2, _⟩ => show win0_3.index t 2 * 3 + 1 * k.val = k.val; omega

theorem gap_eq (t : Fin cfg0.N) (r : Fin 512) : Body.gap (iblk m c 0 t) (iblk m c 1 t) r = dist (warped m c) (target m c) (bat t) (row t r) := by
  funext n
  unfold Body.gap
  simp only [iblk0, iblk1]
  rfl

/-! ## The smallest distance of every column -/

/-- The block's columns, over its own rows alone. -/
theorem part4 (t : Fin cfg0.N) (n : Fin 512) :
    (least fun r => Body.gap (iblk m c 0 t) (iblk m c 1 t) r n) = least fun r => dist (warped m c) (target m c) (bat t) (row t r) n :=
  congrArg least (funext fun r => congrFun (gap_eq m c t r) n)

theorem outs_first (t : Fin cfg0.N) :
    (outsAt0 m c t.val t.isLt).1 = Body.colFirst crossed (Body.gaps shapes (iblk m c 0 t) (iblk m c 1 t)) := by
  by_cases h0 : t.val % 2 = 0
  · rw [outsAt0_A m c t h0]; dsimp only; rw [col_A]
  · rw [outsAt0_B m c t h0]; dsimp only; rw [col_B]

/-- The smallest distance of column `n`. -/
def colMin (b : Fin 2) (n : Fin 512) : EReal := least fun r => dist (warped m c) (target m c) b r n

/-- The one block of a batch holds all its rows. -/
theorem outs_last (t : Fin cfg0.N) (n : Fin 512) :
    ((outsAt0 m c t.val t.isLt).1 : Vec Ideal S1x1x512 .f32) (ix3 0 0 n) = colMin m c (bat t) n := by
  refine Grid.least_grid (K := 1) (R := 512) rfl (fun b r => dist (warped m c) (target m c) b r n)
    (fun t : Fin cfg0.N => ((outsAt0 m c t.val t.isLt).1 : Vec Ideal S1x1x512 .f32) (ix3 0 0 n)) (fun t _ => ?_) (fun t h => ?_) t (Nat.mod_one _)
  · exact (congrFun (outs_first m c t) (ix3 0 0 n)).trans ((Body.colFirst_apply shapes crossed _ _ n).trans (part4 m c t n))
  · exact absurd (Nat.mod_one _) h

/-- The smallest distances of all columns. -/
def resultCol : S2x1x512.Idx → EReal := fun i => colMin m c (i 0) (i 2)

theorem flushed4_eq (t : Fin cfg0.N) :
    (dats m 0 c).flushed 4 t = ((cfg0.win 4).blk t).view.read (Elt Ideal) (resultCol m c) := by
  rw [Value.flushed4]
  funext j
  obtain ⟨n, rfl⟩ : ∃ n : Fin 512, j = ix3 0 0 n := by
    refine ⟨j 2, funext fun a => ?_⟩
    match a with
    | ⟨0, _⟩ => exact Subsingleton.elim (α := Fin 1) _ _
    | ⟨1, _⟩ => exact Subsingleton.elim (α := Fin 1) _ _
    | ⟨2, _⟩ => rfl
  refine (outs_last m c t n).trans ?_
  rw [View.read_apply]
  refine congrArg (resultCol m c) (a₁ := ix3 (bat t) 0 n) (funext fun a => Fin.ext ?_)
  obtain ⟨-, -, -, -, ⟨e0, e1, e2⟩, -⟩ := index0 t
  match a with
  | ⟨0, _⟩ => show t.val / 1 = win0_4.index t 0 * 1 + 1 * 0; omega
  | ⟨1, _⟩ => show 0 = win0_4.index t 1 * 1 + 1 * 0; omega
  | ⟨2, _⟩ => show n.val = win0_4.index t 2 * 512 + 1 * n.val; omega

theorem cover4 (i : S2x1x512.Idx) : ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 512 := (i 2).isLt
  have ht : (i 0 : Nat) < cfg0.N := by show _ < 2; omega
  refine ⟨⟨_, ht⟩, flush0_4 _, ?_⟩
  show i ∈ ((View.whole main_v3_0).slice (win0_4.rect ⟨_, ht⟩)).set
  rw [View.set_slice_whole, Rect.mem_set_unit]
  obtain ⟨-, -, -, -, ⟨e0, e1, e2⟩, -⟩ := index0 ⟨_, ht⟩
  intro a
  match a with
  | ⟨0, _⟩ => show win0_4.index ⟨_, ht⟩ 0 * 1 ≤ (i 0 : Nat) ∧ (i 0 : Nat) < win0_4.index ⟨_, ht⟩ 0 * 1 + 1
              rw [e0]; dsimp only; omega
  | ⟨1, _⟩ => show win0_4.index ⟨_, ht⟩ 1 * 1 ≤ (i 1 : Nat) ∧ (i 1 : Nat) < win0_4.index ⟨_, ht⟩ 1 * 1 + 1
              rw [e1]; omega
  | ⟨2, _⟩ => show win0_4.index ⟨_, ht⟩ 2 * 512 ≤ (i 2 : Nat) ∧ (i 2 : Nat) < win0_4.index ⟨_, ht⟩ 2 * 512 + 512
              rw [e2]; omega

theorem final4 : (dats m 0 c).arrAt 4 cfg0.N = resultCol m c :=
  (dats m 0 c).arrAt_eq_of_cover 4 (resultCol m c) (fun t _ => flushed4_eq m c t) cover4

/-! ## The two sums -/

/-- The smallest distance of row `r`. -/
def rowMin (b : Fin 2) (r : Fin 512) : EReal := least (dist (warped m c) (target m c) b r)

/-- What grid point `t` adds to the sum of smallest distances. -/
def adds (t : Fin cfg0.N) : EReal :=
  (∑ r, rowMin m c (bat t) (row t r)) + ∑ n, colMin m c (bat t) n

theorem rowPart_apply (t : Fin cfg0.N) (i : S1x1.Idx) : rowPart (iblk m c 0 t) (iblk m c 1 t) i = ∑ r, rowMin m c (bat t) (row t r) := by
  refine (Body.total_minRow shapes (iblk m c 0 t) (iblk m c 1 t) summed1 i).trans ?_
  simp only [gap_eq]
  rfl

theorem colPart_apply (z : Vec Ideal S1x1x512 .f32) (i : S1x1.Idx) : colPart z i = ∑ n, z (ix3 0 0 n) :=
  Body.total_line crossed summedN z i

theorem sum_last (t : Fin cfg0.N) :
    ∑ n, ((outsAt0 m c t.val t.isLt).1 : Vec Ideal S1x1x512 .f32) (ix3 0 0 n) = ∑ n, colMin m c (bat t) n :=
  Finset.sum_congr rfl fun n _ => outs_last m c t n

theorem add_at (a b : FVec Ideal S1x1 .f32) (i : S1x1.Idx) : addf a b i = a i + b i := rfl

theorem zero_apply (i : S1x1.Idx) : zero i = 0 := by
  show Ideal.ofBits .f32 0x00000000#32 = 0
  simp [Ideal.ofBits, Ideal.ieee]

theorem cham_first (t : Fin cfg0.N) (h0 : t.val % 2 = 0) : (outsAt0 m c t.val t.isLt).2.1
    = addf (addf zero (rowPart (iblk m c 0 t) (iblk m c 1 t))) (colPart (outsAt0 m c t.val t.isLt).1) := by
  rw [outs_first, outsAt0_A m c t h0]; dsimp only; rw [cham_A]

theorem cham_next (t : Fin cfg0.N) (h0 : ¬t.val % 2 = 0) : (outsAt0 m c t.val t.isLt).2.1
    = addf (addf (outsAt0 m c (t.val - 1) (Nat.lt_of_le_of_lt (Nat.sub_le _ _) t.isLt)).2.1 (rowPart (iblk m c 0 t) (iblk m c 1 t)))
        (colPart (outsAt0 m c t.val t.isLt).1) := by
  rw [outs_first, outsAt0_B m c t h0]; dsimp only; rw [cham_B]

/-- The running sum of smallest distances after the last grid point. -/
theorem cham_acc (t : Fin cfg0.N) (ht : t.val = 1) (i : S1x1.Idx) :
    ((outsAt0 m c t.val t.isLt).2.1 : Vec Ideal S1x1 .f32) i = ∑ t : Fin cfg0.N, adds m c t := by
  refine Grid.summed (T := cfg0.N) (adds m c) (fun t => ((outsAt0 m c t.val t.isLt).2.1 : Vec Ideal S1x1 .f32) i) (fun t h => ?_) (fun t h => ?_) t
    (by rw [ht]; rfl)
  · refine (congrFun (cham_first m c t (by omega)) i).trans ?_
    rw [add_at, add_at, zero_apply, rowPart_apply, zero_add, colPart_apply, sum_last]
    rfl
  · have hl : t.val < 2 := t.isLt
    refine (congrFun (cham_next m c t (by omega)) i).trans ?_
    rw [add_at, add_at, rowPart_apply, add_assoc, colPart_apply, sum_last]
    rfl

/-- Over both clouds, the smallest distances of rows and of columns. -/
theorem sum_adds : ∑ t : Fin cfg0.N, adds m c t = (∑ b, ∑ r, rowMin m c b r) + ∑ b, ∑ n, colMin m c b n := by
  unfold adds
  rw [Finset.sum_add_distrib]
  refine congrArg₂ _ (Grid.sum_grid (K := 1) (R := 512) rfl (rowMin m c))
    (Eq.trans ?_ (Grid.sum_last (K := 1) (by norm_num) fun b => ∑ n, colMin m c b n))
  exact Finset.sum_congr rfl fun t _ => (if_pos (Nat.mod_one _)).symm

/-- The interpolated curvature at point `r` less the moved one, coordinate `k`. -/
def off (b : Fin 2) (r : Fin 512) (k : Fin 3) : EReal :=
  mix (by norm_num) (dist (warped m c) (target m c) b r) (fun n => curv m c (ix3 b n k)) - moved m c (ix3 b r k)

section
variable (hM : ∀ b r n, dist (warped m c) (target m c) b r n < big)
include hM

theorem curvPart_apply (t : Fin cfg0.N) (i : S1x1.Idx) : curvPart (iblk m c 0 t) (iblk m c 1 t) (iblk m c 2 t) (iblk m c 3 t) i
    = ∑ r, ∑ k, off m c (bat t) (row t r) k * off m c (bat t) (row t r) k := by
  refine (Body.total_apart shapes crossed (iblk m c 0 t) (iblk m c 1 t) summed3 (iblk m c 2 t) (iblk m c 3 t)
    (fun r n => by rw [gap_eq]; exact hM _ _ _) (by norm_num) i).trans ?_
  simp only [gap_eq, iblk2, iblk3]
  rfl

omit hM in
theorem curv_first (t : Fin cfg0.N) (h0 : t.val % 2 = 0) :
    (outsAt0 m c t.val t.isLt).2.2 = addf zero (curvPart (iblk m c 0 t) (iblk m c 1 t) (iblk m c 2 t) (iblk m c 3 t)) := by
  rw [outsAt0_A m c t h0]; dsimp only; rw [curv_A]

omit hM in
theorem curv_next (t : Fin cfg0.N) (h0 : ¬t.val % 2 = 0) : (outsAt0 m c t.val t.isLt).2.2
    = addf (outsAt0 m c (t.val - 1) (Nat.lt_of_le_of_lt (Nat.sub_le _ _) t.isLt)).2.2 (curvPart (iblk m c 0 t) (iblk m c 1 t) (iblk m c 2 t) (iblk m c 3 t)) := by
  rw [outsAt0_B m c t h0]; dsimp only; rw [curv_B]

/-- The running sum of squares after the last grid point. -/
theorem curv_acc (t : Fin cfg0.N) (ht : t.val = 1) (i : S1x1.Idx) :
    ((outsAt0 m c t.val t.isLt).2.2 : Vec Ideal S1x1 .f32) i = ∑ b, ∑ r, ∑ k, off m c b r k * off m c b r k := by
  refine (Grid.summed (T := cfg0.N) (fun t => ∑ r, ∑ k, off m c (bat t) (row t r) k * off m c (bat t) (row t r) k)
    (fun t => ((outsAt0 m c t.val t.isLt).2.2 : Vec Ideal S1x1 .f32) i) (fun t h => ?_) (fun t h => ?_) t (by rw [ht]; rfl)).trans
      (Grid.sum_grid (K := 1) (R := 512) rfl fun b r => ∑ k, off m c b r k * off m c b r k)
  · refine (congrFun (curv_first m c t (by omega)) i).trans ?_
    rw [add_at, zero_apply, curvPart_apply m c hM, zero_add]
  · have hl : t.val < 2 := t.isLt
    refine (congrFun (curv_next m c t (by omega)) i).trans ?_
    rw [add_at, curvPart_apply m c hM]
end

/-- The two sums as arrays. -/
abbrev resultCham : S1x1.Idx → EReal := fun _ => (∑ b, ∑ r, rowMin m c b r) + ∑ b, ∑ n, colMin m c b n
abbrev resultCurv : S1x1.Idx → EReal := fun _ => ∑ b, ∑ r, ∑ k, off m c b r k * off m c b r k

theorem flushed5_eq (t : Fin cfg0.N) (hf : (cfg0.win 5).flush t = true) :
    (dats m 0 c).flushed 5 t = ((cfg0.win 5).blk t).view.read (Elt Ideal) (resultCham m c) := by
  have ht : t.val = 1 := by have := (flush0_5 t).mp hf; have : t.val < 2 := t.isLt; omega
  rw [Value.flushed5]
  funext j
  exact (cham_acc m c t ht j).trans (sum_adds m c)

theorem cover5 (i : S1x1.Idx) : ∃ t : Fin cfg0.N, (cfg0.win 5).flush t = true ∧ i ∈ ((cfg0.win 5).blk t).view.set := by
  have hT : 1 < cfg0.N := by decide
  refine ⟨⟨1, hT⟩, (flush0_5 _).mpr rfl, ?_⟩
  show i ∈ ((View.whole main_v3_1).slice (win0_5.rect ⟨1, hT⟩)).set
  rw [View.set_slice_whole, Rect.mem_set_unit]
  obtain ⟨-, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win0_5.index ⟨1, hT⟩ 0 * 1 ≤ (i 0 : Nat) ∧ (i 0 : Nat) < win0_5.index ⟨1, hT⟩ 0 * 1 + 1
              rw [e0]; omega
  | ⟨1, _⟩ => show win0_5.index ⟨1, hT⟩ 1 * 1 ≤ (i 1 : Nat) ∧ (i 1 : Nat) < win0_5.index ⟨1, hT⟩ 1 * 1 + 1
              rw [e1]; omega

theorem final5 : (dats m 0 c).arrAt 5 cfg0.N = resultCham m c :=
  (dats m 0 c).arrAt_eq_of_cover 5 (resultCham m c) (flushed5_eq m c) cover5

theorem flushed6_eq (hM : ∀ b r n, dist (warped m c) (target m c) b r n < big) (t : Fin cfg0.N) (hf : (cfg0.win 6).flush t = true) :
    (dats m 0 c).flushed 6 t = ((cfg0.win 6).blk t).view.read (Elt Ideal) (resultCurv m c) := by
  have ht : t.val = 1 := by have := (flush0_6 t).mp hf; have : t.val < 2 := t.isLt; omega
  rw [Value.flushed6]
  funext j
  exact curv_acc m c hM t ht j

theorem cover6 (i : S1x1.Idx) : ∃ t : Fin cfg0.N, (cfg0.win 6).flush t = true ∧ i ∈ ((cfg0.win 6).blk t).view.set := by
  have hT : 1 < cfg0.N := by decide
  refine ⟨⟨1, hT⟩, (flush0_6 _).mpr rfl, ?_⟩
  show i ∈ ((View.whole main_v3_2).slice (win0_6.rect ⟨1, hT⟩)).set
  rw [View.set_slice_whole, Rect.mem_set_unit]
  obtain ⟨-, -, -, -, -, -, e0, e1⟩ := index0 ⟨1, hT⟩
  have h0 : (i 0 : Nat) < 1 := (i 0).isLt
  have h1 : (i 1 : Nat) < 1 := (i 1).isLt
  intro a
  match a with
  | ⟨0, _⟩ => show win0_6.index ⟨1, hT⟩ 0 * 1 ≤ (i 0 : Nat) ∧ (i 0 : Nat) < win0_6.index ⟨1, hT⟩ 0 * 1 + 1
              rw [e0]; omega
  | ⟨1, _⟩ => show win0_6.index ⟨1, hT⟩ 1 * 1 ≤ (i 1 : Nat) ∧ (i 1 : Nat) < win0_6.index ⟨1, hT⟩ 1 * 1 + 1
              rw [e1]; omega

theorem final6 (hM : ∀ b r n, dist (warped m c) (target m c) b r n < big) : (dats m 0 c).arrAt 6 cfg0.N = resultCurv m c :=
  (dats m 0 c).arrAt_eq_of_cover 6 (resultCurv m c) (flushed6_eq m c hM) cover6

end Cert.Cross512Kernel
-- ==== Proof.Cross512Ref.lean ====
/- The reference between the two clouds read at an index. -/
module

public import proofs.«01_k».proof.Proof.Near
public import proofs.«01_k».proof.Proof.HostReads
public import proofs.«01_k».proof.Proof.Gen.Cross512RefIdeal.Read

@[expose] public section

noncomputable section

namespace Cert.Cross512Ref

open Idealize.ShloMosaic Cert.Rank Cert.Near Cert.HostReads
open Cert.Cross512RefIdeal Cert.Cross512RefIdeal.Gen Cert.Cross512RefIdeal.Read

theorem takeSides : TakeSides 2 512 512 5 3 where
  b0 := bcast_S_S2x512x5
  b1 := bcast_S2x512x5_S2x512x5x1_0_1_2
  b2 := bcast_S_S2x512x5x1
  b3 := bcast_S1_S1x1x1x1_3
  b4 := bcast_S1x1x1x1_S2x512x5x1_0_1_2_3
  red := reducesTo_S2x512x5x1_S2x512x5_d3
  pos := by decide
  b5 := by decide
  b6 := by decide
  wf := gather_S2x512x3_S2x512x5x1_S2x512x5x3_3_1_0_0_1_3_113.wf
  small := by norm_num

variable (x f y : Cloud 512) (p w : S2x512x3.Idx → EReal)

abbrev warped : Cloud 512 := fun i => x i + f i

theorem dist_first (b : Fin 2) (r n : Fin 512) : val_main_v15 (F := Ideal) x f y (ix3 b r n) = dist (warped x f) y b r n := by
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rw [cm2]
  rfl

theorem dist_second (b : Fin 2) (r n : Fin 512) : val_main_v37 (F := Ideal) x f y (ix3 b r n) = dist (warped x f) y b r n := by
  pointwise [val_main_v37, val_main_v36, val_main_v35, val_main_v34, val_main_v33, val_main_v32, val_main_v31, val_main_v30, val_main_v29, val_main_v28,
    val_main_v27, val_main_v26, val_main_v25, val_main_v24, val_main_v23, val_main_v0, val_main_cst_8, val_main_cst_9, val_main_cst_10]
  rw [cm2]
  rfl

theorem top : Ideal.ofBits .f32 0x7F800000#32 = (⊤ : EReal) := by simp [Ideal.ofBits, Ideal.ieee]

theorem rowMin_apply (b : Fin 2) (r : Fin 512) : val_main_v16 (F := Ideal) x f y (ix2 b r) = least (dist (warped x f) y b r) := by
  have e : (fun n => val_main_v15 (F := Ideal) x f y (ix3 b r n)) = dist (warped x f) y b r := funext fun n => dist_first x f y b r n
  pointwise [val_main_v16, val_main_cst_2]
  unfold least
  rw [top, e]

theorem colMin_apply (b : Fin 2) (n : Fin 512) : val_main_v17 (F := Ideal) x f y (ix2 b n) = least fun r => dist (warped x f) y b r n := by
  have e : (fun r => val_main_v15 (F := Ideal) x f y (ix3 b r n)) = fun r => dist (warped x f) y b r n := funext fun r => dist_first x f y b r n
  pointwise [val_main_v17, val_main_cst_3]
  unfold least
  rw [top, e]

theorem col_apply (b : Fin 2) (n : Fin 512) : val_main_v62 (F := Ideal) x f y (ix3 b 0 n) = least fun r => dist (warped x f) y b r n := by
  refine Eq.trans ?_ (colMin_apply x f y b n)
  pointwise [val_main_v62]

theorem rows_apply (i : S_.Idx) : val_main_v19 (F := Ideal) x f y i = ∑ b, ∑ r, val_main_v16 (F := Ideal) x f y (ix2 b r) := by
  pointwise [val_main_v19, val_main_v18, val_main_cst_4, val_main_cst_5]

theorem cols_apply (i : S_.Idx) : val_main_v21 (F := Ideal) x f y i = ∑ b, ∑ n, val_main_v17 (F := Ideal) x f y (ix2 b n) := by
  pointwise [val_main_v21, val_main_v20, val_main_cst_6, val_main_cst_7]

/-- A single value as an array [1, 1]. -/
theorem scalar_apply (z : S_.Idx → EReal) (h : S_.ShapeCasts S1x1) (i : S1x1.Idx) : shapeCast S1x1 z h i = z ix0 :=
  shapeCast_apply z h i ix0 (by
    have h0 : (i 0 : Nat) < 1 := (i 0).isLt
    have h1 : (i 1 : Nat) < 1 := (i 1).isLt
    rw [Shape.rowMajor_val_two]
    show 0 = (i 0 : Nat) * 1 + (i 1 : Nat)
    omega)

theorem both_apply (i : S1x1.Idx) :
    val_main_v63 (F := Ideal) x f y i = val_main_v19 (F := Ideal) x f y ix0 + val_main_v21 (F := Ideal) x f y ix0 := by
  unfold val_main_v63
  rw [scalar_apply, val_main_v22_apply]
  generalize val_main_v19 (F := Ideal) x f y ix0 = u
  generalize val_main_v21 (F := Ideal) x f y ix0 = v
  rfl

theorem cham_apply (i : S1x1.Idx) : val_main_v63 (F := Ideal) x f y i
    = (∑ b, ∑ r, least (dist (warped x f) y b r)) + ∑ b, ∑ n, least fun r => dist (warped x f) y b r n := by
  refine (both_apply x f y i).trans (congrArg₂ (· + ·) ((rows_apply x f y ix0).trans ?_) ((cols_apply x f y ix0).trans ?_))
  · exact Finset.sum_congr rfl fun b _ => Finset.sum_congr rfl fun r _ => rowMin_apply x f y b r
  · exact Finset.sum_congr rfl fun b _ => Finset.sum_congr rfl fun n _ => colMin_apply x f y b n

theorem weight_apply (b : Fin 2) (r : Fin 512) (t : Fin 5) :
    val_main_v44 (F := Ideal) x f y (ix3 b r t) = weight (dist (warped x f) y b r (nth (dist (warped x f) y b r) (Fin.castLE (by norm_num) t))) := by
  have hv := topK_values (by norm_num) (val_main_v37 (F := Ideal) x f y) sliceFits_S2x512x512_S2x512x5 b r t
  rw [show (fun j => val_main_v37 (F := Ideal) x f y (ix3 b r j)) = dist (warped x f) y b r from funext fun j => dist_second x f y b r j, dist_second] at hv
  have e : val_main_v44 (F := Ideal) x f y (ix3 b r t) = weight (-(val_main_values (F := Ideal) x f y (ix3 b r t))) := by
    pointwise [val_main_v44, val_main_v43, val_main_v42, val_main_v41, val_main_v39, val_main_cst_11, val_main_cst_12]
    rfl
  rw [e]
  refine congrArg weight ((congrArg Neg.neg hv).trans (neg_neg _))

theorem norm_apply (b : Fin 2) (r : Fin 512) :
    val_main_v45 (F := Ideal) x f y (ix2 b r) = ∑ s : Fin 5, weight (dist (warped x f) y b r (nth (dist (warped x f) y b r) (Fin.castLE (by norm_num) s))) := by
  pointwise [val_main_v45, val_main_cst_13]
  simp only [weight_apply]

theorem share_apply (b : Fin 2) (r : Fin 512) (t : Fin 5) :
    val_main_v52 (F := Ideal) x f y (ix3 b r t)
      = Ideal.div (weight (dist (warped x f) y b r (nth (dist (warped x f) y b r) (Fin.castLE (by norm_num) t))))
        (∑ s : Fin 5, weight (dist (warped x f) y b r (nth (dist (warped x f) y b r) (Fin.castLE (by norm_num) s)))) := by
  rw [← norm_apply, ← weight_apply]
  have e : val_main_v50 (F := Ideal) x f y = val_main_v44 (F := Ideal) x f y := rfl
  pointwise [val_main_v52, val_main_v51, val_main_v46, e]

theorem near_apply (b : Fin 2) (r : Fin 512) (t : Fin 5) (c : Fin 3) :
    val_main_v40 (F := Ideal) x f y p (ix4 b r t c) = p (ix3 b (nth (dist (warped x f) y b r) (Fin.castLE (by norm_num) t)) c) := by
  have hi : val_main_indices (F := Ideal) x f y (ix3 b r t) = BitVec.ofNat 32 (nth (dist (warped x f) y b r) (Fin.castLE (by norm_num) t)).val := by
    refine (topK_indices (by norm_num) (val_main_v37 (F := Ideal) x f y) sliceFits_S2x512x512_S2x512x5 b r t).trans ?_
    rw [show (fun j => val_main_v37 (F := Ideal) x f y (ix3 b r j)) = dist (warped x f) y b r from funext fun j => dist_second x f y b r j]
  rw [show val_main_v40 (F := Ideal) x f y p = take takeSides p (val_main_indices (F := Ideal) x f y) from rfl,
    take_apply takeSides _ _ b r t c _ hi]

theorem portion_apply (b : Fin 2) (r : Fin 512) (t : Fin 5) (c : Fin 3) :
    val_main_v54 (F := Ideal) x f y (ix4 b r t c) = val_main_v52 (F := Ideal) x f y (ix3 b r t) := by
  pointwise [val_main_v54, val_main_v53]

theorem off_apply (b : Fin 2) (r : Fin 512) (c : Fin 3) :
    val_main_v57 (F := Ideal) x f y p w (ix3 b r c)
      = mix (by norm_num) (dist (warped x f) y b r) (fun n => p (ix3 b n c)) - w (ix3 b r c) := by
  pointwise [val_main_v57, val_main_v56, val_main_v55, val_main_cst_16]
  simp only [portion_apply, share_apply, near_apply]
  rfl

theorem squares_apply (i : S_.Idx) : val_main_v61 (F := Ideal) x f y p w i
    = ∑ b, ∑ r, ∑ c : Fin 3, val_main_v57 (F := Ideal) x f y p w (ix3 b r c) * val_main_v57 (F := Ideal) x f y p w (ix3 b r c) := by
  pointwise [val_main_v61, val_main_v60, val_main_v59, val_main_v58, val_main_cst_17, val_main_cst_18, val_main_cst_19]

theorem curv_apply (i : S1x1.Idx) : val_main_v64 (F := Ideal) x f y p w i
    = ∑ b, ∑ r, ∑ c : Fin 3, val_main_v57 (F := Ideal) x f y p w (ix3 b r c) * val_main_v57 (F := Ideal) x f y p w (ix3 b r c) :=
  (scalar_apply _ shapeCasts_S_S1x1 i).trans (squares_apply x f y p w ix0)

end Cert.Cross512Ref
-- ==== Proof.Cross512Claims.lean ====
/- The claims about the kernel between the two clouds. -/
module

public import proofs.«01_k».proof.Defs
public import proofs.«01_k».proof.Proof.Gen.Cross512.Frame
public import proofs.«01_k».proof.Proof.Gen.Cross512RefIdeal.Run
public import proofs.«01_k».proof.Proof.Gen.Pre_bounded3_512
public import proofs.«01_k».proof.Proof.Cross512Kernel
public import proofs.«01_k».proof.Proof.Cross512Ref

@[expose] public section

noncomputable section

namespace Cert.Cross512Claims

open Idealize.ShloMosaic Idealize.SL.Sem Cert.Near

theorem frame_p : Cert.quiescent_Cross512 := fun m ρ _ => Cert.Cross512.Gen.frame m ρ

theorem frame_pi : Cert.quiescent_Cross512Ideal := fun m ρ _ => Cert.Cross512Ideal.Gen.frame m ρ

theorem frame_pi_pre : Cert.quiescent_Cross512Ideal_pre_bounded3_512 := fun m ρ _ => Cert.Cross512Ideal.Gen.frame m ρ

theorem frame_ri : Cert.quiescent_Cross512RefIdeal := fun m ρ _ =>
  (θ_run Cert.Cross512RefIdeal.defs _ _).mono (fun r h => ⟨fun c => (h c).2.2.2, sem_eq_zero_of_no_sems (by decide) r.2⟩)
    (Cert.Cross512RefIdeal.Value.run (F := Ideal) m ρ)

theorem frame_ri_pre : Cert.quiescent_Cross512RefIdeal_pre_bounded3_512 := fun m ρ _ => frame_ri m ρ trivial

theorem preserves : Cert.preserves_Cross512_Cross512Ideal := trivial

theorem small (m : (ℓ : Loc Cert.Cross512Ideal.nD Cert.Cross512Ideal.τ Cert.Cross512Ideal.sig) → Buf (Elt Ideal) ℓ) (h : Cert.Pre_Cross512Ideal_bounded3_512 m)
    (c : Dev Cert.Cross512Ideal.nD) (i) :
    Small (2 ^ 60) (Cross512Kernel.cloud m c i) ∧ Small (2 ^ 60) (Cross512Kernel.flow m c i) ∧ Small (2 ^ 60) (Cross512Kernel.target m c i) :=
  have h2 := both (congrFun (h c) i)
  have h1 := both h2.1
  ⟨small_of_le h1.1, small_of_le h1.2, small_of_le h2.2⟩

theorem algebraic : Cert.algebraic_Cross512Ideal_Cross512RefIdeal_pre_bounded3_512 := by
  intro m ρ m' ρ' hpre hagree
  have hs := small m hpre
  have hM : ∀ c b r n, dist (Cross512Kernel.warped m c) (Cross512Kernel.target m c) b r n < big := fun c b r n =>
    sqd_lt _ _ (fun k => ((hs c _).1.add (hs c _).2.1).mono (by norm_num)) (fun k => (hs c _).2.2.mono (by norm_num))
  refine ⟨fun c => Cross512Kernel.resultCol m c, fun c => Cross512Kernel.resultCham m c, fun c => Cross512Kernel.resultCurv m c, ?_, ?_⟩
  · exact (θ_run Cert.Cross512Ideal.defs _ _).mono (fun _ h c =>
      ⟨(h c).1.trans (Cross512Kernel.final4 m c), (h c).2.1.trans (Cross512Kernel.final5 m c), (h c).2.2.1.trans (Cross512Kernel.final6 m c (hM c)), (h c).2.2.2⟩)
      (Cert.Cross512Ideal.Value.run_blocks (F := Ideal) m ρ)
  · refine (θ_run Cert.Cross512RefIdeal.defs _ _).mono (fun _ h c => ⟨(h c).1.trans ?_, (h c).2.1.trans ?_, (h c).2.2.1.trans ?_, (h c).2.2.2⟩)
      (Cert.Cross512RefIdeal.Value.run (F := Ideal) m' ρ')
    · rw [Cert.Cross512RefIdeal.Read.val_main_v62_eq, (hagree c).1, (hagree c).2.1, (hagree c).2.2.1]
      funext i
      obtain ⟨b, n, rfl⟩ : ∃ (b : Fin 2) (n : Fin 512), i = ix3 b 0 n := by
        refine ⟨i 0, i 2, funext fun a => ?_⟩
        match a with
        | ⟨0, _⟩ => rfl
        | ⟨1, _⟩ => exact Subsingleton.elim (α := Fin 1) _ _
        | ⟨2, _⟩ => rfl
      exact Cross512Ref.col_apply (Cross512Kernel.cloud m c) (Cross512Kernel.flow m c) (Cross512Kernel.target m c) b n
    · rw [Cert.Cross512RefIdeal.Read.val_main_v63_eq, (hagree c).1, (hagree c).2.1, (hagree c).2.2.1]
      funext i
      exact Cross512Ref.cham_apply (Cross512Kernel.cloud m c) (Cross512Kernel.flow m c) (Cross512Kernel.target m c) i
    · rw [Cert.Cross512RefIdeal.Read.val_main_v64_eq, (hagree c).1, (hagree c).2.1, (hagree c).2.2.1, (hagree c).2.2.2.1, (hagree c).2.2.2.2]
      funext i
      refine (Cross512Ref.curv_apply (Cross512Kernel.cloud m c) (Cross512Kernel.flow m c) (Cross512Kernel.target m c) (Cross512Kernel.curv m c) (Cross512Kernel.moved m c) i).trans ?_
      refine Finset.sum_congr rfl fun b _ => Finset.sum_congr rfl fun r _ => Finset.sum_congr rfl fun k _ => ?_
      rw [Cross512Ref.off_apply]
      rfl

end Cert.Cross512Claims
-- ==== Proof.LastKernel.lean ====
/- The last call, the kernel between the two clouds, in the program that also sums the loss: what its body computes from its blocks, and the arrays its grid fills. -/
module

public import proofs.«01_k».proof.Proof.BodyCross
public import proofs.«01_k».proof.Proof.Grid
public import proofs.«01_k».proof.Proof.Gen.LastIdeal.Frame
public import Idealize.ShloMosaic.Lib.Pipeline.ValueKit.Acc

@[expose] public section

noncomputable section

namespace Cert.LastKernel

open Idealize.ShloMosaic Idealize.ShloMosaic.TcCoe Idealize.SL.Sem Cert.Rank Cert.Near
open Cert.LastIdeal Cert.LastIdeal.Gen

/-! ## The body -/

theorem shapes : Body.Shapes 512 512 where
  sides := ⟨reduces_S512x512_S512_2, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem crossed : Body.Crossed 512 512 where
  wide := broadcasts_S512x1_S512x3
  red := reduces_S512x512_S512
  line := shapeCasts_S512_S1x512
  up := shapeCasts_S1x512_S1x1x512
  dn := shapeCasts_S1x1x512_S1x512

theorem summed1 : Body.Summed 512 1 := ⟨shapeCasts_S512x1_S1x512x1, reduces_S1x512x1_S1, shapeCasts_S1_S1x1x1, inpos_S1x1x1_p0_0_0⟩
theorem summed3 : Body.Summed 512 3 := ⟨shapeCasts_S512x3_S1x512x3, reduces_S1x512x3_S1, shapeCasts_S1_S1x1x1, inpos_S1x1x1_p0_0_0⟩
theorem summedN : Body.Summed 1 512 := ⟨shapeCasts_S1x512_S1x1x512, reduces_S1x1x512_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the two running sums: the rows' smallest distances, and the squares of the differences of curvature. -/
abbrev rowPart (x0 : Vec Ideal S1x512x3 .f32) (x1 : Vec Ideal S1x3x512 .f32) : FVec Ideal S1x1 .f32 :=
  Body.total summed1 (Body.minRow shapes (Body.gaps shapes x0 x1))
abbrev curvPart (x0 : Vec Ideal S1x512x3 .f32) (x1 : Vec Ideal S1x3x512 .f32) (x2 : Vec Ideal S1x512x3 .f32) (x3 : Vec Ideal S1x512x3 .f32) : FVec Ideal S1x1 .f32 :=
  Body.total summed3 (mulf (Body.apart shapes crossed (Body.gaps shapes x0 x1) (Body.allOf shapes x2) (Body.rowsOf shapes x3))
    (Body.apart shapes crossed (Body.gaps shapes x0 x1) (Body.allOf shapes x2) (Body.rowsOf shapes x3)))
/-- At the last row block of a batch, the columns' smallest distances are added too. -/
abbrev colPart (z : Vec Ideal S1x1x512 .f32) : FVec Ideal S1x1 .f32 :=
  Body.total summedN (shapeCast S1x512 z crossed.dn : FVec Ideal S1x512 .f32)
abbrev zero : FVec Ideal S1x1 .f32 := broadcast S1x1 (Scalar.ofBits .f32 0x00000000#32)

theorem pay1 (v : FVec Ideal S512x3 .f32) (x : Vec Ideal S1x1 .f32) : k0_pay1 v x = addf x (Body.total summed3 (mulf v v)) := by
  show addf (shapeCast S1x1 x shapeCasts_S1x1_S1x1 : FVec Ideal S1x1 .f32) _ = _
  rw [shapeCast_self]; rfl
theorem pay2 (x : Vec Ideal S1x1 .f32) (z : Vec Ideal S1x1x512 .f32) : k0_pay2 x z = addf x (colPart z) := by
  show addf (shapeCast S1x1 x shapeCasts_S1x1_S1x1 : FVec Ideal S1x1 .f32) _ = _
  rw [shapeCast_self]; rfl
theorem pay35 (v : FVec Ideal S512x1 .f32) (x : Vec Ideal S1x1 .f32) : k0_pay35 v x = addf x (Body.total summed1 v) := by
  show addf (shapeCast S1x1 x shapeCasts_S1x1_S1x1 : FVec Ideal S1x1 .f32) _ = _
  rw [shapeCast_self]; rfl

section
variable (c : Dev nD) (i : grid0.Coords) (a2 : Memref sig .tc .vmem S1x512x3 .f32) (h2 : a2.IsWhole) (a3 : Memref sig .tc .vmem S1x3x512 .f32) (h3 : a3.IsWhole) (a4 : Memref sig .tc .vmem S1x512x3 .f32) (h4 : a4.IsWhole) (a5 : Memref sig .tc .vmem S1x512x3 .f32) (h5 : a5.IsWhole) (a6 : Memref sig .tc .vmem S1x1x512 .f32) (h6 : a6.IsWhole) (a7 : Memref sig .tc .vmem S1x1 .f32) (h7 : a7.IsWhole) (a8 : Memref sig .tc .vmem S1x1 .f32) (h8 : a8.IsWhole)
    (x0 : Vec Ideal S1x512x3 .f32) (x1 : Vec Ideal S1x3x512 .f32) (x2 : Vec Ideal S1x512x3 .f32) (x3 : Vec Ideal S1x512x3 .f32)
    (xo5 xo6 : Vec Ideal S1x1 .f32)

theorem col_A (hc0 : cond0_0 i) (hc1 : cond0_1 i) (hc2 : ¬cond0_2 i) (hc3 : cond0_3 i) :
    out0_A_4 c i a2 h2 a3 h3 a4 h4 a5 h5 a6 h6 a7 h7 a8 h8 hc0 hc1 hc2 hc3 x0 x1 x2 x3 = Body.colFirst crossed (Body.gaps shapes x0 x1) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  rw [View.canon_unit_zero hz]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem col_B (hc0 : ¬cond0_0 i) (hc1 : cond0_1 i) (hc2 : ¬cond0_2 i) (hc3 : cond0_3 i) :
    out0_B_4 c i a2 h2 a3 h3 a4 h4 a5 h5 a6 h6 a7 h7 a8 h8 hc0 hc1 hc2 hc3 x0 x1 x2 x3 xo5 xo6 = Body.colFirst crossed (Body.gaps shapes x0 x1) := by
  unfold out0_B_4
  rw [View.read_writes_eq_canon _ _ _ (cover0_B_4 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem cham_A (hc0 : cond0_0 i) (hc1 : cond0_1 i) (hc2 : ¬cond0_2 i) (hc3 : cond0_3 i) :
    out0_A_5 c i a2 h2 a3 h3 a4 h4 a5 h5 a6 h6 a7 h7 a8 h8 hc0 hc1 hc2 hc3 x0 x1 x2 x3 = addf (addf zero (rowPart x0 x1)) (colPart (Body.colFirst crossed (Body.gaps shapes x0 x1))) := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_cons_unit_lit' (S := S1x1) _ _ _ _ _ (congrFun hz2) (congrFun hz2), View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem cham_B (hc0 : ¬cond0_0 i) (hc1 : cond0_1 i) (hc2 : ¬cond0_2 i) (hc3 : cond0_3 i) :
    out0_B_5 c i a2 h2 a3 h3 a4 h4 a5 h5 a6 h6 a7 h7 a8 h8 hc0 hc1 hc2 hc3 x0 x1 x2 x3 xo5 xo6 = addf (addf xo5 (rowPart x0 x1)) (colPart (Body.colFirst crossed (Body.gaps shapes x0 x1))) := by
  unfold out0_B_5
  rw [View.read_writes_eq_canon _ _ _ (cover0_B_5 c i a2 h2 a3 h3 a4 h4 a5 h5 a6 h6 a7 h7 a8 h8 hc0 hc1 hc2 hc3 x0 x1 x2 x3 xo5 xo6)]
  unfold kernelRun0_B
  dsimp only
  sl_unfold_words
  rw [View.canon_cons_unit_zero (S := S1x1) hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem curv_A (hc0 : cond0_0 i) (hc1 : cond0_1 i) (hc2 : ¬cond0_2 i) (hc3 : cond0_3 i) :
    out0_A_6 c i a2 h2 a3 h3 a4 h4 a5 h5 a6 h6 a7 h7 a8 h8 hc0 hc1 hc2 hc3 x0 x1 x2 x3 = addf zero (curvPart x0 x1 x2 x3) := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  rw [View.canon_cons_unit_zero (S := S1x1) hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem curv_B (hc0 : ¬cond0_0 i) (hc1 : cond0_1 i) (hc2 : ¬cond0_2 i) (hc3 : cond0_3 i) :
    out0_B_6 c i a2 h2 a3 h3 a4 h4 a5 h5 a6 h6 a7 h7 a8 h8 hc0 hc1 hc2 hc3 x0 x1 x2 x3 xo5 xo6 = addf xo6 (curvPart x0 x1 x2 x3) := by
  unfold out0_B_6
  rw [View.read_writes_eq_canon _ _ _ (cover0_B_6 c i a2 h2 a3 h3 a4 h4 a5 h5 a6 h6 a7 h7 a8 h8 hc0 hc1 hc2 hc3 x0 x1 x2 x3 xo5 xo6)]
  unfold kernelRun0_B
  dsimp only
  sl_unfold_words
  rw [View.canon_unit_zero hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

end

/-! ## The blocks -/

abbrev bat (t : Fin cfg0.N) : Fin 2 := Grid.bat 1 t
abbrev row (t : Fin cfg0.N) (r : Fin 512) : Fin 512 := Grid.row (K := 1) (R := 512) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = 0 ∧ win0_5.index t 1 = 0)
    ∧ (win0_6.index t 0 = 0 ∧ win0_6.index t 1 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0)
    ∧ (win0_4.index t 0 = t.val / 1 ∧ win0_4.index t 1 = 0 ∧ win0_4.index t 2 = 0)
    ∧ (win0_5.index t 0 = 0 ∧ win0_5.index t 1 = 0)
    ∧ (win0_6.index t 0 = 0 ∧ win0_6.index t 1 = 0))

variable (m : (ℓ : Loc nD τ sig) → Buf (Elt Ideal) ℓ) (c : Dev nD)

/-- The clouds a device is given, the moved first cloud, and the curvatures. -/
abbrev cloud : Cloud 512 := m ((c : Thread nD τ).loc main_arg0)
abbrev flow : Cloud 512 := m ((c : Thread nD τ).loc main_arg1)
abbrev target : Cloud 512 := m ((c : Thread nD τ).loc main_arg2)
abbrev curv : S2x512x3.Idx → EReal := m ((c : Thread nD τ).loc main_arg3)
abbrev moved : S2x512x3.Idx → EReal := m ((c : Thread nD τ).loc main_arg4)
abbrev warped : Cloud 512 := fun i => cloud m c i + flow m c i

theorem V_warped (b : Fin 2) (n : Fin 512) (k : Fin 3) : V m c main_v2 (ix3 b n k) = warped m c (ix3 b k n) := by
  have h : V m c main_v2 = addf (transpose S2x512x3 [0, 2, 1] (cloud m c) transposes_S2x3x512_S2x512x3_0_2_1 : FVec Ideal S2x512x3 .f32)
    (transpose S2x512x3 [0, 2, 1] (flow m c) transposes_S2x3x512_S2x512x3_0_2_1) := rfl
  rw [h]
  pointwise

theorem iblk0 (t : Fin cfg0.N) (r : Fin 512) (k : Fin 3) : iblk m c 0 t (ix3 0 r k) = warped m c (ix3 (bat t) k (row t r)) := by
  unfold iblk
  rw [View.read_apply]
  refine Eq.trans ?_ (V_warped m c (bat t) (row t r) k)
  refine congrArg (V m c main_v2) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 512 + 1 * r.val = t.val % 1 * 512 + r.val; omega
  | ⟨2, _⟩ => show win0_0.index t 2 * 3 + 1 * k.val = k.val; omega

theorem iblk1 (t : Fin cfg0.N) (k : Fin 3) (n : Fin 512) : iblk m c 1 t (ix3 0 k n) = target m c (ix3 (bat t) k n) := by
  unfold iblk
  rw [View.read_apply]
  refine Eq.trans ?_ (congrFun (V_main_arg2 m c) (ix3 (bat t) k n))
  refine congrArg (V m c main_arg2) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 512 + 1 * n.val = n.val; omega

theorem iblk2 (t : Fin cfg0.N) (n : Fin 512) (k : Fin 3) : iblk m c 2 t (ix3 0 n k) = curv m c (ix3 (bat t) n k) := by
  unfold iblk
  rw [View.read_apply]
  refine Eq.trans ?_ (congrFun (V_main_arg3 m c) (ix3 (bat t) n k))
  refine congrArg (V m c main_arg3) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 512 + 1 * n.val = n.val; omega
  | ⟨2, _⟩ => show win0_2.index t 2 * 3 + 1 * k.val = k.val; omega

theorem iblk3 (t : Fin cfg0.N) (r : Fin 512) (k : Fin 3) : iblk m c 3 t (ix3 0 r k) = moved m c (ix3 (bat t) (row t r) k) := by
  unfold iblk
  rw [View.read_apply]
  refine Eq.trans ?_ (congrFun (V_main_arg4 m c) (ix3 (bat t) (row t r) k))
  refine congrArg (V m c main_arg4) (funext fun a => Fin.ext ?_)
  obtain ⟨-, -, -, ⟨e0, e1, e2⟩, -⟩ := index0 t
  match a with
  | ⟨0, _⟩ => show win0_3.index t 0 * 1 + 1 * 0 = t.val / 1; omega
  | ⟨1, _⟩ => show win0_3.index t 1 * 512 + 1 * r.val = t.val % 1 * 512 + r.val; omega
  | ⟨2, _⟩ => show win0_3.index t 2 * 3 + 1 * k.val = k.val; omega

theorem gap_eq (t : Fin cfg0.N) (r : Fin 512) : Body.gap (iblk m c 0 t) (iblk m c 1 t) r = dist (warped m c) (target m c) (bat t) (row t r) := by
  funext n
  unfold Body.gap
  simp only [iblk0, iblk1]
  rfl

/-! ## The smallest distance of every column -/

/-- The block's columns, over its own rows alone. -/
theorem part4 (t : Fin cfg0.N) (n : Fin 512) :
    (least fun r => Body.gap (iblk m c 0 t) (iblk m c 1 t) r n) = least fun r => dist (warped m c) (target m c) (bat t) (row t r) n :=
  congrArg least (funext fun r => congrFun (gap_eq m c t r) n)

theorem outs_first (t : Fin cfg0.N) :
    (outsAt0 m c t.val t.isLt).1 = Body.colFirst crossed (Body.gaps shapes (iblk m c 0 t) (iblk m c 1 t)) := by
  by_cases h0 : t.val % 2 = 0
  · rw [outsAt0_A m c t h0]; dsimp only; rw [col_A]
  · rw [outsAt0_B m c t h0]; dsimp only; rw [col_B]

/-- The smallest distance of column `n`. -/
def colMin (b : Fin 2) (n : Fin 512) : EReal := least fun r => dist (warped m c) (target m c) b r n

/-- The one block of a batch holds all its rows. -/
theorem outs_last (t : Fin cfg0.N) (n : Fin 512) :
    ((outsAt0 m c t.val t.isLt).1 : Vec Ideal S1x1x512 .f32) (ix3 0 0 n) = colMin m c (bat t) n := by
  refine Grid.least_grid (K := 1) (R := 512) rfl (fun b r => dist (warped m c) (target m c) b r n)
    (fun t : Fin cfg0.N => ((outsAt0 m c t.val t.isLt).1 : Vec Ideal S1x1x512 .f32) (ix3 0 0 n)) (fun t _ => ?_) (fun t h => ?_) t (Nat.mod_one _)
  · exact (congrFun (outs_first m c t) (ix3 0 0 n)).trans ((Body.colFirst_apply shapes crossed _ _ n).trans (part4 m c t n))
  · exact absurd (Nat.mod_one _) h

/-! ## The two sums -/

/-- The smallest distance of row `r`. -/
def rowMin (b : Fin 2) (r : Fin 512) : EReal := least (dist (warped m c) (target m c) b r)

/-- What grid point `t` adds to the sum of smallest distances. -/
def adds (t : Fin cfg0.N) : EReal :=
  (∑ r, rowMin m c (bat t) (row t r)) + ∑ n, colMin m c (bat t) n

theorem rowPart_apply (t : Fin cfg0.N) (i : S1x1.Idx) : rowPart (iblk m c 0 t) (iblk m c 1 t) i = ∑ r, rowMin m c (bat t) (row t r) := by
  refine (Body.total_minRow shapes (iblk m c 0 t) (iblk m c 1 t) summed1 i).trans ?_
  simp only [gap_eq]
  rfl

theorem colPart_apply (z : Vec Ideal S1x1x512 .f32) (i : S1x1.Idx) : colPart z i = ∑ n, z (ix3 0 0 n) :=
  Body.total_line crossed summedN z i

theorem sum_last (t : Fin cfg0.N) :
    ∑ n, ((outsAt0 m c t.val t.isLt).1 : Vec Ideal S1x1x512 .f32) (ix3 0 0 n) = ∑ n, colMin m c (bat t) n :=
  Finset.sum_congr rfl fun n _ => outs_last m c t n

theorem add_at (a b : FVec Ideal S1x1 .f32) (i : S1x1.Idx) : addf a b i = a i + b i := rfl

theorem zero_apply (i : S1x1.Idx) : zero i = 0 := by
  show Ideal.ofBits .f32 0x00000000#32 = 0
  simp [Ideal.ofBits, Ideal.ieee]

theorem cham_first (t : Fin cfg0.N) (h0 : t.val % 2 = 0) : (outsAt0 m c t.val t.isLt).2.1
    = addf (addf zero (rowPart (iblk m c 0 t) (iblk m c 1 t))) (colPart (outsAt0 m c t.val t.isLt).1) := by
  rw [outs_first, outsAt0_A m c t h0]; dsimp only; rw [cham_A]

theorem cham_next (t : Fin cfg0.N) (h0 : ¬t.val % 2 = 0) : (outsAt0 m c t.val t.isLt).2.1
    = addf (addf (outsAt0 m c (t.val - 1) (Nat.lt_of_le_of_lt (Nat.sub_le _ _) t.isLt)).2.1 (rowPart (iblk m c 0 t) (iblk m c 1 t)))
        (colPart (outsAt0 m c t.val t.isLt).1) := by
  rw [outs_first, outsAt0_B m c t h0]; dsimp only; rw [cham_B]

/-- The running sum of smallest distances after the last grid point. -/
theorem cham_acc (t : Fin cfg0.N) (ht : t.val = 1) (i : S1x1.Idx) :
    ((outsAt0 m c t.val t.isLt).2.1 : Vec Ideal S1x1 .f32) i = ∑ t : Fin cfg0.N, adds m c t := by
  refine Grid.summed (T := cfg0.N) (adds m c) (fun t => ((outsAt0 m c t.val t.isLt).2.1 : Vec Ideal S1x1 .f32) i) (fun t h => ?_) (fun t h => ?_) t
    (by rw [ht]; rfl)
  · refine (congrFun (cham_first m c t (by omega)) i).trans ?_
    rw [add_at, add_at, zero_apply, rowPart_apply, zero_add, colPart_apply, sum_last]
    rfl
  · have hl : t.val < 2 := t.isLt
    refine (congrFun (cham_next m c t (by omega)) i).trans ?_
    rw [add_at, add_at, rowPart_apply, add_assoc, colPart_apply, sum_last]
    rfl

/-- Over both clouds, the smallest distances of rows and of columns. -/
theorem sum_adds : ∑ t : Fin cfg0.N, adds m c t = (∑ b, ∑ r, rowMin m c b r) + ∑ b, ∑ n, colMin m c b n := by
  unfold adds
  rw [Finset.sum_add_distrib]
  refine congrArg₂ _ (Grid.sum_grid (K := 1) (R := 512) rfl (rowMin m c))
    (Eq.trans ?_ (Grid.sum_last (K := 1) (by norm_num) fun b => ∑ n, colMin m c b n))
  exact Finset.sum_congr rfl fun t _ => (if_pos (Nat.mod_one _)).symm

/-- The interpolated curvature at point `r` less the moved one, coordinate `k`. -/
def off (b : Fin 2) (r : Fin 512) (k : Fin 3) : EReal :=
  mix (by norm_num) (dist (warped m c) (target m c) b r) (fun n => curv m c (ix3 b n k)) - moved m c (ix3 b r k)

section
variable (hM : ∀ b r n, dist (warped m c) (target m c) b r n < big)
include hM

theorem curvPart_apply (t : Fin cfg0.N) (i : S1x1.Idx) : curvPart (iblk m c 0 t) (iblk m c 1 t) (iblk m c 2 t) (iblk m c 3 t) i
    = ∑ r, ∑ k, off m c (bat t) (row t r) k * off m c (bat t) (row t r) k := by
  refine (Body.total_apart shapes crossed (iblk m c 0 t) (iblk m c 1 t) summed3 (iblk m c 2 t) (iblk m c 3 t)
    (fun r n => by rw [gap_eq]; exact hM _ _ _) (by norm_num) i).trans ?_
  simp only [gap_eq, iblk2, iblk3]
  rfl

omit hM in
theorem curv_first (t : Fin cfg0.N) (h0 : t.val % 2 = 0) :
    (outsAt0 m c t.val t.isLt).2.2 = addf zero (curvPart (iblk m c 0 t) (iblk m c 1 t) (iblk m c 2 t) (iblk m c 3 t)) := by
  rw [outsAt0_A m c t h0]; dsimp only; rw [curv_A]

omit hM in
theorem curv_next (t : Fin cfg0.N) (h0 : ¬t.val % 2 = 0) : (outsAt0 m c t.val t.isLt).2.2
    = addf (outsAt0 m c (t.val - 1) (Nat.lt_of_le_of_lt (Nat.sub_le _ _) t.isLt)).2.2 (curvPart (iblk m c 0 t) (iblk m c 1 t) (iblk m c 2 t) (iblk m c 3 t)) := by
  rw [outsAt0_B m c t h0]; dsimp only; rw [curv_B]

/-- The running sum of squares after the last grid point. -/
theorem curv_acc (t : Fin cfg0.N) (ht : t.val = 1) (i : S1x1.Idx) :
    ((outsAt0 m c t.val t.isLt).2.2 : Vec Ideal S1x1 .f32) i = ∑ b, ∑ r, ∑ k, off m c b r k * off m c b r k := by
  refine (Grid.summed (T := cfg0.N) (fun t => ∑ r, ∑ k, off m c (bat t) (row t r) k * off m c (bat t) (row t r) k)
    (fun t => ((outsAt0 m c t.val t.isLt).2.2 : Vec Ideal S1x1 .f32) i) (fun t h => ?_) (fun t h => ?_) t (by rw [ht]; rfl)).trans
      (Grid.sum_grid (K := 1) (R := 512) rfl fun b r => ∑ k, off m c b r k * off m c b r k)
  · refine (congrFun (curv_first m c t (by omega)) i).trans ?_
    rw [add_at, zero_apply, curvPart_apply m c hM, zero_add]
  · have hl : t.val < 2 := t.isLt
    refine (congrFun (curv_next m c t (by omega)) i).trans ?_
    rw [add_at, curvPart_apply m c hM]
end

/-- The two sums as arrays. -/
abbrev resultCham : S1x1.Idx → EReal := fun _ => (∑ b, ∑ r, rowMin m c b r) + ∑ b, ∑ n, colMin m c b n
abbrev resultCurv : S1x1.Idx → EReal := fun _ => ∑ b, ∑ r, ∑ k, off m c b r k * off m c b r k

theorem flushed5_eq (t : Fin cfg0.N) (hf : (cfg0.win 5).flush t = true) :
    (dats m 0 c).flushed 5 t = ((cfg0.win 5).blk t).view.read (Elt Ideal) (resultCham m c) := by
  have ht : t.val = 1 := by have := (flush0_5 t).mp hf; have : t.val < 2 := t.isLt; omega
  show (cfg0.win 5).cut (grid0.coords t) ((dats m 0 c).after 5 t) = _
  rw [after0_5]
  funext j
  exact (cham_acc m c t ht j).trans (sum_adds m c)

theorem cover5 (i : S1x1.Idx) : ∃ t : Fin cfg0.N, (cfg0.win 5).flush t = true ∧ i ∈ ((cfg0.win 5).blk t).view.set := by
  have hT : 1 < cfg0.N := by decide
  refine ⟨⟨1, hT⟩, (flush0_5 _).mpr rfl, ?_⟩
  show i ∈ ((View.whole main_v3_1).slice (win0_5.rect ⟨1, hT⟩)).set
  rw [View.set_slice_whole, Rect.mem_set_unit]
  obtain ⟨-, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win0_5.index ⟨1, hT⟩ 0 * 1 ≤ (i 0 : Nat) ∧ (i 0 : Nat) < win0_5.index ⟨1, hT⟩ 0 * 1 + 1
              rw [e0]; omega
  | ⟨1, _⟩ => show win0_5.index ⟨1, hT⟩ 1 * 1 ≤ (i 1 : Nat) ∧ (i 1 : Nat) < win0_5.index ⟨1, hT⟩ 1 * 1 + 1
              rw [e1]; omega

theorem final5 : (dats m 0 c).arrAt 5 cfg0.N = resultCham m c :=
  (dats m 0 c).arrAt_eq_of_cover 5 (resultCham m c) (flushed5_eq m c) cover5

theorem flushed6_eq (hM : ∀ b r n, dist (warped m c) (target m c) b r n < big) (t : Fin cfg0.N) (hf : (cfg0.win 6).flush t = true) :
    (dats m 0 c).flushed 6 t = ((cfg0.win 6).blk t).view.read (Elt Ideal) (resultCurv m c) := by
  have ht : t.val = 1 := by have := (flush0_6 t).mp hf; have : t.val < 2 := t.isLt; omega
  show (cfg0.win 6).cut (grid0.coords t) ((dats m 0 c).after 6 t) = _
  rw [after0_6]
  funext j
  exact curv_acc m c hM t ht j

theorem cover6 (i : S1x1.Idx) : ∃ t : Fin cfg0.N, (cfg0.win 6).flush t = true ∧ i ∈ ((cfg0.win 6).blk t).view.set := by
  have hT : 1 < cfg0.N := by decide
  refine ⟨⟨1, hT⟩, (flush0_6 _).mpr rfl, ?_⟩
  show i ∈ ((View.whole main_v3_2).slice (win0_6.rect ⟨1, hT⟩)).set
  rw [View.set_slice_whole, Rect.mem_set_unit]
  obtain ⟨-, -, -, -, -, -, e0, e1⟩ := index0 ⟨1, hT⟩
  have h0 : (i 0 : Nat) < 1 := (i 0).isLt
  have h1 : (i 1 : Nat) < 1 := (i 1).isLt
  intro a
  match a with
  | ⟨0, _⟩ => show win0_6.index ⟨1, hT⟩ 0 * 1 ≤ (i 0 : Nat) ∧ (i 0 : Nat) < win0_6.index ⟨1, hT⟩ 0 * 1 + 1
              rw [e0]; omega
  | ⟨1, _⟩ => show win0_6.index ⟨1, hT⟩ 1 * 1 ≤ (i 1 : Nat) ∧ (i 1 : Nat) < win0_6.index ⟨1, hT⟩ 1 * 1 + 1
              rw [e1]; omega

theorem final6 (hM : ∀ b r n, dist (warped m c) (target m c) b r n < big) : (dats m 0 c).arrAt 6 cfg0.N = resultCurv m c :=
  (dats m 0 c).arrAt_eq_of_cover 6 (resultCurv m c) (flushed6_eq m c hM) cover6

end Cert.LastKernel
-- ==== Proof.LossSum.lean ====
/- The weighted sum of the scales' parts, as the kernel's host writes it and as the reference does. -/
module

public import proofs.«01_k».proof.Proof.Near

@[expose] public section

noncomputable section

namespace Cert.LossSum

open Idealize.ShloMosaic Cert.Rank Cert.Near

/-- The weights of the four scales, and the half of the first. -/
def a0 : EReal := Ideal.ofBits .f32 0x3CA3D70A#32
def a1 : EReal := Ideal.ofBits .f32 0x3D23D70A#32
def a2 : EReal := Ideal.ofBits .f32 0x3DA3D70A#32
def a3 : EReal := Ideal.ofBits .f32 0x3E23D70A#32
def h0 : EReal := Ideal.ofBits .f32 0x3C23D70A#32
/-- The weights of the parts, and zero. -/
def one : EReal := Ideal.ofBits .f32 0x3F800000#32
def third : EReal := Ideal.ofBits .f32 0x3E99999A#32
def nil : EReal := Ideal.ofBits .f32 0x00000000#32

/-- One scale's parts together. -/
def per (c s k : EReal) : EReal := one * c + one * s + third * k

/-- Scale by scale, each with half its weight. -/
def byScale (c s k : Fin 4 → EReal) : EReal :=
  nil + h0 * per (c 0) (s 0) (k 0) + a0 * per (c 1) (s 1) (k 1) + a1 * per (c 2) (s 2) (k 2) + a2 * per (c 3) (s 3) (k 3)

/-- One part over the scales. -/
def over (x : Fin 4 → EReal) : EReal := nil + a0 * x 0 + a1 * x 1 + a2 * x 2 + a3 * x 3

/-- Part by part. -/
def byPart (c s k : Fin 4 → EReal) : EReal := one * over c + third * over k + one * over s

/-- The mean over the two clouds of a batch. -/
def half (x : EReal) : EReal := Ideal.div x (Ideal.ofBits .f32 0x40000000#32)

/-- The unit of the weights. -/
def u : ℝ := 10737418 / 2 ^ 30

theorem h0_eq : h0 = (u : EReal) := by
  unfold h0 u; simp [Ideal.ofBits, Ideal.ieee]; rw [← EReal.coe_mul]; congr 1
theorem a0_eq : a0 = ((2 * u : ℝ) : EReal) := by
  unfold a0 u; simp [Ideal.ofBits, Ideal.ieee]; rw [← EReal.coe_mul]; congr 1; norm_num
theorem a1_eq : a1 = ((4 * u : ℝ) : EReal) := by
  unfold a1 u; simp [Ideal.ofBits, Ideal.ieee]; rw [← EReal.coe_mul]; congr 1; norm_num
theorem a2_eq : a2 = ((8 * u : ℝ) : EReal) := by
  unfold a2 u; simp [Ideal.ofBits, Ideal.ieee]; rw [← EReal.coe_mul]; congr 1; norm_num
theorem a3_eq : a3 = ((16 * u : ℝ) : EReal) := by
  unfold a3 u; simp [Ideal.ofBits, Ideal.ieee]; rw [← EReal.coe_mul]; congr 1; norm_num
theorem third_eq : third = ((10066330 / 2 ^ 25 : ℝ) : EReal) := by
  unfold third; simp [Ideal.ofBits, Ideal.ieee]; rw [← EReal.coe_mul]; congr 1
theorem one_eq : one = ((1 : ℝ) : EReal) := c1
theorem nil_eq : nil = ((0 : ℝ) : EReal) := by unfold nil; simp [Ideal.ofBits, Ideal.ieee]

theorem half_eq (x : EReal) : half x = ((1 / 2 : ℝ) : EReal) * x := by
  unfold half
  rw [c2, Ideal.div, if_neg (by simp), ← EReal.coe_inv, mul_comm, one_div]

/-- A weight times a sum of two parts, whatever they are. -/
theorem spread {a : ℝ} (ha : 0 ≤ a) (x y : EReal) : (a : EReal) * (x + y) = a * x + a * y :=
  EReal.left_distrib_of_nonneg_of_ne_top (EReal.coe_nonneg.mpr ha) (EReal.coe_ne_top a) x y

theorem times (a b : ℝ) (x : EReal) : (a : EReal) * (b * x) = ((a * b : ℝ) : EReal) * x := by
  rw [← mul_assoc, EReal.coe_mul]

/-- The two sums agree, whatever the parts are. -/
theorem agree (c0 c1 c2 r q s0 s1 s2 s3 k0 k1 k2 k3 : EReal) :
    byScale ![c0, c1, c2, r + q] ![s0, s1, s2, s3] ![k0, k1, k2, k3]
      = byPart ![half c0, half c1, half c2, half r + half q] ![half s0, half s1, half s2, half s3] ![half k0, half k1, half k2, half k3] := by
  have hu : 0 ≤ u := by unfold u; norm_num
  have hu2 : 0 ≤ 2 * u := by linarith
  have hu4 : 0 ≤ 4 * u := by linarith
  have hu8 : 0 ≤ 8 * u := by linarith
  have hu16 : 0 ≤ 16 * u := by linarith
  have hw : (0 : ℝ) ≤ 10066330 / 2 ^ 25 := by norm_num
  have h1 : (0 : ℝ) ≤ 1 := zero_le_one
  show nil + h0 * per c0 s0 k0 + a0 * per c1 s1 k1 + a1 * per c2 s2 k2 + a2 * per (r + q) s3 k3
    = one * (nil + a0 * half c0 + a1 * half c1 + a2 * half c2 + a3 * (half r + half q))
      + third * (nil + a0 * half k0 + a1 * half k1 + a2 * half k2 + a3 * half k3)
      + one * (nil + a0 * half s0 + a1 * half s1 + a2 * half s2 + a3 * half s3)
  unfold per
  simp only [h0_eq, a0_eq, a1_eq, a2_eq, a3_eq, third_eq, one_eq, nil_eq, half_eq]
  generalize (10066330 / 2 ^ 25 : ℝ) = w at hw
  simp only [spread hu, spread hu2, spread hu4, spread hu8, spread hu16, spread hw, spread h1, times]
  have e0 (a : ℝ) : a * (2 * u * (1 / 2)) = u * a := by ring
  have e1 (a : ℝ) : a * (4 * u * (1 / 2)) = 2 * u * a := by ring
  have e2 (a : ℝ) : a * (8 * u * (1 / 2)) = 4 * u * a := by ring
  have e3 (a : ℝ) : a * (16 * u * (1 / 2)) = 8 * u * a := by ring
  simp only [e0, e1, e2, e3, EReal.coe_zero, mul_zero, zero_add]
  abel

end Cert.LossSum
-- ==== Proof.LastTail.lean ====
/- What the host's lines after the last call make of its sums: the loss. -/
module

public import proofs.«01_k».proof.Proof.LastKernel
public import proofs.«01_k».proof.Proof.LossSum
public import Idealize.ShloMosaic.Lib.StableHlo.Run

@[expose] public section

noncomputable section

namespace Cert.LastTail

open Idealize.ShloMosaic Idealize.ShloMosaic.TcCoe Idealize.SL.Sem
open Cert.LastIdeal Cert.LastIdeal.Gen

/-- Two of the host's additions and three products: one scale's parts together. -/
abbrev perScale (c s k : Vec Ideal S1x1 .f32) : FVec Ideal S_ .f32 :=
  addf (addf (mulf (constant S_ .f32 0x3F800000#32) (shapeCast S_ c shapeCasts_S1x1_S_)) (mulf (constant S_ .f32 0x3F800000#32) (shapeCast S_ s shapeCasts_S1x1_S_)))
    (mulf (constant S_ .f32 0x3E99999A#32) (shapeCast S_ k shapeCasts_S1x1_S_))

set_option maxRecDepth 8192 in
set_option maxHeartbeats 1600000 in
/-- The host's lines after the call, of any contents. -/
theorem lines (V0 : Valuation τ sig (Elt Ideal)) : StableHlo.after hostOps1 V0 (Proc.devRef .tc main_v44)
    = (shapeCast S1 (addf (addf (addf (addf (constant S_ .f32 0x00000000#32)
        (mulf (constant S_ .f32 0x3C23D70A#32) (perScale (V0 (Proc.devRef .tc main_arg5)) (V0 (Proc.devRef .tc main_arg8)) (V0 (Proc.devRef .tc main_arg12)))))
        (mulf (constant S_ .f32 0x3CA3D70A#32) (perScale (V0 (Proc.devRef .tc main_arg6)) (V0 (Proc.devRef .tc main_arg9)) (V0 (Proc.devRef .tc main_arg13)))))
        (mulf (constant S_ .f32 0x3D23D70A#32) (perScale (V0 (Proc.devRef .tc main_arg7)) (V0 (Proc.devRef .tc main_arg10)) (V0 (Proc.devRef .tc main_arg14)))))
        (mulf (constant S_ .f32 0x3DA3D70A#32) (perScale (V0 (Proc.devRef .tc main_v3_1)) (V0 (Proc.devRef .tc main_arg11)) (V0 (Proc.devRef .tc main_v3_2)))))
        shapeCasts_S_S1 : FVec Ideal S1 .f32) := by
  after_results_simp
  rfl

end Cert.LastTail
-- ==== Proof.LastRef.lean ====
/- The reference of the last call and the loss read at an index. -/
module

public import proofs.«01_k».proof.Proof.LossSum
public import proofs.«01_k».proof.Proof.HostReads
public import proofs.«01_k».proof.Proof.Gen.LastRefIdeal.Read

@[expose] public section

noncomputable section

namespace Cert.LastRef

open Idealize.ShloMosaic Cert.Rank Cert.Near Cert.HostReads
open Cert.LastRefIdeal Cert.LastRefIdeal.Gen Cert.LastRefIdeal.Read

theorem takeSides : TakeSides 2 512 512 5 3 where
  b0 := bcast_S_S2x512x5
  b1 := bcast_S2x512x5_S2x512x5x1_0_1_2
  b2 := bcast_S_S2x512x5x1
  b3 := bcast_S1_S1x1x1x1_3
  b4 := bcast_S1x1x1x1_S2x512x5x1_0_1_2_3
  red := reducesTo_S2x512x5x1_S2x512x5_d3
  pos := by decide
  b5 := by decide
  b6 := by decide
  wf := gather_S2x512x3_S2x512x5x1_S2x512x5x3_3_1_0_0_1_3_113.wf
  small := by norm_num

variable (x f y : Cloud 512) (p w : S2x512x3.Idx → EReal)

abbrev warped : Cloud 512 := fun i => x i + f i

theorem dist_first (b : Fin 2) (r n : Fin 512) : val_main_v18 (F := Ideal) x f y (ix3 b r n) = dist (warped x f) y b r n := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_cst_2, val_main_cst_3, val_main_cst_4]
  rw [cm2]
  rfl

theorem dist_second (b : Fin 2) (r n : Fin 512) : val_main_v35 (F := Ideal) x f y (ix3 b r n) = dist (warped x f) y b r n := by
  pointwise [val_main_v35, val_main_v34, val_main_v33, val_main_v32, val_main_v31, val_main_v30, val_main_v29, val_main_v28, val_main_v27, val_main_v26,
    val_main_v25, val_main_v24, val_main_v23, val_main_v22, val_main_v21, val_main_v3, val_main_cst_7, val_main_cst_8, val_main_cst_9]
  rw [cm2]
  rfl

theorem top : Ideal.ofBits .f32 0x7F800000#32 = (⊤ : EReal) := by simp [Ideal.ofBits, Ideal.ieee]

theorem rowMin_apply (b : Fin 2) (r : Fin 512) : val_main_v19 (F := Ideal) x f y (ix2 b r) = least (dist (warped x f) y b r) := by
  have e : (fun n => val_main_v18 (F := Ideal) x f y (ix3 b r n)) = dist (warped x f) y b r := funext fun n => dist_first x f y b r n
  pointwise [val_main_v19, val_main_cst_5]
  unfold least
  rw [top, e]

theorem colMin_apply (b : Fin 2) (n : Fin 512) : val_main_v20 (F := Ideal) x f y (ix2 b n) = least fun r => dist (warped x f) y b r n := by
  have e : (fun r => val_main_v18 (F := Ideal) x f y (ix3 b r n)) = fun r => dist (warped x f) y b r n := funext fun r => dist_first x f y b r n
  pointwise [val_main_v20, val_main_cst_6]
  unfold least
  rw [top, e]

theorem rows_apply (i : S_.Idx) : val_main_v56 (F := Ideal) x f y i = ∑ b, ∑ r, val_main_v19 (F := Ideal) x f y (ix2 b r) := by
  pointwise [val_main_v56, val_main_v55, val_main_cst_16, val_main_cst_17]

theorem cols_apply (i : S_.Idx) : val_main_v59 (F := Ideal) x f y i = ∑ b, ∑ n, val_main_v20 (F := Ideal) x f y (ix2 b n) := by
  pointwise [val_main_v59, val_main_v58, val_main_cst_19, val_main_cst_20]

theorem weight_apply (b : Fin 2) (r : Fin 512) (t : Fin 5) :
    val_main_v42 (F := Ideal) x f y (ix3 b r t) = weight (dist (warped x f) y b r (nth (dist (warped x f) y b r) (Fin.castLE (by norm_num) t))) := by
  have hv := topK_values (by norm_num) (val_main_v35 (F := Ideal) x f y) sliceFits_S2x512x512_S2x512x5 b r t
  rw [show (fun j => val_main_v35 (F := Ideal) x f y (ix3 b r j)) = dist (warped x f) y b r from funext fun j => dist_second x f y b r j, dist_second] at hv
  have e : val_main_v42 (F := Ideal) x f y (ix3 b r t) = weight (-(val_main_values (F := Ideal) x f y (ix3 b r t))) := by
    pointwise [val_main_v42, val_main_v41, val_main_v40, val_main_v39, val_main_v37, val_main_cst_10, val_main_cst_11]
    rfl
  rw [e]
  refine congrArg weight ((congrArg Neg.neg hv).trans (neg_neg _))

theorem norm_apply (b : Fin 2) (r : Fin 512) :
    val_main_v43 (F := Ideal) x f y (ix2 b r) = ∑ s : Fin 5, weight (dist (warped x f) y b r (nth (dist (warped x f) y b r) (Fin.castLE (by norm_num) s))) := by
  pointwise [val_main_v43, val_main_cst_12]
  simp only [weight_apply]

theorem share_apply (b : Fin 2) (r : Fin 512) (t : Fin 5) :
    val_main_v50 (F := Ideal) x f y (ix3 b r t)
      = Ideal.div (weight (dist (warped x f) y b r (nth (dist (warped x f) y b r) (Fin.castLE (by norm_num) t))))
        (∑ s : Fin 5, weight (dist (warped x f) y b r (nth (dist (warped x f) y b r) (Fin.castLE (by norm_num) s)))) := by
  rw [← norm_apply, ← weight_apply]
  have e : val_main_v48 (F := Ideal) x f y = val_main_v42 (F := Ideal) x f y := rfl
  pointwise [val_main_v50, val_main_v49, val_main_v44, e]

theorem near_apply (b : Fin 2) (r : Fin 512) (t : Fin 5) (c : Fin 3) :
    val_main_v38 (F := Ideal) x f y p (ix4 b r t c) = p (ix3 b (nth (dist (warped x f) y b r) (Fin.castLE (by norm_num) t)) c) := by
  have hi : val_main_indices (F := Ideal) x f y (ix3 b r t) = BitVec.ofNat 32 (nth (dist (warped x f) y b r) (Fin.castLE (by norm_num) t)).val := by
    refine (topK_indices (by norm_num) (val_main_v35 (F := Ideal) x f y) sliceFits_S2x512x512_S2x512x5 b r t).trans ?_
    rw [show (fun j => val_main_v35 (F := Ideal) x f y (ix3 b r j)) = dist (warped x f) y b r from funext fun j => dist_second x f y b r j]
  rw [show val_main_v38 (F := Ideal) x f y p = take takeSides p (val_main_indices (F := Ideal) x f y) from rfl,
    take_apply takeSides _ _ b r t c _ hi]

theorem portion_apply (b : Fin 2) (r : Fin 512) (t : Fin 5) (c : Fin 3) :
    val_main_v52 (F := Ideal) x f y (ix4 b r t c) = val_main_v50 (F := Ideal) x f y (ix3 b r t) := by
  pointwise [val_main_v52, val_main_v51]

theorem off_apply (b : Fin 2) (r : Fin 512) (c : Fin 3) :
    val_main_v62 (F := Ideal) x f y p w (ix3 b r c)
      = mix (by norm_num) (dist (warped x f) y b r) (fun n => p (ix3 b n c)) - w (ix3 b r c) := by
  pointwise [val_main_v62, val_main_v54, val_main_v53, val_main_cst_15]
  simp only [portion_apply, share_apply, near_apply]
  rfl

theorem squares_apply (i : S_.Idx) : val_main_v66 (F := Ideal) x f y p w i
    = ∑ b, ∑ r, ∑ c : Fin 3, val_main_v62 (F := Ideal) x f y p w (ix3 b r c) * val_main_v62 (F := Ideal) x f y p w (ix3 b r c) := by
  pointwise [val_main_v66, val_main_v65, val_main_v64, val_main_v63, val_main_cst_22, val_main_cst_23, val_main_cst_24]

/-- An array [1, 1] holds one value. -/
theorem single (x : S1x1.Idx → EReal) : x = fun _ => x (ix2 0 0) := funext fun i => congrArg x (funext fun a => by
  match a with
  | ⟨0, _⟩ => exact Subsingleton.elim (α := Fin 1) _ _
  | ⟨1, _⟩ => exact Subsingleton.elim (α := Fin 1) _ _)

/-- The loss from the last call's sums and the other calls' single values. -/
theorem loss_apply (c0 c1 c2 s0 s1 s2 s3 k0 k1 k2 : EReal) (i : S1.Idx) :
    val_main_v141 (F := Ideal) x f y p w (fun _ => c0) (fun _ => c1) (fun _ => c2) (fun _ => s0) (fun _ => s1) (fun _ => s2) (fun _ => s3)
        (fun _ => k0) (fun _ => k1) (fun _ => k2) i
      = LossSum.byPart
          ![LossSum.half c0, LossSum.half c1, LossSum.half c2, LossSum.half (val_main_v56 (F := Ideal) x f y ix0) + LossSum.half (val_main_v59 (F := Ideal) x f y ix0)]
          ![LossSum.half s0, LossSum.half s1, LossSum.half s2, LossSum.half s3]
          ![LossSum.half k0, LossSum.half k1, LossSum.half k2, LossSum.half (val_main_v66 (F := Ideal) x f y p w ix0)] := by
  have e1 : val_main_v126 (F := Ideal) x f y i = LossSum.a3 * (LossSum.half (val_main_v56 (F := Ideal) x f y ix0) + LossSum.half (val_main_v59 (F := Ideal) x f y ix0)) := by
    pointwise [val_main_v126, val_main_v125, val_main_v61, val_main_v60, val_main_v57, val_main_cst_45, val_main_cst_18, val_main_cst_21]
    rfl
  have e2 : val_main_v132 (F := Ideal) x f y p w i = LossSum.a3 * LossSum.half (val_main_v66 (F := Ideal) x f y p w ix0) := by
    pointwise [val_main_v132, val_main_v131, val_main_v67, val_main_cst_47, val_main_cst_25]
    rfl
  rw [val_main_v141_apply, val_main_v138_apply, val_main_v135_apply, val_main_v127_apply, val_main_v137_apply, val_main_v133_apply, e1, e2]
  generalize val_main_v56 (F := Ideal) x f y ix0 = u1
  generalize val_main_v59 (F := Ideal) x f y ix0 = u2
  generalize val_main_v66 (F := Ideal) x f y p w ix0 = u3
  rfl

end Cert.LastRef
-- ==== Proof.LastClaims.lean ====
/- The claims about the last call and the loss. -/
module

public import proofs.«01_k».proof.Defs
public import proofs.«01_k».proof.Proof.Gen.Last.Frame
public import proofs.«01_k».proof.Proof.Gen.LastRefIdeal.Run
public import proofs.«01_k».proof.Proof.Gen.Pre_bounded_last
public import proofs.«01_k».proof.Proof.LastTail
public import proofs.«01_k».proof.Proof.LastRef

@[expose] public section

noncomputable section

namespace Cert.LastClaims

open Idealize.ShloMosaic Idealize.ShloMosaic.TcCoe Idealize.SL.Sem Cert.Near Cert.Rank Cert.HostReads

theorem frame_p : Cert.quiescent_Last := fun m ρ _ => Cert.Last.Gen.frame m ρ

theorem frame_pi : Cert.quiescent_LastIdeal := fun m ρ _ => Cert.LastIdeal.Gen.frame m ρ

theorem frame_pi_pre : Cert.quiescent_LastIdeal_pre_bounded_last := fun m ρ _ => Cert.LastIdeal.Gen.frame m ρ

theorem frame_ri : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

theorem frame_ri_pre : Cert.quiescent_LastRefIdeal_pre_bounded_last := fun m ρ _ => frame_ri m ρ trivial

theorem preserves : Cert.preserves_Last_LastIdeal := trivial

section
open Cert.LastIdeal Cert.LastIdeal.Gen

variable (m : (ℓ : Loc nD τ sig) → Buf (Elt Ideal) ℓ) (c : Dev nD)

/-- What the other calls left, one value each: three distances, four smoothness sums, three curvature sums. -/
abbrev cham0 : EReal := (m ((c : Thread nD τ).loc main_arg5) : S1x1.Idx → EReal) (ix2 0 0)
abbrev cham1 : EReal := (m ((c : Thread nD τ).loc main_arg6) : S1x1.Idx → EReal) (ix2 0 0)
abbrev cham2 : EReal := (m ((c : Thread nD τ).loc main_arg7) : S1x1.Idx → EReal) (ix2 0 0)
abbrev smooth0 : EReal := (m ((c : Thread nD τ).loc main_arg8) : S1x1.Idx → EReal) (ix2 0 0)
abbrev smooth1 : EReal := (m ((c : Thread nD τ).loc main_arg9) : S1x1.Idx → EReal) (ix2 0 0)
abbrev smooth2 : EReal := (m ((c : Thread nD τ).loc main_arg10) : S1x1.Idx → EReal) (ix2 0 0)
abbrev smooth3 : EReal := (m ((c : Thread nD τ).loc main_arg11) : S1x1.Idx → EReal) (ix2 0 0)
abbrev curvl0 : EReal := (m ((c : Thread nD τ).loc main_arg12) : S1x1.Idx → EReal) (ix2 0 0)
abbrev curvl1 : EReal := (m ((c : Thread nD τ).loc main_arg13) : S1x1.Idx → EReal) (ix2 0 0)
abbrev curvl2 : EReal := (m ((c : Thread nD τ).loc main_arg14) : S1x1.Idx → EReal) (ix2 0 0)

/-- The loss as the version adds it. -/
abbrev loss : S1.Idx → EReal := fun _ => LossSum.byScale
  ![cham0 m c, cham1 m c, cham2 m c, (∑ b, ∑ r, LastKernel.rowMin m c b r) + ∑ b, ∑ n, LastKernel.colMin m c b n]
  ![smooth0 m c, smooth1 m c, smooth2 m c, smooth3 m c]
  ![curvl0 m c, curvl1 m c, curvl2 m c, ∑ b, ∑ r, ∑ k, LastKernel.off m c b r k * LastKernel.off m c b r k]

/-- The contents when the call has ended. -/
abbrev exit : Valuation τ sig (Elt Ideal) := Pipeline.withArrays spec0 c (V0 m c) fun w => (dats m 0 c).arrAt w cfg0.N

/-- A buffer the call does not touch is as the host left it. -/
theorem kept (b : Ref sig .tc) (hb : ∀ w, Pipeline.arrRef spec0 w ≠ b) : exit m c (Proc.devRef .tc b) = V m c b :=
  Pipeline.withArrays_of_ne spec0 c (V0 m c) _ b hb

theorem left (hM : ∀ b r n, dist (LastKernel.warped m c) (LastKernel.target m c) b r n < big) :
    Pipeline.afterTail₀ cfgs (dats m) 0 (V0 m) [hostOps1] c main_v44 = loss m c := by
  have e5 : exit m c (Proc.devRef .tc main_v3_1) = LastKernel.resultCham m c :=
    (Pipeline.withArrays_arr spec0 launch0.win.arr_inj c (V0 m c) _ 5).trans (LastKernel.final5 m c)
  have e6 : exit m c (Proc.devRef .tc main_v3_2) = LastKernel.resultCurv m c :=
    (Pipeline.withArrays_arr spec0 launch0.win.arr_inj c (V0 m c) _ 6).trans (LastKernel.final6 m c hM)
  refine (LastTail.lines (exit m c)).trans ?_
  rw [e5, e6, kept m c main_arg5 (by decide), kept m c main_arg6 (by decide), kept m c main_arg7 (by decide), kept m c main_arg8 (by decide),
    kept m c main_arg9 (by decide), kept m c main_arg10 (by decide), kept m c main_arg11 (by decide), kept m c main_arg12 (by decide),
    kept m c main_arg13 (by decide), kept m c main_arg14 (by decide),
    V_main_arg5, V_main_arg6, V_main_arg7, V_main_arg8, V_main_arg9, V_main_arg10, V_main_arg11, V_main_arg12, V_main_arg13, V_main_arg14]
  rw [LastRef.single (m ((c : Thread nD τ).loc main_arg5)), LastRef.single (m ((c : Thread nD τ).loc main_arg6)), LastRef.single (m ((c : Thread nD τ).loc main_arg7)),
    LastRef.single (m ((c : Thread nD τ).loc main_arg8)), LastRef.single (m ((c : Thread nD τ).loc main_arg9)), LastRef.single (m ((c : Thread nD τ).loc main_arg10)),
    LastRef.single (m ((c : Thread nD τ).loc main_arg11)), LastRef.single (m ((c : Thread nD τ).loc main_arg12)), LastRef.single (m ((c : Thread nD τ).loc main_arg13)),
    LastRef.single (m ((c : Thread nD τ).loc main_arg14))]
  rfl

/-- What the precondition says: coordinates are small. -/
theorem small (h : Cert.Pre_LastIdeal_bounded_last m) (i) :
    Small (2 ^ 60) (LastKernel.cloud m c i) ∧ Small (2 ^ 60) (LastKernel.flow m c i) ∧ Small (2 ^ 60) (LastKernel.target m c i) :=
  have h2 := both (congrFun (h c) i)
  have h1 := both h2.1
  ⟨small_of_le h1.1, small_of_le h1.2, small_of_le h2.2⟩

/-- The reference's order of adding gives the same loss. -/
theorem agree :
    Cert.LastRefIdeal.Read.val_main_v141 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14)) = loss m c := by
  rw [LastRef.single (m ((c : Thread nD τ).loc main_arg5)), LastRef.single (m ((c : Thread nD τ).loc main_arg6)), LastRef.single (m ((c : Thread nD τ).loc main_arg7)),
    LastRef.single (m ((c : Thread nD τ).loc main_arg8)), LastRef.single (m ((c : Thread nD τ).loc main_arg9)), LastRef.single (m ((c : Thread nD τ).loc main_arg10)),
    LastRef.single (m ((c : Thread nD τ).loc main_arg11)), LastRef.single (m ((c : Thread nD τ).loc main_arg12)), LastRef.single (m ((c : Thread nD τ).loc main_arg13)),
    LastRef.single (m ((c : Thread nD τ).loc main_arg14))]
  funext i
  refine (LastRef.loss_apply (LastKernel.cloud m c) (LastKernel.flow m c) (LastKernel.target m c) (LastKernel.curv m c) (LastKernel.moved m c) _ _ _ _ _ _ _ _ _ _ i).trans ?_
  rw [LastRef.rows_apply, LastRef.cols_apply, LastRef.squares_apply]
  simp only [LastRef.rowMin_apply, LastRef.colMin_apply, LastRef.off_apply]
  exact (LossSum.agree _ _ _ _ _ _ _ _ _ _ _ _ _).symm

end

theorem algebraic : Cert.algebraic_LastIdeal_LastRefIdeal_pre_bounded_last := by
  intro m ρ m' ρ' hpre hagree
  refine ⟨fun c => loss m c, ?_, ?_⟩
  · refine (θ_run Cert.LastIdeal.defs _ _).mono (fun _ h c => ⟨((h.2 c).2 Cert.LastIdeal.main_v44 (Pipeline.mem_restRefs_of Cert.LastIdeal.main_v44 (by decide) (by decide))).trans
      (left m c fun b r n => ?_), h.1 c⟩) (θ_run_and (Cert.LastIdeal.Gen.unchanged m ρ) (Cert.LastIdeal.Gen.run_main m ρ))
    have hc := small m c hpre
    exact sqd_lt _ _ (fun k => ((hc _).1.add (hc _).2.1).mono (by norm_num)) (fun k => (hc _).2.2.mono (by norm_num))
  · refine (θ_run Cert.LastRefIdeal.defs _ _).mono (fun _ h c => ⟨(h c).1.trans ?_, (h c).2⟩) (Cert.LastRefIdeal.Value.run (F := Ideal) m' ρ')
    obtain ⟨a0, a1, a2, a3, a4, a5, a6, a7, a8, a9, a10, a11, a12, a13, a14⟩ := hagree c
    exact (Cert.LastRefIdeal.Read.val_main_v141_eq _).trans (Eq.trans (congr (congr (congr (congr (congr (congr (congr (congr (congr (congr (congr (congr (congr (congr (congrArg (Cert.LastRefIdeal.Read.val_main_v141 (F := Ideal)) a0) a1) a2) a3) a4) a5) a6) a7) a8) a9) a10) a11) a12) a13) a14)
      (agree m c))

end Cert.LastClaims
-- ==== Proof.FinalRun.lean ====
/- The three calls as one program run to its end: its result is what the host's last lines make of what the calls leave. -/
module

public import proofs.«01_k».proof.Proof.Gen.FinalIdeal.Frame

@[expose] public section

set_option maxRecDepth 16384

noncomputable section

namespace Cert.FinalRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FinalIdeal Cert.FinalIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

-- the launch theorem's implicit arguments are found by unifying its conclusion with this one, which takes unfolding
set_option backward.isDefEq.respectTransparency.types false in
/-- The proof that the arguments end unchanged, which also reads the result. -/
theorem run : θ_run defs (onTc (τ := τ) (main (F := F))) ⟨m, fun _ => 0, ρ⟩ (fun r => ∀ c : Dev nD,
      r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v38 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.FinalRun
-- ==== Proof.FinalEntry.lean ====
/- The three calls of the last scale as one program: what the host's lines before them leave, and what each call finds. -/
module

public import proofs.«01_k».proof.Proof.Near
public import proofs.«01_k».proof.Proof.HostReads
public import proofs.«01_k».proof.Proof.Gen.FinalIdeal.Frame

@[expose] public section

noncomputable section

namespace Cert.FinalEntry

open Idealize.ShloMosaic Idealize.ShloMosaic.TcCoe Idealize.SL.Sem Cert.Rank Cert.Near
open Cert.FinalIdeal Cert.FinalIdeal.Gen

variable (m : (ℓ : Loc nD τ sig) → Buf (Elt Ideal) ℓ) (ρ : Dev nD → PrngReg) (c : Dev nD)

/-- The clouds a device is given, the flow, and the moved first cloud. -/
abbrev cloud : Cloud 512 := m ((c : Thread nD τ).loc main_arg0)
abbrev target : Cloud 512 := m ((c : Thread nD τ).loc main_arg1)
abbrev flow : Cloud 512 := m ((c : Thread nD τ).loc main_arg2)
abbrev warped : Cloud 512 := fun i => cloud m c i + flow m c i

/-! The host's four lines turn the coordinates of each cloud to the last axis. -/

theorem first_cloud (b : Fin 2) (n : Fin 512) (k : Fin 3) : V1 m ρ c main_v0 (ix3 b n k) = cloud m c (ix3 b k n) := by
  have h : V1 m ρ c main_v0 = transpose S2x512x3 [0, 2, 1] (cloud m c) transposes_S2x3x512_S2x512x3_0_2_1 := rfl
  rw [h]
  pointwise
theorem first_target (b : Fin 2) (n : Fin 512) (k : Fin 3) : V1 m ρ c main_v1 (ix3 b n k) = target m c (ix3 b k n) := by
  have h : V1 m ρ c main_v1 = transpose S2x512x3 [0, 2, 1] (target m c) transposes_S2x3x512_S2x512x3_0_2_1 := rfl
  rw [h]
  pointwise
theorem first_flow (b : Fin 2) (n : Fin 512) (k : Fin 3) : V1 m ρ c main_v2 (ix3 b n k) = flow m c (ix3 b k n) := by
  have h : V1 m ρ c main_v2 = transpose S2x512x3 [0, 2, 1] (flow m c) transposes_S2x3x512_S2x512x3_0_2_1 := rfl
  rw [h]
  pointwise
theorem first_warped (b : Fin 2) (n : Fin 512) (k : Fin 3) : V1 m ρ c main_v3 (ix3 b n k) = warped m c (ix3 b k n) := by
  have h : V1 m ρ c main_v3 = addf (transpose S2x512x3 [0, 2, 1] (cloud m c) transposes_S2x3x512_S2x512x3_0_2_1 : FVec Ideal S2x512x3 .f32)
    (transpose S2x512x3 [0, 2, 1] (flow m c) transposes_S2x3x512_S2x512x3_0_2_1) := rfl
  rw [h]
  pointwise

/-! A call leaves every array but its results as it found them. -/

theorem second_cloud (b : Fin 2) (n : Fin 512) (k : Fin 3) : V2 m ρ c main_v0 (ix3 b n k) = cloud m c (ix3 b k n) :=
  (congrFun (W2_of m ρ c main_v0 (by decide +kernel)) _).trans (first_cloud m ρ c b n k)
theorem second_flow (b : Fin 2) (n : Fin 512) (k : Fin 3) : V2 m ρ c main_v2 (ix3 b n k) = flow m c (ix3 b k n) :=
  (congrFun (W2_of m ρ c main_v2 (by decide +kernel)) _).trans (first_flow m ρ c b n k)
theorem second_warped (b : Fin 2) (n : Fin 512) (k : Fin 3) : V2 m ρ c main_v3 (ix3 b n k) = warped m c (ix3 b k n) :=
  (congrFun (W2_of m ρ c main_v3 (by decide +kernel)) _).trans (first_warped m ρ c b n k)
theorem third_warped (b : Fin 2) (n : Fin 512) (k : Fin 3) : V3 m ρ c main_v3 (ix3 b n k) = warped m c (ix3 b k n) :=
  (congrFun (W3_of m ρ c main_v3 (by decide +kernel)) _).trans (second_warped m ρ c b n k)

end Cert.FinalEntry
-- ==== Proof.FinalCurv.lean ====
/- The first of the three calls, the curvature kernel on the second cloud: what its body computes, and the array its grid fills. -/
module

public import proofs.«01_k».proof.Proof.Body
public import proofs.«01_k».proof.Proof.Grid
public import proofs.«01_k».proof.Proof.FinalEntry

@[expose] public section

noncomputable section

namespace Cert.FinalCurv

open Idealize.ShloMosaic Idealize.ShloMosaic.TcCoe Idealize.SL.Sem Cert.Rank Cert.Near Cert.FinalEntry
open Cert.FinalIdeal Cert.FinalIdeal.Gen

/-! ## The body -/

theorem shapes : Body.Shapes 512 512 where
  sides := ⟨reduces_S512x512_S512, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem hz : (![0, 0, 0] : Fin 3 → Nat) = fun _ => 0 := funext fun a => by fin_cases a <;> rfl

theorem out_eq (x0 : Vec Ideal S1x512x3 .f32) (x1 : Vec Ideal S1x3x512 .f32) (x2 : Vec Ideal S1x512x3 .f32) :
    out0_3 x0 x1 x2 = Body.mean shapes (Body.rowsOf shapes x0) (Body.near shapes x0 x1 9) (Body.allOf shapes x2) := by
  unfold_out out0_3
  rw [View.canon_unit_zero hz, View.ld_unit_zero hz, View.ld_unit_zero hz, View.ld_unit_zero hz]
  rfl

/-! ## The blocks -/

abbrev bat (t : Fin cfg0.N) : Fin 2 := Grid.bat 1 t
abbrev row (t : Fin cfg0.N) (r : Fin 512) : Fin 512 := Grid.row (K := 1) (R := 512) rfl t r

theorem index0 : ∀ t : Fin cfg0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0) :=
  (by decide +kernel : ∀ t : Fin grid0.N, (win0_0.index t 0 = t.val / 1 ∧ win0_0.index t 1 = t.val % 1 ∧ win0_0.index t 2 = 0)
    ∧ (win0_1.index t 0 = t.val / 1 ∧ win0_1.index t 1 = 0 ∧ win0_1.index t 2 = 0)
    ∧ (win0_2.index t 0 = t.val / 1 ∧ win0_2.index t 1 = 0 ∧ win0_2.index t 2 = 0)
    ∧ (win0_3.index t 0 = t.val / 1 ∧ win0_3.index t 1 = t.val % 1 ∧ win0_3.index t 2 = 0))

variable (m : (ℓ : Loc nD τ sig) → Buf (Elt Ideal) ℓ) (ρ : Dev nD → PrngReg) (c : Dev nD)

theorem iblk_rows (t : Fin cfg0.N) (r : Fin 512) (k : Fin 3) : iblk0 (V1 m ρ) c 0 t (ix3 0 r k) = target m c (ix3 (bat t) k (row t r)) := by
  unfold iblk0
  rw [View.read_apply]
  refine Eq.trans ?_ (first_target m ρ c (bat t) (row t r) k)
  refine congrArg (V1 m ρ c main_v1) (funext fun a => Fin.ext ?_)
  obtain ⟨⟨e0, e1, e2⟩, -⟩ := index0 t
  match a with
  | ⟨0, _⟩ => show win0_0.index t 0 * 1 + 1 * 0 = t.val / 1; omega
  | ⟨1, _⟩ => show win0_0.index t 1 * 512 + 1 * r.val = t.val % 1 * 512 + r.val; omega
  | ⟨2, _⟩ => show win0_0.index t 2 * 3 + 1 * k.val = k.val; omega

theorem iblk_cols (t : Fin cfg0.N) (k : Fin 3) (n : Fin 512) : iblk0 (V1 m ρ) c 1 t (ix3 0 k n) = target m c (ix3 (bat t) k n) := by
  unfold iblk0
  rw [View.read_apply]
  refine Eq.trans ?_ (congrFun (W1_args m ρ c main_arg1 (by decide)) (ix3 (bat t) k n))
  refine congrArg (V1 m ρ c main_arg1) (funext fun a => Fin.ext ?_)
  obtain ⟨-, ⟨e0, e1, e2⟩, -⟩ := index0 t
  match a with
  | ⟨0, _⟩ => show win0_1.index t 0 * 1 + 1 * 0 = t.val / 1; omega
  | ⟨1, _⟩ => show win0_1.index t 1 * 3 + 1 * k.val = k.val; omega
  | ⟨2, _⟩ => show win0_1.index t 2 * 512 + 1 * n.val = n.val; omega

theorem iblk_all (t : Fin cfg0.N) (n : Fin 512) (k : Fin 3) : iblk0 (V1 m ρ) c 2 t (ix3 0 n k) = target m c (ix3 (bat t) k n) := by
  unfold iblk0
  rw [View.read_apply]
  refine Eq.trans ?_ (first_target m ρ c (bat t) n k)
  refine congrArg (V1 m ρ c main_v1) (funext fun a => Fin.ext ?_)
  obtain ⟨-, -, ⟨e0, e1, e2⟩, -⟩ := index0 t
  match a with
  | ⟨0, _⟩ => show win0_2.index t 0 * 1 + 1 * 0 = t.val / 1; omega
  | ⟨1, _⟩ => show win0_2.index t 1 * 512 + 1 * n.val = n.val; omega
  | ⟨2, _⟩ => show win0_2.index t 2 * 3 + 1 * k.val = k.val; omega

/-! ## The array -/

/-- What the kernel leaves in its result array. -/
def result (p : Cloud 512) : (⟨3, ![2, 512, 3]⟩ : Shape).Idx → EReal := fun i => curvMasked p p (i 0) (i 1) (i 2)

theorem gap_eq (t : Fin cfg0.N) (r : Fin 512) : Body.gap (iblk0 (V1 m ρ) c 0 t) (iblk0 (V1 m ρ) c 1 t) r = dist (target m c) (target m c) (bat t) (row t r) := by
  funext n
  unfold Body.gap
  simp only [iblk_rows, iblk_cols]
  rfl

theorem flushed_eq (hM : ∀ b r n, dist (target m c) (target m c) b r n < big) (t : Fin cfg0.N) :
    (dat0 (V1 m ρ) c).flushed 3 t = ((cfg0.win 3).blk t).view.read (Elt Ideal) (result (target m c)) := by
  show (cfg0.win 3).cut (grid0.coords t) ((dat0 (V1 m ρ) c).after 3 t) = _
  rw [after0_3]
  funext j
  obtain ⟨r, k, rfl⟩ : ∃ (r : Fin 512) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show out0_3 (iblk0 (V1 m ρ) c 0 t) (iblk0 (V1 m ρ) c 1 t) (iblk0 (V1 m ρ) c 2 t) (ix3 0 r k) = _
  rw [out_eq]
  refine (Body.mean_near shapes (iblk0 (V1 m ρ) c 0 t) (iblk0 (V1 m ρ) c 1 t) (iblk0 (V1 m ρ) c 2 t) (iblk0 (V1 m ρ) c 0 t) r k (fun n => ?_) (by norm_num)).trans ?_
  · rw [gap_eq]; exact hM _ _ _
  · simp only [gap_eq, iblk_rows, iblk_all]
    rw [View.read_apply]
    refine congrArg (result (target m c)) (a₁ := ix3 (bat t) (row t r) k) (funext fun a => Fin.ext ?_)
    obtain ⟨-, -, -, e0, e1, e2⟩ := index0 t
    match a with
    | ⟨0, _⟩ => show t.val / 1 = win0_3.index t 0 * 1 + 1 * 0; omega
    | ⟨1, _⟩ => show t.val % 1 * 512 + r.val = win0_3.index t 1 * 512 + 1 * r.val; omega
    | ⟨2, _⟩ => show k.val = win0_3.index t 2 * 3 + 1 * k.val; omega

theorem cover (i : S2x512x3.Idx) : ∃ t : Fin cfg0.N, (cfg0.win 3).flush t = true ∧ i ∈ ((cfg0.win 3).blk t).view.set := by
  have h0 : (i 0 : Nat) < 2 := (i 0).isLt
  have h1 : (i 1 : Nat) < 512 := (i 1).isLt
  have h2 : (i 2 : Nat) < 3 := (i 2).isLt
  have ht : (i 0 : Nat) * 1 + (i 1 : Nat) / 512 < cfg0.N := by show _ < 2; omega
  refine ⟨⟨_, ht⟩, flush0_3 _, ?_⟩
  show i ∈ ((View.whole main_v4).slice (win0_3.rect ⟨_, ht⟩)).set
  rw [View.set_slice_whole, Rect.mem_set_unit]
  obtain ⟨-, -, -, e0, e1, e2⟩ := index0 ⟨_, ht⟩
  intro a
  match a with
  | ⟨0, _⟩ => show win0_3.index ⟨_, ht⟩ 0 * 1 ≤ (i 0 : Nat) ∧ (i 0 : Nat) < win0_3.index ⟨_, ht⟩ 0 * 1 + 1
              rw [e0]; dsimp only; omega
  | ⟨1, _⟩ => show win0_3.index ⟨_, ht⟩ 1 * 512 ≤ (i 1 : Nat) ∧ (i 1 : Nat) < win0_3.index ⟨_, ht⟩ 1 * 512 + 512
              rw [e1]; dsimp only; omega
  | ⟨2, _⟩ => show win0_3.index ⟨_, ht⟩ 2 * 3 ≤ (i 2 : Nat) ∧ (i 2 : Nat) < win0_3.index ⟨_, ht⟩ 2 * 3 + 3
              rw [e2]; dsimp only; omega

theorem final (hM : ∀ b r n, dist (target m c) (target m c) b r n < big) :
    (dat0 (V1 m ρ) c).arrAt 3 cfg0.N = result (target m c) :=
  (dat0 (V1 m ρ) c).arrAt_eq_of_cover 3 (result (target m c)) (fun t _ => flushed_eq m ρ c hM t) cover

end Cert.FinalCurv
-- ==== Proof.FinalSmooth.lean ====
/- The second of the three calls, the smoothness kernel: what its body computes from its blocks, and the arrays its grid fills. -/
module

public import proofs.«01_k».proof.Proof.Body
public import proofs.«01_k».proof.Proof.Grid
public import proofs.«01_k».proof.Proof.FinalEntry

@[expose] public section

noncomputable section

namespace Cert.FinalSmooth

open Idealize.ShloMosaic Idealize.ShloMosaic.TcCoe Idealize.SL.Sem Cert.Rank Cert.Near Cert.FinalEntry
open Cert.FinalIdeal Cert.FinalIdeal.Gen

/-! ## The body -/

theorem shapes : Body.Shapes 512 512 where
  sides := ⟨reduces_S512x512_S512, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem summed : Body.Summed 512 1 := ⟨shapeCasts_S512x1_S1x512x1, reduces_S1x512x1_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the running sum. -/
abbrev part (x0 : Vec Ideal S1x512x3 .f32) (x1 x2 : Vec Ideal S1x3x512 .f32) (x3 : Vec Ideal S1x512x3 .f32) : FVec Ideal S1x1 .f32 :=
  divf (Body.total summed (Body.rowSum shapes (select (Body.near shapes x0 x1 8) (Body.normOf shapes (Body.rowsOf shapes x3) (Body.colsOf shapes x2))
    (broadcast S512x512 (Scalar.ofBits .f32 0x00000000#32))))) (broadcast S1x1 (Scalar.ofBits .f32 0x41000000#32))

theorem pay33 (x : Vec Ideal S1x1 .f32) : k1_pay33 x = x := shapeCast_self ..

section
variable (c : Dev nD) (i : grid1.Coords) (a2 : Memref sig .tc .vmem S1x512x3 .f32) (h2 : a2.IsWhole) (a3 : Memref sig .tc .vmem S1x3x512 .f32) (h3 : a3.IsWhole) (a4 : Memref sig .tc .vmem S1x3x512 .f32) (h4 : a4.IsWhole) (a5 : Memref sig .tc .vmem S1x512x3 .f32) (h5 : a5.IsWhole) (a6 : Memref sig .tc .vmem S1x512x3 .f32) (h6 : a6.IsWhole) (a7 : Memref sig .tc .vmem S1x512x3 .f32) (h7 : a7.IsWhole) (a8 : Memref sig .tc .vmem S1x1 .f32) (h8 : a8.IsWhole) (a9 : Memref sig .tc .vmem S1x512x3 .f32) (h9 : a9.IsWhole)
    (x0 : Vec Ideal S1x512x3 .f32) (x1 : Vec Ideal S1x3x512 .f32) (x2 : Vec Ideal S1x3x512 .f32) (x3 : Vec Ideal S1x512x3 .f32) (x4 : Vec Ideal S1x512x3 .f32) (x5 : Vec Ideal S1x512x3 .f32)

theorem sum_A (hc : cond1_0 i) : out1_A_6 c i a2 h2 a3 h3 a4 h4 a5 h5 a6 h6 a7 h7 a8 h8 a9 h9 hc x0 x1 x2 x3 x4 x5 = addf (broadcast S1x1 (Scalar.ofBits .f32 0x00000000#32)) (part x0 x1 x2 x3) := by
  unfold out1_A_6
  rw [View.read_writes_eq_canon _ _ _ (cover1_A_6 c i a2 h2 a3 h3 a4 h4 a5 h5 a6 h6 a7 h7 a8 h8 a9 h9 hc x0 x1 x2 x3 x4 x5)]
  unfold kernelRun1_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x512) hz, View.ld_unit_zero (S := S1x512x3) hz]
  rw [pay33]
  rfl

theorem sum_B (hc : ¬cond1_0 i) (xo : Vec Ideal S1x1 .f32) : out1_B_6 c i a2 h2 a3 h3 a4 h4 a5 h5 a6 h6 a7 h7 a8 h8 a9 h9 hc x0 x1 x2 x3 x4 x5 xo = addf xo (part x0 x1 x2 x3) := by
  unfold out1_B_6
  rw [View.read_writes_eq_canon _ _ _ (cover1_B_6 c i a2 h2 a3 h3 a4 h4 a5 h5 a6 h6 a7 h7 a8 h8 a9 h9 hc x0 x1 x2 x3 x4 x5 xo)]
  unfold kernelRun1_B
  dsimp only
  rw [View.canon_unit_zero hz2]
  sl_unfold_words
  simp only [View.readAt_eq_ld, h2.read_unread, h3.read_unread, h4.read_unread, h5.read_unread, h6.read_unread, h7.read_unread, h8.read_unread,
    View.ld_unit_zero (S := S1x1) hz2, View.ld_unit_zero (S := S1x512x3) hz, View.ld_unit_zero (S := S1x3x512) hz, View.ld_unit_zero (S := S1x512x3) hz]
  rw [pay33]
  rfl

/-- What the body stores as the moved curvature. -/
abbrev moved : FVec Ideal S1x512x3 .f32 := Body.mean shapes (Body.rowsOf shapes x5) (Body.near shapes x0 x1 9) (Body.allOf shapes x4)

theorem moved_A (hc : cond1_0 i) : out1_A_7 c i a2 h2 a3 h3 a4 h4 a5 h5 a6 h6 a7 h7 a8 h8 a9 h9 hc x0 x1 x2 x3 x4 x5 = moved x0 x1 x4 x5 := by
  unfold out1_A_7
  rw [View.read_writes_eq_canon _ _ _ (cover1_A_7 c i a2 h2 a3 h3 a4 h4 a5 h5 a6 h6 a7 h7 a8 h8 a9 h9 hc x0 x1 x2 x3 x4 x5)]
  unfold kernelRun1_A
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x512) hz, View.ld_unit_zero (S := S1x512x3) hz]
  rfl

theorem moved_B (hc : ¬cond1_0 i) (xo : Vec Ideal S1x1 .f32) : out1_B_7 c i a2 h2 a3 h3 a4 h4 a5 h5 a6 h6 a7 h7 a8 h8 a9 h9 hc x0 x1 x2 x3 x4 x5 xo = moved x0 x1 x4 x5 := by
  unfold out1_B_7
  rw [View.read_writes_eq_canon _ _ _ (cover1_B_7 c i a2 h2 a3 h3 a4 h4 a5 h5 a6 h6 a7 h7 a8 h8 a9 h9 hc x0 x1 x2 x3 x4 x5 xo)]
  unfold kernelRun1_B
  dsimp only
  rw [View.canon_unit_zero hz]
  sl_unfold_words
  simp only [View.readAt_eq_ld, h2.read_unread, h3.read_unread, h4.read_unread, h5.read_unread, h6.read_unread, h7.read_unread,
    View.ld_unit_zero (S := S1x1) hz2, View.ld_unit_zero (S := S1x512x3) hz, View.ld_unit_zero (S := S1x3x512) hz, View.ld_unit_zero (S := S1x512x3) hz]
  rfl

end

/-! ## The blocks -/

abbrev bat (t : Fin cfg1.N) : Fin 2 := Grid.bat 1 t
abbrev row (t : Fin cfg1.N) (r : Fin 512) : Fin 512 := Grid.row (K := 1) (R := 512) rfl t r

theorem index0 : ∀ t : Fin cfg1.N, (win1_0.index t 0 = t.val / 1 ∧ win1_0.index t 1 = t.val % 1 ∧ win1_0.index t 2 = 0)
    ∧ (win1_1.index t 0 = t.val / 1 ∧ win1_1.index t 1 = 0 ∧ win1_1.index t 2 = 0)
    ∧ (win1_2.index t 0 = t.val / 1 ∧ win1_2.index t 1 = 0 ∧ win1_2.index t 2 = 0)
    ∧ (win1_3.index t 0 = t.val / 1 ∧ win1_3.index t 1 = t.val % 1 ∧ win1_3.index t 2 = 0)
    ∧ (win1_4.index t 0 = t.val / 1 ∧ win1_4.index t 1 = 0 ∧ win1_4.index t 2 = 0)
    ∧ (win1_5.index t 0 = t.val / 1 ∧ win1_5.index t 1 = t.val % 1 ∧ win1_5.index t 2 = 0)
    ∧ (win1_6.index t 0 = 0 ∧ win1_6.index t 1 = 0)
    ∧ (win1_7.index t 0 = t.val / 1 ∧ win1_7.index t 1 = t.val % 1 ∧ win1_7.index t 2 = 0) :=
  (by decide +kernel : ∀ t : Fin grid1.N, (win1_0.index t 0 = t.val / 1 ∧ win1_0.index t 1 = t.val % 1 ∧ win1_0.index t 2 = 0)
    ∧ (win1_1.index t 0 = t.val / 1 ∧ win1_1.index t 1 = 0 ∧ win1_1.index t 2 = 0)
    ∧ (win1_2.index t 0 = t.val / 1 ∧ win1_2.index t 1 = 0 ∧ win1_2.index t 2 = 0)
    ∧ (win1_3.index t 0 = t.val / 1 ∧ win1_3.index t 1 = t.val % 1 ∧ win1_3.index t 2 = 0)
    ∧ (win1_4.index t 0 = t.val / 1 ∧ win1_4.index t 1 = 0 ∧ win1_4.index t 2 = 0)
    ∧ (win1_5.index t 0 = t.val / 1 ∧ win1_5.index t 1 = t.val % 1 ∧ win1_5.index t 2 = 0)
    ∧ (win1_6.index t 0 = 0 ∧ win1_6.index t 1 = 0)
    ∧ (win1_7.index t 0 = t.val / 1 ∧ win1_7.index t 1 = t.val % 1 ∧ win1_7.index t 2 = 0))

variable (m : (ℓ : Loc nD τ sig) → Buf (Elt Ideal) ℓ) (ρ : Dev nD → PrngReg) (c : Dev nD)

theorem blk0 (t : Fin cfg1.N) (r : Fin 512) (k : Fin 3) : iblk1 (V2 m ρ) c 0 t (ix3 0 r k) = cloud m c (ix3 (bat t) k (row t r)) := by
  unfold iblk1
  rw [View.read_apply]
  refine Eq.trans ?_ (second_cloud m ρ c (bat t) (row t r) k)
  refine congrArg (V2 m ρ c main_v0) (funext fun a => Fin.ext ?_)
  obtain ⟨⟨e0, e1, e2⟩, -⟩ := index0 t
  match a with
  | ⟨0, _⟩ => show win1_0.index t 0 * 1 + 1 * 0 = t.val / 1; omega
  | ⟨1, _⟩ => show win1_0.index t 1 * 512 + 1 * r.val = t.val % 1 * 512 + r.val; omega
  | ⟨2, _⟩ => show win1_0.index t 2 * 3 + 1 * k.val = k.val; omega

theorem blk1 (t : Fin cfg1.N) (k : Fin 3) (n : Fin 512) : iblk1 (V2 m ρ) c 1 t (ix3 0 k n) = cloud m c (ix3 (bat t) k n) := by
  unfold iblk1
  rw [View.read_apply]
  refine Eq.trans ?_ (congrFun (W2_args m ρ c main_arg0 (by decide)) (ix3 (bat t) k n))
  refine congrArg (V2 m ρ c main_arg0) (funext fun a => Fin.ext ?_)
  obtain ⟨-, ⟨e0, e1, e2⟩, -⟩ := index0 t
  match a with
  | ⟨0, _⟩ => show win1_1.index t 0 * 1 + 1 * 0 = t.val / 1; omega
  | ⟨1, _⟩ => show win1_1.index t 1 * 3 + 1 * k.val = k.val; omega
  | ⟨2, _⟩ => show win1_1.index t 2 * 512 + 1 * n.val = n.val; omega

theorem blk2 (t : Fin cfg1.N) (k : Fin 3) (n : Fin 512) : iblk1 (V2 m ρ) c 2 t (ix3 0 k n) = flow m c (ix3 (bat t) k n) := by
  unfold iblk1
  rw [View.read_apply]
  refine Eq.trans ?_ (congrFun (W2_args m ρ c main_arg2 (by decide)) (ix3 (bat t) k n))
  refine congrArg (V2 m ρ c main_arg2) (funext fun a => Fin.ext ?_)
  obtain ⟨-, -, ⟨e0, e1, e2⟩, -⟩ := index0 t
  match a with
  | ⟨0, _⟩ => show win1_2.index t 0 * 1 + 1 * 0 = t.val / 1; omega
  | ⟨1, _⟩ => show win1_2.index t 1 * 3 + 1 * k.val = k.val; omega
  | ⟨2, _⟩ => show win1_2.index t 2 * 512 + 1 * n.val = n.val; omega

theorem blk3 (t : Fin cfg1.N) (r : Fin 512) (k : Fin 3) : iblk1 (V2 m ρ) c 3 t (ix3 0 r k) = flow m c (ix3 (bat t) k (row t r)) := by
  unfold iblk1
  rw [View.read_apply]
  refine Eq.trans ?_ (second_flow m ρ c (bat t) (row t r) k)
  refine congrArg (V2 m ρ c main_v2) (funext fun a => Fin.ext ?_)
  obtain ⟨-, -, -, ⟨e0, e1, e2⟩, -⟩ := index0 t
  match a with
  | ⟨0, _⟩ => show win1_3.index t 0 * 1 + 1 * 0 = t.val / 1; omega
  | ⟨1, _⟩ => show win1_3.index t 1 * 512 + 1 * r.val = t.val % 1 * 512 + r.val; omega
  | ⟨2, _⟩ => show win1_3.index t 2 * 3 + 1 * k.val = k.val; omega

theorem blk4 (t : Fin cfg1.N) (n : Fin 512) (k : Fin 3) : iblk1 (V2 m ρ) c 4 t (ix3 0 n k) = warped m c (ix3 (bat t) k n) := by
  unfold iblk1
  rw [View.read_apply]
  refine Eq.trans ?_ (second_warped m ρ c (bat t) n k)
  refine congrArg (V2 m ρ c main_v3) (funext fun a => Fin.ext ?_)
  obtain ⟨-, -, -, -, ⟨e0, e1, e2⟩, -⟩ := index0 t
  match a with
  | ⟨0, _⟩ => show win1_4.index t 0 * 1 + 1 * 0 = t.val / 1; omega
  | ⟨1, _⟩ => show win1_4.index t 1 * 512 + 1 * n.val = n.val; omega
  | ⟨2, _⟩ => show win1_4.index t 2 * 3 + 1 * k.val = k.val; omega

theorem blk5 (t : Fin cfg1.N) (r : Fin 512) (k : Fin 3) : iblk1 (V2 m ρ) c 5 t (ix3 0 r k) = warped m c (ix3 (bat t) k (row t r)) := by
  unfold iblk1
  rw [View.read_apply]
  refine Eq.trans ?_ (second_warped m ρ c (bat t) (row t r) k)
  refine congrArg (V2 m ρ c main_v3) (funext fun a => Fin.ext ?_)
  obtain ⟨-, -, -, -, -, ⟨e0, e1, e2⟩, -⟩ := index0 t
  match a with
  | ⟨0, _⟩ => show win1_5.index t 0 * 1 + 1 * 0 = t.val / 1; omega
  | ⟨1, _⟩ => show win1_5.index t 1 * 512 + 1 * r.val = t.val % 1 * 512 + r.val; omega
  | ⟨2, _⟩ => show win1_5.index t 2 * 3 + 1 * k.val = k.val; omega

/-! ## The arrays the grid fills -/

variable (hM : ∀ b r n, dist (cloud m c) (cloud m c) b r n < big)

theorem gap_eq (t : Fin cfg1.N) (r : Fin 512) : Body.gap (iblk1 (V2 m ρ) c 0 t) (iblk1 (V2 m ρ) c 1 t) r = dist (cloud m c) (cloud m c) (bat t) (row t r) := by
  funext n
  unfold Body.gap
  simp only [blk0, blk1]
  rfl

/-- What grid point `t` adds to the smoothness sum. -/
def adds (t : Fin cfg1.N) : EReal := Ideal.div (∑ r, turnMasked (cloud m c) (flow m c) (bat t) (row t r)) (8 : ℝ)

include hM in
theorem part_apply (t : Fin cfg1.N) (i : S1x1.Idx) : part (iblk1 (V2 m ρ) c 0 t) (iblk1 (V2 m ρ) c 1 t) (iblk1 (V2 m ρ) c 2 t) (iblk1 (V2 m ρ) c 3 t) i = adds m c t := by
  show Ideal.div (Body.total summed _ i) (Ideal.ofBits .f32 0x41000000#32) = _
  rw [Body.total_near shapes summed _ _ _ _ (fun r n => by rw [gap_eq]; exact hM _ _ _) (by norm_num) i, c8]
  simp only [gap_eq, blk2, blk3]
  rfl

include hM in
/-- The running sum after the last grid point. -/
theorem acc_apply (i : S1x1.Idx) : ((outsAt1 (V2 m ρ) c 1 (by decide)).1 : Vec Ideal S1x1 .f32) i = ∑ t : Fin cfg1.N, adds m c t := by
  refine Grid.running (T := cfg1.N) (adds m c) (fun n h => ((outsAt1 (V2 m ρ) c n h).1 : Vec Ideal S1x1 .f32) i) (fun h => ?_) (fun n h => ?_) 1 (by decide) rfl
  · rw [outsAt1_A (V2 m ρ) c ⟨0, h⟩ rfl]
    dsimp only
    rw [sum_A]
    show Ideal.ofBits .f32 0x00000000#32 + part _ _ _ _ i = _
    rw [part_apply m ρ c hM, show Ideal.ofBits .f32 0x00000000#32 = 0 by simp [Ideal.ofBits, Ideal.ieee], zero_add]
  · have hn : n + 1 < 2 := h
    rw [outsAt1_B (V2 m ρ) c ⟨n + 1, h⟩ (by dsimp only; omega)]
    dsimp only
    rw [sum_B]
    show _ + part _ _ _ _ i = _
    rw [part_apply m ρ c hM]
    rfl

/-- The smoothness sum over both clouds. -/
abbrev resultSum : S1x1.Idx → EReal := fun _ => ∑ t : Fin cfg1.N, adds m c t

include hM in
theorem flushed6_eq (t : Fin cfg1.N) (hf : (cfg1.win 6).flush t = true) :
    (dat1 (V2 m ρ) c).flushed 6 t = ((cfg1.win 6).blk t).view.read (Elt Ideal) (resultSum m c) := by
  obtain rfl : t = ⟨1, by decide⟩ := Fin.ext (by have := (flush1_6 t).mp hf; have : t.val < 2 := t.isLt; show t.val = 1; omega)
  show (cfg1.win 6).cut (grid1.coords _) ((dat1 (V2 m ρ) c).after 6 _) = _
  rw [after1_6]
  funext j
  exact acc_apply m ρ c hM j

theorem cover6 (i : S1x1.Idx) : ∃ t : Fin cfg1.N, (cfg1.win 6).flush t = true ∧ i ∈ ((cfg1.win 6).blk t).view.set := by
  have hT : 1 < cfg1.N := by decide
  refine ⟨⟨1, hT⟩, (flush1_6 _).mpr rfl, ?_⟩
  show i ∈ ((View.whole main_v5_0).slice (win1_6.rect ⟨1, hT⟩)).set
  rw [View.set_slice_whole, Rect.mem_set_unit]
  obtain ⟨-, -, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win1_6.index ⟨1, hT⟩ 0 * 1 ≤ (i 0 : Nat) ∧ (i 0 : Nat) < win1_6.index ⟨1, hT⟩ 0 * 1 + 1
              rw [e0]; omega
  | ⟨1, _⟩ => show win1_6.index ⟨1, hT⟩ 1 * 1 ≤ (i 1 : Nat) ∧ (i 1 : Nat) < win1_6.index ⟨1, hT⟩ 1 * 1 + 1
              rw [e1]; omega

include hM in
theorem final6 : (dat1 (V2 m ρ) c).arrAt 6 cfg1.N = resultSum m c :=
  (dat1 (V2 m ρ) c).arrAt_eq_of_cover 6 (resultSum m c) (flushed6_eq m ρ c hM) cover6

/-- The moved curvature of every point. -/
def resultMoved (p w : Cloud 512) : S2x512x3.Idx → EReal := fun i => curvMasked p w (i 0) (i 1) (i 2)

theorem outs_moved (t : Fin cfg1.N) : (outsAt1 (V2 m ρ) c t.val t.isLt).2 = moved (iblk1 (V2 m ρ) c 0 t) (iblk1 (V2 m ρ) c 1 t) (iblk1 (V2 m ρ) c 4 t) (iblk1 (V2 m ρ) c 5 t) := by
  by_cases h : t.val % 2 = 0
  · rw [outsAt1_A (V2 m ρ) c t h]; dsimp only; rw [moved_A]
  · rw [outsAt1_B (V2 m ρ) c t h]; dsimp only; rw [moved_B]

include hM in
theorem flushed7_eq (t : Fin cfg1.N) :
    (dat1 (V2 m ρ) c).flushed 7 t = ((cfg1.win 7).blk t).view.read (Elt Ideal) (resultMoved (cloud m c) (warped m c)) := by
  show (cfg1.win 7).cut (grid1.coords t) ((dat1 (V2 m ρ) c).after 7 t) = _
  rw [after1_7, outs_moved]
  funext j
  obtain ⟨r, k, rfl⟩ : ∃ (r : Fin 512) (k : Fin 3), j = ix3 0 r k := by
    refine ⟨j 1, j 2, funext fun a => ?_⟩
    match a with
    | ⟨0, _⟩ => exact Subsingleton.elim (α := Fin 1) _ _
    | ⟨1, _⟩ => rfl
    | ⟨2, _⟩ => rfl
  show moved (iblk1 (V2 m ρ) c 0 t) (iblk1 (V2 m ρ) c 1 t) (iblk1 (V2 m ρ) c 4 t) (iblk1 (V2 m ρ) c 5 t) (ix3 0 r k) = _
  refine (Body.mean_near shapes (iblk1 (V2 m ρ) c 0 t) (iblk1 (V2 m ρ) c 1 t) (iblk1 (V2 m ρ) c 4 t) (iblk1 (V2 m ρ) c 5 t) r k (fun n => ?_) (by norm_num)).trans ?_
  · rw [gap_eq]; exact hM _ _ _
  · simp only [gap_eq, blk4, blk5]
    rw [View.read_apply]
    refine congrArg (resultMoved (cloud m c) (warped m c)) (a₁ := ix3 (bat t) (row t r) k) (funext fun a => Fin.ext ?_)
    obtain ⟨-, -, -, -, -, -, -, e0, e1, e2⟩ := index0 t
    match a with
    | ⟨0, _⟩ => show t.val / 1 = win1_7.index t 0 * 1 + 1 * 0; omega
    | ⟨1, _⟩ => show t.val % 1 * 512 + r.val = win1_7.index t 1 * 512 + 1 * r.val; omega
    | ⟨2, _⟩ => show k.val = win1_7.index t 2 * 3 + 1 * k.val; omega

theorem cover7 (i : S2x512x3.Idx) : ∃ t : Fin cfg1.N, (cfg1.win 7).flush t = true ∧ i ∈ ((cfg1.win 7).blk t).view.set := by
  have h0 : (i 0 : Nat) < 2 := (i 0).isLt
  have h1 : (i 1 : Nat) < 512 := (i 1).isLt
  have h2 : (i 2 : Nat) < 3 := (i 2).isLt
  have ht : (i 0 : Nat) * 1 + (i 1 : Nat) / 512 < cfg1.N := by show _ < 2; omega
  refine ⟨⟨_, ht⟩, flush1_7 _, ?_⟩
  show i ∈ ((View.whole main_v5_1).slice (win1_7.rect ⟨_, ht⟩)).set
  rw [View.set_slice_whole, Rect.mem_set_unit]
  obtain ⟨-, -, -, -, -, -, -, e0, e1, e2⟩ := index0 ⟨_, ht⟩
  intro a
  match a with
  | ⟨0, _⟩ => show win1_7.index ⟨_, ht⟩ 0 * 1 ≤ (i 0 : Nat) ∧ (i 0 : Nat) < win1_7.index ⟨_, ht⟩ 0 * 1 + 1
              rw [e0]; dsimp only; omega
  | ⟨1, _⟩ => show win1_7.index ⟨_, ht⟩ 1 * 512 ≤ (i 1 : Nat) ∧ (i 1 : Nat) < win1_7.index ⟨_, ht⟩ 1 * 512 + 512
              rw [e1]; dsimp only; omega
  | ⟨2, _⟩ => show win1_7.index ⟨_, ht⟩ 2 * 3 ≤ (i 2 : Nat) ∧ (i 2 : Nat) < win1_7.index ⟨_, ht⟩ 2 * 3 + 3
              rw [e2]; dsimp only; omega

include hM in
theorem final7 : (dat1 (V2 m ρ) c).arrAt 7 cfg1.N = resultMoved (cloud m c) (warped m c) :=
  (dat1 (V2 m ρ) c).arrAt_eq_of_cover 7 (resultMoved (cloud m c) (warped m c)) (fun t _ => flushed7_eq m ρ c hM t) cover7

/-- The smoothness sum, when the flow is finite: over both clouds and every point, an eighth of its turn. -/
theorem sum_adds (hf : ∀ i, ∃ u : ℝ, flow m c i = u) :
    ∑ t : Fin cfg1.N, adds m c t = ∑ b, ∑ n, Ideal.div (turnListed (by norm_num) (cloud m c) (flow m c) b n) (8 : ℝ) := by
  have h := fun b r => turnMasked_eq (by norm_num : 9 ≤ 512) (cloud m c) (flow m c) b r hf
  refine (Finset.sum_congr rfl fun t _ => ?_).trans
    (Grid.sum_grid (K := 1) (R := 512) rfl fun b n => Ideal.div (turnListed (by norm_num) (cloud m c) (flow m c) b n) (8 : ℝ))
  unfold adds
  simp only [(h _ _).1]
  exact Grid.div_sum _ _ 8 (by norm_num) fun r => (h _ _).2

end Cert.FinalSmooth
-- ==== Proof.FinalCross.lean ====
/- The third of the three calls, the kernel between the two clouds: what its body computes from its blocks, and the arrays its grid fills. -/
module

public import proofs.«01_k».proof.Proof.BodyCross
public import proofs.«01_k».proof.Proof.Grid
public import proofs.«01_k».proof.Proof.FinalEntry
public import Idealize.ShloMosaic.Lib.Pipeline.ValueKit.Acc

@[expose] public section

noncomputable section

namespace Cert.FinalCross

open Idealize.ShloMosaic Idealize.ShloMosaic.TcCoe Idealize.SL.Sem Cert.Rank Cert.Near Cert.FinalEntry
open Cert.FinalIdeal Cert.FinalIdeal.Gen

/-! ## The body -/

theorem shapes : Body.Shapes 512 512 where
  sides := ⟨reduces_S512x512_S512, shapeCasts_S512_S512x1, broadcasts_S512x1_S512x512, by norm_num⟩
  rows := shapeCasts_S1x512x3_S512x3
  cols := shapeCasts_S1x3x512_S3x512
  all := shapeCasts_S1x512x3_S512x3
  back := shapeCasts_S512x3_S1x512x3
  r0 := slices_S512x3_o0_0_S512x1
  r1 := slices_S512x3_o0_1_S512x1
  r2 := slices_S512x3_o0_2_S512x1
  c0 := slices_S3x512_o0_0_S1x512
  c1 := slices_S3x512_o1_0_S1x512
  c2 := slices_S3x512_o2_0_S1x512
  down := broadcasts_S1x512_S512x512
  iota := iota_S512x512_d1_w32

theorem crossed : Body.Crossed 512 512 where
  wide := broadcasts_S512x1_S512x3
  red := reduces_S512x512_S512_2
  line := shapeCasts_S512_S1x512
  up := shapeCasts_S1x512_S1x1x512
  dn := shapeCasts_S1x1x512_S1x512

theorem summed1 : Body.Summed 512 1 := ⟨shapeCasts_S512x1_S1x512x1, reduces_S1x512x1_S1, shapeCasts_S1_S1x1x1, inpos_S1x1x1_p0_0_0⟩
theorem summed3 : Body.Summed 512 3 := ⟨shapeCasts_S512x3_S1x512x3, reduces_S1x512x3_S1, shapeCasts_S1_S1x1x1, inpos_S1x1x1_p0_0_0⟩
theorem summedN : Body.Summed 1 512 := ⟨shapeCasts_S1x512_S1x1x512, reduces_S1x1x512_S1, shapeCasts_S1_S1x1x1, inpos_S1x1x1_p0_0_0⟩

theorem hz2 : (![0, 0] : Fin 2 → Nat) = fun _ => 0 := funext fun a => by fin_cases a <;> rfl
theorem hz : (![0, 0, 0] : Fin 3 → Nat) = fun _ => 0 := funext fun a => by fin_cases a <;> rfl

/-- What the body adds to the two running sums: the rows' smallest distances, and the squares of the differences of curvature. -/
abbrev rowPart (x0 : Vec Ideal S1x512x3 .f32) (x1 : Vec Ideal S1x3x512 .f32) : FVec Ideal S1x1 .f32 :=
  Body.total summed1 (Body.minRow shapes (Body.gaps shapes x0 x1))
abbrev curvPart (x0 : Vec Ideal S1x512x3 .f32) (x1 : Vec Ideal S1x3x512 .f32) (x2 : Vec Ideal S1x512x3 .f32) (x3 : Vec Ideal S1x512x3 .f32) : FVec Ideal S1x1 .f32 :=
  Body.total summed3 (mulf (Body.apart shapes crossed (Body.gaps shapes x0 x1) (Body.allOf shapes x2) (Body.rowsOf shapes x3))
    (Body.apart shapes crossed (Body.gaps shapes x0 x1) (Body.allOf shapes x2) (Body.rowsOf shapes x3)))
/-- At the last row block of a batch, the columns' smallest distances are added too. -/
abbrev colPart (z : Vec Ideal S1x1x512 .f32) : FVec Ideal S1x1 .f32 :=
  Body.total summedN (shapeCast S1x512 z crossed.dn : FVec Ideal S1x512 .f32)
abbrev zero : FVec Ideal S1x1 .f32 := broadcast S1x1 (Scalar.ofBits .f32 0x00000000#32)

theorem pay1 (v : FVec Ideal S512x3 .f32) (x : Vec Ideal S1x1 .f32) : k2_pay1 v x = addf x (Body.total summed3 (mulf v v)) := by
  show addf (shapeCast S1x1 x shapeCasts_S1x1_S1x1 : FVec Ideal S1x1 .f32) _ = _
  rw [shapeCast_self]; rfl
theorem pay2 (x : Vec Ideal S1x1 .f32) (z : Vec Ideal S1x1x512 .f32) : k2_pay2 x z = addf x (colPart z) := by
  show addf (shapeCast S1x1 x shapeCasts_S1x1_S1x1 : FVec Ideal S1x1 .f32) _ = _
  rw [shapeCast_self]; rfl
theorem pay35 (v : FVec Ideal S512x1 .f32) (x : Vec Ideal S1x1 .f32) : k2_pay35 v x = addf x (Body.total summed1 v) := by
  show addf (shapeCast S1x1 x shapeCasts_S1x1_S1x1 : FVec Ideal S1x1 .f32) _ = _
  rw [shapeCast_self]; rfl

section
variable (c : Dev nD) (i : grid2.Coords) (a2 : Memref sig .tc .vmem S1x512x3 .f32) (h2 : a2.IsWhole) (a3 : Memref sig .tc .vmem S1x3x512 .f32) (h3 : a3.IsWhole) (a4 : Memref sig .tc .vmem S1x512x3 .f32) (h4 : a4.IsWhole) (a5 : Memref sig .tc .vmem S1x512x3 .f32) (h5 : a5.IsWhole) (a6 : Memref sig .tc .vmem S1x1x512 .f32) (h6 : a6.IsWhole) (a7 : Memref sig .tc .vmem S1x1 .f32) (h7 : a7.IsWhole) (a8 : Memref sig .tc .vmem S1x1 .f32) (h8 : a8.IsWhole)
    (x0 : Vec Ideal S1x512x3 .f32) (x1 : Vec Ideal S1x3x512 .f32) (x2 : Vec Ideal S1x512x3 .f32) (x3 : Vec Ideal S1x512x3 .f32)
    (xo5 xo6 : Vec Ideal S1x1 .f32)

theorem col_A (hc0 : cond2_0 i) (hc1 : cond2_1 i) (hc2 : ¬cond2_2 i) (hc3 : cond2_3 i) :
    out2_A_4 c i a2 h2 a3 h3 a4 h4 a5 h5 a6 h6 a7 h7 a8 h8 hc0 hc1 hc2 hc3 x0 x1 x2 x3 = Body.colFirst crossed (Body.gaps shapes x0 x1) := by
  unfold out2_A_4
  rw [View.read_writes_eq_canon _ _ _ (cover2_A_4 c i a2 h2 a3 h3 a4 h4 a5 h5 a6 h6 a7 h7 a8 h8 hc0 hc1 hc2 hc3 x0 x1 x2 x3)]
  unfold kernelRun2_A
  dsimp only
  sl_unfold_words
  rw [View.canon_unit_zero hz]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem col_B (hc0 : ¬cond2_0 i) (hc1 : cond2_1 i) (hc2 : ¬cond2_2 i) (hc3 : cond2_3 i) :
    out2_B_4 c i a2 h2 a3 h3 a4 h4 a5 h5 a6 h6 a7 h7 a8 h8 hc0 hc1 hc2 hc3 x0 x1 x2 x3 xo5 xo6 = Body.colFirst crossed (Body.gaps shapes x0 x1) := by
  unfold out2_B_4
  rw [View.read_writes_eq_canon _ _ _ (cover2_B_4 c i a2 h2 a3 h3 a4 h4 a5 h5 a6 h6 a7 h7 a8 h8 hc0 hc1 hc2 hc3 x0 x1 x2 x3 xo5 xo6)]
  unfold kernelRun2_B
  dsimp only
  sl_unfold_words
  rw [View.canon_unit_zero hz]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem cham_A (hc0 : cond2_0 i) (hc1 : cond2_1 i) (hc2 : ¬cond2_2 i) (hc3 : cond2_3 i) :
    out2_A_5 c i a2 h2 a3 h3 a4 h4 a5 h5 a6 h6 a7 h7 a8 h8 hc0 hc1 hc2 hc3 x0 x1 x2 x3 = addf (addf zero (rowPart x0 x1)) (colPart (Body.colFirst crossed (Body.gaps shapes x0 x1))) := by
  unfold out2_A_5
  rw [View.read_writes_eq_canon _ _ _ (cover2_A_5 c i a2 h2 a3 h3 a4 h4 a5 h5 a6 h6 a7 h7 a8 h8 hc0 hc1 hc2 hc3 x0 x1 x2 x3)]
  unfold kernelRun2_A
  dsimp only
  sl_unfold_words
  rw [View.canon_cons_unit_zero (S := S1x1) hz2]
  simp only [View.readAt_eq_ld, View.readCov_unit_zero (S := S1x1) _ hz2, View.readCov_cons_unit_lit' (S := S1x1) _ _ _ _ _ (congrFun hz2) (congrFun hz2), View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem cham_B (hc0 : ¬cond2_0 i) (hc1 : cond2_1 i) (hc2 : ¬cond2_2 i) (hc3 : cond2_3 i) :
    out2_B_5 c i a2 h2 a3 h3 a4 h4 a5 h5 a6 h6 a7 h7 a8 h8 hc0 hc1 hc2 hc3 x0 x1 x2 x3 xo5 xo6 = addf (addf xo5 (rowPart x0 x1)) (colPart (Body.colFirst crossed (Body.gaps shapes x0 x1))) := by
  unfold out2_B_5
  rw [View.read_writes_eq_canon _ _ _ (cover2_B_5 c i a2 h2 a3 h3 a4 h4 a5 h5 a6 h6 a7 h7 a8 h8 hc0 hc1 hc2 hc3 x0 x1 x2 x3 xo5 xo6)]
  unfold kernelRun2_B
  dsimp only
  sl_unfold_words
  rw [View.canon_cons_unit_zero (S := S1x1) hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem curv_A (hc0 : cond2_0 i) (hc1 : cond2_1 i) (hc2 : ¬cond2_2 i) (hc3 : cond2_3 i) :
    out2_A_6 c i a2 h2 a3 h3 a4 h4 a5 h5 a6 h6 a7 h7 a8 h8 hc0 hc1 hc2 hc3 x0 x1 x2 x3 = addf zero (curvPart x0 x1 x2 x3) := by
  unfold out2_A_6
  rw [View.read_writes_eq_canon _ _ _ (cover2_A_6 c i a2 h2 a3 h3 a4 h4 a5 h5 a6 h6 a7 h7 a8 h8 hc0 hc1 hc2 hc3 x0 x1 x2 x3)]
  unfold kernelRun2_A
  dsimp only
  sl_unfold_words
  rw [View.canon_cons_unit_zero (S := S1x1) hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

theorem curv_B (hc0 : ¬cond2_0 i) (hc1 : cond2_1 i) (hc2 : ¬cond2_2 i) (hc3 : cond2_3 i) :
    out2_B_6 c i a2 h2 a3 h3 a4 h4 a5 h5 a6 h6 a7 h7 a8 h8 hc0 hc1 hc2 hc3 x0 x1 x2 x3 xo5 xo6 = addf xo6 (curvPart x0 x1 x2 x3) := by
  unfold out2_B_6
  rw [View.read_writes_eq_canon _ _ _ (cover2_B_6 c i a2 h2 a3 h3 a4 h4 a5 h5 a6 h6 a7 h7 a8 h8 hc0 hc1 hc2 hc3 x0 x1 x2 x3 xo5 xo6)]
  unfold kernelRun2_B
  dsimp only
  sl_unfold_words
  rw [View.canon_unit_zero hz2]
  simp only [View.readAt_eq_ld, View.readCov_unit_zero (S := S1x1) _ hz2, View.readCov_unit_zero (S := S1x1x512) _ hz, h2.read_unread, h3.read_unread, h4.read_unread, h5.read_unread, h6.read_unread, h7.read_unread, h8.read_unread,
    View.ld_unit_zero (S := S1x1) hz2, View.ld_unit_zero (S := S1x1x512) hz, View.ld_unit_zero (S := S1x512x3) hz, View.ld_unit_zero (S := S1x3x512) hz, View.ld_unit_zero (S := S1x512x3) hz, pay1, pay2, pay35]
  rfl

end

/-! ## The blocks -/

abbrev bat (t : Fin cfg2.N) : Fin 2 := Grid.bat 1 t
abbrev row (t : Fin cfg2.N) (r : Fin 512) : Fin 512 := Grid.row (K := 1) (R := 512) rfl t r

theorem index0 : ∀ t : Fin cfg2.N, (win2_0.index t 0 = t.val / 1 ∧ win2_0.index t 1 = t.val % 1 ∧ win2_0.index t 2 = 0)
    ∧ (win2_1.index t 0 = t.val / 1 ∧ win2_1.index t 1 = 0 ∧ win2_1.index t 2 = 0)
    ∧ (win2_2.index t 0 = t.val / 1 ∧ win2_2.index t 1 = 0 ∧ win2_2.index t 2 = 0)
    ∧ (win2_3.index t 0 = t.val / 1 ∧ win2_3.index t 1 = t.val % 1 ∧ win2_3.index t 2 = 0)
    ∧ (win2_4.index t 0 = t.val / 1 ∧ win2_4.index t 1 = 0 ∧ win2_4.index t 2 = 0)
    ∧ (win2_5.index t 0 = 0 ∧ win2_5.index t 1 = 0)
    ∧ (win2_6.index t 0 = 0 ∧ win2_6.index t 1 = 0) :=
  (by decide +kernel : ∀ t : Fin grid2.N, (win2_0.index t 0 = t.val / 1 ∧ win2_0.index t 1 = t.val % 1 ∧ win2_0.index t 2 = 0)
    ∧ (win2_1.index t 0 = t.val / 1 ∧ win2_1.index t 1 = 0 ∧ win2_1.index t 2 = 0)
    ∧ (win2_2.index t 0 = t.val / 1 ∧ win2_2.index t 1 = 0 ∧ win2_2.index t 2 = 0)
    ∧ (win2_3.index t 0 = t.val / 1 ∧ win2_3.index t 1 = t.val % 1 ∧ win2_3.index t 2 = 0)
    ∧ (win2_4.index t 0 = t.val / 1 ∧ win2_4.index t 1 = 0 ∧ win2_4.index t 2 = 0)
    ∧ (win2_5.index t 0 = 0 ∧ win2_5.index t 1 = 0)
    ∧ (win2_6.index t 0 = 0 ∧ win2_6.index t 1 = 0))

variable (m : (ℓ : Loc nD τ sig) → Buf (Elt Ideal) ℓ) (ρ : Dev nD → PrngReg) (c : Dev nD)

/-- The two curvatures the call is given: what the calls before it left. -/
abbrev curv : S2x512x3.Idx → EReal := V3 m ρ c main_v4
abbrev moved : S2x512x3.Idx → EReal := V3 m ρ c main_v5_1

theorem blk0 (t : Fin cfg2.N) (r : Fin 512) (k : Fin 3) : iblk2 (V3 m ρ) c 0 t (ix3 0 r k) = warped m c (ix3 (bat t) k (row t r)) := by
  unfold iblk2
  rw [View.read_apply]
  refine Eq.trans ?_ (third_warped m ρ c (bat t) (row t r) k)
  refine congrArg (V3 m ρ c main_v3) (funext fun a => Fin.ext ?_)
  obtain ⟨⟨e0, e1, e2⟩, -⟩ := index0 t
  match a with
  | ⟨0, _⟩ => show win2_0.index t 0 * 1 + 1 * 0 = t.val / 1; omega
  | ⟨1, _⟩ => show win2_0.index t 1 * 512 + 1 * r.val = t.val % 1 * 512 + r.val; omega
  | ⟨2, _⟩ => show win2_0.index t 2 * 3 + 1 * k.val = k.val; omega

theorem blk1 (t : Fin cfg2.N) (k : Fin 3) (n : Fin 512) : iblk2 (V3 m ρ) c 1 t (ix3 0 k n) = target m c (ix3 (bat t) k n) := by
  unfold iblk2
  rw [View.read_apply]
  refine Eq.trans ?_ (congrFun (W3_args m ρ c main_arg1 (by decide)) (ix3 (bat t) k n))
  refine congrArg (V3 m ρ c main_arg1) (funext fun a => Fin.ext ?_)
  obtain ⟨-, ⟨e0, e1, e2⟩, -⟩ := index0 t
  match a with
  | ⟨0, _⟩ => show win2_1.index t 0 * 1 + 1 * 0 = t.val / 1; omega
  | ⟨1, _⟩ => show win2_1.index t 1 * 3 + 1 * k.val = k.val; omega
  | ⟨2, _⟩ => show win2_1.index t 2 * 512 + 1 * n.val = n.val; omega

theorem blk2 (t : Fin cfg2.N) (n : Fin 512) (k : Fin 3) : iblk2 (V3 m ρ) c 2 t (ix3 0 n k) = curv m ρ c (ix3 (bat t) n k) := by
  unfold iblk2
  rw [View.read_apply]
  refine congrArg (V3 m ρ c main_v4) (funext fun a => Fin.ext ?_)
  obtain ⟨-, -, ⟨e0, e1, e2⟩, -⟩ := index0 t
  match a with
  | ⟨0, _⟩ => show win2_2.index t 0 * 1 + 1 * 0 = t.val / 1; omega
  | ⟨1, _⟩ => show win2_2.index t 1 * 512 + 1 * n.val = n.val; omega
  | ⟨2, _⟩ => show win2_2.index t 2 * 3 + 1 * k.val = k.val; omega

theorem blk3 (t : Fin cfg2.N) (r : Fin 512) (k : Fin 3) : iblk2 (V3 m ρ) c 3 t (ix3 0 r k) = moved m ρ c (ix3 (bat t) (row t r) k) := by
  unfold iblk2
  rw [View.read_apply]
  refine congrArg (V3 m ρ c main_v5_1) (funext fun a => Fin.ext ?_)
  obtain ⟨-, -, -, ⟨e0, e1, e2⟩, -⟩ := index0 t
  match a with
  | ⟨0, _⟩ => show win2_3.index t 0 * 1 + 1 * 0 = t.val / 1; omega
  | ⟨1, _⟩ => show win2_3.index t 1 * 512 + 1 * r.val = t.val % 1 * 512 + r.val; omega
  | ⟨2, _⟩ => show win2_3.index t 2 * 3 + 1 * k.val = k.val; omega

theorem gap_eq (t : Fin cfg2.N) (r : Fin 512) : Body.gap (iblk2 (V3 m ρ) c 0 t) (iblk2 (V3 m ρ) c 1 t) r = dist (warped m c) (target m c) (bat t) (row t r) := by
  funext n
  unfold Body.gap
  simp only [blk0, blk1]
  rfl

/-! ## The smallest distance of every column -/

/-- The block's columns, over its own rows alone. -/
theorem part4 (t : Fin cfg2.N) (n : Fin 512) :
    (least fun r => Body.gap (iblk2 (V3 m ρ) c 0 t) (iblk2 (V3 m ρ) c 1 t) r n) = least fun r => dist (warped m c) (target m c) (bat t) (row t r) n :=
  congrArg least (funext fun r => congrFun (gap_eq m ρ c t r) n)

theorem outs_first (t : Fin cfg2.N) :
    (outsAt2 (V3 m ρ) c t.val t.isLt).1 = Body.colFirst crossed (Body.gaps shapes (iblk2 (V3 m ρ) c 0 t) (iblk2 (V3 m ρ) c 1 t)) := by
  by_cases h0 : t.val % 2 = 0
  · rw [outsAt2_A (V3 m ρ) c t h0]; dsimp only; rw [col_A]
  · rw [outsAt2_B (V3 m ρ) c t h0]; dsimp only; rw [col_B]

/-- The smallest distance of column `n`. -/
def colMin (b : Fin 2) (n : Fin 512) : EReal := least fun r => dist (warped m c) (target m c) b r n

/-- The one block of a batch holds all its rows. -/
theorem outs_last (t : Fin cfg2.N) (n : Fin 512) :
    ((outsAt2 (V3 m ρ) c t.val t.isLt).1 : Vec Ideal S1x1x512 .f32) (ix3 0 0 n) = colMin m c (bat t) n := by
  refine Grid.least_grid (K := 1) (R := 512) rfl (fun b r => dist (warped m c) (target m c) b r n)
    (fun t : Fin cfg2.N => ((outsAt2 (V3 m ρ) c t.val t.isLt).1 : Vec Ideal S1x1x512 .f32) (ix3 0 0 n)) (fun t _ => ?_) (fun t h => ?_) t (Nat.mod_one _)
  · exact (congrFun (outs_first m ρ c t) (ix3 0 0 n)).trans ((Body.colFirst_apply shapes crossed _ _ n).trans (part4 m ρ c t n))
  · exact absurd (Nat.mod_one _) h

/-! ## The two sums -/

/-- The smallest distance of row `r`. -/
def rowMin (b : Fin 2) (r : Fin 512) : EReal := least (dist (warped m c) (target m c) b r)

/-- What grid point `t` adds to the sum of smallest distances. -/
def adds (t : Fin cfg2.N) : EReal :=
  (∑ r, rowMin m c (bat t) (row t r)) + ∑ n, colMin m c (bat t) n

theorem rowPart_apply (t : Fin cfg2.N) (i : S1x1.Idx) : rowPart (iblk2 (V3 m ρ) c 0 t) (iblk2 (V3 m ρ) c 1 t) i = ∑ r, rowMin m c (bat t) (row t r) := by
  refine (Body.total_minRow shapes (iblk2 (V3 m ρ) c 0 t) (iblk2 (V3 m ρ) c 1 t) summed1 i).trans ?_
  simp only [gap_eq]
  rfl

theorem colPart_apply (z : Vec Ideal S1x1x512 .f32) (i : S1x1.Idx) : colPart z i = ∑ n, z (ix3 0 0 n) :=
  Body.total_line crossed summedN z i

theorem sum_last (t : Fin cfg2.N) :
    ∑ n, ((outsAt2 (V3 m ρ) c t.val t.isLt).1 : Vec Ideal S1x1x512 .f32) (ix3 0 0 n) = ∑ n, colMin m c (bat t) n :=
  Finset.sum_congr rfl fun n _ => outs_last m ρ c t n

theorem add_at (a b : FVec Ideal S1x1 .f32) (i : S1x1.Idx) : addf a b i = a i + b i := rfl

theorem zero_apply (i : S1x1.Idx) : zero i = 0 := by
  show Ideal.ofBits .f32 0x00000000#32 = 0
  simp [Ideal.ofBits, Ideal.ieee]

theorem cham_first (t : Fin cfg2.N) (h0 : t.val % 2 = 0) : (outsAt2 (V3 m ρ) c t.val t.isLt).2.1
    = addf (addf zero (rowPart (iblk2 (V3 m ρ) c 0 t) (iblk2 (V3 m ρ) c 1 t))) (colPart (outsAt2 (V3 m ρ) c t.val t.isLt).1) := by
  rw [outs_first, outsAt2_A (V3 m ρ) c t h0]; dsimp only; rw [cham_A]

theorem cham_next (t : Fin cfg2.N) (h0 : ¬t.val % 2 = 0) : (outsAt2 (V3 m ρ) c t.val t.isLt).2.1
    = addf (addf (outsAt2 (V3 m ρ) c (t.val - 1) (Nat.lt_of_le_of_lt (Nat.sub_le _ _) t.isLt)).2.1 (rowPart (iblk2 (V3 m ρ) c 0 t) (iblk2 (V3 m ρ) c 1 t)))
        (colPart (outsAt2 (V3 m ρ) c t.val t.isLt).1) := by
  rw [outs_first, outsAt2_B (V3 m ρ) c t h0]; dsimp only; rw [cham_B]

/-- The running sum of smallest distances after the last grid point. -/
theorem cham_acc (t : Fin cfg2.N) (ht : t.val = 1) (i : S1x1.Idx) :
    ((outsAt2 (V3 m ρ) c t.val t.isLt).2.1 : Vec Ideal S1x1 .f32) i = ∑ t : Fin cfg2.N, adds m c t := by
  refine Grid.summed (T := cfg2.N) (adds m c) (fun t => ((outsAt2 (V3 m ρ) c t.val t.isLt).2.1 : Vec Ideal S1x1 .f32) i) (fun t h => ?_) (fun t h => ?_) t
    (by rw [ht]; rfl)
  · refine (congrFun (cham_first m ρ c t (by omega)) i).trans ?_
    rw [add_at, add_at, zero_apply, rowPart_apply, zero_add, colPart_apply, sum_last]
    rfl
  · have hl : t.val < 2 := t.isLt
    refine (congrFun (cham_next m ρ c t (by omega)) i).trans ?_
    rw [add_at, add_at, rowPart_apply, add_assoc, colPart_apply, sum_last]
    rfl

/-- Over both clouds, the smallest distances of rows and of columns. -/
theorem sum_adds : ∑ t : Fin cfg2.N, adds m c t = (∑ b, ∑ r, rowMin m c b r) + ∑ b, ∑ n, colMin m c b n := by
  unfold adds
  rw [Finset.sum_add_distrib]
  refine congrArg₂ _ (Grid.sum_grid (K := 1) (R := 512) rfl (rowMin m c))
    (Eq.trans ?_ (Grid.sum_last (K := 1) (by norm_num) fun b => ∑ n, colMin m c b n))
  exact Finset.sum_congr rfl fun t _ => (if_pos (Nat.mod_one _)).symm

/-- The interpolated curvature at point `r` less the moved one, coordinate `k`. -/
def off (b : Fin 2) (r : Fin 512) (k : Fin 3) : EReal :=
  mix (by norm_num) (dist (warped m c) (target m c) b r) (fun n => curv m ρ c (ix3 b n k)) - moved m ρ c (ix3 b r k)

section
variable (hM : ∀ b r n, dist (warped m c) (target m c) b r n < big)
include hM

theorem curvPart_apply (t : Fin cfg2.N) (i : S1x1.Idx) : curvPart (iblk2 (V3 m ρ) c 0 t) (iblk2 (V3 m ρ) c 1 t) (iblk2 (V3 m ρ) c 2 t) (iblk2 (V3 m ρ) c 3 t) i
    = ∑ r, ∑ k, off m ρ c (bat t) (row t r) k * off m ρ c (bat t) (row t r) k := by
  refine (Body.total_apart shapes crossed (iblk2 (V3 m ρ) c 0 t) (iblk2 (V3 m ρ) c 1 t) summed3 (iblk2 (V3 m ρ) c 2 t) (iblk2 (V3 m ρ) c 3 t)
    (fun r n => by rw [gap_eq]; exact hM _ _ _) (by norm_num) i).trans ?_
  simp only [gap_eq, blk2, blk3]
  rfl

omit hM in
theorem curv_first (t : Fin cfg2.N) (h0 : t.val % 2 = 0) :
    (outsAt2 (V3 m ρ) c t.val t.isLt).2.2 = addf zero (curvPart (iblk2 (V3 m ρ) c 0 t) (iblk2 (V3 m ρ) c 1 t) (iblk2 (V3 m ρ) c 2 t) (iblk2 (V3 m ρ) c 3 t)) := by
  rw [outsAt2_A (V3 m ρ) c t h0]; dsimp only; rw [curv_A]

omit hM in
theorem curv_next (t : Fin cfg2.N) (h0 : ¬t.val % 2 = 0) : (outsAt2 (V3 m ρ) c t.val t.isLt).2.2
    = addf (outsAt2 (V3 m ρ) c (t.val - 1) (Nat.lt_of_le_of_lt (Nat.sub_le _ _) t.isLt)).2.2 (curvPart (iblk2 (V3 m ρ) c 0 t) (iblk2 (V3 m ρ) c 1 t) (iblk2 (V3 m ρ) c 2 t) (iblk2 (V3 m ρ) c 3 t)) := by
  rw [outsAt2_B (V3 m ρ) c t h0]; dsimp only; rw [curv_B]

/-- The running sum of squares after the last grid point. -/
theorem curv_acc (t : Fin cfg2.N) (ht : t.val = 1) (i : S1x1.Idx) :
    ((outsAt2 (V3 m ρ) c t.val t.isLt).2.2 : Vec Ideal S1x1 .f32) i = ∑ b, ∑ r, ∑ k, off m ρ c b r k * off m ρ c b r k := by
  refine (Grid.summed (T := cfg2.N) (fun t => ∑ r, ∑ k, off m ρ c (bat t) (row t r) k * off m ρ c (bat t) (row t r) k)
    (fun t => ((outsAt2 (V3 m ρ) c t.val t.isLt).2.2 : Vec Ideal S1x1 .f32) i) (fun t h => ?_) (fun t h => ?_) t (by rw [ht]; rfl)).trans
      (Grid.sum_grid (K := 1) (R := 512) rfl fun b r => ∑ k, off m ρ c b r k * off m ρ c b r k)
  · refine (congrFun (curv_first m ρ c t (by omega)) i).trans ?_
    rw [add_at, zero_apply, curvPart_apply m ρ c hM, zero_add]
  · have hl : t.val < 2 := t.isLt
    refine (congrFun (curv_next m ρ c t (by omega)) i).trans ?_
    rw [add_at, curvPart_apply m ρ c hM]
end

/-- The two sums as arrays. -/
abbrev resultCham : S1x1.Idx → EReal := fun _ => (∑ b, ∑ r, rowMin m c b r) + ∑ b, ∑ n, colMin m c b n
abbrev resultCurv : S1x1.Idx → EReal := fun _ => ∑ b, ∑ r, ∑ k, off m ρ c b r k * off m ρ c b r k

theorem flushed5_eq (t : Fin cfg2.N) (hf : (cfg2.win 5).flush t = true) :
    (dat2 (V3 m ρ) c).flushed 5 t = ((cfg2.win 5).blk t).view.read (Elt Ideal) (resultCham m c) := by
  have ht : t.val = 1 := by have := (flush2_5 t).mp hf; have : t.val < 2 := t.isLt; omega
  show (cfg2.win 5).cut (grid2.coords t) ((dat2 (V3 m ρ) c).after 5 t) = _
  rw [after2_5]
  funext j
  exact (cham_acc m ρ c t ht j).trans (sum_adds m c)

theorem cover5 (i : S1x1.Idx) : ∃ t : Fin cfg2.N, (cfg2.win 5).flush t = true ∧ i ∈ ((cfg2.win 5).blk t).view.set := by
  have hT : 1 < cfg2.N := by decide
  refine ⟨⟨1, hT⟩, (flush2_5 _).mpr rfl, ?_⟩
  show i ∈ ((View.whole main_v6_1).slice (win2_5.rect ⟨1, hT⟩)).set
  rw [View.set_slice_whole, Rect.mem_set_unit]
  obtain ⟨-, -, -, -, -, ⟨e0, e1⟩, -⟩ := index0 ⟨1, hT⟩
  have h0 : (i 0 : Nat) < 1 := (i 0).isLt
  have h1 : (i 1 : Nat) < 1 := (i 1).isLt
  intro a
  match a with
  | ⟨0, _⟩ => show win2_5.index ⟨1, hT⟩ 0 * 1 ≤ (i 0 : Nat) ∧ (i 0 : Nat) < win2_5.index ⟨1, hT⟩ 0 * 1 + 1
              rw [e0]; omega
  | ⟨1, _⟩ => show win2_5.index ⟨1, hT⟩ 1 * 1 ≤ (i 1 : Nat) ∧ (i 1 : Nat) < win2_5.index ⟨1, hT⟩ 1 * 1 + 1
              rw [e1]; omega

theorem final5 : (dat2 (V3 m ρ) c).arrAt 5 cfg2.N = resultCham m c :=
  (dat2 (V3 m ρ) c).arrAt_eq_of_cover 5 (resultCham m c) (flushed5_eq m ρ c) cover5

theorem flushed6_eq (hM : ∀ b r n, dist (warped m c) (target m c) b r n < big) (t : Fin cfg2.N) (hf : (cfg2.win 6).flush t = true) :
    (dat2 (V3 m ρ) c).flushed 6 t = ((cfg2.win 6).blk t).view.read (Elt Ideal) (resultCurv m ρ c) := by
  have ht : t.val = 1 := by have := (flush2_6 t).mp hf; have : t.val < 2 := t.isLt; omega
  show (cfg2.win 6).cut (grid2.coords t) ((dat2 (V3 m ρ) c).after 6 t) = _
  rw [after2_6]
  funext j
  exact curv_acc m ρ c hM t ht j

theorem cover6 (i : S1x1.Idx) : ∃ t : Fin cfg2.N, (cfg2.win 6).flush t = true ∧ i ∈ ((cfg2.win 6).blk t).view.set := by
  have hT : 1 < cfg2.N := by decide
  refine ⟨⟨1, hT⟩, (flush2_6 _).mpr rfl, ?_⟩
  show i ∈ ((View.whole main_v6_2).slice (win2_6.rect ⟨1, hT⟩)).set
  rw [View.set_slice_whole, Rect.mem_set_unit]
  obtain ⟨-, -, -, -, -, -, e0, e1⟩ := index0 ⟨1, hT⟩
  have h0 : (i 0 : Nat) < 1 := (i 0).isLt
  have h1 : (i 1 : Nat) < 1 := (i 1).isLt
  intro a
  match a with
  | ⟨0, _⟩ => show win2_6.index ⟨1, hT⟩ 0 * 1 ≤ (i 0 : Nat) ∧ (i 0 : Nat) < win2_6.index ⟨1, hT⟩ 0 * 1 + 1
              rw [e0]; omega
  | ⟨1, _⟩ => show win2_6.index ⟨1, hT⟩ 1 * 1 ≤ (i 1 : Nat) ∧ (i 1 : Nat) < win2_6.index ⟨1, hT⟩ 1 * 1 + 1
              rw [e1]; omega

theorem final6 (hM : ∀ b r n, dist (warped m c) (target m c) b r n < big) : (dat2 (V3 m ρ) c).arrAt 6 cfg2.N = resultCurv m ρ c :=
  (dat2 (V3 m ρ) c).arrAt_eq_of_cover 6 (resultCurv m ρ c) (flushed6_eq m ρ c hM) cover6

end Cert.FinalCross
-- ==== Proof.FinalTail.lean ====
/- What the host's lines after the three calls make of their sums: the loss. -/
module

public import proofs.«01_k».proof.Proof.FinalCurv
public import proofs.«01_k».proof.Proof.FinalSmooth
public import proofs.«01_k».proof.Proof.FinalCross
public import proofs.«01_k».proof.Proof.LossSum
public import Idealize.ShloMosaic.Lib.StableHlo.Run

@[expose] public section

noncomputable section

namespace Cert.FinalTail

open Idealize.ShloMosaic Idealize.ShloMosaic.TcCoe Idealize.SL.Sem
open Cert.FinalIdeal Cert.FinalIdeal.Gen

/-- Two of the host's additions and three products: one scale's parts together. -/
abbrev perScale (c s k : Vec Ideal S_ .f32) : FVec Ideal S_ .f32 :=
  addf (addf (mulf (constant S_ .f32 0x3F800000#32) c) (mulf (constant S_ .f32 0x3F800000#32) s)) (mulf (constant S_ .f32 0x3E99999A#32) k)

set_option maxRecDepth 8192 in
set_option maxHeartbeats 1600000 in
/-- The host's lines after the calls, of any contents. -/
theorem lines (V0 : Valuation τ sig (Elt Ideal)) : StableHlo.after hostOps3 V0 (Proc.devRef .tc main_v38)
    = (shapeCast S1 (addf (addf (addf (addf (constant S_ .f32 0x00000000#32)
        (mulf (constant S_ .f32 0x3C23D70A#32) (perScale (V0 (Proc.devRef .tc main_arg3)) (V0 (Proc.devRef .tc main_arg6)) (V0 (Proc.devRef .tc main_arg9)))))
        (mulf (constant S_ .f32 0x3CA3D70A#32) (perScale (V0 (Proc.devRef .tc main_arg4)) (V0 (Proc.devRef .tc main_arg7)) (V0 (Proc.devRef .tc main_arg10)))))
        (mulf (constant S_ .f32 0x3D23D70A#32) (perScale (V0 (Proc.devRef .tc main_arg5)) (V0 (Proc.devRef .tc main_arg8)) (V0 (Proc.devRef .tc main_arg11)))))
        (mulf (constant S_ .f32 0x3DA3D70A#32) (perScale (shapeCast S_ (V0 (Proc.devRef .tc main_v6_1)) shapeCasts_S1x1_S_)
          (shapeCast S_ (V0 (Proc.devRef .tc main_v5_0)) shapeCasts_S1x1_S_) (shapeCast S_ (V0 (Proc.devRef .tc main_v6_2)) shapeCasts_S1x1_S_))))
        shapeCasts_S_S1 : FVec Ideal S1 .f32) := by
  after_results_simp
  rfl

end Cert.FinalTail
-- ==== Proof.FinalRef.lean ====
/- The reference of the last scale's three calls and the loss, read at an index. -/
module

public import proofs.«01_k».proof.Proof.LossSum
public import proofs.«01_k».proof.Proof.HostReads
public import proofs.«01_k».proof.Proof.Gen.FinalRefIdeal.Read

@[expose] public section

noncomputable section

namespace Cert.FinalRef

open Idealize.ShloMosaic Cert.Rank Cert.Near Cert.HostReads
open Cert.FinalRefIdeal Cert.FinalRefIdeal.Gen Cert.FinalRefIdeal.Read

theorem takeSides5 : TakeSides 2 512 512 5 3 where
  b0 := bcast_S_S2x512x5
  b1 := bcast_S2x512x5_S2x512x5x1_0_1_2
  b2 := bcast_S_S2x512x5x1
  b3 := bcast_S1_S1x1x1x1_3
  b4 := bcast_S1x1x1x1_S2x512x5x1_0_1_2_3
  red := reducesTo_S2x512x5x1_S2x512x5_d3
  pos := by decide
  b5 := by decide
  b6 := by decide
  wf := gather_S2x512x3_S2x512x5x1_S2x512x5x3_3_1_0_0_1_3_113.wf
  small := by norm_num

theorem takeSides9 : TakeSides 2 512 512 9 3 where
  b0 := bcast_S_S2x512x9
  b1 := bcast_S2x512x9_S2x512x9x1_0_1_2
  b2 := bcast_S_S2x512x9x1
  b3 := bcast_S1_S1x1x1x1_3
  b4 := bcast_S1x1x1x1_S2x512x9x1_0_1_2_3
  red := reducesTo_S2x512x9x1_S2x512x9_d3
  pos := by decide
  b5 := by decide
  b6 := by decide
  wf := gather_S2x512x3_S2x512x9x1_S2x512x9x3_3_1_0_0_1_3_113.wf
  small := by norm_num

theorem takeSides10 : TakeSides 2 512 512 10 3 where
  b0 := bcast_S_S2x512x10
  b1 := bcast_S2x512x10_S2x512x10x1_0_1_2
  b2 := bcast_S_S2x512x10x1
  b3 := bcast_S1_S1x1x1x1_3
  b4 := bcast_S1x1x1x1_S2x512x10x1_0_1_2_3
  red := reducesTo_S2x512x10x1_S2x512x10_d3
  pos := by decide
  b5 := by decide
  b6 := by decide
  wf := gather_S2x512x3_S2x512x10x1_S2x512x10x3_3_1_0_0_1_3_113.wf
  small := by norm_num

variable (x y f : Cloud 512)

abbrev warped : Cloud 512 := fun i => x i + f i

/-! ## The second cloud's curvature -/

theorem target_apply (b : Fin 2) (n : Fin 512) (c : Fin 3) : val_main_v3 (F := Ideal) y (ix3 b n c) = y (ix3 b c n) := by
  pointwise [val_main_v3]

theorem dist_target (b : Fin 2) (r n : Fin 512) : val_main_v16 (F := Ideal) y (ix3 b r n) = dist y y b r n := by
  pointwise [val_main_v16, val_main_v15, val_main_v14, val_main_v13, val_main_v12, val_main_v11, val_main_v10, val_main_v9, val_main_v8, val_main_v7,
    val_main_v6, val_main_v5, val_main_v4, val_main_v3, val_main_cst_2, val_main_cst_3, val_main_cst_4]
  rw [cm2]
  rfl

theorem near_target (b : Fin 2) (r : Fin 512) (t : Fin 10) (c : Fin 3) :
    val_main_v19 (F := Ideal) y (ix4 b r t c) = y (ix3 b c (nth (dist y y b r) (Fin.castLE (by norm_num) t))) := by
  have hi : val_main_indices (F := Ideal) y (ix3 b r t) = BitVec.ofNat 32 (nth (dist y y b r) (Fin.castLE (by norm_num) t)).val := by
    refine (topK_indices (by norm_num) (val_main_v16 (F := Ideal) y) sliceFits_S2x512x512_S2x512x10 b r t).trans ?_
    rw [show (fun j => val_main_v16 (F := Ideal) y (ix3 b r j)) = dist y y b r from funext fun j => dist_target y b r j]
  rw [show val_main_v19 (F := Ideal) y = take takeSides10 (val_main_v3 (F := Ideal) y) (val_main_indices (F := Ideal) y) from rfl,
    take_apply takeSides10 _ _ b r t c _ hi, target_apply]

theorem curv_apply (b : Fin 2) (r : Fin 512) (c : Fin 3) :
    val_main_v25 (F := Ideal) y (ix3 b r c) = curvListed (by norm_num) y y b r c := by
  pointwise [val_main_v25, val_main_v24, val_main_cst_6, val_main_v23, val_main_cst_5, val_main_v22, val_main_v21, val_main_v20]
  simp only [near_target, target_apply]
  rw [c9]
  rfl

/-! ## The moved curvature -/

theorem dist_cloud (b : Fin 2) (r n : Fin 512) : val_main_v58 (F := Ideal) x (ix3 b r n) = dist x x b r n := by
  pointwise [val_main_v58, val_main_v57, val_main_v56, val_main_v55, val_main_v54, val_main_v53, val_main_v52, val_main_v51, val_main_v50, val_main_v49,
    val_main_v48, val_main_v47, val_main_v46, val_main_v45, val_main_cst_12, val_main_cst_13, val_main_cst_14]
  rw [cm2]
  rfl

theorem warped_apply (b : Fin 2) (n : Fin 512) (c : Fin 3) : val_main_v44 (F := Ideal) x f (ix3 b n c) = x (ix3 b c n) + f (ix3 b c n) := by
  pointwise [val_main_v44, val_main_v26]

theorem near_warped (b : Fin 2) (r : Fin 512) (t : Fin 10) (c : Fin 3) :
    val_main_v61 (F := Ideal) x f (ix4 b r t c) = x (ix3 b c (nth (dist x x b r) (Fin.castLE (by norm_num) t)))
      + f (ix3 b c (nth (dist x x b r) (Fin.castLE (by norm_num) t))) := by
  have hi : val_main_indices_16 (F := Ideal) x (ix3 b r t) = BitVec.ofNat 32 (nth (dist x x b r) (Fin.castLE (by norm_num) t)).val := by
    refine (topK_indices (by norm_num) (val_main_v58 (F := Ideal) x) sliceFits_S2x512x512_S2x512x10 b r t).trans ?_
    rw [show (fun j => val_main_v58 (F := Ideal) x (ix3 b r j)) = dist x x b r from funext fun j => dist_cloud x b r j]
  rw [show val_main_v61 (F := Ideal) x f = take takeSides10 (val_main_v44 (F := Ideal) x f) (val_main_indices_16 (F := Ideal) x) from rfl,
    take_apply takeSides10 _ _ b r t c _ hi, warped_apply]

theorem moved_apply (b : Fin 2) (r : Fin 512) (c : Fin 3) :
    val_main_v67 (F := Ideal) x f (ix3 b r c) = curvListed (by norm_num) x (warped x f) b r c := by
  pointwise [val_main_v67, val_main_v66, val_main_cst_18, val_main_v65, val_main_cst_17, val_main_v64, val_main_v63, val_main_v62]
  simp only [near_warped, warped_apply]
  rw [c9]
  rfl

/-! ## The smoothness -/

theorem dist_flow (b : Fin 2) (r n : Fin 512) : val_main_v123 (F := Ideal) x (ix3 b r n) = dist x x b r n := by
  pointwise [val_main_v123, val_main_v122, val_main_v121, val_main_v120, val_main_v119, val_main_v118, val_main_v117, val_main_v116, val_main_v115,
    val_main_v114, val_main_v113, val_main_v112, val_main_v111, val_main_v109, val_main_cst_36, val_main_cst_37, val_main_cst_38]
  rw [cm2]
  rfl

theorem flow_apply (b : Fin 2) (n : Fin 512) (c : Fin 3) : val_main_v110 (F := Ideal) f (ix3 b n c) = f (ix3 b c n) := by
  pointwise [val_main_v110]

theorem near_flow (b : Fin 2) (r : Fin 512) (t : Fin 9) (c : Fin 3) :
    val_main_v126 (F := Ideal) x f (ix4 b r t c) = f (ix3 b c (nth (dist x x b r) (Fin.castLE (by norm_num) t))) := by
  have hi : val_main_indices_40 (F := Ideal) x (ix3 b r t) = BitVec.ofNat 32 (nth (dist x x b r) (Fin.castLE (by norm_num) t)).val := by
    refine (topK_indices (by norm_num) (val_main_v123 (F := Ideal) x) sliceFits_S2x512x512_S2x512x9 b r t).trans ?_
    rw [show (fun j => val_main_v123 (F := Ideal) x (ix3 b r j)) = dist x x b r from funext fun j => dist_flow x b r j]
  rw [show val_main_v126 (F := Ideal) x f = take takeSides9 (val_main_v110 (F := Ideal) f) (val_main_indices_40 (F := Ideal) x) from rfl,
    take_apply takeSides9 _ _ b r t c _ hi, flow_apply]

theorem square_apply (b : Fin 2) (r : Fin 512) (t : Fin 9) :
    val_main_call4_v1 (F := Ideal) x f (ix3 b r t) = ∑ c : Fin 3, (f (ix3 b c (nth (dist x x b r) (Fin.castLE (by norm_num) t))) - f (ix3 b c r))
      * (f (ix3 b c (nth (dist x x b r) (Fin.castLE (by norm_num) t))) - f (ix3 b c r)) := by
  pointwise [val_main_call4_v1, val_main_call4_cst, val_main_call4_v0, val_main_v129, val_main_v128, val_main_v127]
  simp only [near_flow, flow_apply]

theorem turn_apply (b : Fin 2) (r : Fin 512) :
    val_main_v133 (F := Ideal) x f (ix2 b r) = Ideal.div (turnListed (by norm_num) x f b r) (8 : ℝ) := by
  have e : ∀ t : Fin 9, val_main_v130 (F := Ideal) x f (ix3 b r t) = Ideal.sqrt (val_main_call4_v1 (F := Ideal) x f (ix3 b r t)) := fun _ => rfl
  pointwise [val_main_v133, val_main_v132, val_main_cst_42, val_main_v131, val_main_cst_41]
  simp only [e, square_apply]
  rw [c8]
  rfl

theorem smooth_apply (i : S_.Idx) :
    val_main_v135 (F := Ideal) x f i = ∑ b, ∑ n, Ideal.div (turnListed (by norm_num) x f b n) (8 : ℝ) := by
  simp only [← turn_apply]
  pointwise [val_main_v135, val_main_cst_44, val_main_v134, val_main_cst_43]

/-! ## The distances between the clouds -/

theorem dist_first (b : Fin 2) (r n : Fin 512) : val_main_v41 (F := Ideal) x y f (ix3 b r n) = dist (warped x f) y b r n := by
  pointwise [val_main_v41, val_main_v40, val_main_v39, val_main_v38, val_main_v37, val_main_v36, val_main_v35, val_main_v34, val_main_v33, val_main_v32,
    val_main_v31, val_main_v30, val_main_v29, val_main_v28, val_main_v27, val_main_v26, val_main_cst_7, val_main_cst_8, val_main_cst_9]
  rw [cm2]
  rfl

theorem dist_second (b : Fin 2) (r n : Fin 512) : val_main_v82 (F := Ideal) x y f (ix3 b r n) = dist (warped x f) y b r n := by
  pointwise [val_main_v82, val_main_v81, val_main_v80, val_main_v79, val_main_v78, val_main_v77, val_main_v76, val_main_v75, val_main_v74, val_main_v73,
    val_main_v72, val_main_v71, val_main_v70, val_main_v69, val_main_v68, val_main_v26, val_main_cst_19, val_main_cst_20, val_main_cst_21]
  rw [cm2]
  rfl

theorem top : Ideal.ofBits .f32 0x7F800000#32 = (⊤ : EReal) := by simp [Ideal.ofBits, Ideal.ieee]

theorem rowMin_apply (b : Fin 2) (r : Fin 512) : val_main_v42 (F := Ideal) x y f (ix2 b r) = least (dist (warped x f) y b r) := by
  have e : (fun n => val_main_v41 (F := Ideal) x y f (ix3 b r n)) = dist (warped x f) y b r := funext fun n => dist_first x y f b r n
  pointwise [val_main_v42, val_main_cst_10]
  unfold least
  rw [top, e]

theorem colMin_apply (b : Fin 2) (n : Fin 512) : val_main_v43 (F := Ideal) x y f (ix2 b n) = least fun r => dist (warped x f) y b r n := by
  have e : (fun r => val_main_v41 (F := Ideal) x y f (ix3 b r n)) = fun r => dist (warped x f) y b r n := funext fun r => dist_first x y f b r n
  pointwise [val_main_v43, val_main_cst_11]
  unfold least
  rw [top, e]

theorem rows_apply (i : S_.Idx) : val_main_v103 (F := Ideal) x y f i = ∑ b, ∑ r, val_main_v42 (F := Ideal) x y f (ix2 b r) := by
  pointwise [val_main_v103, val_main_v102, val_main_cst_30, val_main_cst_31]

theorem cols_apply (i : S_.Idx) : val_main_v106 (F := Ideal) x y f i = ∑ b, ∑ n, val_main_v43 (F := Ideal) x y f (ix2 b n) := by
  pointwise [val_main_v106, val_main_v105, val_main_cst_33, val_main_cst_34]

theorem weight_apply (b : Fin 2) (r : Fin 512) (t : Fin 5) :
    val_main_v89 (F := Ideal) x y f (ix3 b r t) = weight (dist (warped x f) y b r (nth (dist (warped x f) y b r) (Fin.castLE (by norm_num) t))) := by
  have hv := topK_values (by norm_num) (val_main_v82 (F := Ideal) x y f) sliceFits_S2x512x512_S2x512x5 b r t
  rw [show (fun j => val_main_v82 (F := Ideal) x y f (ix3 b r j)) = dist (warped x f) y b r from funext fun j => dist_second x y f b r j, dist_second] at hv
  have e : val_main_v89 (F := Ideal) x y f (ix3 b r t) = weight (-(val_main_values_22 (F := Ideal) x y f (ix3 b r t))) := by
    pointwise [val_main_v89, val_main_v88, val_main_v87, val_main_v86, val_main_v84, val_main_cst_24, val_main_cst_25]
    rfl
  rw [e]
  refine congrArg weight ((congrArg Neg.neg hv).trans (neg_neg _))

theorem norm_apply (b : Fin 2) (r : Fin 512) :
    val_main_v90 (F := Ideal) x y f (ix2 b r) = ∑ s : Fin 5, weight (dist (warped x f) y b r (nth (dist (warped x f) y b r) (Fin.castLE (by norm_num) s))) := by
  pointwise [val_main_v90, val_main_cst_26]
  simp only [weight_apply]

theorem share_apply (b : Fin 2) (r : Fin 512) (t : Fin 5) :
    val_main_v97 (F := Ideal) x y f (ix3 b r t)
      = Ideal.div (weight (dist (warped x f) y b r (nth (dist (warped x f) y b r) (Fin.castLE (by norm_num) t))))
        (∑ s : Fin 5, weight (dist (warped x f) y b r (nth (dist (warped x f) y b r) (Fin.castLE (by norm_num) s)))) := by
  rw [← norm_apply, ← weight_apply]
  have e : val_main_v95 (F := Ideal) x y f = val_main_v89 (F := Ideal) x y f := rfl
  pointwise [val_main_v97, val_main_v96, val_main_v91, e]

theorem near_apply (b : Fin 2) (r : Fin 512) (t : Fin 5) (c : Fin 3) :
    val_main_v85 (F := Ideal) x y f (ix4 b r t c)
      = val_main_v25 (F := Ideal) y (ix3 b (nth (dist (warped x f) y b r) (Fin.castLE (by norm_num) t)) c) := by
  have hi : val_main_indices_23 (F := Ideal) x y f (ix3 b r t) = BitVec.ofNat 32 (nth (dist (warped x f) y b r) (Fin.castLE (by norm_num) t)).val := by
    refine (topK_indices (by norm_num) (val_main_v82 (F := Ideal) x y f) sliceFits_S2x512x512_S2x512x5 b r t).trans ?_
    rw [show (fun j => val_main_v82 (F := Ideal) x y f (ix3 b r j)) = dist (warped x f) y b r from funext fun j => dist_second x y f b r j]
  rw [show val_main_v85 (F := Ideal) x y f = take takeSides5 (val_main_v25 (F := Ideal) y) (val_main_indices_23 (F := Ideal) x y f) from rfl,
    take_apply takeSides5 _ _ b r t c _ hi]

theorem portion_apply (b : Fin 2) (r : Fin 512) (t : Fin 5) (c : Fin 3) :
    val_main_v99 (F := Ideal) x y f (ix4 b r t c) = val_main_v97 (F := Ideal) x y f (ix3 b r t) := by
  pointwise [val_main_v99, val_main_v98]

/-- The interpolated curvature less the moved one. -/
theorem off_apply (b : Fin 2) (r : Fin 512) (c : Fin 3) :
    val_main_v137 (F := Ideal) x y f (ix3 b r c)
      = mix (by norm_num) (dist (warped x f) y b r) (fun n => curvListed (by norm_num) y y b n c) - curvListed (by norm_num) x (warped x f) b r c := by
  pointwise [val_main_v137, val_main_v101, val_main_v100, val_main_cst_29]
  simp only [portion_apply, share_apply, near_apply, curv_apply, moved_apply]
  rfl

theorem squares_apply (i : S_.Idx) : val_main_v141 (F := Ideal) x y f i
    = ∑ b, ∑ r, ∑ c : Fin 3, val_main_v137 (F := Ideal) x y f (ix3 b r c) * val_main_v137 (F := Ideal) x y f (ix3 b r c) := by
  pointwise [val_main_v141, val_main_v140, val_main_v139, val_main_v138, val_main_cst_46, val_main_cst_47, val_main_cst_48]

/-! ## The loss -/

/-- A single value is the same at its one index. -/
theorem single (x : S_.Idx → EReal) : x = fun _ => x ix0 := funext fun i => congrArg x (funext fun a => a.elim0)

theorem loss_apply (c0 c1 c2 s0 s1 s2 k0 k1 k2 : EReal) (i : S1.Idx) :
    val_main_v195 (F := Ideal) x y f (fun _ => c0) (fun _ => c1) (fun _ => c2) (fun _ => s0) (fun _ => s1) (fun _ => s2)
        (fun _ => k0) (fun _ => k1) (fun _ => k2) i
      = LossSum.byPart
          ![LossSum.half c0, LossSum.half c1, LossSum.half c2, LossSum.half (val_main_v103 (F := Ideal) x y f ix0) + LossSum.half (val_main_v106 (F := Ideal) x y f ix0)]
          ![LossSum.half s0, LossSum.half s1, LossSum.half s2, LossSum.half (val_main_v135 (F := Ideal) x f ix0)]
          ![LossSum.half k0, LossSum.half k1, LossSum.half k2, LossSum.half (val_main_v141 (F := Ideal) x y f ix0)] := by
  have e1 : val_main_v180 (F := Ideal) x y f i = LossSum.a3 * (LossSum.half (val_main_v103 (F := Ideal) x y f ix0) + LossSum.half (val_main_v106 (F := Ideal) x y f ix0)) := by
    pointwise [val_main_v180, val_main_v179, val_main_v108, val_main_v107, val_main_v104, val_main_cst_68, val_main_cst_32, val_main_cst_35]
    rfl
  have e2 : val_main_v186 (F := Ideal) x y f i = LossSum.a3 * LossSum.half (val_main_v141 (F := Ideal) x y f ix0) := by
    pointwise [val_main_v186, val_main_v185, val_main_v142, val_main_cst_70, val_main_cst_49]
    rfl
  have e3 : val_main_v183 (F := Ideal) x f i = LossSum.a3 * LossSum.half (val_main_v135 (F := Ideal) x f ix0) := by
    pointwise [val_main_v183, val_main_v182, val_main_v136, val_main_cst_69, val_main_cst_45]
    rfl
  rw [val_main_v195_apply, val_main_v192_apply, val_main_v189_apply, val_main_v181_apply, val_main_v191_apply, val_main_v187_apply,
    val_main_v194_apply, val_main_v184_apply, e1, e2, e3]
  generalize val_main_v103 (F := Ideal) x y f ix0 = u1
  generalize val_main_v106 (F := Ideal) x y f ix0 = u2
  generalize val_main_v141 (F := Ideal) x y f ix0 = u3
  generalize val_main_v135 (F := Ideal) x f ix0 = u4
  rfl

end Cert.FinalRef
-- ==== Proof.FinalClaims.lean ====
/- The claims about the last scale's three calls and the loss. -/
module

public import proofs.«01_k».proof.Defs
public import proofs.«01_k».proof.Proof.Gen.Final.Frame
public import proofs.«01_k».proof.Proof.Gen.FinalRefIdeal.Run
public import proofs.«01_k».proof.Proof.Gen.Pre_bounded_final
public import proofs.«01_k».proof.Proof.FinalRun
public import proofs.«01_k».proof.Proof.FinalTail
public import proofs.«01_k».proof.Proof.FinalRef

@[expose] public section

noncomputable section

namespace Cert.FinalClaims

open Idealize.ShloMosaic Idealize.ShloMosaic.TcCoe Idealize.SL.Sem Cert.Near Cert.Rank Cert.HostReads

theorem frame_p : Cert.quiescent_Final := fun m ρ _ => Cert.Final.Gen.frame m ρ

theorem frame_pi : Cert.quiescent_FinalIdeal := fun m ρ _ => Cert.FinalIdeal.Gen.frame m ρ

theorem frame_pi_pre : Cert.quiescent_FinalIdeal_pre_bounded_final := fun m ρ _ => Cert.FinalIdeal.Gen.frame m ρ

theorem frame_ri : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem frame_ri_pre : Cert.quiescent_FinalRefIdeal_pre_bounded_final := fun m ρ _ => frame_ri m ρ trivial

theorem preserves : Cert.preserves_Final_FinalIdeal := trivial

section
open Cert.FinalIdeal Cert.FinalIdeal.Gen Cert.FinalEntry

variable (m : (ℓ : Loc nD τ sig) → Buf (Elt Ideal) ℓ) (ρ : Dev nD → PrngReg) (c : Dev nD)

/-- What the other scales' calls left, one value each: three distances, three smoothness sums, three curvature sums. -/
abbrev cham0 : EReal := (m ((c : Thread nD τ).loc main_arg3) : S_.Idx → EReal) ix0
abbrev cham1 : EReal := (m ((c : Thread nD τ).loc main_arg4) : S_.Idx → EReal) ix0
abbrev cham2 : EReal := (m ((c : Thread nD τ).loc main_arg5) : S_.Idx → EReal) ix0
abbrev smooth0 : EReal := (m ((c : Thread nD τ).loc main_arg6) : S_.Idx → EReal) ix0
abbrev smooth1 : EReal := (m ((c : Thread nD τ).loc main_arg7) : S_.Idx → EReal) ix0
abbrev smooth2 : EReal := (m ((c : Thread nD τ).loc main_arg8) : S_.Idx → EReal) ix0
abbrev curvl0 : EReal := (m ((c : Thread nD τ).loc main_arg9) : S_.Idx → EReal) ix0
abbrev curvl1 : EReal := (m ((c : Thread nD τ).loc main_arg10) : S_.Idx → EReal) ix0
abbrev curvl2 : EReal := (m ((c : Thread nD τ).loc main_arg11) : S_.Idx → EReal) ix0

/-- The smoothness sum, and the difference of curvatures at a point, of the nearest points listed in order. -/
abbrev smooth3 : EReal := ∑ b, ∑ n, Ideal.div (turnListed (by norm_num) (cloud m c) (flow m c) b n) (8 : ℝ)
abbrev off (b : Fin 2) (r : Fin 512) (k : Fin 3) : EReal :=
  mix (by norm_num) (dist (warped m c) (target m c) b r) (fun n => curvListed (by norm_num) (target m c) (target m c) b n k)
    - curvListed (by norm_num) (cloud m c) (warped m c) b r k

/-- The loss as the version adds it. -/
abbrev loss : S1.Idx → EReal := fun _ => LossSum.byScale
  ![cham0 m c, cham1 m c, cham2 m c, (∑ b, ∑ r, FinalCross.rowMin m c b r) + ∑ b, ∑ n, FinalCross.colMin m c b n]
  ![smooth0 m c, smooth1 m c, smooth2 m c, smooth3 m c]
  ![curvl0 m c, curvl1 m c, curvl2 m c, ∑ b, ∑ r, ∑ k, off m c b r k * off m c b r k]

/-- What the precondition says: coordinates are small. -/
theorem small (h : Cert.Pre_FinalIdeal_bounded_final m) (i) :
    Small (2 ^ 60) (cloud m c i) ∧ Small (2 ^ 60) (flow m c i) ∧ Small (2 ^ 60) (target m c i) :=
  have h2 := both (congrFun (h c) i)
  have h1 := both h2.1
  ⟨small_of_le h1.1, small_of_le h1.2, small_of_le h2.2⟩

section
variable (hs : ∀ i, Small (2 ^ 60) (cloud m c i) ∧ Small (2 ^ 60) (flow m c i) ∧ Small (2 ^ 60) (target m c i))
include hs

theorem real_flow (i) : ∃ u : ℝ, flow m c i = u := by obtain ⟨u, hu, -⟩ := (hs i).2.1; exact ⟨u, hu⟩
theorem real_target (i) : ∃ u : ℝ, target m c i = u := by obtain ⟨u, hu, -⟩ := (hs i).2.2; exact ⟨u, hu⟩
theorem real_warped (i) : ∃ u : ℝ, warped m c i = u := by obtain ⟨u, hu, -⟩ := (hs i).1.add (hs i).2.1; exact ⟨u, hu⟩

theorem far_cloud (b r n) : dist (cloud m c) (cloud m c) b r n < big :=
  sqd_lt _ _ (fun _ => (hs _).1.mono (by norm_num)) (fun _ => (hs _).1.mono (by norm_num))
theorem far_target (b r n) : dist (target m c) (target m c) b r n < big :=
  sqd_lt _ _ (fun _ => (hs _).2.2.mono (by norm_num)) (fun _ => (hs _).2.2.mono (by norm_num))
theorem far_warped (b r n) : dist (warped m c) (target m c) b r n < big :=
  sqd_lt _ _ (fun _ => ((hs _).1.add (hs _).2.1).mono (by norm_num)) (fun _ => (hs _).2.2.mono (by norm_num))

/-- The first call's array as the third finds it. -/
theorem curv_eq (b : Fin 2) (n : Fin 512) (k : Fin 3) :
    FinalCross.curv m ρ c (ix3 b n k) = curvListed (by norm_num) (target m c) (target m c) b n k := by
  have e : V3 m ρ c main_v4 = FinalCurv.result (target m c) :=
    (W3_of_ne m ρ c main_v4 (by decide)).trans ((W2_arr m ρ c 3).trans (FinalCurv.final m ρ c (far_target m c hs)))
  exact (congrFun e _).trans (curvMasked_eq (by norm_num) _ _ b n k fun n => real_target m c hs _)

/-- The second call's array as the third finds it. -/
theorem moved_eq (b : Fin 2) (n : Fin 512) (k : Fin 3) :
    FinalCross.moved m ρ c (ix3 b n k) = curvListed (by norm_num) (cloud m c) (warped m c) b n k := by
  have e : V3 m ρ c main_v5_1 = FinalSmooth.resultMoved (cloud m c) (warped m c) :=
    (W3_arr m ρ c 7).trans (FinalSmooth.final7 m ρ c (far_cloud m c hs))
  exact (congrFun e _).trans (curvMasked_eq (by norm_num) _ _ b n k fun n => real_warped m c hs _)

theorem off_eq (b : Fin 2) (r : Fin 512) (k : Fin 3) : FinalCross.off m ρ c b r k = off m c b r k := by
  unfold FinalCross.off
  rw [moved_eq m ρ c hs]
  simp only [curv_eq m ρ c hs]

/-- What the host finds in the calls' sums. -/
theorem left_cham : W4 m ρ c (Proc.devRef .tc main_v6_1) = fun _ : S1x1.Idx => (∑ b, ∑ r, FinalCross.rowMin m c b r) + ∑ b, ∑ n, FinalCross.colMin m c b n :=
  (W4_arr m ρ c 5).trans (FinalCross.final5 m ρ c)

theorem left_curv : W4 m ρ c (Proc.devRef .tc main_v6_2) = fun _ : S1x1.Idx => ∑ b, ∑ r, ∑ k, off m c b r k * off m c b r k := by
  refine ((W4_arr m ρ c 6).trans (FinalCross.final6 m ρ c (far_warped m c hs))).trans ?_
  funext i
  show ∑ b, ∑ r, ∑ k, FinalCross.off m ρ c b r k * FinalCross.off m ρ c b r k = _
  simp only [off_eq m ρ c hs]

theorem left_smooth : W4 m ρ c (Proc.devRef .tc main_v5_0) = fun _ : S1x1.Idx => smooth3 m c := by
  refine (W4_of_ne m ρ c main_v5_0 (by decide)).trans (((W3_arr m ρ c 6).trans (FinalSmooth.final6 m ρ c (far_cloud m c hs))).trans ?_)
  funext i
  exact FinalSmooth.sum_adds m c (real_flow m c hs)

theorem left : W5 m ρ c (Proc.devRef .tc main_v38) = loss m c := by
  refine (FinalTail.lines (W4 m ρ c)).trans ?_
  rw [left_cham m ρ c hs, left_curv m ρ c hs, left_smooth m ρ c hs,
    W4_args m ρ c main_arg3 (by decide), W4_args m ρ c main_arg4 (by decide), W4_args m ρ c main_arg5 (by decide), W4_args m ρ c main_arg6 (by decide),
    W4_args m ρ c main_arg7 (by decide), W4_args m ρ c main_arg8 (by decide), W4_args m ρ c main_arg9 (by decide), W4_args m ρ c main_arg10 (by decide),
    W4_args m ρ c main_arg11 (by decide)]
  rw [FinalRef.single (m ((c : Thread nD τ).loc main_arg3)), FinalRef.single (m ((c : Thread nD τ).loc main_arg4)), FinalRef.single (m ((c : Thread nD τ).loc main_arg5)),
    FinalRef.single (m ((c : Thread nD τ).loc main_arg6)), FinalRef.single (m ((c : Thread nD τ).loc main_arg7)), FinalRef.single (m ((c : Thread nD τ).loc main_arg8)),
    FinalRef.single (m ((c : Thread nD τ).loc main_arg9)), FinalRef.single (m ((c : Thread nD τ).loc main_arg10)), FinalRef.single (m ((c : Thread nD τ).loc main_arg11))]
  rfl
end

/-- The reference's order of adding gives the same loss. -/
theorem agree :
    Cert.FinalRefIdeal.Read.val_main_v195 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) = loss m c := by
  rw [FinalRef.single (m ((c : Thread nD τ).loc main_arg3)), FinalRef.single (m ((c : Thread nD τ).loc main_arg4)), FinalRef.single (m ((c : Thread nD τ).loc main_arg5)),
    FinalRef.single (m ((c : Thread nD τ).loc main_arg6)), FinalRef.single (m ((c : Thread nD τ).loc main_arg7)), FinalRef.single (m ((c : Thread nD τ).loc main_arg8)),
    FinalRef.single (m ((c : Thread nD τ).loc main_arg9)), FinalRef.single (m ((c : Thread nD τ).loc main_arg10)), FinalRef.single (m ((c : Thread nD τ).loc main_arg11))]
  funext i
  refine (FinalRef.loss_apply (cloud m c) (target m c) (flow m c) _ _ _ _ _ _ _ _ _ i).trans ?_
  rw [FinalRef.rows_apply, FinalRef.cols_apply, FinalRef.squares_apply, FinalRef.smooth_apply]
  simp only [FinalRef.rowMin_apply, FinalRef.colMin_apply, FinalRef.off_apply]
  exact (LossSum.agree _ _ _ _ _ _ _ _ _ _ _ _ _).symm

end

theorem algebraic : Cert.algebraic_FinalIdeal_FinalRefIdeal_pre_bounded_final := by
  intro m ρ m' ρ' hpre hagree
  refine ⟨fun c => loss m c, ?_, ?_⟩
  · exact (θ_run Cert.FinalIdeal.defs _ _).mono (fun _ h c => ⟨(h c).1.trans (left m ρ c (small m c hpre)), (h c).2⟩) (FinalRun.run m ρ)
  · refine (θ_run Cert.FinalRefIdeal.defs _ _).mono (fun _ h c => ⟨(h c).1.trans ?_, (h c).2⟩) (Cert.FinalRefIdeal.Value.run (F := Ideal) m' ρ')
    obtain ⟨a0, a1, a2, a3, a4, a5, a6, a7, a8, a9, a10, a11⟩ := hagree c
    exact (Cert.FinalRefIdeal.Read.val_main_v195_eq _).trans (Eq.trans (congr (congr (congr (congr (congr (congr (congr (congr (congr (congr (congr (congrArg (Cert.FinalRefIdeal.Read.val_main_v195 (F := Ideal)) a0) a1) a2) a3) a4) a5) a6) a7) a8) a9) a10) a11)
      (agree m c))

end Cert.FinalClaims
-- ==== Proof.lean ====
/- The certificate: the claims, each proved in its own module. -/
module

public import proofs.«01_k».proof.Defs
public import proofs.«01_k».proof.Proof.Gen.Curv.Frame
public import proofs.«01_k».proof.Proof.Gen.CurvIdeal.Value
public import proofs.«01_k».proof.Proof.Gen.CurvRefIdeal.Run
public import proofs.«01_k».proof.Proof.Gen.CurvRefIdeal.Read
public import proofs.«01_k».proof.Proof.CurvClaims
public import proofs.«01_k».proof.Proof.Gen.Smooth.Frame
public import proofs.«01_k».proof.Proof.Gen.SmoothIdeal.Value
public import proofs.«01_k».proof.Proof.Gen.SmoothRefIdeal.Run
public import proofs.«01_k».proof.Proof.Gen.SmoothRefIdeal.Read
public import proofs.«01_k».proof.Proof.SmoothClaims
public import proofs.«01_k».proof.Proof.Gen.Cross.Frame
public import proofs.«01_k».proof.Proof.Gen.CrossIdeal.Value
public import proofs.«01_k».proof.Proof.Gen.CrossRefIdeal.Run
public import proofs.«01_k».proof.Proof.Gen.CrossRefIdeal.Read
public import proofs.«01_k».proof.Proof.CrossClaims
public import proofs.«01_k».proof.Proof.Gen.Pre_bounded
public import proofs.«01_k».proof.Proof.Gen.Pre_bounded2
public import proofs.«01_k».proof.Proof.Gen.Pre_bounded3
public import proofs.«01_k».proof.Proof.Gen.Curv2048.Frame
public import proofs.«01_k».proof.Proof.Gen.Curv2048Ideal.Value
public import proofs.«01_k».proof.Proof.Gen.Curv2048RefIdeal.Run
public import proofs.«01_k».proof.Proof.Gen.Curv2048RefIdeal.Read
public import proofs.«01_k».proof.Proof.Curv2048Claims
public import proofs.«01_k».proof.Proof.Gen.Smooth2048.Frame
public import proofs.«01_k».proof.Proof.Gen.Smooth2048Ideal.Value
public import proofs.«01_k».proof.Proof.Gen.Smooth2048RefIdeal.Run
public import proofs.«01_k».proof.Proof.Gen.Smooth2048RefIdeal.Read
public import proofs.«01_k».proof.Proof.Smooth2048Claims
public import proofs.«01_k».proof.Proof.Gen.Cross2048.Frame
public import proofs.«01_k».proof.Proof.Gen.Cross2048Ideal.Value
public import proofs.«01_k».proof.Proof.Gen.Cross2048RefIdeal.Run
public import proofs.«01_k».proof.Proof.Gen.Cross2048RefIdeal.Read
public import proofs.«01_k».proof.Proof.Cross2048Claims
public import proofs.«01_k».proof.Proof.Gen.Pre_bounded_2048
public import proofs.«01_k».proof.Proof.Gen.Pre_bounded2_2048
public import proofs.«01_k».proof.Proof.Gen.Pre_bounded3_2048
public import proofs.«01_k».proof.Proof.Gen.Curv1024.Frame
public import proofs.«01_k».proof.Proof.Gen.Curv1024Ideal.Value
public import proofs.«01_k».proof.Proof.Gen.Curv1024RefIdeal.Run
public import proofs.«01_k».proof.Proof.Gen.Curv1024RefIdeal.Read
public import proofs.«01_k».proof.Proof.Curv1024Claims
public import proofs.«01_k».proof.Proof.Gen.Smooth1024.Frame
public import proofs.«01_k».proof.Proof.Gen.Smooth1024Ideal.Value
public import proofs.«01_k».proof.Proof.Gen.Smooth1024RefIdeal.Run
public import proofs.«01_k».proof.Proof.Gen.Smooth1024RefIdeal.Read
public import proofs.«01_k».proof.Proof.Smooth1024Claims
public import proofs.«01_k».proof.Proof.Gen.Cross1024.Frame
public import proofs.«01_k».proof.Proof.Gen.Cross1024Ideal.Value
public import proofs.«01_k».proof.Proof.Gen.Cross1024RefIdeal.Run
public import proofs.«01_k».proof.Proof.Gen.Cross1024RefIdeal.Read
public import proofs.«01_k».proof.Proof.Cross1024Claims
public import proofs.«01_k».proof.Proof.Gen.Pre_bounded_1024
public import proofs.«01_k».proof.Proof.Gen.Pre_bounded2_1024
public import proofs.«01_k».proof.Proof.Gen.Pre_bounded3_1024
public import proofs.«01_k».proof.Proof.Gen.Curv512.Frame
public import proofs.«01_k».proof.Proof.Gen.Curv512Ideal.Value
public import proofs.«01_k».proof.Proof.Gen.Curv512RefIdeal.Run
public import proofs.«01_k».proof.Proof.Gen.Curv512RefIdeal.Read
public import proofs.«01_k».proof.Proof.Curv512Claims
public import proofs.«01_k».proof.Proof.Gen.Smooth512.Frame
public import proofs.«01_k».proof.Proof.Gen.Smooth512Ideal.Value
public import proofs.«01_k».proof.Proof.Gen.Smooth512RefIdeal.Run
public import proofs.«01_k».proof.Proof.Gen.Smooth512RefIdeal.Read
public import proofs.«01_k».proof.Proof.Smooth512Claims
public import proofs.«01_k».proof.Proof.Gen.Cross512.Frame
public import proofs.«01_k».proof.Proof.Gen.Cross512Ideal.Value
public import proofs.«01_k».proof.Proof.Gen.Cross512RefIdeal.Run
public import proofs.«01_k».proof.Proof.Gen.Cross512RefIdeal.Read
public import proofs.«01_k».proof.Proof.Cross512Claims
public import proofs.«01_k».proof.Proof.Gen.Pre_bounded_512
public import proofs.«01_k».proof.Proof.Gen.Pre_bounded2_512
public import proofs.«01_k».proof.Proof.Gen.Pre_bounded3_512
public import proofs.«01_k».proof.Proof.Gen.Last.Frame
public import proofs.«01_k».proof.Proof.Gen.LastIdeal.Frame
public import proofs.«01_k».proof.Proof.Gen.LastRefIdeal.Run
public import proofs.«01_k».proof.Proof.Gen.LastRefIdeal.Read
public import proofs.«01_k».proof.Proof.LastClaims
public import proofs.«01_k».proof.Proof.Gen.Pre_bounded_last
public import proofs.«01_k».proof.Proof.Gen.Final.Frame
public import proofs.«01_k».proof.Proof.Gen.FinalIdeal.Frame
public import proofs.«01_k».proof.Proof.Gen.FinalRefIdeal.Run
public import proofs.«01_k».proof.Proof.Gen.FinalRefIdeal.Read
public import proofs.«01_k».proof.Proof.FinalClaims
public import proofs.«01_k».proof.Proof.Gen.Pre_bounded_final

@[expose] public section

noncomputable section

namespace Cert.Proof

theorem claim : Cert.Claim := ⟨Cert.Curv.Gen.facts, Cert.CurvIdeal.Gen.facts, Cert.CurvRefIdeal.Gen.facts, Cert.Smooth.Gen.facts,
  Cert.SmoothIdeal.Gen.facts, Cert.SmoothRefIdeal.Gen.facts, Cert.Cross.Gen.facts, Cert.CrossIdeal.Gen.facts,
  Cert.CrossRefIdeal.Gen.facts, Cert.Curv2048.Gen.facts, Cert.Curv2048Ideal.Gen.facts, Cert.Curv2048RefIdeal.Gen.facts,
  Cert.Smooth2048.Gen.facts, Cert.Smooth2048Ideal.Gen.facts, Cert.Smooth2048RefIdeal.Gen.facts, Cert.Cross2048.Gen.facts,
  Cert.Cross2048Ideal.Gen.facts, Cert.Cross2048RefIdeal.Gen.facts, Cert.Curv1024.Gen.facts, Cert.Curv1024Ideal.Gen.facts,
  Cert.Curv1024RefIdeal.Gen.facts, Cert.Smooth1024.Gen.facts, Cert.Smooth1024Ideal.Gen.facts, Cert.Smooth1024RefIdeal.Gen.facts,
  Cert.Cross1024.Gen.facts, Cert.Cross1024Ideal.Gen.facts, Cert.Cross1024RefIdeal.Gen.facts, Cert.Curv512.Gen.facts,
  Cert.Curv512Ideal.Gen.facts, Cert.Curv512RefIdeal.Gen.facts, Cert.Smooth512.Gen.facts, Cert.Smooth512Ideal.Gen.facts,
  Cert.Smooth512RefIdeal.Gen.facts, Cert.Cross512.Gen.facts, Cert.Cross512Ideal.Gen.facts, Cert.Cross512RefIdeal.Gen.facts,
  Cert.Last.Gen.facts, Cert.LastIdeal.Gen.facts, Cert.LastRefIdeal.Gen.facts, Cert.Final.Gen.facts,
  Cert.FinalIdeal.Gen.facts, Cert.FinalRefIdeal.Gen.facts, Cert.Pre_bounded.Gen.facts, Cert.Pre_bounded2.Gen.facts,
  Cert.Pre_bounded3.Gen.facts, Cert.Pre_bounded_2048.Gen.facts, Cert.Pre_bounded2_2048.Gen.facts, Cert.Pre_bounded3_2048.Gen.facts,
  Cert.Pre_bounded_1024.Gen.facts, Cert.Pre_bounded2_1024.Gen.facts, Cert.Pre_bounded3_1024.Gen.facts, Cert.Pre_bounded_512.Gen.facts,
  Cert.Pre_bounded2_512.Gen.facts, Cert.Pre_bounded3_512.Gen.facts, Cert.Pre_bounded_last.Gen.facts, Cert.Pre_bounded_final.Gen.facts,
  Cert.CurvClaims.frame_p, Cert.CurvClaims.frame_pi, Cert.CurvClaims.frame_pi_pre, Cert.CurvClaims.frame_ri,
  Cert.CurvClaims.frame_ri_pre, Cert.SmoothClaims.frame_p, Cert.SmoothClaims.frame_pi, Cert.SmoothClaims.frame_pi_pre,
  Cert.SmoothClaims.frame_ri, Cert.SmoothClaims.frame_ri_pre, Cert.CrossClaims.frame_p, Cert.CrossClaims.frame_pi,
  Cert.CrossClaims.frame_pi_pre, Cert.CrossClaims.frame_ri, Cert.CrossClaims.frame_ri_pre, Cert.Curv2048Claims.frame_p,
  Cert.Curv2048Claims.frame_pi, Cert.Curv2048Claims.frame_pi_pre, Cert.Curv2048Claims.frame_ri, Cert.Curv2048Claims.frame_ri_pre,
  Cert.Smooth2048Claims.frame_p, Cert.Smooth2048Claims.frame_pi, Cert.Smooth2048Claims.frame_pi_pre, Cert.Smooth2048Claims.frame_ri,
  Cert.Smooth2048Claims.frame_ri_pre, Cert.Cross2048Claims.frame_p, Cert.Cross2048Claims.frame_pi, Cert.Cross2048Claims.frame_pi_pre,
  Cert.Cross2048Claims.frame_ri, Cert.Cross2048Claims.frame_ri_pre, Cert.Curv1024Claims.frame_p, Cert.Curv1024Claims.frame_pi,
  Cert.Curv1024Claims.frame_pi_pre, Cert.Curv1024Claims.frame_ri, Cert.Curv1024Claims.frame_ri_pre, Cert.Smooth1024Claims.frame_p,
  Cert.Smooth1024Claims.frame_pi, Cert.Smooth1024Claims.frame_pi_pre, Cert.Smooth1024Claims.frame_ri, Cert.Smooth1024Claims.frame_ri_pre,
  Cert.Cross1024Claims.frame_p, Cert.Cross1024Claims.frame_pi, Cert.Cross1024Claims.frame_pi_pre, Cert.Cross1024Claims.frame_ri,
  Cert.Cross1024Claims.frame_ri_pre, Cert.Curv512Claims.frame_p, Cert.Curv512Claims.frame_pi, Cert.Curv512Claims.frame_pi_pre,
  Cert.Curv512Claims.frame_ri, Cert.Curv512Claims.frame_ri_pre, Cert.Smooth512Claims.frame_p, Cert.Smooth512Claims.frame_pi,
  Cert.Smooth512Claims.frame_pi_pre, Cert.Smooth512Claims.frame_ri, Cert.Smooth512Claims.frame_ri_pre, Cert.Cross512Claims.frame_p,
  Cert.Cross512Claims.frame_pi, Cert.Cross512Claims.frame_pi_pre, Cert.Cross512Claims.frame_ri, Cert.Cross512Claims.frame_ri_pre,
  Cert.LastClaims.frame_p, Cert.LastClaims.frame_pi, Cert.LastClaims.frame_pi_pre, Cert.LastClaims.frame_ri,
  Cert.LastClaims.frame_ri_pre, Cert.FinalClaims.frame_p, Cert.FinalClaims.frame_pi, Cert.FinalClaims.frame_pi_pre,
  Cert.FinalClaims.frame_ri, Cert.FinalClaims.frame_ri_pre, Cert.CurvClaims.preserves, Cert.CurvClaims.algebraic,
  Cert.SmoothClaims.preserves, Cert.SmoothClaims.algebraic, Cert.CrossClaims.preserves, Cert.CrossClaims.algebraic,
  Cert.Curv2048Claims.preserves, Cert.Curv2048Claims.algebraic, Cert.Smooth2048Claims.preserves, Cert.Smooth2048Claims.algebraic,
  Cert.Cross2048Claims.preserves, Cert.Cross2048Claims.algebraic, Cert.Curv1024Claims.preserves, Cert.Curv1024Claims.algebraic,
  Cert.Smooth1024Claims.preserves, Cert.Smooth1024Claims.algebraic, Cert.Cross1024Claims.preserves, Cert.Cross1024Claims.algebraic,
  Cert.Curv512Claims.preserves, Cert.Curv512Claims.algebraic, Cert.Smooth512Claims.preserves, Cert.Smooth512Claims.algebraic,
  Cert.Cross512Claims.preserves, Cert.Cross512Claims.algebraic, Cert.LastClaims.preserves, Cert.LastClaims.algebraic,
  Cert.FinalClaims.preserves, Cert.FinalClaims.algebraic⟩

end Cert.Proof

end
